-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_dzs [hPre_finite_dzs : Cert.Pre_finite_dzs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_dzs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_dzs [hPre_finite_dzs : Cert.Pre_finite_dzs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_dzs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.2 = (fun _ => 1#1)

def Pre_S5Post (m : (ℓ : Loc Cert.S5Post.nD Cert.S5Post.τ Cert.S5Post.sig) → Buf (Elt Bits) ℓ) : Prop :=
  True

def Pre_S5PostIdeal (m : (ℓ : Loc Cert.S5PostIdeal.nD Cert.S5PostIdeal.τ Cert.S5PostIdeal.sig) → Buf (Elt Ideal) ℓ) : Prop :=
  True

def Pre_S5PostIdeal_finite_s5post [hPre_finite_s5post : Cert.Pre_finite_s5post.Facts] (m : (ℓ : Loc Cert.S5PostIdeal.nD Cert.S5PostIdeal.τ Cert.S5PostIdeal.sig) → Buf (Elt Ideal) ℓ) : Prop :=
  ∀ c : Dev Cert.S5PostIdeal.nD,
    (Cert.Pre_finite_s5post.fn (F := Ideal) (m ((c.tc : Thread Cert.S5PostIdeal.nD Cert.S5PostIdeal.τ).loc Cert.S5PostIdeal.main_arg0)) (m ((c.tc : Thread Cert.S5PostIdeal.nD Cert.S5PostIdeal.τ).loc Cert.S5PostIdeal.main_arg1)) (m ((c.tc : Thread Cert.S5PostIdeal.nD Cert.S5PostIdeal.τ).loc Cert.S5PostIdeal.main_arg2)) (m ((c.tc : Thread Cert.S5PostIdeal.nD Cert.S5PostIdeal.τ).loc Cert.S5PostIdeal.main_arg3)) (m ((c.tc : Thread Cert.S5PostIdeal.nD Cert.S5PostIdeal.τ).loc Cert.S5PostIdeal.main_arg4))).1 = (fun _ => 1#1)
    ∧ (Cert.Pre_finite_s5post.fn (F := Ideal) (m ((c.tc : Thread Cert.S5PostIdeal.nD Cert.S5PostIdeal.τ).loc Cert.S5PostIdeal.main_arg0)) (m ((c.tc : Thread Cert.S5PostIdeal.nD Cert.S5PostIdeal.τ).loc Cert.S5PostIdeal.main_arg1)) (m ((c.tc : Thread Cert.S5PostIdeal.nD Cert.S5PostIdeal.τ).loc Cert.S5PostIdeal.main_arg2)) (m ((c.tc : Thread Cert.S5PostIdeal.nD Cert.S5PostIdeal.τ).loc Cert.S5PostIdeal.main_arg3)) (m ((c.tc : Thread Cert.S5PostIdeal.nD Cert.S5PostIdeal.τ).loc Cert.S5PostIdeal.main_arg4))).2.1 = (fun _ => 1#1)
    ∧ (Cert.Pre_finite_s5post.fn (F := Ideal) (m ((c.tc : Thread Cert.S5PostIdeal.nD Cert.S5PostIdeal.τ).loc Cert.S5PostIdeal.main_arg0)) (m ((c.tc : Thread Cert.S5PostIdeal.nD Cert.S5PostIdeal.τ).loc Cert.S5PostIdeal.main_arg1)) (m ((c.tc : Thread Cert.S5PostIdeal.nD Cert.S5PostIdeal.τ).loc Cert.S5PostIdeal.main_arg2)) (m ((c.tc : Thread Cert.S5PostIdeal.nD Cert.S5PostIdeal.τ).loc Cert.S5PostIdeal.main_arg3)) (m ((c.tc : Thread Cert.S5PostIdeal.nD Cert.S5PostIdeal.τ).loc Cert.S5PostIdeal.main_arg4))).2.2.1 = (fun _ => 1#1)
    ∧ (Cert.Pre_finite_s5post.fn (F := Ideal) (m ((c.tc : Thread Cert.S5PostIdeal.nD Cert.S5PostIdeal.τ).loc Cert.S5PostIdeal.main_arg0)) (m ((c.tc : Thread Cert.S5PostIdeal.nD Cert.S5PostIdeal.τ).loc Cert.S5PostIdeal.main_arg1)) (m ((c.tc : Thread Cert.S5PostIdeal.nD Cert.S5PostIdeal.τ).loc Cert.S5PostIdeal.main_arg2)) (m ((c.tc : Thread Cert.S5PostIdeal.nD Cert.S5PostIdeal.τ).loc Cert.S5PostIdeal.main_arg3)) (m ((c.tc : Thread Cert.S5PostIdeal.nD Cert.S5PostIdeal.τ).loc Cert.S5PostIdeal.main_arg4))).2.2.2.1 = (fun _ => 1#1)
    ∧ (Cert.Pre_finite_s5post.fn (F := Ideal) (m ((c.tc : Thread Cert.S5PostIdeal.nD Cert.S5PostIdeal.τ).loc Cert.S5PostIdeal.main_arg0)) (m ((c.tc : Thread Cert.S5PostIdeal.nD Cert.S5PostIdeal.τ).loc Cert.S5PostIdeal.main_arg1)) (m ((c.tc : Thread Cert.S5PostIdeal.nD Cert.S5PostIdeal.τ).loc Cert.S5PostIdeal.main_arg2)) (m ((c.tc : Thread Cert.S5PostIdeal.nD Cert.S5PostIdeal.τ).loc Cert.S5PostIdeal.main_arg3)) (m ((c.tc : Thread Cert.S5PostIdeal.nD Cert.S5PostIdeal.τ).loc Cert.S5PostIdeal.main_arg4))).2.2.2.2 = (fun _ => 1#1)

def Pre_S5PostRefIdeal (m : (ℓ : Loc Cert.S5PostRefIdeal.nD Cert.S5PostRefIdeal.τ Cert.S5PostRefIdeal.sig) → Buf (Elt Ideal) ℓ) : Prop :=
  True

def Pre_S5PostRefIdeal_finite_s5post [hPre_finite_s5post : Cert.Pre_finite_s5post.Facts] (m : (ℓ : Loc Cert.S5PostRefIdeal.nD Cert.S5PostRefIdeal.τ Cert.S5PostRefIdeal.sig) → Buf (Elt Ideal) ℓ) : Prop :=
  ∀ c : Dev Cert.S5PostRefIdeal.nD,
    (Cert.Pre_finite_s5post.fn (F := Ideal) (m ((c.tc : Thread Cert.S5PostRefIdeal.nD Cert.S5PostRefIdeal.τ).loc Cert.S5PostRefIdeal.main_arg0)) (m ((c.tc : Thread Cert.S5PostRefIdeal.nD Cert.S5PostRefIdeal.τ).loc Cert.S5PostRefIdeal.main_arg1)) (m ((c.tc : Thread Cert.S5PostRefIdeal.nD Cert.S5PostRefIdeal.τ).loc Cert.S5PostRefIdeal.main_arg2)) (m ((c.tc : Thread Cert.S5PostRefIdeal.nD Cert.S5PostRefIdeal.τ).loc Cert.S5PostRefIdeal.main_arg3)) (m ((c.tc : Thread Cert.S5PostRefIdeal.nD Cert.S5PostRefIdeal.τ).loc Cert.S5PostRefIdeal.main_arg4))).1 = (fun _ => 1#1)
    ∧ (Cert.Pre_finite_s5post.fn (F := Ideal) (m ((c.tc : Thread Cert.S5PostRefIdeal.nD Cert.S5PostRefIdeal.τ).loc Cert.S5PostRefIdeal.main_arg0)) (m ((c.tc : Thread Cert.S5PostRefIdeal.nD Cert.S5PostRefIdeal.τ).loc Cert.S5PostRefIdeal.main_arg1)) (m ((c.tc : Thread Cert.S5PostRefIdeal.nD Cert.S5PostRefIdeal.τ).loc Cert.S5PostRefIdeal.main_arg2)) (m ((c.tc : Thread Cert.S5PostRefIdeal.nD Cert.S5PostRefIdeal.τ).loc Cert.S5PostRefIdeal.main_arg3)) (m ((c.tc : Thread Cert.S5PostRefIdeal.nD Cert.S5PostRefIdeal.τ).loc Cert.S5PostRefIdeal.main_arg4))).2.1 = (fun _ => 1#1)
    ∧ (Cert.Pre_finite_s5post.fn (F := Ideal) (m ((c.tc : Thread Cert.S5PostRefIdeal.nD Cert.S5PostRefIdeal.τ).loc Cert.S5PostRefIdeal.main_arg0)) (m ((c.tc : Thread Cert.S5PostRefIdeal.nD Cert.S5PostRefIdeal.τ).loc Cert.S5PostRefIdeal.main_arg1)) (m ((c.tc : Thread Cert.S5PostRefIdeal.nD Cert.S5PostRefIdeal.τ).loc Cert.S5PostRefIdeal.main_arg2)) (m ((c.tc : Thread Cert.S5PostRefIdeal.nD Cert.S5PostRefIdeal.τ).loc Cert.S5PostRefIdeal.main_arg3)) (m ((c.tc : Thread Cert.S5PostRefIdeal.nD Cert.S5PostRefIdeal.τ).loc Cert.S5PostRefIdeal.main_arg4))).2.2.1 = (fun _ => 1#1)
    ∧ (Cert.Pre_finite_s5post.fn (F := Ideal) (m ((c.tc : Thread Cert.S5PostRefIdeal.nD Cert.S5PostRefIdeal.τ).loc Cert.S5PostRefIdeal.main_arg0)) (m ((c.tc : Thread Cert.S5PostRefIdeal.nD Cert.S5PostRefIdeal.τ).loc Cert.S5PostRefIdeal.main_arg1)) (m ((c.tc : Thread Cert.S5PostRefIdeal.nD Cert.S5PostRefIdeal.τ).loc Cert.S5PostRefIdeal.main_arg2)) (m ((c.tc : Thread Cert.S5PostRefIdeal.nD Cert.S5PostRefIdeal.τ).loc Cert.S5PostRefIdeal.main_arg3)) (m ((c.tc : Thread Cert.S5PostRefIdeal.nD Cert.S5PostRefIdeal.τ).loc Cert.S5PostRefIdeal.main_arg4))).2.2.2.1 = (fun _ => 1#1)
    ∧ (Cert.Pre_finite_s5post.fn (F := Ideal) (m ((c.tc : Thread Cert.S5PostRefIdeal.nD Cert.S5PostRefIdeal.τ).loc Cert.S5PostRefIdeal.main_arg0)) (m ((c.tc : Thread Cert.S5PostRefIdeal.nD Cert.S5PostRefIdeal.τ).loc Cert.S5PostRefIdeal.main_arg1)) (m ((c.tc : Thread Cert.S5PostRefIdeal.nD Cert.S5PostRefIdeal.τ).loc Cert.S5PostRefIdeal.main_arg2)) (m ((c.tc : Thread Cert.S5PostRefIdeal.nD Cert.S5PostRefIdeal.τ).loc Cert.S5PostRefIdeal.main_arg3)) (m ((c.tc : Thread Cert.S5PostRefIdeal.nD Cert.S5PostRefIdeal.τ).loc Cert.S5PostRefIdeal.main_arg4))).2.2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite_ple [hPre_finite_ple : Cert.Pre_finite_ple.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.2.2 = (fun _ => 1#1)

def Pre_RwPost (m : (ℓ : Loc Cert.RwPost.nD Cert.RwPost.τ Cert.RwPost.sig) → Buf (Elt Bits) ℓ) : Prop :=
  True

def Pre_RwPostIdeal (m : (ℓ : Loc Cert.RwPostIdeal.nD Cert.RwPostIdeal.τ Cert.RwPostIdeal.sig) → Buf (Elt Ideal) ℓ) : Prop :=
  True

def Pre_RwPostIdeal_finite_rwpost [hPre_finite_rwpost : Cert.Pre_finite_rwpost.Facts] (m : (ℓ : Loc Cert.RwPostIdeal.nD Cert.RwPostIdeal.τ Cert.RwPostIdeal.sig) → Buf (Elt Ideal) ℓ) : Prop :=
  ∀ c : Dev Cert.RwPostIdeal.nD,
    (Cert.Pre_finite_rwpost.fn (F := Ideal) (m ((c.tc : Thread Cert.RwPostIdeal.nD Cert.RwPostIdeal.τ).loc Cert.RwPostIdeal.main_arg0)) (m ((c.tc : Thread Cert.RwPostIdeal.nD Cert.RwPostIdeal.τ).loc Cert.RwPostIdeal.main_arg1)) (m ((c.tc : Thread Cert.RwPostIdeal.nD Cert.RwPostIdeal.τ).loc Cert.RwPostIdeal.main_arg2)) (m ((c.tc : Thread Cert.RwPostIdeal.nD Cert.RwPostIdeal.τ).loc Cert.RwPostIdeal.main_arg3)) (m ((c.tc : Thread Cert.RwPostIdeal.nD Cert.RwPostIdeal.τ).loc Cert.RwPostIdeal.main_arg4)) (m ((c.tc : Thread Cert.RwPostIdeal.nD Cert.RwPostIdeal.τ).loc Cert.RwPostIdeal.main_arg5)) (m ((c.tc : Thread Cert.RwPostIdeal.nD Cert.RwPostIdeal.τ).loc Cert.RwPostIdeal.main_arg6)) (m ((c.tc : Thread Cert.RwPostIdeal.nD Cert.RwPostIdeal.τ).loc Cert.RwPostIdeal.main_arg7)) (m ((c.tc : Thread Cert.RwPostIdeal.nD Cert.RwPostIdeal.τ).loc Cert.RwPostIdeal.main_arg8)) (m ((c.tc : Thread Cert.RwPostIdeal.nD Cert.RwPostIdeal.τ).loc Cert.RwPostIdeal.main_arg9))).1 = (fun _ => 1#1)
    ∧ (Cert.Pre_finite_rwpost.fn (F := Ideal) (m ((c.tc : Thread Cert.RwPostIdeal.nD Cert.RwPostIdeal.τ).loc Cert.RwPostIdeal.main_arg0)) (m ((c.tc : Thread Cert.RwPostIdeal.nD Cert.RwPostIdeal.τ).loc Cert.RwPostIdeal.main_arg1)) (m ((c.tc : Thread Cert.RwPostIdeal.nD Cert.RwPostIdeal.τ).loc Cert.RwPostIdeal.main_arg2)) (m ((c.tc : Thread Cert.RwPostIdeal.nD Cert.RwPostIdeal.τ).loc Cert.RwPostIdeal.main_arg3)) (m ((c.tc : Thread Cert.RwPostIdeal.nD Cert.RwPostIdeal.τ).loc Cert.RwPostIdeal.main_arg4)) (m ((c.tc : Thread Cert.RwPostIdeal.nD Cert.RwPostIdeal.τ).loc Cert.RwPostIdeal.main_arg5)) (m ((c.tc : Thread Cert.RwPostIdeal.nD Cert.RwPostIdeal.τ).loc Cert.RwPostIdeal.main_arg6)) (m ((c.tc : Thread Cert.RwPostIdeal.nD Cert.RwPostIdeal.τ).loc Cert.RwPostIdeal.main_arg7)) (m ((c.tc : Thread Cert.RwPostIdeal.nD Cert.RwPostIdeal.τ).loc Cert.RwPostIdeal.main_arg8)) (m ((c.tc : Thread Cert.RwPostIdeal.nD Cert.RwPostIdeal.τ).loc Cert.RwPostIdeal.main_arg9))).2.1 = (fun _ => 1#1)
    ∧ (Cert.Pre_finite_rwpost.fn (F := Ideal) (m ((c.tc : Thread Cert.RwPostIdeal.nD Cert.RwPostIdeal.τ).loc Cert.RwPostIdeal.main_arg0)) (m ((c.tc : Thread Cert.RwPostIdeal.nD Cert.RwPostIdeal.τ).loc Cert.RwPostIdeal.main_arg1)) (m ((c.tc : Thread Cert.RwPostIdeal.nD Cert.RwPostIdeal.τ).loc Cert.RwPostIdeal.main_arg2)) (m ((c.tc : Thread Cert.RwPostIdeal.nD Cert.RwPostIdeal.τ).loc Cert.RwPostIdeal.main_arg3)) (m ((c.tc : Thread Cert.RwPostIdeal.nD Cert.RwPostIdeal.τ).loc Cert.RwPostIdeal.main_arg4)) (m ((c.tc : Thread Cert.RwPostIdeal.nD Cert.RwPostIdeal.τ).loc Cert.RwPostIdeal.main_arg5)) (m ((c.tc : Thread Cert.RwPostIdeal.nD Cert.RwPostIdeal.τ).loc Cert.RwPostIdeal.main_arg6)) (m ((c.tc : Thread Cert.RwPostIdeal.nD Cert.RwPostIdeal.τ).loc Cert.RwPostIdeal.main_arg7)) (m ((c.tc : Thread Cert.RwPostIdeal.nD Cert.RwPostIdeal.τ).loc Cert.RwPostIdeal.main_arg8)) (m ((c.tc : Thread Cert.RwPostIdeal.nD Cert.RwPostIdeal.τ).loc Cert.RwPostIdeal.main_arg9))).2.2.1 = (fun _ => 1#1)
    ∧ (Cert.Pre_finite_rwpost.fn (F := Ideal) (m ((c.tc : Thread Cert.RwPostIdeal.nD Cert.RwPostIdeal.τ).loc Cert.RwPostIdeal.main_arg0)) (m ((c.tc : Thread Cert.RwPostIdeal.nD Cert.RwPostIdeal.τ).loc Cert.RwPostIdeal.main_arg1)) (m ((c.tc : Thread Cert.RwPostIdeal.nD Cert.RwPostIdeal.τ).loc Cert.RwPostIdeal.main_arg2)) (m ((c.tc : Thread Cert.RwPostIdeal.nD Cert.RwPostIdeal.τ).loc Cert.RwPostIdeal.main_arg3)) (m ((c.tc : Thread Cert.RwPostIdeal.nD Cert.RwPostIdeal.τ).loc Cert.RwPostIdeal.main_arg4)) (m ((c.tc : Thread Cert.RwPostIdeal.nD Cert.RwPostIdeal.τ).loc Cert.RwPostIdeal.main_arg5)) (m ((c.tc : Thread Cert.RwPostIdeal.nD Cert.RwPostIdeal.τ).loc Cert.RwPostIdeal.main_arg6)) (m ((c.tc : Thread Cert.RwPostIdeal.nD Cert.RwPostIdeal.τ).loc Cert.RwPostIdeal.main_arg7)) (m ((c.tc : Thread Cert.RwPostIdeal.nD Cert.RwPostIdeal.τ).loc Cert.RwPostIdeal.main_arg8)) (m ((c.tc : Thread Cert.RwPostIdeal.nD Cert.RwPostIdeal.τ).loc Cert.RwPostIdeal.main_arg9))).2.2.2.1 = (fun _ => 1#1)
    ∧ (Cert.Pre_finite_rwpost.fn (F := Ideal) (m ((c.tc : Thread Cert.RwPostIdeal.nD Cert.RwPostIdeal.τ).loc Cert.RwPostIdeal.main_arg0)) (m ((c.tc : Thread Cert.RwPostIdeal.nD Cert.RwPostIdeal.τ).loc Cert.RwPostIdeal.main_arg1)) (m ((c.tc : Thread Cert.RwPostIdeal.nD Cert.RwPostIdeal.τ).loc Cert.RwPostIdeal.main_arg2)) (m ((c.tc : Thread Cert.RwPostIdeal.nD Cert.RwPostIdeal.τ).loc Cert.RwPostIdeal.main_arg3)) (m ((c.tc : Thread Cert.RwPostIdeal.nD Cert.RwPostIdeal.τ).loc Cert.RwPostIdeal.main_arg4)) (m ((c.tc : Thread Cert.RwPostIdeal.nD Cert.RwPostIdeal.τ).loc Cert.RwPostIdeal.main_arg5)) (m ((c.tc : Thread Cert.RwPostIdeal.nD Cert.RwPostIdeal.τ).loc Cert.RwPostIdeal.main_arg6)) (m ((c.tc : Thread Cert.RwPostIdeal.nD Cert.RwPostIdeal.τ).loc Cert.RwPostIdeal.main_arg7)) (m ((c.tc : Thread Cert.RwPostIdeal.nD Cert.RwPostIdeal.τ).loc Cert.RwPostIdeal.main_arg8)) (m ((c.tc : Thread Cert.RwPostIdeal.nD Cert.RwPostIdeal.τ).loc Cert.RwPostIdeal.main_arg9))).2.2.2.2.1 = (fun _ => 1#1)
    ∧ (Cert.Pre_finite_rwpost.fn (F := Ideal) (m ((c.tc : Thread Cert.RwPostIdeal.nD Cert.RwPostIdeal.τ).loc Cert.RwPostIdeal.main_arg0)) (m ((c.tc : Thread Cert.RwPostIdeal.nD Cert.RwPostIdeal.τ).loc Cert.RwPostIdeal.main_arg1)) (m ((c.tc : Thread Cert.RwPostIdeal.nD Cert.RwPostIdeal.τ).loc Cert.RwPostIdeal.main_arg2)) (m ((c.tc : Thread Cert.RwPostIdeal.nD Cert.RwPostIdeal.τ).loc Cert.RwPostIdeal.main_arg3)) (m ((c.tc : Thread Cert.RwPostIdeal.nD Cert.RwPostIdeal.τ).loc Cert.RwPostIdeal.main_arg4)) (m ((c.tc : Thread Cert.RwPostIdeal.nD Cert.RwPostIdeal.τ).loc Cert.RwPostIdeal.main_arg5)) (m ((c.tc : Thread Cert.RwPostIdeal.nD Cert.RwPostIdeal.τ).loc Cert.RwPostIdeal.main_arg6)) (m ((c.tc : Thread Cert.RwPostIdeal.nD Cert.RwPostIdeal.τ).loc Cert.RwPostIdeal.main_arg7)) (m ((c.tc : Thread Cert.RwPostIdeal.nD Cert.RwPostIdeal.τ).loc Cert.RwPostIdeal.main_arg8)) (m ((c.tc : Thread Cert.RwPostIdeal.nD Cert.RwPostIdeal.τ).loc Cert.RwPostIdeal.main_arg9))).2.2.2.2.2.1 = (fun _ => 1#1)
    ∧ (Cert.Pre_finite_rwpost.fn (F := Ideal) (m ((c.tc : Thread Cert.RwPostIdeal.nD Cert.RwPostIdeal.τ).loc Cert.RwPostIdeal.main_arg0)) (m ((c.tc : Thread Cert.RwPostIdeal.nD Cert.RwPostIdeal.τ).loc Cert.RwPostIdeal.main_arg1)) (m ((c.tc : Thread Cert.RwPostIdeal.nD Cert.RwPostIdeal.τ).loc Cert.RwPostIdeal.main_arg2)) (m ((c.tc : Thread Cert.RwPostIdeal.nD Cert.RwPostIdeal.τ).loc Cert.RwPostIdeal.main_arg3)) (m ((c.tc : Thread Cert.RwPostIdeal.nD Cert.RwPostIdeal.τ).loc Cert.RwPostIdeal.main_arg4)) (m ((c.tc : Thread Cert.RwPostIdeal.nD Cert.RwPostIdeal.τ).loc Cert.RwPostIdeal.main_arg5)) (m ((c.tc : Thread Cert.RwPostIdeal.nD Cert.RwPostIdeal.τ).loc Cert.RwPostIdeal.main_arg6)) (m ((c.tc : Thread Cert.RwPostIdeal.nD Cert.RwPostIdeal.τ).loc Cert.RwPostIdeal.main_arg7)) (m ((c.tc : Thread Cert.RwPostIdeal.nD Cert.RwPostIdeal.τ).loc Cert.RwPostIdeal.main_arg8)) (m ((c.tc : Thread Cert.RwPostIdeal.nD Cert.RwPostIdeal.τ).loc Cert.RwPostIdeal.main_arg9))).2.2.2.2.2.2.1 = (fun _ => 1#1)
    ∧ (Cert.Pre_finite_rwpost.fn (F := Ideal) (m ((c.tc : Thread Cert.RwPostIdeal.nD Cert.RwPostIdeal.τ).loc Cert.RwPostIdeal.main_arg0)) (m ((c.tc : Thread Cert.RwPostIdeal.nD Cert.RwPostIdeal.τ).loc Cert.RwPostIdeal.main_arg1)) (m ((c.tc : Thread Cert.RwPostIdeal.nD Cert.RwPostIdeal.τ).loc Cert.RwPostIdeal.main_arg2)) (m ((c.tc : Thread Cert.RwPostIdeal.nD Cert.RwPostIdeal.τ).loc Cert.RwPostIdeal.main_arg3)) (m ((c.tc : Thread Cert.RwPostIdeal.nD Cert.RwPostIdeal.τ).loc Cert.RwPostIdeal.main_arg4)) (m ((c.tc : Thread Cert.RwPostIdeal.nD Cert.RwPostIdeal.τ).loc Cert.RwPostIdeal.main_arg5)) (m ((c.tc : Thread Cert.RwPostIdeal.nD Cert.RwPostIdeal.τ).loc Cert.RwPostIdeal.main_arg6)) (m ((c.tc : Thread Cert.RwPostIdeal.nD Cert.RwPostIdeal.τ).loc Cert.RwPostIdeal.main_arg7)) (m ((c.tc : Thread Cert.RwPostIdeal.nD Cert.RwPostIdeal.τ).loc Cert.RwPostIdeal.main_arg8)) (m ((c.tc : Thread Cert.RwPostIdeal.nD Cert.RwPostIdeal.τ).loc Cert.RwPostIdeal.main_arg9))).2.2.2.2.2.2.2.1 = (fun _ => 1#1)
    ∧ (Cert.Pre_finite_rwpost.fn (F := Ideal) (m ((c.tc : Thread Cert.RwPostIdeal.nD Cert.RwPostIdeal.τ).loc Cert.RwPostIdeal.main_arg0)) (m ((c.tc : Thread Cert.RwPostIdeal.nD Cert.RwPostIdeal.τ).loc Cert.RwPostIdeal.main_arg1)) (m ((c.tc : Thread Cert.RwPostIdeal.nD Cert.RwPostIdeal.τ).loc Cert.RwPostIdeal.main_arg2)) (m ((c.tc : Thread Cert.RwPostIdeal.nD Cert.RwPostIdeal.τ).loc Cert.RwPostIdeal.main_arg3)) (m ((c.tc : Thread Cert.RwPostIdeal.nD Cert.RwPostIdeal.τ).loc Cert.RwPostIdeal.main_arg4)) (m ((c.tc : Thread Cert.RwPostIdeal.nD Cert.RwPostIdeal.τ).loc Cert.RwPostIdeal.main_arg5)) (m ((c.tc : Thread Cert.RwPostIdeal.nD Cert.RwPostIdeal.τ).loc Cert.RwPostIdeal.main_arg6)) (m ((c.tc : Thread Cert.RwPostIdeal.nD Cert.RwPostIdeal.τ).loc Cert.RwPostIdeal.main_arg7)) (m ((c.tc : Thread Cert.RwPostIdeal.nD Cert.RwPostIdeal.τ).loc Cert.RwPostIdeal.main_arg8)) (m ((c.tc : Thread Cert.RwPostIdeal.nD Cert.RwPostIdeal.τ).loc Cert.RwPostIdeal.main_arg9))).2.2.2.2.2.2.2.2.1 = (fun _ => 1#1)
    ∧ (Cert.Pre_finite_rwpost.fn (F := Ideal) (m ((c.tc : Thread Cert.RwPostIdeal.nD Cert.RwPostIdeal.τ).loc Cert.RwPostIdeal.main_arg0)) (m ((c.tc : Thread Cert.RwPostIdeal.nD Cert.RwPostIdeal.τ).loc Cert.RwPostIdeal.main_arg1)) (m ((c.tc : Thread Cert.RwPostIdeal.nD Cert.RwPostIdeal.τ).loc Cert.RwPostIdeal.main_arg2)) (m ((c.tc : Thread Cert.RwPostIdeal.nD Cert.RwPostIdeal.τ).loc Cert.RwPostIdeal.main_arg3)) (m ((c.tc : Thread Cert.RwPostIdeal.nD Cert.RwPostIdeal.τ).loc Cert.RwPostIdeal.main_arg4)) (m ((c.tc : Thread Cert.RwPostIdeal.nD Cert.RwPostIdeal.τ).loc Cert.RwPostIdeal.main_arg5)) (m ((c.tc : Thread Cert.RwPostIdeal.nD Cert.RwPostIdeal.τ).loc Cert.RwPostIdeal.main_arg6)) (m ((c.tc : Thread Cert.RwPostIdeal.nD Cert.RwPostIdeal.τ).loc Cert.RwPostIdeal.main_arg7)) (m ((c.tc : Thread Cert.RwPostIdeal.nD Cert.RwPostIdeal.τ).loc Cert.RwPostIdeal.main_arg8)) (m ((c.tc : Thread Cert.RwPostIdeal.nD Cert.RwPostIdeal.τ).loc Cert.RwPostIdeal.main_arg9))).2.2.2.2.2.2.2.2.2 = (fun _ => 1#1)

def Pre_RwPostRefIdeal (m : (ℓ : Loc Cert.RwPostRefIdeal.nD Cert.RwPostRefIdeal.τ Cert.RwPostRefIdeal.sig) → Buf (Elt Ideal) ℓ) : Prop :=
  True

def Pre_RwPostRefIdeal_finite_rwpost [hPre_finite_rwpost : Cert.Pre_finite_rwpost.Facts] (m : (ℓ : Loc Cert.RwPostRefIdeal.nD Cert.RwPostRefIdeal.τ Cert.RwPostRefIdeal.sig) → Buf (Elt Ideal) ℓ) : Prop :=
  ∀ c : Dev Cert.RwPostRefIdeal.nD,
    (Cert.Pre_finite_rwpost.fn (F := Ideal) (m ((c.tc : Thread Cert.RwPostRefIdeal.nD Cert.RwPostRefIdeal.τ).loc Cert.RwPostRefIdeal.main_arg0)) (m ((c.tc : Thread Cert.RwPostRefIdeal.nD Cert.RwPostRefIdeal.τ).loc Cert.RwPostRefIdeal.main_arg1)) (m ((c.tc : Thread Cert.RwPostRefIdeal.nD Cert.RwPostRefIdeal.τ).loc Cert.RwPostRefIdeal.main_arg2)) (m ((c.tc : Thread Cert.RwPostRefIdeal.nD Cert.RwPostRefIdeal.τ).loc Cert.RwPostRefIdeal.main_arg3)) (m ((c.tc : Thread Cert.RwPostRefIdeal.nD Cert.RwPostRefIdeal.τ).loc Cert.RwPostRefIdeal.main_arg4)) (m ((c.tc : Thread Cert.RwPostRefIdeal.nD Cert.RwPostRefIdeal.τ).loc Cert.RwPostRefIdeal.main_arg5)) (m ((c.tc : Thread Cert.RwPostRefIdeal.nD Cert.RwPostRefIdeal.τ).loc Cert.RwPostRefIdeal.main_arg6)) (m ((c.tc : Thread Cert.RwPostRefIdeal.nD Cert.RwPostRefIdeal.τ).loc Cert.RwPostRefIdeal.main_arg7)) (m ((c.tc : Thread Cert.RwPostRefIdeal.nD Cert.RwPostRefIdeal.τ).loc Cert.RwPostRefIdeal.main_arg8)) (m ((c.tc : Thread Cert.RwPostRefIdeal.nD Cert.RwPostRefIdeal.τ).loc Cert.RwPostRefIdeal.main_arg9))).1 = (fun _ => 1#1)
    ∧ (Cert.Pre_finite_rwpost.fn (F := Ideal) (m ((c.tc : Thread Cert.RwPostRefIdeal.nD Cert.RwPostRefIdeal.τ).loc Cert.RwPostRefIdeal.main_arg0)) (m ((c.tc : Thread Cert.RwPostRefIdeal.nD Cert.RwPostRefIdeal.τ).loc Cert.RwPostRefIdeal.main_arg1)) (m ((c.tc : Thread Cert.RwPostRefIdeal.nD Cert.RwPostRefIdeal.τ).loc Cert.RwPostRefIdeal.main_arg2)) (m ((c.tc : Thread Cert.RwPostRefIdeal.nD Cert.RwPostRefIdeal.τ).loc Cert.RwPostRefIdeal.main_arg3)) (m ((c.tc : Thread Cert.RwPostRefIdeal.nD Cert.RwPostRefIdeal.τ).loc Cert.RwPostRefIdeal.main_arg4)) (m ((c.tc : Thread Cert.RwPostRefIdeal.nD Cert.RwPostRefIdeal.τ).loc Cert.RwPostRefIdeal.main_arg5)) (m ((c.tc : Thread Cert.RwPostRefIdeal.nD Cert.RwPostRefIdeal.τ).loc Cert.RwPostRefIdeal.main_arg6)) (m ((c.tc : Thread Cert.RwPostRefIdeal.nD Cert.RwPostRefIdeal.τ).loc Cert.RwPostRefIdeal.main_arg7)) (m ((c.tc : Thread Cert.RwPostRefIdeal.nD Cert.RwPostRefIdeal.τ).loc Cert.RwPostRefIdeal.main_arg8)) (m ((c.tc : Thread Cert.RwPostRefIdeal.nD Cert.RwPostRefIdeal.τ).loc Cert.RwPostRefIdeal.main_arg9))).2.1 = (fun _ => 1#1)
    ∧ (Cert.Pre_finite_rwpost.fn (F := Ideal) (m ((c.tc : Thread Cert.RwPostRefIdeal.nD Cert.RwPostRefIdeal.τ).loc Cert.RwPostRefIdeal.main_arg0)) (m ((c.tc : Thread Cert.RwPostRefIdeal.nD Cert.RwPostRefIdeal.τ).loc Cert.RwPostRefIdeal.main_arg1)) (m ((c.tc : Thread Cert.RwPostRefIdeal.nD Cert.RwPostRefIdeal.τ).loc Cert.RwPostRefIdeal.main_arg2)) (m ((c.tc : Thread Cert.RwPostRefIdeal.nD Cert.RwPostRefIdeal.τ).loc Cert.RwPostRefIdeal.main_arg3)) (m ((c.tc : Thread Cert.RwPostRefIdeal.nD Cert.RwPostRefIdeal.τ).loc Cert.RwPostRefIdeal.main_arg4)) (m ((c.tc : Thread Cert.RwPostRefIdeal.nD Cert.RwPostRefIdeal.τ).loc Cert.RwPostRefIdeal.main_arg5)) (m ((c.tc : Thread Cert.RwPostRefIdeal.nD Cert.RwPostRefIdeal.τ).loc Cert.RwPostRefIdeal.main_arg6)) (m ((c.tc : Thread Cert.RwPostRefIdeal.nD Cert.RwPostRefIdeal.τ).loc Cert.RwPostRefIdeal.main_arg7)) (m ((c.tc : Thread Cert.RwPostRefIdeal.nD Cert.RwPostRefIdeal.τ).loc Cert.RwPostRefIdeal.main_arg8)) (m ((c.tc : Thread Cert.RwPostRefIdeal.nD Cert.RwPostRefIdeal.τ).loc Cert.RwPostRefIdeal.main_arg9))).2.2.1 = (fun _ => 1#1)
    ∧ (Cert.Pre_finite_rwpost.fn (F := Ideal) (m ((c.tc : Thread Cert.RwPostRefIdeal.nD Cert.RwPostRefIdeal.τ).loc Cert.RwPostRefIdeal.main_arg0)) (m ((c.tc : Thread Cert.RwPostRefIdeal.nD Cert.RwPostRefIdeal.τ).loc Cert.RwPostRefIdeal.main_arg1)) (m ((c.tc : Thread Cert.RwPostRefIdeal.nD Cert.RwPostRefIdeal.τ).loc Cert.RwPostRefIdeal.main_arg2)) (m ((c.tc : Thread Cert.RwPostRefIdeal.nD Cert.RwPostRefIdeal.τ).loc Cert.RwPostRefIdeal.main_arg3)) (m ((c.tc : Thread Cert.RwPostRefIdeal.nD Cert.RwPostRefIdeal.τ).loc Cert.RwPostRefIdeal.main_arg4)) (m ((c.tc : Thread Cert.RwPostRefIdeal.nD Cert.RwPostRefIdeal.τ).loc Cert.RwPostRefIdeal.main_arg5)) (m ((c.tc : Thread Cert.RwPostRefIdeal.nD Cert.RwPostRefIdeal.τ).loc Cert.RwPostRefIdeal.main_arg6)) (m ((c.tc : Thread Cert.RwPostRefIdeal.nD Cert.RwPostRefIdeal.τ).loc Cert.RwPostRefIdeal.main_arg7)) (m ((c.tc : Thread Cert.RwPostRefIdeal.nD Cert.RwPostRefIdeal.τ).loc Cert.RwPostRefIdeal.main_arg8)) (m ((c.tc : Thread Cert.RwPostRefIdeal.nD Cert.RwPostRefIdeal.τ).loc Cert.RwPostRefIdeal.main_arg9))).2.2.2.1 = (fun _ => 1#1)
    ∧ (Cert.Pre_finite_rwpost.fn (F := Ideal) (m ((c.tc : Thread Cert.RwPostRefIdeal.nD Cert.RwPostRefIdeal.τ).loc Cert.RwPostRefIdeal.main_arg0)) (m ((c.tc : Thread Cert.RwPostRefIdeal.nD Cert.RwPostRefIdeal.τ).loc Cert.RwPostRefIdeal.main_arg1)) (m ((c.tc : Thread Cert.RwPostRefIdeal.nD Cert.RwPostRefIdeal.τ).loc Cert.RwPostRefIdeal.main_arg2)) (m ((c.tc : Thread Cert.RwPostRefIdeal.nD Cert.RwPostRefIdeal.τ).loc Cert.RwPostRefIdeal.main_arg3)) (m ((c.tc : Thread Cert.RwPostRefIdeal.nD Cert.RwPostRefIdeal.τ).loc Cert.RwPostRefIdeal.main_arg4)) (m ((c.tc : Thread Cert.RwPostRefIdeal.nD Cert.RwPostRefIdeal.τ).loc Cert.RwPostRefIdeal.main_arg5)) (m ((c.tc : Thread Cert.RwPostRefIdeal.nD Cert.RwPostRefIdeal.τ).loc Cert.RwPostRefIdeal.main_arg6)) (m ((c.tc : Thread Cert.RwPostRefIdeal.nD Cert.RwPostRefIdeal.τ).loc Cert.RwPostRefIdeal.main_arg7)) (m ((c.tc : Thread Cert.RwPostRefIdeal.nD Cert.RwPostRefIdeal.τ).loc Cert.RwPostRefIdeal.main_arg8)) (m ((c.tc : Thread Cert.RwPostRefIdeal.nD Cert.RwPostRefIdeal.τ).loc Cert.RwPostRefIdeal.main_arg9))).2.2.2.2.1 = (fun _ => 1#1)
    ∧ (Cert.Pre_finite_rwpost.fn (F := Ideal) (m ((c.tc : Thread Cert.RwPostRefIdeal.nD Cert.RwPostRefIdeal.τ).loc Cert.RwPostRefIdeal.main_arg0)) (m ((c.tc : Thread Cert.RwPostRefIdeal.nD Cert.RwPostRefIdeal.τ).loc Cert.RwPostRefIdeal.main_arg1)) (m ((c.tc : Thread Cert.RwPostRefIdeal.nD Cert.RwPostRefIdeal.τ).loc Cert.RwPostRefIdeal.main_arg2)) (m ((c.tc : Thread Cert.RwPostRefIdeal.nD Cert.RwPostRefIdeal.τ).loc Cert.RwPostRefIdeal.main_arg3)) (m ((c.tc : Thread Cert.RwPostRefIdeal.nD Cert.RwPostRefIdeal.τ).loc Cert.RwPostRefIdeal.main_arg4)) (m ((c.tc : Thread Cert.RwPostRefIdeal.nD Cert.RwPostRefIdeal.τ).loc Cert.RwPostRefIdeal.main_arg5)) (m ((c.tc : Thread Cert.RwPostRefIdeal.nD Cert.RwPostRefIdeal.τ).loc Cert.RwPostRefIdeal.main_arg6)) (m ((c.tc : Thread Cert.RwPostRefIdeal.nD Cert.RwPostRefIdeal.τ).loc Cert.RwPostRefIdeal.main_arg7)) (m ((c.tc : Thread Cert.RwPostRefIdeal.nD Cert.RwPostRefIdeal.τ).loc Cert.RwPostRefIdeal.main_arg8)) (m ((c.tc : Thread Cert.RwPostRefIdeal.nD Cert.RwPostRefIdeal.τ).loc Cert.RwPostRefIdeal.main_arg9))).2.2.2.2.2.1 = (fun _ => 1#1)
    ∧ (Cert.Pre_finite_rwpost.fn (F := Ideal) (m ((c.tc : Thread Cert.RwPostRefIdeal.nD Cert.RwPostRefIdeal.τ).loc Cert.RwPostRefIdeal.main_arg0)) (m ((c.tc : Thread Cert.RwPostRefIdeal.nD Cert.RwPostRefIdeal.τ).loc Cert.RwPostRefIdeal.main_arg1)) (m ((c.tc : Thread Cert.RwPostRefIdeal.nD Cert.RwPostRefIdeal.τ).loc Cert.RwPostRefIdeal.main_arg2)) (m ((c.tc : Thread Cert.RwPostRefIdeal.nD Cert.RwPostRefIdeal.τ).loc Cert.RwPostRefIdeal.main_arg3)) (m ((c.tc : Thread Cert.RwPostRefIdeal.nD Cert.RwPostRefIdeal.τ).loc Cert.RwPostRefIdeal.main_arg4)) (m ((c.tc : Thread Cert.RwPostRefIdeal.nD Cert.RwPostRefIdeal.τ).loc Cert.RwPostRefIdeal.main_arg5)) (m ((c.tc : Thread Cert.RwPostRefIdeal.nD Cert.RwPostRefIdeal.τ).loc Cert.RwPostRefIdeal.main_arg6)) (m ((c.tc : Thread Cert.RwPostRefIdeal.nD Cert.RwPostRefIdeal.τ).loc Cert.RwPostRefIdeal.main_arg7)) (m ((c.tc : Thread Cert.RwPostRefIdeal.nD Cert.RwPostRefIdeal.τ).loc Cert.RwPostRefIdeal.main_arg8)) (m ((c.tc : Thread Cert.RwPostRefIdeal.nD Cert.RwPostRefIdeal.τ).loc Cert.RwPostRefIdeal.main_arg9))).2.2.2.2.2.2.1 = (fun _ => 1#1)
    ∧ (Cert.Pre_finite_rwpost.fn (F := Ideal) (m ((c.tc : Thread Cert.RwPostRefIdeal.nD Cert.RwPostRefIdeal.τ).loc Cert.RwPostRefIdeal.main_arg0)) (m ((c.tc : Thread Cert.RwPostRefIdeal.nD Cert.RwPostRefIdeal.τ).loc Cert.RwPostRefIdeal.main_arg1)) (m ((c.tc : Thread Cert.RwPostRefIdeal.nD Cert.RwPostRefIdeal.τ).loc Cert.RwPostRefIdeal.main_arg2)) (m ((c.tc : Thread Cert.RwPostRefIdeal.nD Cert.RwPostRefIdeal.τ).loc Cert.RwPostRefIdeal.main_arg3)) (m ((c.tc : Thread Cert.RwPostRefIdeal.nD Cert.RwPostRefIdeal.τ).loc Cert.RwPostRefIdeal.main_arg4)) (m ((c.tc : Thread Cert.RwPostRefIdeal.nD Cert.RwPostRefIdeal.τ).loc Cert.RwPostRefIdeal.main_arg5)) (m ((c.tc : Thread Cert.RwPostRefIdeal.nD Cert.RwPostRefIdeal.τ).loc Cert.RwPostRefIdeal.main_arg6)) (m ((c.tc : Thread Cert.RwPostRefIdeal.nD Cert.RwPostRefIdeal.τ).loc Cert.RwPostRefIdeal.main_arg7)) (m ((c.tc : Thread Cert.RwPostRefIdeal.nD Cert.RwPostRefIdeal.τ).loc Cert.RwPostRefIdeal.main_arg8)) (m ((c.tc : Thread Cert.RwPostRefIdeal.nD Cert.RwPostRefIdeal.τ).loc Cert.RwPostRefIdeal.main_arg9))).2.2.2.2.2.2.2.1 = (fun _ => 1#1)
    ∧ (Cert.Pre_finite_rwpost.fn (F := Ideal) (m ((c.tc : Thread Cert.RwPostRefIdeal.nD Cert.RwPostRefIdeal.τ).loc Cert.RwPostRefIdeal.main_arg0)) (m ((c.tc : Thread Cert.RwPostRefIdeal.nD Cert.RwPostRefIdeal.τ).loc Cert.RwPostRefIdeal.main_arg1)) (m ((c.tc : Thread Cert.RwPostRefIdeal.nD Cert.RwPostRefIdeal.τ).loc Cert.RwPostRefIdeal.main_arg2)) (m ((c.tc : Thread Cert.RwPostRefIdeal.nD Cert.RwPostRefIdeal.τ).loc Cert.RwPostRefIdeal.main_arg3)) (m ((c.tc : Thread Cert.RwPostRefIdeal.nD Cert.RwPostRefIdeal.τ).loc Cert.RwPostRefIdeal.main_arg4)) (m ((c.tc : Thread Cert.RwPostRefIdeal.nD Cert.RwPostRefIdeal.τ).loc Cert.RwPostRefIdeal.main_arg5)) (m ((c.tc : Thread Cert.RwPostRefIdeal.nD Cert.RwPostRefIdeal.τ).loc Cert.RwPostRefIdeal.main_arg6)) (m ((c.tc : Thread Cert.RwPostRefIdeal.nD Cert.RwPostRefIdeal.τ).loc Cert.RwPostRefIdeal.main_arg7)) (m ((c.tc : Thread Cert.RwPostRefIdeal.nD Cert.RwPostRefIdeal.τ).loc Cert.RwPostRefIdeal.main_arg8)) (m ((c.tc : Thread Cert.RwPostRefIdeal.nD Cert.RwPostRefIdeal.τ).loc Cert.RwPostRefIdeal.main_arg9))).2.2.2.2.2.2.2.2.1 = (fun _ => 1#1)
    ∧ (Cert.Pre_finite_rwpost.fn (F := Ideal) (m ((c.tc : Thread Cert.RwPostRefIdeal.nD Cert.RwPostRefIdeal.τ).loc Cert.RwPostRefIdeal.main_arg0)) (m ((c.tc : Thread Cert.RwPostRefIdeal.nD Cert.RwPostRefIdeal.τ).loc Cert.RwPostRefIdeal.main_arg1)) (m ((c.tc : Thread Cert.RwPostRefIdeal.nD Cert.RwPostRefIdeal.τ).loc Cert.RwPostRefIdeal.main_arg2)) (m ((c.tc : Thread Cert.RwPostRefIdeal.nD Cert.RwPostRefIdeal.τ).loc Cert.RwPostRefIdeal.main_arg3)) (m ((c.tc : Thread Cert.RwPostRefIdeal.nD Cert.RwPostRefIdeal.τ).loc Cert.RwPostRefIdeal.main_arg4)) (m ((c.tc : Thread Cert.RwPostRefIdeal.nD Cert.RwPostRefIdeal.τ).loc Cert.RwPostRefIdeal.main_arg5)) (m ((c.tc : Thread Cert.RwPostRefIdeal.nD Cert.RwPostRefIdeal.τ).loc Cert.RwPostRefIdeal.main_arg6)) (m ((c.tc : Thread Cert.RwPostRefIdeal.nD Cert.RwPostRefIdeal.τ).loc Cert.RwPostRefIdeal.main_arg7)) (m ((c.tc : Thread Cert.RwPostRefIdeal.nD Cert.RwPostRefIdeal.τ).loc Cert.RwPostRefIdeal.main_arg8)) (m ((c.tc : Thread Cert.RwPostRefIdeal.nD Cert.RwPostRefIdeal.τ).loc Cert.RwPostRefIdeal.main_arg9))).2.2.2.2.2.2.2.2.2 = (fun _ => 1#1)

def Pre_S5Param (m : (ℓ : Loc Cert.S5Param.nD Cert.S5Param.τ Cert.S5Param.sig) → Buf (Elt Bits) ℓ) : Prop :=
  True

def Pre_S5ParamIdeal (m : (ℓ : Loc Cert.S5ParamIdeal.nD Cert.S5ParamIdeal.τ Cert.S5ParamIdeal.sig) → Buf (Elt Ideal) ℓ) : Prop :=
  True

def Pre_S5ParamRefIdeal (m : (ℓ : Loc Cert.S5ParamRefIdeal.nD Cert.S5ParamRefIdeal.τ Cert.S5ParamRefIdeal.sig) → Buf (Elt Ideal) ℓ) : Prop :=
  True

def Pre_WkvFwd (m : (ℓ : Loc Cert.WkvFwd.nD Cert.WkvFwd.τ Cert.WkvFwd.sig) → Buf (Elt Bits) ℓ) : Prop :=
  True

def Pre_WkvFwdIdeal (m : (ℓ : Loc Cert.WkvFwdIdeal.nD Cert.WkvFwdIdeal.τ Cert.WkvFwdIdeal.sig) → Buf (Elt Ideal) ℓ) : Prop :=
  True

def Pre_WkvFwdIdeal_positive_decay [hPre_positive_decay : Cert.Pre_positive_decay.Facts] (m : (ℓ : Loc Cert.WkvFwdIdeal.nD Cert.WkvFwdIdeal.τ Cert.WkvFwdIdeal.sig) → Buf (Elt Ideal) ℓ) : Prop :=
  ∀ c : Dev Cert.WkvFwdIdeal.nD,
    (Cert.Pre_positive_decay.fn (F := Ideal) (m ((c.tc : Thread Cert.WkvFwdIdeal.nD Cert.WkvFwdIdeal.τ).loc Cert.WkvFwdIdeal.main_arg0)) (m ((c.tc : Thread Cert.WkvFwdIdeal.nD Cert.WkvFwdIdeal.τ).loc Cert.WkvFwdIdeal.main_arg1)) (m ((c.tc : Thread Cert.WkvFwdIdeal.nD Cert.WkvFwdIdeal.τ).loc Cert.WkvFwdIdeal.main_arg2)) (m ((c.tc : Thread Cert.WkvFwdIdeal.nD Cert.WkvFwdIdeal.τ).loc Cert.WkvFwdIdeal.main_arg3)) (m ((c.tc : Thread Cert.WkvFwdIdeal.nD Cert.WkvFwdIdeal.τ).loc Cert.WkvFwdIdeal.main_arg4)) (m ((c.tc : Thread Cert.WkvFwdIdeal.nD Cert.WkvFwdIdeal.τ).loc Cert.WkvFwdIdeal.main_arg5))).1 = (fun _ => 1#1)
    ∧ (Cert.Pre_positive_decay.fn (F := Ideal) (m ((c.tc : Thread Cert.WkvFwdIdeal.nD Cert.WkvFwdIdeal.τ).loc Cert.WkvFwdIdeal.main_arg0)) (m ((c.tc : Thread Cert.WkvFwdIdeal.nD Cert.WkvFwdIdeal.τ).loc Cert.WkvFwdIdeal.main_arg1)) (m ((c.tc : Thread Cert.WkvFwdIdeal.nD Cert.WkvFwdIdeal.τ).loc Cert.WkvFwdIdeal.main_arg2)) (m ((c.tc : Thread Cert.WkvFwdIdeal.nD Cert.WkvFwdIdeal.τ).loc Cert.WkvFwdIdeal.main_arg3)) (m ((c.tc : Thread Cert.WkvFwdIdeal.nD Cert.WkvFwdIdeal.τ).loc Cert.WkvFwdIdeal.main_arg4)) (m ((c.tc : Thread Cert.WkvFwdIdeal.nD Cert.WkvFwdIdeal.τ).loc Cert.WkvFwdIdeal.main_arg5))).2.1 = (fun _ => 1#1)
    ∧ (Cert.Pre_positive_decay.fn (F := Ideal) (m ((c.tc : Thread Cert.WkvFwdIdeal.nD Cert.WkvFwdIdeal.τ).loc Cert.WkvFwdIdeal.main_arg0)) (m ((c.tc : Thread Cert.WkvFwdIdeal.nD Cert.WkvFwdIdeal.τ).loc Cert.WkvFwdIdeal.main_arg1)) (m ((c.tc : Thread Cert.WkvFwdIdeal.nD Cert.WkvFwdIdeal.τ).loc Cert.WkvFwdIdeal.main_arg2)) (m ((c.tc : Thread Cert.WkvFwdIdeal.nD Cert.WkvFwdIdeal.τ).loc Cert.WkvFwdIdeal.main_arg3)) (m ((c.tc : Thread Cert.WkvFwdIdeal.nD Cert.WkvFwdIdeal.τ).loc Cert.WkvFwdIdeal.main_arg4)) (m ((c.tc : Thread Cert.WkvFwdIdeal.nD Cert.WkvFwdIdeal.τ).loc Cert.WkvFwdIdeal.main_arg5))).2.2.1 = (fun _ => 1#1)
    ∧ (Cert.Pre_positive_decay.fn (F := Ideal) (m ((c.tc : Thread Cert.WkvFwdIdeal.nD Cert.WkvFwdIdeal.τ).loc Cert.WkvFwdIdeal.main_arg0)) (m ((c.tc : Thread Cert.WkvFwdIdeal.nD Cert.WkvFwdIdeal.τ).loc Cert.WkvFwdIdeal.main_arg1)) (m ((c.tc : Thread Cert.WkvFwdIdeal.nD Cert.WkvFwdIdeal.τ).loc Cert.WkvFwdIdeal.main_arg2)) (m ((c.tc : Thread Cert.WkvFwdIdeal.nD Cert.WkvFwdIdeal.τ).loc Cert.WkvFwdIdeal.main_arg3)) (m ((c.tc : Thread Cert.WkvFwdIdeal.nD Cert.WkvFwdIdeal.τ).loc Cert.WkvFwdIdeal.main_arg4)) (m ((c.tc : Thread Cert.WkvFwdIdeal.nD Cert.WkvFwdIdeal.τ).loc Cert.WkvFwdIdeal.main_arg5))).2.2.2.1 = (fun _ => 1#1)
    ∧ (Cert.Pre_positive_decay.fn (F := Ideal) (m ((c.tc : Thread Cert.WkvFwdIdeal.nD Cert.WkvFwdIdeal.τ).loc Cert.WkvFwdIdeal.main_arg0)) (m ((c.tc : Thread Cert.WkvFwdIdeal.nD Cert.WkvFwdIdeal.τ).loc Cert.WkvFwdIdeal.main_arg1)) (m ((c.tc : Thread Cert.WkvFwdIdeal.nD Cert.WkvFwdIdeal.τ).loc Cert.WkvFwdIdeal.main_arg2)) (m ((c.tc : Thread Cert.WkvFwdIdeal.nD Cert.WkvFwdIdeal.τ).loc Cert.WkvFwdIdeal.main_arg3)) (m ((c.tc : Thread Cert.WkvFwdIdeal.nD Cert.WkvFwdIdeal.τ).loc Cert.WkvFwdIdeal.main_arg4)) (m ((c.tc : Thread Cert.WkvFwdIdeal.nD Cert.WkvFwdIdeal.τ).loc Cert.WkvFwdIdeal.main_arg5))).2.2.2.2.1 = (fun _ => 1#1)
    ∧ (Cert.Pre_positive_decay.fn (F := Ideal) (m ((c.tc : Thread Cert.WkvFwdIdeal.nD Cert.WkvFwdIdeal.τ).loc Cert.WkvFwdIdeal.main_arg0)) (m ((c.tc : Thread Cert.WkvFwdIdeal.nD Cert.WkvFwdIdeal.τ).loc Cert.WkvFwdIdeal.main_arg1)) (m ((c.tc : Thread Cert.WkvFwdIdeal.nD Cert.WkvFwdIdeal.τ).loc Cert.WkvFwdIdeal.main_arg2)) (m ((c.tc : Thread Cert.WkvFwdIdeal.nD Cert.WkvFwdIdeal.τ).loc Cert.WkvFwdIdeal.main_arg3)) (m ((c.tc : Thread Cert.WkvFwdIdeal.nD Cert.WkvFwdIdeal.τ).loc Cert.WkvFwdIdeal.main_arg4)) (m ((c.tc : Thread Cert.WkvFwdIdeal.nD Cert.WkvFwdIdeal.τ).loc Cert.WkvFwdIdeal.main_arg5))).2.2.2.2.2.1 = (fun _ => 1#1)
    ∧ (Cert.Pre_positive_decay.fn (F := Ideal) (m ((c.tc : Thread Cert.WkvFwdIdeal.nD Cert.WkvFwdIdeal.τ).loc Cert.WkvFwdIdeal.main_arg0)) (m ((c.tc : Thread Cert.WkvFwdIdeal.nD Cert.WkvFwdIdeal.τ).loc Cert.WkvFwdIdeal.main_arg1)) (m ((c.tc : Thread Cert.WkvFwdIdeal.nD Cert.WkvFwdIdeal.τ).loc Cert.WkvFwdIdeal.main_arg2)) (m ((c.tc : Thread Cert.WkvFwdIdeal.nD Cert.WkvFwdIdeal.τ).loc Cert.WkvFwdIdeal.main_arg3)) (m ((c.tc : Thread Cert.WkvFwdIdeal.nD Cert.WkvFwdIdeal.τ).loc Cert.WkvFwdIdeal.main_arg4)) (m ((c.tc : Thread Cert.WkvFwdIdeal.nD Cert.WkvFwdIdeal.τ).loc Cert.WkvFwdIdeal.main_arg5))).2.2.2.2.2.2 = (fun _ => 1#1)

def Pre_WkvFwdRefIdeal (m : (ℓ : Loc Cert.WkvFwdRefIdeal.nD Cert.WkvFwdRefIdeal.τ Cert.WkvFwdRefIdeal.sig) → Buf (Elt Ideal) ℓ) : Prop :=
  True

def Pre_WkvFwdRefIdeal_positive_decay [hPre_positive_decay : Cert.Pre_positive_decay.Facts] (m : (ℓ : Loc Cert.WkvFwdRefIdeal.nD Cert.WkvFwdRefIdeal.τ Cert.WkvFwdRefIdeal.sig) → Buf (Elt Ideal) ℓ) : Prop :=
  ∀ c : Dev Cert.WkvFwdRefIdeal.nD,
    (Cert.Pre_positive_decay.fn (F := Ideal) (m ((c.tc : Thread Cert.WkvFwdRefIdeal.nD Cert.WkvFwdRefIdeal.τ).loc Cert.WkvFwdRefIdeal.main_arg0)) (m ((c.tc : Thread Cert.WkvFwdRefIdeal.nD Cert.WkvFwdRefIdeal.τ).loc Cert.WkvFwdRefIdeal.main_arg1)) (m ((c.tc : Thread Cert.WkvFwdRefIdeal.nD Cert.WkvFwdRefIdeal.τ).loc Cert.WkvFwdRefIdeal.main_arg2)) (m ((c.tc : Thread Cert.WkvFwdRefIdeal.nD Cert.WkvFwdRefIdeal.τ).loc Cert.WkvFwdRefIdeal.main_arg3)) (m ((c.tc : Thread Cert.WkvFwdRefIdeal.nD Cert.WkvFwdRefIdeal.τ).loc Cert.WkvFwdRefIdeal.main_arg4)) (m ((c.tc : Thread Cert.WkvFwdRefIdeal.nD Cert.WkvFwdRefIdeal.τ).loc Cert.WkvFwdRefIdeal.main_arg5))).1 = (fun _ => 1#1)
    ∧ (Cert.Pre_positive_decay.fn (F := Ideal) (m ((c.tc : Thread Cert.WkvFwdRefIdeal.nD Cert.WkvFwdRefIdeal.τ).loc Cert.WkvFwdRefIdeal.main_arg0)) (m ((c.tc : Thread Cert.WkvFwdRefIdeal.nD Cert.WkvFwdRefIdeal.τ).loc Cert.WkvFwdRefIdeal.main_arg1)) (m ((c.tc : Thread Cert.WkvFwdRefIdeal.nD Cert.WkvFwdRefIdeal.τ).loc Cert.WkvFwdRefIdeal.main_arg2)) (m ((c.tc : Thread Cert.WkvFwdRefIdeal.nD Cert.WkvFwdRefIdeal.τ).loc Cert.WkvFwdRefIdeal.main_arg3)) (m ((c.tc : Thread Cert.WkvFwdRefIdeal.nD Cert.WkvFwdRefIdeal.τ).loc Cert.WkvFwdRefIdeal.main_arg4)) (m ((c.tc : Thread Cert.WkvFwdRefIdeal.nD Cert.WkvFwdRefIdeal.τ).loc Cert.WkvFwdRefIdeal.main_arg5))).2.1 = (fun _ => 1#1)
    ∧ (Cert.Pre_positive_decay.fn (F := Ideal) (m ((c.tc : Thread Cert.WkvFwdRefIdeal.nD Cert.WkvFwdRefIdeal.τ).loc Cert.WkvFwdRefIdeal.main_arg0)) (m ((c.tc : Thread Cert.WkvFwdRefIdeal.nD Cert.WkvFwdRefIdeal.τ).loc Cert.WkvFwdRefIdeal.main_arg1)) (m ((c.tc : Thread Cert.WkvFwdRefIdeal.nD Cert.WkvFwdRefIdeal.τ).loc Cert.WkvFwdRefIdeal.main_arg2)) (m ((c.tc : Thread Cert.WkvFwdRefIdeal.nD Cert.WkvFwdRefIdeal.τ).loc Cert.WkvFwdRefIdeal.main_arg3)) (m ((c.tc : Thread Cert.WkvFwdRefIdeal.nD Cert.WkvFwdRefIdeal.τ).loc Cert.WkvFwdRefIdeal.main_arg4)) (m ((c.tc : Thread Cert.WkvFwdRefIdeal.nD Cert.WkvFwdRefIdeal.τ).loc Cert.WkvFwdRefIdeal.main_arg5))).2.2.1 = (fun _ => 1#1)
    ∧ (Cert.Pre_positive_decay.fn (F := Ideal) (m ((c.tc : Thread Cert.WkvFwdRefIdeal.nD Cert.WkvFwdRefIdeal.τ).loc Cert.WkvFwdRefIdeal.main_arg0)) (m ((c.tc : Thread Cert.WkvFwdRefIdeal.nD Cert.WkvFwdRefIdeal.τ).loc Cert.WkvFwdRefIdeal.main_arg1)) (m ((c.tc : Thread Cert.WkvFwdRefIdeal.nD Cert.WkvFwdRefIdeal.τ).loc Cert.WkvFwdRefIdeal.main_arg2)) (m ((c.tc : Thread Cert.WkvFwdRefIdeal.nD Cert.WkvFwdRefIdeal.τ).loc Cert.WkvFwdRefIdeal.main_arg3)) (m ((c.tc : Thread Cert.WkvFwdRefIdeal.nD Cert.WkvFwdRefIdeal.τ).loc Cert.WkvFwdRefIdeal.main_arg4)) (m ((c.tc : Thread Cert.WkvFwdRefIdeal.nD Cert.WkvFwdRefIdeal.τ).loc Cert.WkvFwdRefIdeal.main_arg5))).2.2.2.1 = (fun _ => 1#1)
    ∧ (Cert.Pre_positive_decay.fn (F := Ideal) (m ((c.tc : Thread Cert.WkvFwdRefIdeal.nD Cert.WkvFwdRefIdeal.τ).loc Cert.WkvFwdRefIdeal.main_arg0)) (m ((c.tc : Thread Cert.WkvFwdRefIdeal.nD Cert.WkvFwdRefIdeal.τ).loc Cert.WkvFwdRefIdeal.main_arg1)) (m ((c.tc : Thread Cert.WkvFwdRefIdeal.nD Cert.WkvFwdRefIdeal.τ).loc Cert.WkvFwdRefIdeal.main_arg2)) (m ((c.tc : Thread Cert.WkvFwdRefIdeal.nD Cert.WkvFwdRefIdeal.τ).loc Cert.WkvFwdRefIdeal.main_arg3)) (m ((c.tc : Thread Cert.WkvFwdRefIdeal.nD Cert.WkvFwdRefIdeal.τ).loc Cert.WkvFwdRefIdeal.main_arg4)) (m ((c.tc : Thread Cert.WkvFwdRefIdeal.nD Cert.WkvFwdRefIdeal.τ).loc Cert.WkvFwdRefIdeal.main_arg5))).2.2.2.2.1 = (fun _ => 1#1)
    ∧ (Cert.Pre_positive_decay.fn (F := Ideal) (m ((c.tc : Thread Cert.WkvFwdRefIdeal.nD Cert.WkvFwdRefIdeal.τ).loc Cert.WkvFwdRefIdeal.main_arg0)) (m ((c.tc : Thread Cert.WkvFwdRefIdeal.nD Cert.WkvFwdRefIdeal.τ).loc Cert.WkvFwdRefIdeal.main_arg1)) (m ((c.tc : Thread Cert.WkvFwdRefIdeal.nD Cert.WkvFwdRefIdeal.τ).loc Cert.WkvFwdRefIdeal.main_arg2)) (m ((c.tc : Thread Cert.WkvFwdRefIdeal.nD Cert.WkvFwdRefIdeal.τ).loc Cert.WkvFwdRefIdeal.main_arg3)) (m ((c.tc : Thread Cert.WkvFwdRefIdeal.nD Cert.WkvFwdRefIdeal.τ).loc Cert.WkvFwdRefIdeal.main_arg4)) (m ((c.tc : Thread Cert.WkvFwdRefIdeal.nD Cert.WkvFwdRefIdeal.τ).loc Cert.WkvFwdRefIdeal.main_arg5))).2.2.2.2.2.1 = (fun _ => 1#1)
    ∧ (Cert.Pre_positive_decay.fn (F := Ideal) (m ((c.tc : Thread Cert.WkvFwdRefIdeal.nD Cert.WkvFwdRefIdeal.τ).loc Cert.WkvFwdRefIdeal.main_arg0)) (m ((c.tc : Thread Cert.WkvFwdRefIdeal.nD Cert.WkvFwdRefIdeal.τ).loc Cert.WkvFwdRefIdeal.main_arg1)) (m ((c.tc : Thread Cert.WkvFwdRefIdeal.nD Cert.WkvFwdRefIdeal.τ).loc Cert.WkvFwdRefIdeal.main_arg2)) (m ((c.tc : Thread Cert.WkvFwdRefIdeal.nD Cert.WkvFwdRefIdeal.τ).loc Cert.WkvFwdRefIdeal.main_arg3)) (m ((c.tc : Thread Cert.WkvFwdRefIdeal.nD Cert.WkvFwdRefIdeal.τ).loc Cert.WkvFwdRefIdeal.main_arg4)) (m ((c.tc : Thread Cert.WkvFwdRefIdeal.nD Cert.WkvFwdRefIdeal.τ).loc Cert.WkvFwdRefIdeal.main_arg5))).2.2.2.2.2.2 = (fun _ => 1#1)

def Pre_S5PostFwd (m : (ℓ : Loc Cert.S5PostFwd.nD Cert.S5PostFwd.τ Cert.S5PostFwd.sig) → Buf (Elt Bits) ℓ) : Prop :=
  True

def Pre_S5PostFwdIdeal (m : (ℓ : Loc Cert.S5PostFwdIdeal.nD Cert.S5PostFwdIdeal.τ Cert.S5PostFwdIdeal.sig) → Buf (Elt Ideal) ℓ) : Prop :=
  True

def Pre_S5PostFwdRefIdeal (m : (ℓ : Loc Cert.S5PostFwdRefIdeal.nD Cert.S5PostFwdRefIdeal.τ Cert.S5PostFwdRefIdeal.sig) → Buf (Elt Ideal) ℓ) : Prop :=
  True

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InprojFwdRefIdeal (m : (ℓ : Loc Cert.InprojFwdRefIdeal.nD Cert.InprojFwdRefIdeal.τ Cert.InprojFwdRefIdeal.sig) → Buf (Elt Ideal) ℓ) : Prop :=
  True

def Pre_MixffnFwd (m : (ℓ : Loc Cert.MixffnFwd.nD Cert.MixffnFwd.τ Cert.MixffnFwd.sig) → Buf (Elt Bits) ℓ) : Prop :=
  True

def Pre_MixffnFwdIdeal (m : (ℓ : Loc Cert.MixffnFwdIdeal.nD Cert.MixffnFwdIdeal.τ Cert.MixffnFwdIdeal.sig) → Buf (Elt Ideal) ℓ) : Prop :=
  True

def Pre_MixffnFwdRefIdeal (m : (ℓ : Loc Cert.MixffnFwdRefIdeal.nD Cert.MixffnFwdRefIdeal.τ Cert.MixffnFwdRefIdeal.sig) → Buf (Elt Ideal) ℓ) : Prop :=
  True

def Pre_RwPostFwd (m : (ℓ : Loc Cert.RwPostFwd.nD Cert.RwPostFwd.τ Cert.RwPostFwd.sig) → Buf (Elt Bits) ℓ) : Prop :=
  True

def Pre_RwPostFwdIdeal (m : (ℓ : Loc Cert.RwPostFwdIdeal.nD Cert.RwPostFwdIdeal.τ Cert.RwPostFwdIdeal.sig) → Buf (Elt Ideal) ℓ) : Prop :=
  True

def Pre_RwPostFwdIdeal_finite_rwpostfwd [hPre_finite_rwpostfwd : Cert.Pre_finite_rwpostfwd.Facts] (m : (ℓ : Loc Cert.RwPostFwdIdeal.nD Cert.RwPostFwdIdeal.τ Cert.RwPostFwdIdeal.sig) → Buf (Elt Ideal) ℓ) : Prop :=
  ∀ c : Dev Cert.RwPostFwdIdeal.nD,
    (Cert.Pre_finite_rwpostfwd.fn (F := Ideal) (m ((c.tc : Thread Cert.RwPostFwdIdeal.nD Cert.RwPostFwdIdeal.τ).loc Cert.RwPostFwdIdeal.main_arg0)) (m ((c.tc : Thread Cert.RwPostFwdIdeal.nD Cert.RwPostFwdIdeal.τ).loc Cert.RwPostFwdIdeal.main_arg1)) (m ((c.tc : Thread Cert.RwPostFwdIdeal.nD Cert.RwPostFwdIdeal.τ).loc Cert.RwPostFwdIdeal.main_arg2)) (m ((c.tc : Thread Cert.RwPostFwdIdeal.nD Cert.RwPostFwdIdeal.τ).loc Cert.RwPostFwdIdeal.main_arg3)) (m ((c.tc : Thread Cert.RwPostFwdIdeal.nD Cert.RwPostFwdIdeal.τ).loc Cert.RwPostFwdIdeal.main_arg4)) (m ((c.tc : Thread Cert.RwPostFwdIdeal.nD Cert.RwPostFwdIdeal.τ).loc Cert.RwPostFwdIdeal.main_arg5)) (m ((c.tc : Thread Cert.RwPostFwdIdeal.nD Cert.RwPostFwdIdeal.τ).loc Cert.RwPostFwdIdeal.main_arg6)) (m ((c.tc : Thread Cert.RwPostFwdIdeal.nD Cert.RwPostFwdIdeal.τ).loc Cert.RwPostFwdIdeal.main_arg7))).1 = (fun _ => 1#1)
    ∧ (Cert.Pre_finite_rwpostfwd.fn (F := Ideal) (m ((c.tc : Thread Cert.RwPostFwdIdeal.nD Cert.RwPostFwdIdeal.τ).loc Cert.RwPostFwdIdeal.main_arg0)) (m ((c.tc : Thread Cert.RwPostFwdIdeal.nD Cert.RwPostFwdIdeal.τ).loc Cert.RwPostFwdIdeal.main_arg1)) (m ((c.tc : Thread Cert.RwPostFwdIdeal.nD Cert.RwPostFwdIdeal.τ).loc Cert.RwPostFwdIdeal.main_arg2)) (m ((c.tc : Thread Cert.RwPostFwdIdeal.nD Cert.RwPostFwdIdeal.τ).loc Cert.RwPostFwdIdeal.main_arg3)) (m ((c.tc : Thread Cert.RwPostFwdIdeal.nD Cert.RwPostFwdIdeal.τ).loc Cert.RwPostFwdIdeal.main_arg4)) (m ((c.tc : Thread Cert.RwPostFwdIdeal.nD Cert.RwPostFwdIdeal.τ).loc Cert.RwPostFwdIdeal.main_arg5)) (m ((c.tc : Thread Cert.RwPostFwdIdeal.nD Cert.RwPostFwdIdeal.τ).loc Cert.RwPostFwdIdeal.main_arg6)) (m ((c.tc : Thread Cert.RwPostFwdIdeal.nD Cert.RwPostFwdIdeal.τ).loc Cert.RwPostFwdIdeal.main_arg7))).2.1 = (fun _ => 1#1)
    ∧ (Cert.Pre_finite_rwpostfwd.fn (F := Ideal) (m ((c.tc : Thread Cert.RwPostFwdIdeal.nD Cert.RwPostFwdIdeal.τ).loc Cert.RwPostFwdIdeal.main_arg0)) (m ((c.tc : Thread Cert.RwPostFwdIdeal.nD Cert.RwPostFwdIdeal.τ).loc Cert.RwPostFwdIdeal.main_arg1)) (m ((c.tc : Thread Cert.RwPostFwdIdeal.nD Cert.RwPostFwdIdeal.τ).loc Cert.RwPostFwdIdeal.main_arg2)) (m ((c.tc : Thread Cert.RwPostFwdIdeal.nD Cert.RwPostFwdIdeal.τ).loc Cert.RwPostFwdIdeal.main_arg3)) (m ((c.tc : Thread Cert.RwPostFwdIdeal.nD Cert.RwPostFwdIdeal.τ).loc Cert.RwPostFwdIdeal.main_arg4)) (m ((c.tc : Thread Cert.RwPostFwdIdeal.nD Cert.RwPostFwdIdeal.τ).loc Cert.RwPostFwdIdeal.main_arg5)) (m ((c.tc : Thread Cert.RwPostFwdIdeal.nD Cert.RwPostFwdIdeal.τ).loc Cert.RwPostFwdIdeal.main_arg6)) (m ((c.tc : Thread Cert.RwPostFwdIdeal.nD Cert.RwPostFwdIdeal.τ).loc Cert.RwPostFwdIdeal.main_arg7))).2.2.1 = (fun _ => 1#1)
    ∧ (Cert.Pre_finite_rwpostfwd.fn (F := Ideal) (m ((c.tc : Thread Cert.RwPostFwdIdeal.nD Cert.RwPostFwdIdeal.τ).loc Cert.RwPostFwdIdeal.main_arg0)) (m ((c.tc : Thread Cert.RwPostFwdIdeal.nD Cert.RwPostFwdIdeal.τ).loc Cert.RwPostFwdIdeal.main_arg1)) (m ((c.tc : Thread Cert.RwPostFwdIdeal.nD Cert.RwPostFwdIdeal.τ).loc Cert.RwPostFwdIdeal.main_arg2)) (m ((c.tc : Thread Cert.RwPostFwdIdeal.nD Cert.RwPostFwdIdeal.τ).loc Cert.RwPostFwdIdeal.main_arg3)) (m ((c.tc : Thread Cert.RwPostFwdIdeal.nD Cert.RwPostFwdIdeal.τ).loc Cert.RwPostFwdIdeal.main_arg4)) (m ((c.tc : Thread Cert.RwPostFwdIdeal.nD Cert.RwPostFwdIdeal.τ).loc Cert.RwPostFwdIdeal.main_arg5)) (m ((c.tc : Thread Cert.RwPostFwdIdeal.nD Cert.RwPostFwdIdeal.τ).loc Cert.RwPostFwdIdeal.main_arg6)) (m ((c.tc : Thread Cert.RwPostFwdIdeal.nD Cert.RwPostFwdIdeal.τ).loc Cert.RwPostFwdIdeal.main_arg7))).2.2.2.1 = (fun _ => 1#1)
    ∧ (Cert.Pre_finite_rwpostfwd.fn (F := Ideal) (m ((c.tc : Thread Cert.RwPostFwdIdeal.nD Cert.RwPostFwdIdeal.τ).loc Cert.RwPostFwdIdeal.main_arg0)) (m ((c.tc : Thread Cert.RwPostFwdIdeal.nD Cert.RwPostFwdIdeal.τ).loc Cert.RwPostFwdIdeal.main_arg1)) (m ((c.tc : Thread Cert.RwPostFwdIdeal.nD Cert.RwPostFwdIdeal.τ).loc Cert.RwPostFwdIdeal.main_arg2)) (m ((c.tc : Thread Cert.RwPostFwdIdeal.nD Cert.RwPostFwdIdeal.τ).loc Cert.RwPostFwdIdeal.main_arg3)) (m ((c.tc : Thread Cert.RwPostFwdIdeal.nD Cert.RwPostFwdIdeal.τ).loc Cert.RwPostFwdIdeal.main_arg4)) (m ((c.tc : Thread Cert.RwPostFwdIdeal.nD Cert.RwPostFwdIdeal.τ).loc Cert.RwPostFwdIdeal.main_arg5)) (m ((c.tc : Thread Cert.RwPostFwdIdeal.nD Cert.RwPostFwdIdeal.τ).loc Cert.RwPostFwdIdeal.main_arg6)) (m ((c.tc : Thread Cert.RwPostFwdIdeal.nD Cert.RwPostFwdIdeal.τ).loc Cert.RwPostFwdIdeal.main_arg7))).2.2.2.2.1 = (fun _ => 1#1)
    ∧ (Cert.Pre_finite_rwpostfwd.fn (F := Ideal) (m ((c.tc : Thread Cert.RwPostFwdIdeal.nD Cert.RwPostFwdIdeal.τ).loc Cert.RwPostFwdIdeal.main_arg0)) (m ((c.tc : Thread Cert.RwPostFwdIdeal.nD Cert.RwPostFwdIdeal.τ).loc Cert.RwPostFwdIdeal.main_arg1)) (m ((c.tc : Thread Cert.RwPostFwdIdeal.nD Cert.RwPostFwdIdeal.τ).loc Cert.RwPostFwdIdeal.main_arg2)) (m ((c.tc : Thread Cert.RwPostFwdIdeal.nD Cert.RwPostFwdIdeal.τ).loc Cert.RwPostFwdIdeal.main_arg3)) (m ((c.tc : Thread Cert.RwPostFwdIdeal.nD Cert.RwPostFwdIdeal.τ).loc Cert.RwPostFwdIdeal.main_arg4)) (m ((c.tc : Thread Cert.RwPostFwdIdeal.nD Cert.RwPostFwdIdeal.τ).loc Cert.RwPostFwdIdeal.main_arg5)) (m ((c.tc : Thread Cert.RwPostFwdIdeal.nD Cert.RwPostFwdIdeal.τ).loc Cert.RwPostFwdIdeal.main_arg6)) (m ((c.tc : Thread Cert.RwPostFwdIdeal.nD Cert.RwPostFwdIdeal.τ).loc Cert.RwPostFwdIdeal.main_arg7))).2.2.2.2.2.1 = (fun _ => 1#1)
    ∧ (Cert.Pre_finite_rwpostfwd.fn (F := Ideal) (m ((c.tc : Thread Cert.RwPostFwdIdeal.nD Cert.RwPostFwdIdeal.τ).loc Cert.RwPostFwdIdeal.main_arg0)) (m ((c.tc : Thread Cert.RwPostFwdIdeal.nD Cert.RwPostFwdIdeal.τ).loc Cert.RwPostFwdIdeal.main_arg1)) (m ((c.tc : Thread Cert.RwPostFwdIdeal.nD Cert.RwPostFwdIdeal.τ).loc Cert.RwPostFwdIdeal.main_arg2)) (m ((c.tc : Thread Cert.RwPostFwdIdeal.nD Cert.RwPostFwdIdeal.τ).loc Cert.RwPostFwdIdeal.main_arg3)) (m ((c.tc : Thread Cert.RwPostFwdIdeal.nD Cert.RwPostFwdIdeal.τ).loc Cert.RwPostFwdIdeal.main_arg4)) (m ((c.tc : Thread Cert.RwPostFwdIdeal.nD Cert.RwPostFwdIdeal.τ).loc Cert.RwPostFwdIdeal.main_arg5)) (m ((c.tc : Thread Cert.RwPostFwdIdeal.nD Cert.RwPostFwdIdeal.τ).loc Cert.RwPostFwdIdeal.main_arg6)) (m ((c.tc : Thread Cert.RwPostFwdIdeal.nD Cert.RwPostFwdIdeal.τ).loc Cert.RwPostFwdIdeal.main_arg7))).2.2.2.2.2.2.1 = (fun _ => 1#1)
    ∧ (Cert.Pre_finite_rwpostfwd.fn (F := Ideal) (m ((c.tc : Thread Cert.RwPostFwdIdeal.nD Cert.RwPostFwdIdeal.τ).loc Cert.RwPostFwdIdeal.main_arg0)) (m ((c.tc : Thread Cert.RwPostFwdIdeal.nD Cert.RwPostFwdIdeal.τ).loc Cert.RwPostFwdIdeal.main_arg1)) (m ((c.tc : Thread Cert.RwPostFwdIdeal.nD Cert.RwPostFwdIdeal.τ).loc Cert.RwPostFwdIdeal.main_arg2)) (m ((c.tc : Thread Cert.RwPostFwdIdeal.nD Cert.RwPostFwdIdeal.τ).loc Cert.RwPostFwdIdeal.main_arg3)) (m ((c.tc : Thread Cert.RwPostFwdIdeal.nD Cert.RwPostFwdIdeal.τ).loc Cert.RwPostFwdIdeal.main_arg4)) (m ((c.tc : Thread Cert.RwPostFwdIdeal.nD Cert.RwPostFwdIdeal.τ).loc Cert.RwPostFwdIdeal.main_arg5)) (m ((c.tc : Thread Cert.RwPostFwdIdeal.nD Cert.RwPostFwdIdeal.τ).loc Cert.RwPostFwdIdeal.main_arg6)) (m ((c.tc : Thread Cert.RwPostFwdIdeal.nD Cert.RwPostFwdIdeal.τ).loc Cert.RwPostFwdIdeal.main_arg7))).2.2.2.2.2.2.2 = (fun _ => 1#1)

def Pre_RwPostFwdRefIdeal (m : (ℓ : Loc Cert.RwPostFwdRefIdeal.nD Cert.RwPostFwdRefIdeal.τ Cert.RwPostFwdRefIdeal.sig) → Buf (Elt Ideal) ℓ) : Prop :=
  True

def Pre_RwPostFwdRefIdeal_finite_rwpostfwd [hPre_finite_rwpostfwd : Cert.Pre_finite_rwpostfwd.Facts] (m : (ℓ : Loc Cert.RwPostFwdRefIdeal.nD Cert.RwPostFwdRefIdeal.τ Cert.RwPostFwdRefIdeal.sig) → Buf (Elt Ideal) ℓ) : Prop :=
  ∀ c : Dev Cert.RwPostFwdRefIdeal.nD,
    (Cert.Pre_finite_rwpostfwd.fn (F := Ideal) (m ((c.tc : Thread Cert.RwPostFwdRefIdeal.nD Cert.RwPostFwdRefIdeal.τ).loc Cert.RwPostFwdRefIdeal.main_arg0)) (m ((c.tc : Thread Cert.RwPostFwdRefIdeal.nD Cert.RwPostFwdRefIdeal.τ).loc Cert.RwPostFwdRefIdeal.main_arg1)) (m ((c.tc : Thread Cert.RwPostFwdRefIdeal.nD Cert.RwPostFwdRefIdeal.τ).loc Cert.RwPostFwdRefIdeal.main_arg2)) (m ((c.tc : Thread Cert.RwPostFwdRefIdeal.nD Cert.RwPostFwdRefIdeal.τ).loc Cert.RwPostFwdRefIdeal.main_arg3)) (m ((c.tc : Thread Cert.RwPostFwdRefIdeal.nD Cert.RwPostFwdRefIdeal.τ).loc Cert.RwPostFwdRefIdeal.main_arg4)) (m ((c.tc : Thread Cert.RwPostFwdRefIdeal.nD Cert.RwPostFwdRefIdeal.τ).loc Cert.RwPostFwdRefIdeal.main_arg5)) (m ((c.tc : Thread Cert.RwPostFwdRefIdeal.nD Cert.RwPostFwdRefIdeal.τ).loc Cert.RwPostFwdRefIdeal.main_arg6)) (m ((c.tc : Thread Cert.RwPostFwdRefIdeal.nD Cert.RwPostFwdRefIdeal.τ).loc Cert.RwPostFwdRefIdeal.main_arg7))).1 = (fun _ => 1#1)
    ∧ (Cert.Pre_finite_rwpostfwd.fn (F := Ideal) (m ((c.tc : Thread Cert.RwPostFwdRefIdeal.nD Cert.RwPostFwdRefIdeal.τ).loc Cert.RwPostFwdRefIdeal.main_arg0)) (m ((c.tc : Thread Cert.RwPostFwdRefIdeal.nD Cert.RwPostFwdRefIdeal.τ).loc Cert.RwPostFwdRefIdeal.main_arg1)) (m ((c.tc : Thread Cert.RwPostFwdRefIdeal.nD Cert.RwPostFwdRefIdeal.τ).loc Cert.RwPostFwdRefIdeal.main_arg2)) (m ((c.tc : Thread Cert.RwPostFwdRefIdeal.nD Cert.RwPostFwdRefIdeal.τ).loc Cert.RwPostFwdRefIdeal.main_arg3)) (m ((c.tc : Thread Cert.RwPostFwdRefIdeal.nD Cert.RwPostFwdRefIdeal.τ).loc Cert.RwPostFwdRefIdeal.main_arg4)) (m ((c.tc : Thread Cert.RwPostFwdRefIdeal.nD Cert.RwPostFwdRefIdeal.τ).loc Cert.RwPostFwdRefIdeal.main_arg5)) (m ((c.tc : Thread Cert.RwPostFwdRefIdeal.nD Cert.RwPostFwdRefIdeal.τ).loc Cert.RwPostFwdRefIdeal.main_arg6)) (m ((c.tc : Thread Cert.RwPostFwdRefIdeal.nD Cert.RwPostFwdRefIdeal.τ).loc Cert.RwPostFwdRefIdeal.main_arg7))).2.1 = (fun _ => 1#1)
    ∧ (Cert.Pre_finite_rwpostfwd.fn (F := Ideal) (m ((c.tc : Thread Cert.RwPostFwdRefIdeal.nD Cert.RwPostFwdRefIdeal.τ).loc Cert.RwPostFwdRefIdeal.main_arg0)) (m ((c.tc : Thread Cert.RwPostFwdRefIdeal.nD Cert.RwPostFwdRefIdeal.τ).loc Cert.RwPostFwdRefIdeal.main_arg1)) (m ((c.tc : Thread Cert.RwPostFwdRefIdeal.nD Cert.RwPostFwdRefIdeal.τ).loc Cert.RwPostFwdRefIdeal.main_arg2)) (m ((c.tc : Thread Cert.RwPostFwdRefIdeal.nD Cert.RwPostFwdRefIdeal.τ).loc Cert.RwPostFwdRefIdeal.main_arg3)) (m ((c.tc : Thread Cert.RwPostFwdRefIdeal.nD Cert.RwPostFwdRefIdeal.τ).loc Cert.RwPostFwdRefIdeal.main_arg4)) (m ((c.tc : Thread Cert.RwPostFwdRefIdeal.nD Cert.RwPostFwdRefIdeal.τ).loc Cert.RwPostFwdRefIdeal.main_arg5)) (m ((c.tc : Thread Cert.RwPostFwdRefIdeal.nD Cert.RwPostFwdRefIdeal.τ).loc Cert.RwPostFwdRefIdeal.main_arg6)) (m ((c.tc : Thread Cert.RwPostFwdRefIdeal.nD Cert.RwPostFwdRefIdeal.τ).loc Cert.RwPostFwdRefIdeal.main_arg7))).2.2.1 = (fun _ => 1#1)
    ∧ (Cert.Pre_finite_rwpostfwd.fn (F := Ideal) (m ((c.tc : Thread Cert.RwPostFwdRefIdeal.nD Cert.RwPostFwdRefIdeal.τ).loc Cert.RwPostFwdRefIdeal.main_arg0)) (m ((c.tc : Thread Cert.RwPostFwdRefIdeal.nD Cert.RwPostFwdRefIdeal.τ).loc Cert.RwPostFwdRefIdeal.main_arg1)) (m ((c.tc : Thread Cert.RwPostFwdRefIdeal.nD Cert.RwPostFwdRefIdeal.τ).loc Cert.RwPostFwdRefIdeal.main_arg2)) (m ((c.tc : Thread Cert.RwPostFwdRefIdeal.nD Cert.RwPostFwdRefIdeal.τ).loc Cert.RwPostFwdRefIdeal.main_arg3)) (m ((c.tc : Thread Cert.RwPostFwdRefIdeal.nD Cert.RwPostFwdRefIdeal.τ).loc Cert.RwPostFwdRefIdeal.main_arg4)) (m ((c.tc : Thread Cert.RwPostFwdRefIdeal.nD Cert.RwPostFwdRefIdeal.τ).loc Cert.RwPostFwdRefIdeal.main_arg5)) (m ((c.tc : Thread Cert.RwPostFwdRefIdeal.nD Cert.RwPostFwdRefIdeal.τ).loc Cert.RwPostFwdRefIdeal.main_arg6)) (m ((c.tc : Thread Cert.RwPostFwdRefIdeal.nD Cert.RwPostFwdRefIdeal.τ).loc Cert.RwPostFwdRefIdeal.main_arg7))).2.2.2.1 = (fun _ => 1#1)
    ∧ (Cert.Pre_finite_rwpostfwd.fn (F := Ideal) (m ((c.tc : Thread Cert.RwPostFwdRefIdeal.nD Cert.RwPostFwdRefIdeal.τ).loc Cert.RwPostFwdRefIdeal.main_arg0)) (m ((c.tc : Thread Cert.RwPostFwdRefIdeal.nD Cert.RwPostFwdRefIdeal.τ).loc Cert.RwPostFwdRefIdeal.main_arg1)) (m ((c.tc : Thread Cert.RwPostFwdRefIdeal.nD Cert.RwPostFwdRefIdeal.τ).loc Cert.RwPostFwdRefIdeal.main_arg2)) (m ((c.tc : Thread Cert.RwPostFwdRefIdeal.nD Cert.RwPostFwdRefIdeal.τ).loc Cert.RwPostFwdRefIdeal.main_arg3)) (m ((c.tc : Thread Cert.RwPostFwdRefIdeal.nD Cert.RwPostFwdRefIdeal.τ).loc Cert.RwPostFwdRefIdeal.main_arg4)) (m ((c.tc : Thread Cert.RwPostFwdRefIdeal.nD Cert.RwPostFwdRefIdeal.τ).loc Cert.RwPostFwdRefIdeal.main_arg5)) (m ((c.tc : Thread Cert.RwPostFwdRefIdeal.nD Cert.RwPostFwdRefIdeal.τ).loc Cert.RwPostFwdRefIdeal.main_arg6)) (m ((c.tc : Thread Cert.RwPostFwdRefIdeal.nD Cert.RwPostFwdRefIdeal.τ).loc Cert.RwPostFwdRefIdeal.main_arg7))).2.2.2.2.1 = (fun _ => 1#1)
    ∧ (Cert.Pre_finite_rwpostfwd.fn (F := Ideal) (m ((c.tc : Thread Cert.RwPostFwdRefIdeal.nD Cert.RwPostFwdRefIdeal.τ).loc Cert.RwPostFwdRefIdeal.main_arg0)) (m ((c.tc : Thread Cert.RwPostFwdRefIdeal.nD Cert.RwPostFwdRefIdeal.τ).loc Cert.RwPostFwdRefIdeal.main_arg1)) (m ((c.tc : Thread Cert.RwPostFwdRefIdeal.nD Cert.RwPostFwdRefIdeal.τ).loc Cert.RwPostFwdRefIdeal.main_arg2)) (m ((c.tc : Thread Cert.RwPostFwdRefIdeal.nD Cert.RwPostFwdRefIdeal.τ).loc Cert.RwPostFwdRefIdeal.main_arg3)) (m ((c.tc : Thread Cert.RwPostFwdRefIdeal.nD Cert.RwPostFwdRefIdeal.τ).loc Cert.RwPostFwdRefIdeal.main_arg4)) (m ((c.tc : Thread Cert.RwPostFwdRefIdeal.nD Cert.RwPostFwdRefIdeal.τ).loc Cert.RwPostFwdRefIdeal.main_arg5)) (m ((c.tc : Thread Cert.RwPostFwdRefIdeal.nD Cert.RwPostFwdRefIdeal.τ).loc Cert.RwPostFwdRefIdeal.main_arg6)) (m ((c.tc : Thread Cert.RwPostFwdRefIdeal.nD Cert.RwPostFwdRefIdeal.τ).loc Cert.RwPostFwdRefIdeal.main_arg7))).2.2.2.2.2.1 = (fun _ => 1#1)
    ∧ (Cert.Pre_finite_rwpostfwd.fn (F := Ideal) (m ((c.tc : Thread Cert.RwPostFwdRefIdeal.nD Cert.RwPostFwdRefIdeal.τ).loc Cert.RwPostFwdRefIdeal.main_arg0)) (m ((c.tc : Thread Cert.RwPostFwdRefIdeal.nD Cert.RwPostFwdRefIdeal.τ).loc Cert.RwPostFwdRefIdeal.main_arg1)) (m ((c.tc : Thread Cert.RwPostFwdRefIdeal.nD Cert.RwPostFwdRefIdeal.τ).loc Cert.RwPostFwdRefIdeal.main_arg2)) (m ((c.tc : Thread Cert.RwPostFwdRefIdeal.nD Cert.RwPostFwdRefIdeal.τ).loc Cert.RwPostFwdRefIdeal.main_arg3)) (m ((c.tc : Thread Cert.RwPostFwdRefIdeal.nD Cert.RwPostFwdRefIdeal.τ).loc Cert.RwPostFwdRefIdeal.main_arg4)) (m ((c.tc : Thread Cert.RwPostFwdRefIdeal.nD Cert.RwPostFwdRefIdeal.τ).loc Cert.RwPostFwdRefIdeal.main_arg5)) (m ((c.tc : Thread Cert.RwPostFwdRefIdeal.nD Cert.RwPostFwdRefIdeal.τ).loc Cert.RwPostFwdRefIdeal.main_arg6)) (m ((c.tc : Thread Cert.RwPostFwdRefIdeal.nD Cert.RwPostFwdRefIdeal.τ).loc Cert.RwPostFwdRefIdeal.main_arg7))).2.2.2.2.2.2.1 = (fun _ => 1#1)
    ∧ (Cert.Pre_finite_rwpostfwd.fn (F := Ideal) (m ((c.tc : Thread Cert.RwPostFwdRefIdeal.nD Cert.RwPostFwdRefIdeal.τ).loc Cert.RwPostFwdRefIdeal.main_arg0)) (m ((c.tc : Thread Cert.RwPostFwdRefIdeal.nD Cert.RwPostFwdRefIdeal.τ).loc Cert.RwPostFwdRefIdeal.main_arg1)) (m ((c.tc : Thread Cert.RwPostFwdRefIdeal.nD Cert.RwPostFwdRefIdeal.τ).loc Cert.RwPostFwdRefIdeal.main_arg2)) (m ((c.tc : Thread Cert.RwPostFwdRefIdeal.nD Cert.RwPostFwdRefIdeal.τ).loc Cert.RwPostFwdRefIdeal.main_arg3)) (m ((c.tc : Thread Cert.RwPostFwdRefIdeal.nD Cert.RwPostFwdRefIdeal.τ).loc Cert.RwPostFwdRefIdeal.main_arg4)) (m ((c.tc : Thread Cert.RwPostFwdRefIdeal.nD Cert.RwPostFwdRefIdeal.τ).loc Cert.RwPostFwdRefIdeal.main_arg5)) (m ((c.tc : Thread Cert.RwPostFwdRefIdeal.nD Cert.RwPostFwdRefIdeal.τ).loc Cert.RwPostFwdRefIdeal.main_arg6)) (m ((c.tc : Thread Cert.RwPostFwdRefIdeal.nD Cert.RwPostFwdRefIdeal.τ).loc Cert.RwPostFwdRefIdeal.main_arg7))).2.2.2.2.2.2.2 = (fun _ => 1#1)

def Pre_S5ParamFwd (m : (ℓ : Loc Cert.S5ParamFwd.nD Cert.S5ParamFwd.τ Cert.S5ParamFwd.sig) → Buf (Elt Bits) ℓ) : Prop :=
  True

def Pre_S5ParamFwdIdeal (m : (ℓ : Loc Cert.S5ParamFwdIdeal.nD Cert.S5ParamFwdIdeal.τ Cert.S5ParamFwdIdeal.sig) → Buf (Elt Ideal) ℓ) : Prop :=
  True

def Pre_S5ParamFwdRefIdeal (m : (ℓ : Loc Cert.S5ParamFwdRefIdeal.nD Cert.S5ParamFwdRefIdeal.τ Cert.S5ParamFwdRefIdeal.sig) → Buf (Elt Ideal) ℓ) : Prop :=
  True

def Pre_WkvBwd (m : (ℓ : Loc Cert.WkvBwd.nD Cert.WkvBwd.τ Cert.WkvBwd.sig) → Buf (Elt Bits) ℓ) : Prop :=
  True

def Pre_WkvBwdIdeal (m : (ℓ : Loc Cert.WkvBwdIdeal.nD Cert.WkvBwdIdeal.τ Cert.WkvBwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_dzs [hKernelIdeal : Cert.KernelIdeal.Facts] [hPre_finite_dzs : Cert.Pre_finite_dzs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_dzs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_dzs [hReferenceIdeal : Cert.ReferenceIdeal.Facts] [hPre_finite_dzs : Cert.Pre_finite_dzs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_dzs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_S5Post [hS5Post : Cert.S5Post.Facts] : Prop :=
  ∀ (m : (ℓ : Loc Cert.S5Post.nD Cert.S5Post.τ Cert.S5Post.sig) → Buf (Elt Bits) ℓ) (g : Dev Cert.S5Post.nD → PrngReg), Pre_S5Post m →
    θ_run (Cert.S5Post.defs (F := Bits)) (onTc (τ := Cert.S5Post.τ) (Cert.S5Post.main (F := Bits))) ⟨m, fun _ => 0, g⟩ (fun r => (∀ c : Dev Cert.S5Post.nD,
      r.2.mem ((c.tc : Thread Cert.S5Post.nD Cert.S5Post.τ).loc Cert.S5Post.main_arg0) = m ((c.tc : Thread Cert.S5Post.nD Cert.S5Post.τ).loc Cert.S5Post.main_arg0)
      ∧ r.2.mem ((c.tc : Thread Cert.S5Post.nD Cert.S5Post.τ).loc Cert.S5Post.main_arg1) = m ((c.tc : Thread Cert.S5Post.nD Cert.S5Post.τ).loc Cert.S5Post.main_arg1)
      ∧ r.2.mem ((c.tc : Thread Cert.S5Post.nD Cert.S5Post.τ).loc Cert.S5Post.main_arg2) = m ((c.tc : Thread Cert.S5Post.nD Cert.S5Post.τ).loc Cert.S5Post.main_arg2)
      ∧ r.2.mem ((c.tc : Thread Cert.S5Post.nD Cert.S5Post.τ).loc Cert.S5Post.main_arg3) = m ((c.tc : Thread Cert.S5Post.nD Cert.S5Post.τ).loc Cert.S5Post.main_arg3)
      ∧ r.2.mem ((c.tc : Thread Cert.S5Post.nD Cert.S5Post.τ).loc Cert.S5Post.main_arg4) = m ((c.tc : Thread Cert.S5Post.nD Cert.S5Post.τ).loc Cert.S5Post.main_arg4))
      ∧ r.2.sem = fun _ => 0)

def quiescent_S5PostIdeal [hS5PostIdeal : Cert.S5PostIdeal.Facts] : Prop :=
  ∀ (m : (ℓ : Loc Cert.S5PostIdeal.nD Cert.S5PostIdeal.τ Cert.S5PostIdeal.sig) → Buf (Elt Ideal) ℓ) (g : Dev Cert.S5PostIdeal.nD → PrngReg), Pre_S5PostIdeal m →
    θ_run (Cert.S5PostIdeal.defs (F := Ideal)) (onTc (τ := Cert.S5PostIdeal.τ) (Cert.S5PostIdeal.main (F := Ideal))) ⟨m, fun _ => 0, g⟩ (fun r => (∀ c : Dev Cert.S5PostIdeal.nD,
      r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
      ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
      ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
      ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3)
      ∧ r.2.mem ((c.tc : Thread Cert.S5PostIdeal.nD Cert.S5PostIdeal.τ).loc Cert.S5PostIdeal.main_arg4) = m ((c.tc : Thread Cert.S5PostIdeal.nD Cert.S5PostIdeal.τ).loc Cert.S5PostIdeal.main_arg4))
      ∧ r.2.sem = fun _ => 0)

def quiescent_S5PostIdeal_pre_finite_s5post [hS5PostIdeal : Cert.S5PostIdeal.Facts] [hPre_finite_s5post : Cert.Pre_finite_s5post.Facts] : Prop :=
  ∀ (m : (ℓ : Loc Cert.S5PostIdeal.nD Cert.S5PostIdeal.τ Cert.S5PostIdeal.sig) → Buf (Elt Ideal) ℓ) (g : Dev Cert.S5PostIdeal.nD → PrngReg), Pre_S5PostIdeal_finite_s5post m →
    θ_run (Cert.S5PostIdeal.defs (F := Ideal)) (onTc (τ := Cert.S5PostIdeal.τ) (Cert.S5PostIdeal.main (F := Ideal))) ⟨m, fun _ => 0, g⟩ (fun r => (∀ c : Dev Cert.S5PostIdeal.nD,
      r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
      ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
      ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
      ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3)
      ∧ r.2.mem ((c.tc : Thread Cert.S5PostIdeal.nD Cert.S5PostIdeal.τ).loc Cert.S5PostIdeal.main_arg4) = m ((c.tc : Thread Cert.S5PostIdeal.nD Cert.S5PostIdeal.τ).loc Cert.S5PostIdeal.main_arg4))
      ∧ r.2.sem = fun _ => 0)

def quiescent_S5PostRefIdeal [hS5PostRefIdeal : Cert.S5PostRefIdeal.Facts] : Prop :=
  ∀ (m : (ℓ : Loc Cert.S5PostRefIdeal.nD Cert.S5PostRefIdeal.τ Cert.S5PostRefIdeal.sig) → Buf (Elt Ideal) ℓ) (g : Dev Cert.S5PostRefIdeal.nD → PrngReg), Pre_S5PostRefIdeal m →
    θ_run (Cert.S5PostRefIdeal.defs (F := Ideal)) (onTc (τ := Cert.S5PostRefIdeal.τ) (Cert.S5PostRefIdeal.main (F := Ideal))) ⟨m, fun _ => 0, g⟩ (fun r => (∀ c : Dev Cert.S5PostRefIdeal.nD,
      r.2.mem ((c.tc : Thread Cert.S5PostRefIdeal.nD Cert.S5PostRefIdeal.τ).loc Cert.S5PostRefIdeal.main_arg0) = m ((c.tc : Thread Cert.S5PostRefIdeal.nD Cert.S5PostRefIdeal.τ).loc Cert.S5PostRefIdeal.main_arg0)
      ∧ r.2.mem ((c.tc : Thread Cert.S5PostRefIdeal.nD Cert.S5PostRefIdeal.τ).loc Cert.S5PostRefIdeal.main_arg1) = m ((c.tc : Thread Cert.S5PostRefIdeal.nD Cert.S5PostRefIdeal.τ).loc Cert.S5PostRefIdeal.main_arg1)
      ∧ r.2.mem ((c.tc : Thread Cert.S5PostRefIdeal.nD Cert.S5PostRefIdeal.τ).loc Cert.S5PostRefIdeal.main_arg2) = m ((c.tc : Thread Cert.S5PostRefIdeal.nD Cert.S5PostRefIdeal.τ).loc Cert.S5PostRefIdeal.main_arg2)
      ∧ r.2.mem ((c.tc : Thread Cert.S5PostRefIdeal.nD Cert.S5PostRefIdeal.τ).loc Cert.S5PostRefIdeal.main_arg3) = m ((c.tc : Thread Cert.S5PostRefIdeal.nD Cert.S5PostRefIdeal.τ).loc Cert.S5PostRefIdeal.main_arg3)
      ∧ r.2.mem ((c.tc : Thread Cert.S5PostRefIdeal.nD Cert.S5PostRefIdeal.τ).loc Cert.S5PostRefIdeal.main_arg4) = m ((c.tc : Thread Cert.S5PostRefIdeal.nD Cert.S5PostRefIdeal.τ).loc Cert.S5PostRefIdeal.main_arg4))
      ∧ r.2.sem = fun _ => 0)

def quiescent_S5PostRefIdeal_pre_finite_s5post [hS5PostRefIdeal : Cert.S5PostRefIdeal.Facts] [hPre_finite_s5post : Cert.Pre_finite_s5post.Facts] : Prop :=
  ∀ (m : (ℓ : Loc Cert.S5PostRefIdeal.nD Cert.S5PostRefIdeal.τ Cert.S5PostRefIdeal.sig) → Buf (Elt Ideal) ℓ) (g : Dev Cert.S5PostRefIdeal.nD → PrngReg), Pre_S5PostRefIdeal_finite_s5post m →
    θ_run (Cert.S5PostRefIdeal.defs (F := Ideal)) (onTc (τ := Cert.S5PostRefIdeal.τ) (Cert.S5PostRefIdeal.main (F := Ideal))) ⟨m, fun _ => 0, g⟩ (fun r => (∀ c : Dev Cert.S5PostRefIdeal.nD,
      r.2.mem ((c.tc : Thread Cert.S5PostRefIdeal.nD Cert.S5PostRefIdeal.τ).loc Cert.S5PostRefIdeal.main_arg0) = m ((c.tc : Thread Cert.S5PostRefIdeal.nD Cert.S5PostRefIdeal.τ).loc Cert.S5PostRefIdeal.main_arg0)
      ∧ r.2.mem ((c.tc : Thread Cert.S5PostRefIdeal.nD Cert.S5PostRefIdeal.τ).loc Cert.S5PostRefIdeal.main_arg1) = m ((c.tc : Thread Cert.S5PostRefIdeal.nD Cert.S5PostRefIdeal.τ).loc Cert.S5PostRefIdeal.main_arg1)
      ∧ r.2.mem ((c.tc : Thread Cert.S5PostRefIdeal.nD Cert.S5PostRefIdeal.τ).loc Cert.S5PostRefIdeal.main_arg2) = m ((c.tc : Thread Cert.S5PostRefIdeal.nD Cert.S5PostRefIdeal.τ).loc Cert.S5PostRefIdeal.main_arg2)
      ∧ r.2.mem ((c.tc : Thread Cert.S5PostRefIdeal.nD Cert.S5PostRefIdeal.τ).loc Cert.S5PostRefIdeal.main_arg3) = m ((c.tc : Thread Cert.S5PostRefIdeal.nD Cert.S5PostRefIdeal.τ).loc Cert.S5PostRefIdeal.main_arg3)
      ∧ r.2.mem ((c.tc : Thread Cert.S5PostRefIdeal.nD Cert.S5PostRefIdeal.τ).loc Cert.S5PostRefIdeal.main_arg4) = m ((c.tc : Thread Cert.S5PostRefIdeal.nD Cert.S5PostRefIdeal.τ).loc Cert.S5PostRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_PleRefIdeal_pre_finite_ple [hPleRefIdeal : Cert.PleRefIdeal.Facts] [hPre_finite_ple : Cert.Pre_finite_ple.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite_ple m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_RwPost [hRwPost : Cert.RwPost.Facts] : Prop :=
  ∀ (m : (ℓ : Loc Cert.RwPost.nD Cert.RwPost.τ Cert.RwPost.sig) → Buf (Elt Bits) ℓ) (g : Dev Cert.RwPost.nD → PrngReg), Pre_RwPost m →
    θ_run (Cert.RwPost.defs (F := Bits)) (onTc (τ := Cert.RwPost.τ) (Cert.RwPost.main (F := Bits))) ⟨m, fun _ => 0, g⟩ (fun r => (∀ c : Dev Cert.RwPost.nD,
      r.2.mem ((c.tc : Thread Cert.RwPost.nD Cert.RwPost.τ).loc Cert.RwPost.main_arg0) = m ((c.tc : Thread Cert.RwPost.nD Cert.RwPost.τ).loc Cert.RwPost.main_arg0)
      ∧ r.2.mem ((c.tc : Thread Cert.RwPost.nD Cert.RwPost.τ).loc Cert.RwPost.main_arg1) = m ((c.tc : Thread Cert.RwPost.nD Cert.RwPost.τ).loc Cert.RwPost.main_arg1)
      ∧ r.2.mem ((c.tc : Thread Cert.RwPost.nD Cert.RwPost.τ).loc Cert.RwPost.main_arg2) = m ((c.tc : Thread Cert.RwPost.nD Cert.RwPost.τ).loc Cert.RwPost.main_arg2)
      ∧ r.2.mem ((c.tc : Thread Cert.RwPost.nD Cert.RwPost.τ).loc Cert.RwPost.main_arg3) = m ((c.tc : Thread Cert.RwPost.nD Cert.RwPost.τ).loc Cert.RwPost.main_arg3)
      ∧ r.2.mem ((c.tc : Thread Cert.RwPost.nD Cert.RwPost.τ).loc Cert.RwPost.main_arg4) = m ((c.tc : Thread Cert.RwPost.nD Cert.RwPost.τ).loc Cert.RwPost.main_arg4)
      ∧ r.2.mem ((c.tc : Thread Cert.RwPost.nD Cert.RwPost.τ).loc Cert.RwPost.main_arg5) = m ((c.tc : Thread Cert.RwPost.nD Cert.RwPost.τ).loc Cert.RwPost.main_arg5)
      ∧ r.2.mem ((c.tc : Thread Cert.RwPost.nD Cert.RwPost.τ).loc Cert.RwPost.main_arg6) = m ((c.tc : Thread Cert.RwPost.nD Cert.RwPost.τ).loc Cert.RwPost.main_arg6)
      ∧ r.2.mem ((c.tc : Thread Cert.RwPost.nD Cert.RwPost.τ).loc Cert.RwPost.main_arg7) = m ((c.tc : Thread Cert.RwPost.nD Cert.RwPost.τ).loc Cert.RwPost.main_arg7)
      ∧ r.2.mem ((c.tc : Thread Cert.RwPost.nD Cert.RwPost.τ).loc Cert.RwPost.main_arg8) = m ((c.tc : Thread Cert.RwPost.nD Cert.RwPost.τ).loc Cert.RwPost.main_arg8)
      ∧ r.2.mem ((c.tc : Thread Cert.RwPost.nD Cert.RwPost.τ).loc Cert.RwPost.main_arg9) = m ((c.tc : Thread Cert.RwPost.nD Cert.RwPost.τ).loc Cert.RwPost.main_arg9))
      ∧ r.2.sem = fun _ => 0)

def quiescent_RwPostIdeal [hRwPostIdeal : Cert.RwPostIdeal.Facts] : Prop :=
  ∀ (m : (ℓ : Loc Cert.RwPostIdeal.nD Cert.RwPostIdeal.τ Cert.RwPostIdeal.sig) → Buf (Elt Ideal) ℓ) (g : Dev Cert.RwPostIdeal.nD → PrngReg), Pre_RwPostIdeal m →
    θ_run (Cert.RwPostIdeal.defs (F := Ideal)) (onTc (τ := Cert.RwPostIdeal.τ) (Cert.RwPostIdeal.main (F := Ideal))) ⟨m, fun _ => 0, g⟩ (fun r => (∀ c : Dev Cert.RwPostIdeal.nD,
      r.2.mem ((c.tc : Thread Cert.RwPostIdeal.nD Cert.RwPostIdeal.τ).loc Cert.RwPostIdeal.main_arg0) = m ((c.tc : Thread Cert.RwPostIdeal.nD Cert.RwPostIdeal.τ).loc Cert.RwPostIdeal.main_arg0)
      ∧ r.2.mem ((c.tc : Thread Cert.RwPostIdeal.nD Cert.RwPostIdeal.τ).loc Cert.RwPostIdeal.main_arg1) = m ((c.tc : Thread Cert.RwPostIdeal.nD Cert.RwPostIdeal.τ).loc Cert.RwPostIdeal.main_arg1)
      ∧ r.2.mem ((c.tc : Thread Cert.RwPostIdeal.nD Cert.RwPostIdeal.τ).loc Cert.RwPostIdeal.main_arg2) = m ((c.tc : Thread Cert.RwPostIdeal.nD Cert.RwPostIdeal.τ).loc Cert.RwPostIdeal.main_arg2)
      ∧ r.2.mem ((c.tc : Thread Cert.RwPostIdeal.nD Cert.RwPostIdeal.τ).loc Cert.RwPostIdeal.main_arg3) = m ((c.tc : Thread Cert.RwPostIdeal.nD Cert.RwPostIdeal.τ).loc Cert.RwPostIdeal.main_arg3)
      ∧ r.2.mem ((c.tc : Thread Cert.RwPostIdeal.nD Cert.RwPostIdeal.τ).loc Cert.RwPostIdeal.main_arg4) = m ((c.tc : Thread Cert.RwPostIdeal.nD Cert.RwPostIdeal.τ).loc Cert.RwPostIdeal.main_arg4)
      ∧ r.2.mem ((c.tc : Thread Cert.RwPostIdeal.nD Cert.RwPostIdeal.τ).loc Cert.RwPostIdeal.main_arg5) = m ((c.tc : Thread Cert.RwPostIdeal.nD Cert.RwPostIdeal.τ).loc Cert.RwPostIdeal.main_arg5)
      ∧ r.2.mem ((c.tc : Thread Cert.RwPostIdeal.nD Cert.RwPostIdeal.τ).loc Cert.RwPostIdeal.main_arg6) = m ((c.tc : Thread Cert.RwPostIdeal.nD Cert.RwPostIdeal.τ).loc Cert.RwPostIdeal.main_arg6)
      ∧ r.2.mem ((c.tc : Thread Cert.RwPostIdeal.nD Cert.RwPostIdeal.τ).loc Cert.RwPostIdeal.main_arg7) = m ((c.tc : Thread Cert.RwPostIdeal.nD Cert.RwPostIdeal.τ).loc Cert.RwPostIdeal.main_arg7)
      ∧ r.2.mem ((c.tc : Thread Cert.RwPostIdeal.nD Cert.RwPostIdeal.τ).loc Cert.RwPostIdeal.main_arg8) = m ((c.tc : Thread Cert.RwPostIdeal.nD Cert.RwPostIdeal.τ).loc Cert.RwPostIdeal.main_arg8)
      ∧ r.2.mem ((c.tc : Thread Cert.RwPostIdeal.nD Cert.RwPostIdeal.τ).loc Cert.RwPostIdeal.main_arg9) = m ((c.tc : Thread Cert.RwPostIdeal.nD Cert.RwPostIdeal.τ).loc Cert.RwPostIdeal.main_arg9))
      ∧ r.2.sem = fun _ => 0)

def quiescent_RwPostIdeal_pre_finite_rwpost [hRwPostIdeal : Cert.RwPostIdeal.Facts] [hPre_finite_rwpost : Cert.Pre_finite_rwpost.Facts] : Prop :=
  ∀ (m : (ℓ : Loc Cert.RwPostIdeal.nD Cert.RwPostIdeal.τ Cert.RwPostIdeal.sig) → Buf (Elt Ideal) ℓ) (g : Dev Cert.RwPostIdeal.nD → PrngReg), Pre_RwPostIdeal_finite_rwpost m →
    θ_run (Cert.RwPostIdeal.defs (F := Ideal)) (onTc (τ := Cert.RwPostIdeal.τ) (Cert.RwPostIdeal.main (F := Ideal))) ⟨m, fun _ => 0, g⟩ (fun r => (∀ c : Dev Cert.RwPostIdeal.nD,
      r.2.mem ((c.tc : Thread Cert.RwPostIdeal.nD Cert.RwPostIdeal.τ).loc Cert.RwPostIdeal.main_arg0) = m ((c.tc : Thread Cert.RwPostIdeal.nD Cert.RwPostIdeal.τ).loc Cert.RwPostIdeal.main_arg0)
      ∧ r.2.mem ((c.tc : Thread Cert.RwPostIdeal.nD Cert.RwPostIdeal.τ).loc Cert.RwPostIdeal.main_arg1) = m ((c.tc : Thread Cert.RwPostIdeal.nD Cert.RwPostIdeal.τ).loc Cert.RwPostIdeal.main_arg1)
      ∧ r.2.mem ((c.tc : Thread Cert.RwPostIdeal.nD Cert.RwPostIdeal.τ).loc Cert.RwPostIdeal.main_arg2) = m ((c.tc : Thread Cert.RwPostIdeal.nD Cert.RwPostIdeal.τ).loc Cert.RwPostIdeal.main_arg2)
      ∧ r.2.mem ((c.tc : Thread Cert.RwPostIdeal.nD Cert.RwPostIdeal.τ).loc Cert.RwPostIdeal.main_arg3) = m ((c.tc : Thread Cert.RwPostIdeal.nD Cert.RwPostIdeal.τ).loc Cert.RwPostIdeal.main_arg3)
      ∧ r.2.mem ((c.tc : Thread Cert.RwPostIdeal.nD Cert.RwPostIdeal.τ).loc Cert.RwPostIdeal.main_arg4) = m ((c.tc : Thread Cert.RwPostIdeal.nD Cert.RwPostIdeal.τ).loc Cert.RwPostIdeal.main_arg4)
      ∧ r.2.mem ((c.tc : Thread Cert.RwPostIdeal.nD Cert.RwPostIdeal.τ).loc Cert.RwPostIdeal.main_arg5) = m ((c.tc : Thread Cert.RwPostIdeal.nD Cert.RwPostIdeal.τ).loc Cert.RwPostIdeal.main_arg5)
      ∧ r.2.mem ((c.tc : Thread Cert.RwPostIdeal.nD Cert.RwPostIdeal.τ).loc Cert.RwPostIdeal.main_arg6) = m ((c.tc : Thread Cert.RwPostIdeal.nD Cert.RwPostIdeal.τ).loc Cert.RwPostIdeal.main_arg6)
      ∧ r.2.mem ((c.tc : Thread Cert.RwPostIdeal.nD Cert.RwPostIdeal.τ).loc Cert.RwPostIdeal.main_arg7) = m ((c.tc : Thread Cert.RwPostIdeal.nD Cert.RwPostIdeal.τ).loc Cert.RwPostIdeal.main_arg7)
      ∧ r.2.mem ((c.tc : Thread Cert.RwPostIdeal.nD Cert.RwPostIdeal.τ).loc Cert.RwPostIdeal.main_arg8) = m ((c.tc : Thread Cert.RwPostIdeal.nD Cert.RwPostIdeal.τ).loc Cert.RwPostIdeal.main_arg8)
      ∧ r.2.mem ((c.tc : Thread Cert.RwPostIdeal.nD Cert.RwPostIdeal.τ).loc Cert.RwPostIdeal.main_arg9) = m ((c.tc : Thread Cert.RwPostIdeal.nD Cert.RwPostIdeal.τ).loc Cert.RwPostIdeal.main_arg9))
      ∧ r.2.sem = fun _ => 0)

def quiescent_RwPostRefIdeal [hRwPostRefIdeal : Cert.RwPostRefIdeal.Facts] : Prop :=
  ∀ (m : (ℓ : Loc Cert.RwPostRefIdeal.nD Cert.RwPostRefIdeal.τ Cert.RwPostRefIdeal.sig) → Buf (Elt Ideal) ℓ) (g : Dev Cert.RwPostRefIdeal.nD → PrngReg), Pre_RwPostRefIdeal m →
    θ_run (Cert.RwPostRefIdeal.defs (F := Ideal)) (onTc (τ := Cert.RwPostRefIdeal.τ) (Cert.RwPostRefIdeal.main (F := Ideal))) ⟨m, fun _ => 0, g⟩ (fun r => (∀ c : Dev Cert.RwPostRefIdeal.nD,
      r.2.mem ((c.tc : Thread Cert.RwPostRefIdeal.nD Cert.RwPostRefIdeal.τ).loc Cert.RwPostRefIdeal.main_arg0) = m ((c.tc : Thread Cert.RwPostRefIdeal.nD Cert.RwPostRefIdeal.τ).loc Cert.RwPostRefIdeal.main_arg0)
      ∧ r.2.mem ((c.tc : Thread Cert.RwPostRefIdeal.nD Cert.RwPostRefIdeal.τ).loc Cert.RwPostRefIdeal.main_arg1) = m ((c.tc : Thread Cert.RwPostRefIdeal.nD Cert.RwPostRefIdeal.τ).loc Cert.RwPostRefIdeal.main_arg1)
      ∧ r.2.mem ((c.tc : Thread Cert.RwPostRefIdeal.nD Cert.RwPostRefIdeal.τ).loc Cert.RwPostRefIdeal.main_arg2) = m ((c.tc : Thread Cert.RwPostRefIdeal.nD Cert.RwPostRefIdeal.τ).loc Cert.RwPostRefIdeal.main_arg2)
      ∧ r.2.mem ((c.tc : Thread Cert.RwPostRefIdeal.nD Cert.RwPostRefIdeal.τ).loc Cert.RwPostRefIdeal.main_arg3) = m ((c.tc : Thread Cert.RwPostRefIdeal.nD Cert.RwPostRefIdeal.τ).loc Cert.RwPostRefIdeal.main_arg3)
      ∧ r.2.mem ((c.tc : Thread Cert.RwPostRefIdeal.nD Cert.RwPostRefIdeal.τ).loc Cert.RwPostRefIdeal.main_arg4) = m ((c.tc : Thread Cert.RwPostRefIdeal.nD Cert.RwPostRefIdeal.τ).loc Cert.RwPostRefIdeal.main_arg4)
      ∧ r.2.mem ((c.tc : Thread Cert.RwPostRefIdeal.nD Cert.RwPostRefIdeal.τ).loc Cert.RwPostRefIdeal.main_arg5) = m ((c.tc : Thread Cert.RwPostRefIdeal.nD Cert.RwPostRefIdeal.τ).loc Cert.RwPostRefIdeal.main_arg5)
      ∧ r.2.mem ((c.tc : Thread Cert.RwPostRefIdeal.nD Cert.RwPostRefIdeal.τ).loc Cert.RwPostRefIdeal.main_arg6) = m ((c.tc : Thread Cert.RwPostRefIdeal.nD Cert.RwPostRefIdeal.τ).loc Cert.RwPostRefIdeal.main_arg6)
      ∧ r.2.mem ((c.tc : Thread Cert.RwPostRefIdeal.nD Cert.RwPostRefIdeal.τ).loc Cert.RwPostRefIdeal.main_arg7) = m ((c.tc : Thread Cert.RwPostRefIdeal.nD Cert.RwPostRefIdeal.τ).loc Cert.RwPostRefIdeal.main_arg7)
      ∧ r.2.mem ((c.tc : Thread Cert.RwPostRefIdeal.nD Cert.RwPostRefIdeal.τ).loc Cert.RwPostRefIdeal.main_arg8) = m ((c.tc : Thread Cert.RwPostRefIdeal.nD Cert.RwPostRefIdeal.τ).loc Cert.RwPostRefIdeal.main_arg8)
      ∧ r.2.mem ((c.tc : Thread Cert.RwPostRefIdeal.nD Cert.RwPostRefIdeal.τ).loc Cert.RwPostRefIdeal.main_arg9) = m ((c.tc : Thread Cert.RwPostRefIdeal.nD Cert.RwPostRefIdeal.τ).loc Cert.RwPostRefIdeal.main_arg9))
      ∧ r.2.sem = fun _ => 0)

def quiescent_RwPostRefIdeal_pre_finite_rwpost [hRwPostRefIdeal : Cert.RwPostRefIdeal.Facts] [hPre_finite_rwpost : Cert.Pre_finite_rwpost.Facts] : Prop :=
  ∀ (m : (ℓ : Loc Cert.RwPostRefIdeal.nD Cert.RwPostRefIdeal.τ Cert.RwPostRefIdeal.sig) → Buf (Elt Ideal) ℓ) (g : Dev Cert.RwPostRefIdeal.nD → PrngReg), Pre_RwPostRefIdeal_finite_rwpost m →
    θ_run (Cert.RwPostRefIdeal.defs (F := Ideal)) (onTc (τ := Cert.RwPostRefIdeal.τ) (Cert.RwPostRefIdeal.main (F := Ideal))) ⟨m, fun _ => 0, g⟩ (fun r => (∀ c : Dev Cert.RwPostRefIdeal.nD,
      r.2.mem ((c.tc : Thread Cert.RwPostRefIdeal.nD Cert.RwPostRefIdeal.τ).loc Cert.RwPostRefIdeal.main_arg0) = m ((c.tc : Thread Cert.RwPostRefIdeal.nD Cert.RwPostRefIdeal.τ).loc Cert.RwPostRefIdeal.main_arg0)
      ∧ r.2.mem ((c.tc : Thread Cert.RwPostRefIdeal.nD Cert.RwPostRefIdeal.τ).loc Cert.RwPostRefIdeal.main_arg1) = m ((c.tc : Thread Cert.RwPostRefIdeal.nD Cert.RwPostRefIdeal.τ).loc Cert.RwPostRefIdeal.main_arg1)
      ∧ r.2.mem ((c.tc : Thread Cert.RwPostRefIdeal.nD Cert.RwPostRefIdeal.τ).loc Cert.RwPostRefIdeal.main_arg2) = m ((c.tc : Thread Cert.RwPostRefIdeal.nD Cert.RwPostRefIdeal.τ).loc Cert.RwPostRefIdeal.main_arg2)
      ∧ r.2.mem ((c.tc : Thread Cert.RwPostRefIdeal.nD Cert.RwPostRefIdeal.τ).loc Cert.RwPostRefIdeal.main_arg3) = m ((c.tc : Thread Cert.RwPostRefIdeal.nD Cert.RwPostRefIdeal.τ).loc Cert.RwPostRefIdeal.main_arg3)
      ∧ r.2.mem ((c.tc : Thread Cert.RwPostRefIdeal.nD Cert.RwPostRefIdeal.τ).loc Cert.RwPostRefIdeal.main_arg4) = m ((c.tc : Thread Cert.RwPostRefIdeal.nD Cert.RwPostRefIdeal.τ).loc Cert.RwPostRefIdeal.main_arg4)
      ∧ r.2.mem ((c.tc : Thread Cert.RwPostRefIdeal.nD Cert.RwPostRefIdeal.τ).loc Cert.RwPostRefIdeal.main_arg5) = m ((c.tc : Thread Cert.RwPostRefIdeal.nD Cert.RwPostRefIdeal.τ).loc Cert.RwPostRefIdeal.main_arg5)
      ∧ r.2.mem ((c.tc : Thread Cert.RwPostRefIdeal.nD Cert.RwPostRefIdeal.τ).loc Cert.RwPostRefIdeal.main_arg6) = m ((c.tc : Thread Cert.RwPostRefIdeal.nD Cert.RwPostRefIdeal.τ).loc Cert.RwPostRefIdeal.main_arg6)
      ∧ r.2.mem ((c.tc : Thread Cert.RwPostRefIdeal.nD Cert.RwPostRefIdeal.τ).loc Cert.RwPostRefIdeal.main_arg7) = m ((c.tc : Thread Cert.RwPostRefIdeal.nD Cert.RwPostRefIdeal.τ).loc Cert.RwPostRefIdeal.main_arg7)
      ∧ r.2.mem ((c.tc : Thread Cert.RwPostRefIdeal.nD Cert.RwPostRefIdeal.τ).loc Cert.RwPostRefIdeal.main_arg8) = m ((c.tc : Thread Cert.RwPostRefIdeal.nD Cert.RwPostRefIdeal.τ).loc Cert.RwPostRefIdeal.main_arg8)
      ∧ r.2.mem ((c.tc : Thread Cert.RwPostRefIdeal.nD Cert.RwPostRefIdeal.τ).loc Cert.RwPostRefIdeal.main_arg9) = m ((c.tc : Thread Cert.RwPostRefIdeal.nD Cert.RwPostRefIdeal.τ).loc Cert.RwPostRefIdeal.main_arg9))
      ∧ r.2.sem = fun _ => 0)

def quiescent_S5Param [hS5Param : Cert.S5Param.Facts] : Prop :=
  ∀ (m : (ℓ : Loc Cert.S5Param.nD Cert.S5Param.τ Cert.S5Param.sig) → Buf (Elt Bits) ℓ) (g : Dev Cert.S5Param.nD → PrngReg), Pre_S5Param m →
    θ_run (Cert.S5Param.defs (F := Bits)) (onTc (τ := Cert.S5Param.τ) (Cert.S5Param.main (F := Bits))) ⟨m, fun _ => 0, g⟩ (fun r => (∀ c : Dev Cert.S5Param.nD,
      r.2.mem ((c.tc : Thread Cert.S5Param.nD Cert.S5Param.τ).loc Cert.S5Param.main_arg0) = m ((c.tc : Thread Cert.S5Param.nD Cert.S5Param.τ).loc Cert.S5Param.main_arg0)
      ∧ r.2.mem ((c.tc : Thread Cert.S5Param.nD Cert.S5Param.τ).loc Cert.S5Param.main_arg1) = m ((c.tc : Thread Cert.S5Param.nD Cert.S5Param.τ).loc Cert.S5Param.main_arg1)
      ∧ r.2.mem ((c.tc : Thread Cert.S5Param.nD Cert.S5Param.τ).loc Cert.S5Param.main_arg2) = m ((c.tc : Thread Cert.S5Param.nD Cert.S5Param.τ).loc Cert.S5Param.main_arg2)
      ∧ r.2.mem ((c.tc : Thread Cert.S5Param.nD Cert.S5Param.τ).loc Cert.S5Param.main_arg3) = m ((c.tc : Thread Cert.S5Param.nD Cert.S5Param.τ).loc Cert.S5Param.main_arg3)
      ∧ r.2.mem ((c.tc : Thread Cert.S5Param.nD Cert.S5Param.τ).loc Cert.S5Param.main_arg4) = m ((c.tc : Thread Cert.S5Param.nD Cert.S5Param.τ).loc Cert.S5Param.main_arg4)
      ∧ r.2.mem ((c.tc : Thread Cert.S5Param.nD Cert.S5Param.τ).loc Cert.S5Param.main_arg5) = m ((c.tc : Thread Cert.S5Param.nD Cert.S5Param.τ).loc Cert.S5Param.main_arg5)
      ∧ r.2.mem ((c.tc : Thread Cert.S5Param.nD Cert.S5Param.τ).loc Cert.S5Param.main_arg6) = m ((c.tc : Thread Cert.S5Param.nD Cert.S5Param.τ).loc Cert.S5Param.main_arg6)
      ∧ r.2.mem ((c.tc : Thread Cert.S5Param.nD Cert.S5Param.τ).loc Cert.S5Param.main_arg7) = m ((c.tc : Thread Cert.S5Param.nD Cert.S5Param.τ).loc Cert.S5Param.main_arg7)
      ∧ r.2.mem ((c.tc : Thread Cert.S5Param.nD Cert.S5Param.τ).loc Cert.S5Param.main_arg8) = m ((c.tc : Thread Cert.S5Param.nD Cert.S5Param.τ).loc Cert.S5Param.main_arg8))
      ∧ r.2.sem = fun _ => 0)

def quiescent_S5ParamIdeal [hS5ParamIdeal : Cert.S5ParamIdeal.Facts] : Prop :=
  ∀ (m : (ℓ : Loc Cert.S5ParamIdeal.nD Cert.S5ParamIdeal.τ Cert.S5ParamIdeal.sig) → Buf (Elt Ideal) ℓ) (g : Dev Cert.S5ParamIdeal.nD → PrngReg), Pre_S5ParamIdeal m →
    θ_run (Cert.S5ParamIdeal.defs (F := Ideal)) (onTc (τ := Cert.S5ParamIdeal.τ) (Cert.S5ParamIdeal.main (F := Ideal))) ⟨m, fun _ => 0, g⟩ (fun r => (∀ c : Dev Cert.S5ParamIdeal.nD,
      r.2.mem ((c.tc : Thread Cert.S5ParamIdeal.nD Cert.S5ParamIdeal.τ).loc Cert.S5ParamIdeal.main_arg0) = m ((c.tc : Thread Cert.S5ParamIdeal.nD Cert.S5ParamIdeal.τ).loc Cert.S5ParamIdeal.main_arg0)
      ∧ r.2.mem ((c.tc : Thread Cert.S5ParamIdeal.nD Cert.S5ParamIdeal.τ).loc Cert.S5ParamIdeal.main_arg1) = m ((c.tc : Thread Cert.S5ParamIdeal.nD Cert.S5ParamIdeal.τ).loc Cert.S5ParamIdeal.main_arg1)
      ∧ r.2.mem ((c.tc : Thread Cert.S5ParamIdeal.nD Cert.S5ParamIdeal.τ).loc Cert.S5ParamIdeal.main_arg2) = m ((c.tc : Thread Cert.S5ParamIdeal.nD Cert.S5ParamIdeal.τ).loc Cert.S5ParamIdeal.main_arg2)
      ∧ r.2.mem ((c.tc : Thread Cert.S5ParamIdeal.nD Cert.S5ParamIdeal.τ).loc Cert.S5ParamIdeal.main_arg3) = m ((c.tc : Thread Cert.S5ParamIdeal.nD Cert.S5ParamIdeal.τ).loc Cert.S5ParamIdeal.main_arg3)
      ∧ r.2.mem ((c.tc : Thread Cert.S5ParamIdeal.nD Cert.S5ParamIdeal.τ).loc Cert.S5ParamIdeal.main_arg4) = m ((c.tc : Thread Cert.S5ParamIdeal.nD Cert.S5ParamIdeal.τ).loc Cert.S5ParamIdeal.main_arg4)
      ∧ r.2.mem ((c.tc : Thread Cert.S5ParamIdeal.nD Cert.S5ParamIdeal.τ).loc Cert.S5ParamIdeal.main_arg5) = m ((c.tc : Thread Cert.S5ParamIdeal.nD Cert.S5ParamIdeal.τ).loc Cert.S5ParamIdeal.main_arg5)
      ∧ r.2.mem ((c.tc : Thread Cert.S5ParamIdeal.nD Cert.S5ParamIdeal.τ).loc Cert.S5ParamIdeal.main_arg6) = m ((c.tc : Thread Cert.S5ParamIdeal.nD Cert.S5ParamIdeal.τ).loc Cert.S5ParamIdeal.main_arg6)
      ∧ r.2.mem ((c.tc : Thread Cert.S5ParamIdeal.nD Cert.S5ParamIdeal.τ).loc Cert.S5ParamIdeal.main_arg7) = m ((c.tc : Thread Cert.S5ParamIdeal.nD Cert.S5ParamIdeal.τ).loc Cert.S5ParamIdeal.main_arg7)
      ∧ r.2.mem ((c.tc : Thread Cert.S5ParamIdeal.nD Cert.S5ParamIdeal.τ).loc Cert.S5ParamIdeal.main_arg8) = m ((c.tc : Thread Cert.S5ParamIdeal.nD Cert.S5ParamIdeal.τ).loc Cert.S5ParamIdeal.main_arg8))
      ∧ r.2.sem = fun _ => 0)

def quiescent_S5ParamRefIdeal [hS5ParamRefIdeal : Cert.S5ParamRefIdeal.Facts] : Prop :=
  ∀ (m : (ℓ : Loc Cert.S5ParamRefIdeal.nD Cert.S5ParamRefIdeal.τ Cert.S5ParamRefIdeal.sig) → Buf (Elt Ideal) ℓ) (g : Dev Cert.S5ParamRefIdeal.nD → PrngReg), Pre_S5ParamRefIdeal m →
    θ_run (Cert.S5ParamRefIdeal.defs (F := Ideal)) (onTc (τ := Cert.S5ParamRefIdeal.τ) (Cert.S5ParamRefIdeal.main (F := Ideal))) ⟨m, fun _ => 0, g⟩ (fun r => (∀ c : Dev Cert.S5ParamRefIdeal.nD,
      r.2.mem ((c.tc : Thread Cert.S5ParamRefIdeal.nD Cert.S5ParamRefIdeal.τ).loc Cert.S5ParamRefIdeal.main_arg0) = m ((c.tc : Thread Cert.S5ParamRefIdeal.nD Cert.S5ParamRefIdeal.τ).loc Cert.S5ParamRefIdeal.main_arg0)
      ∧ r.2.mem ((c.tc : Thread Cert.S5ParamRefIdeal.nD Cert.S5ParamRefIdeal.τ).loc Cert.S5ParamRefIdeal.main_arg1) = m ((c.tc : Thread Cert.S5ParamRefIdeal.nD Cert.S5ParamRefIdeal.τ).loc Cert.S5ParamRefIdeal.main_arg1)
      ∧ r.2.mem ((c.tc : Thread Cert.S5ParamRefIdeal.nD Cert.S5ParamRefIdeal.τ).loc Cert.S5ParamRefIdeal.main_arg2) = m ((c.tc : Thread Cert.S5ParamRefIdeal.nD Cert.S5ParamRefIdeal.τ).loc Cert.S5ParamRefIdeal.main_arg2)
      ∧ r.2.mem ((c.tc : Thread Cert.S5ParamRefIdeal.nD Cert.S5ParamRefIdeal.τ).loc Cert.S5ParamRefIdeal.main_arg3) = m ((c.tc : Thread Cert.S5ParamRefIdeal.nD Cert.S5ParamRefIdeal.τ).loc Cert.S5ParamRefIdeal.main_arg3)
      ∧ r.2.mem ((c.tc : Thread Cert.S5ParamRefIdeal.nD Cert.S5ParamRefIdeal.τ).loc Cert.S5ParamRefIdeal.main_arg4) = m ((c.tc : Thread Cert.S5ParamRefIdeal.nD Cert.S5ParamRefIdeal.τ).loc Cert.S5ParamRefIdeal.main_arg4)
      ∧ r.2.mem ((c.tc : Thread Cert.S5ParamRefIdeal.nD Cert.S5ParamRefIdeal.τ).loc Cert.S5ParamRefIdeal.main_arg5) = m ((c.tc : Thread Cert.S5ParamRefIdeal.nD Cert.S5ParamRefIdeal.τ).loc Cert.S5ParamRefIdeal.main_arg5)
      ∧ r.2.mem ((c.tc : Thread Cert.S5ParamRefIdeal.nD Cert.S5ParamRefIdeal.τ).loc Cert.S5ParamRefIdeal.main_arg6) = m ((c.tc : Thread Cert.S5ParamRefIdeal.nD Cert.S5ParamRefIdeal.τ).loc Cert.S5ParamRefIdeal.main_arg6)
      ∧ r.2.mem ((c.tc : Thread Cert.S5ParamRefIdeal.nD Cert.S5ParamRefIdeal.τ).loc Cert.S5ParamRefIdeal.main_arg7) = m ((c.tc : Thread Cert.S5ParamRefIdeal.nD Cert.S5ParamRefIdeal.τ).loc Cert.S5ParamRefIdeal.main_arg7)
      ∧ r.2.mem ((c.tc : Thread Cert.S5ParamRefIdeal.nD Cert.S5ParamRefIdeal.τ).loc Cert.S5ParamRefIdeal.main_arg8) = m ((c.tc : Thread Cert.S5ParamRefIdeal.nD Cert.S5ParamRefIdeal.τ).loc Cert.S5ParamRefIdeal.main_arg8))
      ∧ r.2.sem = fun _ => 0)

def quiescent_WkvFwd [hWkvFwd : Cert.WkvFwd.Facts] : Prop :=
  ∀ (m : (ℓ : Loc Cert.WkvFwd.nD Cert.WkvFwd.τ Cert.WkvFwd.sig) → Buf (Elt Bits) ℓ) (g : Dev Cert.WkvFwd.nD → PrngReg), Pre_WkvFwd m →
    θ_run (Cert.WkvFwd.defs (F := Bits)) (onTc (τ := Cert.WkvFwd.τ) (Cert.WkvFwd.main (F := Bits))) ⟨m, fun _ => 0, g⟩ (fun r => (∀ c : Dev Cert.WkvFwd.nD,
      r.2.mem ((c.tc : Thread Cert.WkvFwd.nD Cert.WkvFwd.τ).loc Cert.WkvFwd.main_arg0) = m ((c.tc : Thread Cert.WkvFwd.nD Cert.WkvFwd.τ).loc Cert.WkvFwd.main_arg0)
      ∧ r.2.mem ((c.tc : Thread Cert.WkvFwd.nD Cert.WkvFwd.τ).loc Cert.WkvFwd.main_arg1) = m ((c.tc : Thread Cert.WkvFwd.nD Cert.WkvFwd.τ).loc Cert.WkvFwd.main_arg1)
      ∧ r.2.mem ((c.tc : Thread Cert.WkvFwd.nD Cert.WkvFwd.τ).loc Cert.WkvFwd.main_arg2) = m ((c.tc : Thread Cert.WkvFwd.nD Cert.WkvFwd.τ).loc Cert.WkvFwd.main_arg2)
      ∧ r.2.mem ((c.tc : Thread Cert.WkvFwd.nD Cert.WkvFwd.τ).loc Cert.WkvFwd.main_arg3) = m ((c.tc : Thread Cert.WkvFwd.nD Cert.WkvFwd.τ).loc Cert.WkvFwd.main_arg3)
      ∧ r.2.mem ((c.tc : Thread Cert.WkvFwd.nD Cert.WkvFwd.τ).loc Cert.WkvFwd.main_arg4) = m ((c.tc : Thread Cert.WkvFwd.nD Cert.WkvFwd.τ).loc Cert.WkvFwd.main_arg4)
      ∧ r.2.mem ((c.tc : Thread Cert.WkvFwd.nD Cert.WkvFwd.τ).loc Cert.WkvFwd.main_arg5) = m ((c.tc : Thread Cert.WkvFwd.nD Cert.WkvFwd.τ).loc Cert.WkvFwd.main_arg5))
      ∧ r.2.sem = fun _ => 0)

def quiescent_WkvFwdIdeal [hWkvFwdIdeal : Cert.WkvFwdIdeal.Facts] : Prop :=
  ∀ (m : (ℓ : Loc Cert.WkvFwdIdeal.nD Cert.WkvFwdIdeal.τ Cert.WkvFwdIdeal.sig) → Buf (Elt Ideal) ℓ) (g : Dev Cert.WkvFwdIdeal.nD → PrngReg), Pre_WkvFwdIdeal m →
    θ_run (Cert.WkvFwdIdeal.defs (F := Ideal)) (onTc (τ := Cert.WkvFwdIdeal.τ) (Cert.WkvFwdIdeal.main (F := Ideal))) ⟨m, fun _ => 0, g⟩ (fun r => (∀ c : Dev Cert.WkvFwdIdeal.nD,
      r.2.mem ((c.tc : Thread Cert.WkvFwdIdeal.nD Cert.WkvFwdIdeal.τ).loc Cert.WkvFwdIdeal.main_arg0) = m ((c.tc : Thread Cert.WkvFwdIdeal.nD Cert.WkvFwdIdeal.τ).loc Cert.WkvFwdIdeal.main_arg0)
      ∧ r.2.mem ((c.tc : Thread Cert.WkvFwdIdeal.nD Cert.WkvFwdIdeal.τ).loc Cert.WkvFwdIdeal.main_arg1) = m ((c.tc : Thread Cert.WkvFwdIdeal.nD Cert.WkvFwdIdeal.τ).loc Cert.WkvFwdIdeal.main_arg1)
      ∧ r.2.mem ((c.tc : Thread Cert.WkvFwdIdeal.nD Cert.WkvFwdIdeal.τ).loc Cert.WkvFwdIdeal.main_arg2) = m ((c.tc : Thread Cert.WkvFwdIdeal.nD Cert.WkvFwdIdeal.τ).loc Cert.WkvFwdIdeal.main_arg2)
      ∧ r.2.mem ((c.tc : Thread Cert.WkvFwdIdeal.nD Cert.WkvFwdIdeal.τ).loc Cert.WkvFwdIdeal.main_arg3) = m ((c.tc : Thread Cert.WkvFwdIdeal.nD Cert.WkvFwdIdeal.τ).loc Cert.WkvFwdIdeal.main_arg3)
      ∧ r.2.mem ((c.tc : Thread Cert.WkvFwdIdeal.nD Cert.WkvFwdIdeal.τ).loc Cert.WkvFwdIdeal.main_arg4) = m ((c.tc : Thread Cert.WkvFwdIdeal.nD Cert.WkvFwdIdeal.τ).loc Cert.WkvFwdIdeal.main_arg4)
      ∧ r.2.mem ((c.tc : Thread Cert.WkvFwdIdeal.nD Cert.WkvFwdIdeal.τ).loc Cert.WkvFwdIdeal.main_arg5) = m ((c.tc : Thread Cert.WkvFwdIdeal.nD Cert.WkvFwdIdeal.τ).loc Cert.WkvFwdIdeal.main_arg5))
      ∧ r.2.sem = fun _ => 0)

def quiescent_WkvFwdIdeal_pre_positive_decay [hWkvFwdIdeal : Cert.WkvFwdIdeal.Facts] [hPre_positive_decay : Cert.Pre_positive_decay.Facts] : Prop :=
  ∀ (m : (ℓ : Loc Cert.WkvFwdIdeal.nD Cert.WkvFwdIdeal.τ Cert.WkvFwdIdeal.sig) → Buf (Elt Ideal) ℓ) (g : Dev Cert.WkvFwdIdeal.nD → PrngReg), Pre_WkvFwdIdeal_positive_decay m →
    θ_run (Cert.WkvFwdIdeal.defs (F := Ideal)) (onTc (τ := Cert.WkvFwdIdeal.τ) (Cert.WkvFwdIdeal.main (F := Ideal))) ⟨m, fun _ => 0, g⟩ (fun r => (∀ c : Dev Cert.WkvFwdIdeal.nD,
      r.2.mem ((c.tc : Thread Cert.WkvFwdIdeal.nD Cert.WkvFwdIdeal.τ).loc Cert.WkvFwdIdeal.main_arg0) = m ((c.tc : Thread Cert.WkvFwdIdeal.nD Cert.WkvFwdIdeal.τ).loc Cert.WkvFwdIdeal.main_arg0)
      ∧ r.2.mem ((c.tc : Thread Cert.WkvFwdIdeal.nD Cert.WkvFwdIdeal.τ).loc Cert.WkvFwdIdeal.main_arg1) = m ((c.tc : Thread Cert.WkvFwdIdeal.nD Cert.WkvFwdIdeal.τ).loc Cert.WkvFwdIdeal.main_arg1)
      ∧ r.2.mem ((c.tc : Thread Cert.WkvFwdIdeal.nD Cert.WkvFwdIdeal.τ).loc Cert.WkvFwdIdeal.main_arg2) = m ((c.tc : Thread Cert.WkvFwdIdeal.nD Cert.WkvFwdIdeal.τ).loc Cert.WkvFwdIdeal.main_arg2)
      ∧ r.2.mem ((c.tc : Thread Cert.WkvFwdIdeal.nD Cert.WkvFwdIdeal.τ).loc Cert.WkvFwdIdeal.main_arg3) = m ((c.tc : Thread Cert.WkvFwdIdeal.nD Cert.WkvFwdIdeal.τ).loc Cert.WkvFwdIdeal.main_arg3)
      ∧ r.2.mem ((c.tc : Thread Cert.WkvFwdIdeal.nD Cert.WkvFwdIdeal.τ).loc Cert.WkvFwdIdeal.main_arg4) = m ((c.tc : Thread Cert.WkvFwdIdeal.nD Cert.WkvFwdIdeal.τ).loc Cert.WkvFwdIdeal.main_arg4)
      ∧ r.2.mem ((c.tc : Thread Cert.WkvFwdIdeal.nD Cert.WkvFwdIdeal.τ).loc Cert.WkvFwdIdeal.main_arg5) = m ((c.tc : Thread Cert.WkvFwdIdeal.nD Cert.WkvFwdIdeal.τ).loc Cert.WkvFwdIdeal.main_arg5))
      ∧ r.2.sem = fun _ => 0)

def quiescent_WkvFwdRefIdeal [hWkvFwdRefIdeal : Cert.WkvFwdRefIdeal.Facts] : Prop :=
  ∀ (m : (ℓ : Loc Cert.WkvFwdRefIdeal.nD Cert.WkvFwdRefIdeal.τ Cert.WkvFwdRefIdeal.sig) → Buf (Elt Ideal) ℓ) (g : Dev Cert.WkvFwdRefIdeal.nD → PrngReg), Pre_WkvFwdRefIdeal m →
    θ_run (Cert.WkvFwdRefIdeal.defs (F := Ideal)) (onTc (τ := Cert.WkvFwdRefIdeal.τ) (Cert.WkvFwdRefIdeal.main (F := Ideal))) ⟨m, fun _ => 0, g⟩ (fun r => (∀ c : Dev Cert.WkvFwdRefIdeal.nD,
      r.2.mem ((c.tc : Thread Cert.WkvFwdRefIdeal.nD Cert.WkvFwdRefIdeal.τ).loc Cert.WkvFwdRefIdeal.main_arg0) = m ((c.tc : Thread Cert.WkvFwdRefIdeal.nD Cert.WkvFwdRefIdeal.τ).loc Cert.WkvFwdRefIdeal.main_arg0)
      ∧ r.2.mem ((c.tc : Thread Cert.WkvFwdRefIdeal.nD Cert.WkvFwdRefIdeal.τ).loc Cert.WkvFwdRefIdeal.main_arg1) = m ((c.tc : Thread Cert.WkvFwdRefIdeal.nD Cert.WkvFwdRefIdeal.τ).loc Cert.WkvFwdRefIdeal.main_arg1)
      ∧ r.2.mem ((c.tc : Thread Cert.WkvFwdRefIdeal.nD Cert.WkvFwdRefIdeal.τ).loc Cert.WkvFwdRefIdeal.main_arg2) = m ((c.tc : Thread Cert.WkvFwdRefIdeal.nD Cert.WkvFwdRefIdeal.τ).loc Cert.WkvFwdRefIdeal.main_arg2)
      ∧ r.2.mem ((c.tc : Thread Cert.WkvFwdRefIdeal.nD Cert.WkvFwdRefIdeal.τ).loc Cert.WkvFwdRefIdeal.main_arg3) = m ((c.tc : Thread Cert.WkvFwdRefIdeal.nD Cert.WkvFwdRefIdeal.τ).loc Cert.WkvFwdRefIdeal.main_arg3)
      ∧ r.2.mem ((c.tc : Thread Cert.WkvFwdRefIdeal.nD Cert.WkvFwdRefIdeal.τ).loc Cert.WkvFwdRefIdeal.main_arg4) = m ((c.tc : Thread Cert.WkvFwdRefIdeal.nD Cert.WkvFwdRefIdeal.τ).loc Cert.WkvFwdRefIdeal.main_arg4)
      ∧ r.2.mem ((c.tc : Thread Cert.WkvFwdRefIdeal.nD Cert.WkvFwdRefIdeal.τ).loc Cert.WkvFwdRefIdeal.main_arg5) = m ((c.tc : Thread Cert.WkvFwdRefIdeal.nD Cert.WkvFwdRefIdeal.τ).loc Cert.WkvFwdRefIdeal.main_arg5))
      ∧ r.2.sem = fun _ => 0)

def quiescent_WkvFwdRefIdeal_pre_positive_decay [hWkvFwdRefIdeal : Cert.WkvFwdRefIdeal.Facts] [hPre_positive_decay : Cert.Pre_positive_decay.Facts] : Prop :=
  ∀ (m : (ℓ : Loc Cert.WkvFwdRefIdeal.nD Cert.WkvFwdRefIdeal.τ Cert.WkvFwdRefIdeal.sig) → Buf (Elt Ideal) ℓ) (g : Dev Cert.WkvFwdRefIdeal.nD → PrngReg), Pre_WkvFwdRefIdeal_positive_decay m →
    θ_run (Cert.WkvFwdRefIdeal.defs (F := Ideal)) (onTc (τ := Cert.WkvFwdRefIdeal.τ) (Cert.WkvFwdRefIdeal.main (F := Ideal))) ⟨m, fun _ => 0, g⟩ (fun r => (∀ c : Dev Cert.WkvFwdRefIdeal.nD,
      r.2.mem ((c.tc : Thread Cert.WkvFwdRefIdeal.nD Cert.WkvFwdRefIdeal.τ).loc Cert.WkvFwdRefIdeal.main_arg0) = m ((c.tc : Thread Cert.WkvFwdRefIdeal.nD Cert.WkvFwdRefIdeal.τ).loc Cert.WkvFwdRefIdeal.main_arg0)
      ∧ r.2.mem ((c.tc : Thread Cert.WkvFwdRefIdeal.nD Cert.WkvFwdRefIdeal.τ).loc Cert.WkvFwdRefIdeal.main_arg1) = m ((c.tc : Thread Cert.WkvFwdRefIdeal.nD Cert.WkvFwdRefIdeal.τ).loc Cert.WkvFwdRefIdeal.main_arg1)
      ∧ r.2.mem ((c.tc : Thread Cert.WkvFwdRefIdeal.nD Cert.WkvFwdRefIdeal.τ).loc Cert.WkvFwdRefIdeal.main_arg2) = m ((c.tc : Thread Cert.WkvFwdRefIdeal.nD Cert.WkvFwdRefIdeal.τ).loc Cert.WkvFwdRefIdeal.main_arg2)
      ∧ r.2.mem ((c.tc : Thread Cert.WkvFwdRefIdeal.nD Cert.WkvFwdRefIdeal.τ).loc Cert.WkvFwdRefIdeal.main_arg3) = m ((c.tc : Thread Cert.WkvFwdRefIdeal.nD Cert.WkvFwdRefIdeal.τ).loc Cert.WkvFwdRefIdeal.main_arg3)
      ∧ r.2.mem ((c.tc : Thread Cert.WkvFwdRefIdeal.nD Cert.WkvFwdRefIdeal.τ).loc Cert.WkvFwdRefIdeal.main_arg4) = m ((c.tc : Thread Cert.WkvFwdRefIdeal.nD Cert.WkvFwdRefIdeal.τ).loc Cert.WkvFwdRefIdeal.main_arg4)
      ∧ r.2.mem ((c.tc : Thread Cert.WkvFwdRefIdeal.nD Cert.WkvFwdRefIdeal.τ).loc Cert.WkvFwdRefIdeal.main_arg5) = m ((c.tc : Thread Cert.WkvFwdRefIdeal.nD Cert.WkvFwdRefIdeal.τ).loc Cert.WkvFwdRefIdeal.main_arg5))
      ∧ r.2.sem = fun _ => 0)

def quiescent_S5PostFwd [hS5PostFwd : Cert.S5PostFwd.Facts] : Prop :=
  ∀ (m : (ℓ : Loc Cert.S5PostFwd.nD Cert.S5PostFwd.τ Cert.S5PostFwd.sig) → Buf (Elt Bits) ℓ) (g : Dev Cert.S5PostFwd.nD → PrngReg), Pre_S5PostFwd m →
    θ_run (Cert.S5PostFwd.defs (F := Bits)) (onTc (τ := Cert.S5PostFwd.τ) (Cert.S5PostFwd.main (F := Bits))) ⟨m, fun _ => 0, g⟩ (fun r => (∀ c : Dev Cert.S5PostFwd.nD,
      r.2.mem ((c.tc : Thread Cert.S5PostFwd.nD Cert.S5PostFwd.τ).loc Cert.S5PostFwd.main_arg0) = m ((c.tc : Thread Cert.S5PostFwd.nD Cert.S5PostFwd.τ).loc Cert.S5PostFwd.main_arg0)
      ∧ r.2.mem ((c.tc : Thread Cert.S5PostFwd.nD Cert.S5PostFwd.τ).loc Cert.S5PostFwd.main_arg1) = m ((c.tc : Thread Cert.S5PostFwd.nD Cert.S5PostFwd.τ).loc Cert.S5PostFwd.main_arg1)
      ∧ r.2.mem ((c.tc : Thread Cert.S5PostFwd.nD Cert.S5PostFwd.τ).loc Cert.S5PostFwd.main_arg2) = m ((c.tc : Thread Cert.S5PostFwd.nD Cert.S5PostFwd.τ).loc Cert.S5PostFwd.main_arg2))
      ∧ r.2.sem = fun _ => 0)

def quiescent_S5PostFwdIdeal [hS5PostFwdIdeal : Cert.S5PostFwdIdeal.Facts] : Prop :=
  ∀ (m : (ℓ : Loc Cert.S5PostFwdIdeal.nD Cert.S5PostFwdIdeal.τ Cert.S5PostFwdIdeal.sig) → Buf (Elt Ideal) ℓ) (g : Dev Cert.S5PostFwdIdeal.nD → PrngReg), Pre_S5PostFwdIdeal m →
    θ_run (Cert.S5PostFwdIdeal.defs (F := Ideal)) (onTc (τ := Cert.S5PostFwdIdeal.τ) (Cert.S5PostFwdIdeal.main (F := Ideal))) ⟨m, fun _ => 0, g⟩ (fun r => (∀ c : Dev Cert.S5PostFwdIdeal.nD,
      r.2.mem ((c.tc : Thread Cert.S5PostFwdIdeal.nD Cert.S5PostFwdIdeal.τ).loc Cert.S5PostFwdIdeal.main_arg0) = m ((c.tc : Thread Cert.S5PostFwdIdeal.nD Cert.S5PostFwdIdeal.τ).loc Cert.S5PostFwdIdeal.main_arg0)
      ∧ r.2.mem ((c.tc : Thread Cert.S5PostFwdIdeal.nD Cert.S5PostFwdIdeal.τ).loc Cert.S5PostFwdIdeal.main_arg1) = m ((c.tc : Thread Cert.S5PostFwdIdeal.nD Cert.S5PostFwdIdeal.τ).loc Cert.S5PostFwdIdeal.main_arg1)
      ∧ r.2.mem ((c.tc : Thread Cert.S5PostFwdIdeal.nD Cert.S5PostFwdIdeal.τ).loc Cert.S5PostFwdIdeal.main_arg2) = m ((c.tc : Thread Cert.S5PostFwdIdeal.nD Cert.S5PostFwdIdeal.τ).loc Cert.S5PostFwdIdeal.main_arg2))
      ∧ r.2.sem = fun _ => 0)

def quiescent_S5PostFwdRefIdeal [hS5PostFwdRefIdeal : Cert.S5PostFwdRefIdeal.Facts] : Prop :=
  ∀ (m : (ℓ : Loc Cert.S5PostFwdRefIdeal.nD Cert.S5PostFwdRefIdeal.τ Cert.S5PostFwdRefIdeal.sig) → Buf (Elt Ideal) ℓ) (g : Dev Cert.S5PostFwdRefIdeal.nD → PrngReg), Pre_S5PostFwdRefIdeal m →
    θ_run (Cert.S5PostFwdRefIdeal.defs (F := Ideal)) (onTc (τ := Cert.S5PostFwdRefIdeal.τ) (Cert.S5PostFwdRefIdeal.main (F := Ideal))) ⟨m, fun _ => 0, g⟩ (fun r => (∀ c : Dev Cert.S5PostFwdRefIdeal.nD,
      r.2.mem ((c.tc : Thread Cert.S5PostFwdRefIdeal.nD Cert.S5PostFwdRefIdeal.τ).loc Cert.S5PostFwdRefIdeal.main_arg0) = m ((c.tc : Thread Cert.S5PostFwdRefIdeal.nD Cert.S5PostFwdRefIdeal.τ).loc Cert.S5PostFwdRefIdeal.main_arg0)
      ∧ r.2.mem ((c.tc : Thread Cert.S5PostFwdRefIdeal.nD Cert.S5PostFwdRefIdeal.τ).loc Cert.S5PostFwdRefIdeal.main_arg1) = m ((c.tc : Thread Cert.S5PostFwdRefIdeal.nD Cert.S5PostFwdRefIdeal.τ).loc Cert.S5PostFwdRefIdeal.main_arg1)
      ∧ r.2.mem ((c.tc : Thread Cert.S5PostFwdRefIdeal.nD Cert.S5PostFwdRefIdeal.τ).loc Cert.S5PostFwdRefIdeal.main_arg2) = m ((c.tc : Thread Cert.S5PostFwdRefIdeal.nD Cert.S5PostFwdRefIdeal.τ).loc Cert.S5PostFwdRefIdeal.main_arg2))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ r.2.sem = fun _ => 0)

def quiescent_InprojFwdRefIdeal [hInprojFwdRefIdeal : Cert.InprojFwdRefIdeal.Facts] : Prop :=
  ∀ (m : (ℓ : Loc Cert.InprojFwdRefIdeal.nD Cert.InprojFwdRefIdeal.τ Cert.InprojFwdRefIdeal.sig) → Buf (Elt Ideal) ℓ) (g : Dev Cert.InprojFwdRefIdeal.nD → PrngReg), Pre_InprojFwdRefIdeal m →
    θ_run (Cert.InprojFwdRefIdeal.defs (F := Ideal)) (onTc (τ := Cert.InprojFwdRefIdeal.τ) (Cert.InprojFwdRefIdeal.main (F := Ideal))) ⟨m, fun _ => 0, g⟩ (fun r => (∀ c : Dev Cert.InprojFwdRefIdeal.nD,
      r.2.mem ((c.tc : Thread Cert.InprojFwdRefIdeal.nD Cert.InprojFwdRefIdeal.τ).loc Cert.InprojFwdRefIdeal.main_arg0) = m ((c.tc : Thread Cert.InprojFwdRefIdeal.nD Cert.InprojFwdRefIdeal.τ).loc Cert.InprojFwdRefIdeal.main_arg0)
      ∧ r.2.mem ((c.tc : Thread Cert.InprojFwdRefIdeal.nD Cert.InprojFwdRefIdeal.τ).loc Cert.InprojFwdRefIdeal.main_arg1) = m ((c.tc : Thread Cert.InprojFwdRefIdeal.nD Cert.InprojFwdRefIdeal.τ).loc Cert.InprojFwdRefIdeal.main_arg1)
      ∧ r.2.mem ((c.tc : Thread Cert.InprojFwdRefIdeal.nD Cert.InprojFwdRefIdeal.τ).loc Cert.InprojFwdRefIdeal.main_arg2) = m ((c.tc : Thread Cert.InprojFwdRefIdeal.nD Cert.InprojFwdRefIdeal.τ).loc Cert.InprojFwdRefIdeal.main_arg2))
      ∧ r.2.sem = fun _ => 0)

def quiescent_MixffnFwd [hMixffnFwd : Cert.MixffnFwd.Facts] : Prop :=
  ∀ (m : (ℓ : Loc Cert.MixffnFwd.nD Cert.MixffnFwd.τ Cert.MixffnFwd.sig) → Buf (Elt Bits) ℓ) (g : Dev Cert.MixffnFwd.nD → PrngReg), Pre_MixffnFwd m →
    θ_run (Cert.MixffnFwd.defs (F := Bits)) (onTc (τ := Cert.MixffnFwd.τ) (Cert.MixffnFwd.main (F := Bits))) ⟨m, fun _ => 0, g⟩ (fun r => (∀ c : Dev Cert.MixffnFwd.nD,
      r.2.mem ((c.tc : Thread Cert.MixffnFwd.nD Cert.MixffnFwd.τ).loc Cert.MixffnFwd.main_arg0) = m ((c.tc : Thread Cert.MixffnFwd.nD Cert.MixffnFwd.τ).loc Cert.MixffnFwd.main_arg0)
      ∧ r.2.mem ((c.tc : Thread Cert.MixffnFwd.nD Cert.MixffnFwd.τ).loc Cert.MixffnFwd.main_arg1) = m ((c.tc : Thread Cert.MixffnFwd.nD Cert.MixffnFwd.τ).loc Cert.MixffnFwd.main_arg1)
      ∧ r.2.mem ((c.tc : Thread Cert.MixffnFwd.nD Cert.MixffnFwd.τ).loc Cert.MixffnFwd.main_arg2) = m ((c.tc : Thread Cert.MixffnFwd.nD Cert.MixffnFwd.τ).loc Cert.MixffnFwd.main_arg2)
      ∧ r.2.mem ((c.tc : Thread Cert.MixffnFwd.nD Cert.MixffnFwd.τ).loc Cert.MixffnFwd.main_arg3) = m ((c.tc : Thread Cert.MixffnFwd.nD Cert.MixffnFwd.τ).loc Cert.MixffnFwd.main_arg3)
      ∧ r.2.mem ((c.tc : Thread Cert.MixffnFwd.nD Cert.MixffnFwd.τ).loc Cert.MixffnFwd.main_arg4) = m ((c.tc : Thread Cert.MixffnFwd.nD Cert.MixffnFwd.τ).loc Cert.MixffnFwd.main_arg4)
      ∧ r.2.mem ((c.tc : Thread Cert.MixffnFwd.nD Cert.MixffnFwd.τ).loc Cert.MixffnFwd.main_arg5) = m ((c.tc : Thread Cert.MixffnFwd.nD Cert.MixffnFwd.τ).loc Cert.MixffnFwd.main_arg5)
      ∧ r.2.mem ((c.tc : Thread Cert.MixffnFwd.nD Cert.MixffnFwd.τ).loc Cert.MixffnFwd.main_arg6) = m ((c.tc : Thread Cert.MixffnFwd.nD Cert.MixffnFwd.τ).loc Cert.MixffnFwd.main_arg6)
      ∧ r.2.mem ((c.tc : Thread Cert.MixffnFwd.nD Cert.MixffnFwd.τ).loc Cert.MixffnFwd.main_arg7) = m ((c.tc : Thread Cert.MixffnFwd.nD Cert.MixffnFwd.τ).loc Cert.MixffnFwd.main_arg7))
      ∧ r.2.sem = fun _ => 0)

def quiescent_MixffnFwdIdeal [hMixffnFwdIdeal : Cert.MixffnFwdIdeal.Facts] : Prop :=
  ∀ (m : (ℓ : Loc Cert.MixffnFwdIdeal.nD Cert.MixffnFwdIdeal.τ Cert.MixffnFwdIdeal.sig) → Buf (Elt Ideal) ℓ) (g : Dev Cert.MixffnFwdIdeal.nD → PrngReg), Pre_MixffnFwdIdeal m →
    θ_run (Cert.MixffnFwdIdeal.defs (F := Ideal)) (onTc (τ := Cert.MixffnFwdIdeal.τ) (Cert.MixffnFwdIdeal.main (F := Ideal))) ⟨m, fun _ => 0, g⟩ (fun r => (∀ c : Dev Cert.MixffnFwdIdeal.nD,
      r.2.mem ((c.tc : Thread Cert.MixffnFwdIdeal.nD Cert.MixffnFwdIdeal.τ).loc Cert.MixffnFwdIdeal.main_arg0) = m ((c.tc : Thread Cert.MixffnFwdIdeal.nD Cert.MixffnFwdIdeal.τ).loc Cert.MixffnFwdIdeal.main_arg0)
      ∧ r.2.mem ((c.tc : Thread Cert.MixffnFwdIdeal.nD Cert.MixffnFwdIdeal.τ).loc Cert.MixffnFwdIdeal.main_arg1) = m ((c.tc : Thread Cert.MixffnFwdIdeal.nD Cert.MixffnFwdIdeal.τ).loc Cert.MixffnFwdIdeal.main_arg1)
      ∧ r.2.mem ((c.tc : Thread Cert.MixffnFwdIdeal.nD Cert.MixffnFwdIdeal.τ).loc Cert.MixffnFwdIdeal.main_arg2) = m ((c.tc : Thread Cert.MixffnFwdIdeal.nD Cert.MixffnFwdIdeal.τ).loc Cert.MixffnFwdIdeal.main_arg2)
      ∧ r.2.mem ((c.tc : Thread Cert.MixffnFwdIdeal.nD Cert.MixffnFwdIdeal.τ).loc Cert.MixffnFwdIdeal.main_arg3) = m ((c.tc : Thread Cert.MixffnFwdIdeal.nD Cert.MixffnFwdIdeal.τ).loc Cert.MixffnFwdIdeal.main_arg3)
      ∧ r.2.mem ((c.tc : Thread Cert.MixffnFwdIdeal.nD Cert.MixffnFwdIdeal.τ).loc Cert.MixffnFwdIdeal.main_arg4) = m ((c.tc : Thread Cert.MixffnFwdIdeal.nD Cert.MixffnFwdIdeal.τ).loc Cert.MixffnFwdIdeal.main_arg4)
      ∧ r.2.mem ((c.tc : Thread Cert.MixffnFwdIdeal.nD Cert.MixffnFwdIdeal.τ).loc Cert.MixffnFwdIdeal.main_arg5) = m ((c.tc : Thread Cert.MixffnFwdIdeal.nD Cert.MixffnFwdIdeal.τ).loc Cert.MixffnFwdIdeal.main_arg5)
      ∧ r.2.mem ((c.tc : Thread Cert.MixffnFwdIdeal.nD Cert.MixffnFwdIdeal.τ).loc Cert.MixffnFwdIdeal.main_arg6) = m ((c.tc : Thread Cert.MixffnFwdIdeal.nD Cert.MixffnFwdIdeal.τ).loc Cert.MixffnFwdIdeal.main_arg6)
      ∧ r.2.mem ((c.tc : Thread Cert.MixffnFwdIdeal.nD Cert.MixffnFwdIdeal.τ).loc Cert.MixffnFwdIdeal.main_arg7) = m ((c.tc : Thread Cert.MixffnFwdIdeal.nD Cert.MixffnFwdIdeal.τ).loc Cert.MixffnFwdIdeal.main_arg7))
      ∧ r.2.sem = fun _ => 0)

def quiescent_MixffnFwdRefIdeal [hMixffnFwdRefIdeal : Cert.MixffnFwdRefIdeal.Facts] : Prop :=
  ∀ (m : (ℓ : Loc Cert.MixffnFwdRefIdeal.nD Cert.MixffnFwdRefIdeal.τ Cert.MixffnFwdRefIdeal.sig) → Buf (Elt Ideal) ℓ) (g : Dev Cert.MixffnFwdRefIdeal.nD → PrngReg), Pre_MixffnFwdRefIdeal m →
    θ_run (Cert.MixffnFwdRefIdeal.defs (F := Ideal)) (onTc (τ := Cert.MixffnFwdRefIdeal.τ) (Cert.MixffnFwdRefIdeal.main (F := Ideal))) ⟨m, fun _ => 0, g⟩ (fun r => (∀ c : Dev Cert.MixffnFwdRefIdeal.nD,
      r.2.mem ((c.tc : Thread Cert.MixffnFwdRefIdeal.nD Cert.MixffnFwdRefIdeal.τ).loc Cert.MixffnFwdRefIdeal.main_arg0) = m ((c.tc : Thread Cert.MixffnFwdRefIdeal.nD Cert.MixffnFwdRefIdeal.τ).loc Cert.MixffnFwdRefIdeal.main_arg0)
      ∧ r.2.mem ((c.tc : Thread Cert.MixffnFwdRefIdeal.nD Cert.MixffnFwdRefIdeal.τ).loc Cert.MixffnFwdRefIdeal.main_arg1) = m ((c.tc : Thread Cert.MixffnFwdRefIdeal.nD Cert.MixffnFwdRefIdeal.τ).loc Cert.MixffnFwdRefIdeal.main_arg1)
      ∧ r.2.mem ((c.tc : Thread Cert.MixffnFwdRefIdeal.nD Cert.MixffnFwdRefIdeal.τ).loc Cert.MixffnFwdRefIdeal.main_arg2) = m ((c.tc : Thread Cert.MixffnFwdRefIdeal.nD Cert.MixffnFwdRefIdeal.τ).loc Cert.MixffnFwdRefIdeal.main_arg2)
      ∧ r.2.mem ((c.tc : Thread Cert.MixffnFwdRefIdeal.nD Cert.MixffnFwdRefIdeal.τ).loc Cert.MixffnFwdRefIdeal.main_arg3) = m ((c.tc : Thread Cert.MixffnFwdRefIdeal.nD Cert.MixffnFwdRefIdeal.τ).loc Cert.MixffnFwdRefIdeal.main_arg3)
      ∧ r.2.mem ((c.tc : Thread Cert.MixffnFwdRefIdeal.nD Cert.MixffnFwdRefIdeal.τ).loc Cert.MixffnFwdRefIdeal.main_arg4) = m ((c.tc : Thread Cert.MixffnFwdRefIdeal.nD Cert.MixffnFwdRefIdeal.τ).loc Cert.MixffnFwdRefIdeal.main_arg4)
      ∧ r.2.mem ((c.tc : Thread Cert.MixffnFwdRefIdeal.nD Cert.MixffnFwdRefIdeal.τ).loc Cert.MixffnFwdRefIdeal.main_arg5) = m ((c.tc : Thread Cert.MixffnFwdRefIdeal.nD Cert.MixffnFwdRefIdeal.τ).loc Cert.MixffnFwdRefIdeal.main_arg5)
      ∧ r.2.mem ((c.tc : Thread Cert.MixffnFwdRefIdeal.nD Cert.MixffnFwdRefIdeal.τ).loc Cert.MixffnFwdRefIdeal.main_arg6) = m ((c.tc : Thread Cert.MixffnFwdRefIdeal.nD Cert.MixffnFwdRefIdeal.τ).loc Cert.MixffnFwdRefIdeal.main_arg6)
      ∧ r.2.mem ((c.tc : Thread Cert.MixffnFwdRefIdeal.nD Cert.MixffnFwdRefIdeal.τ).loc Cert.MixffnFwdRefIdeal.main_arg7) = m ((c.tc : Thread Cert.MixffnFwdRefIdeal.nD Cert.MixffnFwdRefIdeal.τ).loc Cert.MixffnFwdRefIdeal.main_arg7))
      ∧ r.2.sem = fun _ => 0)

def quiescent_RwPostFwd [hRwPostFwd : Cert.RwPostFwd.Facts] : Prop :=
  ∀ (m : (ℓ : Loc Cert.RwPostFwd.nD Cert.RwPostFwd.τ Cert.RwPostFwd.sig) → Buf (Elt Bits) ℓ) (g : Dev Cert.RwPostFwd.nD → PrngReg), Pre_RwPostFwd m →
    θ_run (Cert.RwPostFwd.defs (F := Bits)) (onTc (τ := Cert.RwPostFwd.τ) (Cert.RwPostFwd.main (F := Bits))) ⟨m, fun _ => 0, g⟩ (fun r => (∀ c : Dev Cert.RwPostFwd.nD,
      r.2.mem ((c.tc : Thread Cert.RwPostFwd.nD Cert.RwPostFwd.τ).loc Cert.RwPostFwd.main_arg0) = m ((c.tc : Thread Cert.RwPostFwd.nD Cert.RwPostFwd.τ).loc Cert.RwPostFwd.main_arg0)
      ∧ r.2.mem ((c.tc : Thread Cert.RwPostFwd.nD Cert.RwPostFwd.τ).loc Cert.RwPostFwd.main_arg1) = m ((c.tc : Thread Cert.RwPostFwd.nD Cert.RwPostFwd.τ).loc Cert.RwPostFwd.main_arg1)
      ∧ r.2.mem ((c.tc : Thread Cert.RwPostFwd.nD Cert.RwPostFwd.τ).loc Cert.RwPostFwd.main_arg2) = m ((c.tc : Thread Cert.RwPostFwd.nD Cert.RwPostFwd.τ).loc Cert.RwPostFwd.main_arg2)
      ∧ r.2.mem ((c.tc : Thread Cert.RwPostFwd.nD Cert.RwPostFwd.τ).loc Cert.RwPostFwd.main_arg3) = m ((c.tc : Thread Cert.RwPostFwd.nD Cert.RwPostFwd.τ).loc Cert.RwPostFwd.main_arg3)
      ∧ r.2.mem ((c.tc : Thread Cert.RwPostFwd.nD Cert.RwPostFwd.τ).loc Cert.RwPostFwd.main_arg4) = m ((c.tc : Thread Cert.RwPostFwd.nD Cert.RwPostFwd.τ).loc Cert.RwPostFwd.main_arg4)
      ∧ r.2.mem ((c.tc : Thread Cert.RwPostFwd.nD Cert.RwPostFwd.τ).loc Cert.RwPostFwd.main_arg5) = m ((c.tc : Thread Cert.RwPostFwd.nD Cert.RwPostFwd.τ).loc Cert.RwPostFwd.main_arg5)
      ∧ r.2.mem ((c.tc : Thread Cert.RwPostFwd.nD Cert.RwPostFwd.τ).loc Cert.RwPostFwd.main_arg6) = m ((c.tc : Thread Cert.RwPostFwd.nD Cert.RwPostFwd.τ).loc Cert.RwPostFwd.main_arg6)
      ∧ r.2.mem ((c.tc : Thread Cert.RwPostFwd.nD Cert.RwPostFwd.τ).loc Cert.RwPostFwd.main_arg7) = m ((c.tc : Thread Cert.RwPostFwd.nD Cert.RwPostFwd.τ).loc Cert.RwPostFwd.main_arg7))
      ∧ r.2.sem = fun _ => 0)

def quiescent_RwPostFwdIdeal [hRwPostFwdIdeal : Cert.RwPostFwdIdeal.Facts] : Prop :=
  ∀ (m : (ℓ : Loc Cert.RwPostFwdIdeal.nD Cert.RwPostFwdIdeal.τ Cert.RwPostFwdIdeal.sig) → Buf (Elt Ideal) ℓ) (g : Dev Cert.RwPostFwdIdeal.nD → PrngReg), Pre_RwPostFwdIdeal m →
    θ_run (Cert.RwPostFwdIdeal.defs (F := Ideal)) (onTc (τ := Cert.RwPostFwdIdeal.τ) (Cert.RwPostFwdIdeal.main (F := Ideal))) ⟨m, fun _ => 0, g⟩ (fun r => (∀ c : Dev Cert.RwPostFwdIdeal.nD,
      r.2.mem ((c.tc : Thread Cert.RwPostFwdIdeal.nD Cert.RwPostFwdIdeal.τ).loc Cert.RwPostFwdIdeal.main_arg0) = m ((c.tc : Thread Cert.RwPostFwdIdeal.nD Cert.RwPostFwdIdeal.τ).loc Cert.RwPostFwdIdeal.main_arg0)
      ∧ r.2.mem ((c.tc : Thread Cert.RwPostFwdIdeal.nD Cert.RwPostFwdIdeal.τ).loc Cert.RwPostFwdIdeal.main_arg1) = m ((c.tc : Thread Cert.RwPostFwdIdeal.nD Cert.RwPostFwdIdeal.τ).loc Cert.RwPostFwdIdeal.main_arg1)
      ∧ r.2.mem ((c.tc : Thread Cert.RwPostFwdIdeal.nD Cert.RwPostFwdIdeal.τ).loc Cert.RwPostFwdIdeal.main_arg2) = m ((c.tc : Thread Cert.RwPostFwdIdeal.nD Cert.RwPostFwdIdeal.τ).loc Cert.RwPostFwdIdeal.main_arg2)
      ∧ r.2.mem ((c.tc : Thread Cert.RwPostFwdIdeal.nD Cert.RwPostFwdIdeal.τ).loc Cert.RwPostFwdIdeal.main_arg3) = m ((c.tc : Thread Cert.RwPostFwdIdeal.nD Cert.RwPostFwdIdeal.τ).loc Cert.RwPostFwdIdeal.main_arg3)
      ∧ r.2.mem ((c.tc : Thread Cert.RwPostFwdIdeal.nD Cert.RwPostFwdIdeal.τ).loc Cert.RwPostFwdIdeal.main_arg4) = m ((c.tc : Thread Cert.RwPostFwdIdeal.nD Cert.RwPostFwdIdeal.τ).loc Cert.RwPostFwdIdeal.main_arg4)
      ∧ r.2.mem ((c.tc : Thread Cert.RwPostFwdIdeal.nD Cert.RwPostFwdIdeal.τ).loc Cert.RwPostFwdIdeal.main_arg5) = m ((c.tc : Thread Cert.RwPostFwdIdeal.nD Cert.RwPostFwdIdeal.τ).loc Cert.RwPostFwdIdeal.main_arg5)
      ∧ r.2.mem ((c.tc : Thread Cert.RwPostFwdIdeal.nD Cert.RwPostFwdIdeal.τ).loc Cert.RwPostFwdIdeal.main_arg6) = m ((c.tc : Thread Cert.RwPostFwdIdeal.nD Cert.RwPostFwdIdeal.τ).loc Cert.RwPostFwdIdeal.main_arg6)
      ∧ r.2.mem ((c.tc : Thread Cert.RwPostFwdIdeal.nD Cert.RwPostFwdIdeal.τ).loc Cert.RwPostFwdIdeal.main_arg7) = m ((c.tc : Thread Cert.RwPostFwdIdeal.nD Cert.RwPostFwdIdeal.τ).loc Cert.RwPostFwdIdeal.main_arg7))
      ∧ r.2.sem = fun _ => 0)

def quiescent_RwPostFwdIdeal_pre_finite_rwpostfwd [hRwPostFwdIdeal : Cert.RwPostFwdIdeal.Facts] [hPre_finite_rwpostfwd : Cert.Pre_finite_rwpostfwd.Facts] : Prop :=
  ∀ (m : (ℓ : Loc Cert.RwPostFwdIdeal.nD Cert.RwPostFwdIdeal.τ Cert.RwPostFwdIdeal.sig) → Buf (Elt Ideal) ℓ) (g : Dev Cert.RwPostFwdIdeal.nD → PrngReg), Pre_RwPostFwdIdeal_finite_rwpostfwd m →
    θ_run (Cert.RwPostFwdIdeal.defs (F := Ideal)) (onTc (τ := Cert.RwPostFwdIdeal.τ) (Cert.RwPostFwdIdeal.main (F := Ideal))) ⟨m, fun _ => 0, g⟩ (fun r => (∀ c : Dev Cert.RwPostFwdIdeal.nD,
      r.2.mem ((c.tc : Thread Cert.RwPostFwdIdeal.nD Cert.RwPostFwdIdeal.τ).loc Cert.RwPostFwdIdeal.main_arg0) = m ((c.tc : Thread Cert.RwPostFwdIdeal.nD Cert.RwPostFwdIdeal.τ).loc Cert.RwPostFwdIdeal.main_arg0)
      ∧ r.2.mem ((c.tc : Thread Cert.RwPostFwdIdeal.nD Cert.RwPostFwdIdeal.τ).loc Cert.RwPostFwdIdeal.main_arg1) = m ((c.tc : Thread Cert.RwPostFwdIdeal.nD Cert.RwPostFwdIdeal.τ).loc Cert.RwPostFwdIdeal.main_arg1)
      ∧ r.2.mem ((c.tc : Thread Cert.RwPostFwdIdeal.nD Cert.RwPostFwdIdeal.τ).loc Cert.RwPostFwdIdeal.main_arg2) = m ((c.tc : Thread Cert.RwPostFwdIdeal.nD Cert.RwPostFwdIdeal.τ).loc Cert.RwPostFwdIdeal.main_arg2)
      ∧ r.2.mem ((c.tc : Thread Cert.RwPostFwdIdeal.nD Cert.RwPostFwdIdeal.τ).loc Cert.RwPostFwdIdeal.main_arg3) = m ((c.tc : Thread Cert.RwPostFwdIdeal.nD Cert.RwPostFwdIdeal.τ).loc Cert.RwPostFwdIdeal.main_arg3)
      ∧ r.2.mem ((c.tc : Thread Cert.RwPostFwdIdeal.nD Cert.RwPostFwdIdeal.τ).loc Cert.RwPostFwdIdeal.main_arg4) = m ((c.tc : Thread Cert.RwPostFwdIdeal.nD Cert.RwPostFwdIdeal.τ).loc Cert.RwPostFwdIdeal.main_arg4)
      ∧ r.2.mem ((c.tc : Thread Cert.RwPostFwdIdeal.nD Cert.RwPostFwdIdeal.τ).loc Cert.RwPostFwdIdeal.main_arg5) = m ((c.tc : Thread Cert.RwPostFwdIdeal.nD Cert.RwPostFwdIdeal.τ).loc Cert.RwPostFwdIdeal.main_arg5)
      ∧ r.2.mem ((c.tc : Thread Cert.RwPostFwdIdeal.nD Cert.RwPostFwdIdeal.τ).loc Cert.RwPostFwdIdeal.main_arg6) = m ((c.tc : Thread Cert.RwPostFwdIdeal.nD Cert.RwPostFwdIdeal.τ).loc Cert.RwPostFwdIdeal.main_arg6)
      ∧ r.2.mem ((c.tc : Thread Cert.RwPostFwdIdeal.nD Cert.RwPostFwdIdeal.τ).loc Cert.RwPostFwdIdeal.main_arg7) = m ((c.tc : Thread Cert.RwPostFwdIdeal.nD Cert.RwPostFwdIdeal.τ).loc Cert.RwPostFwdIdeal.main_arg7))
      ∧ r.2.sem = fun _ => 0)

def quiescent_RwPostFwdRefIdeal [hRwPostFwdRefIdeal : Cert.RwPostFwdRefIdeal.Facts] : Prop :=
  ∀ (m : (ℓ : Loc Cert.RwPostFwdRefIdeal.nD Cert.RwPostFwdRefIdeal.τ Cert.RwPostFwdRefIdeal.sig) → Buf (Elt Ideal) ℓ) (g : Dev Cert.RwPostFwdRefIdeal.nD → PrngReg), Pre_RwPostFwdRefIdeal m →
    θ_run (Cert.RwPostFwdRefIdeal.defs (F := Ideal)) (onTc (τ := Cert.RwPostFwdRefIdeal.τ) (Cert.RwPostFwdRefIdeal.main (F := Ideal))) ⟨m, fun _ => 0, g⟩ (fun r => (∀ c : Dev Cert.RwPostFwdRefIdeal.nD,
      r.2.mem ((c.tc : Thread Cert.RwPostFwdRefIdeal.nD Cert.RwPostFwdRefIdeal.τ).loc Cert.RwPostFwdRefIdeal.main_arg0) = m ((c.tc : Thread Cert.RwPostFwdRefIdeal.nD Cert.RwPostFwdRefIdeal.τ).loc Cert.RwPostFwdRefIdeal.main_arg0)
      ∧ r.2.mem ((c.tc : Thread Cert.RwPostFwdRefIdeal.nD Cert.RwPostFwdRefIdeal.τ).loc Cert.RwPostFwdRefIdeal.main_arg1) = m ((c.tc : Thread Cert.RwPostFwdRefIdeal.nD Cert.RwPostFwdRefIdeal.τ).loc Cert.RwPostFwdRefIdeal.main_arg1)
      ∧ r.2.mem ((c.tc : Thread Cert.RwPostFwdRefIdeal.nD Cert.RwPostFwdRefIdeal.τ).loc Cert.RwPostFwdRefIdeal.main_arg2) = m ((c.tc : Thread Cert.RwPostFwdRefIdeal.nD Cert.RwPostFwdRefIdeal.τ).loc Cert.RwPostFwdRefIdeal.main_arg2)
      ∧ r.2.mem ((c.tc : Thread Cert.RwPostFwdRefIdeal.nD Cert.RwPostFwdRefIdeal.τ).loc Cert.RwPostFwdRefIdeal.main_arg3) = m ((c.tc : Thread Cert.RwPostFwdRefIdeal.nD Cert.RwPostFwdRefIdeal.τ).loc Cert.RwPostFwdRefIdeal.main_arg3)
      ∧ r.2.mem ((c.tc : Thread Cert.RwPostFwdRefIdeal.nD Cert.RwPostFwdRefIdeal.τ).loc Cert.RwPostFwdRefIdeal.main_arg4) = m ((c.tc : Thread Cert.RwPostFwdRefIdeal.nD Cert.RwPostFwdRefIdeal.τ).loc Cert.RwPostFwdRefIdeal.main_arg4)
      ∧ r.2.mem ((c.tc : Thread Cert.RwPostFwdRefIdeal.nD Cert.RwPostFwdRefIdeal.τ).loc Cert.RwPostFwdRefIdeal.main_arg5) = m ((c.tc : Thread Cert.RwPostFwdRefIdeal.nD Cert.RwPostFwdRefIdeal.τ).loc Cert.RwPostFwdRefIdeal.main_arg5)
      ∧ r.2.mem ((c.tc : Thread Cert.RwPostFwdRefIdeal.nD Cert.RwPostFwdRefIdeal.τ).loc Cert.RwPostFwdRefIdeal.main_arg6) = m ((c.tc : Thread Cert.RwPostFwdRefIdeal.nD Cert.RwPostFwdRefIdeal.τ).loc Cert.RwPostFwdRefIdeal.main_arg6)
      ∧ r.2.mem ((c.tc : Thread Cert.RwPostFwdRefIdeal.nD Cert.RwPostFwdRefIdeal.τ).loc Cert.RwPostFwdRefIdeal.main_arg7) = m ((c.tc : Thread Cert.RwPostFwdRefIdeal.nD Cert.RwPostFwdRefIdeal.τ).loc Cert.RwPostFwdRefIdeal.main_arg7))
      ∧ r.2.sem = fun _ => 0)

def quiescent_RwPostFwdRefIdeal_pre_finite_rwpostfwd [hRwPostFwdRefIdeal : Cert.RwPostFwdRefIdeal.Facts] [hPre_finite_rwpostfwd : Cert.Pre_finite_rwpostfwd.Facts] : Prop :=
  ∀ (m : (ℓ : Loc Cert.RwPostFwdRefIdeal.nD Cert.RwPostFwdRefIdeal.τ Cert.RwPostFwdRefIdeal.sig) → Buf (Elt Ideal) ℓ) (g : Dev Cert.RwPostFwdRefIdeal.nD → PrngReg), Pre_RwPostFwdRefIdeal_finite_rwpostfwd m →
    θ_run (Cert.RwPostFwdRefIdeal.defs (F := Ideal)) (onTc (τ := Cert.RwPostFwdRefIdeal.τ) (Cert.RwPostFwdRefIdeal.main (F := Ideal))) ⟨m, fun _ => 0, g⟩ (fun r => (∀ c : Dev Cert.RwPostFwdRefIdeal.nD,
      r.2.mem ((c.tc : Thread Cert.RwPostFwdRefIdeal.nD Cert.RwPostFwdRefIdeal.τ).loc Cert.RwPostFwdRefIdeal.main_arg0) = m ((c.tc : Thread Cert.RwPostFwdRefIdeal.nD Cert.RwPostFwdRefIdeal.τ).loc Cert.RwPostFwdRefIdeal.main_arg0)
      ∧ r.2.mem ((c.tc : Thread Cert.RwPostFwdRefIdeal.nD Cert.RwPostFwdRefIdeal.τ).loc Cert.RwPostFwdRefIdeal.main_arg1) = m ((c.tc : Thread Cert.RwPostFwdRefIdeal.nD Cert.RwPostFwdRefIdeal.τ).loc Cert.RwPostFwdRefIdeal.main_arg1)
      ∧ r.2.mem ((c.tc : Thread Cert.RwPostFwdRefIdeal.nD Cert.RwPostFwdRefIdeal.τ).loc Cert.RwPostFwdRefIdeal.main_arg2) = m ((c.tc : Thread Cert.RwPostFwdRefIdeal.nD Cert.RwPostFwdRefIdeal.τ).loc Cert.RwPostFwdRefIdeal.main_arg2)
      ∧ r.2.mem ((c.tc : Thread Cert.RwPostFwdRefIdeal.nD Cert.RwPostFwdRefIdeal.τ).loc Cert.RwPostFwdRefIdeal.main_arg3) = m ((c.tc : Thread Cert.RwPostFwdRefIdeal.nD Cert.RwPostFwdRefIdeal.τ).loc Cert.RwPostFwdRefIdeal.main_arg3)
      ∧ r.2.mem ((c.tc : Thread Cert.RwPostFwdRefIdeal.nD Cert.RwPostFwdRefIdeal.τ).loc Cert.RwPostFwdRefIdeal.main_arg4) = m ((c.tc : Thread Cert.RwPostFwdRefIdeal.nD Cert.RwPostFwdRefIdeal.τ).loc Cert.RwPostFwdRefIdeal.main_arg4)
      ∧ r.2.mem ((c.tc : Thread Cert.RwPostFwdRefIdeal.nD Cert.RwPostFwdRefIdeal.τ).loc Cert.RwPostFwdRefIdeal.main_arg5) = m ((c.tc : Thread Cert.RwPostFwdRefIdeal.nD Cert.RwPostFwdRefIdeal.τ).loc Cert.RwPostFwdRefIdeal.main_arg5)
      ∧ r.2.mem ((c.tc : Thread Cert.RwPostFwdRefIdeal.nD Cert.RwPostFwdRefIdeal.τ).loc Cert.RwPostFwdRefIdeal.main_arg6) = m ((c.tc : Thread Cert.RwPostFwdRefIdeal.nD Cert.RwPostFwdRefIdeal.τ).loc Cert.RwPostFwdRefIdeal.main_arg6)
      ∧ r.2.mem ((c.tc : Thread Cert.RwPostFwdRefIdeal.nD Cert.RwPostFwdRefIdeal.τ).loc Cert.RwPostFwdRefIdeal.main_arg7) = m ((c.tc : Thread Cert.RwPostFwdRefIdeal.nD Cert.RwPostFwdRefIdeal.τ).loc Cert.RwPostFwdRefIdeal.main_arg7))
      ∧ r.2.sem = fun _ => 0)

def quiescent_S5ParamFwd [hS5ParamFwd : Cert.S5ParamFwd.Facts] : Prop :=
  ∀ (m : (ℓ : Loc Cert.S5ParamFwd.nD Cert.S5ParamFwd.τ Cert.S5ParamFwd.sig) → Buf (Elt Bits) ℓ) (g : Dev Cert.S5ParamFwd.nD → PrngReg), Pre_S5ParamFwd m →
    θ_run (Cert.S5ParamFwd.defs (F := Bits)) (onTc (τ := Cert.S5ParamFwd.τ) (Cert.S5ParamFwd.main (F := Bits))) ⟨m, fun _ => 0, g⟩ (fun r => (∀ c : Dev Cert.S5ParamFwd.nD,
      r.2.mem ((c.tc : Thread Cert.S5ParamFwd.nD Cert.S5ParamFwd.τ).loc Cert.S5ParamFwd.main_arg0) = m ((c.tc : Thread Cert.S5ParamFwd.nD Cert.S5ParamFwd.τ).loc Cert.S5ParamFwd.main_arg0)
      ∧ r.2.mem ((c.tc : Thread Cert.S5ParamFwd.nD Cert.S5ParamFwd.τ).loc Cert.S5ParamFwd.main_arg1) = m ((c.tc : Thread Cert.S5ParamFwd.nD Cert.S5ParamFwd.τ).loc Cert.S5ParamFwd.main_arg1)
      ∧ r.2.mem ((c.tc : Thread Cert.S5ParamFwd.nD Cert.S5ParamFwd.τ).loc Cert.S5ParamFwd.main_arg2) = m ((c.tc : Thread Cert.S5ParamFwd.nD Cert.S5ParamFwd.τ).loc Cert.S5ParamFwd.main_arg2)
      ∧ r.2.mem ((c.tc : Thread Cert.S5ParamFwd.nD Cert.S5ParamFwd.τ).loc Cert.S5ParamFwd.main_arg3) = m ((c.tc : Thread Cert.S5ParamFwd.nD Cert.S5ParamFwd.τ).loc Cert.S5ParamFwd.main_arg3)
      ∧ r.2.mem ((c.tc : Thread Cert.S5ParamFwd.nD Cert.S5ParamFwd.τ).loc Cert.S5ParamFwd.main_arg4) = m ((c.tc : Thread Cert.S5ParamFwd.nD Cert.S5ParamFwd.τ).loc Cert.S5ParamFwd.main_arg4))
      ∧ r.2.sem = fun _ => 0)

def quiescent_S5ParamFwdIdeal [hS5ParamFwdIdeal : Cert.S5ParamFwdIdeal.Facts] : Prop :=
  ∀ (m : (ℓ : Loc Cert.S5ParamFwdIdeal.nD Cert.S5ParamFwdIdeal.τ Cert.S5ParamFwdIdeal.sig) → Buf (Elt Ideal) ℓ) (g : Dev Cert.S5ParamFwdIdeal.nD → PrngReg), Pre_S5ParamFwdIdeal m →
    θ_run (Cert.S5ParamFwdIdeal.defs (F := Ideal)) (onTc (τ := Cert.S5ParamFwdIdeal.τ) (Cert.S5ParamFwdIdeal.main (F := Ideal))) ⟨m, fun _ => 0, g⟩ (fun r => (∀ c : Dev Cert.S5ParamFwdIdeal.nD,
      r.2.mem ((c.tc : Thread Cert.S5ParamFwdIdeal.nD Cert.S5ParamFwdIdeal.τ).loc Cert.S5ParamFwdIdeal.main_arg0) = m ((c.tc : Thread Cert.S5ParamFwdIdeal.nD Cert.S5ParamFwdIdeal.τ).loc Cert.S5ParamFwdIdeal.main_arg0)
      ∧ r.2.mem ((c.tc : Thread Cert.S5ParamFwdIdeal.nD Cert.S5ParamFwdIdeal.τ).loc Cert.S5ParamFwdIdeal.main_arg1) = m ((c.tc : Thread Cert.S5ParamFwdIdeal.nD Cert.S5ParamFwdIdeal.τ).loc Cert.S5ParamFwdIdeal.main_arg1)
      ∧ r.2.mem ((c.tc : Thread Cert.S5ParamFwdIdeal.nD Cert.S5ParamFwdIdeal.τ).loc Cert.S5ParamFwdIdeal.main_arg2) = m ((c.tc : Thread Cert.S5ParamFwdIdeal.nD Cert.S5ParamFwdIdeal.τ).loc Cert.S5ParamFwdIdeal.main_arg2)
      ∧ r.2.mem ((c.tc : Thread Cert.S5ParamFwdIdeal.nD Cert.S5ParamFwdIdeal.τ).loc Cert.S5ParamFwdIdeal.main_arg3) = m ((c.tc : Thread Cert.S5ParamFwdIdeal.nD Cert.S5ParamFwdIdeal.τ).loc Cert.S5ParamFwdIdeal.main_arg3)
      ∧ r.2.mem ((c.tc : Thread Cert.S5ParamFwdIdeal.nD Cert.S5ParamFwdIdeal.τ).loc Cert.S5ParamFwdIdeal.main_arg4) = m ((c.tc : Thread Cert.S5ParamFwdIdeal.nD Cert.S5ParamFwdIdeal.τ).loc Cert.S5ParamFwdIdeal.main_arg4))
      ∧ r.2.sem = fun _ => 0)

def quiescent_S5ParamFwdRefIdeal [hS5ParamFwdRefIdeal : Cert.S5ParamFwdRefIdeal.Facts] : Prop :=
  ∀ (m : (ℓ : Loc Cert.S5ParamFwdRefIdeal.nD Cert.S5ParamFwdRefIdeal.τ Cert.S5ParamFwdRefIdeal.sig) → Buf (Elt Ideal) ℓ) (g : Dev Cert.S5ParamFwdRefIdeal.nD → PrngReg), Pre_S5ParamFwdRefIdeal m →
    θ_run (Cert.S5ParamFwdRefIdeal.defs (F := Ideal)) (onTc (τ := Cert.S5ParamFwdRefIdeal.τ) (Cert.S5ParamFwdRefIdeal.main (F := Ideal))) ⟨m, fun _ => 0, g⟩ (fun r => (∀ c : Dev Cert.S5ParamFwdRefIdeal.nD,
      r.2.mem ((c.tc : Thread Cert.S5ParamFwdRefIdeal.nD Cert.S5ParamFwdRefIdeal.τ).loc Cert.S5ParamFwdRefIdeal.main_arg0) = m ((c.tc : Thread Cert.S5ParamFwdRefIdeal.nD Cert.S5ParamFwdRefIdeal.τ).loc Cert.S5ParamFwdRefIdeal.main_arg0)
      ∧ r.2.mem ((c.tc : Thread Cert.S5ParamFwdRefIdeal.nD Cert.S5ParamFwdRefIdeal.τ).loc Cert.S5ParamFwdRefIdeal.main_arg1) = m ((c.tc : Thread Cert.S5ParamFwdRefIdeal.nD Cert.S5ParamFwdRefIdeal.τ).loc Cert.S5ParamFwdRefIdeal.main_arg1)
      ∧ r.2.mem ((c.tc : Thread Cert.S5ParamFwdRefIdeal.nD Cert.S5ParamFwdRefIdeal.τ).loc Cert.S5ParamFwdRefIdeal.main_arg2) = m ((c.tc : Thread Cert.S5ParamFwdRefIdeal.nD Cert.S5ParamFwdRefIdeal.τ).loc Cert.S5ParamFwdRefIdeal.main_arg2)
      ∧ r.2.mem ((c.tc : Thread Cert.S5ParamFwdRefIdeal.nD Cert.S5ParamFwdRefIdeal.τ).loc Cert.S5ParamFwdRefIdeal.main_arg3) = m ((c.tc : Thread Cert.S5ParamFwdRefIdeal.nD Cert.S5ParamFwdRefIdeal.τ).loc Cert.S5ParamFwdRefIdeal.main_arg3)
      ∧ r.2.mem ((c.tc : Thread Cert.S5ParamFwdRefIdeal.nD Cert.S5ParamFwdRefIdeal.τ).loc Cert.S5ParamFwdRefIdeal.main_arg4) = m ((c.tc : Thread Cert.S5ParamFwdRefIdeal.nD Cert.S5ParamFwdRefIdeal.τ).loc Cert.S5ParamFwdRefIdeal.main_arg4))
      ∧ r.2.sem = fun _ => 0)

def quiescent_WkvBwd [hWkvBwd : Cert.WkvBwd.Facts] : Prop :=
  ∀ (m : (ℓ : Loc Cert.WkvBwd.nD Cert.WkvBwd.τ Cert.WkvBwd.sig) → Buf (Elt Bits) ℓ) (g : Dev Cert.WkvBwd.nD → PrngReg), Pre_WkvBwd m →
    θ_run (Cert.WkvBwd.defs (F := Bits)) (onTc (τ := Cert.WkvBwd.τ) (Cert.WkvBwd.main (F := Bits))) ⟨m, fun _ => 0, g⟩ (fun r => (∀ c : Dev Cert.WkvBwd.nD,
      r.2.mem ((c.tc : Thread Cert.WkvBwd.nD Cert.WkvBwd.τ).loc Cert.WkvBwd.main_arg0) = m ((c.tc : Thread Cert.WkvBwd.nD Cert.WkvBwd.τ).loc Cert.WkvBwd.main_arg0)
      ∧ r.2.mem ((c.tc : Thread Cert.WkvBwd.nD Cert.WkvBwd.τ).loc Cert.WkvBwd.main_arg1) = m ((c.tc : Thread Cert.WkvBwd.nD Cert.WkvBwd.τ).loc Cert.WkvBwd.main_arg1)
      ∧ r.2.mem ((c.tc : Thread Cert.WkvBwd.nD Cert.WkvBwd.τ).loc Cert.WkvBwd.main_arg2) = m ((c.tc : Thread Cert.WkvBwd.nD Cert.WkvBwd.τ).loc Cert.WkvBwd.main_arg2)
      ∧ r.2.mem ((c.tc : Thread Cert.WkvBwd.nD Cert.WkvBwd.τ).loc Cert.WkvBwd.main_arg3) = m ((c.tc : Thread Cert.WkvBwd.nD Cert.WkvBwd.τ).loc Cert.WkvBwd.main_arg3)
      ∧ r.2.mem ((c.tc : Thread Cert.WkvBwd.nD Cert.WkvBwd.τ).loc Cert.WkvBwd.main_arg4) = m ((c.tc : Thread Cert.WkvBwd.nD Cert.WkvBwd.τ).loc Cert.WkvBwd.main_arg4)
      ∧ r.2.mem ((c.tc : Thread Cert.WkvBwd.nD Cert.WkvBwd.τ).loc Cert.WkvBwd.main_arg5) = m ((c.tc : Thread Cert.WkvBwd.nD Cert.WkvBwd.τ).loc Cert.WkvBwd.main_arg5)
      ∧ r.2.mem ((c.tc : Thread Cert.WkvBwd.nD Cert.WkvBwd.τ).loc Cert.WkvBwd.main_arg6) = m ((c.tc : Thread Cert.WkvBwd.nD Cert.WkvBwd.τ).loc Cert.WkvBwd.main_arg6)
      ∧ r.2.mem ((c.tc : Thread Cert.WkvBwd.nD Cert.WkvBwd.τ).loc Cert.WkvBwd.main_arg7) = m ((c.tc : Thread Cert.WkvBwd.nD Cert.WkvBwd.τ).loc Cert.WkvBwd.main_arg7))
      ∧ r.2.sem = fun _ => 0)

def quiescent_WkvBwdIdeal [hWkvBwdIdeal : Cert.WkvBwdIdeal.Facts] : Prop :=
  ∀ (m : (ℓ : Loc Cert.WkvBwdIdeal.nD Cert.WkvBwdIdeal.τ Cert.WkvBwdIdeal.sig) → Buf (Elt Ideal) ℓ) (g : Dev Cert.WkvBwdIdeal.nD → PrngReg), Pre_WkvBwdIdeal m →
    θ_run (Cert.WkvBwdIdeal.defs (F := Ideal)) (onTc (τ := Cert.WkvBwdIdeal.τ) (Cert.WkvBwdIdeal.main (F := Ideal))) ⟨m, fun _ => 0, g⟩ (fun r => (∀ c : Dev Cert.WkvBwdIdeal.nD,
      r.2.mem ((c.tc : Thread Cert.WkvBwdIdeal.nD Cert.WkvBwdIdeal.τ).loc Cert.WkvBwdIdeal.main_arg0) = m ((c.tc : Thread Cert.WkvBwdIdeal.nD Cert.WkvBwdIdeal.τ).loc Cert.WkvBwdIdeal.main_arg0)
      ∧ r.2.mem ((c.tc : Thread Cert.WkvBwdIdeal.nD Cert.WkvBwdIdeal.τ).loc Cert.WkvBwdIdeal.main_arg1) = m ((c.tc : Thread Cert.WkvBwdIdeal.nD Cert.WkvBwdIdeal.τ).loc Cert.WkvBwdIdeal.main_arg1)
      ∧ r.2.mem ((c.tc : Thread Cert.WkvBwdIdeal.nD Cert.WkvBwdIdeal.τ).loc Cert.WkvBwdIdeal.main_arg2) = m ((c.tc : Thread Cert.WkvBwdIdeal.nD Cert.WkvBwdIdeal.τ).loc Cert.WkvBwdIdeal.main_arg2)
      ∧ r.2.mem ((c.tc : Thread Cert.WkvBwdIdeal.nD Cert.WkvBwdIdeal.τ).loc Cert.WkvBwdIdeal.main_arg3) = m ((c.tc : Thread Cert.WkvBwdIdeal.nD Cert.WkvBwdIdeal.τ).loc Cert.WkvBwdIdeal.main_arg3)
      ∧ r.2.mem ((c.tc : Thread Cert.WkvBwdIdeal.nD Cert.WkvBwdIdeal.τ).loc Cert.WkvBwdIdeal.main_arg4) = m ((c.tc : Thread Cert.WkvBwdIdeal.nD Cert.WkvBwdIdeal.τ).loc Cert.WkvBwdIdeal.main_arg4)
      ∧ r.2.mem ((c.tc : Thread Cert.WkvBwdIdeal.nD Cert.WkvBwdIdeal.τ).loc Cert.WkvBwdIdeal.main_arg5) = m ((c.tc : Thread Cert.WkvBwdIdeal.nD Cert.WkvBwdIdeal.τ).loc Cert.WkvBwdIdeal.main_arg5)
      ∧ r.2.mem ((c.tc : Thread Cert.WkvBwdIdeal.nD Cert.WkvBwdIdeal.τ).loc Cert.WkvBwdIdeal.main_arg6) = m ((c.tc : Thread Cert.WkvBwdIdeal.nD Cert.WkvBwdIdeal.τ).loc Cert.WkvBwdIdeal.main_arg6)
      ∧ r.2.mem ((c.tc : Thread Cert.WkvBwdIdeal.nD Cert.WkvBwdIdeal.τ).loc Cert.WkvBwdIdeal.main_arg7) = m ((c.tc : Thread Cert.WkvBwdIdeal.nD Cert.WkvBwdIdeal.τ).loc Cert.WkvBwdIdeal.main_arg7))
      ∧ r.2.sem = fun _ => 0)

def preserves_Kernel_KernelIdeal : Prop :=
  True

def algebraic_KernelIdeal_ReferenceIdeal_pre_finite_dzs [hKernelIdeal : Cert.KernelIdeal.Facts] [hReferenceIdeal : Cert.ReferenceIdeal.Facts] [hPre_finite_dzs : Cert.Pre_finite_dzs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_dzs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v21_0)) (v1 : (c : Dev Cert.FfnIdeal.nD) → Buf (Elt Ideal) ((c.tc : Thread Cert.FfnIdeal.nD Cert.FfnIdeal.τ).loc Cert.FfnIdeal.main_v21_1)) (v2 : (c : Dev Cert.FfnIdeal.nD) → Buf (Elt Ideal) ((c.tc : Thread Cert.FfnIdeal.nD Cert.FfnIdeal.τ).loc Cert.FfnIdeal.main_v21_2)) (v3 : (c : Dev Cert.FfnIdeal.nD) → Buf (Elt Ideal) ((c.tc : Thread Cert.FfnIdeal.nD Cert.FfnIdeal.τ).loc Cert.FfnIdeal.main_v21_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v21_0) = v0 c
          ∧ r.2.mem ((c.tc : Thread Cert.FfnIdeal.nD Cert.FfnIdeal.τ).loc Cert.FfnIdeal.main_v21_1) = v1 c
          ∧ r.2.mem ((c.tc : Thread Cert.FfnIdeal.nD Cert.FfnIdeal.τ).loc Cert.FfnIdeal.main_v21_2) = v2 c
          ∧ r.2.mem ((c.tc : Thread Cert.FfnIdeal.nD Cert.FfnIdeal.τ).loc Cert.FfnIdeal.main_v21_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v53) = v0 c
          ∧ r.2.mem ((c.tc : Thread Cert.FfnRefIdeal.nD Cert.FfnRefIdeal.τ).loc Cert.FfnRefIdeal.main_v54) = v1 c
          ∧ r.2.mem ((c.tc : Thread Cert.FfnRefIdeal.nD Cert.FfnRefIdeal.τ).loc Cert.FfnRefIdeal.main_v55) = v2 c
          ∧ r.2.mem ((c.tc : Thread Cert.FfnRefIdeal.nD Cert.FfnRefIdeal.τ).loc Cert.FfnRefIdeal.main_v56) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_S5Post_S5PostIdeal : Prop :=
  True

def algebraic_S5PostIdeal_S5PostRefIdeal_pre_finite_s5post [hS5PostIdeal : Cert.S5PostIdeal.Facts] [hS5PostRefIdeal : Cert.S5PostRefIdeal.Facts] [hPre_finite_s5post : Cert.Pre_finite_s5post.Facts] : Prop :=
  ∀ (m : (ℓ : Loc Cert.S5PostIdeal.nD Cert.S5PostIdeal.τ Cert.S5PostIdeal.sig) → Buf (Elt Ideal) ℓ) (g : Dev Cert.S5PostIdeal.nD → PrngReg)
    (m' : (ℓ : Loc Cert.S5PostRefIdeal.nD Cert.S5PostRefIdeal.τ Cert.S5PostRefIdeal.sig) → Buf (Elt Ideal) ℓ) (g' : Dev Cert.S5PostRefIdeal.nD → PrngReg), Pre_S5PostIdeal_finite_s5post m →
    (∀ c : Dev Cert.S5PostIdeal.nD,
      m' ((c.tc : Thread Cert.S5PostRefIdeal.nD Cert.S5PostRefIdeal.τ).loc Cert.S5PostRefIdeal.main_arg0) = m ((c.tc : Thread Cert.S5PostIdeal.nD Cert.S5PostIdeal.τ).loc Cert.S5PostIdeal.main_arg0)
      ∧ m' ((c.tc : Thread Cert.S5PostRefIdeal.nD Cert.S5PostRefIdeal.τ).loc Cert.S5PostRefIdeal.main_arg1) = m ((c.tc : Thread Cert.S5PostIdeal.nD Cert.S5PostIdeal.τ).loc Cert.S5PostIdeal.main_arg1)
      ∧ m' ((c.tc : Thread Cert.S5PostRefIdeal.nD Cert.S5PostRefIdeal.τ).loc Cert.S5PostRefIdeal.main_arg2) = m ((c.tc : Thread Cert.S5PostIdeal.nD Cert.S5PostIdeal.τ).loc Cert.S5PostIdeal.main_arg2)
      ∧ m' ((c.tc : Thread Cert.S5PostRefIdeal.nD Cert.S5PostRefIdeal.τ).loc Cert.S5PostRefIdeal.main_arg3) = m ((c.tc : Thread Cert.S5PostIdeal.nD Cert.S5PostIdeal.τ).loc Cert.S5PostIdeal.main_arg3)
      ∧ m' ((c.tc : Thread Cert.S5PostRefIdeal.nD Cert.S5PostRefIdeal.τ).loc Cert.S5PostRefIdeal.main_arg4) = m ((c.tc : Thread Cert.S5PostIdeal.nD Cert.S5PostIdeal.τ).loc Cert.S5PostIdeal.main_arg4)) →
    ∃ (v0 : (c : Dev Cert.S5PostIdeal.nD) → Buf (Elt Ideal) ((c.tc : Thread Cert.S5PostIdeal.nD Cert.S5PostIdeal.τ).loc Cert.S5PostIdeal.main_v4_0)) (v1 : (c : Dev Cert.S5PostIdeal.nD) → Buf (Elt Ideal) ((c.tc : Thread Cert.S5PostIdeal.nD Cert.S5PostIdeal.τ).loc Cert.S5PostIdeal.main_v4_1)) (v2 : (c : Dev Cert.S5PostIdeal.nD) → Buf (Elt Ideal) ((c.tc : Thread Cert.S5PostIdeal.nD Cert.S5PostIdeal.τ).loc Cert.S5PostIdeal.main_v4_2)) (v3 : (c : Dev Cert.S5PostIdeal.nD) → Buf (Elt Ideal) ((c.tc : Thread Cert.S5PostIdeal.nD Cert.S5PostIdeal.τ).loc Cert.S5PostIdeal.main_v4_3)),
      θ_run (Cert.S5PostIdeal.defs (F := Ideal)) (onTc (τ := Cert.S5PostIdeal.τ) (Cert.S5PostIdeal.main (F := Ideal))) ⟨m, fun _ => 0, g⟩ (fun r => ∀ c : Dev Cert.S5PostIdeal.nD,
          r.2.mem ((c.tc : Thread Cert.S5PostIdeal.nD Cert.S5PostIdeal.τ).loc Cert.S5PostIdeal.main_v4_0) = v0 c
          ∧ r.2.mem ((c.tc : Thread Cert.S5PostIdeal.nD Cert.S5PostIdeal.τ).loc Cert.S5PostIdeal.main_v4_1) = v1 c
          ∧ r.2.mem ((c.tc : Thread Cert.S5PostIdeal.nD Cert.S5PostIdeal.τ).loc Cert.S5PostIdeal.main_v4_2) = v2 c
          ∧ r.2.mem ((c.tc : Thread Cert.S5PostIdeal.nD Cert.S5PostIdeal.τ).loc Cert.S5PostIdeal.main_v4_3) = v3 c
          ∧ r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
          ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
          ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
          ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3)
          ∧ r.2.mem ((c.tc : Thread Cert.S5PostIdeal.nD Cert.S5PostIdeal.τ).loc Cert.S5PostIdeal.main_arg4) = m ((c.tc : Thread Cert.S5PostIdeal.nD Cert.S5PostIdeal.τ).loc Cert.S5PostIdeal.main_arg4))
      ∧ θ_run (Cert.S5PostRefIdeal.defs (F := Ideal)) (onTc (τ := Cert.S5PostRefIdeal.τ) (Cert.S5PostRefIdeal.main (F := Ideal))) ⟨m', fun _ => 0, g'⟩ (fun r => ∀ c : Dev Cert.S5PostRefIdeal.nD,
          r.2.mem ((c.tc : Thread Cert.S5PostRefIdeal.nD Cert.S5PostRefIdeal.τ).loc Cert.S5PostRefIdeal.main_v61) = v0 c
          ∧ r.2.mem ((c.tc : Thread Cert.S5PostRefIdeal.nD Cert.S5PostRefIdeal.τ).loc Cert.S5PostRefIdeal.main_v62) = v1 c
          ∧ r.2.mem ((c.tc : Thread Cert.S5PostRefIdeal.nD Cert.S5PostRefIdeal.τ).loc Cert.S5PostRefIdeal.main_v47) = v2 c
          ∧ r.2.mem ((c.tc : Thread Cert.S5PostRefIdeal.nD Cert.S5PostRefIdeal.τ).loc Cert.S5PostRefIdeal.main_v38) = v3 c
          ∧ r.2.mem ((c.tc : Thread Cert.S5PostRefIdeal.nD Cert.S5PostRefIdeal.τ).loc Cert.S5PostRefIdeal.main_arg0) = m' ((c.tc : Thread Cert.S5PostRefIdeal.nD Cert.S5PostRefIdeal.τ).loc Cert.S5PostRefIdeal.main_arg0)
          ∧ r.2.mem ((c.tc : Thread Cert.S5PostRefIdeal.nD Cert.S5PostRefIdeal.τ).loc Cert.S5PostRefIdeal.main_arg1) = m' ((c.tc : Thread Cert.S5PostRefIdeal.nD Cert.S5PostRefIdeal.τ).loc Cert.S5PostRefIdeal.main_arg1)
          ∧ r.2.mem ((c.tc : Thread Cert.S5PostRefIdeal.nD Cert.S5PostRefIdeal.τ).loc Cert.S5PostRefIdeal.main_arg2) = m' ((c.tc : Thread Cert.S5PostRefIdeal.nD Cert.S5PostRefIdeal.τ).loc Cert.S5PostRefIdeal.main_arg2)
          ∧ r.2.mem ((c.tc : Thread Cert.S5PostRefIdeal.nD Cert.S5PostRefIdeal.τ).loc Cert.S5PostRefIdeal.main_arg3) = m' ((c.tc : Thread Cert.S5PostRefIdeal.nD Cert.S5PostRefIdeal.τ).loc Cert.S5PostRefIdeal.main_arg3)
          ∧ r.2.mem ((c.tc : Thread Cert.S5PostRefIdeal.nD Cert.S5PostRefIdeal.τ).loc Cert.S5PostRefIdeal.main_arg4) = m' ((c.tc : Thread Cert.S5PostRefIdeal.nD Cert.S5PostRefIdeal.τ).loc Cert.S5PostRefIdeal.main_arg4))

def preserves_Ple_PleIdeal : Prop :=
  True

def algebraic_PleIdeal_PleRefIdeal_pre_finite_ple [hPleIdeal : Cert.PleIdeal.Facts] [hPleRefIdeal : Cert.PleRefIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite_ple m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v4_0)) (v1 : (c : Dev Cert.PleIdeal.nD) → Buf (Elt Ideal) ((c.tc : Thread Cert.PleIdeal.nD Cert.PleIdeal.τ).loc Cert.PleIdeal.main_v4_1)) (v2 : (c : Dev Cert.PleIdeal.nD) → Buf (Elt Ideal) ((c.tc : Thread Cert.PleIdeal.nD Cert.PleIdeal.τ).loc Cert.PleIdeal.main_v4_2)) (v3 : (c : Dev Cert.PleIdeal.nD) → Buf (Elt Ideal) ((c.tc : Thread Cert.PleIdeal.nD Cert.PleIdeal.τ).loc Cert.PleIdeal.main_v4_3)) (v4 : (c : Dev Cert.PleIdeal.nD) → Buf (Elt Ideal) ((c.tc : Thread Cert.PleIdeal.nD Cert.PleIdeal.τ).loc Cert.PleIdeal.main_v4_4)) (v5 : (c : Dev Cert.PleIdeal.nD) → Buf (Elt Ideal) ((c.tc : Thread Cert.PleIdeal.nD Cert.PleIdeal.τ).loc Cert.PleIdeal.main_v4_5)) (v6 : (c : Dev Cert.PleIdeal.nD) → Buf (Elt Ideal) ((c.tc : Thread Cert.PleIdeal.nD Cert.PleIdeal.τ).loc Cert.PleIdeal.main_v4_6)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4_0) = v0 c
          ∧ r.2.mem ((c.tc : Thread Cert.PleIdeal.nD Cert.PleIdeal.τ).loc Cert.PleIdeal.main_v4_1) = v1 c
          ∧ r.2.mem ((c.tc : Thread Cert.PleIdeal.nD Cert.PleIdeal.τ).loc Cert.PleIdeal.main_v4_2) = v2 c
          ∧ r.2.mem ((c.tc : Thread Cert.PleIdeal.nD Cert.PleIdeal.τ).loc Cert.PleIdeal.main_v4_3) = v3 c
          ∧ r.2.mem ((c.tc : Thread Cert.PleIdeal.nD Cert.PleIdeal.τ).loc Cert.PleIdeal.main_v4_4) = v4 c
          ∧ r.2.mem ((c.tc : Thread Cert.PleIdeal.nD Cert.PleIdeal.τ).loc Cert.PleIdeal.main_v4_5) = v5 c
          ∧ r.2.mem ((c.tc : Thread Cert.PleIdeal.nD Cert.PleIdeal.τ).loc Cert.PleIdeal.main_v4_6) = v6 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v108) = v0 c
          ∧ r.2.mem ((c.tc : Thread Cert.PleRefIdeal.nD Cert.PleRefIdeal.τ).loc Cert.PleRefIdeal.main_v109) = v1 c
          ∧ r.2.mem ((c.tc : Thread Cert.PleRefIdeal.nD Cert.PleRefIdeal.τ).loc Cert.PleRefIdeal.main_v110) = v2 c
          ∧ r.2.mem ((c.tc : Thread Cert.PleRefIdeal.nD Cert.PleRefIdeal.τ).loc Cert.PleRefIdeal.main_v111) = v3 c
          ∧ r.2.mem ((c.tc : Thread Cert.PleRefIdeal.nD Cert.PleRefIdeal.τ).loc Cert.PleRefIdeal.main_v112) = v4 c
          ∧ r.2.mem ((c.tc : Thread Cert.PleRefIdeal.nD Cert.PleRefIdeal.τ).loc Cert.PleRefIdeal.main_v86) = v5 c
          ∧ r.2.mem ((c.tc : Thread Cert.PleRefIdeal.nD Cert.PleRefIdeal.τ).loc Cert.PleRefIdeal.main_v83) = v6 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_RwPost_RwPostIdeal : Prop :=
  True

def algebraic_RwPostIdeal_RwPostRefIdeal_pre_finite_rwpost [hRwPostIdeal : Cert.RwPostIdeal.Facts] [hRwPostRefIdeal : Cert.RwPostRefIdeal.Facts] [hPre_finite_rwpost : Cert.Pre_finite_rwpost.Facts] : Prop :=
  ∀ (m : (ℓ : Loc Cert.RwPostIdeal.nD Cert.RwPostIdeal.τ Cert.RwPostIdeal.sig) → Buf (Elt Ideal) ℓ) (g : Dev Cert.RwPostIdeal.nD → PrngReg)
    (m' : (ℓ : Loc Cert.RwPostRefIdeal.nD Cert.RwPostRefIdeal.τ Cert.RwPostRefIdeal.sig) → Buf (Elt Ideal) ℓ) (g' : Dev Cert.RwPostRefIdeal.nD → PrngReg), Pre_RwPostIdeal_finite_rwpost m →
    (∀ c : Dev Cert.RwPostIdeal.nD,
      m' ((c.tc : Thread Cert.RwPostRefIdeal.nD Cert.RwPostRefIdeal.τ).loc Cert.RwPostRefIdeal.main_arg0) = m ((c.tc : Thread Cert.RwPostIdeal.nD Cert.RwPostIdeal.τ).loc Cert.RwPostIdeal.main_arg0)
      ∧ m' ((c.tc : Thread Cert.RwPostRefIdeal.nD Cert.RwPostRefIdeal.τ).loc Cert.RwPostRefIdeal.main_arg1) = m ((c.tc : Thread Cert.RwPostIdeal.nD Cert.RwPostIdeal.τ).loc Cert.RwPostIdeal.main_arg1)
      ∧ m' ((c.tc : Thread Cert.RwPostRefIdeal.nD Cert.RwPostRefIdeal.τ).loc Cert.RwPostRefIdeal.main_arg2) = m ((c.tc : Thread Cert.RwPostIdeal.nD Cert.RwPostIdeal.τ).loc Cert.RwPostIdeal.main_arg2)
      ∧ m' ((c.tc : Thread Cert.RwPostRefIdeal.nD Cert.RwPostRefIdeal.τ).loc Cert.RwPostRefIdeal.main_arg3) = m ((c.tc : Thread Cert.RwPostIdeal.nD Cert.RwPostIdeal.τ).loc Cert.RwPostIdeal.main_arg3)
      ∧ m' ((c.tc : Thread Cert.RwPostRefIdeal.nD Cert.RwPostRefIdeal.τ).loc Cert.RwPostRefIdeal.main_arg4) = m ((c.tc : Thread Cert.RwPostIdeal.nD Cert.RwPostIdeal.τ).loc Cert.RwPostIdeal.main_arg4)
      ∧ m' ((c.tc : Thread Cert.RwPostRefIdeal.nD Cert.RwPostRefIdeal.τ).loc Cert.RwPostRefIdeal.main_arg5) = m ((c.tc : Thread Cert.RwPostIdeal.nD Cert.RwPostIdeal.τ).loc Cert.RwPostIdeal.main_arg5)
      ∧ m' ((c.tc : Thread Cert.RwPostRefIdeal.nD Cert.RwPostRefIdeal.τ).loc Cert.RwPostRefIdeal.main_arg6) = m ((c.tc : Thread Cert.RwPostIdeal.nD Cert.RwPostIdeal.τ).loc Cert.RwPostIdeal.main_arg6)
      ∧ m' ((c.tc : Thread Cert.RwPostRefIdeal.nD Cert.RwPostRefIdeal.τ).loc Cert.RwPostRefIdeal.main_arg7) = m ((c.tc : Thread Cert.RwPostIdeal.nD Cert.RwPostIdeal.τ).loc Cert.RwPostIdeal.main_arg7)
      ∧ m' ((c.tc : Thread Cert.RwPostRefIdeal.nD Cert.RwPostRefIdeal.τ).loc Cert.RwPostRefIdeal.main_arg8) = m ((c.tc : Thread Cert.RwPostIdeal.nD Cert.RwPostIdeal.τ).loc Cert.RwPostIdeal.main_arg8)
      ∧ m' ((c.tc : Thread Cert.RwPostRefIdeal.nD Cert.RwPostRefIdeal.τ).loc Cert.RwPostRefIdeal.main_arg9) = m ((c.tc : Thread Cert.RwPostIdeal.nD Cert.RwPostIdeal.τ).loc Cert.RwPostIdeal.main_arg9)) →
    ∃ (v0 : (c : Dev Cert.RwPostIdeal.nD) → Buf (Elt Ideal) ((c.tc : Thread Cert.RwPostIdeal.nD Cert.RwPostIdeal.τ).loc Cert.RwPostIdeal.main_v9_0)) (v1 : (c : Dev Cert.RwPostIdeal.nD) → Buf (Elt Ideal) ((c.tc : Thread Cert.RwPostIdeal.nD Cert.RwPostIdeal.τ).loc Cert.RwPostIdeal.main_v9_1)) (v2 : (c : Dev Cert.RwPostIdeal.nD) → Buf (Elt Ideal) ((c.tc : Thread Cert.RwPostIdeal.nD Cert.RwPostIdeal.τ).loc Cert.RwPostIdeal.main_v9_2)) (v3 : (c : Dev Cert.RwPostIdeal.nD) → Buf (Elt Ideal) ((c.tc : Thread Cert.RwPostIdeal.nD Cert.RwPostIdeal.τ).loc Cert.RwPostIdeal.main_v9_3)) (v4 : (c : Dev Cert.RwPostIdeal.nD) → Buf (Elt Ideal) ((c.tc : Thread Cert.RwPostIdeal.nD Cert.RwPostIdeal.τ).loc Cert.RwPostIdeal.main_v9_4)) (v5 : (c : Dev Cert.RwPostIdeal.nD) → Buf (Elt Ideal) ((c.tc : Thread Cert.RwPostIdeal.nD Cert.RwPostIdeal.τ).loc Cert.RwPostIdeal.main_v9_5)) (v6 : (c : Dev Cert.RwPostIdeal.nD) → Buf (Elt Ideal) ((c.tc : Thread Cert.RwPostIdeal.nD Cert.RwPostIdeal.τ).loc Cert.RwPostIdeal.main_v9_6)) (v7 : (c : Dev Cert.RwPostIdeal.nD) → Buf (Elt Ideal) ((c.tc : Thread Cert.RwPostIdeal.nD Cert.RwPostIdeal.τ).loc Cert.RwPostIdeal.main_v9_7)) (v8 : (c : Dev Cert.RwPostIdeal.nD) → Buf (Elt Ideal) ((c.tc : Thread Cert.RwPostIdeal.nD Cert.RwPostIdeal.τ).loc Cert.RwPostIdeal.main_v9_8)),
      θ_run (Cert.RwPostIdeal.defs (F := Ideal)) (onTc (τ := Cert.RwPostIdeal.τ) (Cert.RwPostIdeal.main (F := Ideal))) ⟨m, fun _ => 0, g⟩ (fun r => ∀ c : Dev Cert.RwPostIdeal.nD,
          r.2.mem ((c.tc : Thread Cert.RwPostIdeal.nD Cert.RwPostIdeal.τ).loc Cert.RwPostIdeal.main_v9_0) = v0 c
          ∧ r.2.mem ((c.tc : Thread Cert.RwPostIdeal.nD Cert.RwPostIdeal.τ).loc Cert.RwPostIdeal.main_v9_1) = v1 c
          ∧ r.2.mem ((c.tc : Thread Cert.RwPostIdeal.nD Cert.RwPostIdeal.τ).loc Cert.RwPostIdeal.main_v9_2) = v2 c
          ∧ r.2.mem ((c.tc : Thread Cert.RwPostIdeal.nD Cert.RwPostIdeal.τ).loc Cert.RwPostIdeal.main_v9_3) = v3 c
          ∧ r.2.mem ((c.tc : Thread Cert.RwPostIdeal.nD Cert.RwPostIdeal.τ).loc Cert.RwPostIdeal.main_v9_4) = v4 c
          ∧ r.2.mem ((c.tc : Thread Cert.RwPostIdeal.nD Cert.RwPostIdeal.τ).loc Cert.RwPostIdeal.main_v9_5) = v5 c
          ∧ r.2.mem ((c.tc : Thread Cert.RwPostIdeal.nD Cert.RwPostIdeal.τ).loc Cert.RwPostIdeal.main_v9_6) = v6 c
          ∧ r.2.mem ((c.tc : Thread Cert.RwPostIdeal.nD Cert.RwPostIdeal.τ).loc Cert.RwPostIdeal.main_v9_7) = v7 c
          ∧ r.2.mem ((c.tc : Thread Cert.RwPostIdeal.nD Cert.RwPostIdeal.τ).loc Cert.RwPostIdeal.main_v9_8) = v8 c
          ∧ r.2.mem ((c.tc : Thread Cert.RwPostIdeal.nD Cert.RwPostIdeal.τ).loc Cert.RwPostIdeal.main_arg0) = m ((c.tc : Thread Cert.RwPostIdeal.nD Cert.RwPostIdeal.τ).loc Cert.RwPostIdeal.main_arg0)
          ∧ r.2.mem ((c.tc : Thread Cert.RwPostIdeal.nD Cert.RwPostIdeal.τ).loc Cert.RwPostIdeal.main_arg1) = m ((c.tc : Thread Cert.RwPostIdeal.nD Cert.RwPostIdeal.τ).loc Cert.RwPostIdeal.main_arg1)
          ∧ r.2.mem ((c.tc : Thread Cert.RwPostIdeal.nD Cert.RwPostIdeal.τ).loc Cert.RwPostIdeal.main_arg2) = m ((c.tc : Thread Cert.RwPostIdeal.nD Cert.RwPostIdeal.τ).loc Cert.RwPostIdeal.main_arg2)
          ∧ r.2.mem ((c.tc : Thread Cert.RwPostIdeal.nD Cert.RwPostIdeal.τ).loc Cert.RwPostIdeal.main_arg3) = m ((c.tc : Thread Cert.RwPostIdeal.nD Cert.RwPostIdeal.τ).loc Cert.RwPostIdeal.main_arg3)
          ∧ r.2.mem ((c.tc : Thread Cert.RwPostIdeal.nD Cert.RwPostIdeal.τ).loc Cert.RwPostIdeal.main_arg4) = m ((c.tc : Thread Cert.RwPostIdeal.nD Cert.RwPostIdeal.τ).loc Cert.RwPostIdeal.main_arg4)
          ∧ r.2.mem ((c.tc : Thread Cert.RwPostIdeal.nD Cert.RwPostIdeal.τ).loc Cert.RwPostIdeal.main_arg5) = m ((c.tc : Thread Cert.RwPostIdeal.nD Cert.RwPostIdeal.τ).loc Cert.RwPostIdeal.main_arg5)
          ∧ r.2.mem ((c.tc : Thread Cert.RwPostIdeal.nD Cert.RwPostIdeal.τ).loc Cert.RwPostIdeal.main_arg6) = m ((c.tc : Thread Cert.RwPostIdeal.nD Cert.RwPostIdeal.τ).loc Cert.RwPostIdeal.main_arg6)
          ∧ r.2.mem ((c.tc : Thread Cert.RwPostIdeal.nD Cert.RwPostIdeal.τ).loc Cert.RwPostIdeal.main_arg7) = m ((c.tc : Thread Cert.RwPostIdeal.nD Cert.RwPostIdeal.τ).loc Cert.RwPostIdeal.main_arg7)
          ∧ r.2.mem ((c.tc : Thread Cert.RwPostIdeal.nD Cert.RwPostIdeal.τ).loc Cert.RwPostIdeal.main_arg8) = m ((c.tc : Thread Cert.RwPostIdeal.nD Cert.RwPostIdeal.τ).loc Cert.RwPostIdeal.main_arg8)
          ∧ r.2.mem ((c.tc : Thread Cert.RwPostIdeal.nD Cert.RwPostIdeal.τ).loc Cert.RwPostIdeal.main_arg9) = m ((c.tc : Thread Cert.RwPostIdeal.nD Cert.RwPostIdeal.τ).loc Cert.RwPostIdeal.main_arg9))
      ∧ θ_run (Cert.RwPostRefIdeal.defs (F := Ideal)) (onTc (τ := Cert.RwPostRefIdeal.τ) (Cert.RwPostRefIdeal.main (F := Ideal))) ⟨m', fun _ => 0, g'⟩ (fun r => ∀ c : Dev Cert.RwPostRefIdeal.nD,
          r.2.mem ((c.tc : Thread Cert.RwPostRefIdeal.nD Cert.RwPostRefIdeal.τ).loc Cert.RwPostRefIdeal.main_v92) = v0 c
          ∧ r.2.mem ((c.tc : Thread Cert.RwPostRefIdeal.nD Cert.RwPostRefIdeal.τ).loc Cert.RwPostRefIdeal.main_v93) = v1 c
          ∧ r.2.mem ((c.tc : Thread Cert.RwPostRefIdeal.nD Cert.RwPostRefIdeal.τ).loc Cert.RwPostRefIdeal.main_v94) = v2 c
          ∧ r.2.mem ((c.tc : Thread Cert.RwPostRefIdeal.nD Cert.RwPostRefIdeal.τ).loc Cert.RwPostRefIdeal.main_v95) = v3 c
          ∧ r.2.mem ((c.tc : Thread Cert.RwPostRefIdeal.nD Cert.RwPostRefIdeal.τ).loc Cert.RwPostRefIdeal.main_v42) = v4 c
          ∧ r.2.mem ((c.tc : Thread Cert.RwPostRefIdeal.nD Cert.RwPostRefIdeal.τ).loc Cert.RwPostRefIdeal.main_v96) = v5 c
          ∧ r.2.mem ((c.tc : Thread Cert.RwPostRefIdeal.nD Cert.RwPostRefIdeal.τ).loc Cert.RwPostRefIdeal.main_v97) = v6 c
          ∧ r.2.mem ((c.tc : Thread Cert.RwPostRefIdeal.nD Cert.RwPostRefIdeal.τ).loc Cert.RwPostRefIdeal.main_v98) = v7 c
          ∧ r.2.mem ((c.tc : Thread Cert.RwPostRefIdeal.nD Cert.RwPostRefIdeal.τ).loc Cert.RwPostRefIdeal.main_v40) = v8 c
          ∧ r.2.mem ((c.tc : Thread Cert.RwPostRefIdeal.nD Cert.RwPostRefIdeal.τ).loc Cert.RwPostRefIdeal.main_arg0) = m' ((c.tc : Thread Cert.RwPostRefIdeal.nD Cert.RwPostRefIdeal.τ).loc Cert.RwPostRefIdeal.main_arg0)
          ∧ r.2.mem ((c.tc : Thread Cert.RwPostRefIdeal.nD Cert.RwPostRefIdeal.τ).loc Cert.RwPostRefIdeal.main_arg1) = m' ((c.tc : Thread Cert.RwPostRefIdeal.nD Cert.RwPostRefIdeal.τ).loc Cert.RwPostRefIdeal.main_arg1)
          ∧ r.2.mem ((c.tc : Thread Cert.RwPostRefIdeal.nD Cert.RwPostRefIdeal.τ).loc Cert.RwPostRefIdeal.main_arg2) = m' ((c.tc : Thread Cert.RwPostRefIdeal.nD Cert.RwPostRefIdeal.τ).loc Cert.RwPostRefIdeal.main_arg2)
          ∧ r.2.mem ((c.tc : Thread Cert.RwPostRefIdeal.nD Cert.RwPostRefIdeal.τ).loc Cert.RwPostRefIdeal.main_arg3) = m' ((c.tc : Thread Cert.RwPostRefIdeal.nD Cert.RwPostRefIdeal.τ).loc Cert.RwPostRefIdeal.main_arg3)
          ∧ r.2.mem ((c.tc : Thread Cert.RwPostRefIdeal.nD Cert.RwPostRefIdeal.τ).loc Cert.RwPostRefIdeal.main_arg4) = m' ((c.tc : Thread Cert.RwPostRefIdeal.nD Cert.RwPostRefIdeal.τ).loc Cert.RwPostRefIdeal.main_arg4)
          ∧ r.2.mem ((c.tc : Thread Cert.RwPostRefIdeal.nD Cert.RwPostRefIdeal.τ).loc Cert.RwPostRefIdeal.main_arg5) = m' ((c.tc : Thread Cert.RwPostRefIdeal.nD Cert.RwPostRefIdeal.τ).loc Cert.RwPostRefIdeal.main_arg5)
          ∧ r.2.mem ((c.tc : Thread Cert.RwPostRefIdeal.nD Cert.RwPostRefIdeal.τ).loc Cert.RwPostRefIdeal.main_arg6) = m' ((c.tc : Thread Cert.RwPostRefIdeal.nD Cert.RwPostRefIdeal.τ).loc Cert.RwPostRefIdeal.main_arg6)
          ∧ r.2.mem ((c.tc : Thread Cert.RwPostRefIdeal.nD Cert.RwPostRefIdeal.τ).loc Cert.RwPostRefIdeal.main_arg7) = m' ((c.tc : Thread Cert.RwPostRefIdeal.nD Cert.RwPostRefIdeal.τ).loc Cert.RwPostRefIdeal.main_arg7)
          ∧ r.2.mem ((c.tc : Thread Cert.RwPostRefIdeal.nD Cert.RwPostRefIdeal.τ).loc Cert.RwPostRefIdeal.main_arg8) = m' ((c.tc : Thread Cert.RwPostRefIdeal.nD Cert.RwPostRefIdeal.τ).loc Cert.RwPostRefIdeal.main_arg8)
          ∧ r.2.mem ((c.tc : Thread Cert.RwPostRefIdeal.nD Cert.RwPostRefIdeal.τ).loc Cert.RwPostRefIdeal.main_arg9) = m' ((c.tc : Thread Cert.RwPostRefIdeal.nD Cert.RwPostRefIdeal.τ).loc Cert.RwPostRefIdeal.main_arg9))

def preserves_S5Param_S5ParamIdeal : Prop :=
  True

def algebraic_S5ParamIdeal_S5ParamRefIdeal [hS5ParamIdeal : Cert.S5ParamIdeal.Facts] [hS5ParamRefIdeal : Cert.S5ParamRefIdeal.Facts] : Prop :=
  ∀ (m : (ℓ : Loc Cert.S5ParamIdeal.nD Cert.S5ParamIdeal.τ Cert.S5ParamIdeal.sig) → Buf (Elt Ideal) ℓ) (g : Dev Cert.S5ParamIdeal.nD → PrngReg)
    (m' : (ℓ : Loc Cert.S5ParamRefIdeal.nD Cert.S5ParamRefIdeal.τ Cert.S5ParamRefIdeal.sig) → Buf (Elt Ideal) ℓ) (g' : Dev Cert.S5ParamRefIdeal.nD → PrngReg), Pre_S5ParamIdeal m →
    (∀ c : Dev Cert.S5ParamIdeal.nD,
      m' ((c.tc : Thread Cert.S5ParamRefIdeal.nD Cert.S5ParamRefIdeal.τ).loc Cert.S5ParamRefIdeal.main_arg0) = m ((c.tc : Thread Cert.S5ParamIdeal.nD Cert.S5ParamIdeal.τ).loc Cert.S5ParamIdeal.main_arg0)
      ∧ m' ((c.tc : Thread Cert.S5ParamRefIdeal.nD Cert.S5ParamRefIdeal.τ).loc Cert.S5ParamRefIdeal.main_arg1) = m ((c.tc : Thread Cert.S5ParamIdeal.nD Cert.S5ParamIdeal.τ).loc Cert.S5ParamIdeal.main_arg1)
      ∧ m' ((c.tc : Thread Cert.S5ParamRefIdeal.nD Cert.S5ParamRefIdeal.τ).loc Cert.S5ParamRefIdeal.main_arg2) = m ((c.tc : Thread Cert.S5ParamIdeal.nD Cert.S5ParamIdeal.τ).loc Cert.S5ParamIdeal.main_arg2)
      ∧ m' ((c.tc : Thread Cert.S5ParamRefIdeal.nD Cert.S5ParamRefIdeal.τ).loc Cert.S5ParamRefIdeal.main_arg3) = m ((c.tc : Thread Cert.S5ParamIdeal.nD Cert.S5ParamIdeal.τ).loc Cert.S5ParamIdeal.main_arg3)
      ∧ m' ((c.tc : Thread Cert.S5ParamRefIdeal.nD Cert.S5ParamRefIdeal.τ).loc Cert.S5ParamRefIdeal.main_arg4) = m ((c.tc : Thread Cert.S5ParamIdeal.nD Cert.S5ParamIdeal.τ).loc Cert.S5ParamIdeal.main_arg4)
      ∧ m' ((c.tc : Thread Cert.S5ParamRefIdeal.nD Cert.S5ParamRefIdeal.τ).loc Cert.S5ParamRefIdeal.main_arg5) = m ((c.tc : Thread Cert.S5ParamIdeal.nD Cert.S5ParamIdeal.τ).loc Cert.S5ParamIdeal.main_arg5)
      ∧ m' ((c.tc : Thread Cert.S5ParamRefIdeal.nD Cert.S5ParamRefIdeal.τ).loc Cert.S5ParamRefIdeal.main_arg6) = m ((c.tc : Thread Cert.S5ParamIdeal.nD Cert.S5ParamIdeal.τ).loc Cert.S5ParamIdeal.main_arg6)
      ∧ m' ((c.tc : Thread Cert.S5ParamRefIdeal.nD Cert.S5ParamRefIdeal.τ).loc Cert.S5ParamRefIdeal.main_arg7) = m ((c.tc : Thread Cert.S5ParamIdeal.nD Cert.S5ParamIdeal.τ).loc Cert.S5ParamIdeal.main_arg7)
      ∧ m' ((c.tc : Thread Cert.S5ParamRefIdeal.nD Cert.S5ParamRefIdeal.τ).loc Cert.S5ParamRefIdeal.main_arg8) = m ((c.tc : Thread Cert.S5ParamIdeal.nD Cert.S5ParamIdeal.τ).loc Cert.S5ParamIdeal.main_arg8)) →
    ∃ (v0 : (c : Dev Cert.S5ParamIdeal.nD) → Buf (Elt Ideal) ((c.tc : Thread Cert.S5ParamIdeal.nD Cert.S5ParamIdeal.τ).loc Cert.S5ParamIdeal.main_v5_0)) (v1 : (c : Dev Cert.S5ParamIdeal.nD) → Buf (Elt Ideal) ((c.tc : Thread Cert.S5ParamIdeal.nD Cert.S5ParamIdeal.τ).loc Cert.S5ParamIdeal.main_v5_1)) (v2 : (c : Dev Cert.S5ParamIdeal.nD) → Buf (Elt Ideal) ((c.tc : Thread Cert.S5ParamIdeal.nD Cert.S5ParamIdeal.τ).loc Cert.S5ParamIdeal.main_v5_2)) (v3 : (c : Dev Cert.S5ParamIdeal.nD) → Buf (Elt Ideal) ((c.tc : Thread Cert.S5ParamIdeal.nD Cert.S5ParamIdeal.τ).loc Cert.S5ParamIdeal.main_v5_3)) (v4 : (c : Dev Cert.S5ParamIdeal.nD) → Buf (Elt Ideal) ((c.tc : Thread Cert.S5ParamIdeal.nD Cert.S5ParamIdeal.τ).loc Cert.S5ParamIdeal.main_v5_4)),
      θ_run (Cert.S5ParamIdeal.defs (F := Ideal)) (onTc (τ := Cert.S5ParamIdeal.τ) (Cert.S5ParamIdeal.main (F := Ideal))) ⟨m, fun _ => 0, g⟩ (fun r => ∀ c : Dev Cert.S5ParamIdeal.nD,
          r.2.mem ((c.tc : Thread Cert.S5ParamIdeal.nD Cert.S5ParamIdeal.τ).loc Cert.S5ParamIdeal.main_v5_0) = v0 c
          ∧ r.2.mem ((c.tc : Thread Cert.S5ParamIdeal.nD Cert.S5ParamIdeal.τ).loc Cert.S5ParamIdeal.main_v5_1) = v1 c
          ∧ r.2.mem ((c.tc : Thread Cert.S5ParamIdeal.nD Cert.S5ParamIdeal.τ).loc Cert.S5ParamIdeal.main_v5_2) = v2 c
          ∧ r.2.mem ((c.tc : Thread Cert.S5ParamIdeal.nD Cert.S5ParamIdeal.τ).loc Cert.S5ParamIdeal.main_v5_3) = v3 c
          ∧ r.2.mem ((c.tc : Thread Cert.S5ParamIdeal.nD Cert.S5ParamIdeal.τ).loc Cert.S5ParamIdeal.main_v5_4) = v4 c
          ∧ r.2.mem ((c.tc : Thread Cert.S5ParamIdeal.nD Cert.S5ParamIdeal.τ).loc Cert.S5ParamIdeal.main_arg0) = m ((c.tc : Thread Cert.S5ParamIdeal.nD Cert.S5ParamIdeal.τ).loc Cert.S5ParamIdeal.main_arg0)
          ∧ r.2.mem ((c.tc : Thread Cert.S5ParamIdeal.nD Cert.S5ParamIdeal.τ).loc Cert.S5ParamIdeal.main_arg1) = m ((c.tc : Thread Cert.S5ParamIdeal.nD Cert.S5ParamIdeal.τ).loc Cert.S5ParamIdeal.main_arg1)
          ∧ r.2.mem ((c.tc : Thread Cert.S5ParamIdeal.nD Cert.S5ParamIdeal.τ).loc Cert.S5ParamIdeal.main_arg2) = m ((c.tc : Thread Cert.S5ParamIdeal.nD Cert.S5ParamIdeal.τ).loc Cert.S5ParamIdeal.main_arg2)
          ∧ r.2.mem ((c.tc : Thread Cert.S5ParamIdeal.nD Cert.S5ParamIdeal.τ).loc Cert.S5ParamIdeal.main_arg3) = m ((c.tc : Thread Cert.S5ParamIdeal.nD Cert.S5ParamIdeal.τ).loc Cert.S5ParamIdeal.main_arg3)
          ∧ r.2.mem ((c.tc : Thread Cert.S5ParamIdeal.nD Cert.S5ParamIdeal.τ).loc Cert.S5ParamIdeal.main_arg4) = m ((c.tc : Thread Cert.S5ParamIdeal.nD Cert.S5ParamIdeal.τ).loc Cert.S5ParamIdeal.main_arg4)
          ∧ r.2.mem ((c.tc : Thread Cert.S5ParamIdeal.nD Cert.S5ParamIdeal.τ).loc Cert.S5ParamIdeal.main_arg5) = m ((c.tc : Thread Cert.S5ParamIdeal.nD Cert.S5ParamIdeal.τ).loc Cert.S5ParamIdeal.main_arg5)
          ∧ r.2.mem ((c.tc : Thread Cert.S5ParamIdeal.nD Cert.S5ParamIdeal.τ).loc Cert.S5ParamIdeal.main_arg6) = m ((c.tc : Thread Cert.S5ParamIdeal.nD Cert.S5ParamIdeal.τ).loc Cert.S5ParamIdeal.main_arg6)
          ∧ r.2.mem ((c.tc : Thread Cert.S5ParamIdeal.nD Cert.S5ParamIdeal.τ).loc Cert.S5ParamIdeal.main_arg7) = m ((c.tc : Thread Cert.S5ParamIdeal.nD Cert.S5ParamIdeal.τ).loc Cert.S5ParamIdeal.main_arg7)
          ∧ r.2.mem ((c.tc : Thread Cert.S5ParamIdeal.nD Cert.S5ParamIdeal.τ).loc Cert.S5ParamIdeal.main_arg8) = m ((c.tc : Thread Cert.S5ParamIdeal.nD Cert.S5ParamIdeal.τ).loc Cert.S5ParamIdeal.main_arg8))
      ∧ θ_run (Cert.S5ParamRefIdeal.defs (F := Ideal)) (onTc (τ := Cert.S5ParamRefIdeal.τ) (Cert.S5ParamRefIdeal.main (F := Ideal))) ⟨m', fun _ => 0, g'⟩ (fun r => ∀ c : Dev Cert.S5ParamRefIdeal.nD,
          r.2.mem ((c.tc : Thread Cert.S5ParamRefIdeal.nD Cert.S5ParamRefIdeal.τ).loc Cert.S5ParamRefIdeal.main_v138) = v0 c
          ∧ r.2.mem ((c.tc : Thread Cert.S5ParamRefIdeal.nD Cert.S5ParamRefIdeal.τ).loc Cert.S5ParamRefIdeal.main_v130) = v1 c
          ∧ r.2.mem ((c.tc : Thread Cert.S5ParamRefIdeal.nD Cert.S5ParamRefIdeal.τ).loc Cert.S5ParamRefIdeal.main_v141) = v2 c
          ∧ r.2.mem ((c.tc : Thread Cert.S5ParamRefIdeal.nD Cert.S5ParamRefIdeal.τ).loc Cert.S5ParamRefIdeal.main_v142) = v3 c
          ∧ r.2.mem ((c.tc : Thread Cert.S5ParamRefIdeal.nD Cert.S5ParamRefIdeal.τ).loc Cert.S5ParamRefIdeal.main_v143) = v4 c
          ∧ r.2.mem ((c.tc : Thread Cert.S5ParamRefIdeal.nD Cert.S5ParamRefIdeal.τ).loc Cert.S5ParamRefIdeal.main_arg0) = m' ((c.tc : Thread Cert.S5ParamRefIdeal.nD Cert.S5ParamRefIdeal.τ).loc Cert.S5ParamRefIdeal.main_arg0)
          ∧ r.2.mem ((c.tc : Thread Cert.S5ParamRefIdeal.nD Cert.S5ParamRefIdeal.τ).loc Cert.S5ParamRefIdeal.main_arg1) = m' ((c.tc : Thread Cert.S5ParamRefIdeal.nD Cert.S5ParamRefIdeal.τ).loc Cert.S5ParamRefIdeal.main_arg1)
          ∧ r.2.mem ((c.tc : Thread Cert.S5ParamRefIdeal.nD Cert.S5ParamRefIdeal.τ).loc Cert.S5ParamRefIdeal.main_arg2) = m' ((c.tc : Thread Cert.S5ParamRefIdeal.nD Cert.S5ParamRefIdeal.τ).loc Cert.S5ParamRefIdeal.main_arg2)
          ∧ r.2.mem ((c.tc : Thread Cert.S5ParamRefIdeal.nD Cert.S5ParamRefIdeal.τ).loc Cert.S5ParamRefIdeal.main_arg3) = m' ((c.tc : Thread Cert.S5ParamRefIdeal.nD Cert.S5ParamRefIdeal.τ).loc Cert.S5ParamRefIdeal.main_arg3)
          ∧ r.2.mem ((c.tc : Thread Cert.S5ParamRefIdeal.nD Cert.S5ParamRefIdeal.τ).loc Cert.S5ParamRefIdeal.main_arg4) = m' ((c.tc : Thread Cert.S5ParamRefIdeal.nD Cert.S5ParamRefIdeal.τ).loc Cert.S5ParamRefIdeal.main_arg4)
          ∧ r.2.mem ((c.tc : Thread Cert.S5ParamRefIdeal.nD Cert.S5ParamRefIdeal.τ).loc Cert.S5ParamRefIdeal.main_arg5) = m' ((c.tc : Thread Cert.S5ParamRefIdeal.nD Cert.S5ParamRefIdeal.τ).loc Cert.S5ParamRefIdeal.main_arg5)
          ∧ r.2.mem ((c.tc : Thread Cert.S5ParamRefIdeal.nD Cert.S5ParamRefIdeal.τ).loc Cert.S5ParamRefIdeal.main_arg6) = m' ((c.tc : Thread Cert.S5ParamRefIdeal.nD Cert.S5ParamRefIdeal.τ).loc Cert.S5ParamRefIdeal.main_arg6)
          ∧ r.2.mem ((c.tc : Thread Cert.S5ParamRefIdeal.nD Cert.S5ParamRefIdeal.τ).loc Cert.S5ParamRefIdeal.main_arg7) = m' ((c.tc : Thread Cert.S5ParamRefIdeal.nD Cert.S5ParamRefIdeal.τ).loc Cert.S5ParamRefIdeal.main_arg7)
          ∧ r.2.mem ((c.tc : Thread Cert.S5ParamRefIdeal.nD Cert.S5ParamRefIdeal.τ).loc Cert.S5ParamRefIdeal.main_arg8) = m' ((c.tc : Thread Cert.S5ParamRefIdeal.nD Cert.S5ParamRefIdeal.τ).loc Cert.S5ParamRefIdeal.main_arg8))

def preserves_WkvFwd_WkvFwdIdeal : Prop :=
  True

def algebraic_WkvFwdIdeal_WkvFwdRefIdeal_pre_positive_decay [hWkvFwdIdeal : Cert.WkvFwdIdeal.Facts] [hWkvFwdRefIdeal : Cert.WkvFwdRefIdeal.Facts] [hPre_positive_decay : Cert.Pre_positive_decay.Facts] : Prop :=
  ∀ (m : (ℓ : Loc Cert.WkvFwdIdeal.nD Cert.WkvFwdIdeal.τ Cert.WkvFwdIdeal.sig) → Buf (Elt Ideal) ℓ) (g : Dev Cert.WkvFwdIdeal.nD → PrngReg)
    (m' : (ℓ : Loc Cert.WkvFwdRefIdeal.nD Cert.WkvFwdRefIdeal.τ Cert.WkvFwdRefIdeal.sig) → Buf (Elt Ideal) ℓ) (g' : Dev Cert.WkvFwdRefIdeal.nD → PrngReg), Pre_WkvFwdIdeal_positive_decay m →
    (∀ c : Dev Cert.WkvFwdIdeal.nD,
      m' ((c.tc : Thread Cert.WkvFwdRefIdeal.nD Cert.WkvFwdRefIdeal.τ).loc Cert.WkvFwdRefIdeal.main_arg0) = m ((c.tc : Thread Cert.WkvFwdIdeal.nD Cert.WkvFwdIdeal.τ).loc Cert.WkvFwdIdeal.main_arg0)
      ∧ m' ((c.tc : Thread Cert.WkvFwdRefIdeal.nD Cert.WkvFwdRefIdeal.τ).loc Cert.WkvFwdRefIdeal.main_arg1) = m ((c.tc : Thread Cert.WkvFwdIdeal.nD Cert.WkvFwdIdeal.τ).loc Cert.WkvFwdIdeal.main_arg1)
      ∧ m' ((c.tc : Thread Cert.WkvFwdRefIdeal.nD Cert.WkvFwdRefIdeal.τ).loc Cert.WkvFwdRefIdeal.main_arg2) = m ((c.tc : Thread Cert.WkvFwdIdeal.nD Cert.WkvFwdIdeal.τ).loc Cert.WkvFwdIdeal.main_arg2)
      ∧ m' ((c.tc : Thread Cert.WkvFwdRefIdeal.nD Cert.WkvFwdRefIdeal.τ).loc Cert.WkvFwdRefIdeal.main_arg3) = m ((c.tc : Thread Cert.WkvFwdIdeal.nD Cert.WkvFwdIdeal.τ).loc Cert.WkvFwdIdeal.main_arg3)
      ∧ m' ((c.tc : Thread Cert.WkvFwdRefIdeal.nD Cert.WkvFwdRefIdeal.τ).loc Cert.WkvFwdRefIdeal.main_arg4) = m ((c.tc : Thread Cert.WkvFwdIdeal.nD Cert.WkvFwdIdeal.τ).loc Cert.WkvFwdIdeal.main_arg4)
      ∧ m' ((c.tc : Thread Cert.WkvFwdRefIdeal.nD Cert.WkvFwdRefIdeal.τ).loc Cert.WkvFwdRefIdeal.main_arg5) = m ((c.tc : Thread Cert.WkvFwdIdeal.nD Cert.WkvFwdIdeal.τ).loc Cert.WkvFwdIdeal.main_arg5)) →
    ∃ (v0 : (c : Dev Cert.WkvFwdIdeal.nD) → Buf (Elt Ideal) ((c.tc : Thread Cert.WkvFwdIdeal.nD Cert.WkvFwdIdeal.τ).loc Cert.WkvFwdIdeal.main_v6_0)) (v1 : (c : Dev Cert.WkvFwdIdeal.nD) → Buf (Elt Ideal) ((c.tc : Thread Cert.WkvFwdIdeal.nD Cert.WkvFwdIdeal.τ).loc Cert.WkvFwdIdeal.main_v6_1)),
      θ_run (Cert.WkvFwdIdeal.defs (F := Ideal)) (onTc (τ := Cert.WkvFwdIdeal.τ) (Cert.WkvFwdIdeal.main (F := Ideal))) ⟨m, fun _ => 0, g⟩ (fun r => ∀ c : Dev Cert.WkvFwdIdeal.nD,
          r.2.mem ((c.tc : Thread Cert.WkvFwdIdeal.nD Cert.WkvFwdIdeal.τ).loc Cert.WkvFwdIdeal.main_v6_0) = v0 c
          ∧ r.2.mem ((c.tc : Thread Cert.WkvFwdIdeal.nD Cert.WkvFwdIdeal.τ).loc Cert.WkvFwdIdeal.main_v6_1) = v1 c
          ∧ r.2.mem ((c.tc : Thread Cert.WkvFwdIdeal.nD Cert.WkvFwdIdeal.τ).loc Cert.WkvFwdIdeal.main_arg0) = m ((c.tc : Thread Cert.WkvFwdIdeal.nD Cert.WkvFwdIdeal.τ).loc Cert.WkvFwdIdeal.main_arg0)
          ∧ r.2.mem ((c.tc : Thread Cert.WkvFwdIdeal.nD Cert.WkvFwdIdeal.τ).loc Cert.WkvFwdIdeal.main_arg1) = m ((c.tc : Thread Cert.WkvFwdIdeal.nD Cert.WkvFwdIdeal.τ).loc Cert.WkvFwdIdeal.main_arg1)
          ∧ r.2.mem ((c.tc : Thread Cert.WkvFwdIdeal.nD Cert.WkvFwdIdeal.τ).loc Cert.WkvFwdIdeal.main_arg2) = m ((c.tc : Thread Cert.WkvFwdIdeal.nD Cert.WkvFwdIdeal.τ).loc Cert.WkvFwdIdeal.main_arg2)
          ∧ r.2.mem ((c.tc : Thread Cert.WkvFwdIdeal.nD Cert.WkvFwdIdeal.τ).loc Cert.WkvFwdIdeal.main_arg3) = m ((c.tc : Thread Cert.WkvFwdIdeal.nD Cert.WkvFwdIdeal.τ).loc Cert.WkvFwdIdeal.main_arg3)
          ∧ r.2.mem ((c.tc : Thread Cert.WkvFwdIdeal.nD Cert.WkvFwdIdeal.τ).loc Cert.WkvFwdIdeal.main_arg4) = m ((c.tc : Thread Cert.WkvFwdIdeal.nD Cert.WkvFwdIdeal.τ).loc Cert.WkvFwdIdeal.main_arg4)
          ∧ r.2.mem ((c.tc : Thread Cert.WkvFwdIdeal.nD Cert.WkvFwdIdeal.τ).loc Cert.WkvFwdIdeal.main_arg5) = m ((c.tc : Thread Cert.WkvFwdIdeal.nD Cert.WkvFwdIdeal.τ).loc Cert.WkvFwdIdeal.main_arg5))
      ∧ θ_run (Cert.WkvFwdRefIdeal.defs (F := Ideal)) (onTc (τ := Cert.WkvFwdRefIdeal.τ) (Cert.WkvFwdRefIdeal.main (F := Ideal))) ⟨m', fun _ => 0, g'⟩ (fun r => ∀ c : Dev Cert.WkvFwdRefIdeal.nD,
          r.2.mem ((c.tc : Thread Cert.WkvFwdRefIdeal.nD Cert.WkvFwdRefIdeal.τ).loc Cert.WkvFwdRefIdeal.main_v4) = v0 c
          ∧ r.2.mem ((c.tc : Thread Cert.WkvFwdRefIdeal.nD Cert.WkvFwdRefIdeal.τ).loc Cert.WkvFwdRefIdeal.main_v7) = v1 c
          ∧ r.2.mem ((c.tc : Thread Cert.WkvFwdRefIdeal.nD Cert.WkvFwdRefIdeal.τ).loc Cert.WkvFwdRefIdeal.main_arg0) = m' ((c.tc : Thread Cert.WkvFwdRefIdeal.nD Cert.WkvFwdRefIdeal.τ).loc Cert.WkvFwdRefIdeal.main_arg0)
          ∧ r.2.mem ((c.tc : Thread Cert.WkvFwdRefIdeal.nD Cert.WkvFwdRefIdeal.τ).loc Cert.WkvFwdRefIdeal.main_arg1) = m' ((c.tc : Thread Cert.WkvFwdRefIdeal.nD Cert.WkvFwdRefIdeal.τ).loc Cert.WkvFwdRefIdeal.main_arg1)
          ∧ r.2.mem ((c.tc : Thread Cert.WkvFwdRefIdeal.nD Cert.WkvFwdRefIdeal.τ).loc Cert.WkvFwdRefIdeal.main_arg2) = m' ((c.tc : Thread Cert.WkvFwdRefIdeal.nD Cert.WkvFwdRefIdeal.τ).loc Cert.WkvFwdRefIdeal.main_arg2)
          ∧ r.2.mem ((c.tc : Thread Cert.WkvFwdRefIdeal.nD Cert.WkvFwdRefIdeal.τ).loc Cert.WkvFwdRefIdeal.main_arg3) = m' ((c.tc : Thread Cert.WkvFwdRefIdeal.nD Cert.WkvFwdRefIdeal.τ).loc Cert.WkvFwdRefIdeal.main_arg3)
          ∧ r.2.mem ((c.tc : Thread Cert.WkvFwdRefIdeal.nD Cert.WkvFwdRefIdeal.τ).loc Cert.WkvFwdRefIdeal.main_arg4) = m' ((c.tc : Thread Cert.WkvFwdRefIdeal.nD Cert.WkvFwdRefIdeal.τ).loc Cert.WkvFwdRefIdeal.main_arg4)
          ∧ r.2.mem ((c.tc : Thread Cert.WkvFwdRefIdeal.nD Cert.WkvFwdRefIdeal.τ).loc Cert.WkvFwdRefIdeal.main_arg5) = m' ((c.tc : Thread Cert.WkvFwdRefIdeal.nD Cert.WkvFwdRefIdeal.τ).loc Cert.WkvFwdRefIdeal.main_arg5))

def preserves_S5PostFwd_S5PostFwdIdeal : Prop :=
  True

def algebraic_S5PostFwdIdeal_S5PostFwdRefIdeal [hS5PostFwdIdeal : Cert.S5PostFwdIdeal.Facts] [hS5PostFwdRefIdeal : Cert.S5PostFwdRefIdeal.Facts] : Prop :=
  ∀ (m : (ℓ : Loc Cert.S5PostFwdIdeal.nD Cert.S5PostFwdIdeal.τ Cert.S5PostFwdIdeal.sig) → Buf (Elt Ideal) ℓ) (g : Dev Cert.S5PostFwdIdeal.nD → PrngReg)
    (m' : (ℓ : Loc Cert.S5PostFwdRefIdeal.nD Cert.S5PostFwdRefIdeal.τ Cert.S5PostFwdRefIdeal.sig) → Buf (Elt Ideal) ℓ) (g' : Dev Cert.S5PostFwdRefIdeal.nD → PrngReg), Pre_S5PostFwdIdeal m →
    (∀ c : Dev Cert.S5PostFwdIdeal.nD,
      m' ((c.tc : Thread Cert.S5PostFwdRefIdeal.nD Cert.S5PostFwdRefIdeal.τ).loc Cert.S5PostFwdRefIdeal.main_arg0) = m ((c.tc : Thread Cert.S5PostFwdIdeal.nD Cert.S5PostFwdIdeal.τ).loc Cert.S5PostFwdIdeal.main_arg0)
      ∧ m' ((c.tc : Thread Cert.S5PostFwdRefIdeal.nD Cert.S5PostFwdRefIdeal.τ).loc Cert.S5PostFwdRefIdeal.main_arg1) = m ((c.tc : Thread Cert.S5PostFwdIdeal.nD Cert.S5PostFwdIdeal.τ).loc Cert.S5PostFwdIdeal.main_arg1)
      ∧ m' ((c.tc : Thread Cert.S5PostFwdRefIdeal.nD Cert.S5PostFwdRefIdeal.τ).loc Cert.S5PostFwdRefIdeal.main_arg2) = m ((c.tc : Thread Cert.S5PostFwdIdeal.nD Cert.S5PostFwdIdeal.τ).loc Cert.S5PostFwdIdeal.main_arg2)) →
    ∃ (v0 : (c : Dev Cert.S5PostFwdIdeal.nD) → Buf (Elt Ideal) ((c.tc : Thread Cert.S5PostFwdIdeal.nD Cert.S5PostFwdIdeal.τ).loc Cert.S5PostFwdIdeal.main_v2)),
      θ_run (Cert.S5PostFwdIdeal.defs (F := Ideal)) (onTc (τ := Cert.S5PostFwdIdeal.τ) (Cert.S5PostFwdIdeal.main (F := Ideal))) ⟨m, fun _ => 0, g⟩ (fun r => ∀ c : Dev Cert.S5PostFwdIdeal.nD,
          r.2.mem ((c.tc : Thread Cert.S5PostFwdIdeal.nD Cert.S5PostFwdIdeal.τ).loc Cert.S5PostFwdIdeal.main_v2) = v0 c
          ∧ r.2.mem ((c.tc : Thread Cert.S5PostFwdIdeal.nD Cert.S5PostFwdIdeal.τ).loc Cert.S5PostFwdIdeal.main_arg0) = m ((c.tc : Thread Cert.S5PostFwdIdeal.nD Cert.S5PostFwdIdeal.τ).loc Cert.S5PostFwdIdeal.main_arg0)
          ∧ r.2.mem ((c.tc : Thread Cert.S5PostFwdIdeal.nD Cert.S5PostFwdIdeal.τ).loc Cert.S5PostFwdIdeal.main_arg1) = m ((c.tc : Thread Cert.S5PostFwdIdeal.nD Cert.S5PostFwdIdeal.τ).loc Cert.S5PostFwdIdeal.main_arg1)
          ∧ r.2.mem ((c.tc : Thread Cert.S5PostFwdIdeal.nD Cert.S5PostFwdIdeal.τ).loc Cert.S5PostFwdIdeal.main_arg2) = m ((c.tc : Thread Cert.S5PostFwdIdeal.nD Cert.S5PostFwdIdeal.τ).loc Cert.S5PostFwdIdeal.main_arg2))
      ∧ θ_run (Cert.S5PostFwdRefIdeal.defs (F := Ideal)) (onTc (τ := Cert.S5PostFwdRefIdeal.τ) (Cert.S5PostFwdRefIdeal.main (F := Ideal))) ⟨m', fun _ => 0, g'⟩ (fun r => ∀ c : Dev Cert.S5PostFwdRefIdeal.nD,
          r.2.mem ((c.tc : Thread Cert.S5PostFwdRefIdeal.nD Cert.S5PostFwdRefIdeal.τ).loc Cert.S5PostFwdRefIdeal.main_v23) = v0 c
          ∧ r.2.mem ((c.tc : Thread Cert.S5PostFwdRefIdeal.nD Cert.S5PostFwdRefIdeal.τ).loc Cert.S5PostFwdRefIdeal.main_arg0) = m' ((c.tc : Thread Cert.S5PostFwdRefIdeal.nD Cert.S5PostFwdRefIdeal.τ).loc Cert.S5PostFwdRefIdeal.main_arg0)
          ∧ r.2.mem ((c.tc : Thread Cert.S5PostFwdRefIdeal.nD Cert.S5PostFwdRefIdeal.τ).loc Cert.S5PostFwdRefIdeal.main_arg1) = m' ((c.tc : Thread Cert.S5PostFwdRefIdeal.nD Cert.S5PostFwdRefIdeal.τ).loc Cert.S5PostFwdRefIdeal.main_arg1)
          ∧ r.2.mem ((c.tc : Thread Cert.S5PostFwdRefIdeal.nD Cert.S5PostFwdRefIdeal.τ).loc Cert.S5PostFwdRefIdeal.main_arg2) = m' ((c.tc : Thread Cert.S5PostFwdRefIdeal.nD Cert.S5PostFwdRefIdeal.τ).loc Cert.S5PostFwdRefIdeal.main_arg2))

def preserves_InprojFwd_InprojFwdIdeal : Prop :=
  True

def algebraic_InprojFwdIdeal_InprojFwdRefIdeal [hInprojFwdIdeal : Cert.InprojFwdIdeal.Facts] [hInprojFwdRefIdeal : Cert.InprojFwdRefIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InprojFwdRefIdeal.nD Cert.InprojFwdRefIdeal.τ Cert.InprojFwdRefIdeal.sig) → Buf (Elt Ideal) ℓ) (g' : Dev Cert.InprojFwdRefIdeal.nD → PrngReg), Pre_InprojFwdIdeal m →
    (∀ c : Dev Cert.InprojFwdIdeal.nD,
      m' ((c.tc : Thread Cert.InprojFwdRefIdeal.nD Cert.InprojFwdRefIdeal.τ).loc Cert.InprojFwdRefIdeal.main_arg0) = m ((c.tc : Thread Cert.InprojFwdIdeal.nD Cert.InprojFwdIdeal.τ).loc Cert.InprojFwdIdeal.main_arg0)
      ∧ m' ((c.tc : Thread Cert.InprojFwdRefIdeal.nD Cert.InprojFwdRefIdeal.τ).loc Cert.InprojFwdRefIdeal.main_arg1) = m ((c.tc : Thread Cert.InprojFwdIdeal.nD Cert.InprojFwdIdeal.τ).loc Cert.InprojFwdIdeal.main_arg1)
      ∧ m' ((c.tc : Thread Cert.InprojFwdRefIdeal.nD Cert.InprojFwdRefIdeal.τ).loc Cert.InprojFwdRefIdeal.main_arg2) = m ((c.tc : Thread Cert.InprojFwdIdeal.nD Cert.InprojFwdIdeal.τ).loc Cert.InprojFwdIdeal.main_arg2)) →
    ∃ (v0 : (c : Dev Cert.InprojFwdIdeal.nD) → Buf (Elt Ideal) ((c.tc : Thread Cert.InprojFwdIdeal.nD Cert.InprojFwdIdeal.τ).loc Cert.InprojFwdIdeal.main_v2_0)) (v1 : (c : Dev Cert.InprojFwdIdeal.nD) → Buf (Elt Ideal) ((c.tc : Thread Cert.InprojFwdIdeal.nD Cert.InprojFwdIdeal.τ).loc Cert.InprojFwdIdeal.main_v2_1)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v2_0) = v0 c
          ∧ r.2.mem ((c.tc : Thread Cert.InprojFwdIdeal.nD Cert.InprojFwdIdeal.τ).loc Cert.InprojFwdIdeal.main_v2_1) = v1 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ θ_run (Cert.InprojFwdRefIdeal.defs (F := Ideal)) (onTc (τ := Cert.InprojFwdRefIdeal.τ) (Cert.InprojFwdRefIdeal.main (F := Ideal))) ⟨m', fun _ => 0, g'⟩ (fun r => ∀ c : Dev Cert.InprojFwdRefIdeal.nD,
          r.2.mem ((c.tc : Thread Cert.InprojFwdRefIdeal.nD Cert.InprojFwdRefIdeal.τ).loc Cert.InprojFwdRefIdeal.main_v13) = v0 c
          ∧ r.2.mem ((c.tc : Thread Cert.InprojFwdRefIdeal.nD Cert.InprojFwdRefIdeal.τ).loc Cert.InprojFwdRefIdeal.main_v14) = v1 c
          ∧ r.2.mem ((c.tc : Thread Cert.InprojFwdRefIdeal.nD Cert.InprojFwdRefIdeal.τ).loc Cert.InprojFwdRefIdeal.main_arg0) = m' ((c.tc : Thread Cert.InprojFwdRefIdeal.nD Cert.InprojFwdRefIdeal.τ).loc Cert.InprojFwdRefIdeal.main_arg0)
          ∧ r.2.mem ((c.tc : Thread Cert.InprojFwdRefIdeal.nD Cert.InprojFwdRefIdeal.τ).loc Cert.InprojFwdRefIdeal.main_arg1) = m' ((c.tc : Thread Cert.InprojFwdRefIdeal.nD Cert.InprojFwdRefIdeal.τ).loc Cert.InprojFwdRefIdeal.main_arg1)
          ∧ r.2.mem ((c.tc : Thread Cert.InprojFwdRefIdeal.nD Cert.InprojFwdRefIdeal.τ).loc Cert.InprojFwdRefIdeal.main_arg2) = m' ((c.tc : Thread Cert.InprojFwdRefIdeal.nD Cert.InprojFwdRefIdeal.τ).loc Cert.InprojFwdRefIdeal.main_arg2))

def preserves_MixffnFwd_MixffnFwdIdeal : Prop :=
  True

def algebraic_MixffnFwdIdeal_MixffnFwdRefIdeal [hMixffnFwdIdeal : Cert.MixffnFwdIdeal.Facts] [hMixffnFwdRefIdeal : Cert.MixffnFwdRefIdeal.Facts] : Prop :=
  ∀ (m : (ℓ : Loc Cert.MixffnFwdIdeal.nD Cert.MixffnFwdIdeal.τ Cert.MixffnFwdIdeal.sig) → Buf (Elt Ideal) ℓ) (g : Dev Cert.MixffnFwdIdeal.nD → PrngReg)
    (m' : (ℓ : Loc Cert.MixffnFwdRefIdeal.nD Cert.MixffnFwdRefIdeal.τ Cert.MixffnFwdRefIdeal.sig) → Buf (Elt Ideal) ℓ) (g' : Dev Cert.MixffnFwdRefIdeal.nD → PrngReg), Pre_MixffnFwdIdeal m →
    (∀ c : Dev Cert.MixffnFwdIdeal.nD,
      m' ((c.tc : Thread Cert.MixffnFwdRefIdeal.nD Cert.MixffnFwdRefIdeal.τ).loc Cert.MixffnFwdRefIdeal.main_arg0) = m ((c.tc : Thread Cert.MixffnFwdIdeal.nD Cert.MixffnFwdIdeal.τ).loc Cert.MixffnFwdIdeal.main_arg0)
      ∧ m' ((c.tc : Thread Cert.MixffnFwdRefIdeal.nD Cert.MixffnFwdRefIdeal.τ).loc Cert.MixffnFwdRefIdeal.main_arg1) = m ((c.tc : Thread Cert.MixffnFwdIdeal.nD Cert.MixffnFwdIdeal.τ).loc Cert.MixffnFwdIdeal.main_arg1)
      ∧ m' ((c.tc : Thread Cert.MixffnFwdRefIdeal.nD Cert.MixffnFwdRefIdeal.τ).loc Cert.MixffnFwdRefIdeal.main_arg2) = m ((c.tc : Thread Cert.MixffnFwdIdeal.nD Cert.MixffnFwdIdeal.τ).loc Cert.MixffnFwdIdeal.main_arg2)
      ∧ m' ((c.tc : Thread Cert.MixffnFwdRefIdeal.nD Cert.MixffnFwdRefIdeal.τ).loc Cert.MixffnFwdRefIdeal.main_arg3) = m ((c.tc : Thread Cert.MixffnFwdIdeal.nD Cert.MixffnFwdIdeal.τ).loc Cert.MixffnFwdIdeal.main_arg3)
      ∧ m' ((c.tc : Thread Cert.MixffnFwdRefIdeal.nD Cert.MixffnFwdRefIdeal.τ).loc Cert.MixffnFwdRefIdeal.main_arg4) = m ((c.tc : Thread Cert.MixffnFwdIdeal.nD Cert.MixffnFwdIdeal.τ).loc Cert.MixffnFwdIdeal.main_arg4)
      ∧ m' ((c.tc : Thread Cert.MixffnFwdRefIdeal.nD Cert.MixffnFwdRefIdeal.τ).loc Cert.MixffnFwdRefIdeal.main_arg5) = m ((c.tc : Thread Cert.MixffnFwdIdeal.nD Cert.MixffnFwdIdeal.τ).loc Cert.MixffnFwdIdeal.main_arg5)
      ∧ m' ((c.tc : Thread Cert.MixffnFwdRefIdeal.nD Cert.MixffnFwdRefIdeal.τ).loc Cert.MixffnFwdRefIdeal.main_arg6) = m ((c.tc : Thread Cert.MixffnFwdIdeal.nD Cert.MixffnFwdIdeal.τ).loc Cert.MixffnFwdIdeal.main_arg6)
      ∧ m' ((c.tc : Thread Cert.MixffnFwdRefIdeal.nD Cert.MixffnFwdRefIdeal.τ).loc Cert.MixffnFwdRefIdeal.main_arg7) = m ((c.tc : Thread Cert.MixffnFwdIdeal.nD Cert.MixffnFwdIdeal.τ).loc Cert.MixffnFwdIdeal.main_arg7)) →
    ∃ (v0 : (c : Dev Cert.MixffnFwdIdeal.nD) → Buf (Elt Ideal) ((c.tc : Thread Cert.MixffnFwdIdeal.nD Cert.MixffnFwdIdeal.τ).loc Cert.MixffnFwdIdeal.main_v7_0)) (v1 : (c : Dev Cert.MixffnFwdIdeal.nD) → Buf (Elt Ideal) ((c.tc : Thread Cert.MixffnFwdIdeal.nD Cert.MixffnFwdIdeal.τ).loc Cert.MixffnFwdIdeal.main_v7_1)) (v2 : (c : Dev Cert.MixffnFwdIdeal.nD) → Buf (Elt Ideal) ((c.tc : Thread Cert.MixffnFwdIdeal.nD Cert.MixffnFwdIdeal.τ).loc Cert.MixffnFwdIdeal.main_v7_2)) (v3 : (c : Dev Cert.MixffnFwdIdeal.nD) → Buf (Elt Ideal) ((c.tc : Thread Cert.MixffnFwdIdeal.nD Cert.MixffnFwdIdeal.τ).loc Cert.MixffnFwdIdeal.main_v7_3)) (v4 : (c : Dev Cert.MixffnFwdIdeal.nD) → Buf (Elt Ideal) ((c.tc : Thread Cert.MixffnFwdIdeal.nD Cert.MixffnFwdIdeal.τ).loc Cert.MixffnFwdIdeal.main_v7_4)) (v5 : (c : Dev Cert.MixffnFwdIdeal.nD) → Buf (Elt Ideal) ((c.tc : Thread Cert.MixffnFwdIdeal.nD Cert.MixffnFwdIdeal.τ).loc Cert.MixffnFwdIdeal.main_v7_5)),
      θ_run (Cert.MixffnFwdIdeal.defs (F := Ideal)) (onTc (τ := Cert.MixffnFwdIdeal.τ) (Cert.MixffnFwdIdeal.main (F := Ideal))) ⟨m, fun _ => 0, g⟩ (fun r => ∀ c : Dev Cert.MixffnFwdIdeal.nD,
          r.2.mem ((c.tc : Thread Cert.MixffnFwdIdeal.nD Cert.MixffnFwdIdeal.τ).loc Cert.MixffnFwdIdeal.main_v7_0) = v0 c
          ∧ r.2.mem ((c.tc : Thread Cert.MixffnFwdIdeal.nD Cert.MixffnFwdIdeal.τ).loc Cert.MixffnFwdIdeal.main_v7_1) = v1 c
          ∧ r.2.mem ((c.tc : Thread Cert.MixffnFwdIdeal.nD Cert.MixffnFwdIdeal.τ).loc Cert.MixffnFwdIdeal.main_v7_2) = v2 c
          ∧ r.2.mem ((c.tc : Thread Cert.MixffnFwdIdeal.nD Cert.MixffnFwdIdeal.τ).loc Cert.MixffnFwdIdeal.main_v7_3) = v3 c
          ∧ r.2.mem ((c.tc : Thread Cert.MixffnFwdIdeal.nD Cert.MixffnFwdIdeal.τ).loc Cert.MixffnFwdIdeal.main_v7_4) = v4 c
          ∧ r.2.mem ((c.tc : Thread Cert.MixffnFwdIdeal.nD Cert.MixffnFwdIdeal.τ).loc Cert.MixffnFwdIdeal.main_v7_5) = v5 c
          ∧ r.2.mem ((c.tc : Thread Cert.MixffnFwdIdeal.nD Cert.MixffnFwdIdeal.τ).loc Cert.MixffnFwdIdeal.main_arg0) = m ((c.tc : Thread Cert.MixffnFwdIdeal.nD Cert.MixffnFwdIdeal.τ).loc Cert.MixffnFwdIdeal.main_arg0)
          ∧ r.2.mem ((c.tc : Thread Cert.MixffnFwdIdeal.nD Cert.MixffnFwdIdeal.τ).loc Cert.MixffnFwdIdeal.main_arg1) = m ((c.tc : Thread Cert.MixffnFwdIdeal.nD Cert.MixffnFwdIdeal.τ).loc Cert.MixffnFwdIdeal.main_arg1)
          ∧ r.2.mem ((c.tc : Thread Cert.MixffnFwdIdeal.nD Cert.MixffnFwdIdeal.τ).loc Cert.MixffnFwdIdeal.main_arg2) = m ((c.tc : Thread Cert.MixffnFwdIdeal.nD Cert.MixffnFwdIdeal.τ).loc Cert.MixffnFwdIdeal.main_arg2)
          ∧ r.2.mem ((c.tc : Thread Cert.MixffnFwdIdeal.nD Cert.MixffnFwdIdeal.τ).loc Cert.MixffnFwdIdeal.main_arg3) = m ((c.tc : Thread Cert.MixffnFwdIdeal.nD Cert.MixffnFwdIdeal.τ).loc Cert.MixffnFwdIdeal.main_arg3)
          ∧ r.2.mem ((c.tc : Thread Cert.MixffnFwdIdeal.nD Cert.MixffnFwdIdeal.τ).loc Cert.MixffnFwdIdeal.main_arg4) = m ((c.tc : Thread Cert.MixffnFwdIdeal.nD Cert.MixffnFwdIdeal.τ).loc Cert.MixffnFwdIdeal.main_arg4)
          ∧ r.2.mem ((c.tc : Thread Cert.MixffnFwdIdeal.nD Cert.MixffnFwdIdeal.τ).loc Cert.MixffnFwdIdeal.main_arg5) = m ((c.tc : Thread Cert.MixffnFwdIdeal.nD Cert.MixffnFwdIdeal.τ).loc Cert.MixffnFwdIdeal.main_arg5)
          ∧ r.2.mem ((c.tc : Thread Cert.MixffnFwdIdeal.nD Cert.MixffnFwdIdeal.τ).loc Cert.MixffnFwdIdeal.main_arg6) = m ((c.tc : Thread Cert.MixffnFwdIdeal.nD Cert.MixffnFwdIdeal.τ).loc Cert.MixffnFwdIdeal.main_arg6)
          ∧ r.2.mem ((c.tc : Thread Cert.MixffnFwdIdeal.nD Cert.MixffnFwdIdeal.τ).loc Cert.MixffnFwdIdeal.main_arg7) = m ((c.tc : Thread Cert.MixffnFwdIdeal.nD Cert.MixffnFwdIdeal.τ).loc Cert.MixffnFwdIdeal.main_arg7))
      ∧ θ_run (Cert.MixffnFwdRefIdeal.defs (F := Ideal)) (onTc (τ := Cert.MixffnFwdRefIdeal.τ) (Cert.MixffnFwdRefIdeal.main (F := Ideal))) ⟨m', fun _ => 0, g'⟩ (fun r => ∀ c : Dev Cert.MixffnFwdRefIdeal.nD,
          r.2.mem ((c.tc : Thread Cert.MixffnFwdRefIdeal.nD Cert.MixffnFwdRefIdeal.τ).loc Cert.MixffnFwdRefIdeal.main_v2) = v0 c
          ∧ r.2.mem ((c.tc : Thread Cert.MixffnFwdRefIdeal.nD Cert.MixffnFwdRefIdeal.τ).loc Cert.MixffnFwdRefIdeal.main_v21) = v1 c
          ∧ r.2.mem ((c.tc : Thread Cert.MixffnFwdRefIdeal.nD Cert.MixffnFwdRefIdeal.τ).loc Cert.MixffnFwdRefIdeal.main_v22) = v2 c
          ∧ r.2.mem ((c.tc : Thread Cert.MixffnFwdRefIdeal.nD Cert.MixffnFwdRefIdeal.τ).loc Cert.MixffnFwdRefIdeal.main_v23) = v3 c
          ∧ r.2.mem ((c.tc : Thread Cert.MixffnFwdRefIdeal.nD Cert.MixffnFwdRefIdeal.τ).loc Cert.MixffnFwdRefIdeal.main_v24) = v4 c
          ∧ r.2.mem ((c.tc : Thread Cert.MixffnFwdRefIdeal.nD Cert.MixffnFwdRefIdeal.τ).loc Cert.MixffnFwdRefIdeal.main_v25) = v5 c
          ∧ r.2.mem ((c.tc : Thread Cert.MixffnFwdRefIdeal.nD Cert.MixffnFwdRefIdeal.τ).loc Cert.MixffnFwdRefIdeal.main_arg0) = m' ((c.tc : Thread Cert.MixffnFwdRefIdeal.nD Cert.MixffnFwdRefIdeal.τ).loc Cert.MixffnFwdRefIdeal.main_arg0)
          ∧ r.2.mem ((c.tc : Thread Cert.MixffnFwdRefIdeal.nD Cert.MixffnFwdRefIdeal.τ).loc Cert.MixffnFwdRefIdeal.main_arg1) = m' ((c.tc : Thread Cert.MixffnFwdRefIdeal.nD Cert.MixffnFwdRefIdeal.τ).loc Cert.MixffnFwdRefIdeal.main_arg1)
          ∧ r.2.mem ((c.tc : Thread Cert.MixffnFwdRefIdeal.nD Cert.MixffnFwdRefIdeal.τ).loc Cert.MixffnFwdRefIdeal.main_arg2) = m' ((c.tc : Thread Cert.MixffnFwdRefIdeal.nD Cert.MixffnFwdRefIdeal.τ).loc Cert.MixffnFwdRefIdeal.main_arg2)
          ∧ r.2.mem ((c.tc : Thread Cert.MixffnFwdRefIdeal.nD Cert.MixffnFwdRefIdeal.τ).loc Cert.MixffnFwdRefIdeal.main_arg3) = m' ((c.tc : Thread Cert.MixffnFwdRefIdeal.nD Cert.MixffnFwdRefIdeal.τ).loc Cert.MixffnFwdRefIdeal.main_arg3)
          ∧ r.2.mem ((c.tc : Thread Cert.MixffnFwdRefIdeal.nD Cert.MixffnFwdRefIdeal.τ).loc Cert.MixffnFwdRefIdeal.main_arg4) = m' ((c.tc : Thread Cert.MixffnFwdRefIdeal.nD Cert.MixffnFwdRefIdeal.τ).loc Cert.MixffnFwdRefIdeal.main_arg4)
          ∧ r.2.mem ((c.tc : Thread Cert.MixffnFwdRefIdeal.nD Cert.MixffnFwdRefIdeal.τ).loc Cert.MixffnFwdRefIdeal.main_arg5) = m' ((c.tc : Thread Cert.MixffnFwdRefIdeal.nD Cert.MixffnFwdRefIdeal.τ).loc Cert.MixffnFwdRefIdeal.main_arg5)
          ∧ r.2.mem ((c.tc : Thread Cert.MixffnFwdRefIdeal.nD Cert.MixffnFwdRefIdeal.τ).loc Cert.MixffnFwdRefIdeal.main_arg6) = m' ((c.tc : Thread Cert.MixffnFwdRefIdeal.nD Cert.MixffnFwdRefIdeal.τ).loc Cert.MixffnFwdRefIdeal.main_arg6)
          ∧ r.2.mem ((c.tc : Thread Cert.MixffnFwdRefIdeal.nD Cert.MixffnFwdRefIdeal.τ).loc Cert.MixffnFwdRefIdeal.main_arg7) = m' ((c.tc : Thread Cert.MixffnFwdRefIdeal.nD Cert.MixffnFwdRefIdeal.τ).loc Cert.MixffnFwdRefIdeal.main_arg7))

def preserves_RwPostFwd_RwPostFwdIdeal : Prop :=
  True

def algebraic_RwPostFwdIdeal_RwPostFwdRefIdeal_pre_finite_rwpostfwd [hRwPostFwdIdeal : Cert.RwPostFwdIdeal.Facts] [hRwPostFwdRefIdeal : Cert.RwPostFwdRefIdeal.Facts] [hPre_finite_rwpostfwd : Cert.Pre_finite_rwpostfwd.Facts] : Prop :=
  ∀ (m : (ℓ : Loc Cert.RwPostFwdIdeal.nD Cert.RwPostFwdIdeal.τ Cert.RwPostFwdIdeal.sig) → Buf (Elt Ideal) ℓ) (g : Dev Cert.RwPostFwdIdeal.nD → PrngReg)
    (m' : (ℓ : Loc Cert.RwPostFwdRefIdeal.nD Cert.RwPostFwdRefIdeal.τ Cert.RwPostFwdRefIdeal.sig) → Buf (Elt Ideal) ℓ) (g' : Dev Cert.RwPostFwdRefIdeal.nD → PrngReg), Pre_RwPostFwdIdeal_finite_rwpostfwd m →
    (∀ c : Dev Cert.RwPostFwdIdeal.nD,
      m' ((c.tc : Thread Cert.RwPostFwdRefIdeal.nD Cert.RwPostFwdRefIdeal.τ).loc Cert.RwPostFwdRefIdeal.main_arg0) = m ((c.tc : Thread Cert.RwPostFwdIdeal.nD Cert.RwPostFwdIdeal.τ).loc Cert.RwPostFwdIdeal.main_arg0)
      ∧ m' ((c.tc : Thread Cert.RwPostFwdRefIdeal.nD Cert.RwPostFwdRefIdeal.τ).loc Cert.RwPostFwdRefIdeal.main_arg1) = m ((c.tc : Thread Cert.RwPostFwdIdeal.nD Cert.RwPostFwdIdeal.τ).loc Cert.RwPostFwdIdeal.main_arg1)
      ∧ m' ((c.tc : Thread Cert.RwPostFwdRefIdeal.nD Cert.RwPostFwdRefIdeal.τ).loc Cert.RwPostFwdRefIdeal.main_arg2) = m ((c.tc : Thread Cert.RwPostFwdIdeal.nD Cert.RwPostFwdIdeal.τ).loc Cert.RwPostFwdIdeal.main_arg2)
      ∧ m' ((c.tc : Thread Cert.RwPostFwdRefIdeal.nD Cert.RwPostFwdRefIdeal.τ).loc Cert.RwPostFwdRefIdeal.main_arg3) = m ((c.tc : Thread Cert.RwPostFwdIdeal.nD Cert.RwPostFwdIdeal.τ).loc Cert.RwPostFwdIdeal.main_arg3)
      ∧ m' ((c.tc : Thread Cert.RwPostFwdRefIdeal.nD Cert.RwPostFwdRefIdeal.τ).loc Cert.RwPostFwdRefIdeal.main_arg4) = m ((c.tc : Thread Cert.RwPostFwdIdeal.nD Cert.RwPostFwdIdeal.τ).loc Cert.RwPostFwdIdeal.main_arg4)
      ∧ m' ((c.tc : Thread Cert.RwPostFwdRefIdeal.nD Cert.RwPostFwdRefIdeal.τ).loc Cert.RwPostFwdRefIdeal.main_arg5) = m ((c.tc : Thread Cert.RwPostFwdIdeal.nD Cert.RwPostFwdIdeal.τ).loc Cert.RwPostFwdIdeal.main_arg5)
      ∧ m' ((c.tc : Thread Cert.RwPostFwdRefIdeal.nD Cert.RwPostFwdRefIdeal.τ).loc Cert.RwPostFwdRefIdeal.main_arg6) = m ((c.tc : Thread Cert.RwPostFwdIdeal.nD Cert.RwPostFwdIdeal.τ).loc Cert.RwPostFwdIdeal.main_arg6)
      ∧ m' ((c.tc : Thread Cert.RwPostFwdRefIdeal.nD Cert.RwPostFwdRefIdeal.τ).loc Cert.RwPostFwdRefIdeal.main_arg7) = m ((c.tc : Thread Cert.RwPostFwdIdeal.nD Cert.RwPostFwdIdeal.τ).loc Cert.RwPostFwdIdeal.main_arg7)) →
    ∃ (v0 : (c : Dev Cert.RwPostFwdIdeal.nD) → Buf (Elt Ideal) ((c.tc : Thread Cert.RwPostFwdIdeal.nD Cert.RwPostFwdIdeal.τ).loc Cert.RwPostFwdIdeal.main_v7)),
      θ_run (Cert.RwPostFwdIdeal.defs (F := Ideal)) (onTc (τ := Cert.RwPostFwdIdeal.τ) (Cert.RwPostFwdIdeal.main (F := Ideal))) ⟨m, fun _ => 0, g⟩ (fun r => ∀ c : Dev Cert.RwPostFwdIdeal.nD,
          r.2.mem ((c.tc : Thread Cert.RwPostFwdIdeal.nD Cert.RwPostFwdIdeal.τ).loc Cert.RwPostFwdIdeal.main_v7) = v0 c
          ∧ r.2.mem ((c.tc : Thread Cert.RwPostFwdIdeal.nD Cert.RwPostFwdIdeal.τ).loc Cert.RwPostFwdIdeal.main_arg0) = m ((c.tc : Thread Cert.RwPostFwdIdeal.nD Cert.RwPostFwdIdeal.τ).loc Cert.RwPostFwdIdeal.main_arg0)
          ∧ r.2.mem ((c.tc : Thread Cert.RwPostFwdIdeal.nD Cert.RwPostFwdIdeal.τ).loc Cert.RwPostFwdIdeal.main_arg1) = m ((c.tc : Thread Cert.RwPostFwdIdeal.nD Cert.RwPostFwdIdeal.τ).loc Cert.RwPostFwdIdeal.main_arg1)
          ∧ r.2.mem ((c.tc : Thread Cert.RwPostFwdIdeal.nD Cert.RwPostFwdIdeal.τ).loc Cert.RwPostFwdIdeal.main_arg2) = m ((c.tc : Thread Cert.RwPostFwdIdeal.nD Cert.RwPostFwdIdeal.τ).loc Cert.RwPostFwdIdeal.main_arg2)
          ∧ r.2.mem ((c.tc : Thread Cert.RwPostFwdIdeal.nD Cert.RwPostFwdIdeal.τ).loc Cert.RwPostFwdIdeal.main_arg3) = m ((c.tc : Thread Cert.RwPostFwdIdeal.nD Cert.RwPostFwdIdeal.τ).loc Cert.RwPostFwdIdeal.main_arg3)
          ∧ r.2.mem ((c.tc : Thread Cert.RwPostFwdIdeal.nD Cert.RwPostFwdIdeal.τ).loc Cert.RwPostFwdIdeal.main_arg4) = m ((c.tc : Thread Cert.RwPostFwdIdeal.nD Cert.RwPostFwdIdeal.τ).loc Cert.RwPostFwdIdeal.main_arg4)
          ∧ r.2.mem ((c.tc : Thread Cert.RwPostFwdIdeal.nD Cert.RwPostFwdIdeal.τ).loc Cert.RwPostFwdIdeal.main_arg5) = m ((c.tc : Thread Cert.RwPostFwdIdeal.nD Cert.RwPostFwdIdeal.τ).loc Cert.RwPostFwdIdeal.main_arg5)
          ∧ r.2.mem ((c.tc : Thread Cert.RwPostFwdIdeal.nD Cert.RwPostFwdIdeal.τ).loc Cert.RwPostFwdIdeal.main_arg6) = m ((c.tc : Thread Cert.RwPostFwdIdeal.nD Cert.RwPostFwdIdeal.τ).loc Cert.RwPostFwdIdeal.main_arg6)
          ∧ r.2.mem ((c.tc : Thread Cert.RwPostFwdIdeal.nD Cert.RwPostFwdIdeal.τ).loc Cert.RwPostFwdIdeal.main_arg7) = m ((c.tc : Thread Cert.RwPostFwdIdeal.nD Cert.RwPostFwdIdeal.τ).loc Cert.RwPostFwdIdeal.main_arg7))
      ∧ θ_run (Cert.RwPostFwdRefIdeal.defs (F := Ideal)) (onTc (τ := Cert.RwPostFwdRefIdeal.τ) (Cert.RwPostFwdRefIdeal.main (F := Ideal))) ⟨m', fun _ => 0, g'⟩ (fun r => ∀ c : Dev Cert.RwPostFwdRefIdeal.nD,
          r.2.mem ((c.tc : Thread Cert.RwPostFwdRefIdeal.nD Cert.RwPostFwdRefIdeal.τ).loc Cert.RwPostFwdRefIdeal.main_v33) = v0 c
          ∧ r.2.mem ((c.tc : Thread Cert.RwPostFwdRefIdeal.nD Cert.RwPostFwdRefIdeal.τ).loc Cert.RwPostFwdRefIdeal.main_arg0) = m' ((c.tc : Thread Cert.RwPostFwdRefIdeal.nD Cert.RwPostFwdRefIdeal.τ).loc Cert.RwPostFwdRefIdeal.main_arg0)
          ∧ r.2.mem ((c.tc : Thread Cert.RwPostFwdRefIdeal.nD Cert.RwPostFwdRefIdeal.τ).loc Cert.RwPostFwdRefIdeal.main_arg1) = m' ((c.tc : Thread Cert.RwPostFwdRefIdeal.nD Cert.RwPostFwdRefIdeal.τ).loc Cert.RwPostFwdRefIdeal.main_arg1)
          ∧ r.2.mem ((c.tc : Thread Cert.RwPostFwdRefIdeal.nD Cert.RwPostFwdRefIdeal.τ).loc Cert.RwPostFwdRefIdeal.main_arg2) = m' ((c.tc : Thread Cert.RwPostFwdRefIdeal.nD Cert.RwPostFwdRefIdeal.τ).loc Cert.RwPostFwdRefIdeal.main_arg2)
          ∧ r.2.mem ((c.tc : Thread Cert.RwPostFwdRefIdeal.nD Cert.RwPostFwdRefIdeal.τ).loc Cert.RwPostFwdRefIdeal.main_arg3) = m' ((c.tc : Thread Cert.RwPostFwdRefIdeal.nD Cert.RwPostFwdRefIdeal.τ).loc Cert.RwPostFwdRefIdeal.main_arg3)
          ∧ r.2.mem ((c.tc : Thread Cert.RwPostFwdRefIdeal.nD Cert.RwPostFwdRefIdeal.τ).loc Cert.RwPostFwdRefIdeal.main_arg4) = m' ((c.tc : Thread Cert.RwPostFwdRefIdeal.nD Cert.RwPostFwdRefIdeal.τ).loc Cert.RwPostFwdRefIdeal.main_arg4)
          ∧ r.2.mem ((c.tc : Thread Cert.RwPostFwdRefIdeal.nD Cert.RwPostFwdRefIdeal.τ).loc Cert.RwPostFwdRefIdeal.main_arg5) = m' ((c.tc : Thread Cert.RwPostFwdRefIdeal.nD Cert.RwPostFwdRefIdeal.τ).loc Cert.RwPostFwdRefIdeal.main_arg5)
          ∧ r.2.mem ((c.tc : Thread Cert.RwPostFwdRefIdeal.nD Cert.RwPostFwdRefIdeal.τ).loc Cert.RwPostFwdRefIdeal.main_arg6) = m' ((c.tc : Thread Cert.RwPostFwdRefIdeal.nD Cert.RwPostFwdRefIdeal.τ).loc Cert.RwPostFwdRefIdeal.main_arg6)
          ∧ r.2.mem ((c.tc : Thread Cert.RwPostFwdRefIdeal.nD Cert.RwPostFwdRefIdeal.τ).loc Cert.RwPostFwdRefIdeal.main_arg7) = m' ((c.tc : Thread Cert.RwPostFwdRefIdeal.nD Cert.RwPostFwdRefIdeal.τ).loc Cert.RwPostFwdRefIdeal.main_arg7))

def preserves_S5ParamFwd_S5ParamFwdIdeal : Prop :=
  True

def algebraic_S5ParamFwdIdeal_S5ParamFwdRefIdeal [hS5ParamFwdIdeal : Cert.S5ParamFwdIdeal.Facts] [hS5ParamFwdRefIdeal : Cert.S5ParamFwdRefIdeal.Facts] : Prop :=
  ∀ (m : (ℓ : Loc Cert.S5ParamFwdIdeal.nD Cert.S5ParamFwdIdeal.τ Cert.S5ParamFwdIdeal.sig) → Buf (Elt Ideal) ℓ) (g : Dev Cert.S5ParamFwdIdeal.nD → PrngReg)
    (m' : (ℓ : Loc Cert.S5ParamFwdRefIdeal.nD Cert.S5ParamFwdRefIdeal.τ Cert.S5ParamFwdRefIdeal.sig) → Buf (Elt Ideal) ℓ) (g' : Dev Cert.S5ParamFwdRefIdeal.nD → PrngReg), Pre_S5ParamFwdIdeal m →
    (∀ c : Dev Cert.S5ParamFwdIdeal.nD,
      m' ((c.tc : Thread Cert.S5ParamFwdRefIdeal.nD Cert.S5ParamFwdRefIdeal.τ).loc Cert.S5ParamFwdRefIdeal.main_arg0) = m ((c.tc : Thread Cert.S5ParamFwdIdeal.nD Cert.S5ParamFwdIdeal.τ).loc Cert.S5ParamFwdIdeal.main_arg0)
      ∧ m' ((c.tc : Thread Cert.S5ParamFwdRefIdeal.nD Cert.S5ParamFwdRefIdeal.τ).loc Cert.S5ParamFwdRefIdeal.main_arg1) = m ((c.tc : Thread Cert.S5ParamFwdIdeal.nD Cert.S5ParamFwdIdeal.τ).loc Cert.S5ParamFwdIdeal.main_arg1)
      ∧ m' ((c.tc : Thread Cert.S5ParamFwdRefIdeal.nD Cert.S5ParamFwdRefIdeal.τ).loc Cert.S5ParamFwdRefIdeal.main_arg2) = m ((c.tc : Thread Cert.S5ParamFwdIdeal.nD Cert.S5ParamFwdIdeal.τ).loc Cert.S5ParamFwdIdeal.main_arg2)
      ∧ m' ((c.tc : Thread Cert.S5ParamFwdRefIdeal.nD Cert.S5ParamFwdRefIdeal.τ).loc Cert.S5ParamFwdRefIdeal.main_arg3) = m ((c.tc : Thread Cert.S5ParamFwdIdeal.nD Cert.S5ParamFwdIdeal.τ).loc Cert.S5ParamFwdIdeal.main_arg3)
      ∧ m' ((c.tc : Thread Cert.S5ParamFwdRefIdeal.nD Cert.S5ParamFwdRefIdeal.τ).loc Cert.S5ParamFwdRefIdeal.main_arg4) = m ((c.tc : Thread Cert.S5ParamFwdIdeal.nD Cert.S5ParamFwdIdeal.τ).loc Cert.S5ParamFwdIdeal.main_arg4)) →
    ∃ (v0 : (c : Dev Cert.S5ParamFwdIdeal.nD) → Buf (Elt Ideal) ((c.tc : Thread Cert.S5ParamFwdIdeal.nD Cert.S5ParamFwdIdeal.τ).loc Cert.S5ParamFwdIdeal.main_v3_0)) (v1 : (c : Dev Cert.S5ParamFwdIdeal.nD) → Buf (Elt Ideal) ((c.tc : Thread Cert.S5ParamFwdIdeal.nD Cert.S5ParamFwdIdeal.τ).loc Cert.S5ParamFwdIdeal.main_v3_1)) (v2 : (c : Dev Cert.S5ParamFwdIdeal.nD) → Buf (Elt Ideal) ((c.tc : Thread Cert.S5ParamFwdIdeal.nD Cert.S5ParamFwdIdeal.τ).loc Cert.S5ParamFwdIdeal.main_v3_2)) (v3 : (c : Dev Cert.S5ParamFwdIdeal.nD) → Buf (Elt Ideal) ((c.tc : Thread Cert.S5ParamFwdIdeal.nD Cert.S5ParamFwdIdeal.τ).loc Cert.S5ParamFwdIdeal.main_v3_3)),
      θ_run (Cert.S5ParamFwdIdeal.defs (F := Ideal)) (onTc (τ := Cert.S5ParamFwdIdeal.τ) (Cert.S5ParamFwdIdeal.main (F := Ideal))) ⟨m, fun _ => 0, g⟩ (fun r => ∀ c : Dev Cert.S5ParamFwdIdeal.nD,
          r.2.mem ((c.tc : Thread Cert.S5ParamFwdIdeal.nD Cert.S5ParamFwdIdeal.τ).loc Cert.S5ParamFwdIdeal.main_v3_0) = v0 c
          ∧ r.2.mem ((c.tc : Thread Cert.S5ParamFwdIdeal.nD Cert.S5ParamFwdIdeal.τ).loc Cert.S5ParamFwdIdeal.main_v3_1) = v1 c
          ∧ r.2.mem ((c.tc : Thread Cert.S5ParamFwdIdeal.nD Cert.S5ParamFwdIdeal.τ).loc Cert.S5ParamFwdIdeal.main_v3_2) = v2 c
          ∧ r.2.mem ((c.tc : Thread Cert.S5ParamFwdIdeal.nD Cert.S5ParamFwdIdeal.τ).loc Cert.S5ParamFwdIdeal.main_v3_3) = v3 c
          ∧ r.2.mem ((c.tc : Thread Cert.S5ParamFwdIdeal.nD Cert.S5ParamFwdIdeal.τ).loc Cert.S5ParamFwdIdeal.main_arg0) = m ((c.tc : Thread Cert.S5ParamFwdIdeal.nD Cert.S5ParamFwdIdeal.τ).loc Cert.S5ParamFwdIdeal.main_arg0)
          ∧ r.2.mem ((c.tc : Thread Cert.S5ParamFwdIdeal.nD Cert.S5ParamFwdIdeal.τ).loc Cert.S5ParamFwdIdeal.main_arg1) = m ((c.tc : Thread Cert.S5ParamFwdIdeal.nD Cert.S5ParamFwdIdeal.τ).loc Cert.S5ParamFwdIdeal.main_arg1)
          ∧ r.2.mem ((c.tc : Thread Cert.S5ParamFwdIdeal.nD Cert.S5ParamFwdIdeal.τ).loc Cert.S5ParamFwdIdeal.main_arg2) = m ((c.tc : Thread Cert.S5ParamFwdIdeal.nD Cert.S5ParamFwdIdeal.τ).loc Cert.S5ParamFwdIdeal.main_arg2)
          ∧ r.2.mem ((c.tc : Thread Cert.S5ParamFwdIdeal.nD Cert.S5ParamFwdIdeal.τ).loc Cert.S5ParamFwdIdeal.main_arg3) = m ((c.tc : Thread Cert.S5ParamFwdIdeal.nD Cert.S5ParamFwdIdeal.τ).loc Cert.S5ParamFwdIdeal.main_arg3)
          ∧ r.2.mem ((c.tc : Thread Cert.S5ParamFwdIdeal.nD Cert.S5ParamFwdIdeal.τ).loc Cert.S5ParamFwdIdeal.main_arg4) = m ((c.tc : Thread Cert.S5ParamFwdIdeal.nD Cert.S5ParamFwdIdeal.τ).loc Cert.S5ParamFwdIdeal.main_arg4))
      ∧ θ_run (Cert.S5ParamFwdRefIdeal.defs (F := Ideal)) (onTc (τ := Cert.S5ParamFwdRefIdeal.τ) (Cert.S5ParamFwdRefIdeal.main (F := Ideal))) ⟨m', fun _ => 0, g'⟩ (fun r => ∀ c : Dev Cert.S5ParamFwdRefIdeal.nD,
          r.2.mem ((c.tc : Thread Cert.S5ParamFwdRefIdeal.nD Cert.S5ParamFwdRefIdeal.τ).loc Cert.S5ParamFwdRefIdeal.main_v8) = v0 c
          ∧ r.2.mem ((c.tc : Thread Cert.S5ParamFwdRefIdeal.nD Cert.S5ParamFwdRefIdeal.τ).loc Cert.S5ParamFwdRefIdeal.main_v12) = v1 c
          ∧ r.2.mem ((c.tc : Thread Cert.S5ParamFwdRefIdeal.nD Cert.S5ParamFwdRefIdeal.τ).loc Cert.S5ParamFwdRefIdeal.main_v35) = v2 c
          ∧ r.2.mem ((c.tc : Thread Cert.S5ParamFwdRefIdeal.nD Cert.S5ParamFwdRefIdeal.τ).loc Cert.S5ParamFwdRefIdeal.main_v41) = v3 c
          ∧ r.2.mem ((c.tc : Thread Cert.S5ParamFwdRefIdeal.nD Cert.S5ParamFwdRefIdeal.τ).loc Cert.S5ParamFwdRefIdeal.main_arg0) = m' ((c.tc : Thread Cert.S5ParamFwdRefIdeal.nD Cert.S5ParamFwdRefIdeal.τ).loc Cert.S5ParamFwdRefIdeal.main_arg0)
          ∧ r.2.mem ((c.tc : Thread Cert.S5ParamFwdRefIdeal.nD Cert.S5ParamFwdRefIdeal.τ).loc Cert.S5ParamFwdRefIdeal.main_arg1) = m' ((c.tc : Thread Cert.S5ParamFwdRefIdeal.nD Cert.S5ParamFwdRefIdeal.τ).loc Cert.S5ParamFwdRefIdeal.main_arg1)
          ∧ r.2.mem ((c.tc : Thread Cert.S5ParamFwdRefIdeal.nD Cert.S5ParamFwdRefIdeal.τ).loc Cert.S5ParamFwdRefIdeal.main_arg2) = m' ((c.tc : Thread Cert.S5ParamFwdRefIdeal.nD Cert.S5ParamFwdRefIdeal.τ).loc Cert.S5ParamFwdRefIdeal.main_arg2)
          ∧ r.2.mem ((c.tc : Thread Cert.S5ParamFwdRefIdeal.nD Cert.S5ParamFwdRefIdeal.τ).loc Cert.S5ParamFwdRefIdeal.main_arg3) = m' ((c.tc : Thread Cert.S5ParamFwdRefIdeal.nD Cert.S5ParamFwdRefIdeal.τ).loc Cert.S5ParamFwdRefIdeal.main_arg3)
          ∧ r.2.mem ((c.tc : Thread Cert.S5ParamFwdRefIdeal.nD Cert.S5ParamFwdRefIdeal.τ).loc Cert.S5ParamFwdRefIdeal.main_arg4) = m' ((c.tc : Thread Cert.S5ParamFwdRefIdeal.nD Cert.S5ParamFwdRefIdeal.τ).loc Cert.S5ParamFwdRefIdeal.main_arg4))

def preserves_WkvBwd_WkvBwdIdeal : Prop :=
  True

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hS5Post : Cert.S5Post.Facts) (hS5PostIdeal : Cert.S5PostIdeal.Facts) (hS5PostRefIdeal : Cert.S5PostRefIdeal.Facts) (hPle : Cert.Ple.Facts) (hPleIdeal : Cert.PleIdeal.Facts) (hPleRefIdeal : Cert.PleRefIdeal.Facts) (hRwPost : Cert.RwPost.Facts) (hRwPostIdeal : Cert.RwPostIdeal.Facts) (hRwPostRefIdeal : Cert.RwPostRefIdeal.Facts) (hS5Param : Cert.S5Param.Facts) (hS5ParamIdeal : Cert.S5ParamIdeal.Facts) (hS5ParamRefIdeal : Cert.S5ParamRefIdeal.Facts) (hWkvFwd : Cert.WkvFwd.Facts) (hWkvFwdIdeal : Cert.WkvFwdIdeal.Facts) (hWkvFwdRefIdeal : Cert.WkvFwdRefIdeal.Facts) (hS5PostFwd : Cert.S5PostFwd.Facts) (hS5PostFwdIdeal : Cert.S5PostFwdIdeal.Facts) (hS5PostFwdRefIdeal : Cert.S5PostFwdRefIdeal.Facts) (hInprojFwd : Cert.InprojFwd.Facts) (hInprojFwdIdeal : Cert.InprojFwdIdeal.Facts) (hInprojFwdRefIdeal : Cert.InprojFwdRefIdeal.Facts) (hMixffnFwd : Cert.MixffnFwd.Facts) (hMixffnFwdIdeal : Cert.MixffnFwdIdeal.Facts) (hMixffnFwdRefIdeal : Cert.MixffnFwdRefIdeal.Facts) (hRwPostFwd : Cert.RwPostFwd.Facts) (hRwPostFwdIdeal : Cert.RwPostFwdIdeal.Facts) (hRwPostFwdRefIdeal : Cert.RwPostFwdRefIdeal.Facts) (hS5ParamFwd : Cert.S5ParamFwd.Facts) (hS5ParamFwdIdeal : Cert.S5ParamFwdIdeal.Facts) (hS5ParamFwdRefIdeal : Cert.S5ParamFwdRefIdeal.Facts) (hWkvBwd : Cert.WkvBwd.Facts) (hWkvBwdIdeal : Cert.WkvBwdIdeal.Facts) (hPre_finite_dzs : Cert.Pre_finite_dzs.Facts) (hPre_finite_ffn : Cert.Pre_finite_ffn.Facts) (hPre_finite_s5post : Cert.Pre_finite_s5post.Facts) (hPre_finite_ple : Cert.Pre_finite_ple.Facts) (hPre_finite_rwpost : Cert.Pre_finite_rwpost.Facts) (hPre_positive_decay : Cert.Pre_positive_decay.Facts) (hPre_finite_rwpostfwd : Cert.Pre_finite_rwpostfwd.Facts),
    quiescent_Kernel (hKernel := hKernel)
    ∧ quiescent_KernelIdeal (hKernelIdeal := hKernelIdeal)
    ∧ quiescent_KernelIdeal_pre_finite_dzs (hKernelIdeal := hKernelIdeal) (hPre_finite_dzs := hPre_finite_dzs)
    ∧ quiescent_ReferenceIdeal (hReferenceIdeal := hReferenceIdeal)
    ∧ quiescent_ReferenceIdeal_pre_finite_dzs (hReferenceIdeal := hReferenceIdeal) (hPre_finite_dzs := hPre_finite_dzs)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_S5Post (hS5Post := hS5Post)
    ∧ quiescent_S5PostIdeal (hS5PostIdeal := hS5PostIdeal)
    ∧ quiescent_S5PostIdeal_pre_finite_s5post (hS5PostIdeal := hS5PostIdeal) (hPre_finite_s5post := hPre_finite_s5post)
    ∧ quiescent_S5PostRefIdeal (hS5PostRefIdeal := hS5PostRefIdeal)
    ∧ quiescent_S5PostRefIdeal_pre_finite_s5post (hS5PostRefIdeal := hS5PostRefIdeal) (hPre_finite_s5post := hPre_finite_s5post)
    ∧ quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_PleRefIdeal (hPleRefIdeal := hPleRefIdeal)
    ∧ quiescent_PleRefIdeal_pre_finite_ple (hPleRefIdeal := hPleRefIdeal) (hPre_finite_ple := hPre_finite_ple)
    ∧ quiescent_RwPost (hRwPost := hRwPost)
    ∧ quiescent_RwPostIdeal (hRwPostIdeal := hRwPostIdeal)
    ∧ quiescent_RwPostIdeal_pre_finite_rwpost (hRwPostIdeal := hRwPostIdeal) (hPre_finite_rwpost := hPre_finite_rwpost)
    ∧ quiescent_RwPostRefIdeal (hRwPostRefIdeal := hRwPostRefIdeal)
    ∧ quiescent_RwPostRefIdeal_pre_finite_rwpost (hRwPostRefIdeal := hRwPostRefIdeal) (hPre_finite_rwpost := hPre_finite_rwpost)
    ∧ quiescent_S5Param (hS5Param := hS5Param)
    ∧ quiescent_S5ParamIdeal (hS5ParamIdeal := hS5ParamIdeal)
    ∧ quiescent_S5ParamRefIdeal (hS5ParamRefIdeal := hS5ParamRefIdeal)
    ∧ quiescent_WkvFwd (hWkvFwd := hWkvFwd)
    ∧ quiescent_WkvFwdIdeal (hWkvFwdIdeal := hWkvFwdIdeal)
    ∧ quiescent_WkvFwdIdeal_pre_positive_decay (hWkvFwdIdeal := hWkvFwdIdeal) (hPre_positive_decay := hPre_positive_decay)
    ∧ quiescent_WkvFwdRefIdeal (hWkvFwdRefIdeal := hWkvFwdRefIdeal)
    ∧ quiescent_WkvFwdRefIdeal_pre_positive_decay (hWkvFwdRefIdeal := hWkvFwdRefIdeal) (hPre_positive_decay := hPre_positive_decay)
    ∧ quiescent_S5PostFwd (hS5PostFwd := hS5PostFwd)
    ∧ quiescent_S5PostFwdIdeal (hS5PostFwdIdeal := hS5PostFwdIdeal)
    ∧ quiescent_S5PostFwdRefIdeal (hS5PostFwdRefIdeal := hS5PostFwdRefIdeal)
    ∧ quiescent_InprojFwd (hInprojFwd := hInprojFwd)
    ∧ quiescent_InprojFwdIdeal (hInprojFwdIdeal := hInprojFwdIdeal)
    ∧ quiescent_InprojFwdRefIdeal (hInprojFwdRefIdeal := hInprojFwdRefIdeal)
    ∧ quiescent_MixffnFwd (hMixffnFwd := hMixffnFwd)
    ∧ quiescent_MixffnFwdIdeal (hMixffnFwdIdeal := hMixffnFwdIdeal)
    ∧ quiescent_MixffnFwdRefIdeal (hMixffnFwdRefIdeal := hMixffnFwdRefIdeal)
    ∧ quiescent_RwPostFwd (hRwPostFwd := hRwPostFwd)
    ∧ quiescent_RwPostFwdIdeal (hRwPostFwdIdeal := hRwPostFwdIdeal)
    ∧ quiescent_RwPostFwdIdeal_pre_finite_rwpostfwd (hRwPostFwdIdeal := hRwPostFwdIdeal) (hPre_finite_rwpostfwd := hPre_finite_rwpostfwd)
    ∧ quiescent_RwPostFwdRefIdeal (hRwPostFwdRefIdeal := hRwPostFwdRefIdeal)
    ∧ quiescent_RwPostFwdRefIdeal_pre_finite_rwpostfwd (hRwPostFwdRefIdeal := hRwPostFwdRefIdeal) (hPre_finite_rwpostfwd := hPre_finite_rwpostfwd)
    ∧ quiescent_S5ParamFwd (hS5ParamFwd := hS5ParamFwd)
    ∧ quiescent_S5ParamFwdIdeal (hS5ParamFwdIdeal := hS5ParamFwdIdeal)
    ∧ quiescent_S5ParamFwdRefIdeal (hS5ParamFwdRefIdeal := hS5ParamFwdRefIdeal)
    ∧ quiescent_WkvBwd (hWkvBwd := hWkvBwd)
    ∧ quiescent_WkvBwdIdeal (hWkvBwdIdeal := hWkvBwdIdeal)
    ∧ preserves_Kernel_KernelIdeal
    ∧ algebraic_KernelIdeal_ReferenceIdeal_pre_finite_dzs (hKernelIdeal := hKernelIdeal) (hReferenceIdeal := hReferenceIdeal) (hPre_finite_dzs := hPre_finite_dzs)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_S5Post_S5PostIdeal
    ∧ algebraic_S5PostIdeal_S5PostRefIdeal_pre_finite_s5post (hS5PostIdeal := hS5PostIdeal) (hS5PostRefIdeal := hS5PostRefIdeal) (hPre_finite_s5post := hPre_finite_s5post)
    ∧ preserves_Ple_PleIdeal
    ∧ algebraic_PleIdeal_PleRefIdeal_pre_finite_ple (hPleIdeal := hPleIdeal) (hPleRefIdeal := hPleRefIdeal) (hPre_finite_ple := hPre_finite_ple)
    ∧ preserves_RwPost_RwPostIdeal
    ∧ algebraic_RwPostIdeal_RwPostRefIdeal_pre_finite_rwpost (hRwPostIdeal := hRwPostIdeal) (hRwPostRefIdeal := hRwPostRefIdeal) (hPre_finite_rwpost := hPre_finite_rwpost)
    ∧ preserves_S5Param_S5ParamIdeal
    ∧ algebraic_S5ParamIdeal_S5ParamRefIdeal (hS5ParamIdeal := hS5ParamIdeal) (hS5ParamRefIdeal := hS5ParamRefIdeal)
    ∧ preserves_WkvFwd_WkvFwdIdeal
    ∧ algebraic_WkvFwdIdeal_WkvFwdRefIdeal_pre_positive_decay (hWkvFwdIdeal := hWkvFwdIdeal) (hWkvFwdRefIdeal := hWkvFwdRefIdeal) (hPre_positive_decay := hPre_positive_decay)
    ∧ preserves_S5PostFwd_S5PostFwdIdeal
    ∧ algebraic_S5PostFwdIdeal_S5PostFwdRefIdeal (hS5PostFwdIdeal := hS5PostFwdIdeal) (hS5PostFwdRefIdeal := hS5PostFwdRefIdeal)
    ∧ preserves_InprojFwd_InprojFwdIdeal
    ∧ algebraic_InprojFwdIdeal_InprojFwdRefIdeal (hInprojFwdIdeal := hInprojFwdIdeal) (hInprojFwdRefIdeal := hInprojFwdRefIdeal)
    ∧ preserves_MixffnFwd_MixffnFwdIdeal
    ∧ algebraic_MixffnFwdIdeal_MixffnFwdRefIdeal (hMixffnFwdIdeal := hMixffnFwdIdeal) (hMixffnFwdRefIdeal := hMixffnFwdRefIdeal)
    ∧ preserves_RwPostFwd_RwPostFwdIdeal
    ∧ algebraic_RwPostFwdIdeal_RwPostFwdRefIdeal_pre_finite_rwpostfwd (hRwPostFwdIdeal := hRwPostFwdIdeal) (hRwPostFwdRefIdeal := hRwPostFwdRefIdeal) (hPre_finite_rwpostfwd := hPre_finite_rwpostfwd)
    ∧ preserves_S5ParamFwd_S5ParamFwdIdeal
    ∧ algebraic_S5ParamFwdIdeal_S5ParamFwdRefIdeal (hS5ParamFwdIdeal := hS5ParamFwdIdeal) (hS5ParamFwdRefIdeal := hS5ParamFwdRefIdeal)
    ∧ preserves_WkvBwd_WkvBwdIdeal
-- ==== Pre_finite_dzs.lean ====
abbrev S4096x1024 : Shape := ⟨2, ![4096, 1024]⟩
abbrev S1024 : Shape := ⟨1, ![1024]⟩
abbrev S1024x2304 : Shape := ⟨2, ![1024, 2304]⟩
abbrev S1792 : Shape := ⟨1, ![1792]⟩
abbrev S4096x512 : Shape := ⟨2, ![4096, 512]⟩
abbrev S4096x1792 : Shape := ⟨2, ![4096, 1792]⟩
abbrev S_ : Shape := ⟨0, ![]⟩

class Facts : Prop where
  bcast_S_S4096x1792 : S_.BroadcastsInDim S4096x1792 (![] : Fin 0 → Fin S4096x1792.rank)

variable [Facts]

def fn {F : FTy → Type} [FloatOps F] (main_arg0 : FVec F S4096x1024 .f32) (main_arg1 : FVec F S1024 .f32) (main_arg2 : FVec F S1024x2304 .f32) (main_arg3 : FVec F S1792 .f32) (main_arg4 : FVec F S4096x1024 .f32) (main_arg5 : FVec F S4096x512 .f32) (main_arg6 : FVec F S4096x1792 .f32) : IVec S4096x1792 1 :=
  let main_v0 : FVec F S4096x1792 .f32 := Host.absf main_arg6
  let main_cst : FVec F S_ .f32 := constant S_ .f32 0x7F800000#32
  let main_v1 : FVec F S4096x1792 .f32 := broadcastInDim S4096x1792 ![] bcast_S_S4096x1792 main_cst
  let main_v2 : IVec S4096x1792 1 := cmpf .olt main_v0 main_v1
  main_v2
-- ==== Pre_finite_ffn.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) (main_arg5 : FVec F S4096x1024 .f32) : IVec S4096x1024 1 × IVec S1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_ple.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)
  bcast_S_S1024 : S_.BroadcastsInDim S1024 (![] : Fin 0 → Fin S1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S256x1024 .f32) (main_v2 : IVec S4096x1024 1) (main_v5 : IVec S4096x256 1) (main_v8 : IVec S4096x1024 1) (main_v11 : IVec S1024 1) (main_v14 : IVec S1024 1) (main_v17 : IVec S1024x1024 1) : IVec S4096x1024 1 × IVec S4096x256 1 × IVec S4096x1024 1 × IVec S1024 1 × IVec S1024 1 × IVec S1024x1024 1 × IVec S256x1024 1 :=
  let main_v18 : FVec F S256x1024 .f32 := Host.absf main_arg6
  let main_cst_5 : FVec F S_ .f32 := constant S_ .f32 0x7F800000#32
  let main_v19 : FVec F S256x1024 .f32 := broadcastInDim S256x1024 ![] bcast_S_S256x1024 main_cst_5
  let main_v20 : IVec S256x1024 1 := cmpf .olt main_v18 main_v19
  (main_v2, main_v5, main_v8, main_v11, main_v14, main_v17, main_v20)

def fn {F : FTy → Type} [FloatOps F] (main_arg0 : FVec F S4096x1024 .f32) (main_arg1 : FVec F S4096x256 .f32) (main_arg2 : FVec F S4096x1024 .f32) (main_arg3 : FVec F S1024 .f32) (main_arg4 : FVec F S1024 .f32) (main_arg5 : FVec F S1024x1024 .f32) (main_arg6 : FVec F S256x1024 .f32) : IVec S4096x1024 1 × IVec S4096x256 1 × IVec S4096x1024 1 × IVec S1024 1 × IVec S1024 1 × IVec S1024x1024 1 × IVec S256x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_v2 main_v5 main_v8 main_v11 main_v14 main_v17
-- ==== Pre_finite_rwpost.lean ====
abbrev S4096x8x64 : Shape := ⟨3, ![4096, 8, 64]⟩
abbrev S4096x512 : Shape := ⟨2, ![4096, 512]⟩
abbrev S512 : Shape := ⟨1, ![512]⟩
abbrev S8x64 : Shape := ⟨2, ![8, 64]⟩
abbrev S1024x1024 : Shape := ⟨2, ![1024, 1024]⟩
abbrev S4096x1024 : Shape := ⟨2, ![4096, 1024]⟩
abbrev S_ : Shape := ⟨0, ![]⟩

class Facts : Prop where
  bcast_S_S4096x8x64 : S_.BroadcastsInDim S4096x8x64 (![] : Fin 0 → Fin S4096x8x64.rank)
  bcast_S_S4096x512 : S_.BroadcastsInDim S4096x512 (![] : Fin 0 → Fin S4096x512.rank)
  bcast_S_S512 : S_.BroadcastsInDim S512 (![] : Fin 0 → Fin S512.rank)
  bcast_S_S8x64 : S_.BroadcastsInDim S8x64 (![] : Fin 0 → Fin S8x64.rank)
  bcast_S_S1024x1024 : S_.BroadcastsInDim S1024x1024 (![] : Fin 0 → Fin S1024x1024.rank)
  bcast_S_S4096x1024 : S_.BroadcastsInDim S4096x1024 (![] : Fin 0 → Fin S4096x1024.rank)

variable [Facts]

def fn_part1 {F : FTy → Type} [FloatOps F] (main_arg6 : FVec F S512 .f32) (main_arg7 : FVec F S8x64 .f32) (main_arg8 : FVec F S1024x1024 .f32) (main_arg9 : FVec F S4096x1024 .f32) (main_v2 : IVec S4096x8x64 1) (main_v5 : IVec S4096x8x64 1) (main_v8 : IVec S4096x8x64 1) (main_v11 : IVec S4096x8x64 1) (main_v14 : IVec S4096x512 1) (main_v17 : IVec S512 1) : IVec S4096x8x64 1 × IVec S4096x8x64 1 × IVec S4096x8x64 1 × IVec S4096x8x64 1 × IVec S4096x512 1 × IVec S512 1 × IVec S512 1 × IVec S8x64 1 × IVec S1024x1024 1 × IVec S4096x1024 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S8x64 .f32 := Host.absf main_arg7
  let main_cst_6 : FVec F S_ .f32 := constant S_ .f32 0x7F800000#32
  let main_v22 : FVec F S8x64 .f32 := broadcastInDim S8x64 ![] bcast_S_S8x64 main_cst_6
  let main_v23 : IVec S8x64 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  let main_v27 : FVec F S4096x1024 .f32 := Host.absf main_arg9
  let main_cst_8 : FVec F S_ .f32 := constant S_ .f32 0x7F800000#32
  let main_v28 : FVec F S4096x1024 .f32 := broadcastInDim S4096x1024 ![] bcast_S_S4096x1024 main_cst_8
  let main_v29 : IVec S4096x1024 1 := cmpf .olt main_v27 main_v28
  (main_v2, main_v5, main_v8, main_v11, main_v14, main_v17, main_v20, main_v23, main_v26, main_v29)

def fn {F : FTy → Type} [FloatOps F] (main_arg0 : FVec F S4096x8x64 .f32) (main_arg1 : FVec F S4096x8x64 .f32) (main_arg2 : FVec F S4096x8x64 .f32) (main_arg3 : FVec F S4096x8x64 .f32) (main_arg4 : FVec F S4096x512 .f32) (main_arg5 : FVec F S512 .f32) (main_arg6 : FVec F S512 .f32) (main_arg7 : FVec F S8x64 .f32) (main_arg8 : FVec F S1024x1024 .f32) (main_arg9 : FVec F S4096x1024 .f32) : IVec S4096x8x64 1 × IVec S4096x8x64 1 × IVec S4096x8x64 1 × IVec S4096x8x64 1 × IVec S4096x512 1 × IVec S512 1 × IVec S512 1 × IVec S8x64 1 × IVec S1024x1024 1 × IVec S4096x1024 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x64 .f32 := Host.absf main_arg1
  let main_cst_0 : FVec F S_ .f32 := constant S_ .f32 0x7F800000#32
  let main_v4 : FVec F S4096x8x64 .f32 := broadcastInDim S4096x8x64 ![] bcast_S_S4096x8x64 main_cst_0
  let main_v5 : IVec S4096x8x64 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x8x64 .f32 := Host.absf main_arg3
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg7 main_arg8 main_arg9 main_v2 main_v5 main_v8 main_v11 main_v14 main_v17
-- ==== Pre_finite_rwpostfwd.lean ====
abbrev S4096x8x64 : Shape := ⟨3, ![4096, 8, 64]⟩
abbrev S4096x512 : Shape := ⟨2, ![4096, 512]⟩
abbrev S512 : Shape := ⟨1, ![512]⟩
abbrev S8x64 : Shape := ⟨2, ![8, 64]⟩
abbrev S_ : Shape := ⟨0, ![]⟩

class Facts : Prop where
  bcast_S_S4096x8x64 : S_.BroadcastsInDim S4096x8x64 (![] : Fin 0 → Fin S4096x8x64.rank)
  bcast_S_S4096x512 : S_.BroadcastsInDim S4096x512 (![] : Fin 0 → Fin S4096x512.rank)
  bcast_S_S512 : S_.BroadcastsInDim S512 (![] : Fin 0 → Fin S512.rank)
  bcast_S_S8x64 : S_.BroadcastsInDim S8x64 (![] : Fin 0 → Fin S8x64.rank)

variable [Facts]

def fn_part1 {F : FTy → Type} [FloatOps F] (main_arg6 : FVec F S512 .f32) (main_arg7 : FVec F S8x64 .f32) (main_v2 : IVec S4096x8x64 1) (main_v5 : IVec S4096x8x64 1) (main_v8 : IVec S4096x8x64 1) (main_v11 : IVec S4096x8x64 1) (main_v14 : IVec S4096x512 1) (main_v17 : IVec S512 1) : IVec S4096x8x64 1 × IVec S4096x8x64 1 × IVec S4096x8x64 1 × IVec S4096x8x64 1 × IVec S4096x512 1 × IVec S512 1 × IVec S512 1 × IVec S8x64 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S8x64 .f32 := Host.absf main_arg7
  let main_cst_6 : FVec F S_ .f32 := constant S_ .f32 0x7F800000#32
  let main_v22 : FVec F S8x64 .f32 := broadcastInDim S8x64 ![] bcast_S_S8x64 main_cst_6
  let main_v23 : IVec S8x64 1 := cmpf .olt main_v21 main_v22
  (main_v2, main_v5, main_v8, main_v11, main_v14, main_v17, main_v20, main_v23)

def fn {F : FTy → Type} [FloatOps F] (main_arg0 : FVec F S4096x8x64 .f32) (main_arg1 : FVec F S4096x8x64 .f32) (main_arg2 : FVec F S4096x8x64 .f32) (main_arg3 : FVec F S4096x8x64 .f32) (main_arg4 : FVec F S4096x512 .f32) (main_arg5 : FVec F S512 .f32) (main_arg6 : FVec F S512 .f32) (main_arg7 : FVec F S8x64 .f32) : IVec S4096x8x64 1 × IVec S4096x8x64 1 × IVec S4096x8x64 1 × IVec S4096x8x64 1 × IVec S4096x512 1 × IVec S512 1 × IVec S512 1 × IVec S8x64 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x64 .f32 := Host.absf main_arg1
  let main_cst_0 : FVec F S_ .f32 := constant S_ .f32 0x7F800000#32
  let main_v4 : FVec F S4096x8x64 .f32 := broadcastInDim S4096x8x64 ![] bcast_S_S4096x8x64 main_cst_0
  let main_v5 : IVec S4096x8x64 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x8x64 .f32 := Host.absf main_arg3
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg7 main_v2 main_v5 main_v8 main_v11 main_v14 main_v17
-- ==== Pre_finite_s5post.lean ====
abbrev S4096x512 : Shape := ⟨2, ![4096, 512]⟩
abbrev S512x512 : Shape := ⟨2, ![512, 512]⟩
abbrev S512 : Shape := ⟨1, ![512]⟩
abbrev S1024x1024 : Shape := ⟨2, ![1024, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S512x512 : S_.BroadcastsInDim S512x512 (![] : Fin 0 → Fin S512x512.rank)
  bcast_S_S512 : S_.BroadcastsInDim S512 (![] : Fin 0 → Fin S512.rank)
  bcast_S_S1024x1024 : S_.BroadcastsInDim S1024x1024 (![] : Fin 0 → Fin S1024x1024.rank)
  bcast_S_S4096x1024 : S_.BroadcastsInDim S4096x1024 (![] : Fin 0 → Fin S4096x1024.rank)

variable [Facts]

def fn {F : FTy → Type} [FloatOps F] (main_arg0 : FVec F S4096x512 .f32) (main_arg1 : FVec F S512x512 .f32) (main_arg2 : FVec F S512 .f32) (main_arg3 : FVec F S1024x1024 .f32) (main_arg4 : FVec F S4096x1024 .f32) : IVec S4096x512 1 × IVec S512x512 1 × IVec S512 1 × IVec S1024x1024 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_positive_decay.lean ====
abbrev S4096x8x64 : Shape := ⟨3, ![4096, 8, 64]⟩
abbrev S_ : Shape := ⟨0, ![]⟩

class Facts : Prop where
  bcast_S_S4096x8x64 : S_.BroadcastsInDim S4096x8x64 (![] : Fin 0 → Fin S4096x8x64.rank)

variable [Facts]

def fn_part1 {F : FTy → Type} [FloatOps F] (main_arg1 : FVec F S4096x8x64 .f32) (main_v2 : IVec S4096x8x64 1) (main_v5 : IVec S4096x8x64 1) (main_v8 : IVec S4096x8x64 1) (main_v11 : IVec S4096x8x64 1) (main_v14 : IVec S4096x8x64 1) (main_v17 : IVec S4096x8x64 1) : IVec S4096x8x64 1 × IVec S4096x8x64 1 × IVec S4096x8x64 1 × IVec S4096x8x64 1 × IVec S4096x8x64 1 × IVec S4096x8x64 1 × IVec S4096x8x64 1 :=
  let main_cst_5 : FVec F S_ .f32 := constant S_ .f32 0x00000000#32
  let main_v18 : FVec F S4096x8x64 .f32 := broadcastInDim S4096x8x64 ![] bcast_S_S4096x8x64 main_cst_5
  let main_v19 : IVec S4096x8x64 1 := cmpf .ogt main_arg1 main_v18
  (main_v2, main_v5, main_v8, main_v11, main_v14, main_v17, main_v19)

def fn {F : FTy → Type} [FloatOps F] (main_arg0 : FVec F S4096x8x64 .f32) (main_arg1 : FVec F S4096x8x64 .f32) (main_arg2 : FVec F S4096x8x64 .f32) (main_arg3 : FVec F S4096x8x64 .f32) (main_arg4 : FVec F S4096x8x64 .f32) (main_arg5 : FVec F S4096x8x64 .f32) : IVec S4096x8x64 1 × IVec S4096x8x64 1 × IVec S4096x8x64 1 × IVec S4096x8x64 1 × IVec S4096x8x64 1 × IVec S4096x8x64 1 × IVec S4096x8x64 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x64 .f32 := Host.absf main_arg1
  let main_cst_0 : FVec F S_ .f32 := constant S_ .f32 0x7F800000#32
  let main_v4 : FVec F S4096x8x64 .f32 := broadcastInDim S4096x8x64 ![] bcast_S_S4096x8x64 main_cst_0
  let main_v5 : IVec S4096x8x64 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x8x64 .f32 := Host.absf main_arg3
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_v12 : FVec F S4096x8x64 .f32 := Host.absf main_arg4
  let main_cst_3 : FVec F S_ .f32 := constant S_ .f32 0x7F800000#32
  let main_v13 : FVec F S4096x8x64 .f32 := broadcastInDim S4096x8x64 ![] bcast_S_S4096x8x64 main_cst_3
  let main_v14 : IVec S4096x8x64 1 := cmpf .olt main_v12 main_v13
  let main_v15 : FVec F S4096x8x64 .f32 := Host.absf main_arg5
  let main_cst_4 : FVec F S_ .f32 := constant S_ .f32 0x7F800000#32
  let main_v16 : FVec F S4096x8x64 .f32 := broadcastInDim S4096x8x64 ![] bcast_S_S4096x8x64 main_cst_4
  let main_v17 : IVec S4096x8x64 1 := cmpf .olt main_v15 main_v16
  fn_part1 (F := F) main_arg1 main_v2 main_v5 main_v8 main_v11 main_v14 main_v17
-- ==== Kernel.lean ====
abbrev S4096x1024 : Shape := ⟨2, ![4096, 1024]⟩
abbrev S1024 : Shape := ⟨1, ![1024]⟩
abbrev S1024x2304 : Shape := ⟨2, ![1024, 2304]⟩
abbrev S1792 : Shape := ⟨1, ![1792]⟩
abbrev S4096x512 : Shape := ⟨2, ![4096, 512]⟩
abbrev S4096x1792 : Shape := ⟨2, ![4096, 1792]⟩
abbrev S1x1024 : Shape := ⟨2, ![1, 1024]⟩
abbrev S1x1792 : Shape := ⟨2, ![1, 1792]⟩
abbrev S1024x512 : Shape := ⟨2, ![1024, 512]⟩
abbrev S1024x1792 : Shape := ⟨2, ![1024, 1792]⟩
abbrev S4096x2304 : Shape := ⟨2, ![4096, 2304]⟩
abbrev S512x1024 : Shape := ⟨2, ![512, 1024]⟩
abbrev S512x512 : Shape := ⟨2, ![512, 512]⟩
abbrev S512x1792 : Shape := ⟨2, ![512, 1792]⟩
abbrev S8x1792 : Shape := ⟨2, ![8, 1792]⟩
abbrev S512x2304 : Shape := ⟨2, ![512, 2304]⟩
abbrev S512x1 : Shape := ⟨2, ![512, 1]⟩
abbrev S512 : Shape := ⟨1, ![512]⟩

abbrev nBuf : Space → Nat
  | .hbm => 15
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S1792, .f32⟩
  | .hbm, ⟨4, _⟩ => ⟨S4096x1024, .f32⟩
  | .hbm, ⟨5, _⟩ => ⟨S4096x512, .f32⟩
  | .hbm, ⟨6, _⟩ => ⟨S4096x1792, .f32⟩
  | .hbm, ⟨7, _⟩ => ⟨S1024x2304, .bf16⟩
  | .hbm, ⟨8, _⟩ => ⟨S1x1024, .f32⟩
  | .hbm, ⟨9, _⟩ => ⟨S1x1792, .f32⟩
  | .hbm, ⟨10, _⟩ => ⟨S1024x512, .bf16⟩
  | .hbm, ⟨11, _⟩ => ⟨S1024x1792, .bf16⟩
  | .hbm, ⟨12, _⟩ => ⟨S4096x1024, .f32⟩
  | .hbm, ⟨13, _⟩ => ⟨S4096x2304, .bf16⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x1792, .f32⟩
  | .local _ .vmem, ⟨7, _⟩ => ⟨S512x1792, .f32⟩
  | .local _ .vmem, ⟨8, _⟩ => ⟨S8x1792, .f32⟩
  | .local _ .vmem, ⟨9, _⟩ => ⟨S8x1792, .f32⟩
  | .local _ .vmem, ⟨10, _⟩ => ⟨S1x1024, .f32⟩
  | .local _ .vmem, ⟨11, _⟩ => ⟨S1x1792, .f32⟩
  | .local _ .vmem, ⟨12, _⟩ => ⟨S1024x512, .bf16⟩
  | .local _ .vmem, ⟨13, _⟩ => ⟨S1024x1792, .bf16⟩
  | .local _ .vmem, ⟨14, _⟩ => ⟨S512x1024, .f32⟩
  | .local _ .vmem, ⟨15, _⟩ => ⟨S512x1024, .f32⟩
  | .local _ .vmem, ⟨16, _⟩ => ⟨S512x2304, .bf16⟩
  | .local _ .vmem, ⟨17, _⟩ => ⟨S512x2304, .bf16⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1792 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2304 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x1024 : Shape := ⟨2, ![4096, 1024]⟩
abbrev S1024 : Shape := ⟨1, ![1024]⟩
abbrev S1024x2304 : Shape := ⟨2, ![1024, 2304]⟩
abbrev S1792 : Shape := ⟨1, ![1792]⟩
abbrev S4096x512 : Shape := ⟨2, ![4096, 512]⟩
abbrev S4096x1792 : Shape := ⟨2, ![4096, 1792]⟩
abbrev S_ : Shape := ⟨0, ![]⟩
abbrev S4096x2304 : Shape := ⟨2, ![4096, 2304]⟩
abbrev S4096 : Shape := ⟨1, ![4096]⟩
abbrev S4096x1 : Shape := ⟨2, ![4096, 1]⟩
abbrev S1x1024 : Shape := ⟨2, ![1, 1024]⟩
abbrev S1x1792 : Shape := ⟨2, ![1, 1792]⟩
abbrev S4095x1792 : Shape := ⟨2, ![4095, 1792]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S1792, .f32⟩
  | .hbm, ⟨4, _⟩ => ⟨S4096x1024, .f32⟩
  | .hbm, ⟨5, _⟩ => ⟨S4096x512, .f32⟩
  | .hbm, ⟨6, _⟩ => ⟨S4096x1792, .f32⟩
  | .hbm, ⟨7, _⟩ => ⟨S_, .f32⟩
  | .hbm, ⟨8, _⟩ => ⟨S4096x2304, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x2304, .f32⟩
  | .hbm, ⟨30, _⟩ => ⟨S4096x2304, .f32⟩
  | .hbm, ⟨31, _⟩ => ⟨S4096x512, .f32⟩
  | .hbm, ⟨32, _⟩ => ⟨S4096x1792, .f32⟩
  | .hbm, ⟨33, _⟩ => ⟨S_, .f32⟩
  | .hbm, ⟨34, _⟩ => ⟨S1x1792, .f32⟩
  | .hbm, ⟨35, _⟩ => ⟨S4095x1792, .f32⟩
  | .hbm, ⟨36, _⟩ => ⟨S4096x1792, .f32⟩
  | .hbm, ⟨37, _⟩ => ⟨S_, .f32⟩
  | .hbm, ⟨38, _⟩ => ⟨S1x1792, .f32⟩
  | .hbm, ⟨39, _⟩ => ⟨S4096x1792, .f32⟩
  | .hbm, ⟨40, _⟩ => ⟨S1x1792, .f32⟩
  | .hbm, ⟨41, _⟩ => ⟨S4096x1792, .f32⟩
  | .hbm, ⟨42, _⟩ => ⟨S4096x1792, .f32⟩
  | .hbm, ⟨43, _⟩ => ⟨S4096x1792, .f32⟩
  | .hbm, ⟨44, _⟩ => ⟨S4096x1792, .f32⟩
  | .hbm, ⟨45, _⟩ => ⟨S4096x1792, .f32⟩
  | .hbm, ⟨46, _⟩ => ⟨S4096x1792, .f32⟩
  | .hbm, ⟨47, _⟩ => ⟨S4096x1792, .f32⟩
  | .hbm, ⟨48, _⟩ => ⟨S4096x1792, .f32⟩
  | .hbm, ⟨49, _⟩ => ⟨S4096x1792, .f32⟩
  | .hbm, ⟨50, _⟩ => ⟨S1x1792, .f32⟩
  | .hbm, ⟨51, _⟩ => ⟨S4095x1792, .f32⟩
  | .hbm, ⟨52, _⟩ => ⟨S_, .f32⟩
  | .hbm, ⟨53, _⟩ => ⟨S4096x1792, .f32⟩
  | .hbm, ⟨54, _⟩ => ⟨S4096x1792, .f32⟩
  | .hbm, ⟨55, _⟩ => ⟨S_, .f32⟩
  | .hbm, ⟨56, _⟩ => ⟨S4096x2304, .f32⟩
  | .hbm, ⟨57, _⟩ => ⟨S_, .f32⟩
  | .hbm, ⟨58, _⟩ => ⟨S4096x2304, .f32⟩
  | .hbm, ⟨59, _⟩ => ⟨S4096x2304, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x2304, .bf16⟩
  | .hbm, ⟨88, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Ffn.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 34
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .bf16⟩
  | .hbm, ⟨24, _⟩ => ⟨S4096x2816, .f32⟩
  | .hbm, ⟨25, _⟩ => ⟨S4096x2816, .bf16⟩
  | .hbm, ⟨26, _⟩ => ⟨S1x1024, .f32⟩
  | .hbm, ⟨27, _⟩ => ⟨S1024x2816, .bf16⟩
  | .hbm, ⟨28, _⟩ => ⟨S1024x2816, .bf16⟩
  | .hbm, ⟨29, _⟩ => ⟨S2816x1024, .bf16⟩
  | .hbm, ⟨30, _⟩ => ⟨S4096x1024, .f32⟩
  | .hbm, ⟨31, _⟩ => ⟨S4096x2816, .bf16⟩
  | .hbm, ⟨32, _⟩ => ⟨S4096x2816, .bf16⟩
  | .hbm, ⟨33, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x2816, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x1024, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x2816, .bf16⟩
  | .hbm, ⟨86, _⟩ => ⟨S4096x2816, .bf16⟩
  | .hbm, ⟨87, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== S5Post.lean ====
abbrev S4096x512 : Shape := ⟨2, ![4096, 512]⟩
abbrev S512x512 : Shape := ⟨2, ![512, 512]⟩
abbrev S512 : Shape := ⟨1, ![512]⟩
abbrev S1024x1024 : Shape := ⟨2, ![1024, 1024]⟩
abbrev S4096x1024 : Shape := ⟨2, ![4096, 1024]⟩
abbrev S1x512 : Shape := ⟨2, ![1, 512]⟩
abbrev S512x1024 : Shape := ⟨2, ![512, 1024]⟩

abbrev nBuf : Space → Nat
  | .hbm => 13
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S1024x1024, .f32⟩
  | .hbm, ⟨4, _⟩ => ⟨S4096x1024, .f32⟩
  | .hbm, ⟨5, _⟩ => ⟨S512x512, .bf16⟩
  | .hbm, ⟨6, _⟩ => ⟨S1x512, .f32⟩
  | .hbm, ⟨7, _⟩ => ⟨S512x1024, .f32⟩
  | .hbm, ⟨8, _⟩ => ⟨S512x1024, .bf16⟩
  | .hbm, ⟨9, _⟩ => ⟨S4096x512, .f32⟩
  | .hbm, ⟨10, _⟩ => ⟨S1x512, .f32⟩
  | .hbm, ⟨11, _⟩ => ⟨S512x512, .f32⟩
  | .hbm, ⟨12, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S1x512, .f32⟩
  | .local _ .vmem, ⟨6, _⟩ => ⟨S512x1024, .bf16⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== S5PostRefIdeal.lean ====
abbrev S4096x512 : Shape := ⟨2, ![4096, 512]⟩
abbrev S512x512 : Shape := ⟨2, ![512, 512]⟩
abbrev S512 : Shape := ⟨1, ![512]⟩
abbrev S1024x1024 : Shape := ⟨2, ![1024, 1024]⟩
abbrev S4096x1024 : Shape := ⟨2, ![4096, 1024]⟩
abbrev S512x1024 : Shape := ⟨2, ![512, 1024]⟩
abbrev S_ : Shape := ⟨0, ![]⟩
abbrev S1x512 : Shape := ⟨2, ![1, 512]⟩
abbrev S1024x512 : Shape := ⟨2, ![1024, 512]⟩

abbrev nBuf : Space → Nat
  | .hbm => 83
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S1024x1024, .f32⟩
  | .hbm, ⟨4, _⟩ => ⟨S4096x1024, .f32⟩
  | .hbm, ⟨5, _⟩ => ⟨S512x1024, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x1024, .f32⟩
  | .hbm, ⟨52, _⟩ => ⟨S1024x512, .f32⟩
  | .hbm, ⟨53, _⟩ => ⟨S512x1024, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S_, .f32⟩
  | .hbm, ⟨62, _⟩ => ⟨S512, .f32⟩
  | .hbm, ⟨63, _⟩ => ⟨S512x512, .f32⟩
  | .hbm, ⟨64, _⟩ => ⟨S512x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S_, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Ple.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 18
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S4096x1024, .f32⟩
  | .hbm, ⟨12, _⟩ => ⟨S4096x1024, .bf16⟩
  | .hbm, ⟨13, _⟩ => ⟨S8x128, .f32⟩
  | .hbm, ⟨14, _⟩ => ⟨S1x1024, .f32⟩
  | .hbm, ⟨15, _⟩ => ⟨S1x1024, .f32⟩
  | .hbm, ⟨16, _⟩ => ⟨S1024x1024, .f32⟩
  | .hbm, ⟨17, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x128, .f32⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PleRefIdeal.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x256 : Shape := ⟨2, ![1024, 256]⟩
abbrev S8x128 : Shape := ⟨2, ![8, 128]⟩

abbrev nBuf : Space → Nat
  | .hbm => 149
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S1024, .f32⟩
  | 4 => ⟨S1024, .f32⟩
  | 5 => ⟨S1024x1024, .f32⟩
  | 6 => ⟨S256x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1024, .f32⟩
  | 59 => ⟨S4096x1024, .f32⟩
  | 60 => ⟨S1x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096, .f32⟩
  | 70 => ⟨S_, .f32⟩
  | 71 => ⟨S4096, .f32⟩
  | 72 => ⟨S4096, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S4096, .f32⟩
  | 81 => ⟨S_, .f32⟩
  | 82 => ⟨S4096, .f32⟩
  | 83 => ⟨S4096, .f32⟩
  | 84 => ⟨S4096x1024, .f32⟩
  | 85 => ⟨S4096x1024, .f32⟩
  | 86 => ⟨S4096x1024, .f32⟩
  | 87 => ⟨S_, .f32⟩
  | 88 => ⟨S1024, .f32⟩
  | 89 => ⟨S1x1024, .f32⟩
  | 90 => ⟨S4096x1024, .f32⟩
  | 91 => ⟨S4096x1024, .f32⟩
  | 92 => ⟨S_, .f32⟩
  | 93 => ⟨S1024, .f32⟩
  | 94 => ⟨S4096x1024, .f32⟩
  | 95 => ⟨S_, .f32⟩
  | 96 => ⟨S4096, .f32⟩
  | 97 => ⟨S4096x1, .f32⟩
  | 98 => ⟨S4096x1024, .f32⟩
  | 99 => ⟨S4096x1024, .f32⟩
  | 100 => ⟨S4096x1, .f32⟩
  | 101 => ⟨S_, .f32⟩
  | 102 => ⟨S4096x1, .f32⟩
  | 103 => ⟨S4096x1, .f32⟩
  | 104 => ⟨S_, .f32⟩
  | 105 => ⟨S4096, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S1024x256, .f32⟩
  | 114 => ⟨S256x1024, .f32⟩
  | 115 => ⟨S4096x1024, .f32⟩
  | 116 => ⟨S1024x1024, .f32⟩
  | 117 => ⟨S1024x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S_, .f32⟩
  | 126 => ⟨S1024, .f32⟩
  | 127 => ⟨S4096x1024, .f32⟩
  | _ => ⟨S4096x1024, .f32⟩

abbrev hbmTy0_1 (i : Nat) : BufTy := match i % 128 with
  | 0 => ⟨S_, .f32⟩
  | 1 => ⟨S4096, .f32⟩
  | 2 => ⟨S4096x1, .f32⟩
  | 3 => ⟨S4096x1024, .f32⟩
  | 4 => ⟨S4096x1024, .f32⟩
  | 5 => ⟨S4096x1024, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .bf16⟩
  | 18 => ⟨S8x128, .f32⟩
  | 19 => ⟨S1x1024, .f32⟩
  | 20 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_cst_15 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_21 : Ref sig .tc := ⟨.hbm, 101, rfl⟩
abbrev main_v72 : Ref sig .tc := ⟨.hbm, 102, rfl⟩
abbrev main_v73 : Ref sig .tc := ⟨.hbm, 103, rfl⟩
abbrev main_cst_22 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_23 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_24 : Ref sig .tc := ⟨.hbm, 125, rfl⟩
abbrev main_v93 : Ref sig .tc := ⟨.hbm, 126, rfl⟩
abbrev main_v94 : Ref sig .tc := ⟨.hbm, 127, rfl⟩
abbrev main_cst_25 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_26 : Ref sig .tc := ⟨.hbm, 135, rfl⟩
abbrev main_v101 : Ref sig .tc := ⟨.hbm, 136, rfl⟩
abbrev main_v102 : Ref sig .tc := ⟨.hbm, 137, rfl⟩
abbrev main_cst_27 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩

abbrev nD : Nat := 1
abbrev τ : Topo := Topo.v7x

variable {F : FTy → Type} [FloatOps F]
-- ==== RwPost.lean ====
abbrev S4096x8x64 : Shape := ⟨3, ![4096, 8, 64]⟩
abbrev S4096x512 : Shape := ⟨2, ![4096, 512]⟩
abbrev S512 : Shape := ⟨1, ![512]⟩
abbrev S8x64 : Shape := ⟨2, ![8, 64]⟩
abbrev S1024x1024 : Shape := ⟨2, ![1024, 1024]⟩
abbrev S4096x1024 : Shape := ⟨2, ![4096, 1024]⟩
abbrev S8x4096x64 : Shape := ⟨3, ![8, 4096, 64]⟩
abbrev S1x512 : Shape := ⟨2, ![1, 512]⟩
abbrev S512x1024 : Shape := ⟨2, ![512, 1024]⟩
abbrev S8x512x64 : Shape := ⟨3, ![8, 512, 64]⟩
abbrev S512x512 : Shape := ⟨2, ![512, 512]⟩
abbrev S1x512x64 : Shape := ⟨3, ![1, 512, 64]⟩
abbrev S512x64 : Shape := ⟨2, ![512, 64]⟩

abbrev nBuf : Space → Nat
  | .hbm => 28
  | .vmem => 30
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8x64, .f32⟩
  | .hbm, ⟨4, _⟩ => ⟨S4096x512, .f32⟩
  | .hbm, ⟨5, _⟩ => ⟨S512, .f32⟩
  | .hbm, ⟨6, _⟩ => ⟨S512, .f32⟩
  | .hbm, ⟨7, _⟩ => ⟨S8x64, .f32⟩
  | .hbm, ⟨8, _⟩ => ⟨S1024x1024, .f32⟩
  | .hbm, ⟨9, _⟩ => ⟨S4096x1024, .f32⟩
  | .hbm, ⟨10, _⟩ => ⟨S8x4096x64, .f32⟩
  | .hbm, ⟨11, _⟩ => ⟨S8x4096x64, .f32⟩
  | .hbm, ⟨12, _⟩ => ⟨S8x4096x64, .f32⟩
  | .hbm, ⟨13, _⟩ => ⟨S8x4096x64, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S512x1024, .f32⟩
  | .hbm, ⟨18, _⟩ => ⟨S512x1024, .bf16⟩
  | .hbm, ⟨19, _⟩ => ⟨S8x4096x64, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S512x1024, .f32⟩
  | .local _ .vmem, ⟨0, _⟩ => ⟨S8x512x64, .f32⟩
  | .local _ .vmem, ⟨1, _⟩ => ⟨S8x512x64, .f32⟩
  | .local _ .vmem, ⟨2, _⟩ => ⟨S8x512x64, .f32⟩
  | .local _ .vmem, ⟨3, _⟩ => ⟨S8x512x64, .f32⟩
  | .local _ .vmem, ⟨4, _⟩ => ⟨S8x512x64, .f32⟩
  | .local _ .vmem, ⟨5, _⟩ => ⟨S8x512x64, .f32⟩
  | .local _ .vmem, ⟨6, _⟩ => ⟨S8x512x64, .f32⟩
  | .local _ .vmem, ⟨7, _⟩ => ⟨S8x512x64, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x1024, .bf16⟩
  | .local _ .vmem, ⟨16, _⟩ => ⟨S8x512x64, .f32⟩
  | .local _ .vmem, ⟨17, _⟩ => ⟨S8x512x64, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S512x1024, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev main_v9_7 : Ref sig .tc := ⟨.hbm, 26, rfl⟩
abbrev main_v9_8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== RwPostRefIdeal.lean ====
abbrev S4096x8x64 : Shape := ⟨3, ![4096, 8, 64]⟩
abbrev S4096x512 : Shape := ⟨2, ![4096, 512]⟩
abbrev S512 : Shape := ⟨1, ![512]⟩
abbrev S8x64 : Shape := ⟨2, ![8, 64]⟩
abbrev S1024x1024 : Shape := ⟨2, ![1024, 1024]⟩
abbrev S4096x1024 : Shape := ⟨2, ![4096, 1024]⟩
abbrev S512x1024 : Shape := ⟨2, ![512, 1024]⟩
abbrev S_ : Shape := ⟨0, ![]⟩
abbrev S4096x8 : Shape := ⟨2, ![4096, 8]⟩
abbrev S4096x8x1 : Shape := ⟨3, ![4096, 8, 1]⟩
abbrev S1x512 : Shape := ⟨2, ![1, 512]⟩
abbrev S1x8x64 : Shape := ⟨3, ![1, 8, 64]⟩
abbrev S1024x512 : Shape := ⟨2, ![1024, 512]⟩
abbrev S8x4096x64 : Shape := ⟨3, ![8, 4096, 64]⟩

abbrev nBuf : Space → Nat
  | .hbm => 130
  | .vmem => 0
  | .smem => 0
  | _ => 0

abbrev hbmTy0_0 (i : Nat) : BufTy := match i % 128 with
  | 0 => ⟨S4096x8x64, .f32⟩
  | 1 => ⟨S4096x8x64, .f32⟩
  | 2 => ⟨S4096x8x64, .f32⟩
  | 3 => ⟨S4096x8x64, .f32⟩
  | 4 => ⟨S4096x512, .f32⟩
  | 5 => ⟨S512, .f32⟩
  | 6 => ⟨S512, .f32⟩
  | 7 => ⟨S8x64, .f32⟩
  | 8 => ⟨S1024x1024, .f32⟩
  | 9 => ⟨S4096x1024, .f32⟩
  | 10 => ⟨S512x1024, .f32⟩
  | 11 => ⟨S_, .f32⟩
  | 12 => ⟨S4096x8, .f32⟩
  | 13 => ⟨S4096x8x1, .f32⟩
  | 14 => ⟨S_, .f32⟩
  | 15 => ⟨S4096x8x1, .f32⟩
  | 16 => ⟨S4096x8x1, .f32⟩
  | 17 => ⟨S4096x8x64, .f32⟩
  | 18 => ⟨S4096x8x64, .f32⟩
  | 19 => ⟨S4096x8x64, .f32⟩
  | 20 => ⟨S_, .f32⟩
  | 21 => ⟨S4096x8, .f32⟩
  | 22 => ⟨S4096x8x1, .f32⟩
  | 23 => ⟨S_, .f32⟩
  | 24 => ⟨S4096x8x1, .f32⟩
  | 25 => ⟨S4096x8x1, .f32⟩
  | 26 => ⟨S_, .f32⟩
  | 27 => ⟨S4096x8x1, .f32⟩
  | 28 => ⟨S4096x8x1, .f32⟩
  | 29 => ⟨S4096x8x1, .f32⟩
  | 30 => ⟨S4096x8x1, .f32⟩
  | 31 => ⟨S_, .f32⟩
  | 32 => ⟨S4096x8x1, .f32⟩
  | 33 => ⟨S4096x8x1, .f32⟩
  | 34 => ⟨S4096x8x64, .f32⟩
  | 35 => ⟨S4096x8x64, .f32⟩
  | 36 => ⟨S4096x512, .f32⟩
  | 37 => ⟨S1x512, .f32⟩
  | 38 => ⟨S4096x512, .f32⟩
  | 39 => ⟨S4096x512, .f32⟩
  | 40 => ⟨S1x512, .f32⟩
  | 41 => ⟨S4096x512, .f32⟩
  | 42 => ⟨S4096x512, .f32⟩
  | 43 => ⟨S4096x8x64, .f32⟩
  | 44 => ⟨S1x8x64, .f32⟩
  | 45 => ⟨S4096x8x64, .f32⟩
  | 46 => ⟨S4096x8x64, .f32⟩
  | 47 => ⟨S_, .f32⟩
  | 48 => ⟨S4096x8, .f32⟩
  | 49 => ⟨S4096x8x1, .f32⟩
  | 50 => ⟨S4096x8x64, .f32⟩
  | 51 => ⟨S4096x8x64, .f32⟩
  | 52 => ⟨S4096x512, .f32⟩
  | 53 => ⟨S4096x512, .f32⟩
  | 54 => ⟨S4096x512, .f32⟩
  | 55 => ⟨S4096x1024, .f32⟩
  | 56 => ⟨S1024x512, .f32⟩
  | 57 => ⟨S512x1024, .f32⟩
  | 58 => ⟨S4096x512, .f32⟩
  | 59 => ⟨S4096x512, .f32⟩
  | 60 => ⟨S4096x512, .f32⟩
  | 61 => ⟨S4096x8x64, .f32⟩
  | 62 => ⟨S4096x8x64, .f32⟩
  | 63 => ⟨S4096x8x64, .f32⟩
  | 64 => ⟨S4096x8x64, .f32⟩
  | 65 => ⟨S_, .f32⟩
  | 66 => ⟨S4096x8, .f32⟩
  | 67 => ⟨S4096x8x1, .f32⟩
  | 68 => ⟨S_, .f32⟩
  | 69 => ⟨S4096x8, .f32⟩
  | 70 => ⟨S4096x8x64, .f32⟩
  | 71 => ⟨S4096x8x64, .f32⟩
  | 72 => ⟨S_, .f32⟩
  | 73 => ⟨S8x64, .f32⟩
  | 74 => ⟨S1x8x64, .f32⟩
  | 75 => ⟨S4096x8x64, .f32⟩
  | 76 => ⟨S4096x8x64, .f32⟩
  | 77 => ⟨S_, .f32⟩
  | 78 => ⟨S8x64, .f32⟩
  | 79 => ⟨S4096x8x64, .f32⟩
  | 80 => ⟨S4096x8x64, .f32⟩
  | 81 => ⟨S_, .f32⟩
  | 82 => ⟨S512, .f32⟩
  | 83 => ⟨S1x512, .f32⟩
  | 84 => ⟨S_, .f32⟩
  | 85 => ⟨S512, .f32⟩
  | 86 => ⟨S4096x512, .f32⟩
  | 87 => ⟨S_, .f32⟩
  | 88 => ⟨S512, .f32⟩
  | 89 => ⟨S1x512, .f32⟩
  | 90 => ⟨S4096x512, .f32⟩
  | 91 => ⟨S4096x512, .f32⟩
  | 92 => ⟨S_, .f32⟩
  | 93 => ⟨S512, .f32⟩
  | 94 => ⟨S4096x8x64, .f32⟩
  | 95 => ⟨S4096x8x64, .f32⟩
  | 96 => ⟨S_, .f32⟩
  | 97 => ⟨S4096x8, .f32⟩
  | 98 => ⟨S4096x8x1, .f32⟩
  | 99 => ⟨S4096x8x64, .f32⟩
  | 100 => ⟨S4096x8x64, .f32⟩
  | 101 => ⟨S4096x8x1, .f32⟩
  | 102 => ⟨S_, .f32⟩
  | 103 => ⟨S4096x8x1, .f32⟩
  | 104 => ⟨S4096x8x1, .f32⟩
  | 105 => ⟨S_, .f32⟩
  | 106 => ⟨S4096x8, .f32⟩
  | 107 => ⟨S4096x8x64, .f32⟩
  | 108 => ⟨S4096x8x64, .f32⟩
  | 109 => ⟨S4096x8x64, .f32⟩
  | 110 => ⟨S4096x8x64, .f32⟩
  | 111 => ⟨S4096x8x64, .f32⟩
  | 112 => ⟨S4096x8x64, .f32⟩
  | 113 => ⟨S_, .f32⟩
  | 114 => ⟨S4096x8, .f32⟩
  | 115 => ⟨S4096x8x1, .f32⟩
  | 116 => ⟨S_, .f32⟩
  | 117 => ⟨S4096x8x1, .f32⟩
  | 118 => ⟨S4096x8x1, .f32⟩
  | 119 => ⟨S_, .f32⟩
  | 120 => ⟨S4096x8, .f32⟩
  | 121 => ⟨S4096x8x64, .f32⟩
  | 122 => ⟨S4096x8x64, .f32⟩
  | 123 => ⟨S8x4096x64, .f32⟩
  | 124 => ⟨S4096x512, .f32⟩
  | 125 => ⟨S4096x512, .f32⟩
  | 126 => ⟨S4096x512, .f32⟩
  | 127 => ⟨S1x512, .f32⟩
  | _ => ⟨S4096x8x64, .f32⟩

abbrev hbmTy0_1 (i : Nat) : BufTy := match i % 128 with
  | 0 => ⟨S1x512, .f32⟩
  | 1 => ⟨S1x512, .f32⟩
  | _ => ⟨S4096x8x64, .f32⟩

abbrev hbmTy (i : Nat) : BufTy := match i / 128 with
  | 0 => hbmTy0_0 i
  | 1 => hbmTy0_1 i
  | _ => ⟨S4096x8x64, .f32⟩

abbrev bufTy : (tb : Table) → Fin (tcTables nBuf tb) → BufTy
  | .hbm, ⟨i, _⟩ => hbmTy i
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_cst_18 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩

abbrev nD : Nat := 1
abbrev τ : Topo := Topo.v7x

variable {F : FTy → Type} [FloatOps F]
-- ==== S5Param.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S32x16x64 : Shape := ⟨3, ![32, 16, 64]⟩
abbrev S32x1x64 : Shape := ⟨3, ![32, 1, 64]⟩

abbrev nBuf : Space → Nat
  | .hbm => 19
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32x1, .f32⟩
  | .hbm, ⟨10, _⟩ => ⟨S32x16x64, .f32⟩
  | .hbm, ⟨11, _⟩ => ⟨S32x16x64, .f32⟩
  | .hbm, ⟨12, _⟩ => ⟨S32x16x64, .f32⟩
  | .hbm, ⟨13, _⟩ => ⟨S32x16x64, .f32⟩
  | .hbm, ⟨14, _⟩ => ⟨S32x64, .f32⟩
  | .hbm, ⟨15, _⟩ => ⟨S32x64, .f32⟩
  | .hbm, ⟨16, _⟩ => ⟨S32x1, .f32⟩
  | .hbm, ⟨17, _⟩ => ⟨S32x16x64, .f32⟩
  | .hbm, ⟨18, _⟩ => ⟨S32x16x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S32x16x64, .f32⟩
  | .local _ .vmem, ⟨13, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== S5ParamRefIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩

abbrev nBuf : Space → Nat
  | .hbm => 167
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S32x64x16, .f32⟩
  | 8 => ⟨S32x64x16, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S_, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S_, .f32⟩
  | 47 => ⟨S32x64, .f32⟩
  | 48 => ⟨S32x64, .f32⟩
  | 49 => ⟨S32x64x1, .f32⟩
  | 50 => ⟨S32x64x1, .f32⟩
  | 51 => ⟨S32x64x16, .f32⟩
  | 52 => ⟨S32x64x16, .f32⟩
  | 53 => ⟨S32x64x16, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S32x64x16, .f32⟩
  | 66 => ⟨S_, .f32⟩
  | 67 => ⟨S32x64, .f32⟩
  | 68 => ⟨S32x64x1, .f32⟩
  | 69 => ⟨S32x64x16, .f32⟩
  | 70 => ⟨S32x64x16, .f32⟩
  | 71 => ⟨S32x64x16, .f32⟩
  | 72 => ⟨S_, .f32⟩
  | 73 => ⟨S32x64, .f32⟩
  | 74 => ⟨S32x64x1, .f32⟩
  | 75 => ⟨S32x64x16, .f32⟩
  | 76 => ⟨S32x64x16, .f32⟩
  | 77 => ⟨S32x64x16, .f32⟩
  | 78 => ⟨S32x64x16, .f32⟩
  | 79 => ⟨S32x64x16, .f32⟩
  | 80 => ⟨S32x64x16, .f32⟩
  | 81 => ⟨S_, .f32⟩
  | 82 => ⟨S32x64, .f32⟩
  | 83 => ⟨S32x64x1, .f32⟩
  | 84 => ⟨S32x64x1, .f32⟩
  | 85 => ⟨S32x64x16, .f32⟩
  | 86 => ⟨S32x64x16, .f32⟩
  | 87 => ⟨S32x64x16, .f32⟩
  | 88 => ⟨S32x64x16, .f32⟩
  | 89 => ⟨S_, .f32⟩
  | 90 => ⟨S32x64, .f32⟩
  | 91 => ⟨S32x64x1, .f32⟩
  | 92 => ⟨S32x64x1, .f32⟩
  | 93 => ⟨S_, .f32⟩
  | 94 => ⟨S32x64, .f32⟩
  | 95 => ⟨S_, .f32⟩
  | 96 => ⟨S32x64, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S_, .f32⟩
  | 6 => ⟨S32, .f32⟩
  | 7 => ⟨S32x1, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S_, .f32⟩
  | 18 => ⟨S32, .f32⟩
  | 19 => ⟨S32x1, .f32⟩
  | 20 => ⟨S32x1, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S_, .f32⟩
  | 27 => ⟨S32, .f32⟩
  | 28 => ⟨S32x1, .f32⟩
  | 29 => ⟨S32x1, .f32⟩
  | 30 => ⟨S32x64, .f32⟩
  | 31 => ⟨S32x64, .f32⟩
  | 32 => ⟨S32x64, .f32⟩
  | 33 => ⟨S_, .f32⟩
  | 34 => ⟨S32, .f32⟩
  | 35 => ⟨S32, .f32⟩
  | 36 => ⟨S32x1, .f32⟩
  | 37 => ⟨S32x16x64, .f32⟩
  | 38 => ⟨S32x16x64, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_cst_8 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_9 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_10 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_11 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_12 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩

abbrev nD : Nat := 1
abbrev τ : Topo := Topo.v7x

variable {F : FTy → Type} [FloatOps F]
-- ==== WkvFwd.lean ====
abbrev S4096x8x64 : Shape := ⟨3, ![4096, 8, 64]⟩
abbrev S8x4096x64 : Shape := ⟨3, ![8, 4096, 64]⟩
abbrev S16x8x64x64 : Shape := ⟨4, ![16, 8, 64, 64]⟩
abbrev S8x256x64 : Shape := ⟨3, ![8, 256, 64]⟩
abbrev S1x8x64x64 : Shape := ⟨4, ![1, 8, 64, 64]⟩
abbrev S8x64x64 : Shape := ⟨3, ![8, 64, 64]⟩
abbrev S32x64x64 : Shape := ⟨3, ![32, 64, 64]⟩
abbrev S32x128x64 : Shape := ⟨3, ![32, 128, 64]⟩
abbrev S32x128x128 : Shape := ⟨3, ![32, 128, 128]⟩
abbrev S32x64x128 : Shape := ⟨3, ![32, 64, 128]⟩
abbrev S32x64 : Shape := ⟨2, ![32, 64]⟩
abbrev S32x1x64 : Shape := ⟨3, ![32, 1, 64]⟩
abbrev S8x1x64 : Shape := ⟨3, ![8, 1, 64]⟩

abbrev nBuf : Space → Nat
  | .hbm => 14
  | .vmem => 17
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8x64, .f32⟩
  | .hbm, ⟨4, _⟩ => ⟨S4096x8x64, .f32⟩
  | .hbm, ⟨5, _⟩ => ⟨S4096x8x64, .f32⟩
  | .hbm, ⟨6, _⟩ => ⟨S8x4096x64, .f32⟩
  | .hbm, ⟨7, _⟩ => ⟨S8x4096x64, .f32⟩
  | .hbm, ⟨8, _⟩ => ⟨S8x4096x64, .f32⟩
  | .hbm, ⟨9, _⟩ => ⟨S8x4096x64, .f32⟩
  | .hbm, ⟨10, _⟩ => ⟨S8x4096x64, .f32⟩
  | .hbm, ⟨11, _⟩ => ⟨S8x4096x64, .f32⟩
  | .hbm, ⟨12, _⟩ => ⟨S8x4096x64, .f32⟩
  | .hbm, ⟨13, _⟩ => ⟨S16x8x64x64, .f32⟩
  | .local _ .vmem, ⟨0, _⟩ => ⟨S8x256x64, .f32⟩
  | .local _ .vmem, ⟨1, _⟩ => ⟨S8x256x64, .f32⟩
  | .local _ .vmem, ⟨2, _⟩ => ⟨S8x256x64, .f32⟩
  | .local _ .vmem, ⟨3, _⟩ => ⟨S8x256x64, .f32⟩
  | .local _ .vmem, ⟨4, _⟩ => ⟨S8x256x64, .f32⟩
  | .local _ .vmem, ⟨5, _⟩ => ⟨S8x256x64, .f32⟩
  | .local _ .vmem, ⟨6, _⟩ => ⟨S8x256x64, .f32⟩
  | .local _ .vmem, ⟨7, _⟩ => ⟨S8x256x64, .f32⟩
  | .local _ .vmem, ⟨8, _⟩ => ⟨S8x256x64, .f32⟩
  | .local _ .vmem, ⟨9, _⟩ => ⟨S8x256x64, .f32⟩
  | .local _ .vmem, ⟨10, _⟩ => ⟨S8x256x64, .f32⟩
  | .local _ .vmem, ⟨11, _⟩ => ⟨S8x256x64, .f32⟩
  | .local _ .vmem, ⟨12, _⟩ => ⟨S8x256x64, .f32⟩
  | .local _ .vmem, ⟨13, _⟩ => ⟨S8x256x64, .f32⟩
  | .local _ .vmem, ⟨14, _⟩ => ⟨S1x8x64x64, .f32⟩
  | .local _ .vmem, ⟨15, _⟩ => ⟨S1x8x64x64, .f32⟩
  | .local _ .vmem, ⟨16, _⟩ => ⟨S8x64x64, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WkvFwdRefIdeal.lean ====
abbrev S4096x8x64 : Shape := ⟨3, ![4096, 8, 64]⟩
abbrev S_ : Shape := ⟨0, ![]⟩
abbrev S8x64x64 : Shape := ⟨3, ![8, 64, 64]⟩
abbrev S4096x8x64x64 : Shape := ⟨4, ![4096, 8, 64, 64]⟩
abbrev S1x8x64 : Shape := ⟨3, ![1, 8, 64]⟩
abbrev S8x64 : Shape := ⟨2, ![8, 64]⟩
abbrev S8x1x64 : Shape := ⟨3, ![8, 1, 64]⟩
abbrev S8x64x1 : Shape := ⟨3, ![8, 64, 1]⟩
abbrev S1x8x64x64 : Shape := ⟨4, ![1, 8, 64, 64]⟩
abbrev S8x4096x64 : Shape := ⟨3, ![8, 4096, 64]⟩
abbrev S16x256x8x64x64 : Shape := ⟨5, ![16, 256, 8, 64, 64]⟩
abbrev S16x1x8x64x64 : Shape := ⟨5, ![16, 1, 8, 64, 64]⟩
abbrev S16x8x64x64 : Shape := ⟨4, ![16, 8, 64, 64]⟩

abbrev nBuf : Space → Nat
  | .hbm => 81
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8x64, .f32⟩
  | .hbm, ⟨4, _⟩ => ⟨S4096x8x64, .f32⟩
  | .hbm, ⟨5, _⟩ => ⟨S4096x8x64, .f32⟩
  | .hbm, ⟨6, _⟩ => ⟨S_, .f32⟩
  | .hbm, ⟨7, _⟩ => ⟨S8x64x64, .f32⟩
  | .hbm, ⟨8, _⟩ => ⟨S_, .f32⟩
  | .hbm, ⟨9, _⟩ => ⟨S4096x8x64, .f32⟩
  | .hbm, ⟨10, _⟩ => ⟨S_, .f32⟩
  | .hbm, ⟨11, _⟩ => ⟨S4096x8x64x64, .f32⟩
  | .hbm, ⟨12, _⟩ => ⟨S_, .i32⟩
  | .hbm, ⟨13, _⟩ => ⟨S4096x8x64, .f32⟩
  | .hbm, ⟨14, _⟩ => ⟨S4096x8x64, .f32⟩
  | .hbm, ⟨15, _⟩ => ⟨S4096x8x64, .f32⟩
  | .hbm, ⟨16, _⟩ => ⟨S4096x8x64, .f32⟩
  | .hbm, ⟨17, _⟩ => ⟨S4096x8x64, .f32⟩
  | .hbm, ⟨18, _⟩ => ⟨S4096x8x64, .f32⟩
  | .hbm, ⟨19, _⟩ => ⟨S_, .i32⟩
  | .hbm, ⟨20, _⟩ => ⟨S8x64x64, .f32⟩
  | .hbm, ⟨21, _⟩ => ⟨S4096x8x64, .f32⟩
  | .hbm, ⟨22, _⟩ => ⟨S4096x8x64x64, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S1x8x64, .f32⟩
  | .hbm, ⟨28, _⟩ => ⟨S8x64, .f32⟩
  | .hbm, ⟨29, _⟩ => ⟨S_, .i32⟩
  | .hbm, ⟨30, _⟩ => ⟨S_, .i32⟩
  | .hbm, ⟨31, _⟩ => ⟨S1x8x64, .f32⟩
  | .hbm, ⟨32, _⟩ => ⟨S8x64, .f32⟩
  | .hbm, ⟨33, _⟩ => ⟨S_, .i32⟩
  | .hbm, ⟨34, _⟩ => ⟨S_, .i32⟩
  | .hbm, ⟨35, _⟩ => ⟨S1x8x64, .f32⟩
  | .hbm, ⟨36, _⟩ => ⟨S8x64, .f32⟩
  | .hbm, ⟨37, _⟩ => ⟨S_, .i32⟩
  | .hbm, ⟨38, _⟩ => ⟨S_, .i32⟩
  | .hbm, ⟨39, _⟩ => ⟨S1x8x64, .f32⟩
  | .hbm, ⟨40, _⟩ => ⟨S8x64, .f32⟩
  | .hbm, ⟨41, _⟩ => ⟨S_, .i32⟩
  | .hbm, ⟨42, _⟩ => ⟨S_, .i32⟩
  | .hbm, ⟨43, _⟩ => ⟨S1x8x64, .f32⟩
  | .hbm, ⟨44, _⟩ => ⟨S8x64, .f32⟩
  | .hbm, ⟨45, _⟩ => ⟨S_, .i32⟩
  | .hbm, ⟨46, _⟩ => ⟨S_, .i32⟩
  | .hbm, ⟨47, _⟩ => ⟨S1x8x64, .f32⟩
  | .hbm, ⟨48, _⟩ => ⟨S8x64, .f32⟩
  | .hbm, ⟨49, _⟩ => ⟨S8x64, .f32⟩
  | .hbm, ⟨50, _⟩ => ⟨S8x1x64, .f32⟩
  | .hbm, ⟨51, _⟩ => ⟨S8x64x64, .f32⟩
  | .hbm, ⟨52, _⟩ => ⟨S8x64x64, .f32⟩
  | .hbm, ⟨53, _⟩ => ⟨S8x64x1, .f32⟩
  | .hbm, ⟨54, _⟩ => ⟨S8x1x64, .f32⟩
  | .hbm, ⟨55, _⟩ => ⟨S8x64x64, .f32⟩
  | .hbm, ⟨56, _⟩ => ⟨S8x64x64, .f32⟩
  | .hbm, ⟨57, _⟩ => ⟨S8x64x64, .f32⟩
  | .hbm, ⟨58, _⟩ => ⟨S8x64x64, .f32⟩
  | .hbm, ⟨59, _⟩ => ⟨S8x64x1, .f32⟩
  | .hbm, ⟨60, _⟩ => ⟨S8x1x64, .f32⟩
  | .hbm, ⟨61, _⟩ => ⟨S8x64x64, .f32⟩
  | .hbm, ⟨62, _⟩ => ⟨S8x64x64, .f32⟩
  | .hbm, ⟨63, _⟩ => ⟨S8x64x64, .f32⟩
  | .hbm, ⟨64, _⟩ => ⟨S8x64x64, .f32⟩
  | .hbm, ⟨65, _⟩ => ⟨S8x64, .f32⟩
  | .hbm, ⟨66, _⟩ => ⟨S1x8x64, .f32⟩
  | .hbm, ⟨67, _⟩ => ⟨S_, .i32⟩
  | .hbm, ⟨68, _⟩ => ⟨S_, .i32⟩
  | .hbm, ⟨69, _⟩ => ⟨S4096x8x64, .f32⟩
  | .hbm, ⟨70, _⟩ => ⟨S1x8x64x64, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S4096x8x64x64, .f32⟩
  | .hbm, ⟨75, _⟩ => ⟨S_, .i32⟩
  | .hbm, ⟨76, _⟩ => ⟨S_, .i32⟩
  | .hbm, ⟨77, _⟩ => ⟨S8x4096x64, .f32⟩
  | .hbm, ⟨78, _⟩ => ⟨S16x256x8x64x64, .f32⟩
  | .hbm, ⟨79, _⟩ => ⟨S16x1x8x64x64, .f32⟩
  | .hbm, ⟨80, _⟩ => ⟨S16x8x64x64, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_c : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev main_v3_9 : Ref sig .tc := ⟨.hbm, 22, rfl⟩
abbrev main_while0c_c_11 : Ref sig .tc := ⟨.hbm, 23, rfl⟩
abbrev main_while0c_v8 : Ref sig .tc := ⟨.hbm, 24, rfl⟩
abbrev main_while0b_call0_c : Ref sig .tc := ⟨.hbm, 25, rfl⟩
abbrev main_while0b_call0_c_0 : Ref sig .tc := ⟨.hbm, 26, rfl⟩
abbrev main_while0b_call0_v0 : Ref sig .tc := ⟨.hbm, 27, rfl⟩
abbrev main_while0b_v8 : Ref sig .tc := ⟨.hbm, 28, rfl⟩
abbrev main_while0b_call1_c : Ref sig .tc := ⟨.hbm, 29, rfl⟩
abbrev main_while0b_call1_c_0 : Ref sig .tc := ⟨.hbm, 30, rfl⟩
abbrev main_while0b_call1_v0 : Ref sig .tc := ⟨.hbm, 31, rfl⟩
abbrev main_while0b_v9 : Ref sig .tc := ⟨.hbm, 32, rfl⟩
abbrev main_while0b_call2_c : Ref sig .tc := ⟨.hbm, 33, rfl⟩
abbrev main_while0b_call2_c_0 : Ref sig .tc := ⟨.hbm, 34, rfl⟩
abbrev main_while0b_call2_v0 : Ref sig .tc := ⟨.hbm, 35, rfl⟩
abbrev main_while0b_v10 : Ref sig .tc := ⟨.hbm, 36, rfl⟩
abbrev main_while0b_call3_c : Ref sig .tc := ⟨.hbm, 37, rfl⟩
abbrev main_while0b_call3_c_0 : Ref sig .tc := ⟨.hbm, 38, rfl⟩
abbrev main_while0b_call3_v0 : Ref sig .tc := ⟨.hbm, 39, rfl⟩
abbrev main_while0b_v11 : Ref sig .tc := ⟨.hbm, 40, rfl⟩
abbrev main_while0b_call4_c : Ref sig .tc := ⟨.hbm, 41, rfl⟩
abbrev main_while0b_call4_c_0 : Ref sig .tc := ⟨.hbm, 42, rfl⟩
abbrev main_while0b_call4_v0 : Ref sig .tc := ⟨.hbm, 43, rfl⟩
abbrev main_while0b_v12 : Ref sig .tc := ⟨.hbm, 44, rfl⟩
abbrev main_while0b_call5_c : Ref sig .tc := ⟨.hbm, 45, rfl⟩
abbrev main_while0b_call5_c_0 : Ref sig .tc := ⟨.hbm, 46, rfl⟩
abbrev main_while0b_call5_v0 : Ref sig .tc := ⟨.hbm, 47, rfl⟩
abbrev main_while0b_v13 : Ref sig .tc := ⟨.hbm, 48, rfl⟩
abbrev main_while0b_v14 : Ref sig .tc := ⟨.hbm, 49, rfl⟩
abbrev main_while0b_v15 : Ref sig .tc := ⟨.hbm, 50, rfl⟩
abbrev main_while0b_v16 : Ref sig .tc := ⟨.hbm, 51, rfl⟩
abbrev main_while0b_v17 : Ref sig .tc := ⟨.hbm, 52, rfl⟩
abbrev main_while0b_v18 : Ref sig .tc := ⟨.hbm, 53, rfl⟩
abbrev main_while0b_v19 : Ref sig .tc := ⟨.hbm, 54, rfl⟩
abbrev main_while0b_v20 : Ref sig .tc := ⟨.hbm, 55, rfl⟩
abbrev main_while0b_v21 : Ref sig .tc := ⟨.hbm, 56, rfl⟩
abbrev main_while0b_v22 : Ref sig .tc := ⟨.hbm, 57, rfl⟩
abbrev main_while0b_v23 : Ref sig .tc := ⟨.hbm, 58, rfl⟩
abbrev main_while0b_v24 : Ref sig .tc := ⟨.hbm, 59, rfl⟩
abbrev main_while0b_v25 : Ref sig .tc := ⟨.hbm, 60, rfl⟩
abbrev main_while0b_v26 : Ref sig .tc := ⟨.hbm, 61, rfl⟩
abbrev main_while0b_v27 : Ref sig .tc := ⟨.hbm, 62, rfl⟩
abbrev main_while0b_v28 : Ref sig .tc := ⟨.hbm, 63, rfl⟩
abbrev main_while0b_v29 : Ref sig .tc := ⟨.hbm, 64, rfl⟩
abbrev main_while0b_v30 : Ref sig .tc := ⟨.hbm, 65, rfl⟩
abbrev main_while0b_call6_v0 : Ref sig .tc := ⟨.hbm, 66, rfl⟩
abbrev main_while0b_call6_c : Ref sig .tc := ⟨.hbm, 67, rfl⟩
abbrev main_while0b_call6_c_0 : Ref sig .tc := ⟨.hbm, 68, rfl⟩
abbrev main_while0b_v31 : Ref sig .tc := ⟨.hbm, 69, rfl⟩
abbrev main_while0b_call7_v0 : Ref sig .tc := ⟨.hbm, 70, rfl⟩
abbrev main_while0b_call7_c : Ref sig .tc := ⟨.hbm, 71, rfl⟩
abbrev main_while0b_call7_c_0 : Ref sig .tc := ⟨.hbm, 72, rfl⟩
abbrev main_while0b_call7_c_1 : Ref sig .tc := ⟨.hbm, 73, rfl⟩
abbrev main_while0b_v32 : Ref sig .tc := ⟨.hbm, 74, rfl⟩
abbrev main_while0b_c_11 : Ref sig .tc := ⟨.hbm, 75, rfl⟩
abbrev main_while0b_v33 : Ref sig .tc := ⟨.hbm, 76, rfl⟩
abbrev main_v4 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩

abbrev nD : Nat := 1
abbrev τ : Topo := Topo.v7x

variable {F : FTy → Type} [FloatOps F]

abbrev main_while0_count : Scf.Loop 32 := ⟨0#32, 4096#32, 1#32⟩
-- ==== S5PostFwd.lean ====
abbrev S4096x512 : Shape := ⟨2, ![4096, 512]⟩
abbrev S512x512 : Shape := ⟨2, ![512, 512]⟩
abbrev S512 : Shape := ⟨1, ![512]⟩
abbrev S1x512 : Shape := ⟨2, ![1, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S512x512, .bf16⟩
  | .hbm, ⟨4, _⟩ => ⟨S1x512, .f32⟩
  | .hbm, ⟨5, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1x512, .f32⟩
  | .local _ .vmem, ⟨4, _⟩ => ⟨S512x512, .f32⟩
  | .local _ .vmem, ⟨5, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== S5PostFwdRefIdeal.lean ====
abbrev S4096x512 : Shape := ⟨2, ![4096, 512]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S1x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== InprojFwd.lean ====
abbrev S4096x1024 : Shape := ⟨2, ![4096, 1024]⟩
abbrev S1024 : Shape := ⟨1, ![1024]⟩
abbrev S1024x2304 : Shape := ⟨2, ![1024, 2304]⟩
abbrev S1x1024 : Shape := ⟨2, ![1, 1024]⟩
abbrev S4096x2304 : Shape := ⟨2, ![4096, 2304]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S1x1024, .f32⟩
  | .hbm, ⟨4, _⟩ => ⟨S1024x2304, .bf16⟩
  | .hbm, ⟨5, _⟩ => ⟨S4096x2304, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x2304, .f32⟩
  | .local _ .vmem, ⟨5, _⟩ => ⟨S512x2304, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojFwdRefIdeal.lean ====
abbrev S4096x1024 : Shape := ⟨2, ![4096, 1024]⟩
abbrev S1024 : Shape := ⟨1, ![1024]⟩
abbrev S1024x2304 : Shape := ⟨2, ![1024, 2304]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2304 : Shape := ⟨2, ![4096, 2304]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2304, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MixffnFwd.lean ====
abbrev S4096x1024 : Shape := ⟨2, ![4096, 1024]⟩
abbrev S4096x512 : Shape := ⟨2, ![4096, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S4096x2816 : Shape := ⟨2, ![4096, 2816]⟩
abbrev S256x1024 : Shape := ⟨2, ![256, 1024]⟩
abbrev S256x512 : Shape := ⟨2, ![256, 512]⟩
abbrev S256x2816 : Shape := ⟨2, ![256, 2816]⟩
abbrev S256 : Shape := ⟨1, ![256]⟩
abbrev S256x1 : Shape := ⟨2, ![256, 1]⟩

abbrev nBuf : Space → Nat
  | .hbm => 21
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S4096x1024, .f32⟩
  | .hbm, ⟨16, _⟩ => ⟨S4096x1024, .f32⟩
  | .hbm, ⟨17, _⟩ => ⟨S4096x2816, .bf16⟩
  | .hbm, ⟨18, _⟩ => ⟨S4096x2816, .bf16⟩
  | .hbm, ⟨19, _⟩ => ⟨S4096x2816, .bf16⟩
  | .hbm, ⟨20, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x1024, .bf16⟩
  | .local _ .vmem, ⟨23, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixffnFwdRefIdeal.lean ====
abbrev S4096x1024 : Shape := ⟨2, ![4096, 1024]⟩
abbrev S4096x512 : Shape := ⟨2, ![4096, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S4096x2816, .bf16⟩
  | .hbm, ⟨42, _⟩ => ⟨S4096x2816, .bf16⟩
  | .hbm, ⟨43, _⟩ => ⟨S4096x2816, .bf16⟩
  | .hbm, ⟨44, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== RwPostFwd.lean ====
abbrev S4096x8x64 : Shape := ⟨3, ![4096, 8, 64]⟩
abbrev S4096x512 : Shape := ⟨2, ![4096, 512]⟩
abbrev S512 : Shape := ⟨1, ![512]⟩
abbrev S8x64 : Shape := ⟨2, ![8, 64]⟩
abbrev S8x4096x64 : Shape := ⟨3, ![8, 4096, 64]⟩
abbrev S1x512 : Shape := ⟨2, ![1, 512]⟩
abbrev S8x512x64 : Shape := ⟨3, ![8, 512, 64]⟩
abbrev S512x512 : Shape := ⟨2, ![512, 512]⟩
abbrev S1x512x64 : Shape := ⟨3, ![1, 512, 64]⟩
abbrev S512x64 : Shape := ⟨2, ![512, 64]⟩

abbrev nBuf : Space → Nat
  | .hbm => 16
  | .vmem => 15
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8x64, .f32⟩
  | .hbm, ⟨4, _⟩ => ⟨S4096x512, .f32⟩
  | .hbm, ⟨5, _⟩ => ⟨S512, .f32⟩
  | .hbm, ⟨6, _⟩ => ⟨S512, .f32⟩
  | .hbm, ⟨7, _⟩ => ⟨S8x64, .f32⟩
  | .hbm, ⟨8, _⟩ => ⟨S8x4096x64, .f32⟩
  | .hbm, ⟨9, _⟩ => ⟨S8x4096x64, .f32⟩
  | .hbm, ⟨10, _⟩ => ⟨S8x4096x64, .f32⟩
  | .hbm, ⟨11, _⟩ => ⟨S8x4096x64, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S4096x512, .f32⟩
  | .local _ .vmem, ⟨0, _⟩ => ⟨S8x512x64, .f32⟩
  | .local _ .vmem, ⟨1, _⟩ => ⟨S8x512x64, .f32⟩
  | .local _ .vmem, ⟨2, _⟩ => ⟨S8x512x64, .f32⟩
  | .local _ .vmem, ⟨3, _⟩ => ⟨S8x512x64, .f32⟩
  | .local _ .vmem, ⟨4, _⟩ => ⟨S8x512x64, .f32⟩
  | .local _ .vmem, ⟨5, _⟩ => ⟨S8x512x64, .f32⟩
  | .local _ .vmem, ⟨6, _⟩ => ⟨S8x512x64, .f32⟩
  | .local _ .vmem, ⟨7, _⟩ => ⟨S8x512x64, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RwPostFwdRefIdeal.lean ====
abbrev S4096x8x64 : Shape := ⟨3, ![4096, 8, 64]⟩
abbrev S4096x512 : Shape := ⟨2, ![4096, 512]⟩
abbrev S512 : Shape := ⟨1, ![512]⟩
abbrev S8x64 : Shape := ⟨2, ![8, 64]⟩
abbrev S_ : Shape := ⟨0, ![]⟩
abbrev S4096x8 : Shape := ⟨2, ![4096, 8]⟩
abbrev S4096x8x1 : Shape := ⟨3, ![4096, 8, 1]⟩
abbrev S1x512 : Shape := ⟨2, ![1, 512]⟩
abbrev S1x8x64 : Shape := ⟨3, ![1, 8, 64]⟩

abbrev nBuf : Space → Nat
  | .hbm => 48
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8x64, .f32⟩
  | .hbm, ⟨4, _⟩ => ⟨S4096x512, .f32⟩
  | .hbm, ⟨5, _⟩ => ⟨S512, .f32⟩
  | .hbm, ⟨6, _⟩ => ⟨S512, .f32⟩
  | .hbm, ⟨7, _⟩ => ⟨S8x64, .f32⟩
  | .hbm, ⟨8, _⟩ => ⟨S_, .f32⟩
  | .hbm, ⟨9, _⟩ => ⟨S4096x8, .f32⟩
  | .hbm, ⟨10, _⟩ => ⟨S4096x8x1, .f32⟩
  | .hbm, ⟨11, _⟩ => ⟨S_, .f32⟩
  | .hbm, ⟨12, _⟩ => ⟨S4096x8x1, .f32⟩
  | .hbm, ⟨13, _⟩ => ⟨S4096x8x1, .f32⟩
  | .hbm, ⟨14, _⟩ => ⟨S4096x8x64, .f32⟩
  | .hbm, ⟨15, _⟩ => ⟨S4096x8x64, .f32⟩
  | .hbm, ⟨16, _⟩ => ⟨S4096x8x64, .f32⟩
  | .hbm, ⟨17, _⟩ => ⟨S_, .f32⟩
  | .hbm, ⟨18, _⟩ => ⟨S4096x8, .f32⟩
  | .hbm, ⟨19, _⟩ => ⟨S4096x8x1, .f32⟩
  | .hbm, ⟨20, _⟩ => ⟨S_, .f32⟩
  | .hbm, ⟨21, _⟩ => ⟨S4096x8x1, .f32⟩
  | .hbm, ⟨22, _⟩ => ⟨S4096x8x1, .f32⟩
  | .hbm, ⟨23, _⟩ => ⟨S_, .f32⟩
  | .hbm, ⟨24, _⟩ => ⟨S4096x8x1, .f32⟩
  | .hbm, ⟨25, _⟩ => ⟨S4096x8x1, .f32⟩
  | .hbm, ⟨26, _⟩ => ⟨S4096x8x1, .f32⟩
  | .hbm, ⟨27, _⟩ => ⟨S4096x8x64, .f32⟩
  | .hbm, ⟨28, _⟩ => ⟨S4096x8x64, .f32⟩
  | .hbm, ⟨29, _⟩ => ⟨S4096x512, .f32⟩
  | .hbm, ⟨30, _⟩ => ⟨S1x512, .f32⟩
  | .hbm, ⟨31, _⟩ => ⟨S4096x512, .f32⟩
  | .hbm, ⟨32, _⟩ => ⟨S4096x512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S4096x8x64, .f32⟩
  | .hbm, ⟨37, _⟩ => ⟨S1x8x64, .f32⟩
  | .hbm, ⟨38, _⟩ => ⟨S4096x8x64, .f32⟩
  | .hbm, ⟨39, _⟩ => ⟨S4096x8x64, .f32⟩
  | .hbm, ⟨40, _⟩ => ⟨S_, .f32⟩
  | .hbm, ⟨41, _⟩ => ⟨S4096x8, .f32⟩
  | .hbm, ⟨42, _⟩ => ⟨S4096x8x1, .f32⟩
  | .hbm, ⟨43, _⟩ => ⟨S4096x8x64, .f32⟩
  | .hbm, ⟨44, _⟩ => ⟨S4096x8x64, .f32⟩
  | .hbm, ⟨45, _⟩ => ⟨S4096x512, .f32⟩
  | .hbm, ⟨46, _⟩ => ⟨S4096x512, .f32⟩
  | .hbm, ⟨47, _⟩ => ⟨S4096x512, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== S5ParamFwd.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S32x16x64 : Shape := ⟨3, ![32, 16, 64]⟩
abbrev S32x1x64 : Shape := ⟨3, ![32, 1, 64]⟩

abbrev nBuf : Space → Nat
  | .hbm => 12
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x1, .f32⟩
  | .hbm, ⟨6, _⟩ => ⟨S32x16x64, .f32⟩
  | .hbm, ⟨7, _⟩ => ⟨S32x16x64, .f32⟩
  | .hbm, ⟨8, _⟩ => ⟨S32x64, .f32⟩
  | .hbm, ⟨9, _⟩ => ⟨S32x64, .f32⟩
  | .hbm, ⟨10, _⟩ => ⟨S32x16x64, .f32⟩
  | .hbm, ⟨11, _⟩ => ⟨S32x16x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== S5ParamFwdRefIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩

abbrev nBuf : Space → Nat
  | .hbm => 49
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64x1, .f32⟩
  | .hbm, ⟨36, _⟩ => ⟨S32x64x1, .f32⟩
  | .hbm, ⟨37, _⟩ => ⟨S32x64x16, .f32⟩
  | .hbm, ⟨38, _⟩ => ⟨S32x64x16, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x16x64, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S32x64x16, .f32⟩
  | .hbm, ⟨47, _⟩ => ⟨S32x64x16, .f32⟩
  | .hbm, ⟨48, _⟩ => ⟨S32x16x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== WkvBwd.lean ====
abbrev S8x4096x64 : Shape := ⟨3, ![8, 4096, 64]⟩
abbrev S16x8x64x64 : Shape := ⟨4, ![16, 8, 64, 64]⟩
abbrev S8x256x64 : Shape := ⟨3, ![8, 256, 64]⟩
abbrev S1x8x64x64 : Shape := ⟨4, ![1, 8, 64, 64]⟩
abbrev S8x64x64 : Shape := ⟨3, ![8, 64, 64]⟩
abbrev S32x64x64 : Shape := ⟨3, ![32, 64, 64]⟩
abbrev S32x128x64 : Shape := ⟨3, ![32, 128, 64]⟩
abbrev S32x128x128 : Shape := ⟨3, ![32, 128, 128]⟩
abbrev S32x64x128 : Shape := ⟨3, ![32, 64, 128]⟩
abbrev S32x64 : Shape := ⟨2, ![32, 64]⟩
abbrev S32x1x64 : Shape := ⟨3, ![32, 1, 64]⟩
abbrev S8x1x64 : Shape := ⟨3, ![8, 1, 64]⟩
abbrev S8x64 : Shape := ⟨2, ![8, 64]⟩

abbrev nBuf : Space → Nat
  | .hbm => 14
  | .vmem => 29
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096x64, .f32⟩
  | .hbm, ⟨4, _⟩ => ⟨S8x4096x64, .f32⟩
  | .hbm, ⟨5, _⟩ => ⟨S8x4096x64, .f32⟩
  | .hbm, ⟨6, _⟩ => ⟨S8x4096x64, .f32⟩
  | .hbm, ⟨7, _⟩ => ⟨S16x8x64x64, .f32⟩
  | .hbm, ⟨8, _⟩ => ⟨S8x4096x64, .f32⟩
  | .hbm, ⟨9, _⟩ => ⟨S8x4096x64, .f32⟩
  | .hbm, ⟨10, _⟩ => ⟨S8x4096x64, .f32⟩
  | .hbm, ⟨11, _⟩ => ⟨S8x4096x64, .f32⟩
  | .hbm, ⟨12, _⟩ => ⟨S8x4096x64, .f32⟩
  | .hbm, ⟨13, _⟩ => ⟨S8x4096x64, .f32⟩
  | .local _ .vmem, ⟨0, _⟩ => ⟨S8x256x64, .f32⟩
  | .local _ .vmem, ⟨1, _⟩ => ⟨S8x256x64, .f32⟩
  | .local _ .vmem, ⟨2, _⟩ => ⟨S8x256x64, .f32⟩
  | .local _ .vmem, ⟨3, _⟩ => ⟨S8x256x64, .f32⟩
  | .local _ .vmem, ⟨4, _⟩ => ⟨S8x256x64, .f32⟩
  | .local _ .vmem, ⟨5, _⟩ => ⟨S8x256x64, .f32⟩
  | .local _ .vmem, ⟨6, _⟩ => ⟨S8x256x64, .f32⟩
  | .local _ .vmem, ⟨7, _⟩ => ⟨S8x256x64, .f32⟩
  | .local _ .vmem, ⟨8, _⟩ => ⟨S8x256x64, .f32⟩
  | .local _ .vmem, ⟨9, _⟩ => ⟨S8x256x64, .f32⟩
  | .local _ .vmem, ⟨10, _⟩ => ⟨S8x256x64, .f32⟩
  | .local _ .vmem, ⟨11, _⟩ => ⟨S8x256x64, .f32⟩
  | .local _ .vmem, ⟨12, _⟩ => ⟨S8x256x64, .f32⟩
  | .local _ .vmem, ⟨13, _⟩ => ⟨S8x256x64, .f32⟩
  | .local _ .vmem, ⟨14, _⟩ => ⟨S1x8x64x64, .f32⟩
  | .local _ .vmem, ⟨15, _⟩ => ⟨S1x8x64x64, .f32⟩
  | .local _ .vmem, ⟨16, _⟩ => ⟨S8x256x64, .f32⟩
  | .local _ .vmem, ⟨17, _⟩ => ⟨S8x256x64, .f32⟩
  | .local _ .vmem, ⟨18, _⟩ => ⟨S8x256x64, .f32⟩
  | .local _ .vmem, ⟨19, _⟩ => ⟨S8x256x64, .f32⟩
  | .local _ .vmem, ⟨20, _⟩ => ⟨S8x256x64, .f32⟩
  | .local _ .vmem, ⟨21, _⟩ => ⟨S8x256x64, .f32⟩
  | .local _ .vmem, ⟨22, _⟩ => ⟨S8x256x64, .f32⟩
  | .local _ .vmem, ⟨23, _⟩ => ⟨S8x256x64, .f32⟩
  | .local _ .vmem, ⟨24, _⟩ => ⟨S8x256x64, .f32⟩
  | .local _ .vmem, ⟨25, _⟩ => ⟨S8x256x64, .f32⟩
  | .local _ .vmem, ⟨26, _⟩ => ⟨S8x256x64, .f32⟩
  | .local _ .vmem, ⟨27, _⟩ => ⟨S8x256x64, .f32⟩
  | .local _ .vmem, ⟨28, _⟩ => ⟨S8x64x64, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Proof.S5ParamFwdValue.lean ====
/- The S5 heads' discretisation, forward: the four arrays the kernel writes are the reference's terms. -/
module

public import proofs.«01_k».proof.Proof.Gen.S5ParamFwdIdeal.Frame
public import proofs.«01_k».proof.Proof.Gen.S5ParamFwdRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.S5ParamFwd

/-- One eigenvalue `a + i b` with the step's logarithm `s`: the transition's real and imaginary part, by size and angle. -/
def re (a b s : EReal) : EReal := Ideal.exp (a * Ideal.exp s) * Ideal.cos (b * Ideal.exp s)
def im (a b s : EReal) : EReal := Ideal.exp (a * Ideal.exp s) * Ideal.sin (b * Ideal.exp s)
/-- The eigenvalue's squared size, and the parts of the transition less one over the eigenvalue. -/
def den (a b : EReal) : EReal := a * a + b * b
def qr (a b s : EReal) : EReal := Ideal.div ((re a b s - 1) * a + im a b s * b) (den a b)
def qi (a b s : EReal) : EReal := Ideal.div (im a b s * a - (re a b s - 1) * b) (den a b)
/-- The parts of the discrete input matrix' entry, from the entry's parts `x`, `y`. -/
def br (a b s x y : EReal) : EReal := qr a b s * x - qi a b s * y
def bi (a b s x y : EReal) : EReal := qr a b s * y + qi a b s * x

section Reference
open Cert.S5ParamFwdRefIdeal Cert.S5ParamFwdRefIdeal.Gen

variable (a0 a1 : FVec Ideal S32x64 .f32) (a2 : FVec Ideal S32 .f32) (a3 a4 : FVec Ideal S32x64x16 .f32)

/-! The reference's terms: the step, the transition's parts, the quotient's, the two results of the input matrix. -/

def DT : FVec Ideal S32x1 .f32 := broadcastInDim S32x1 ![0] bcast_S32_S32x1_0 (Host.exp a2)
def EE : FVec Ideal S32x64 .f32 := Host.exp (mulf a0 (broadcastInDim S32x64 ![0, 1] bcast_S32x1_S32x64_0_1 (DT a2)))
def RE : FVec Ideal S32x64 .f32 := mulf (EE a0 a2) (Host.cos (mulf a1 (broadcastInDim S32x64 ![0, 1] bcast_S32x1_S32x64_0_1 (DT a2))))
def IM : FVec Ideal S32x64 .f32 := mulf (EE a0 a2) (Host.sin (mulf a1 (broadcastInDim S32x64 ![0, 1] bcast_S32x1_S32x64_0_1 (DT a2))))
def DEN : FVec Ideal S32x64 .f32 := addf (mulf a0 a0) (mulf a1 a1)
def LESS : FVec Ideal S32x64 .f32 := subf (RE a0 a1 a2) (broadcastInDim S32x64 ![] bcast_S_S32x64 (constant S_ .f32 0x3F800000#32))
def QR : FVec Ideal S32x64x1 .f32 := broadcastInDim S32x64x1 ![0, 1] bcast_S32x64_S32x64x1_0_1
  (Host.divf (addf (mulf (LESS a0 a1 a2) a0) (mulf (IM a0 a1 a2) a1)) (DEN a0 a1))
def QI : FVec Ideal S32x64x1 .f32 := broadcastInDim S32x64x1 ![0, 1] bcast_S32x64_S32x64x1_0_1
  (Host.divf (subf (mulf (IM a0 a1 a2) a0) (mulf (LESS a0 a1 a2) a1)) (DEN a0 a1))
def BR : FVec Ideal S32x16x64 .f32 := transpose S32x16x64 [0, 2, 1]
  (subf (mulf (broadcastInDim S32x64x16 ![0, 1, 2] bcast_S32x64x1_S32x64x16_0_1_2 (QR a0 a1 a2)) a3)
    (mulf (broadcastInDim S32x64x16 ![0, 1, 2] bcast_S32x64x1_S32x64x16_0_1_2 (QI a0 a1 a2)) a4)) transposes_S32x64x16_S32x16x64_0_2_1
def BI : FVec Ideal S32x16x64 .f32 := transpose S32x16x64 [0, 2, 1]
  (addf (mulf (broadcastInDim S32x64x16 ![0, 1, 2] bcast_S32x64x1_S32x64x16_0_1_2 (QR a0 a1 a2)) a4)
    (mulf (broadcastInDim S32x64x16 ![0, 1, 2] bcast_S32x64x1_S32x64x16_0_1_2 (QI a0 a1 a2)) a3)) transposes_S32x64x16_S32x16x64_0_2_1

variable (g : Fin 32) (j : Fin 16) (n : Fin 64)

theorem DT_at : @Eq EReal (DT a2 (ix2 g 0)) (Ideal.exp (a2 (ix1 g))) := by pointwise [DT]

theorem EE_at : @Eq EReal (EE a0 a2 (ix2 g n)) (Ideal.exp (a0 (ix2 g n) * Ideal.exp (a2 (ix1 g)))) := by
  pointwise [EE, DT_at]

theorem RE_at : @Eq EReal (RE a0 a1 a2 (ix2 g n)) (re (a0 (ix2 g n)) (a1 (ix2 g n)) (a2 (ix1 g))) := by
  pointwise [RE, re, EE_at, DT_at]

theorem IM_at : @Eq EReal (IM a0 a1 a2 (ix2 g n)) (im (a0 (ix2 g n)) (a1 (ix2 g n)) (a2 (ix1 g))) := by
  pointwise [IM, im, EE_at, DT_at]

theorem QR_at : @Eq EReal (QR a0 a1 a2 (ix3 g n 0)) (qr (a0 (ix2 g n)) (a1 (ix2 g n)) (a2 (ix1 g))) := by
  pointwise [QR, qr, den, LESS, DEN, RE_at, IM_at]

theorem QI_at : @Eq EReal (QI a0 a1 a2 (ix3 g n 0)) (qi (a0 (ix2 g n)) (a1 (ix2 g n)) (a2 (ix1 g))) := by
  pointwise [QI, qi, den, LESS, DEN, RE_at, IM_at]

theorem BR_at : @Eq EReal (BR a0 a1 a2 a3 a4 (ix3 g j n))
    (br (a0 (ix2 g n)) (a1 (ix2 g n)) (a2 (ix1 g)) (a3 (ix3 g n j)) (a4 (ix3 g n j))) := by
  pointwise [BR, br, QR_at, QI_at]

theorem BI_at : @Eq EReal (BI a0 a1 a2 a3 a4 (ix3 g j n))
    (bi (a0 (ix2 g n)) (a1 (ix2 g n)) (a2 (ix1 g)) (a3 (ix3 g n j)) (a4 (ix3 g n j))) := by
  pointwise [BI, bi, QR_at, QI_at]

end Reference

open Cert.S5ParamFwdIdeal Cert.S5ParamFwdIdeal.Gen

section Kernel

/-! The body's values. -/

variable (a b : FVec Ideal S32x64 .f32) (s : FVec Ideal S32x1 .f32) (x y : FVec Ideal S32x16x64 .f32)
  (g : Fin 32) (j : Fin 16) (n : Fin 64)

theorem step_at : @Eq EReal (k0_pay3 (F := Ideal) s (ix2 g 0)) (Ideal.exp (s (ix2 g 0))) := by pointwise [k0_pay3]

theorem size_at : @Eq EReal (k0_pay4 (F := Ideal) a s (ix2 g n)) (Ideal.exp (a (ix2 g n) * Ideal.exp (s (ix2 g 0)))) := by
  pointwise [k0_pay4, step_at]

theorem re_at : @Eq EReal (k0_pay5 (F := Ideal) a b s (ix2 g n)) (re (a (ix2 g n)) (b (ix2 g n)) (s (ix2 g 0))) := by
  pointwise [k0_pay5, re, size_at, step_at]

theorem im_at : @Eq EReal (k0_pay6 (F := Ideal) a b s (ix2 g n)) (im (a (ix2 g n)) (b (ix2 g n)) (s (ix2 g 0))) := by
  pointwise [k0_pay6, im, size_at, step_at]

theorem qr_at : @Eq EReal (k0_pay9 (F := Ideal) a b s (ix3 g 0 n)) (qr (a (ix2 g n)) (b (ix2 g n)) (s (ix2 g 0))) := by
  pointwise [k0_pay9, k0_pay8, k0_pay7, qr, den, re_at, im_at]

theorem qi_at : @Eq EReal (k0_pay10 (F := Ideal) a b s (ix3 g 0 n)) (qi (a (ix2 g n)) (b (ix2 g n)) (s (ix2 g 0))) := by
  pointwise [k0_pay10, k0_pay8, k0_pay7, qi, den, re_at, im_at]

theorem br_at : @Eq EReal (k0_pay11 (F := Ideal) a b s x y (ix3 g j n))
    (br (a (ix2 g n)) (b (ix2 g n)) (s (ix2 g 0)) (x (ix3 g j n)) (y (ix3 g j n))) := by
  pointwise [k0_pay11, k0_pay1, k0_pay2, br, qr_at, qi_at]

theorem bi_at : @Eq EReal (k0_pay12 (F := Ideal) a b s x y (ix3 g j n))
    (bi (a (ix2 g n)) (b (ix2 g n)) (s (ix2 g 0)) (x (ix3 g j n)) (y (ix3 g j n))) := by
  pointwise [k0_pay12, k0_pay1, k0_pay2, bi, qr_at, qi_at]

end Kernel

variable (m : (ℓ : Loc nD τ sig) → Buf (Elt Ideal) ℓ)

/-- The argument arrays: the eigenvalues' parts, the step's logarithm, the input matrix' parts. -/
abbrev A0 (c : Dev nD) : FVec Ideal S32x64 .f32 := m ((c : Thread nD τ).loc main_arg0)
abbrev A1 (c : Dev nD) : FVec Ideal S32x64 .f32 := m ((c : Thread nD τ).loc main_arg1)
abbrev A2 (c : Dev nD) : FVec Ideal S32 .f32 := m ((c : Thread nD τ).loc main_arg2)
abbrev A3 (c : Dev nD) : FVec Ideal S32x64x16 .f32 := m ((c : Thread nD τ).loc main_arg3)
abbrev A4 (c : Dev nD) : FVec Ideal S32x64x16 .f32 := m ((c : Thread nD τ).loc main_arg4)

theorem idx : ∀ t : Fin cfg0.N, win0_0.index t = ![0, 0]
    ∧ win0_1.index t = ![0, 0]
    ∧ win0_2.index t = ![0, 0]
    ∧ win0_3.index t = ![0, 0, 0]
    ∧ win0_4.index t = ![0, 0, 0]
    ∧ win0_5.index t = ![0, 0]
    ∧ win0_6.index t = ![0, 0]
    ∧ win0_7.index t = ![0, 0, 0]
    ∧ win0_8.index t = ![0, 0, 0] :=
  (by decide +kernel : ∀ t : Fin grid0.N, _)

variable (c : Dev nD) (t : Fin cfg0.N) (g : Fin 32) (j : Fin 16) (n : Fin 64)

/-! The blocks the body reads: the arrays whole, the input matrix' parts transposed. -/

theorem b0 : iblk m c 0 t (ix2 g n) = A0 m c (ix2 g n) := by blk_ext [iblk, V, idx t]
theorem b1 : iblk m c 1 t (ix2 g n) = A1 m c (ix2 g n) := by blk_ext [iblk, V, idx t]
theorem b2 : iblk m c 2 t (ix2 g 0) = A2 m c (ix1 g) := by blk_point [iblk, V, idx t]
theorem b3 : iblk m c 3 t (ix3 g j n) = A3 m c (ix3 g n j) := by blk_point [iblk, V, idx t]
theorem b4 : iblk m c 4 t (ix3 g j n) = A4 m c (ix3 g n j) := by blk_point [iblk, V, idx t]

theorem emb5 : ((cfg0.win 5).blk t).view.emb (ix2 g n) = (ix2 g n : S32x64.Idx) := by blk_ext [idx t]
theorem emb6 : ((cfg0.win 6).blk t).view.emb (ix2 g n) = (ix2 g n : S32x64.Idx) := by blk_ext [idx t]
theorem emb7 : ((cfg0.win 7).blk t).view.emb (ix3 g j n) = (ix3 g j n : S32x16x64.Idx) := by blk_ext [idx t]
theorem emb8 : ((cfg0.win 8).blk t).view.emb (ix3 g j n) = (ix3 g j n : S32x16x64.Idx) := by blk_ext [idx t]

/-! What is written at each place. -/

theorem point5 (y : S32x64.Idx) : @Eq EReal (k0_pay5 (F := Ideal) (iblk m c 0 t) (iblk m c 1 t) (iblk m c 2 t) y)
    (RE (A0 m c) (A1 m c) (A2 m c) (((cfg0.win 5).blk t).view.emb y)) := by
  obtain ⟨g, n, rfl⟩ : ∃ (g : Fin 32) (n : Fin 64), y = ix2 g n := ⟨y 0, y 1, eq_ix2 y⟩
  rw [emb5]
  refine (re_at _ _ _ g n).trans (Eq.trans ?_ (RE_at _ _ _ g n).symm)
  rw [b0, b1, b2]

theorem point6 (y : S32x64.Idx) : @Eq EReal (k0_pay6 (F := Ideal) (iblk m c 0 t) (iblk m c 1 t) (iblk m c 2 t) y)
    (IM (A0 m c) (A1 m c) (A2 m c) (((cfg0.win 6).blk t).view.emb y)) := by
  obtain ⟨g, n, rfl⟩ : ∃ (g : Fin 32) (n : Fin 64), y = ix2 g n := ⟨y 0, y 1, eq_ix2 y⟩
  rw [emb6]
  refine (im_at _ _ _ g n).trans (Eq.trans ?_ (IM_at _ _ _ g n).symm)
  rw [b0, b1, b2]

theorem point7 (y : S32x16x64.Idx) : @Eq EReal
    (k0_pay11 (F := Ideal) (iblk m c 0 t) (iblk m c 1 t) (iblk m c 2 t) (iblk m c 3 t) (iblk m c 4 t) y)
    (BR (A0 m c) (A1 m c) (A2 m c) (A3 m c) (A4 m c) (((cfg0.win 7).blk t).view.emb y)) := by
  obtain ⟨g, j, n, rfl⟩ : ∃ (g : Fin 32) (j : Fin 16) (n : Fin 64), y = ix3 g j n := ⟨y 0, y 1, y 2, eq_ix3 y⟩
  rw [emb7]
  refine (br_at _ _ _ _ _ g j n).trans (Eq.trans ?_ (BR_at _ _ _ _ _ g j n).symm)
  rw [b0, b1, b2, b3, b4]

theorem point8 (y : S32x16x64.Idx) : @Eq EReal
    (k0_pay12 (F := Ideal) (iblk m c 0 t) (iblk m c 1 t) (iblk m c 2 t) (iblk m c 3 t) (iblk m c 4 t) y)
    (BI (A0 m c) (A1 m c) (A2 m c) (A3 m c) (A4 m c) (((cfg0.win 8).blk t).view.emb y)) := by
  obtain ⟨g, j, n, rfl⟩ : ∃ (g : Fin 32) (j : Fin 16) (n : Fin 64), y = ix3 g j n := ⟨y 0, y 1, y 2, eq_ix3 y⟩
  rw [emb8]
  refine (bi_at _ _ _ _ _ g j n).trans (Eq.trans ?_ (BI_at _ _ _ _ _ g j n).symm)
  rw [b0, b1, b2, b3, b4]

theorem final5 : (dats m 0 c).arrAt 5 (cfgs 0).N = RE (A0 m c) (A1 m c) (A2 m c) := by
  refine (dats m 0 c).arrAt_eq_of_covers 5 _ (by decide +kernel) fun t hf y => ?_
  blk_simp; rw [after0_5]; unfold out0_5; frame_out; exact point5 m c t y

theorem final6 : (dats m 0 c).arrAt 6 (cfgs 0).N = IM (A0 m c) (A1 m c) (A2 m c) := by
  refine (dats m 0 c).arrAt_eq_of_covers 6 _ (by decide +kernel) fun t hf y => ?_
  blk_simp; rw [after0_6]; unfold out0_6; frame_out; exact point6 m c t y

theorem final7 : (dats m 0 c).arrAt 7 (cfgs 0).N = BR (A0 m c) (A1 m c) (A2 m c) (A3 m c) (A4 m c) := by
  refine (dats m 0 c).arrAt_eq_of_covers 7 _ (by decide +kernel) fun t hf y => ?_
  blk_simp; rw [after0_7]; unfold out0_7; frame_out; exact point7 m c t y

theorem final8 : (dats m 0 c).arrAt 8 (cfgs 0).N = BI (A0 m c) (A1 m c) (A2 m c) (A3 m c) (A4 m c) := by
  refine (dats m 0 c).arrAt_eq_of_covers 8 _ (by decide +kernel) fun t hf y => ?_
  blk_simp; rw [after0_8]; unfold out0_8; frame_out; exact point8 m c t y

end Cert.S5ParamFwd
end
-- ==== Proof.RealFacts.lean ====
/- Facts about extended reals that several of the calls use. -/
module

public import Idealize.ShloMosaic.Lib.Pointwise

@[expose] public section

set_option maxRecDepth 16384

noncomputable section

open Idealize.ShloMosaic Idealize.ShloMosaic.TcCoe

namespace Cert.Facts

/-- The single-precision infinity's value. -/
theorem inf_f32 : Ideal.ofBits .f32 0x7F800000#32 = ⊤ := by simp [Ideal.ofBits, Ideal.ieee]

/-- A number whose absolute value compares below infinity is real. -/
theorem real_of_abs_lt (x : Ideal .f32)
    (h : BitVec.ofBool (decide (FloatOps.absf (F := Ideal) (φ := .f32) x < Ideal.ofBits .f32 0x7F800000#32)) = 1#1) :
    ∃ r : ℝ, x = (r : EReal) := by
  have h1 : FloatOps.absf (F := Ideal) (φ := .f32) x < Ideal.ofBits .f32 0x7F800000#32 := by
    by_contra hn; rw [decide_eq_false hn] at h; exact absurd h (by decide)
  have h2 : max (x : EReal) (-x) < ⊤ := by rw [← inf_f32]; exact h1
  have h3 : (x : EReal) ≠ ⊤ := ((le_max_left _ _).trans_lt h2).ne
  have h4 : (x : EReal) ≠ ⊥ := fun e => by
    have h5 : -(x : EReal) < ⊤ := (le_max_right _ _).trans_lt h2
    rw [e, EReal.neg_bot] at h5
    exact lt_irrefl _ h5
  exact ⟨EReal.toReal x, (EReal.coe_toReal h3 h4).symm⟩

/-- An extended real that is a real number. -/
def IsReal (x : EReal) : Prop := ∃ r : ℝ, x = (r : EReal)

theorem IsReal.coe (r : ℝ) : IsReal (r : EReal) := ⟨r, rfl⟩

theorem IsReal.of_eq {x y : EReal} (h : x = y) (hy : IsReal y) : IsReal x := h ▸ hy

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert i s hi ih => rw [Finset.sum_insert hi]; exact (h i).add ih

theorem IsReal.exp {x : EReal} (hx : IsReal x) : IsReal (Ideal.exp x) := by
  obtain ⟨a, rfl⟩ := hx; exact ⟨Real.exp a, Ideal.exp_coe _⟩

theorem IsReal.tanh {x : EReal} (hx : IsReal x) : IsReal (Ideal.tanh x) := by
  obtain ⟨a, rfl⟩ := hx; exact ⟨Real.tanh a, Ideal.tanh_coe _⟩

/-- Division of real numbers, the divisor not zero. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x : EReal} (hx : IsReal x) {b : ℝ} (hb : b ≠ 0) : IsReal (Ideal.div x (b : EReal)) := by
  obtain ⟨a, rfl⟩ := hx; exact ⟨a / b, div_coe_coe a hb⟩

/-- The reciprocal square root of a positive real number. -/
theorem rsqrt_pos {b : ℝ} (hb : 0 < b) : Ideal.rsqrt (b : EReal) = (((Real.sqrt b)⁻¹ : ℝ) : EReal) := by
  rw [Ideal.rsqrt_coe, if_neg (not_lt.2 hb.le), if_neg hb.ne']

/-- The logistic function's usual writing, at a real number. -/
theorem sig_coe (a : ℝ) : Ideal.div 1 (1 + Ideal.exp (-(a : EReal))) = ((1 / (1 + Real.exp (-a)) : ℝ) : EReal) := by
  rw [← EReal.coe_neg, Ideal.exp_coe, ← EReal.coe_one, ← EReal.coe_add, div_coe_coe 1 (by positivity)]

/-- The real numbers' sum as a sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum of squares of real numbers is a real number that is not negative. -/
theorem sum_sq {n : ℕ} {x : Fin n → EReal} (h : ∀ i, IsReal (x i)) : ∃ r : ℝ, 0 ≤ r ∧ (∑ i, x i * x i) = (r : EReal) := by
  choose f hf using h
  refine ⟨∑ i, f i * f i, Finset.sum_nonneg fun i _ => mul_self_nonneg _, ?_⟩
  rw [coe_sum]
  exact Finset.sum_congr rfl fun i _ => by rw [hf i, EReal.coe_mul]

/-- The mean square of a row of real numbers, plus a positive epsilon, is a positive real number. -/
theorem mean_sq_pos {n : ℕ} {x : Fin n → EReal} (h : ∀ i, IsReal (x i)) {d e : ℝ} (hd : 0 < d) (he : 0 < e) :
    ∃ r : ℝ, 0 < r ∧ Ideal.div (∑ i, x i * x i) (d : EReal) + (e : EReal) = (r : EReal) := by
  obtain ⟨s, hs, e1⟩ := sum_sq h
  refine ⟨s / d + e, by positivity, ?_⟩
  rw [e1, div_coe_coe s hd.ne', EReal.coe_add]

/-- The value of a positive normal single-precision pattern. -/
theorem f32_pos (b : BitVec 32) (ex fr : ℕ) (hs : (b.extractLsb' 31 1 == 1#1) = false) (he : (b.extractLsb' 23 8).toNat = ex)
    (hf : (b.extractLsb' 0 23).toNat = fr) (h1 : ex ≠ 255) (h0 : ex ≠ 0) :
    Ideal.ofBits .f32 b = (((8388608 + fr : ℝ) * (2 : ℝ) ^ ((ex : ℤ) - 150) : ℝ) : EReal) := by
  have e2 : ((2 : ℤ) ^ (8 - 1) - 1) = 127 := by norm_num
  simp only [Ideal.ofBits, Ideal.ieee, hs, he, hf, e2]
  rw [if_neg (by norm_num; exact h1), if_neg h0]
  congr 1
  push_cast
  have e3 : (ex : ℤ) - 127 - 23 = (ex : ℤ) - 150 := by ring
  rw [e3]
  norm_num

/-- The norms' constants. -/
theorem c1024 : Ideal.ofBits .f32 0x44800000#32 = ((1024 : ℝ) : EReal) := by
  rw [f32_pos _ 137 0 (by decide) (by decide) (by decide) (by decide) (by decide)]
  congr 1; norm_num

theorem eps6 : ∃ e : ℝ, 0 < e ∧ Ideal.ofBits .f32 0x358637BD#32 = (e : EReal) :=
  ⟨_, by positivity, f32_pos _ 107 407485 (by decide) (by decide) (by decide) (by decide) (by decide)⟩

end Cert.Facts
end
-- ==== Proof.HeadFacts.lean ====
/- Sums over the 64 columns of a head, written as products with the matrix that marks columns of the same head, and the facts
   about columns, heads and lanes they need. -/
module

public import proofs.«01_k».proof.Proof.RealFacts
public import Idealize.ShloMosaic.Lib.Pointwise

@[expose] public section

set_option maxRecDepth 16384

noncomputable section

open Idealize.ShloMosaic Idealize.ShloMosaic.TcCoe Idealize.SL.Sem

namespace Cert.Heads

open Cert.Facts

/-- Column of head `h`, lane `i`; the head and the lane of a column. -/
def col (h : Fin 8) (i : Fin 64) : Fin 512 := ⟨h.val * 64 + i.val, by omega⟩
def hd (c : Fin 512) : Fin 8 := ⟨c.val / 64, by omega⟩
def ln (c : Fin 512) : Fin 64 := ⟨c.val % 64, by omega⟩

theorem hd_col (h : Fin 8) (i : Fin 64) : hd (col h i) = h := Fin.ext (by simp only [hd, col]; omega)
theorem ln_col (h : Fin 8) (i : Fin 64) : ln (col h i) = i := Fin.ext (by simp only [ln, col]; omega)
theorem col_hd_ln (c : Fin 512) : col (hd c) (ln c) = c := Fin.ext (by simp only [hd, ln, col]; omega)

theorem col_cases (c : Fin 512) : ∃ h i, c = col h i := ⟨hd c, ln c, (col_hd_ln c).symm⟩

/-- Sum over the columns of `c`'s head. -/
def seg (f : Fin 512 → EReal) (c : Fin 512) : EReal := ∑ i : Fin 64, f (col (hd c) i)

theorem seg_col (f : Fin 512 → EReal) (h : Fin 8) (i : Fin 64) : seg f (col h i) = ∑ j : Fin 64, f (col h j) := by
  rw [seg, hd_col]

theorem seg_lane (f : Fin 512 → EReal) (c : Fin 512) (i : Fin 64) : seg f (col (hd c) i) = seg f c := by
  rw [seg_col, seg]

theorem isReal_seg {f : Fin 512 → EReal} (h : ∀ c, IsReal (f c)) (c : Fin 512) : IsReal (seg f c) := IsReal.sum _ fun i => h _

/-- Entry of the matrix marking columns of the same head. -/
def ind (a b : Fin 512) : EReal := if hd a = hd b then 1 else 0

/-- A column's head, as the integer arithmetic rounds the quotient down. -/
def headBits (a : Fin 512) : BitVec 32 :=
  Scalar.select
    (IntOp.andi
      (IntOp.cmpi CmpIPredicate.ne
        (IntOp.subi (BitVec.setWidth 32 (IntOp.cmpi CmpIPredicate.sgt (BitVec.ofNat 32 a) 0#32))
          (BitVec.setWidth 32 (IntOp.cmpi CmpIPredicate.slt (BitVec.ofNat 32 a) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 a) 64#32) 0#32))
    (IntOp.subi (IntOp.divsi ArithUnit.vector (BitVec.ofNat 32 a) 64#32) 1#32)
    (IntOp.divsi ArithUnit.vector (BitVec.ofNat 32 a) 64#32)

/-- The expression itself, folded. -/
theorem head_fold (a : Fin 512) :
  Scalar.select
    (IntOp.andi
      (IntOp.cmpi CmpIPredicate.ne
        (IntOp.subi (BitVec.setWidth 32 (IntOp.cmpi CmpIPredicate.sgt (BitVec.ofNat 32 a) 0#32))
          (BitVec.setWidth 32 (IntOp.cmpi CmpIPredicate.slt (BitVec.ofNat 32 a) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 a) 64#32) 0#32))
    (IntOp.subi (IntOp.divsi ArithUnit.vector (BitVec.ofNat 32 a) 64#32) 1#32)
    (IntOp.divsi ArithUnit.vector (BitVec.ofNat 32 a) 64#32) = headBits a := rfl

theorem headBits_eq : ∀ a : Fin 512, headBits a = BitVec.ofNat 32 (hd a).val := by decide +kernel

theorem eq_bits : ∀ a b : Fin 8, IntOp.cmpi CmpIPredicate.eq (BitVec.ofNat 32 a.val) (BitVec.ofNat 32 b.val) = if a = b then 1#1 else 0#1 := by
  decide +kernel

theorem ind_bits (a b : Fin 512) : @Eq EReal
    (FloatOps.sitofp (F := Ideal) FTy.f32 (BitVec.setWidth 32 (IntOp.cmpi CmpIPredicate.eq (headBits a) (headBits b)))) (ind a b) := by
  rw [headBits_eq, headBits_eq, eq_bits, ind]
  split
  · show ((((1#32 : BitVec 32).toInt : ℤ) : ℝ) : EReal) = 1
    norm_num
  · show ((((0#32 : BitVec 32).toInt : ℤ) : ℝ) : EReal) = 0
    norm_num

theorem sum_ind (f : Fin 512 → EReal) (c : Fin 512) : ∑ k : Fin 512, f k * ind k c = seg f c := by
  rw [Fin.sum_univ_tiles 8 64 rfl fun k => f k * ind k c, Finset.sum_eq_single (hd c)]
  · refine Finset.sum_congr rfl fun i _ => ?_
    show f (col (hd c) i) * ind (col (hd c) i) c = _
    rw [ind, hd_col, if_pos rfl, mul_one]
  · intro h _ hne
    refine Finset.sum_eq_zero fun i _ => ?_
    show f (col h i) * ind (col h i) c = 0
    rw [ind, hd_col, if_neg hne, mul_zero]
  · exact fun h => absurd (Finset.mem_univ _) h

theorem real_sub_self {x : EReal} (h : IsReal x) : x - x = 0 := by
  obtain ⟨x, rfl⟩ := h
  rw [← EReal.coe_sub, sub_self, EReal.coe_zero]

/-- The head sum of real numbers, from a product with the numbers and a product with what their first rounding leaves. -/
theorem sum_two {f : Fin 512 → EReal} (h : ∀ c, IsReal (f c)) (c : Fin 512) :
    (∑ k : Fin 512, f k * ind k c) + ∑ k : Fin 512, (f k - f k) * ind k c = seg f c := by
  rw [sum_ind, Finset.sum_eq_zero fun k _ => by rw [real_sub_self (h k), zero_mul], add_zero]

/-- A real factor leaves the head sum. -/
theorem seg_mul {f : Fin 512 → EReal} (h : ∀ c, IsReal (f c)) {K : EReal} (hK : IsReal K) (c : Fin 512) :
    seg (fun k => f k * K) c = seg f c * K := by
  obtain ⟨K, rfl⟩ := hK
  choose g hg using h
  obtain rfl : f = fun k => (g k : EReal) := funext hg
  simp only [seg, ← EReal.coe_mul]
  rw [← coe_sum, ← coe_sum, ← EReal.coe_mul, Finset.sum_mul]

theorem c64 : Ideal.ofBits .f32 0x42800000#32 = ((64 : ℝ) : EReal) := by
  rw [f32_pos _ 133 0 (by decide) (by decide) (by decide) (by decide) (by decide)]; congr 1; norm_num

theorem c64th : Ideal.ofBits .f32 0x3C800000#32 = ((1 / 64 : ℝ) : EReal) := by
  rw [f32_pos _ 121 0 (by decide) (by decide) (by decide) (by decide) (by decide)]; congr 1; norm_num

theorem div64 {x : EReal} (h : IsReal x) : x * Ideal.ofBits .f32 0x3C800000#32 = Ideal.div x (Ideal.ofBits .f32 0x42800000#32) := by
  obtain ⟨x, rfl⟩ := h
  rw [c64, c64th, div_coe_coe _ (by norm_num)]
  norm_cast
  ring

end Cert.Heads
end
-- ==== Proof.RwPostPure.lean ====
/- The RWKV heads' norm, bonus and output gate, backward: the arithmetic of one token row, read off the kernel's payloads and
   off the reference's terms. -/
module

public import proofs.«01_k».proof.Proof.Gen.RwPostIdeal.Frame
public import proofs.«01_k».proof.Proof.Gen.RwPostRefIdeal.Run
public import proofs.«01_k».proof.Proof.HeadFacts
public import Idealize.ShloMosaic.Lib.Pointwise

@[expose] public section

set_option maxRecDepth 16384

noncomputable section

open Idealize.ShloMosaic Idealize.ShloMosaic.TcCoe Idealize.SL.Sem

namespace Cert.RwPost

open Cert.Facts Cert.Heads

/-- One token's data: the recurrence's output, receptance, key and value and the gate; the norm's weight and bias, the bonus
    weight, the output projection's rows and the output's cotangent. -/
structure Row where
  y : Fin 512 → EReal
  r : Fin 512 → EReal
  k : Fin 512 → EReal
  v : Fin 512 → EReal
  g : Fin 512 → EReal
  lw : Fin 512 → EReal
  lb : Fin 512 → EReal
  rk : Fin 512 → EReal
  wt : Fin 512 → Fin 1024 → EReal
  ct : Fin 1024 → EReal

namespace Row
variable (R : Row)

/-- The centred head, its mean square, its inverse root, the normed head. -/
def yc (c : Fin 512) : EReal := R.y c - Ideal.div (seg R.y c) (Ideal.ofBits .f32 0x42800000#32)
def va (c : Fin 512) : EReal :=
  Ideal.div (seg (fun k => R.yc k * R.yc k) c) (Ideal.ofBits .f32 0x42800000#32) + Ideal.ofBits .f32 0x3A27C5AC#32
def rs (c : Fin 512) : EReal := Ideal.rsqrt (R.va c)
def xh (c : Fin 512) : EReal := R.yc c * R.rs c
/-- The bonus' factor, the gate's other factor, the gated row. -/
def bo (c : Fin 512) : EReal := seg (fun k => R.r k * R.k k * R.rk k) c
def pre (c : Fin 512) : EReal := R.xh c * R.lw c + R.lb c + R.bo c * R.v c
def out (c : Fin 512) : EReal := R.pre c * R.g c
/-- Cotangents: of the gated row, the gate's other factor, the bonus' factor, the normed head. -/
def go (c : Fin 512) : EReal := ∑ j, R.ct j * R.wt c j
def dd (c : Fin 512) : EReal := R.go c * R.g c
def dbo (c : Fin 512) : EReal := seg (fun k => R.dd k * R.v k) c
def dxh (c : Fin 512) : EReal := R.dd c * R.lw c
/-- What reaches the centred head through its mean square; the centred head's and the head's gradient. -/
def vi (c : Fin 512) : EReal :=
  Ideal.div (seg (fun k => R.yc k * R.dxh k) c * (Ideal.ofBits .f32 0xBF000000#32 * Ideal.div (R.rs c) (R.va c)))
    (Ideal.ofBits .f32 0x42800000#32)
def dyc (c : Fin 512) : EReal := R.dxh c * R.rs c + R.yc c * R.vi c + R.vi c * R.yc c
def dy (c : Fin 512) : EReal := R.dyc c + Ideal.div (seg (fun k => -R.dyc k) c) (Ideal.ofBits .f32 0x42800000#32)

/-- The row's numbers are real. -/
structure Reals : Prop where
  y : ∀ k, IsReal (R.y k)
  r : ∀ k, IsReal (R.r k)
  k : ∀ c, IsReal (R.k c)
  v : ∀ k, IsReal (R.v k)
  g : ∀ k, IsReal (R.g k)
  lw : ∀ k, IsReal (R.lw k)
  rk : ∀ k, IsReal (R.rk k)
  wt : ∀ k j, IsReal (R.wt k j)
  ct : ∀ j, IsReal (R.ct j)

theorem va_lane (c : Fin 512) (i : Fin 64) : R.va (col (hd c) i) = R.va c := by
  unfold va; rw [seg_lane]

namespace Reals
variable {R} (H : R.Reals)
include H

theorem div {x : EReal} (h : IsReal x) : IsReal (Ideal.div x (Ideal.ofBits .f32 0x42800000#32)) := by
  rw [c64]; exact h.div (by norm_num)

theorem yc (c : Fin 512) : IsReal (R.yc c) := (H.y c).sub (H.div (isReal_seg H.y c))

theorem va (c : Fin 512) : ∃ r : ℝ, 0 < r ∧ R.va c = (r : EReal) := by
  have e : ∃ e : ℝ, 0 < e ∧ Ideal.ofBits .f32 0x3A27C5AC#32 = (e : EReal) :=
    ⟨_, by positivity, f32_pos _ 116 2606508 (by decide) (by decide) (by decide) (by decide) (by decide)⟩
  obtain ⟨e, he, e1⟩ := e
  obtain ⟨r, hr, e2⟩ := mean_sq_pos (fun i : Fin 64 => H.yc (col (hd c) i)) (d := 64) (by norm_num) he
  exact ⟨r, hr, by rw [Row.va, c64, e1]; exact e2⟩

theorem rs (c : Fin 512) : IsReal (R.rs c) := by
  obtain ⟨r, hr, e⟩ := H.va c
  rw [Row.rs, e, rsqrt_pos hr]
  exact IsReal.coe _

theorem fac (c : Fin 512) : IsReal (Ideal.ofBits .f32 0xBF000000#32 * Ideal.div (R.rs c) (R.va c)) := by
  have n : IsReal (Ideal.ofBits .f32 0xBF000000#32) := by
    simp only [IsReal, Ideal.ofBits, Ideal.ieee]
    rw [if_neg (by decide), if_neg (by decide)]
    exact ⟨_, rfl⟩
  obtain ⟨r, hr, e⟩ := H.va c
  rw [e]
  exact n.mul ((H.rs c).div hr.ne')

theorem dd (c : Fin 512) : IsReal (R.dd c) := (IsReal.sum _ fun j => (H.ct j).mul (H.wt c j)).mul (H.g c)
theorem dxh (c : Fin 512) : IsReal (R.dxh c) := (H.dd c).mul (H.lw c)
theorem vi (c : Fin 512) : IsReal (R.vi c) := H.div ((isReal_seg (fun k => (H.yc k).mul (H.dxh k)) c).mul (H.fac c))
theorem dyc (c : Fin 512) : IsReal (R.dyc c) :=
  (((H.dxh c).mul (H.rs c)).add ((H.yc c).mul (H.vi c))).add ((H.vi c).mul (H.yc c))

/-- The factor of the mean square's gradient is the same over a head. -/
theorem seg_vi (c : Fin 512) :
    seg (fun k => R.yc k * R.dxh k * (Ideal.ofBits .f32 0xBF000000#32 * Ideal.div (R.rs k) (R.va k)) * Ideal.ofBits .f32 0x3C800000#32) c
      = R.vi c := by
  have e : seg (fun k => R.yc k * R.dxh k * (Ideal.ofBits .f32 0xBF000000#32 * Ideal.div (R.rs k) (R.va k)) * Ideal.ofBits .f32 0x3C800000#32) c
      = seg (fun k => R.yc k * R.dxh k * ((Ideal.ofBits .f32 0xBF000000#32 * Ideal.div (R.rs c) (R.va c)) * Ideal.ofBits .f32 0x3C800000#32)) c := by
    refine Finset.sum_congr rfl fun i _ => ?_
    simp only [Row.rs, R.va_lane c i, mul_assoc]
  rw [e, seg_mul (fun k => (H.yc k).mul (H.dxh k)) ((H.fac c).mul ⟨_, c64th⟩), ← mul_assoc,
    div64 ((isReal_seg (fun k => (H.yc k).mul (H.dxh k)) c).mul (H.fac c)), Row.vi]

theorem seg_dyc (c : Fin 512) :
    seg (fun k => -R.dyc k * Ideal.ofBits .f32 0x3C800000#32) c
      = Ideal.div (seg (fun k => -R.dyc k) c) (Ideal.ofBits .f32 0x42800000#32) := by
  rw [seg_mul (fun k => (H.dyc k).neg) ⟨_, c64th⟩, div64 (isReal_seg (fun k => (H.dyc k).neg) c)]

end Reals
end Row

section Kernel
open Cert.RwPostIdeal Cert.RwPostIdeal.Gen

/-- The matrix marking columns of the same head, as the kernel builds it. -/
abbrev kI := k0_pay29 (F := Idealize.ShloMosaic.Ideal) k0_pay25 (iota .tc S512x512 32 [1] iota_S512x512_d1_w32) 64#32 k0_pay26 k0_pay27 k0_pay28

theorem kI_at (a b : Fin 512) : @Eq EReal (kI (ix2 a b)) (ind a b) := by
  pointwise [kI, k0_pay29, k0_pay25, k0_pay26, k0_pay27, k0_pay28]
  exact ind_bits a b

/-- The same of the term itself. -/
theorem raw_at (a b : Fin 512) : @Eq EReal
    (k0_pay29 (F := Idealize.ShloMosaic.Ideal) k0_pay25 (iota .tc S512x512 32 [1] iota_S512x512_d1_w32) 64#32 k0_pay26 k0_pay27 k0_pay28 (ix2 a b))
    (ind a b) := kI_at a b

variable (y R Kf V : FVec Ideal S512x512 .f32) (g : FVec Ideal S512x512 .f32) (ct : FVec Ideal S512x1024 .f32)
  (lw lb rk : FVec Ideal S1x512 .f32) (wt : FVec Ideal S512x1024 .bf16)

/-- Row `r` of the kernel's blocks. -/
def K (r : Fin 512) : Row :=
  ⟨fun k => y (ix2 r k), fun k => R (ix2 r k), fun k => Kf (ix2 r k), fun k => V (ix2 r k), fun k => g (ix2 r k),
    fun k => lw (ix2 0 k), fun k => lb (ix2 0 k), fun k => rk (ix2 0 k), fun k j => wt (ix2 k j), fun j => ct (ix2 r j)⟩

/-- The kernel's pieces. -/
abbrev k30 := k0_pay30 (F := Idealize.ShloMosaic.Ideal) y k0_pay25 (iota .tc S512x512 32 [1] iota_S512x512_d1_w32) 64#32 k0_pay26 k0_pay27 k0_pay28
abbrev k31 := k0_pay31 (F := Idealize.ShloMosaic.Ideal) y k0_pay25 (iota .tc S512x512 32 [1] iota_S512x512_d1_w32) 64#32 k0_pay26 k0_pay27 k0_pay28
abbrev k32 := k0_pay32 (F := Idealize.ShloMosaic.Ideal) y k0_pay25 (iota .tc S512x512 32 [1] iota_S512x512_d1_w32) 64#32 k0_pay26 k0_pay27 k0_pay28
abbrev k33 := k0_pay33 (F := Idealize.ShloMosaic.Ideal) y k0_pay25 (iota .tc S512x512 32 [1] iota_S512x512_d1_w32) 64#32 k0_pay26 k0_pay27 k0_pay28
abbrev k34 := k0_pay34 (F := Idealize.ShloMosaic.Ideal) y k0_pay25 (iota .tc S512x512 32 [1] iota_S512x512_d1_w32) 64#32 k0_pay26 k0_pay27 k0_pay28
abbrev k35 := k0_pay35 (F := Idealize.ShloMosaic.Ideal) y lw lb k0_pay25 (iota .tc S512x512 32 [1] iota_S512x512_d1_w32) 64#32 k0_pay26 k0_pay27 k0_pay28
abbrev k36 := k0_pay36 (F := Idealize.ShloMosaic.Ideal) R Kf
abbrev k37 := k0_pay37 (F := Idealize.ShloMosaic.Ideal) R Kf rk
abbrev k38 := k0_pay38 (F := Idealize.ShloMosaic.Ideal) R Kf rk
abbrev k39 := k0_pay39 (F := Idealize.ShloMosaic.Ideal) R Kf rk k0_pay25 (iota .tc S512x512 32 [1] iota_S512x512_d1_w32) 64#32 k0_pay26 k0_pay27 k0_pay28
abbrev k40 := k0_pay40 (F := Idealize.ShloMosaic.Ideal) kI (k37 R Kf rk) (k38 R Kf rk) (k39 R Kf rk)
abbrev k41 := k0_pay41 (F := Idealize.ShloMosaic.Ideal) V kI (k35 y lw lb) (k37 R Kf rk) (k38 R Kf rk) (k39 R Kf rk)
abbrev k42 := k0_pay42 (F := Idealize.ShloMosaic.Ideal) V g kI (k35 y lw lb) (k37 R Kf rk) (k38 R Kf rk) (k39 R Kf rk)
abbrev k43 := k0_pay43 (F := Idealize.ShloMosaic.Ideal) ct wt
abbrev k44 := k0_pay44 (F := Idealize.ShloMosaic.Ideal) V ct wt kI (k35 y lw lb) (k37 R Kf rk) (k38 R Kf rk) (k39 R Kf rk)
abbrev k45 := k0_pay45 (F := Idealize.ShloMosaic.Ideal) g ct wt
abbrev k46 := k0_pay46 (F := Idealize.ShloMosaic.Ideal) g ct wt kI (k37 R Kf rk) (k38 R Kf rk) (k39 R Kf rk)
abbrev k47 := k0_pay47 (F := Idealize.ShloMosaic.Ideal) V g ct wt kI
abbrev k48 := k0_pay48 (F := Idealize.ShloMosaic.Ideal) V g ct wt kI (k36 R Kf)
abbrev k49 := k0_pay49 (F := Idealize.ShloMosaic.Ideal) V g ct rk wt kI
abbrev k50 := k0_pay50 (F := Idealize.ShloMosaic.Ideal) R V g ct rk wt kI
abbrev k51 := k0_pay51 (F := Idealize.ShloMosaic.Ideal) Kf V g ct rk wt kI
abbrev k52 := k0_pay52 (F := Idealize.ShloMosaic.Ideal) g ct wt
abbrev k53 := k0_pay53 (F := Idealize.ShloMosaic.Ideal) g ct wt (k34 y)
abbrev k54 := k0_pay54 (F := Idealize.ShloMosaic.Ideal) g ct lw wt
abbrev k55 := k0_pay55 (F := Idealize.ShloMosaic.Ideal) g ct lw wt kI (k30 y) (k33 y)
abbrev k56 := k0_pay56 (F := Idealize.ShloMosaic.Ideal) g ct lw wt kI (k30 y) (k32 y) (k33 y)
abbrev k57 := k0_pay57 (F := Idealize.ShloMosaic.Ideal) g ct lw wt kI (k30 y) (k33 y)
abbrev k58 := k0_pay58 (F := Idealize.ShloMosaic.Ideal) kI (k56 y g ct lw wt) (k57 y g ct lw wt)
abbrev k59 := k0_pay59 (F := Idealize.ShloMosaic.Ideal) ct (k42 y R Kf V g lw lb rk)

variable {y R Kf V g ct lw lb rk wt} (H : ∀ r, (K y R Kf V g ct lw lb rk wt r).Reals)
include H

theorem k30_at (r c : Fin 512) : @Eq EReal (k30 y (ix2 r c)) ((K y R Kf V g ct lw lb rk wt r).yc c) := by
  have e := (sum_two (H r).y c)
  simp only [← raw_at] at e
  pointwise [k30, k0_pay30]
  rw [Row.yc, ← div64 (isReal_seg (H r).y c), ← e]
  rfl

theorem k31_at (r c : Fin 512) : @Eq EReal (k31 y (ix2 r c)) ((K y R Kf V g ct lw lb rk wt r).va c) := by
  have e := (sum_two (fun k => ((H r).yc k).mul ((H r).yc k)) c)
  simp only [← raw_at] at e
  pointwise [k31, k0_pay31]
  simp only [k30_at H]
  rw [Row.va, ← div64 (isReal_seg (fun k => ((H r).yc k).mul ((H r).yc k)) c), ← e]
  all_goals rfl

theorem k32_at (r c : Fin 512) : @Eq EReal (k32 y (ix2 r c)) ((K y R Kf V g ct lw lb rk wt r).rs c) := by
  pointwise [k32, k0_pay32, Row.rs]
  simp only [k31_at H]

theorem k33_at (r c : Fin 512) : @Eq EReal (k33 y (ix2 r c)) (Ideal.ofBits .f32 0xBF000000#32 * Ideal.div ((K y R Kf V g ct lw lb rk wt r).rs c) ((K y R Kf V g ct lw lb rk wt r).va c)) := by
  pointwise [k33, k0_pay33]
  simp only [k31_at H, k32_at H]

theorem k34_at (r c : Fin 512) : @Eq EReal (k34 y (ix2 r c)) ((K y R Kf V g ct lw lb rk wt r).xh c) := by
  pointwise [k34, k0_pay34, Row.xh]
  simp only [k30_at H, k32_at H]

theorem k35_at (r c : Fin 512) : @Eq EReal (k35 y lw lb (ix2 r c)) ((K y R Kf V g ct lw lb rk wt r).xh c * (K y R Kf V g ct lw lb rk wt r).lw c + (K y R Kf V g ct lw lb rk wt r).lb c) := by
  pointwise [k35, k0_pay35]
  simp only [k34_at H]
  rfl

theorem k40_at (r c : Fin 512) : @Eq EReal (k40 R Kf rk (ix2 r c)) ((K y R Kf V g ct lw lb rk wt r).bo c) := by
  have e := (sum_two (fun k => (((H r).r k).mul ((H r).k k)).mul ((H r).rk k)) c)
  simp only [← raw_at] at e
  pointwise [k40, k0_pay40, k39, k0_pay39, k38, k0_pay38, k37, k0_pay37, k0_pay36, Row.bo]
  exact e

theorem k41_at (r c : Fin 512) : @Eq EReal (k41 y R Kf V lw lb rk (ix2 r c)) ((K y R Kf V g ct lw lb rk wt r).pre c) := by
  pointwise [k41, k0_pay41, Row.pre]
  simp only [k40_at H, k35_at H]
  rfl

theorem k42_at (r c : Fin 512) : @Eq EReal (k42 y R Kf V g lw lb rk (ix2 r c)) ((K y R Kf V g ct lw lb rk wt r).out c) := by
  pointwise [k42, k0_pay42, Row.out]
  simp only [k41_at H]
  rfl

omit H in
theorem k43_at (r c : Fin 512) : @Eq EReal (k43 ct wt (ix2 r c)) ((K y R Kf V g ct lw lb rk wt r).go c) := by
  pointwise [k43, k0_pay43, Row.go, K]

theorem k44_at (r c : Fin 512) : @Eq EReal (k44 y R Kf V ct lw lb rk wt (ix2 r c)) ((K y R Kf V g ct lw lb rk wt r).pre c * (K y R Kf V g ct lw lb rk wt r).go c) := by
  pointwise [k44, k0_pay44]
  simp only [k41_at H, k43_at (y := y) (R := R) (Kf := Kf) (V := V) (g := g) (lw := lw) (lb := lb) (rk := rk)]

omit H in
theorem k45_at (r c : Fin 512) : @Eq EReal (k45 g ct wt (ix2 r c)) ((K y R Kf V g ct lw lb rk wt r).dd c) := by
  pointwise [k45, k0_pay45, Row.dd]
  simp only [k43_at (y := y) (R := R) (Kf := Kf) (V := V) (g := g) (lw := lw) (lb := lb) (rk := rk)]
  rfl

theorem k46_at (r c : Fin 512) : @Eq EReal (k46 R Kf g ct rk wt (ix2 r c)) ((K y R Kf V g ct lw lb rk wt r).bo c * (K y R Kf V g ct lw lb rk wt r).dd c) := by
  pointwise [k46, k0_pay46]
  simp only [k40_at H, k45_at (y := y) (R := R) (Kf := Kf) (V := V) (lw := lw) (lb := lb) (rk := rk)]

theorem k47_at (r c : Fin 512) : @Eq EReal (k47 V g ct wt (ix2 r c)) ((K y R Kf V g ct lw lb rk wt r).dbo c) := by
  have e := (sum_two (fun k => ((H r).dd k).mul ((H r).v k)) c)
  simp only [← raw_at] at e
  pointwise [k47, k0_pay47, Row.dbo]
  simp only [k45_at (y := y) (R := R) (Kf := Kf) (V := V) (lw := lw) (lb := lb) (rk := rk)]
  exact e

theorem k48_at (c : Fin 512) : @Eq EReal (k48 R Kf V g ct wt (ix2 0 c)) (∑ r : Fin 512, (K y R Kf V g ct lw lb rk wt r).r c * (K y R Kf V g ct lw lb rk wt r).k c * (K y R Kf V g ct lw lb rk wt r).dbo c) := by
  pointwise [k48, k0_pay48, k0_pay36]
  simp only [k47_at H]
  rfl

theorem k50_at (r c : Fin 512) : @Eq EReal (k50 R V g ct rk wt (ix2 r c)) ((K y R Kf V g ct lw lb rk wt r).r c * ((K y R Kf V g ct lw lb rk wt r).dbo c * (K y R Kf V g ct lw lb rk wt r).rk c)) := by
  pointwise [k50, k0_pay50, k0_pay49]
  simp only [k47_at H]
  rfl

theorem k51_at (r c : Fin 512) : @Eq EReal (k51 Kf V g ct rk wt (ix2 r c)) ((K y R Kf V g ct lw lb rk wt r).dbo c * (K y R Kf V g ct lw lb rk wt r).rk c * (K y R Kf V g ct lw lb rk wt r).k c) := by
  pointwise [k51, k0_pay51, k0_pay49]
  simp only [k47_at H]
  rfl

omit H in
theorem k52_at (c : Fin 512) : @Eq EReal (k52 g ct wt (ix2 0 c)) (∑ r : Fin 512, (K y R Kf V g ct lw lb rk wt r).dd c) := by
  pointwise [k52, k0_pay52]
  simp only [k45_at (y := y) (R := R) (Kf := Kf) (V := V) (lw := lw) (lb := lb) (rk := rk)]

theorem k53_at (c : Fin 512) : @Eq EReal (k53 y g ct wt (ix2 0 c)) (∑ r : Fin 512, (K y R Kf V g ct lw lb rk wt r).xh c * (K y R Kf V g ct lw lb rk wt r).dd c) := by
  pointwise [k53, k0_pay53]
  simp only [k34_at H, k45_at (y := y) (R := R) (Kf := Kf) (V := V) (lw := lw) (lb := lb) (rk := rk)]

omit H in
theorem k54_at (r c : Fin 512) : @Eq EReal (k54 g ct lw wt (ix2 r c)) ((K y R Kf V g ct lw lb rk wt r).dxh c) := by
  pointwise [k54, k0_pay54, Row.dxh]
  simp only [k45_at (y := y) (R := R) (Kf := Kf) (V := V) (lw := lw) (lb := lb) (rk := rk)]
  rfl

theorem k55_at (r c : Fin 512) : @Eq EReal (k55 y g ct lw wt (ix2 r c)) ((K y R Kf V g ct lw lb rk wt r).vi c) := by
  have e := (sum_two (fun k => ((((H r).yc k).mul ((H r).dxh k)).mul ((H r).fac k)).mul ⟨_, c64th⟩) c)
  simp only [← raw_at] at e
  rw [← (H r).seg_vi c, ← e]
  pointwise [k55, k0_pay55]
  simp only [k30_at H, k33_at H, k54_at (y := y) (R := R) (Kf := Kf) (V := V) (lb := lb) (rk := rk)]
  all_goals rfl

theorem kdyc_at (r c : Fin 512) : @Eq EReal (k56 y g ct lw wt (ix2 r c) + k57 y g ct lw wt (ix2 r c)) ((K y R Kf V g ct lw lb rk wt r).dyc c) := by
  pointwise [k56, k0_pay56, k57, k0_pay57, Row.dyc]
  simp only [k30_at H, k32_at H, k55_at H, k54_at (y := y) (R := R) (Kf := Kf) (V := V) (lb := lb) (rk := rk)]

theorem k58_at (r c : Fin 512) : @Eq EReal (k58 y g ct lw wt (ix2 r c)) ((K y R Kf V g ct lw lb rk wt r).dy c) := by
  have e := (sum_two (fun k => (((H r).dyc k).neg).mul ⟨_, c64th⟩) c)
  simp only [← raw_at] at e
  rw [Row.dy, ← (H r).seg_dyc c, ← e]
  pointwise [k58, k0_pay58]
  simp only [kdyc_at H, zero_sub]
  all_goals rfl

theorem k59_at (j : Fin 512) (k : Fin 1024) : @Eq EReal (k59 y R Kf V g ct lw lb rk (ix2 j k)) (∑ r : Fin 512, (K y R Kf V g ct lw lb rk wt r).out j * (K y R Kf V g ct lw lb rk wt r).ct k) := by
  pointwise [k59, k0_pay59]
  simp only [k42_at H]
  rfl

end Kernel

section Blocks
open Cert.RwPostIdeal Cert.RwPostIdeal.Gen

/-- The heads of a block side by side, as the loads of the recurrence's output, receptance, key and value lay them. -/
abbrev catY (x : Vec Ideal S8x512x64 .f32) : FVec Ideal S512x512 .f32 :=
  k0_pay7 (F := Idealize.ShloMosaic.Ideal)
    (View.ld (Val := Elt Ideal) (e' := .f32) x (Rect.unit (s := S8x512x64) ![0, 0, 0] ![1, 512, 64] inb_S8x512x64_S1x512x64_0_0_0))
    (View.ld (Val := Elt Ideal) (e' := .f32) x (Rect.unit (s := S8x512x64) ![1, 0, 0] ![1, 512, 64] inb_S8x512x64_S1x512x64_1_0_0))
    (View.ld (Val := Elt Ideal) (e' := .f32) x (Rect.unit (s := S8x512x64) ![2, 0, 0] ![1, 512, 64] inb_S8x512x64_S1x512x64_2_0_0))
    (View.ld (Val := Elt Ideal) (e' := .f32) x (Rect.unit (s := S8x512x64) ![3, 0, 0] ![1, 512, 64] inb_S8x512x64_S1x512x64_3_0_0))
    (View.ld (Val := Elt Ideal) (e' := .f32) x (Rect.unit (s := S8x512x64) ![4, 0, 0] ![1, 512, 64] inb_S8x512x64_S1x512x64_4_0_0))
    (View.ld (Val := Elt Ideal) (e' := .f32) x (Rect.unit (s := S8x512x64) ![5, 0, 0] ![1, 512, 64] inb_S8x512x64_S1x512x64_5_0_0))
    (View.ld (Val := Elt Ideal) (e' := .f32) x (Rect.unit (s := S8x512x64) ![6, 0, 0] ![1, 512, 64] inb_S8x512x64_S1x512x64_6_0_0))
    (View.ld (Val := Elt Ideal) (e' := .f32) x (Rect.unit (s := S8x512x64) ![7, 0, 0] ![1, 512, 64] inb_S8x512x64_S1x512x64_7_0_0))

abbrev catR (x : Vec Ideal S8x512x64 .f32) : FVec Ideal S512x512 .f32 :=
  k0_pay11 (F := Idealize.ShloMosaic.Ideal)
    (k0_pay8 (F := Idealize.ShloMosaic.Ideal) (View.ld (Val := Elt Ideal) (e' := .f32) x (Rect.unit (s := S8x512x64) ![0, 0, 0] ![1, 512, 64] inb_S8x512x64_S1x512x64_0_0_0)))
    (k0_pay9 (F := Idealize.ShloMosaic.Ideal) (View.ld (Val := Elt Ideal) (e' := .f32) x (Rect.unit (s := S8x512x64) ![1, 0, 0] ![1, 512, 64] inb_S8x512x64_S1x512x64_1_0_0)))
    (k0_pay10 (F := Idealize.ShloMosaic.Ideal) (View.ld (Val := Elt Ideal) (e' := .f32) x (Rect.unit (s := S8x512x64) ![2, 0, 0] ![1, 512, 64] inb_S8x512x64_S1x512x64_2_0_0)))
    (View.ld (Val := Elt Ideal) (e' := .f32) x (Rect.unit (s := S8x512x64) ![3, 0, 0] ![1, 512, 64] inb_S8x512x64_S1x512x64_3_0_0))
    (View.ld (Val := Elt Ideal) (e' := .f32) x (Rect.unit (s := S8x512x64) ![4, 0, 0] ![1, 512, 64] inb_S8x512x64_S1x512x64_4_0_0))
    (View.ld (Val := Elt Ideal) (e' := .f32) x (Rect.unit (s := S8x512x64) ![5, 0, 0] ![1, 512, 64] inb_S8x512x64_S1x512x64_5_0_0))
    (View.ld (Val := Elt Ideal) (e' := .f32) x (Rect.unit (s := S8x512x64) ![6, 0, 0] ![1, 512, 64] inb_S8x512x64_S1x512x64_6_0_0))
    (View.ld (Val := Elt Ideal) (e' := .f32) x (Rect.unit (s := S8x512x64) ![7, 0, 0] ![1, 512, 64] inb_S8x512x64_S1x512x64_7_0_0))

abbrev catK (x : Vec Ideal S8x512x64 .f32) : FVec Ideal S512x512 .f32 :=
  k0_pay19 (F := Idealize.ShloMosaic.Ideal)
    (k0_pay12 (F := Idealize.ShloMosaic.Ideal) (View.ld (Val := Elt Ideal) (e' := .f32) x (Rect.unit (s := S8x512x64) ![0, 0, 0] ![1, 512, 64] inb_S8x512x64_S1x512x64_0_0_0)))
    (k0_pay13 (F := Idealize.ShloMosaic.Ideal) (View.ld (Val := Elt Ideal) (e' := .f32) x (Rect.unit (s := S8x512x64) ![1, 0, 0] ![1, 512, 64] inb_S8x512x64_S1x512x64_1_0_0)))
    (k0_pay14 (F := Idealize.ShloMosaic.Ideal) (View.ld (Val := Elt Ideal) (e' := .f32) x (Rect.unit (s := S8x512x64) ![2, 0, 0] ![1, 512, 64] inb_S8x512x64_S1x512x64_2_0_0)))
    (k0_pay15 (F := Idealize.ShloMosaic.Ideal) (View.ld (Val := Elt Ideal) (e' := .f32) x (Rect.unit (s := S8x512x64) ![3, 0, 0] ![1, 512, 64] inb_S8x512x64_S1x512x64_3_0_0)))
    (k0_pay16 (F := Idealize.ShloMosaic.Ideal) (View.ld (Val := Elt Ideal) (e' := .f32) x (Rect.unit (s := S8x512x64) ![4, 0, 0] ![1, 512, 64] inb_S8x512x64_S1x512x64_4_0_0)))
    (k0_pay17 (F := Idealize.ShloMosaic.Ideal) (View.ld (Val := Elt Ideal) (e' := .f32) x (Rect.unit (s := S8x512x64) ![5, 0, 0] ![1, 512, 64] inb_S8x512x64_S1x512x64_5_0_0)))
    (k0_pay18 (F := Idealize.ShloMosaic.Ideal) (View.ld (Val := Elt Ideal) (e' := .f32) x (Rect.unit (s := S8x512x64) ![6, 0, 0] ![1, 512, 64] inb_S8x512x64_S1x512x64_6_0_0)))
    (View.ld (Val := Elt Ideal) (e' := .f32) x (Rect.unit (s := S8x512x64) ![7, 0, 0] ![1, 512, 64] inb_S8x512x64_S1x512x64_7_0_0))

abbrev catV (x : Vec Ideal S8x512x64 .f32) : FVec Ideal S512x512 .f32 :=
  k0_pay20 (F := Idealize.ShloMosaic.Ideal)
    (View.ld (Val := Elt Ideal) (e' := .f32) x (Rect.unit (s := S8x512x64) ![0, 0, 0] ![1, 512, 64] inb_S8x512x64_S1x512x64_0_0_0))
    (View.ld (Val := Elt Ideal) (e' := .f32) x (Rect.unit (s := S8x512x64) ![1, 0, 0] ![1, 512, 64] inb_S8x512x64_S1x512x64_1_0_0))
    (View.ld (Val := Elt Ideal) (e' := .f32) x (Rect.unit (s := S8x512x64) ![2, 0, 0] ![1, 512, 64] inb_S8x512x64_S1x512x64_2_0_0))
    (View.ld (Val := Elt Ideal) (e' := .f32) x (Rect.unit (s := S8x512x64) ![3, 0, 0] ![1, 512, 64] inb_S8x512x64_S1x512x64_3_0_0))
    (View.ld (Val := Elt Ideal) (e' := .f32) x (Rect.unit (s := S8x512x64) ![4, 0, 0] ![1, 512, 64] inb_S8x512x64_S1x512x64_4_0_0))
    (View.ld (Val := Elt Ideal) (e' := .f32) x (Rect.unit (s := S8x512x64) ![5, 0, 0] ![1, 512, 64] inb_S8x512x64_S1x512x64_5_0_0))
    (View.ld (Val := Elt Ideal) (e' := .f32) x (Rect.unit (s := S8x512x64) ![6, 0, 0] ![1, 512, 64] inb_S8x512x64_S1x512x64_6_0_0))
    (View.ld (Val := Elt Ideal) (e' := .f32) x (Rect.unit (s := S8x512x64) ![7, 0, 0] ![1, 512, 64] inb_S8x512x64_S1x512x64_7_0_0))

/-- Going through the heads one by one ends at the column's own. -/
theorem pick (f : Fin 8 → Fin 64 → EReal) (h : Fin 8) (i : Fin 64) :
    (if h1 : (col h i).val < 64 then f 0 ⟨(col h i).val, h1⟩
    else if h2 : (col h i).val - 64 < 64 then f 1 ⟨(col h i).val - 64, h2⟩
    else if h3 : (col h i).val - 64 - 64 < 64 then f 2 ⟨(col h i).val - 64 - 64, h3⟩
    else if h4 : (col h i).val - 64 - 64 - 64 < 64 then f 3 ⟨(col h i).val - 64 - 64 - 64, h4⟩
    else if h5 : (col h i).val - 64 - 64 - 64 - 64 < 64 then f 4 ⟨(col h i).val - 64 - 64 - 64 - 64, h5⟩
    else if h6 : (col h i).val - 64 - 64 - 64 - 64 - 64 < 64 then f 5 ⟨(col h i).val - 64 - 64 - 64 - 64 - 64, h6⟩
    else if h7 : (col h i).val - 64 - 64 - 64 - 64 - 64 - 64 < 64 then f 6 ⟨(col h i).val - 64 - 64 - 64 - 64 - 64 - 64, h7⟩
    else f 7 ⟨(col h i).val - 64 - 64 - 64 - 64 - 64 - 64 - 64, by have := (col h i).isLt; omega⟩) = f h i := by
  have key : ∀ (a : Fin 8) (b : Fin 64), a.val = h.val → b.val = i.val → f a b = f h i := fun a b ha hb => by
    rw [Fin.ext ha, Fin.ext hb]
  have hc : (col h i).val = h.val * 64 + i.val := rfl
  split_ifs <;> exact key _ _ (by simp only [Fin.isValue, Fin.coe_ofNat_eq_mod]; omega) (by simp only []; omega)

theorem catY_at (x : Vec Ideal S8x512x64 .f32) (h : Fin 8) (i : Fin 64) (r : Fin 512) :
    @Eq EReal (catY x (ix2 r (col h i))) (x (ix3 h r i)) := by
  pointwise [catY, k0_pay7]
  exact pick (fun a b => x (ix3 a r b)) h i

theorem catR_at (x : Vec Ideal S8x512x64 .f32) (h : Fin 8) (i : Fin 64) (r : Fin 512) :
    @Eq EReal (catR x (ix2 r (col h i))) (x (ix3 h r i)) := by
  pointwise [catR, k0_pay11, k0_pay8, k0_pay9, k0_pay10]
  exact pick (fun a b => x (ix3 a r b)) h i

theorem catK_at (x : Vec Ideal S8x512x64 .f32) (h : Fin 8) (i : Fin 64) (r : Fin 512) :
    @Eq EReal (catK x (ix2 r (col h i))) (x (ix3 h r i)) := by
  pointwise [catK, k0_pay19, k0_pay12, k0_pay13, k0_pay14, k0_pay15, k0_pay16, k0_pay17, k0_pay18]
  exact pick (fun a b => x (ix3 a r b)) h i

theorem catV_at (x : Vec Ideal S8x512x64 .f32) (h : Fin 8) (i : Fin 64) (r : Fin 512) :
    @Eq EReal (catV x (ix2 r (col h i))) (x (ix3 h r i)) := by
  pointwise [catV, k0_pay20]
  exact pick (fun a b => x (ix3 a r b)) h i

end Blocks

section Reference
open Cert.RwPostRefIdeal Cert.RwPostRefIdeal.Gen

def WB (a8 : FVec Ideal S1024x1024 .f32) : FVec Ideal S512x1024 .f32 :=
  extractStridedSlice S512x1024 ![512, 0] a8 slices_S1024x1024_S512x1024_512_0

def YC (a0 : FVec Ideal S4096x8x64 .f32) : FVec Ideal S4096x8x64 .f32 :=
  subf a0 (broadcastInDim S4096x8x64 ![0, 1, 2] bcast_S4096x8x1_S4096x8x64_0_1_2 (Host.divf (broadcastInDim S4096x8x1 ![0, 1] bcast_S4096x8_S4096x8x1_0_1 (Host.reduceAdd a0 (constant S_ .f32 0x00000000#32) reducesTo_S4096x8x64_S4096x8_d2 h_S_)) (broadcastInDim S4096x8x1 ![] bcast_S_S4096x8x1 (constant S_ .f32 0x42800000#32))))

def VA (yc : FVec Ideal S4096x8x64 .f32) : FVec Ideal S4096x8x1 .f32 :=
  addf (Host.divf (broadcastInDim S4096x8x1 ![0, 1] bcast_S4096x8_S4096x8x1_0_1 (Host.reduceAdd (mulf yc yc) (constant S_ .f32 0x00000000#32) reducesTo_S4096x8x64_S4096x8_d2 h_S_)) (broadcastInDim S4096x8x1 ![] bcast_S_S4096x8x1 (constant S_ .f32 0x42800000#32))) (broadcastInDim S4096x8x1 ![] bcast_S_S4096x8x1 (constant S_ .f32 0x3A27C5AC#32))

def XH (yc : FVec Ideal S4096x8x64 .f32) (va : FVec Ideal S4096x8x1 .f32) : FVec Ideal S4096x512 .f32 :=
  shapeCast _ (mulf yc (broadcastInDim S4096x8x64 ![0, 1, 2] bcast_S4096x8x1_S4096x8x64_0_1_2 (Host.rsqrt va))) shapeCasts_S4096x8x64_S4096x512

def BO (a1 : FVec Ideal S4096x8x64 .f32) (a2 : FVec Ideal S4096x8x64 .f32) (a7 : FVec Ideal S8x64 .f32) : FVec Ideal S4096x8 .f32 :=
  Host.reduceAdd (mulf (mulf a1 a2) (broadcastInDim S4096x8x64 ![0, 1, 2] bcast_S1x8x64_S4096x8x64_0_1_2 (broadcastInDim S1x8x64 ![1, 2] bcast_S8x64_S1x8x64_1_2 a7))) (constant S_ .f32 0x00000000#32) reducesTo_S4096x8x64_S4096x8_d2 h_S_

def PR (a3 : FVec Ideal S4096x8x64 .f32) (a5 : FVec Ideal S512 .f32) (a6 : FVec Ideal S512 .f32) (xh : FVec Ideal S4096x512 .f32) (bo : FVec Ideal S4096x8 .f32) : FVec Ideal S4096x512 .f32 :=
  addf (addf (mulf xh (broadcastInDim S4096x512 ![0, 1] bcast_S1x512_S4096x512_0_1 (broadcastInDim S1x512 ![1] bcast_S512_S1x512_1 a5))) (broadcastInDim S4096x512 ![0, 1] bcast_S1x512_S4096x512_0_1 (broadcastInDim S1x512 ![1] bcast_S512_S1x512_1 a6))) (shapeCast _ (mulf (broadcastInDim S4096x8x64 ![0, 1, 2] bcast_S4096x8x1_S4096x8x64_0_1_2 (broadcastInDim S4096x8x1 ![0, 1] bcast_S4096x8_S4096x8x1_0_1 bo)) a3) shapeCasts_S4096x8x64_S4096x512)

def OUT (a4 : FVec Ideal S4096x512 .f32) (pr : FVec Ideal S4096x512 .f32) : FVec Ideal S4096x512 .f32 :=
  mulf pr a4

def DW (a9 : FVec Ideal S4096x1024 .f32) (out : FVec Ideal S4096x512 .f32) : FVec Ideal S512x1024 .f32 :=
  transpose S512x1024 [1, 0] (Host.dotGeneral dot_S4096x1024_S4096x512_S1024x512_0_0_1_1_n_n none a9 out) transposes_S1024x512_S512x1024_1_0

def GO (a9 : FVec Ideal S4096x1024 .f32) (wb : FVec Ideal S512x1024 .f32) : FVec Ideal S4096x512 .f32 :=
  Host.dotGeneral dot_S4096x1024_S512x1024_S4096x512_1_1_0_0_n_n none a9 wb

def DG (pr : FVec Ideal S4096x512 .f32) (go : FVec Ideal S4096x512 .f32) : FVec Ideal S4096x512 .f32 :=
  mulf pr go

def DD (a4 : FVec Ideal S4096x512 .f32) (go : FVec Ideal S4096x512 .f32) : FVec Ideal S4096x512 .f32 :=
  mulf go a4

def DBO (a3 : FVec Ideal S4096x8x64 .f32) (dd : FVec Ideal S4096x512 .f32) : FVec Ideal S4096x8 .f32 :=
  Host.reduceAdd (shapeCast _ (Host.reduceAdd (mulf (shapeCast _ dd shapeCasts_S4096x512_S4096x8x64) a3) (constant S_ .f32 0x00000000#32) reducesTo_S4096x8x64_S4096x8_d2 h_S_) shapeCasts_S4096x8_S4096x8x1) (constant S_ .f32 0x00000000#32) reducesTo_S4096x8x1_S4096x8_d2 h_S_

def DXH (a5 : FVec Ideal S512 .f32) (dd : FVec Ideal S4096x512 .f32) : FVec Ideal S4096x8x64 .f32 :=
  shapeCast _ (mulf dd (broadcastInDim S4096x512 ![0, 1] bcast_S1x512_S4096x512_0_1 (broadcastInDim S1x512 ![1] bcast_S512_S1x512_1 a5))) shapeCasts_S4096x512_S4096x8x64

def VI (yc : FVec Ideal S4096x8x64 .f32) (va : FVec Ideal S4096x8x1 .f32) (dxh : FVec Ideal S4096x8x64 .f32) : FVec Ideal S4096x8 .f32 :=
  Host.reduceAdd (Host.divf (mulf (shapeCast _ (Host.reduceAdd (mulf yc dxh) (constant S_ .f32 0x00000000#32) reducesTo_S4096x8x64_S4096x8_d2 h_S_) shapeCasts_S4096x8_S4096x8x1) (mulf (broadcastInDim S4096x8x1 ![] bcast_S_S4096x8x1 (constant S_ .f32 0xBF000000#32)) (Host.divf (Host.rsqrt va) va))) (broadcastInDim S4096x8x1 ![] bcast_S_S4096x8x1 (constant S_ .f32 0x42800000#32))) (constant S_ .f32 0x00000000#32) reducesTo_S4096x8x1_S4096x8_d2 h_S_

def DYC (yc : FVec Ideal S4096x8x64 .f32) (va : FVec Ideal S4096x8x1 .f32) (dxh : FVec Ideal S4096x8x64 .f32) (vi : FVec Ideal S4096x8 .f32) : FVec Ideal S4096x8x64 .f32 :=
  addf (addf (mulf dxh (broadcastInDim S4096x8x64 ![0, 1, 2] bcast_S4096x8x1_S4096x8x64_0_1_2 (Host.rsqrt va))) (mulf yc (broadcastInDim S4096x8x64 ![0, 1] bcast_S4096x8_S4096x8x64_0_1 vi))) (mulf (broadcastInDim S4096x8x64 ![0, 1] bcast_S4096x8_S4096x8x64_0_1 vi) yc)

def DY (dyc : FVec Ideal S4096x8x64 .f32) : FVec Ideal S8x4096x64 .f32 :=
  transpose S8x4096x64 [1, 0, 2] (addf dyc (broadcastInDim S4096x8x64 ![0, 1] bcast_S4096x8_S4096x8x64_0_1 (Host.reduceAdd (Host.divf (shapeCast _ (Host.reduceAdd (Host.negf dyc) (constant S_ .f32 0x00000000#32) reducesTo_S4096x8x64_S4096x8_d2 h_S_) shapeCasts_S4096x8_S4096x8x1) (broadcastInDim S4096x8x1 ![] bcast_S_S4096x8x1 (constant S_ .f32 0x42800000#32))) (constant S_ .f32 0x00000000#32) reducesTo_S4096x8x1_S4096x8_d2 h_S_))) transposes_S4096x8x64_S8x4096x64_1_0_2

def DR (a2 : FVec Ideal S4096x8x64 .f32) (a7 : FVec Ideal S8x64 .f32) (dbo : FVec Ideal S4096x8 .f32) : FVec Ideal S4096x512 .f32 :=
  shapeCast _ (mulf (mulf (broadcastInDim S4096x8x64 ![0, 1] bcast_S4096x8_S4096x8x64_0_1 dbo) (broadcastInDim S4096x8x64 ![0, 1, 2] bcast_S1x8x64_S4096x8x64_0_1_2 (broadcastInDim S1x8x64 ![1, 2] bcast_S8x64_S1x8x64_1_2 a7))) a2) shapeCasts_S4096x8x64_S4096x512

def DK (a1 : FVec Ideal S4096x8x64 .f32) (a7 : FVec Ideal S8x64 .f32) (dbo : FVec Ideal S4096x8 .f32) : FVec Ideal S4096x512 .f32 :=
  shapeCast _ (mulf a1 (mulf (broadcastInDim S4096x8x64 ![0, 1] bcast_S4096x8_S4096x8x64_0_1 dbo) (broadcastInDim S4096x8x64 ![0, 1, 2] bcast_S1x8x64_S4096x8x64_0_1_2 (broadcastInDim S1x8x64 ![1, 2] bcast_S8x64_S1x8x64_1_2 a7)))) shapeCasts_S4096x8x64_S4096x512

def DV (bo : FVec Ideal S4096x8 .f32) (dd : FVec Ideal S4096x512 .f32) : FVec Ideal S4096x512 .f32 :=
  shapeCast _ (mulf (broadcastInDim S4096x8x64 ![0, 1, 2] bcast_S4096x8x1_S4096x8x64_0_1_2 (broadcastInDim S4096x8x1 ![0, 1] bcast_S4096x8_S4096x8x1_0_1 bo)) (shapeCast _ dd shapeCasts_S4096x512_S4096x8x64)) shapeCasts_S4096x8x64_S4096x512

def DLW (xh : FVec Ideal S4096x512 .f32) (dd : FVec Ideal S4096x512 .f32) : FVec Ideal S1x512 .f32 :=
  shapeCast _ (Host.reduceAdd (shapeCast _ (Host.reduceAdd (mulf xh dd) (constant S_ .f32 0x00000000#32) reducesTo_S4096x512_S512_d0 h_S_) shapeCasts_S512_S1x512) (constant S_ .f32 0x00000000#32) reducesTo_S1x512_S512_d0 h_S_) shapeCasts_S512_S1x512

def DLB (dd : FVec Ideal S4096x512 .f32) : FVec Ideal S1x512 .f32 :=
  shapeCast _ (Host.reduceAdd (shapeCast _ (Host.reduceAdd dd (constant S_ .f32 0x00000000#32) reducesTo_S4096x512_S512_d0 h_S_) shapeCasts_S512_S1x512) (constant S_ .f32 0x00000000#32) reducesTo_S1x512_S512_d0 h_S_) shapeCasts_S512_S1x512

def DRK (a1 : FVec Ideal S4096x8x64 .f32) (a2 : FVec Ideal S4096x8x64 .f32) (dbo : FVec Ideal S4096x8 .f32) : FVec Ideal S1x512 .f32 :=
  shapeCast _ (Host.reduceAdd (shapeCast _ (Host.reduceAdd (mulf (mulf a1 a2) (broadcastInDim S4096x8x64 ![0, 1] bcast_S4096x8_S4096x8x64_0_1 dbo)) (constant S_ .f32 0x00000000#32) reducesTo_S4096x8x64_S8x64_d0 h_S_) shapeCasts_S8x64_S1x8x64) (constant S_ .f32 0x00000000#32) reducesTo_S1x8x64_S8x64_d0 h_S_) shapeCasts_S8x64_S1x512

variable (a0 a1 a2 a3 : FVec Ideal S4096x8x64 .f32) (a4 : FVec Ideal S4096x512 .f32) (a5 a6 : FVec Ideal S512 .f32)
  (a7 : FVec Ideal S8x64 .f32) (a8 : FVec Ideal S1024x1024 .f32) (a9 : FVec Ideal S4096x1024 .f32)

/-- Token `r` of the reference's arrays. -/
def T (r : Fin 4096) : Row :=
  ⟨fun c => a0 (ix3 r (hd c) (ln c)), fun c => a1 (ix3 r (hd c) (ln c)), fun c => a2 (ix3 r (hd c) (ln c)),
    fun c => a3 (ix3 r (hd c) (ln c)), fun c => a4 (ix2 r c), fun c => a5 (ix1 c), fun c => a6 (ix1 c),
    fun c => a7 (ix2 (hd c) (ln c)), fun c j => a8 (ix2 ⟨512 + c.val, by omega⟩ j), fun j => a9 (ix2 r j)⟩

/-- The reference's intermediate arrays and results. -/
def RYC := YC a0
def RVA := VA (RYC a0)
def RXH := XH (RYC a0) (RVA a0)
def RBO := BO a1 a2 a7
def RPR := PR a3 a5 a6 (RXH a0) (RBO a1 a2 a7)
def ROUT := OUT a4 (RPR a0 a1 a2 a3 a5 a6 a7)
def RDW := DW a9 (ROUT a0 a1 a2 a3 a4 a5 a6 a7)
def RGO := GO a9 (WB a8)
def RDG := DG (RPR a0 a1 a2 a3 a5 a6 a7) (RGO a8 a9)
def RDD := DD a4 (RGO a8 a9)
def RDBO := DBO a3 (RDD a4 a8 a9)
def RDXH := DXH a5 (RDD a4 a8 a9)
def RVI := VI (RYC a0) (RVA a0) (RDXH a4 a5 a8 a9)
def RDYC := DYC (RYC a0) (RVA a0) (RDXH a4 a5 a8 a9) (RVI a0 a4 a5 a8 a9)
def RDY := DY (RDYC a0 a4 a5 a8 a9)
def RDR := DR a2 a7 (RDBO a3 a4 a8 a9)
def RDK := DK a1 a7 (RDBO a3 a4 a8 a9)
def RDV := DV (RBO a1 a2 a7) (RDD a4 a8 a9)
def RDLW := DLW (RXH a0) (RDD a4 a8 a9)
def RDLB := DLB (RDD a4 a8 a9)
def RDRK := DRK a1 a2 (RDBO a3 a4 a8 a9)

theorem fold_hd (c : Fin 512) (p) : (⟨c.val / 64, p⟩ : Fin 8) = hd c := rfl
theorem fold_ln (c : Fin 512) (p) : (⟨c.val % 64, p⟩ : Fin 64) = ln c := rfl
theorem fold_col (h : Fin 8) (i : Fin 64) (p) : (⟨h.val * 64 + i.val, p⟩ : Fin 512) = col h i := rfl

theorem RYC_at (r h i) : @Eq EReal (RYC a0 (ix3 r h i)) ((T a0 a1 a2 a3 a4 a5 a6 a7 a8 a9 r).yc (col h i)) := by
  pointwise [RYC, YC, Row.yc, seg_col, T, hd_col, ln_col]

theorem RVA_at (r h i) (k : Fin 1) : @Eq EReal (RVA a0 (ix3 r h k)) ((T a0 a1 a2 a3 a4 a5 a6 a7 a8 a9 r).va (col h i)) := by
  pointwise [RVA, VA, Row.va, seg_col]
  simp only [RYC_at a0 a1 a2 a3 a4 a5 a6 a7 a8 a9, seg_col]

theorem RXH_at (r c) : @Eq EReal (RXH a0 (ix2 r c)) ((T a0 a1 a2 a3 a4 a5 a6 a7 a8 a9 r).xh c) := by
  have e := RVA_at a0 a1 a2 a3 a4 a5 a6 a7 a8 a9 r (hd c) (ln c) 0
  pointwise [RXH, XH, Row.xh, Row.rs]
  simp only [fold_hd, fold_ln, RYC_at a0 a1 a2 a3 a4 a5 a6 a7 a8 a9, e, col_hd_ln]

theorem RBO_at (r h i) : @Eq EReal (RBO a1 a2 a7 (ix2 r h)) ((T a0 a1 a2 a3 a4 a5 a6 a7 a8 a9 r).bo (col h i)) := by
  pointwise [RBO, BO, Row.bo, seg_col, T, hd_col, ln_col]

theorem RPR_at (r c) : @Eq EReal (RPR a0 a1 a2 a3 a5 a6 a7 (ix2 r c)) ((T a0 a1 a2 a3 a4 a5 a6 a7 a8 a9 r).pre c) := by
  have e := RBO_at a0 a1 a2 a3 a4 a5 a6 a7 a8 a9 r (hd c) (ln c)
  pointwise [RPR, PR, Row.pre]
  simp only [fold_hd, fold_ln, RXH_at a0 a1 a2 a3 a4 a5 a6 a7 a8 a9, e, col_hd_ln]
  rfl

theorem ROUT_at (r c) : @Eq EReal (ROUT a0 a1 a2 a3 a4 a5 a6 a7 (ix2 r c)) ((T a0 a1 a2 a3 a4 a5 a6 a7 a8 a9 r).out c) := by
  pointwise [ROUT, OUT, Row.out]
  simp only [RPR_at a0 a1 a2 a3 a4 a5 a6 a7 a8 a9]
  rfl

theorem RGO_at (r c) : @Eq EReal (RGO a8 a9 (ix2 r c)) ((T a0 a1 a2 a3 a4 a5 a6 a7 a8 a9 r).go c) := by
  pointwise [RGO, GO, WB, Row.go, T]

theorem RDG_at (r c) : @Eq EReal (RDG a0 a1 a2 a3 a5 a6 a7 a8 a9 (ix2 r c)) ((T a0 a1 a2 a3 a4 a5 a6 a7 a8 a9 r).pre c * (T a0 a1 a2 a3 a4 a5 a6 a7 a8 a9 r).go c) := by
  pointwise [RDG, DG]
  simp only [RPR_at a0 a1 a2 a3 a4 a5 a6 a7 a8 a9, RGO_at a0 a1 a2 a3 a4 a5 a6 a7 a8 a9]

theorem RDD_at (r c) : @Eq EReal (RDD a4 a8 a9 (ix2 r c)) ((T a0 a1 a2 a3 a4 a5 a6 a7 a8 a9 r).dd c) := by
  pointwise [RDD, DD, Row.dd]
  simp only [RGO_at a0 a1 a2 a3 a4 a5 a6 a7 a8 a9]
  rfl

theorem RDBO_at (r h i) : @Eq EReal (RDBO a3 a4 a8 a9 (ix2 r h)) ((T a0 a1 a2 a3 a4 a5 a6 a7 a8 a9 r).dbo (col h i)) := by
  pointwise [RDBO, DBO, Row.dbo, seg_col]
  simp only [RDD_at a0 a1 a2 a3 a4 a5 a6 a7 a8 a9, fold_col, T, hd_col, ln_col, Fin.sum_univ_one]

theorem RDXH_at (r h i) : @Eq EReal (RDXH a4 a5 a8 a9 (ix3 r h i)) ((T a0 a1 a2 a3 a4 a5 a6 a7 a8 a9 r).dxh (col h i)) := by
  pointwise [RDXH, DXH, Row.dxh]
  simp only [RDD_at a0 a1 a2 a3 a4 a5 a6 a7 a8 a9, fold_col, T]

theorem RVI_at (r h i) : @Eq EReal (RVI a0 a4 a5 a8 a9 (ix2 r h)) ((T a0 a1 a2 a3 a4 a5 a6 a7 a8 a9 r).vi (col h i)) := by
  have e := RVA_at a0 a1 a2 a3 a4 a5 a6 a7 a8 a9 r h i 0
  pointwise [RVI, VI, Row.vi, Row.rs, seg_col]
  simp only [RYC_at a0 a1 a2 a3 a4 a5 a6 a7 a8 a9, RDXH_at a0 a1 a2 a3 a4 a5 a6 a7 a8 a9, e, Fin.sum_univ_one]

theorem RDYC_at (r h i) : @Eq EReal (RDYC a0 a4 a5 a8 a9 (ix3 r h i)) ((T a0 a1 a2 a3 a4 a5 a6 a7 a8 a9 r).dyc (col h i)) := by
  have e := RVA_at a0 a1 a2 a3 a4 a5 a6 a7 a8 a9 r h i 0
  have f := RVI_at a0 a1 a2 a3 a4 a5 a6 a7 a8 a9 r h i
  pointwise [RDYC, DYC, Row.dyc, Row.rs]
  simp only [RYC_at a0 a1 a2 a3 a4 a5 a6 a7 a8 a9, RDXH_at a0 a1 a2 a3 a4 a5 a6 a7 a8 a9, e, f]

theorem RDY_at (r h i) : @Eq EReal (RDY a0 a4 a5 a8 a9 (ix3 h r i)) ((T a0 a1 a2 a3 a4 a5 a6 a7 a8 a9 r).dy (col h i)) := by
  pointwise [RDY, DY, Row.dy, seg_col]
  simp only [RDYC_at a0 a1 a2 a3 a4 a5 a6 a7 a8 a9, Fin.sum_univ_one]

theorem RDR_at (r c) : @Eq EReal (RDR a2 a3 a4 a7 a8 a9 (ix2 r c)) ((T a0 a1 a2 a3 a4 a5 a6 a7 a8 a9 r).dbo c * (T a0 a1 a2 a3 a4 a5 a6 a7 a8 a9 r).rk c * (T a0 a1 a2 a3 a4 a5 a6 a7 a8 a9 r).k c) := by
  have e := RDBO_at a0 a1 a2 a3 a4 a5 a6 a7 a8 a9 r (hd c) (ln c)
  pointwise [RDR, DR]
  simp only [fold_hd, fold_ln, e, col_hd_ln]
  rfl

theorem RDK_at (r c) : @Eq EReal (RDK a1 a3 a4 a7 a8 a9 (ix2 r c)) ((T a0 a1 a2 a3 a4 a5 a6 a7 a8 a9 r).r c * ((T a0 a1 a2 a3 a4 a5 a6 a7 a8 a9 r).dbo c * (T a0 a1 a2 a3 a4 a5 a6 a7 a8 a9 r).rk c)) := by
  have e := RDBO_at a0 a1 a2 a3 a4 a5 a6 a7 a8 a9 r (hd c) (ln c)
  pointwise [RDK, DK]
  simp only [fold_hd, fold_ln, e, col_hd_ln]
  rfl

theorem RDV_at (r c) : @Eq EReal (RDV a1 a2 a4 a7 a8 a9 (ix2 r c)) ((T a0 a1 a2 a3 a4 a5 a6 a7 a8 a9 r).bo c * (T a0 a1 a2 a3 a4 a5 a6 a7 a8 a9 r).dd c) := by
  have e := RBO_at a0 a1 a2 a3 a4 a5 a6 a7 a8 a9 r (hd c) (ln c)
  pointwise [RDV, DV]
  simp only [fold_hd, fold_ln, e, col_hd_ln, RDD_at a0 a1 a2 a3 a4 a5 a6 a7 a8 a9]

theorem RDLW_at (c) : @Eq EReal (RDLW a0 a4 a8 a9 (ix2 0 c)) (∑ r, (T a0 a1 a2 a3 a4 a5 a6 a7 a8 a9 r).xh c * (T a0 a1 a2 a3 a4 a5 a6 a7 a8 a9 r).dd c) := by
  pointwise [RDLW, DLW]
  simp only [RXH_at a0 a1 a2 a3 a4 a5 a6 a7 a8 a9, RDD_at a0 a1 a2 a3 a4 a5 a6 a7 a8 a9, Fin.sum_univ_one]

theorem RDLB_at (c) : @Eq EReal (RDLB a4 a8 a9 (ix2 0 c)) (∑ r, (T a0 a1 a2 a3 a4 a5 a6 a7 a8 a9 r).dd c) := by
  pointwise [RDLB, DLB]
  simp only [RDD_at a0 a1 a2 a3 a4 a5 a6 a7 a8 a9, Fin.sum_univ_one]

theorem RDRK_at (c) : @Eq EReal (RDRK a1 a2 a3 a4 a8 a9 (ix2 0 c)) (∑ r, (T a0 a1 a2 a3 a4 a5 a6 a7 a8 a9 r).r c * (T a0 a1 a2 a3 a4 a5 a6 a7 a8 a9 r).k c * (T a0 a1 a2 a3 a4 a5 a6 a7 a8 a9 r).dbo c) := by
  have e := fun r => RDBO_at a0 a1 a2 a3 a4 a5 a6 a7 a8 a9 r (hd c) (ln c)
  pointwise [RDRK, DRK]
  simp only [fold_hd, fold_ln, e, col_hd_ln, Fin.sum_univ_one]
  rfl

theorem RDW_at (c k) : @Eq EReal (RDW a0 a1 a2 a3 a4 a5 a6 a7 a9 (ix2 c k)) (∑ r, (T a0 a1 a2 a3 a4 a5 a6 a7 a8 a9 r).out c * (T a0 a1 a2 a3 a4 a5 a6 a7 a8 a9 r).ct k) := by
  pointwise [RDW, DW]
  simp only [ROUT_at a0 a1 a2 a3 a4 a5 a6 a7 a8 a9]
  exact Finset.sum_congr rfl fun r _ => mul_comm _ _

section Results
variable (m' : (ℓ : Loc nD τ sig) → Buf (Elt Ideal) ℓ) (c : Dev nD)

/-- The reference's first result is the term above, of its arguments. -/
theorem rY (h0 : m' ((c.tc : Thread nD τ).loc main_arg0) = a0)
    (h4 : m' ((c.tc : Thread nD τ).loc main_arg4) = a4)
    (h5 : m' ((c.tc : Thread nD τ).loc main_arg5) = a5)
    (h8 : m' ((c.tc : Thread nD τ).loc main_arg8) = a8)
    (h9 : m' ((c.tc : Thread nD τ).loc main_arg9) = a9) :
    Cert.RwPostRefIdeal.Value.res_main_v92 m' c = RDY a0 a4 a5 a8 a9 := by
  subst h0 h4 h5 h8 h9; rfl

end Results

end Reference
end Cert.RwPost
end
-- ==== Proof.RwPostValue.lean ====
/- The RWKV heads' norm, bonus and output gate, backward: the nine result arrays of the kernel are the reference's terms. -/
module

public import proofs.«01_k».proof.Proof.Gen.RwPostIdeal.Frame
public import proofs.«01_k».proof.Proof.RwPostPure
public import proofs.«01_k».proof.Proof.Gen.Pre_finite_rwpost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RwPost

open Cert.RwPostIdeal Cert.RwPostIdeal.Gen
open Cert.Facts Cert.Heads

variable (m : (ℓ : Loc nD τ sig) → Buf (Elt Ideal) ℓ)

/-- Every window's block index at every grid point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![0, 0]
    ∧ win0_10.index t = ![0, t.val, 0]
    ∧ win0_11.index t = ![t.val, 0]
    ∧ win0_12.index t = ![t.val, 0]
    ∧ win0_13.index t = ![t.val, 0]
    ∧ win0_14.index t = ![t.val, 0]
    ∧ win0_15.index t = ![0, 0]
    ∧ win0_16.index t = ![0, 0]
    ∧ win0_17.index t = ![0, 0]
    ∧ win0_18.index t = ![0, 0]
    ∧ t.val < 8 :=
  (by decide +kernel : ∀ t : Fin grid0.N, _)

/-- The argument arrays: the recurrence's output, receptance, key, value, the gate, the norm's weight and bias, the bonus'
    weight, the output projection, the cotangent. -/
abbrev A0 (c : Dev nD) : FVec Ideal S4096x8x64 .f32 := m ((c : Thread nD τ).loc main_arg0)
abbrev A1 (c : Dev nD) : FVec Ideal S4096x8x64 .f32 := m ((c : Thread nD τ).loc main_arg1)
abbrev A2 (c : Dev nD) : FVec Ideal S4096x8x64 .f32 := m ((c : Thread nD τ).loc main_arg2)
abbrev A3 (c : Dev nD) : FVec Ideal S4096x8x64 .f32 := m ((c : Thread nD τ).loc main_arg3)
abbrev A4 (c : Dev nD) : FVec Ideal S4096x512 .f32 := m ((c : Thread nD τ).loc main_arg4)
abbrev A5 (c : Dev nD) : FVec Ideal S512 .f32 := m ((c : Thread nD τ).loc main_arg5)
abbrev A6 (c : Dev nD) : FVec Ideal S512 .f32 := m ((c : Thread nD τ).loc main_arg6)
abbrev A7 (c : Dev nD) : FVec Ideal S8x64 .f32 := m ((c : Thread nD τ).loc main_arg7)
abbrev A8 (c : Dev nD) : FVec Ideal S1024x1024 .f32 := m ((c : Thread nD τ).loc main_arg8)
abbrev A9 (c : Dev nD) : FVec Ideal S4096x1024 .f32 := m ((c : Thread nD τ).loc main_arg9)

/-- Every argument is finite. -/
structure Finite : Prop where
  f0 : ∀ (c : Dev nD) (r : Fin 4096) (h : Fin 8) (i : Fin 64), IsReal (A0 m c (ix3 r h i))
  f1 : ∀ (c : Dev nD) (r : Fin 4096) (h : Fin 8) (i : Fin 64), IsReal (A1 m c (ix3 r h i))
  f2 : ∀ (c : Dev nD) (r : Fin 4096) (h : Fin 8) (i : Fin 64), IsReal (A2 m c (ix3 r h i))
  f3 : ∀ (c : Dev nD) (r : Fin 4096) (h : Fin 8) (i : Fin 64), IsReal (A3 m c (ix3 r h i))
  f4 : ∀ (c : Dev nD) (r : Fin 4096) (k : Fin 512), IsReal (A4 m c (ix2 r k))
  f5 : ∀ (c : Dev nD) (k : Fin 512), IsReal (A5 m c (ix1 k))
  f6 : ∀ (c : Dev nD) (k : Fin 512), IsReal (A6 m c (ix1 k))
  f7 : ∀ (c : Dev nD) (h : Fin 8) (i : Fin 64), IsReal (A7 m c (ix2 h i))
  f8 : ∀ (c : Dev nD) (r : Fin 1024) (k : Fin 1024), IsReal (A8 m c (ix2 r k))
  f9 : ∀ (c : Dev nD) (r : Fin 4096) (k : Fin 1024), IsReal (A9 m c (ix2 r k))

/-- The precondition's ten comparisons, at the arguments. -/
abbrev pf (c : Dev nD) := Cert.Pre_finite_rwpost.fn (F := Ideal) (A0 m c) (A1 m c) (A2 m c) (A3 m c) (A4 m c) (A5 m c) (A6 m c) (A7 m c) (A8 m c) (A9 m c)

theorem finite (h : ∀ c : Dev nD, (pf m c).1 = (fun _ => 1#1)
    ∧ (pf m c).2.1 = (fun _ => 1#1)
    ∧ (pf m c).2.2.1 = (fun _ => 1#1)
    ∧ (pf m c).2.2.2.1 = (fun _ => 1#1)
    ∧ (pf m c).2.2.2.2.1 = (fun _ => 1#1)
    ∧ (pf m c).2.2.2.2.2.1 = (fun _ => 1#1)
    ∧ (pf m c).2.2.2.2.2.2.1 = (fun _ => 1#1)
    ∧ (pf m c).2.2.2.2.2.2.2.1 = (fun _ => 1#1)
    ∧ (pf m c).2.2.2.2.2.2.2.2.1 = (fun _ => 1#1)
    ∧ (pf m c).2.2.2.2.2.2.2.2.2 = (fun _ => 1#1)) : Finite m where
  f0 c r q i := by
    have e := congrFun (h c).1 (ix3 r q i); pointwise [pf, Cert.Pre_finite_rwpost.fn] at e; exact real_of_abs_lt _ e
  f1 c r q i := by
    have e := congrFun (h c).2.1 (ix3 r q i); pointwise [pf, Cert.Pre_finite_rwpost.fn] at e; exact real_of_abs_lt _ e
  f2 c r q i := by
    have e := congrFun (h c).2.2.1 (ix3 r q i); pointwise [pf, Cert.Pre_finite_rwpost.fn] at e; exact real_of_abs_lt _ e
  f3 c r q i := by
    have e := congrFun (h c).2.2.2.1 (ix3 r q i); pointwise [pf, Cert.Pre_finite_rwpost.fn] at e; exact real_of_abs_lt _ e
  f4 c r k := by
    have e := congrFun (h c).2.2.2.2.1 (ix2 r k); pointwise [pf, Cert.Pre_finite_rwpost.fn] at e; exact real_of_abs_lt _ e
  f5 c k := by
    have e := congrFun (h c).2.2.2.2.2.1 (ix1 k); pointwise [pf, Cert.Pre_finite_rwpost.fn] at e; exact real_of_abs_lt _ e
  f6 c k := by
    have e := congrFun (h c).2.2.2.2.2.2.1 (ix1 k); pointwise [pf, Cert.Pre_finite_rwpost.fn] at e; exact real_of_abs_lt _ e
  f7 c q i := by
    have e := congrFun (h c).2.2.2.2.2.2.2.1 (ix2 q i); pointwise [pf, Cert.Pre_finite_rwpost.fn] at e; exact real_of_abs_lt _ e
  f8 c r k := by
    have e := congrFun (h c).2.2.2.2.2.2.2.2.1 (ix2 r k); pointwise [pf, Cert.Pre_finite_rwpost.fn] at e; exact real_of_abs_lt _ e
  f9 c r k := by
    have e := congrFun (h c).2.2.2.2.2.2.2.2.2 (ix2 r k); pointwise [pf, Cert.Pre_finite_rwpost.fn] at e; exact real_of_abs_lt _ e

/-- Row `r` of block `t`. -/
def row (t : Fin cfg0.N) (r : Fin 512) : Fin 4096 :=
  ⟨t.val * 512 + r.val, by have := (idx t).2.2.2.2.2.2.2.2.2.2.2.2.2.2.2.2.2.2.2; omega⟩

/-! The blocks the body reads, at their rows. -/

theorem b0 (c : Dev nD) (t : Fin cfg0.N) (h : Fin 8) (r : Fin 512) (i : Fin 64) : iblk m c 0 t (ix3 h r i) = A0 m c (ix3 (row t r) h i) := by
  blk_point [iblk, V, idx t, row]
theorem b1 (c : Dev nD) (t : Fin cfg0.N) (h : Fin 8) (r : Fin 512) (i : Fin 64) : iblk m c 1 t (ix3 h r i) = A1 m c (ix3 (row t r) h i) := by
  blk_point [iblk, V, idx t, row]
theorem b2 (c : Dev nD) (t : Fin cfg0.N) (h : Fin 8) (r : Fin 512) (i : Fin 64) : iblk m c 2 t (ix3 h r i) = A2 m c (ix3 (row t r) h i) := by
  blk_point [iblk, V, idx t, row]
theorem b3 (c : Dev nD) (t : Fin cfg0.N) (h : Fin 8) (r : Fin 512) (i : Fin 64) : iblk m c 3 t (ix3 h r i) = A3 m c (ix3 (row t r) h i) := by
  blk_point [iblk, V, idx t, row]
theorem b4 (c : Dev nD) (t : Fin cfg0.N) (r : Fin 512) (k : Fin 512) : iblk m c 4 t (ix2 r k) = A4 m c (ix2 (row t r) k) := by
  blk_ext [iblk, V, idx t, row]
theorem b5 (c : Dev nD) (t : Fin cfg0.N) (r : Fin 512) (k : Fin 1024) : iblk m c 5 t (ix2 r k) = A9 m c (ix2 (row t r) k) := by
  blk_ext [iblk, V, idx t, row]
theorem b6 (c : Dev nD) (t : Fin cfg0.N) (k : Fin 512) : iblk m c 6 t (ix2 0 k) = A5 m c (ix1 k) := by
  blk_point [iblk, V, idx t]
theorem b7 (c : Dev nD) (t : Fin cfg0.N) (k : Fin 512) : iblk m c 7 t (ix2 0 k) = A6 m c (ix1 k) := by
  blk_point [iblk, V, idx t]
theorem b8 (c : Dev nD) (t : Fin cfg0.N) (k : Fin 512) : iblk m c 8 t (ix2 0 k) = A7 m c (ix2 (hd k) (ln k)) := by
  blk_point [iblk, V, idx t] <;> rfl
theorem b9 (c : Dev nD) (t : Fin cfg0.N) (k : Fin 512) (j : Fin 1024) : iblk m c 9 t (ix2 k j) = A8 m c (ix2 ⟨512 + k.val, by omega⟩ j) := by
  blk_point [iblk, V, idx t]

/-- A row of the arguments. -/
abbrev tok (c : Dev nD) (r : Fin 4096) : Row := T (A0 m c) (A1 m c) (A2 m c) (A3 m c) (A4 m c) (A5 m c) (A6 m c) (A7 m c) (A8 m c) (A9 m c) r

/-- A row of the blocks at grid point `t`. -/
abbrev blkRow (c : Dev nD) (t : Fin cfg0.N) (r : Fin 512) : Row :=
  K (catY (iblk m c 0 t)) (catR (iblk m c 1 t)) (catK (iblk m c 2 t)) (catV (iblk m c 3 t)) (iblk m c 4 t) (iblk m c 5 t) (k0_pay21 (F := Ideal) (iblk m c 6 t)) (k0_pay22 (F := Ideal) (iblk m c 7 t)) (k0_pay23 (F := Ideal) (iblk m c 8 t)) (k0_pay24 (F := Ideal) (iblk m c 9 t)) r

theorem p21 (v : FVec Ideal S1x512 .f32) (k : Fin 512) : @Eq EReal (k0_pay21 (F := Ideal) v (ix2 0 k)) (v (ix2 0 k)) := by pointwise [k0_pay21]
theorem p22 (v : FVec Ideal S1x512 .f32) (k : Fin 512) : @Eq EReal (k0_pay22 (F := Ideal) v (ix2 0 k)) (v (ix2 0 k)) := by pointwise [k0_pay22]
theorem p23 (v : FVec Ideal S1x512 .f32) (k : Fin 512) : @Eq EReal (k0_pay23 (F := Ideal) v (ix2 0 k)) (v (ix2 0 k)) := by pointwise [k0_pay23]
theorem p24 (v : FVec Ideal S512x1024 .bf16) (k : Fin 512) (j : Fin 1024) : @Eq EReal (k0_pay24 (F := Ideal) v (ix2 k j)) (v (ix2 k j)) := by
  pointwise [k0_pay24]

theorem cols (x : FVec Ideal S512x512 .f32) (f : Fin 8 → Fin 64 → EReal) (r : Fin 512) (e : ∀ h i, @Eq EReal (x (ix2 r (col h i))) (f h i)) (k : Fin 512) :
    @Eq EReal (x (ix2 r k)) (f (hd k) (ln k)) := by
  have e := e (hd k) (ln k)
  rwa [col_hd_ln] at e

theorem blkRow_eq (c : Dev nD) (t : Fin cfg0.N) (r : Fin 512) : blkRow m c t r = tok m c (row t r) := by
  unfold blkRow K
  rw [funext (cols _ _ r fun h i => (catY_at _ h i r).trans (b0 m c t h r i)), funext (cols _ _ r fun h i => (catR_at _ h i r).trans (b1 m c t h r i)),
    funext (cols _ _ r fun h i => (catK_at _ h i r).trans (b2 m c t h r i)), funext (cols _ _ r fun h i => (catV_at _ h i r).trans (b3 m c t h r i)),
    funext fun k => b4 m c t r k, funext fun k => b5 m c t r k, funext fun k => (p21 _ k).trans (b6 m c t k),
    funext fun k => (p22 _ k).trans (b7 m c t k), funext fun k => (p23 _ k).trans (b8 m c t k),
    funext fun k => funext fun j => (p24 _ k j).trans (b9 m c t k j)]
  rfl

variable (h : Finite m) (c : Dev nD) (t : Fin cfg0.N)

theorem reals (h : Finite m) (r : Fin 4096) : (tok m c r).Reals :=
  ⟨fun _ => h.f0 c _ _ _, fun _ => h.f1 c _ _ _, fun _ => h.f2 c _ _ _, fun _ => h.f3 c _ _ _, fun _ => h.f4 c _ _, fun _ => h.f5 c _,
    fun _ => h.f7 c _ _, fun _ _ => h.f8 c _ _, fun _ => h.f9 c _ _⟩

theorem blkReals (h : Finite m) (r : Fin 512) : (blkRow m c t r).Reals := by
  rw [blkRow_eq]; exact reals m c h _

/-! The gradient of the recurrence's output, stored head by head. -/

/-- Stores that each write `G` at their own indices, and cover all indices, leave `G`. -/
theorem canon_eq {S : Shape} {e : EltTy} (G : S.Idx → Elt Ideal e) (y : S.Idx) : ∀ L : List (View.Piece (Elt Ideal) S e),
    (∀ p ∈ L, ∀ x, p.2 x = G (p.1.emb x)) → (∃ p ∈ L, y ∈ p.1.set) → View.canon L y = G y
  | [], _, h => by obtain ⟨_, hm, _⟩ := h; exact absurd hm List.not_mem_nil
  | p :: L, hL, h => by
    by_cases hy : y ∈ p.1.set
    · obtain ⟨r, w⟩ := p
      obtain ⟨x, rfl⟩ : ∃ x, r.emb x = y := r.exists_idx_of_mem hy
      rw [View.canon_cons_emb]
      exact hL _ List.mem_cons_self x
    · rw [View.canon_cons_of_not_mem p L hy]
      refine canon_eq G y L (fun q hq => hL q (List.mem_cons_of_mem _ hq)) ?_
      obtain ⟨q, hq, hy'⟩ := h
      rcases List.mem_cons.mp hq with rfl | hq
      · exact absurd hy' hy
      · exact ⟨q, hq, hy'⟩

/-- Index `q` of head `h`'s store. -/
theorem emb_head (h : Fin 8) (inb) (q : S1x512x64.Idx) :
    (Rect.unit (s := S8x512x64) ![h.val, 0, 0] ![1, 512, 64] inb).emb q = (ix3 h (q 1) (q 2) : S8x512x64.Idx) := by
  refine funext fun a => Fin.ext ?_
  match a with
  | 0 => show h.val + 1 * (q 0).val = h.val; have : (q 0).val < 1 := (q 0).isLt; omega
  | 1 => show 0 + 1 * (q 1).val = (q 1).val; omega
  | 2 => show 0 + 1 * (q 2).val = (q 2).val; omega

/-- A row-major block read head by head. -/
def byHead (x : FVec Ideal S512x512 .f32) : S8x512x64.Idx → Elt Ideal .f32 := fun y => x (ix2 (y 1) (col (y 0) (y 2)))

theorem byHead_at (x : FVec Ideal S512x512 .f32) (h : Fin 8) (r : Fin 512) (i : Fin 64) : @Eq EReal (byHead x (ix3 h r i)) (x (ix2 r (col h i))) := rfl

theorem byHead_emb (x : FVec Ideal S512x512 .f32) (h : Fin 8) (inb) (q : S1x512x64.Idx) :
    byHead x ((Rect.unit (s := S8x512x64) ![h.val, 0, 0] ![1, 512, 64] inb).emb q) = x (ix2 (q 1) (col h (q 2))) := by
  rw [emb_head]; rfl

variable (w : FVec Ideal S512x512 .bf16) (u v : FVec Ideal S512x512 .f32)

theorem ix_head (q : S1x512x64.Idx) : ∃ (b : Fin 512) (c : Fin 64), q = ix3 0 b c :=
  ⟨q 1, q 2, by rw [eq_ix3 q]; congr 1; exact Fin.ext (Nat.lt_one_iff.1 (q 0).isLt)⟩

theorem s0 (q : S1x512x64.Idx) : @Eq EReal (k0_pay60 (F := Ideal) w u v q) (k0_pay58 (F := Ideal) w u v (ix2 (q 1) (col 0 (q 2)))) := by
  obtain ⟨b, c, rfl⟩ := ix_head q
  pointwise [k0_pay60, col]
theorem s1 (q : S1x512x64.Idx) : @Eq EReal (k0_pay61 (F := Ideal) w u v q) (k0_pay58 (F := Ideal) w u v (ix2 (q 1) (col 1 (q 2)))) := by
  obtain ⟨b, c, rfl⟩ := ix_head q
  pointwise [k0_pay61, col]
theorem s2 (q : S1x512x64.Idx) : @Eq EReal (k0_pay62 (F := Ideal) w u v q) (k0_pay58 (F := Ideal) w u v (ix2 (q 1) (col 2 (q 2)))) := by
  obtain ⟨b, c, rfl⟩ := ix_head q
  pointwise [k0_pay62, col]
theorem s3 (q : S1x512x64.Idx) : @Eq EReal (k0_pay63 (F := Ideal) w u v q) (k0_pay58 (F := Ideal) w u v (ix2 (q 1) (col 3 (q 2)))) := by
  obtain ⟨b, c, rfl⟩ := ix_head q
  pointwise [k0_pay63, col]
theorem s4 (q : S1x512x64.Idx) : @Eq EReal (k0_pay64 (F := Ideal) w u v q) (k0_pay58 (F := Ideal) w u v (ix2 (q 1) (col 4 (q 2)))) := by
  obtain ⟨b, c, rfl⟩ := ix_head q
  pointwise [k0_pay64, col]
theorem s5 (q : S1x512x64.Idx) : @Eq EReal (k0_pay65 (F := Ideal) (k0_pay58 (F := Ideal) w u v) q) (k0_pay58 (F := Ideal) w u v (ix2 (q 1) (col 5 (q 2)))) := by
  obtain ⟨b, c, rfl⟩ := ix_head q
  pointwise [k0_pay65, col]
theorem s6 (q : S1x512x64.Idx) : @Eq EReal (k0_pay66 (F := Ideal) (k0_pay58 (F := Ideal) w u v) q) (k0_pay58 (F := Ideal) w u v (ix2 (q 1) (col 6 (q 2)))) := by
  obtain ⟨b, c, rfl⟩ := ix_head q
  pointwise [k0_pay66, col]
theorem s7 (q : S1x512x64.Idx) : @Eq EReal (k0_pay67 (F := Ideal) (k0_pay58 (F := Ideal) w u v) q) (k0_pay58 (F := Ideal) w u v (ix2 (q 1) (col 7 (q 2)))) := by
  obtain ⟨b, c, rfl⟩ := ix_head q
  pointwise [k0_pay67, col]

theorem stored (y) : View.canon (Val := Elt Ideal) (s := S8x512x64) (e := .f32) [⟨Rect.unit ![7, 0, 0] ![1, 512, 64] inb_S8x512x64_S1x512x64_7_0_0, k0_pay67 (F := Ideal) (k0_pay58 (F := Ideal) w u v)⟩,
      ⟨Rect.unit ![6, 0, 0] ![1, 512, 64] inb_S8x512x64_S1x512x64_6_0_0, k0_pay66 (F := Ideal) (k0_pay58 (F := Ideal) w u v)⟩,
      ⟨Rect.unit ![5, 0, 0] ![1, 512, 64] inb_S8x512x64_S1x512x64_5_0_0, k0_pay65 (F := Ideal) (k0_pay58 (F := Ideal) w u v)⟩,
      ⟨Rect.unit ![4, 0, 0] ![1, 512, 64] inb_S8x512x64_S1x512x64_4_0_0, k0_pay64 (F := Ideal) w u v⟩,
      ⟨Rect.unit ![3, 0, 0] ![1, 512, 64] inb_S8x512x64_S1x512x64_3_0_0, k0_pay63 (F := Ideal) w u v⟩,
      ⟨Rect.unit ![2, 0, 0] ![1, 512, 64] inb_S8x512x64_S1x512x64_2_0_0, k0_pay62 (F := Ideal) w u v⟩,
      ⟨Rect.unit ![1, 0, 0] ![1, 512, 64] inb_S8x512x64_S1x512x64_1_0_0, k0_pay61 (F := Ideal) w u v⟩,
      ⟨Rect.unit ![0, 0, 0] ![1, 512, 64] inb_S8x512x64_S1x512x64_0_0_0, k0_pay60 (F := Ideal) w u v⟩] y
    = byHead (k0_pay58 (F := Ideal) w u v) y := by
  refine canon_eq _ y _ ?_ (View.cover_of_tiledL _ ![1, 512, 64] rfl y)
  simp only [List.forall_mem_cons]
  exact ⟨fun q => (s7 w u v q).trans (byHead_emb _ 7 _ q).symm, fun q => (s6 w u v q).trans (byHead_emb _ 6 _ q).symm, fun q => (s5 w u v q).trans (byHead_emb _ 5 _ q).symm, fun q => (s4 w u v q).trans (byHead_emb _ 4 _ q).symm, fun q => (s3 w u v q).trans (byHead_emb _ 3 _ q).symm, fun q => (s2 w u v q).trans (byHead_emb _ 2 _ q).symm, fun q => (s1 w u v q).trans (byHead_emb _ 1 _ q).symm, fun q => (s0 w u v q).trans (byHead_emb _ 0 _ q).symm, fun _ h => absurd h List.not_mem_nil⟩

theorem emb10 (h : Fin 8) (r : Fin 512) (i : Fin 64) : ((cfg0.win 10).blk t).view.emb (ix3 h r i) = (ix3 h (row t r) i : S8x4096x64.Idx) := by
  blk_ext [idx t, row]

theorem point10 (h : Finite m) (y : S8x512x64.Idx) : @Eq EReal (byHead (k58 (catY (iblk m c 0 t)) (iblk m c 4 t) (iblk m c 5 t) (k0_pay21 (F := Ideal) (iblk m c 6 t)) (k0_pay24 (F := Ideal) (iblk m c 9 t))) y)
    (RDY (A0 m c) (A4 m c) (A5 m c) (A8 m c) (A9 m c) (((cfg0.win 10).blk t).view.emb y)) := by
  obtain ⟨q, r, i, rfl⟩ : ∃ (q : Fin 8) (r : Fin 512) (i : Fin 64), y = ix3 q r i := ⟨y 0, y 1, y 2, eq_ix3 y⟩
  rw [emb10]
  exact (byHead_at _ q r i).trans <| (k58_at (blkReals m c t h) r (col q i)).trans
    ((congrArg (Row.dy · (col q i)) (blkRow_eq m c t r)).trans (RDY_at (A0 m c) (A1 m c) (A2 m c) (A3 m c) (A4 m c) (A5 m c) (A6 m c) (A7 m c) (A8 m c) (A9 m c) (row t r) q i).symm)

theorem final10 (h : Finite m) (c : Dev nD) : (dats m 0 c).arrAt 10 (cfgs 0).N = RDY (A0 m c) (A4 m c) (A5 m c) (A8 m c) (A9 m c) := by
  refine (dats m 0 c).arrAt_eq_of_covers 10 _ (by decide +kernel) fun t hf y => ?_
  blk_simp; rw [after0_10]
  by_cases h0 : t.val % 8 = 0
  · rw [outsAt0_A m c t h0 h0 h0 h0]; frame_out; exact (stored _ _ _ y).trans (point10 m c t h y)
  · rw [outsAt0_B m c t h0 h0 h0 h0]; frame_out; exact (stored _ _ _ y).trans (point10 m c t h y)

/-! The receptance's gradient. -/

theorem emb11 (r : Fin 512) (k : Fin 512) : ((cfg0.win 11).blk t).view.emb (ix2 r k) = (ix2 (row t r) k : S4096x512.Idx) := by
  blk_ext [idx t, row]

theorem point11 (h : Finite m) (y) : @Eq EReal (k51 (catK (iblk m c 2 t)) (catV (iblk m c 3 t)) (iblk m c 4 t) (iblk m c 5 t) (k0_pay23 (F := Ideal) (iblk m c 8 t)) (k0_pay24 (F := Ideal) (iblk m c 9 t)) y)
    (RDR (A2 m c) (A3 m c) (A4 m c) (A7 m c) (A8 m c) (A9 m c) (((cfg0.win 11).blk t).view.emb y)) := by
  obtain ⟨r, j, rfl⟩ : ∃ (r : Fin 512) (k : Fin 512), y = ix2 r k := ⟨y 0, y 1, eq_ix2 y⟩
  rw [emb11]
  exact (k51_at (blkReals m c t h) r j).trans
    ((congrArg (fun R : Row => R.dbo j * R.rk j * R.k j) (blkRow_eq m c t r)).trans (RDR_at (A0 m c) (A1 m c) (A2 m c) (A3 m c) (A4 m c) (A5 m c) (A6 m c) (A7 m c) (A8 m c) (A9 m c) (row t r) j).symm)

theorem final11 (h : Finite m) (c : Dev nD) : (dats m 0 c).arrAt 11 (cfgs 0).N = RDR (A2 m c) (A3 m c) (A4 m c) (A7 m c) (A8 m c) (A9 m c) := by
  refine (dats m 0 c).arrAt_eq_of_covers 11 _ (by decide +kernel) fun t hf y => ?_
  blk_simp; rw [after0_11]
  by_cases h0 : t.val % 8 = 0
  · rw [outsAt0_A m c t h0 h0 h0 h0]; frame_out; exact point11 m c t h y
  · rw [outsAt0_B m c t h0 h0 h0 h0]; frame_out; exact point11 m c t h y

/-! The key's gradient. -/

theorem emb12 (r : Fin 512) (k : Fin 512) : ((cfg0.win 12).blk t).view.emb (ix2 r k) = (ix2 (row t r) k : S4096x512.Idx) := by
  blk_ext [idx t, row]

theorem point12 (h : Finite m) (y) : @Eq EReal (k50 (catR (iblk m c 1 t)) (catV (iblk m c 3 t)) (iblk m c 4 t) (iblk m c 5 t) (k0_pay23 (F := Ideal) (iblk m c 8 t)) (k0_pay24 (F := Ideal) (iblk m c 9 t)) y)
    (RDK (A1 m c) (A3 m c) (A4 m c) (A7 m c) (A8 m c) (A9 m c) (((cfg0.win 12).blk t).view.emb y)) := by
  obtain ⟨r, j, rfl⟩ : ∃ (r : Fin 512) (k : Fin 512), y = ix2 r k := ⟨y 0, y 1, eq_ix2 y⟩
  rw [emb12]
  exact (k50_at (blkReals m c t h) r j).trans
    ((congrArg (fun R : Row => R.r j * (R.dbo j * R.rk j)) (blkRow_eq m c t r)).trans (RDK_at (A0 m c) (A1 m c) (A2 m c) (A3 m c) (A4 m c) (A5 m c) (A6 m c) (A7 m c) (A8 m c) (A9 m c) (row t r) j).symm)

theorem final12 (h : Finite m) (c : Dev nD) : (dats m 0 c).arrAt 12 (cfgs 0).N = RDK (A1 m c) (A3 m c) (A4 m c) (A7 m c) (A8 m c) (A9 m c) := by
  refine (dats m 0 c).arrAt_eq_of_covers 12 _ (by decide +kernel) fun t hf y => ?_
  blk_simp; rw [after0_12]
  by_cases h0 : t.val % 8 = 0
  · rw [outsAt0_A m c t h0 h0 h0 h0]; frame_out; exact point12 m c t h y
  · rw [outsAt0_B m c t h0 h0 h0 h0]; frame_out; exact point12 m c t h y

/-! The value's gradient. -/

theorem emb13 (r : Fin 512) (k : Fin 512) : ((cfg0.win 13).blk t).view.emb (ix2 r k) = (ix2 (row t r) k : S4096x512.Idx) := by
  blk_ext [idx t, row]

theorem point13 (h : Finite m) (y) : @Eq EReal (k46 (catR (iblk m c 1 t)) (catK (iblk m c 2 t)) (iblk m c 4 t) (iblk m c 5 t) (k0_pay23 (F := Ideal) (iblk m c 8 t)) (k0_pay24 (F := Ideal) (iblk m c 9 t)) y)
    (RDV (A1 m c) (A2 m c) (A4 m c) (A7 m c) (A8 m c) (A9 m c) (((cfg0.win 13).blk t).view.emb y)) := by
  obtain ⟨r, j, rfl⟩ : ∃ (r : Fin 512) (k : Fin 512), y = ix2 r k := ⟨y 0, y 1, eq_ix2 y⟩
  rw [emb13]
  exact (k46_at (blkReals m c t h) r j).trans
    ((congrArg (fun R : Row => R.bo j * R.dd j) (blkRow_eq m c t r)).trans (RDV_at (A0 m c) (A1 m c) (A2 m c) (A3 m c) (A4 m c) (A5 m c) (A6 m c) (A7 m c) (A8 m c) (A9 m c) (row t r) j).symm)

theorem final13 (h : Finite m) (c : Dev nD) : (dats m 0 c).arrAt 13 (cfgs 0).N = RDV (A1 m c) (A2 m c) (A4 m c) (A7 m c) (A8 m c) (A9 m c) := by
  refine (dats m 0 c).arrAt_eq_of_covers 13 _ (by decide +kernel) fun t hf y => ?_
  blk_simp; rw [after0_13]
  by_cases h0 : t.val % 8 = 0
  · rw [outsAt0_A m c t h0 h0 h0 h0]; frame_out; exact point13 m c t h y
  · rw [outsAt0_B m c t h0 h0 h0 h0]; frame_out; exact point13 m c t h y

/-! The gate's gradient. -/

theorem emb14 (r : Fin 512) (k : Fin 512) : ((cfg0.win 14).blk t).view.emb (ix2 r k) = (ix2 (row t r) k : S4096x512.Idx) := by
  blk_ext [idx t, row]

theorem point14 (h : Finite m) (y) : @Eq EReal (k44 (catY (iblk m c 0 t)) (catR (iblk m c 1 t)) (catK (iblk m c 2 t)) (catV (iblk m c 3 t)) (iblk m c 5 t) (k0_pay21 (F := Ideal) (iblk m c 6 t)) (k0_pay22 (F := Ideal) (iblk m c 7 t)) (k0_pay23 (F := Ideal) (iblk m c 8 t)) (k0_pay24 (F := Ideal) (iblk m c 9 t)) y)
    (RDG (A0 m c) (A1 m c) (A2 m c) (A3 m c) (A5 m c) (A6 m c) (A7 m c) (A8 m c) (A9 m c) (((cfg0.win 14).blk t).view.emb y)) := by
  obtain ⟨r, j, rfl⟩ : ∃ (r : Fin 512) (k : Fin 512), y = ix2 r k := ⟨y 0, y 1, eq_ix2 y⟩
  rw [emb14]
  exact (k44_at (blkReals m c t h) r j).trans
    ((congrArg (fun R : Row => R.pre j * R.go j) (blkRow_eq m c t r)).trans (RDG_at (A0 m c) (A1 m c) (A2 m c) (A3 m c) (A4 m c) (A5 m c) (A6 m c) (A7 m c) (A8 m c) (A9 m c) (row t r) j).symm)

theorem final14 (h : Finite m) (c : Dev nD) : (dats m 0 c).arrAt 14 (cfgs 0).N = RDG (A0 m c) (A1 m c) (A2 m c) (A3 m c) (A5 m c) (A6 m c) (A7 m c) (A8 m c) (A9 m c) := by
  refine (dats m 0 c).arrAt_eq_of_covers 14 _ (by decide +kernel) fun t hf y => ?_
  blk_simp; rw [after0_14]
  by_cases h0 : t.val % 8 = 0
  · rw [outsAt0_A m c t h0 h0 h0 h0]; frame_out; exact point14 m c t h y
  · rw [outsAt0_B m c t h0 h0 h0 h0]; frame_out; exact point14 m c t h y

/-- A sum over all rows, block by block. -/
theorem sum_rows (f : Row → EReal) (g : Fin cfg0.N → EReal) (e : ∀ t, g t = ∑ r : Fin 512, f (blkRow m c t r)) :
    ∑ t : Fin 8, g t = ∑ r : Fin 4096, f (tok m c r) :=
  (Finset.sum_congr rfl fun t _ => (e t).trans (Finset.sum_congr rfl fun r _ => congrArg f (blkRow_eq m c t r))).trans
    (Fin.sum_univ_tiles 8 512 rfl fun r => f (tok m c r)).symm

/-- An accumulator reset at the first grid point and added to at every other holds the sum over all rows at the last. -/
theorem accum {S : Shape} (X : (n : ℕ) → n < cfg0.N → FVec Ideal S .f32) (P : Fin cfg0.N → FVec Ideal S .f32)
    (hr : ∀ t : Fin cfg0.N, t.val % 8 = 0 → ∀ j, @Eq EReal (X t.val t.isLt j) (0 + P t j))
    (hs : ∀ t : Fin cfg0.N, ¬t.val % 8 = 0 → ∀ j,
      @Eq EReal (X t.val t.isLt j) (X (t.val - 1) (Nat.lt_of_le_of_lt (Nat.sub_le _ _) t.isLt) j + P t j))
    (j : S.Idx) (f : Row → EReal) (e : ∀ t, @Eq EReal (P t j) (∑ r : Fin 512, f (blkRow m c t r))) :
    @Eq EReal (X t0_7.val t0_7.isLt j) (∑ r : Fin 4096, f (tok m c r)) := by
  refine (Pipeline.eq_sum_fin_of_reset_step_apply_last X 8 (fun _ => (0 : EReal)) P hr hs (le_of_eq N_0) t0_7 rfl j).trans ?_
  rw [zero_add]
  exact sum_rows m c f (fun t => P t j) e

theorem row_ix (j : S1x512.Idx) : ∃ k : Fin 512, j = ix2 0 k :=
  ⟨j 1, by rw [eq_ix2 j]; congr 1; exact Fin.ext (Nat.lt_one_iff.1 (j 0).isLt)⟩

/-! The norm's weight's gradient, summed over the blocks. -/

def P15 : FVec Ideal S1x512 .f32 := k53 (catY (iblk m c 0 t)) (iblk m c 4 t) (iblk m c 5 t) (k0_pay24 (F := Ideal) (iblk m c 9 t))

theorem zero15 (j) : @Eq EReal (k0_pay68 (F := Ideal) j) 0 := by
  obtain ⟨i, k, rfl⟩ : ∃ (i : Fin 1) (k : Fin 512), j = ix2 i k := ⟨j 0, j 1, eq_ix2 j⟩
  pointwise [k0_pay68]

theorem add15 (u v : FVec Ideal S1x512 .f32) (j) : @Eq EReal (k0_pay69 (F := Ideal) u v j) (v j + u j) := by
  obtain ⟨i, k, rfl⟩ : ∃ (i : Fin 1) (k : Fin 512), j = ix2 i k := ⟨j 0, j 1, eq_ix2 j⟩
  pointwise [k0_pay69]

theorem reset15 (h0 : t.val % 8 = 0) (j) : @Eq EReal ((outsAt0 m c t.val t.isLt).2.2.2.2.2.1 j) (0 + P15 m c t j) := by
  rw [outsAt0_A m c t h0 h0 h0 h0]; frame_out
  exact (add15 _ _ j).trans (congrArg (· + P15 m c t j) (zero15 j))

theorem step15 (h0 : ¬t.val % 8 = 0) (j) :
    @Eq EReal ((outsAt0 m c t.val t.isLt).2.2.2.2.2.1 j)
      ((outsAt0 m c (t.val - 1) (Nat.lt_of_le_of_lt (Nat.sub_le _ _) t.isLt)).2.2.2.2.2.1 j + P15 m c t j) := by
  rw [outsAt0_B m c t h0 h0 h0 h0]; frame_out
  exact add15 _ _ j

theorem final15 (h : Finite m) (c : Dev nD) : (dats m 0 c).arrAt 15 (cfgs 0).N = RDLW (A0 m c) (A4 m c) (A8 m c) (A9 m c) := by
  refine (dats m 0 c).arrAt_eq_of_after_last 15 t0_7 (by decide +kernel) _ fun j => ?_
  obtain ⟨k, rfl⟩ := row_ix j
  blk_simp
  rw [after0_15]
  exact (accum m c (fun n h => (outsAt0 m c n h).2.2.2.2.2.1) (P15 m c) (reset15 m c) (step15 m c) (ix2 0 k)
    (fun R => R.xh k * R.dd k) fun t => (k53_at (blkReals m c t h) k)).trans (RDLW_at (A0 m c) (A1 m c) (A2 m c) (A3 m c) (A4 m c) (A5 m c) (A6 m c) (A7 m c) (A8 m c) (A9 m c) k).symm

/-! The norm's bias' gradient, summed over the blocks. -/

def P16 : FVec Ideal S1x512 .f32 := k52 (iblk m c 4 t) (iblk m c 5 t) (k0_pay24 (F := Ideal) (iblk m c 9 t))

theorem zero16 (j) : @Eq EReal (k0_pay1 (F := Ideal) j) 0 := by
  obtain ⟨i, k, rfl⟩ : ∃ (i : Fin 1) (k : Fin 512), j = ix2 i k := ⟨j 0, j 1, eq_ix2 j⟩
  pointwise [k0_pay1]

theorem add16 (u v : FVec Ideal S1x512 .f32) (j) : @Eq EReal (k0_pay2 (F := Ideal) u v j) (v j + u j) := by
  obtain ⟨i, k, rfl⟩ : ∃ (i : Fin 1) (k : Fin 512), j = ix2 i k := ⟨j 0, j 1, eq_ix2 j⟩
  pointwise [k0_pay2]

theorem reset16 (h0 : t.val % 8 = 0) (j) : @Eq EReal ((outsAt0 m c t.val t.isLt).2.2.2.2.2.2.1 j) (0 + P16 m c t j) := by
  rw [outsAt0_A m c t h0 h0 h0 h0]; frame_out
  exact (add16 _ _ j).trans (congrArg (· + P16 m c t j) (zero16 j))

theorem step16 (h0 : ¬t.val % 8 = 0) (j) :
    @Eq EReal ((outsAt0 m c t.val t.isLt).2.2.2.2.2.2.1 j)
      ((outsAt0 m c (t.val - 1) (Nat.lt_of_le_of_lt (Nat.sub_le _ _) t.isLt)).2.2.2.2.2.2.1 j + P16 m c t j) := by
  rw [outsAt0_B m c t h0 h0 h0 h0]; frame_out
  exact add16 _ _ j

theorem final16 (h : Finite m) (c : Dev nD) : (dats m 0 c).arrAt 16 (cfgs 0).N = RDLB (A4 m c) (A8 m c) (A9 m c) := by
  refine (dats m 0 c).arrAt_eq_of_after_last 16 t0_7 (by decide +kernel) _ fun j => ?_
  obtain ⟨k, rfl⟩ := row_ix j
  blk_simp
  rw [after0_16]
  exact (accum m c (fun n h => (outsAt0 m c n h).2.2.2.2.2.2.1) (P16 m c) (reset16 m c) (step16 m c) (ix2 0 k)
    (fun R => R.dd k) fun t => (k52_at (y := (catY (iblk m c 0 t))) (R := (catR (iblk m c 1 t))) (Kf := (catK (iblk m c 2 t))) (V := (catV (iblk m c 3 t))) (lw := (k0_pay21 (F := Ideal) (iblk m c 6 t))) (lb := (k0_pay22 (F := Ideal) (iblk m c 7 t))) (rk := (k0_pay23 (F := Ideal) (iblk m c 8 t))) k)).trans (RDLB_at (A0 m c) (A1 m c) (A2 m c) (A3 m c) (A4 m c) (A5 m c) (A6 m c) (A7 m c) (A8 m c) (A9 m c) k).symm

/-! The bonus' weight's gradient, summed over the blocks. -/

def P17 : FVec Ideal S1x512 .f32 := k48 (catR (iblk m c 1 t)) (catK (iblk m c 2 t)) (catV (iblk m c 3 t)) (iblk m c 4 t) (iblk m c 5 t) (k0_pay24 (F := Ideal) (iblk m c 9 t))

theorem zero17 (j) : @Eq EReal (k0_pay3 (F := Ideal) j) 0 := by
  obtain ⟨i, k, rfl⟩ : ∃ (i : Fin 1) (k : Fin 512), j = ix2 i k := ⟨j 0, j 1, eq_ix2 j⟩
  pointwise [k0_pay3]

theorem add17 (u v : FVec Ideal S1x512 .f32) (j) : @Eq EReal (k0_pay4 (F := Ideal) u v j) (v j + u j) := by
  obtain ⟨i, k, rfl⟩ : ∃ (i : Fin 1) (k : Fin 512), j = ix2 i k := ⟨j 0, j 1, eq_ix2 j⟩
  pointwise [k0_pay4]

theorem reset17 (h0 : t.val % 8 = 0) (j) : @Eq EReal ((outsAt0 m c t.val t.isLt).2.2.2.2.2.2.2.1 j) (0 + P17 m c t j) := by
  rw [outsAt0_A m c t h0 h0 h0 h0]; frame_out
  exact (add17 _ _ j).trans (congrArg (· + P17 m c t j) (zero17 j))

theorem step17 (h0 : ¬t.val % 8 = 0) (j) :
    @Eq EReal ((outsAt0 m c t.val t.isLt).2.2.2.2.2.2.2.1 j)
      ((outsAt0 m c (t.val - 1) (Nat.lt_of_le_of_lt (Nat.sub_le _ _) t.isLt)).2.2.2.2.2.2.2.1 j + P17 m c t j) := by
  rw [outsAt0_B m c t h0 h0 h0 h0]; frame_out
  exact add17 _ _ j

theorem final17 (h : Finite m) (c : Dev nD) : (dats m 0 c).arrAt 17 (cfgs 0).N = RDRK (A1 m c) (A2 m c) (A3 m c) (A4 m c) (A8 m c) (A9 m c) := by
  refine (dats m 0 c).arrAt_eq_of_after_last 17 t0_7 (by decide +kernel) _ fun j => ?_
  obtain ⟨k, rfl⟩ := row_ix j
  blk_simp
  rw [after0_17]
  exact (accum m c (fun n h => (outsAt0 m c n h).2.2.2.2.2.2.2.1) (P17 m c) (reset17 m c) (step17 m c) (ix2 0 k)
    (fun R => R.r k * R.k k * R.dbo k) fun t => (k48_at (blkReals m c t h) k)).trans (RDRK_at (A0 m c) (A1 m c) (A2 m c) (A3 m c) (A4 m c) (A5 m c) (A6 m c) (A7 m c) (A8 m c) (A9 m c) k).symm

/-! The output projection's rows' gradient, summed over the blocks. -/

def P18 : FVec Ideal S512x1024 .f32 := k59 (catY (iblk m c 0 t)) (catR (iblk m c 1 t)) (catK (iblk m c 2 t)) (catV (iblk m c 3 t)) (iblk m c 4 t) (iblk m c 5 t) (k0_pay21 (F := Ideal) (iblk m c 6 t)) (k0_pay22 (F := Ideal) (iblk m c 7 t)) (k0_pay23 (F := Ideal) (iblk m c 8 t))

theorem zero18 (j) : @Eq EReal (k0_pay5 (F := Ideal) j) 0 := by
  obtain ⟨i, k, rfl⟩ : ∃ (i : Fin 512) (k : Fin 1024), j = ix2 i k := ⟨j 0, j 1, eq_ix2 j⟩
  pointwise [k0_pay5]

theorem add18 (u v : FVec Ideal S512x1024 .f32) (j) : @Eq EReal (k0_pay6 (F := Ideal) u v j) (v j + u j) := by
  obtain ⟨i, k, rfl⟩ : ∃ (i : Fin 512) (k : Fin 1024), j = ix2 i k := ⟨j 0, j 1, eq_ix2 j⟩
  pointwise [k0_pay6]

theorem reset18 (h0 : t.val % 8 = 0) (j) : @Eq EReal ((outsAt0 m c t.val t.isLt).2.2.2.2.2.2.2.2 j) (0 + P18 m c t j) := by
  rw [outsAt0_A m c t h0 h0 h0 h0]; frame_out
  exact (add18 _ _ j).trans (congrArg (· + P18 m c t j) (zero18 j))

theorem step18 (h0 : ¬t.val % 8 = 0) (j) :
    @Eq EReal ((outsAt0 m c t.val t.isLt).2.2.2.2.2.2.2.2 j)
      ((outsAt0 m c (t.val - 1) (Nat.lt_of_le_of_lt (Nat.sub_le _ _) t.isLt)).2.2.2.2.2.2.2.2 j + P18 m c t j) := by
  rw [outsAt0_B m c t h0 h0 h0 h0]; frame_out
  exact add18 _ _ j

theorem final18 (h : Finite m) (c : Dev nD) : (dats m 0 c).arrAt 18 (cfgs 0).N = RDW (A0 m c) (A1 m c) (A2 m c) (A3 m c) (A4 m c) (A5 m c) (A6 m c) (A7 m c) (A9 m c) := by
  refine (dats m 0 c).arrAt_eq_of_after_last 18 t0_7 (by decide +kernel) _ fun j => ?_
  obtain ⟨j, k, rfl⟩ : ∃ (i : Fin 512) (k : Fin 1024), j = ix2 i k := ⟨j 0, j 1, eq_ix2 j⟩
  blk_simp
  rw [after0_18]
  exact (accum m c (fun n h => (outsAt0 m c n h).2.2.2.2.2.2.2.2) (P18 m c) (reset18 m c) (step18 m c) (ix2 j k)
    (fun R => R.out j * R.ct k) fun t => (k59_at (blkReals m c t h) j k)).trans (RDW_at (A0 m c) (A1 m c) (A2 m c) (A3 m c) (A4 m c) (A5 m c) (A6 m c) (A7 m c) (A8 m c) (A9 m c) j k).symm

end Cert.RwPost
end
-- ==== Proof.RwPostFwdValue.lean ====
/- The RWKV heads' norm, bonus and output gate, forward: the gated rows the kernel writes are the reference's term. The
   backward call computes the same rows again on its way, so its lemmas about one token's row are used here. -/
module

public import proofs.«01_k».proof.Proof.Gen.RwPostFwdIdeal.Frame
public import proofs.«01_k».proof.Proof.Gen.RwPostFwdRefIdeal.Run
public import proofs.«01_k».proof.Proof.RwPostPure
public import proofs.«01_k».proof.Proof.RwPostValue
public import proofs.«01_k».proof.Proof.Gen.Pre_finite_rwpostfwd
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RwPostFwd

open Cert.RwPostFwdIdeal Cert.RwPostFwdIdeal.Gen
open Cert.Facts Cert.Heads
open Cert.RwPost (Row K T catY catR catK catV catY_at catR_at catK_at catV_at k42 k42_at ROUT ROUT_at cols)

section Payload
variable (y R Kf V g : FVec Ideal S512x512 .f32) (lw lb rk : FVec Ideal S1x512 .f32)

/-- The body's arithmetic is the part of the backward body that computes the gated row. -/
theorem pay_eq : k0_pay21 (F := Ideal) y R Kf V g lw lb rk k0_pay18 k0_pay19 k0_pay20 = k42 y R Kf V g lw lb rk := rfl

end Payload

variable (m : (ℓ : Loc nD τ sig) → Buf (Elt Ideal) ℓ)

theorem idx : ∀ t : Fin cfg0.N, win0_0.index t = ![0, t.val, 0] ∧ win0_1.index t = ![0, t.val, 0]
    ∧ win0_2.index t = ![0, t.val, 0] ∧ win0_3.index t = ![0, t.val, 0] ∧ win0_4.index t = ![t.val, 0]
    ∧ win0_5.index t = ![0, 0] ∧ win0_6.index t = ![0, 0] ∧ win0_7.index t = ![0, 0]
    ∧ win0_8.index t = ![t.val, 0] ∧ t.val < 8 :=
  (by decide +kernel : ∀ t : Fin grid0.N, _)

/-- The argument arrays: the recurrence's output, receptance, key, value, the gate, the norm's weight and bias, the bonus'
    weight. -/
abbrev A0 (c : Dev nD) : FVec Ideal S4096x8x64 .f32 := m ((c : Thread nD τ).loc main_arg0)
abbrev A1 (c : Dev nD) : FVec Ideal S4096x8x64 .f32 := m ((c : Thread nD τ).loc main_arg1)
abbrev A2 (c : Dev nD) : FVec Ideal S4096x8x64 .f32 := m ((c : Thread nD τ).loc main_arg2)
abbrev A3 (c : Dev nD) : FVec Ideal S4096x8x64 .f32 := m ((c : Thread nD τ).loc main_arg3)
abbrev A4 (c : Dev nD) : FVec Ideal S4096x512 .f32 := m ((c : Thread nD τ).loc main_arg4)
abbrev A5 (c : Dev nD) : FVec Ideal S512 .f32 := m ((c : Thread nD τ).loc main_arg5)
abbrev A6 (c : Dev nD) : FVec Ideal S512 .f32 := m ((c : Thread nD τ).loc main_arg6)
abbrev A7 (c : Dev nD) : FVec Ideal S8x64 .f32 := m ((c : Thread nD τ).loc main_arg7)

/-- Every argument is finite (the norm's bias need not be). -/
structure Finite : Prop where
  f0 : ∀ (c : Dev nD) (r : Fin 4096) (h : Fin 8) (i : Fin 64), IsReal (A0 m c (ix3 r h i))
  f1 : ∀ (c : Dev nD) (r : Fin 4096) (h : Fin 8) (i : Fin 64), IsReal (A1 m c (ix3 r h i))
  f2 : ∀ (c : Dev nD) (r : Fin 4096) (h : Fin 8) (i : Fin 64), IsReal (A2 m c (ix3 r h i))
  f3 : ∀ (c : Dev nD) (r : Fin 4096) (h : Fin 8) (i : Fin 64), IsReal (A3 m c (ix3 r h i))
  f4 : ∀ (c : Dev nD) (r : Fin 4096) (k : Fin 512), IsReal (A4 m c (ix2 r k))
  f5 : ∀ (c : Dev nD) (k : Fin 512), IsReal (A5 m c (ix1 k))
  f7 : ∀ (c : Dev nD) (h : Fin 8) (i : Fin 64), IsReal (A7 m c (ix2 h i))

/-- The precondition's comparisons, at the arguments. -/
abbrev pf (c : Dev nD) := Cert.Pre_finite_rwpostfwd.fn (F := Ideal) (A0 m c) (A1 m c) (A2 m c) (A3 m c) (A4 m c) (A5 m c) (A6 m c) (A7 m c)

theorem finite (h : ∀ c : Dev nD, (pf m c).1 = (fun _ => 1#1)
    ∧ (pf m c).2.1 = (fun _ => 1#1)
    ∧ (pf m c).2.2.1 = (fun _ => 1#1)
    ∧ (pf m c).2.2.2.1 = (fun _ => 1#1)
    ∧ (pf m c).2.2.2.2.1 = (fun _ => 1#1)
    ∧ (pf m c).2.2.2.2.2.1 = (fun _ => 1#1)
    ∧ (pf m c).2.2.2.2.2.2.1 = (fun _ => 1#1)
    ∧ (pf m c).2.2.2.2.2.2.2 = (fun _ => 1#1)) : Finite m where
  f0 c r q i := by
    have e := congrFun (h c).1 (ix3 r q i); pointwise [pf, Cert.Pre_finite_rwpostfwd.fn] at e; exact real_of_abs_lt _ e
  f1 c r q i := by
    have e := congrFun (h c).2.1 (ix3 r q i); pointwise [pf, Cert.Pre_finite_rwpostfwd.fn] at e; exact real_of_abs_lt _ e
  f2 c r q i := by
    have e := congrFun (h c).2.2.1 (ix3 r q i); pointwise [pf, Cert.Pre_finite_rwpostfwd.fn] at e; exact real_of_abs_lt _ e
  f3 c r q i := by
    have e := congrFun (h c).2.2.2.1 (ix3 r q i); pointwise [pf, Cert.Pre_finite_rwpostfwd.fn] at e; exact real_of_abs_lt _ e
  f4 c r k := by
    have e := congrFun (h c).2.2.2.2.1 (ix2 r k); pointwise [pf, Cert.Pre_finite_rwpostfwd.fn] at e; exact real_of_abs_lt _ e
  f5 c k := by
    have e := congrFun (h c).2.2.2.2.2.1 (ix1 k); pointwise [pf, Cert.Pre_finite_rwpostfwd.fn] at e; exact real_of_abs_lt _ e
  f7 c q i := by
    have e := congrFun (h c).2.2.2.2.2.2.2 (ix2 q i); pointwise [pf, Cert.Pre_finite_rwpostfwd.fn] at e; exact real_of_abs_lt _ e

/-- Row `r` of block `t`. -/
def row (t : Fin cfg0.N) (r : Fin 512) : Fin 4096 :=
  ⟨t.val * 512 + r.val, by have := (idx t).2.2.2.2.2.2.2.2.2; omega⟩

variable (c : Dev nD) (t : Fin cfg0.N)

theorem b0 (h : Fin 8) (r : Fin 512) (i : Fin 64) : iblk m c 0 t (ix3 h r i) = A0 m c (ix3 (row t r) h i) := by
  blk_point [iblk, V, idx t, row]
theorem b1 (h : Fin 8) (r : Fin 512) (i : Fin 64) : iblk m c 1 t (ix3 h r i) = A1 m c (ix3 (row t r) h i) := by
  blk_point [iblk, V, idx t, row]
theorem b2 (h : Fin 8) (r : Fin 512) (i : Fin 64) : iblk m c 2 t (ix3 h r i) = A2 m c (ix3 (row t r) h i) := by
  blk_point [iblk, V, idx t, row]
theorem b3 (h : Fin 8) (r : Fin 512) (i : Fin 64) : iblk m c 3 t (ix3 h r i) = A3 m c (ix3 (row t r) h i) := by
  blk_point [iblk, V, idx t, row]
theorem b4 (r k : Fin 512) : iblk m c 4 t (ix2 r k) = A4 m c (ix2 (row t r) k) := by
  blk_ext [iblk, V, idx t, row]
theorem b5 (k : Fin 512) : iblk m c 5 t (ix2 0 k) = A5 m c (ix1 k) := by
  blk_point [iblk, V, idx t]
theorem b6 (k : Fin 512) : iblk m c 6 t (ix2 0 k) = A6 m c (ix1 k) := by
  blk_point [iblk, V, idx t]
theorem b7 (k : Fin 512) : iblk m c 7 t (ix2 0 k) = A7 m c (ix2 (hd k) (ln k)) := by
  blk_point [iblk, V, idx t] <;> rfl

/-- The projection and the cotangent a backward row also has: nothing here. -/
abbrev noWt : FVec Ideal Cert.RwPostIdeal.S512x1024 .bf16 := fun _ => (0 : EReal)
abbrev noCt : FVec Ideal Cert.RwPostIdeal.S512x1024 .f32 := fun _ => (0 : EReal)
abbrev noW : FVec Ideal Cert.RwPostRefIdeal.S1024x1024 .f32 := fun _ => (0 : EReal)
abbrev noC : FVec Ideal Cert.RwPostRefIdeal.S4096x1024 .f32 := fun _ => (0 : EReal)

/-- A row of the arguments. -/
abbrev tok (c : Dev nD) (r : Fin 4096) : Row := T (A0 m c) (A1 m c) (A2 m c) (A3 m c) (A4 m c) (A5 m c) (A6 m c) (A7 m c) noW noC r

/-- A row of the blocks at grid point `t`. -/
abbrev blkRow (c : Dev nD) (t : Fin cfg0.N) (r : Fin 512) : Row :=
  K (catY (iblk m c 0 t)) (catR (iblk m c 1 t)) (catK (iblk m c 2 t)) (catV (iblk m c 3 t)) (iblk m c 4 t) noCt
    (k0_pay15 (F := Ideal) (iblk m c 5 t)) (k0_pay16 (F := Ideal) (iblk m c 6 t)) (k0_pay17 (F := Ideal) (iblk m c 7 t)) noWt r

theorem p15 (v : FVec Ideal S1x512 .f32) (k : Fin 512) : @Eq EReal (k0_pay15 (F := Ideal) v (ix2 0 k)) (v (ix2 0 k)) := by pointwise [k0_pay15]
theorem p16 (v : FVec Ideal S1x512 .f32) (k : Fin 512) : @Eq EReal (k0_pay16 (F := Ideal) v (ix2 0 k)) (v (ix2 0 k)) := by pointwise [k0_pay16]
theorem p17 (v : FVec Ideal S1x512 .f32) (k : Fin 512) : @Eq EReal (k0_pay17 (F := Ideal) v (ix2 0 k)) (v (ix2 0 k)) := by pointwise [k0_pay17]

theorem blkRow_eq (r : Fin 512) : blkRow m c t r = tok m c (row t r) := by
  unfold blkRow K
  rw [funext (cols _ _ r fun h i => (catY_at _ h i r).trans (b0 m c t h r i)), funext (cols _ _ r fun h i => (catR_at _ h i r).trans (b1 m c t h r i)),
    funext (cols _ _ r fun h i => (catK_at _ h i r).trans (b2 m c t h r i)), funext (cols _ _ r fun h i => (catV_at _ h i r).trans (b3 m c t h r i)),
    funext fun k => b4 m c t r k, funext fun k => (p15 _ k).trans (b5 m c t k), funext fun k => (p16 _ k).trans (b6 m c t k),
    funext fun k => (p17 _ k).trans (b7 m c t k)]
  rfl

theorem reals (h : Finite m) (r : Fin 4096) : (tok m c r).Reals :=
  ⟨fun _ => h.f0 c _ _ _, fun _ => h.f1 c _ _ _, fun _ => h.f2 c _ _ _, fun _ => h.f3 c _ _ _, fun _ => h.f4 c _ _, fun _ => h.f5 c _,
    fun _ => h.f7 c _ _, fun _ _ => IsReal.zero, fun _ => IsReal.zero⟩

theorem blkReals (h : Finite m) (r : Fin 512) : (blkRow m c t r).Reals := by
  rw [blkRow_eq]; exact reals m c h _

theorem emb8 (r k : Fin 512) : ((cfg0.win 8).blk t).view.emb (ix2 r k) = (ix2 (row t r) k : S4096x512.Idx) := by
  blk_ext [idx t, row]

theorem point8 (h : Finite m) (y : S512x512.Idx) :
    @Eq EReal (k42 (catY (iblk m c 0 t)) (catR (iblk m c 1 t)) (catK (iblk m c 2 t)) (catV (iblk m c 3 t)) (iblk m c 4 t)
      (k0_pay15 (F := Ideal) (iblk m c 5 t)) (k0_pay16 (F := Ideal) (iblk m c 6 t)) (k0_pay17 (F := Ideal) (iblk m c 7 t)) y)
    (ROUT (A0 m c) (A1 m c) (A2 m c) (A3 m c) (A4 m c) (A5 m c) (A6 m c) (A7 m c) (((cfg0.win 8).blk t).view.emb y)) := by
  obtain ⟨r, j, rfl⟩ : ∃ (r k : Fin 512), y = ix2 r k := ⟨y 0, y 1, eq_ix2 y⟩
  rw [emb8]
  exact (k42_at (blkReals m c t h) r j).trans
    ((congrArg (fun R : Row => R.out j) (blkRow_eq m c t r)).trans
      (ROUT_at (A0 m c) (A1 m c) (A2 m c) (A3 m c) (A4 m c) (A5 m c) (A6 m c) (A7 m c) noW noC (row t r) j).symm)

theorem final8 (h : Finite m) : (dats m 0 c).arrAt 8 (cfgs 0).N
    = ROUT (A0 m c) (A1 m c) (A2 m c) (A3 m c) (A4 m c) (A5 m c) (A6 m c) (A7 m c) := by
  refine (dats m 0 c).arrAt_eq_of_covers 8 _ (by decide +kernel) fun t hf y => ?_
  blk_simp; rw [after0_8]; unfold out0_8; frame_out
  rw [pay_eq]
  exact point8 m c t h y

end Cert.RwPostFwd
end
-- ==== Proof.InprojPure.lean ====
/- Input projection, backward: the arithmetic of one token row, read off the kernel's payloads and off the
   reference's terms. -/
module

public import proofs.«01_k».proof.Proof.Gen.KernelIdeal.Frame
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.Inproj

/-- Mean of the squares of a row, plus the norm's epsilon. -/
def ms (x : Fin 1024 → EReal) : EReal :=
  Ideal.div (∑ k, x k * x k) (Ideal.ofBits .f32 0x44800000#32) + Ideal.ofBits .f32 0x358637BD#32

/-- The part of a row's gradient that goes through the mean square. -/
def viaMs (x g d : Fin 1024 → EReal) : EReal :=
  Ideal.div ((∑ k, x k * (d k * g k)) * (Ideal.ofBits .f32 0xBF000000#32 * Ideal.div (Ideal.rsqrt (ms x)) (ms x)))
    (Ideal.ofBits .f32 0x44800000#32)

/-- Gradient of the row of `x`: the residual's cotangent and the norm's, for the normed row's cotangent `d`. -/
def dx (r x g d : Fin 1024 → EReal) (k : Fin 1024) : EReal :=
  r k + (d k * g k * Ideal.rsqrt (ms x) + x k * viaMs x g d + viaMs x g d * x k)

/-- Cotangent of the normed row: the projection's cotangent against the weights. -/
def dxn (u : Fin 512 → EReal) (z : Fin 1792 → EReal) (wu : Fin 1024 → Fin 512 → EReal) (wz : Fin 1024 → Fin 1792 → EReal)
    (k : Fin 1024) : EReal :=
  (∑ i, u i * wu k i) + ∑ i, z i * wz k i

/-- Cotangent of the shifted projection before the token shift: `d` is the shift's cotangent at the token, `n` at the
    next one. -/
def dz (d n mu : EReal) : EReal := d * (1 - mu) + n * mu

theorem one_add_top : (1 : EReal) + ⊤ = ⊤ := EReal.coe_add_top 1

/-- The reference's order of the same: `d + -(d * mu)`. -/
theorem dz_eq (d : ℝ) (mu : EReal) : (d : EReal) * (1 - mu) = d + -(d * mu) := by
  induction mu using EReal.rec with
  | bot =>
    rcases lt_trichotomy d 0 with h | h | h
    · simp [EReal.coe_mul_bot_of_neg h, EReal.coe_mul_top_of_neg h, sub_eq_add_neg, one_add_top]
    · subst h; simp
    · simp [EReal.coe_mul_bot_of_pos h, EReal.coe_mul_top_of_pos h, sub_eq_add_neg, one_add_top]
  | top =>
    rcases lt_trichotomy d 0 with h | h | h
    · simp [EReal.coe_mul_bot_of_neg h, EReal.coe_mul_top_of_neg h, sub_eq_add_neg, one_add_top]
    · subst h; simp
    · simp [EReal.coe_mul_bot_of_pos h, EReal.coe_mul_top_of_pos h, sub_eq_add_neg, one_add_top]
  | coe mu =>
    norm_cast
    ring_nf

/-- A sum over the projection's 2304 columns is a sum over its two column groups. -/
theorem sum_cols (f : Fin 2304 → EReal) :
    ∑ k, f k = (∑ i : Fin 512, f ⟨i.val, by omega⟩) + ∑ i : Fin 1792, f ⟨512 + i.val, by omega⟩ :=
  Fin.sum_univ_add (a := 512) (b := 1792) f

/-- A selection on the equality of two small counters. -/
theorem sel_eq {α : Type} (a b : Nat) (ha : a < 2 ^ 32) (hb : b < 2 ^ 32) (x y : α) :
    Scalar.select (IntOp.cmpi .eq (BitVec.ofNat 32 a) (BitVec.ofNat 32 b)) x y = if a = b then x else y := by
  have e : (BitVec.ofNat 32 a = BitVec.ofNat 32 b) ↔ a = b :=
    ⟨fun h => by
      have h' := congrArg BitVec.toNat h
      rw [BitVec.toNat_ofNat, BitVec.toNat_ofNat, Nat.mod_eq_of_lt ha, Nat.mod_eq_of_lt hb] at h'
      exact h', fun h => h ▸ rfl⟩
  by_cases h : a = b
  · subst h; simp [Scalar.select, IntOp.cmpi]
  · have h' : (BitVec.ofNat 32 a == BitVec.ofNat 32 b) = false := beq_eq_false_iff_ne.2 fun g => h (e.1 g)
    simp [Scalar.select, IntOp.cmpi, h', h]

section Kernel
open Cert.KernelIdeal Cert.KernelIdeal.Gen

theorem pay8_at (wu : FVec Ideal S1024x512 .bf16) (wz : FVec Ideal S1024x1792 .bf16) (u : FVec Ideal S512x512 .bf16)
    (z : FVec Ideal S512x1792 .bf16) (r : Fin 512) (k : Fin 1024) :
    k0_pay8 wu wz u z (ix2 r k)
      = dxn (fun i => u (ix2 r i)) (fun i => z (ix2 r i)) (fun k i => wu (ix2 k i)) (fun k i => wz (ix2 k i)) k := by
  pointwise [k0_pay8, dxn]

theorem pay12_at (x r : FVec Ideal S512x1024 .f32) (g : FVec Ideal S1x1024 .f32) (wu : FVec Ideal S1024x512 .bf16)
    (wz : FVec Ideal S1024x1792 .bf16) (u : FVec Ideal S512x512 .bf16) (z : FVec Ideal S512x1792 .bf16) (i : Fin 512) (k : Fin 1024) :
    k0_pay12 x r g wu wz u z (ix2 i k)
      = dx (fun k => r (ix2 i k)) (fun k => x (ix2 i k)) (fun k => g (ix2 0 k)) (fun k => k0_pay8 wu wz u z (ix2 i k)) k := by
  pointwise [k0_pay12, k0_pay9, k0_pay10, dx, ms, viaMs]
  simp only [Fin.sum_univ_one]

theorem pay11_at (x : FVec Ideal S512x1024 .f32) (wu : FVec Ideal S1024x512 .bf16)
    (wz : FVec Ideal S1024x1792 .bf16) (u : FVec Ideal S512x512 .bf16) (z : FVec Ideal S512x1792 .bf16) (k : Fin 1024) :
    k0_pay11 x wu wz u z (ix2 0 k)
      = ∑ i : Fin 512, x (ix2 i k) * Ideal.rsqrt (ms fun k => x (ix2 i k)) * k0_pay8 wu wz u z (ix2 i k) := by
  pointwise [k0_pay11, k0_pay9, k0_pay10, ms]

theorem pay7_at (i : grid0.Coords) (d : FVec Ideal S512x1792 .f32) (n : FVec Ideal S8x1792 .f32) (mu : FVec Ideal S1x1792 .f32)
    (r : Fin 512) (k : Fin 1792) :
    @Eq EReal (k0_pay7 (F := Idealize.ShloMosaic.Ideal) i d n mu (ix2 r k))
      (dz (d (ix2 r k)) (if r.val = 511 then (if (i 0).val = 7 then 0 else n (ix2 0 k))
          else d (ix2 ⟨(r.val + 1) % 512, Nat.mod_lt _ (by decide)⟩ k)) (mu (ix2 0 k))) := by
  have hi : (i 0).val < 8 := (i 0).isLt
  pointwise [k0_pay7, dz]
  rw [sel_eq _ _ (by omega) (by omega), show Scalar.cmpi .eq (BitVec.ofNat 32 (i 0).val) 7#32 = IntOp.cmpi .eq (BitVec.ofNat 32 (i 0).val) (BitVec.ofNat 32 7) from rfl,
    sel_eq _ _ (by omega) (by omega)]
  have e : (r.val + 512 - 511) % 512 = (r.val + 1) % 512 := by omega
  simp only [e]
  split_ifs <;> simp

end Kernel

section Reference
open Cert.ReferenceIdeal Cert.ReferenceIdeal.Gen

/-- The shift's cotangent pulled back to the projection. -/
def DZ (a3 : FVec Ideal S1792 .f32) (a6 : FVec Ideal S4096x1792 .f32) : FVec Ideal S4096x1792 .f32 :=
  addf (addf (shapeCast _ a6 shapeCasts_S4096x1792_S4096x1792) (Host.negf (mulf (shapeCast _ a6 shapeCasts_S4096x1792_S4096x1792) (broadcastInDim S4096x1792 ![0, 1] bcast_S1x1792_S4096x1792_0_1 (broadcastInDim S1x1792 ![1] bcast_S1792_S1x1792_1 a3))))) (pad S4096x1792 ![0, 0] ![1, 0] ![0, 0] (extractStridedSlice S4095x1792 ![1, 0] (mulf (shapeCast _ a6 shapeCasts_S4096x1792_S4096x1792) (broadcastInDim S4096x1792 ![0, 1] bcast_S1x1792_S4096x1792_0_1 (broadcastInDim S1x1792 ![1] bcast_S1792_S1x1792_1 a3))) slices_S4096x1792_S4095x1792_1_0) (constant S_ .f32 0x00000000#32) pads_S4095x1792_S4096x1792_010_000 h_S_)

/-- The projection's whole cotangent. -/
def DP (a5 : FVec Ideal S4096x512 .f32) (z : FVec Ideal S4096x1792 .f32) : FVec Ideal S4096x2304 .f32 :=
  addf (pad S4096x2304 ![0, 512] ![0, 0] ![0, 0] z (constant S_ .f32 0x00000000#32) pads_S4096x1792_S4096x2304_000_51200 h_S_) (pad S4096x2304 ![0, 0] ![0, 1792] ![0, 0] a5 (constant S_ .f32 0x00000000#32) pads_S4096x512_S4096x2304_000_017920 h_S_)

/-- The normed row's cotangent. -/
def DXN (a2 : FVec Ideal S1024x2304 .f32) (p : FVec Ideal S4096x2304 .f32) : FVec Ideal S4096x1024 .f32 :=
  Host.dotGeneral dot_S4096x2304_S1024x2304_S4096x1024_1_1_0_0_n_n none p a2

/-- The mean square of each row, plus epsilon. -/
def MS (a0 : FVec Ideal S4096x1024 .f32) : FVec Ideal S4096x1 .f32 :=
  addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The part of the gradient through the mean square. -/
def VIA (a0 : FVec Ideal S4096x1024 .f32) (a1 : FVec Ideal S1024 .f32) (d : FVec Ideal S4096x1024 .f32) : FVec Ideal S4096 .f32 :=
  Host.reduceAdd (Host.divf (mulf (shapeCast _ (Host.reduceAdd (mulf a0 (mulf d (broadcastInDim S4096x1024 ![0, 1] bcast_S1x1024_S4096x1024_0_1 (broadcastInDim S1x1024 ![1] bcast_S1024_S1x1024_1 a1)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (MS a0)) (MS a0)))) (broadcastInDim S4096x1 ![] bcast_S_S4096x1 (constant S_ .f32 0x44800000#32))) (constant S_ .f32 0x00000000#32) reducesTo_S4096x1_S4096_d1 h_S_

/-- The gradient of `x`. -/
def DX (a0 : FVec Ideal S4096x1024 .f32) (a1 : FVec Ideal S1024 .f32) (a4 d : FVec Ideal S4096x1024 .f32) : FVec Ideal S4096x1024 .f32 :=
  addf (addf (addf a4 (mulf (mulf d (broadcastInDim S4096x1024 ![0, 1] bcast_S1x1024_S4096x1024_0_1 (broadcastInDim S1x1024 ![1] bcast_S1024_S1x1024_1 a1))) (broadcastInDim S4096x1024 ![0, 1] bcast_S4096x1_S4096x1024_0_1 (Host.rsqrt (MS a0))))) (mulf a0 (broadcastInDim S4096x1024 ![0] bcast_S4096_S4096x1024_0 (VIA a0 a1 d)))) (mulf (broadcastInDim S4096x1024 ![0] bcast_S4096_S4096x1024_0 (VIA a0 a1 d)) a0)

/-- The gradient of the norm's weight. -/
def DN (a0 d : FVec Ideal S4096x1024 .f32) : FVec Ideal S1x1024 .f32 :=
  shapeCast _ (Host.reduceAdd (shapeCast _ (Host.reduceAdd (mulf (mulf a0 (broadcastInDim S4096x1024 ![0, 1] bcast_S4096x1_S4096x1024_0_1 (Host.rsqrt (MS a0)))) d) (constant S_ .f32 0x00000000#32) reducesTo_S4096x1024_S1024_d0 h_S_) shapeCasts_S1024_S1x1024) (constant S_ .f32 0x00000000#32) reducesTo_S1x1024_S1024_d0 h_S_) shapeCasts_S1024_S1x1024

theorem DZ_at (a3 : FVec Ideal S1792 .f32) (a6 : FVec Ideal S4096x1792 .f32) (r : Fin 4096) (k : Fin 1792)
    (h : ∃ d : ℝ, a6 (ix2 r k) = d) :
    DZ a3 a6 (ix2 r k)
      = dz (a6 (ix2 r k)) (if h : r.val < 4095 then a6 (ix2 ⟨r.val + 1, by omega⟩ k) else 0) (a3 (ix1 k)) := by
  obtain ⟨d, hd⟩ := h
  pointwise [DZ, dz]
  rw [hd, dz_eq]
  by_cases h : r.val < 4095 <;> simp [h, add_comm 1]

theorem DP_left (a5 : FVec Ideal S4096x512 .f32) (z : FVec Ideal S4096x1792 .f32) (r : Fin 4096) (k : Fin 512) :
    DP a5 z (ix2 r ⟨k.val, by omega⟩) = a5 (ix2 r k) := by
  pointwise [DP]
  simp

theorem DP_right (a5 : FVec Ideal S4096x512 .f32) (z : FVec Ideal S4096x1792 .f32) (r : Fin 4096) (k : Fin 1792) :
    DP a5 z (ix2 r ⟨512 + k.val, by omega⟩) = z (ix2 r k) := by
  pointwise [DP]

theorem DXN_at (a2 : FVec Ideal S1024x2304 .f32) (a5 : FVec Ideal S4096x512 .f32) (z : FVec Ideal S4096x1792 .f32)
    (r : Fin 4096) (k : Fin 1024) :
    DXN a2 (DP a5 z) (ix2 r k)
      = dxn (fun i => a5 (ix2 r i)) (fun i => z (ix2 r i)) (fun k i => a2 (ix2 k ⟨i.val, by omega⟩))
          (fun k i => a2 (ix2 k ⟨512 + i.val, by omega⟩)) k := by
  pointwise [DXN, dxn]
  rw [sum_cols]
  simp only [DP_left, DP_right]

theorem MS_at (a0 : FVec Ideal S4096x1024 .f32) (r : Fin 4096) :
    MS a0 (ix2 r 0) = ms (fun k => a0 (ix2 r k)) := by
  pointwise [MS, ms]

theorem DX_at (a0 : FVec Ideal S4096x1024 .f32) (a1 : FVec Ideal S1024 .f32) (a4 d : FVec Ideal S4096x1024 .f32)
    (r : Fin 4096) (k : Fin 1024) :
    DX a0 a1 a4 d (ix2 r k)
      = dx (fun k => a4 (ix2 r k)) (fun k => a0 (ix2 r k)) (fun k => a1 (ix1 k)) (fun k => d (ix2 r k)) k := by
  pointwise [DX, VIA, dx, viaMs, MS_at]
  simp only [Fin.sum_univ_one, MS_at, add_assoc]

theorem DN_at (a0 d : FVec Ideal S4096x1024 .f32) (k : Fin 1024) :
    DN a0 d (ix2 0 k) = ∑ r : Fin 4096, a0 (ix2 r k) * Ideal.rsqrt (ms fun k => a0 (ix2 r k)) * d (ix2 r k) := by
  pointwise [DN, MS_at]
  simp only [Fin.sum_univ_one, MS_at]

theorem res_dx (m' : (ℓ : Loc nD τ sig) → Buf (Elt Ideal) ℓ) (c : Dev nD) :
    Cert.ReferenceIdeal.Value.res_out0 m' c
      = DX (m' ((c.tc : Thread nD τ).loc main_arg0)) (m' ((c.tc : Thread nD τ).loc main_arg1)) (m' ((c.tc : Thread nD τ).loc main_arg4))
          (DXN (m' ((c.tc : Thread nD τ).loc main_arg2)) (DP (m' ((c.tc : Thread nD τ).loc main_arg5))
            (DZ (m' ((c.tc : Thread nD τ).loc main_arg3)) (m' ((c.tc : Thread nD τ).loc main_arg6))))) := rfl

end Reference

end Cert.Inproj
end
-- ==== Proof.FfnPure.lean ====
/- Feed-forward block, backward: the arithmetic of one token row, read off the kernel's payloads and off the
   reference's terms. -/
module

public import proofs.«01_k».proof.Proof.Gen.FfnIdeal.Frame
public import proofs.«01_k».proof.Proof.Gen.FfnRefIdeal.Run
public import proofs.«01_k».proof.Proof.InprojPure
public import proofs.«01_k».proof.Proof.RealFacts
public import Idealize.ShloMosaic.Lib.Pointwise

@[expose] public section

set_option maxRecDepth 16384

noncomputable section

open Idealize.ShloMosaic Idealize.ShloMosaic.TcCoe Idealize.SL.Sem

namespace Cert.Ffn

open Cert.Inproj (ms viaMs dx)
open Cert.Facts

/-- The normed row against a weight matrix. -/
def up (x g : Fin 1024 → EReal) (w : Fin 1024 → Fin 2816 → EReal) (j : Fin 2816) : EReal :=
  ∑ k, x k * Ideal.rsqrt (ms x) * g k * w k j

/-- The gated row's cotangent: the output's cotangent against the down projection. -/
def dm (ct : Fin 1024 → EReal) (w2 : Fin 2816 → Fin 1024 → EReal) (j : Fin 2816) : EReal := ∑ k, ct k * w2 j k

/-- The logistic function, written out. -/
def lgs (a : EReal) : EReal := Ideal.div 1 (1 + Ideal.exp (-a))

/-- Cotangent of the linear branch, for the gate `a` and the gated row's cotangent `d`. -/
def d3 (a d : EReal) : EReal := a * lgs a * d

/-- Cotangent of the gate, for `p`, the gated row's cotangent times the linear branch: silu's derivative. -/
def d1 (a p : EReal) : EReal := p * lgs a + a * p * (lgs a * (1 - lgs a))

/-- Cotangent of the normed row. -/
def dxn (u v : Fin 2816 → EReal) (w1 w3 : Fin 1024 → Fin 2816 → EReal) (k : Fin 1024) : EReal :=
  (∑ j, u j * w1 k j) + ∑ j, v j * w3 k j

theorem dxn_congr {u u' v v' : Fin 2816 → EReal} {w1 w1' w3 w3' : Fin 1024 → Fin 2816 → EReal} (hu : ∀ j, u j = u' j)
    (hv : ∀ j, v j = v' j) (h1 : ∀ k j, w1 k j = w1' k j) (h3 : ∀ k j, w3 k j = w3' k j) (k : Fin 1024) :
    dxn u v w1 w3 k = dxn u' v' w1' w3' k := by
  rw [funext hu, funext hv, funext fun k => funext (h1 k), funext fun k => funext (h3 k)]

theorem dx_congr {r r' x x' g g' d d' : Fin 1024 → EReal} (hr : ∀ k, r k = r' k) (hx : ∀ k, x k = x' k) (hg : ∀ k, g k = g' k)
    (hd : ∀ k, d k = d' k) (k : Fin 1024) : dx r x g d k = dx r' x' g' d' k := by
  rw [funext hr, funext hx, funext hg, funext hd]

/-- The quotient rule's order of silu's derivative, which the kernel uses. -/
theorem d1_quot (a p : ℝ) :
    (p : EReal) * lgs a + (0 - (0 - a * p * Ideal.div 1 ((1 + Ideal.exp (0 - (a : EReal))) * (1 + Ideal.exp (0 - (a : EReal))))) * Ideal.exp (0 - (a : EReal)))
      = d1 a p := by
  have h1 : (1 + Real.exp (-a)) ≠ 0 := by positivity
  have e2 : Ideal.div 1 ((1 + Ideal.exp (-(a : EReal))) * (1 + Ideal.exp (-(a : EReal))))
      = ((1 / ((1 + Real.exp (-a)) * (1 + Real.exp (-a))) : ℝ) : EReal) := by
    rw [← EReal.coe_neg, Ideal.exp_coe, ← EReal.coe_one, ← EReal.coe_add, ← EReal.coe_mul, div_coe_coe 1 (mul_ne_zero h1 h1)]
  simp only [zero_sub, d1, lgs]
  rw [sig_coe, e2, ← EReal.coe_neg, Ideal.exp_coe]
  rw [← EReal.coe_one]
  norm_cast
  field_simp
  ring

theorem isReal_up {x g : Fin 1024 → EReal} {w : Fin 1024 → Fin 2816 → EReal} (hx : ∀ k, IsReal (x k)) (hg : ∀ k, IsReal (g k))
    (hw : ∀ k j, IsReal (w k j)) (j : Fin 2816) : IsReal (up x g w j) := by
  obtain ⟨e, he, e1⟩ := eps6
  obtain ⟨r, hr, e2⟩ := mean_sq_pos hx (d := 1024) (by norm_num) he
  have h : IsReal (Ideal.rsqrt (ms x)) := by
    rw [ms, c1024, e1, e2, rsqrt_pos hr]; exact IsReal.coe _
  exact IsReal.sum _ fun k => (((hx k).mul h).mul (hg k)).mul (hw k j)

theorem isReal_dm {ct : Fin 1024 → EReal} {w2 : Fin 2816 → Fin 1024 → EReal} (hc : ∀ k, IsReal (ct k)) (hw : ∀ j k, IsReal (w2 j k))
    (j : Fin 2816) : IsReal (dm ct w2 j) := IsReal.sum _ fun k => (hc k).mul (hw j k)

section Kernel
open Cert.FfnIdeal Cert.FfnIdeal.Gen

theorem pay8_at (ct : FVec Ideal S256x1024 .f32) (w2 : FVec Ideal S2816x1024 .bf16) (r : Fin 256) (j : Fin 2816) :
    @Eq EReal (k0_pay8 (F := Idealize.ShloMosaic.Ideal) ct w2 (ix2 r j)) (dm (fun k => ct (ix2 r k)) (fun j k => w2 (ix2 j k)) j) := by
  pointwise [k0_pay8, dm]

theorem pay13_at (ct : FVec Ideal S256x1024 .f32) (a : FVec Ideal S256x2816 .bf16) (w2 : FVec Ideal S2816x1024 .bf16) (r : Fin 256) (j : Fin 2816) :
    @Eq EReal (k0_pay13 (F := Idealize.ShloMosaic.Ideal) ct a w2 (ix2 r j)) (d3 (a (ix2 r j)) (k0_pay8 (F := Idealize.ShloMosaic.Ideal) ct w2 (ix2 r j))) := by
  pointwise [k0_pay13, k0_pay12, k0_pay11, k0_pay10, k0_pay9, d3, lgs]
  simp only [zero_sub]

theorem pay17_at (ct : FVec Ideal S256x1024 .f32) (a b : FVec Ideal S256x2816 .bf16) (w2 : FVec Ideal S2816x1024 .bf16) (r : Fin 256) (j : Fin 2816)
    (ha : IsReal (a (ix2 r j))) (hb : IsReal (b (ix2 r j))) (hd : IsReal (k0_pay8 (F := Idealize.ShloMosaic.Ideal) ct w2 (ix2 r j))) :
    @Eq EReal (k0_pay17 (F := Idealize.ShloMosaic.Ideal) (k0_pay10 a) (k0_pay15 ct a b w2) (k0_pay16 ct a b w2) (Scalar.ofBits .f32 0x00000000#32) (ix2 r j))
      (d1 (a (ix2 r j)) (k0_pay8 (F := Idealize.ShloMosaic.Ideal) ct w2 (ix2 r j) * b (ix2 r j))) := by
  obtain ⟨x, hx⟩ := ha
  obtain ⟨p, hp⟩ := hd.mul hb
  pointwise [k0_pay17, k0_pay16, k0_pay15, k0_pay14, k0_pay12, k0_pay11, k0_pay10, k0_pay9]
  rw [hx, hp, ← d1_quot, lgs]
  simp only [mul_one, zero_sub]

theorem pay18_at (w1 w3 : FVec Ideal S1024x2816 .bf16) (e v a p : FVec Ideal S256x2816 .f32) (z : Ideal .f32) (r : Fin 256) (k : Fin 1024) :
    k0_pay18 w1 w3 e v a p z (ix2 r k)
      = dxn (fun j => k0_pay17 e a p z (ix2 r j)) (fun j => v (ix2 r j)) (fun k j => w1 (ix2 k j)) (fun k j => w3 (ix2 k j)) k := by
  pointwise [k0_pay18, dxn]

theorem pay22_at (x ct : FVec Ideal S256x1024 .f32) (g : FVec Ideal S1x1024 .f32) (w1 w3 : FVec Ideal S1024x2816 .bf16)
    (e v a p : FVec Ideal S256x2816 .f32) (z : Ideal .f32) (r : Fin 256) (k : Fin 1024) :
    k0_pay22 x ct g w1 w3 e v a p z (ix2 r k)
      = dx (fun k => ct (ix2 r k)) (fun k => x (ix2 r k)) (fun k => g (ix2 0 k)) (fun k => k0_pay18 w1 w3 e v a p z (ix2 r k)) k := by
  pointwise [k0_pay22, k0_pay20, k0_pay19, dx, ms, viaMs]
  simp only [Fin.sum_univ_one]

theorem pay21_at (x : FVec Ideal S256x1024 .f32) (w1 w3 : FVec Ideal S1024x2816 .bf16)
    (e v a p : FVec Ideal S256x2816 .f32) (z : Ideal .f32) (k : Fin 1024) :
    k0_pay21 x w1 w3 e v a p z (ix2 0 k)
      = ∑ i : Fin 256, x (ix2 i k) * Ideal.rsqrt (ms fun k => x (ix2 i k)) * k0_pay18 w1 w3 e v a p z (ix2 i k) := by
  pointwise [k0_pay21, k0_pay20, k0_pay19, ms]

end Kernel

section Reference
open Cert.FfnRefIdeal Cert.FfnRefIdeal.Gen

def MS (a0 : FVec Ideal S4096x1024 .f32) : FVec Ideal S4096x1 .f32 :=
  addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

def HN (a0 : FVec Ideal S4096x1024 .f32) (a1 : FVec Ideal S1024 .f32) (ms : FVec Ideal S4096x1 .f32) : FVec Ideal S4096x1024 .f32 :=
  mulf (mulf a0 (broadcastInDim S4096x1024 ![0, 1] bcast_S4096x1_S4096x1024_0_1 (Host.rsqrt ms))) (broadcastInDim S4096x1024 ![0, 1] bcast_S1x1024_S4096x1024_0_1 (broadcastInDim S1x1024 ![1] bcast_S1024_S1x1024_1 a1))

def G1 (a2 : FVec Ideal S1024x2816 .f32) (hn : FVec Ideal S4096x1024 .f32) : FVec Ideal S4096x2816 .f32 :=
  addf (Host.dotGeneral dot_S4096x1024_S1024x2816_S4096x2816_1_0_0_1_n_n none hn a2) (broadcastInDim S4096x2816 ![] bcast_S_S4096x2816 (constant S_ .f32 0x00000000#32))

def SIG (g1 : FVec Ideal S4096x2816 .f32) : FVec Ideal S4096x2816 .f32 :=
  Host.divf ((broadcastInDim S4096x2816 ![] bcast_S_S4096x2816) (constant S_ .f32 0x3F800000#32)) (addf ((broadcastInDim S4096x2816 ![] bcast_S_S4096x2816) (constant S_ .f32 0x3F800000#32)) (Host.exp (Host.negf g1)))

def G3 (a3 : FVec Ideal S1024x2816 .f32) (hn : FVec Ideal S4096x1024 .f32) : FVec Ideal S4096x2816 .f32 :=
  addf (Host.dotGeneral dot_S4096x1024_S1024x2816_S4096x2816_1_0_0_1_n_n none hn a3) (broadcastInDim S4096x2816 ![] bcast_S_S4096x2816 (constant S_ .f32 0x00000000#32))

def DM (a4 : FVec Ideal S2816x1024 .f32) (a5 : FVec Ideal S4096x1024 .f32) : FVec Ideal S4096x2816 .f32 :=
  Host.dotGeneral dot_S4096x1024_S2816x1024_S4096x2816_1_1_0_0_n_n none (shapeCast _ a5 shapeCasts_S4096x1024_S4096x1024) a4

def D3 (g1 : FVec Ideal S4096x2816 .f32) (lgs : FVec Ideal S4096x2816 .f32) (dm : FVec Ideal S4096x2816 .f32) : FVec Ideal S4096x2816 .f32 :=
  mulf (mulf g1 lgs) dm

def D1 (g1 : FVec Ideal S4096x2816 .f32) (lgs : FVec Ideal S4096x2816 .f32) (g3 : FVec Ideal S4096x2816 .f32) (dm : FVec Ideal S4096x2816 .f32) : FVec Ideal S4096x2816 .f32 :=
  addf (mulf (mulf dm g3) lgs) (mulf (mulf g1 (mulf dm g3)) (mulf lgs (subf ((broadcastInDim S4096x2816 ![] bcast_S_S4096x2816) (constant S_ .f32 0x3F800000#32)) lgs)))

def DXN (a2 : FVec Ideal S1024x2816 .f32) (a3 : FVec Ideal S1024x2816 .f32) (d3 : FVec Ideal S4096x2816 .f32) (d1 : FVec Ideal S4096x2816 .f32) : FVec Ideal S4096x1024 .f32 :=
  addf (Host.dotGeneral dot_S4096x2816_S1024x2816_S4096x1024_1_1_0_0_n_n none d3 a3) (Host.dotGeneral dot_S4096x2816_S1024x2816_S4096x1024_1_1_0_0_n_n none d1 a2)

def VIA (a0 : FVec Ideal S4096x1024 .f32) (a1 : FVec Ideal S1024 .f32) (ms : FVec Ideal S4096x1 .f32) (dxn : FVec Ideal S4096x1024 .f32) : FVec Ideal S4096 .f32 :=
  Host.reduceAdd (Host.divf (mulf (shapeCast _ (Host.reduceAdd (mulf a0 (mulf dxn (broadcastInDim S4096x1024 ![0, 1] bcast_S1x1024_S4096x1024_0_1 (broadcastInDim S1x1024 ![1] bcast_S1024_S1x1024_1 a1)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt ms) ms))) (broadcastInDim S4096x1 ![] bcast_S_S4096x1 (constant S_ .f32 0x44800000#32))) (constant S_ .f32 0x00000000#32) reducesTo_S4096x1_S4096_d1 h_S_

def DX (a0 : FVec Ideal S4096x1024 .f32) (a1 : FVec Ideal S1024 .f32) (a5 : FVec Ideal S4096x1024 .f32) (ms : FVec Ideal S4096x1 .f32) (dxn : FVec Ideal S4096x1024 .f32) (via : FVec Ideal S4096 .f32) : FVec Ideal S4096x1024 .f32 :=
  addf (addf (addf a5 (mulf (mulf dxn (broadcastInDim S4096x1024 ![0, 1] bcast_S1x1024_S4096x1024_0_1 (broadcastInDim S1x1024 ![1] bcast_S1024_S1x1024_1 a1))) (broadcastInDim S4096x1024 ![0, 1] bcast_S4096x1_S4096x1024_0_1 (Host.rsqrt ms)))) (mulf a0 (broadcastInDim S4096x1024 ![0] bcast_S4096_S4096x1024_0 via))) (mulf (broadcastInDim S4096x1024 ![0] bcast_S4096_S4096x1024_0 via) a0)

def DN (a0 : FVec Ideal S4096x1024 .f32) (ms : FVec Ideal S4096x1 .f32) (dxn : FVec Ideal S4096x1024 .f32) : FVec Ideal S1x1024 .f32 :=
  shapeCast _ (Host.reduceAdd (shapeCast _ (Host.reduceAdd (mulf (mulf a0 (broadcastInDim S4096x1024 ![0, 1] bcast_S4096x1_S4096x1024_0_1 (Host.rsqrt ms))) dxn) (constant S_ .f32 0x00000000#32) reducesTo_S4096x1024_S1024_d0 h_S_) shapeCasts_S1024_S1x1024) (constant S_ .f32 0x00000000#32) reducesTo_S1x1024_S1024_d0 h_S_) shapeCasts_S1024_S1x1024

theorem MS_at (a0 : FVec Ideal S4096x1024 .f32) (r : Fin 4096) :
    MS a0 (ix2 r 0) = ms (fun k => a0 (ix2 r k)) := by
  pointwise [MS, ms]

theorem UP_at (a0 : FVec Ideal S4096x1024 .f32) (a1 : FVec Ideal S1024 .f32) (w : FVec Ideal S1024x2816 .f32) (r : Fin 4096) (j : Fin 2816) :
    G1 w (HN a0 a1 (MS a0)) (ix2 r j) = up (fun k => a0 (ix2 r k)) (fun k => a1 (ix1 k)) (fun k j => w (ix2 k j)) j := by
  pointwise [G1, HN, up, MS_at]

theorem DM_at (a4 : FVec Ideal S2816x1024 .f32) (a5 : FVec Ideal S4096x1024 .f32) (r : Fin 4096) (j : Fin 2816) :
    DM a4 a5 (ix2 r j) = dm (fun k => a5 (ix2 r k)) (fun j k => a4 (ix2 j k)) j := by
  pointwise [DM, dm]

theorem SIG_at (a : FVec Ideal S4096x2816 .f32) (r : Fin 4096) (j : Fin 2816) : SIG a (ix2 r j) = lgs (a (ix2 r j)) := by
  pointwise [SIG, lgs]

theorem D3_at (a d : FVec Ideal S4096x2816 .f32) (r : Fin 4096) (j : Fin 2816) :
    D3 a (SIG a) d (ix2 r j) = d3 (a (ix2 r j)) (d (ix2 r j)) := by
  pointwise [D3, d3, SIG_at]

theorem D1_at (a b d : FVec Ideal S4096x2816 .f32) (r : Fin 4096) (j : Fin 2816) :
    D1 a (SIG a) b d (ix2 r j) = d1 (a (ix2 r j)) (d (ix2 r j) * b (ix2 r j)) := by
  pointwise [D1, d1, SIG_at]

theorem DXN_at (a2 a3 : FVec Ideal S1024x2816 .f32) (v u : FVec Ideal S4096x2816 .f32) (r : Fin 4096) (k : Fin 1024) :
    DXN a2 a3 v u (ix2 r k)
      = dxn (fun j => u (ix2 r j)) (fun j => v (ix2 r j)) (fun k j => a2 (ix2 k j)) (fun k j => a3 (ix2 k j)) k := by
  pointwise [DXN, dxn]
  exact add_comm _ _

theorem DX_at (a0 : FVec Ideal S4096x1024 .f32) (a1 : FVec Ideal S1024 .f32) (a5 d : FVec Ideal S4096x1024 .f32)
    (r : Fin 4096) (k : Fin 1024) :
    DX a0 a1 a5 (MS a0) d (VIA a0 a1 (MS a0) d) (ix2 r k)
      = dx (fun k => a5 (ix2 r k)) (fun k => a0 (ix2 r k)) (fun k => a1 (ix1 k)) (fun k => d (ix2 r k)) k := by
  pointwise [DX, VIA, dx, viaMs, MS_at]
  simp only [Fin.sum_univ_one, MS_at, add_assoc]

theorem DN_at (a0 d : FVec Ideal S4096x1024 .f32) (k : Fin 1024) :
    DN a0 (MS a0) d (ix2 0 k) = ∑ r : Fin 4096, a0 (ix2 r k) * Ideal.rsqrt (ms fun k => a0 (ix2 r k)) * d (ix2 r k) := by
  pointwise [DN, MS_at]
  simp only [Fin.sum_univ_one, MS_at]

/-! The reference's results, over its arguments. -/

section Results
variable (a0 : FVec Ideal S4096x1024 .f32) (a1 : FVec Ideal S1024 .f32) (a2 a3 : FVec Ideal S1024x2816 .f32)
  (a4 : FVec Ideal S2816x1024 .f32) (a5 : FVec Ideal S4096x1024 .f32)

/-- The gate, the linear branch, their cotangents and the normed row's. -/
def RA : FVec Ideal S4096x2816 .f32 := G1 a2 (HN a0 a1 (MS a0))
def RB : FVec Ideal S4096x2816 .f32 := G3 a3 (HN a0 a1 (MS a0))
def RV : FVec Ideal S4096x2816 .f32 := D3 (RA a0 a1 a2) (SIG (RA a0 a1 a2)) (DM a4 a5)
def RU : FVec Ideal S4096x2816 .f32 := D1 (RA a0 a1 a2) (SIG (RA a0 a1 a2)) (RB a0 a1 a3) (DM a4 a5)
def RD : FVec Ideal S4096x1024 .f32 := DXN a2 a3 (RV a0 a1 a2 a4 a5) (RU a0 a1 a2 a3 a4 a5)

/-- The input's gradient and the norm weight's. -/
def RX : FVec Ideal S4096x1024 .f32 :=
  DX a0 a1 a5 (MS a0) (RD a0 a1 a2 a3 a4 a5) (VIA a0 a1 (MS a0) (RD a0 a1 a2 a3 a4 a5))
def RN : FVec Ideal S1x1024 .f32 := DN a0 (MS a0) (RD a0 a1 a2 a3 a4 a5)

theorem RV_at (r : Fin 4096) (j : Fin 2816) : RV a0 a1 a2 a4 a5 (ix2 r j)
    = d3 (up (fun k => a0 (ix2 r k)) (fun k => a1 (ix1 k)) (fun k j => a2 (ix2 k j)) j)
        (dm (fun k => a5 (ix2 r k)) (fun j k => a4 (ix2 j k)) j) :=
  (D3_at _ _ r j).trans (congrArg₂ d3 (UP_at _ _ _ r j) (DM_at _ _ r j))

theorem RU_at (r : Fin 4096) (j : Fin 2816) : RU a0 a1 a2 a3 a4 a5 (ix2 r j)
    = d1 (up (fun k => a0 (ix2 r k)) (fun k => a1 (ix1 k)) (fun k j => a2 (ix2 k j)) j)
        (dm (fun k => a5 (ix2 r k)) (fun j k => a4 (ix2 j k)) j
          * up (fun k => a0 (ix2 r k)) (fun k => a1 (ix1 k)) (fun k j => a3 (ix2 k j)) j) :=
  (D1_at _ _ _ r j).trans (congrArg₂ d1 (UP_at _ _ _ r j) (Ideal.mul_congr (DM_at _ _ r j) (UP_at _ _ _ r j)))

theorem RD_at (r : Fin 4096) (k : Fin 1024) : RD a0 a1 a2 a3 a4 a5 (ix2 r k)
    = dxn (fun j => RU a0 a1 a2 a3 a4 a5 (ix2 r j)) (fun j => RV a0 a1 a2 a4 a5 (ix2 r j)) (fun k j => a2 (ix2 k j)) (fun k j => a3 (ix2 k j)) k :=
  DXN_at _ _ _ _ r k

theorem RX_at (r : Fin 4096) (k : Fin 1024) : RX a0 a1 a2 a3 a4 a5 (ix2 r k)
    = dx (fun k => a5 (ix2 r k)) (fun k => a0 (ix2 r k)) (fun k => a1 (ix1 k)) (fun k => RD a0 a1 a2 a3 a4 a5 (ix2 r k)) k :=
  DX_at _ _ _ _ r k

theorem RN_at (k : Fin 1024) : RN a0 a1 a2 a3 a4 a5 (ix2 0 k)
    = ∑ r : Fin 4096, a0 (ix2 r k) * Ideal.rsqrt (ms fun k => a0 (ix2 r k)) * RD a0 a1 a2 a3 a4 a5 (ix2 r k) :=
  DN_at _ _ k

end Results

theorem res_dx (m' : (ℓ : Loc nD τ sig) → Buf (Elt Ideal) ℓ) (c : Dev nD) (a0 : FVec Ideal S4096x1024 .f32) (a1 : FVec Ideal S1024 .f32) (a2 a3 : FVec Ideal S1024x2816 .f32)
    (a4 : FVec Ideal S2816x1024 .f32) (a5 : FVec Ideal S4096x1024 .f32)
    (h0 : m' ((c.tc : Thread nD τ).loc main_arg0) = a0) (h1 : m' ((c.tc : Thread nD τ).loc main_arg1) = a1)
    (h2 : m' ((c.tc : Thread nD τ).loc main_arg2) = a2) (h3 : m' ((c.tc : Thread nD τ).loc main_arg3) = a3)
    (h4 : m' ((c.tc : Thread nD τ).loc main_arg4) = a4) (h5 : m' ((c.tc : Thread nD τ).loc main_arg5) = a5) :
    Cert.FfnRefIdeal.Value.res_out0 m' c
      = RX a0 a1 a2 a3 a4 a5 := by
  subst h0 h1 h2 h3 h4 h5; rfl

theorem res_d1 (m' : (ℓ : Loc nD τ sig) → Buf (Elt Ideal) ℓ) (c : Dev nD) (a0 : FVec Ideal S4096x1024 .f32) (a1 : FVec Ideal S1024 .f32) (a2 a3 : FVec Ideal S1024x2816 .f32)
    (a4 : FVec Ideal S2816x1024 .f32) (a5 : FVec Ideal S4096x1024 .f32)
    (h0 : m' ((c.tc : Thread nD τ).loc main_arg0) = a0) (h1 : m' ((c.tc : Thread nD τ).loc main_arg1) = a1)
    (h2 : m' ((c.tc : Thread nD τ).loc main_arg2) = a2) (h3 : m' ((c.tc : Thread nD τ).loc main_arg3) = a3)
    (h4 : m' ((c.tc : Thread nD τ).loc main_arg4) = a4) (h5 : m' ((c.tc : Thread nD τ).loc main_arg5) = a5) :
    Cert.FfnRefIdeal.Value.res_out1 m' c = truncf .bf16 (RU a0 a1 a2 a3 a4 a5) bitsLt_bf16_f32 := by
  subst h0 h1 h2 h3 h4 h5; rfl

theorem res_dn (m' : (ℓ : Loc nD τ sig) → Buf (Elt Ideal) ℓ) (c : Dev nD) (a0 : FVec Ideal S4096x1024 .f32) (a1 : FVec Ideal S1024 .f32) (a2 a3 : FVec Ideal S1024x2816 .f32)
    (a4 : FVec Ideal S2816x1024 .f32) (a5 : FVec Ideal S4096x1024 .f32)
    (h0 : m' ((c.tc : Thread nD τ).loc main_arg0) = a0) (h1 : m' ((c.tc : Thread nD τ).loc main_arg1) = a1)
    (h2 : m' ((c.tc : Thread nD τ).loc main_arg2) = a2) (h3 : m' ((c.tc : Thread nD τ).loc main_arg3) = a3)
    (h4 : m' ((c.tc : Thread nD τ).loc main_arg4) = a4) (h5 : m' ((c.tc : Thread nD τ).loc main_arg5) = a5) :
    Cert.FfnRefIdeal.Value.res_out3 m' c = RN a0 a1 a2 a3 a4 a5 := by
  subst h0 h1 h2 h3 h4 h5; rfl

end Reference

end Cert.Ffn
end
-- ==== Proof.MixffnFwdValue.lean ====
/- The output projection and the feed-forward block, forward: the six arrays the kernel writes block by block are the
   reference's terms. The kernel multiplies the two halves of the mixed row apart; the reference joins them first. -/
module

public import proofs.«01_k».proof.Proof.Gen.MixffnFwdIdeal.Frame
public import proofs.«01_k».proof.Proof.Gen.MixffnFwdRefIdeal.Run
public import proofs.«01_k».proof.Proof.FfnPure
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixffnFwd

open Cert.Inproj (ms)
open Cert.Ffn (lgs)

/-- A token's row after the output projection: the residual, the upper half of the matrix, the lower half. -/
def hid (x : Fin 1024 → EReal) (s w : Fin 512 → EReal) (u v : Fin 512 → Fin 1024 → EReal) (j : Fin 1024) : EReal :=
  x j + ∑ k, s k * u k j + ∑ k, w k * v k j

/-- A normed row. -/
def nrm (x g : Fin 1024 → EReal) (k : Fin 1024) : EReal := x k * Ideal.rsqrt (ms x) * g k

/-- A projection to the inner width. -/
def lift (n : Fin 1024 → EReal) (w : Fin 1024 → Fin 2816 → EReal) (j : Fin 2816) : EReal := ∑ k, n k * w k j

/-- The gated inner row. -/
def gate (a b : EReal) : EReal := a * lgs a * b

/-- The inner row back on the residual. -/
def fall (x : Fin 1024 → EReal) (g : Fin 2816 → EReal) (w : Fin 2816 → Fin 1024 → EReal) (j : Fin 1024) : EReal :=
  x j + ∑ k, g k * w k j

/-- Row `k` of the upper half, and of the lower half, of the output projection's matrix. -/
def top (k : Fin 512) : Fin 1024 := ⟨k.val, by omega⟩
def bot (k : Fin 512) : Fin 1024 := ⟨512 + k.val, by omega⟩

theorem sum_halves (f : Fin 1024 → EReal) : ∑ k, f k = ∑ k, f (top k) + ∑ k, f (bot k) :=
  Fin.sum_univ_add (a := 512) (b := 512) f

section Reference
open Cert.MixffnFwdRefIdeal Cert.MixffnFwdRefIdeal.Gen

variable (a0 : FVec Ideal S4096x1024 .f32) (a1 a2 : FVec Ideal S4096x512 .f32) (a3 : FVec Ideal S1024x1024 .f32)
  (a4 : FVec Ideal S1024 .f32) (a5 a6 : FVec Ideal S1024x2816 .f32) (a7 : FVec Ideal S2816x1024 .f32)

def CC : FVec Ideal S4096x1024 .f32 :=
  concatenate S4096x1024 1 [⟨S4096x512, a1⟩, ⟨S4096x512, a2⟩] concatenates_S4096x512_S4096x512_S4096x1024_d1

/-- The residual row after the output projection, its norm, the two inner rows, the gated one, the block's result. -/
def H1 : FVec Ideal S4096x1024 .f32 := addf a0 (Host.dotGeneral dot_S4096x1024_S1024x1024_S4096x1024_1_0_0_1_n_n none (CC a1 a2) a3)

def HN (h : FVec Ideal S4096x1024 .f32) : FVec Ideal S4096x1024 .f32 :=
  mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 a4))

def UP (n : FVec Ideal S4096x1024 .f32) (w : FVec Ideal S1024x2816 .f32) : FVec Ideal S4096x2816 .f32 :=
  Host.dotGeneral dot_S4096x1024_S1024x2816_S4096x2816_1_0_0_1_n_n none n w

def GT (a b : FVec Ideal S4096x2816 .f32) : FVec Ideal S4096x2816 .f32 :=
  mulf (mulf a (Host.divf (broadcastInDim S4096x2816 ![] bcast_S_S4096x2816 (constant S_ .f32 0x3F800000#32)) (addf (broadcastInDim S4096x2816 ![] bcast_S_S4096x2816 (constant S_ .f32 0x3F800000#32)) (Host.exp (Host.negf a))))) b

def DN (h : FVec Ideal S4096x1024 .f32) (g : FVec Ideal S4096x2816 .f32) : FVec Ideal S4096x1024 .f32 :=
  addf h (Host.dotGeneral dot_S4096x2816_S2816x1024_S4096x1024_1_0_0_1_n_n none g a7)

/-- The six results. -/
def G9 : FVec Ideal S4096x1024 .f32 := H1 a0 a1 a2 a3
def GNf : FVec Ideal S4096x1024 .f32 := HN a4 (G9 a0 a1 a2 a3)
def GMf : FVec Ideal S4096x2816 .f32 := GT (UP (GNf a0 a1 a2 a3 a4) a5) (UP (GNf a0 a1 a2 a3 a4) a6)
def G10 : FVec Ideal S4096x1024 .f32 := DN a7 (G9 a0 a1 a2 a3) (GMf a0 a1 a2 a3 a4 a5 a6)
def G11 (w : FVec Ideal S1024x2816 .f32) : FVec Ideal S4096x2816 .bf16 := truncf .bf16 (UP (GNf a0 a1 a2 a3 a4) w) bitsLt_bf16_f32
def G13 : FVec Ideal S4096x2816 .bf16 := truncf .bf16 (GMf a0 a1 a2 a3 a4 a5 a6) bitsLt_bf16_f32
def G14 : FVec Ideal S4096x1024 .bf16 := truncf .bf16 (GNf a0 a1 a2 a3 a4) bitsLt_bf16_f32

theorem CC_top (r : Fin 4096) (k : Fin 512) : CC a1 a2 (ix2 r (top k)) = a1 (ix2 r k) := by
  pointwise [CC, top]
theorem CC_bot (r : Fin 4096) (k : Fin 512) : CC a1 a2 (ix2 r (bot k)) = a2 (ix2 r k) := by
  pointwise [CC, bot]

theorem G9_at (r : Fin 4096) (j : Fin 1024) : G9 a0 a1 a2 a3 (ix2 r j)
    = hid (fun k => a0 (ix2 r k)) (fun k => a1 (ix2 r k)) (fun k => a2 (ix2 r k)) (fun k j => a3 (ix2 (top k) j)) (fun k j => a3 (ix2 (bot k) j)) j := by
  have e : G9 a0 a1 a2 a3 (ix2 r j) = a0 (ix2 r j) + ∑ k : Fin 1024, CC a1 a2 (ix2 r k) * a3 (ix2 k j) := by
    pointwise [G9, H1]
  rw [e, sum_halves, ← add_assoc]
  simp only [CC_top, CC_bot, hid]

theorem HN_at (h : FVec Ideal S4096x1024 .f32) (r : Fin 4096) (k : Fin 1024) :
    HN a4 h (ix2 r k) = nrm (fun k => h (ix2 r k)) (fun k => a4 (ix1 k)) k := by
  pointwise [HN, nrm, ms]

theorem UP_at (n : FVec Ideal S4096x1024 .f32) (w : FVec Ideal S1024x2816 .f32) (r : Fin 4096) (j : Fin 2816) :
    UP n w (ix2 r j) = lift (fun k => n (ix2 r k)) (fun k j => w (ix2 k j)) j := by
  pointwise [UP, lift]

theorem GT_at (a b : FVec Ideal S4096x2816 .f32) (r : Fin 4096) (j : Fin 2816) :
    GT a b (ix2 r j) = gate (a (ix2 r j)) (b (ix2 r j)) := by
  pointwise [GT, gate, lgs]

theorem DN_at (h : FVec Ideal S4096x1024 .f32) (g : FVec Ideal S4096x2816 .f32) (r : Fin 4096) (j : Fin 1024) :
    DN a7 h g (ix2 r j) = fall (fun k => h (ix2 r k)) (fun k => g (ix2 r k)) (fun k j => a7 (ix2 k j)) j := by
  pointwise [DN, fall]

end Reference

/-- A token's six rows from its inputs and the weights. -/
structure Tok where
  x : Fin 1024 → EReal
  s : Fin 512 → EReal
  w : Fin 512 → EReal
  u : Fin 512 → Fin 1024 → EReal
  v : Fin 512 → Fin 1024 → EReal
  g : Fin 1024 → EReal
  w1 : Fin 1024 → Fin 2816 → EReal
  w3 : Fin 1024 → Fin 2816 → EReal
  w2 : Fin 2816 → Fin 1024 → EReal

namespace Tok
variable (T : Tok)

def h1 : Fin 1024 → EReal := hid T.x T.s T.w T.u T.v
def hn : Fin 1024 → EReal := nrm T.h1 T.g
def p1 : Fin 2816 → EReal := lift T.hn T.w1
def p3 : Fin 2816 → EReal := lift T.hn T.w3
def hm (j : Fin 2816) : EReal := gate (T.p1 j) (T.p3 j)
def h2 : Fin 1024 → EReal := fall T.h1 T.hm T.w2

end Tok

section ReferenceRows
open Cert.MixffnFwdRefIdeal Cert.MixffnFwdRefIdeal.Gen

variable (a0 : FVec Ideal S4096x1024 .f32) (a1 a2 : FVec Ideal S4096x512 .f32) (a3 : FVec Ideal S1024x1024 .f32)
  (a4 : FVec Ideal S1024 .f32) (a5 a6 : FVec Ideal S1024x2816 .f32) (a7 : FVec Ideal S2816x1024 .f32)

/-- Token `r` of the argument arrays. -/
def tok (r : Fin 4096) : Tok where
  x k := a0 (ix2 r k)
  s k := a1 (ix2 r k)
  w k := a2 (ix2 r k)
  u k j := a3 (ix2 (top k) j)
  v k j := a3 (ix2 (bot k) j)
  g k := a4 (ix1 k)
  w1 k j := a5 (ix2 k j)
  w3 k j := a6 (ix2 k j)
  w2 k j := a7 (ix2 k j)

variable (r : Fin 4096)

theorem h1_at (j : Fin 1024) : G9 a0 a1 a2 a3 (ix2 r j) = (tok a0 a1 a2 a3 a4 a5 a6 a7 r).h1 j := G9_at a0 a1 a2 a3 r j

theorem hn_at (k : Fin 1024) : GNf a0 a1 a2 a3 a4 (ix2 r k) = (tok a0 a1 a2 a3 a4 a5 a6 a7 r).hn k := by
  unfold GNf; rw [HN_at, funext fun k => h1_at a0 a1 a2 a3 a4 a5 a6 a7 r k]; rfl

theorem p1_at (j : Fin 2816) : UP (GNf a0 a1 a2 a3 a4) a5 (ix2 r j) = (tok a0 a1 a2 a3 a4 a5 a6 a7 r).p1 j := by
  rw [UP_at, funext fun k => hn_at a0 a1 a2 a3 a4 a5 a6 a7 r k]; rfl
theorem p3_at (j : Fin 2816) : UP (GNf a0 a1 a2 a3 a4) a6 (ix2 r j) = (tok a0 a1 a2 a3 a4 a5 a6 a7 r).p3 j := by
  rw [UP_at, funext fun k => hn_at a0 a1 a2 a3 a4 a5 a6 a7 r k]; rfl

theorem hm_at (j : Fin 2816) : GMf a0 a1 a2 a3 a4 a5 a6 (ix2 r j) = (tok a0 a1 a2 a3 a4 a5 a6 a7 r).hm j := by
  unfold GMf; rw [GT_at, p1_at a0 a1 a2 a3 a4 a5 a6 a7 r j, p3_at a0 a1 a2 a3 a4 a5 a6 a7 r j]; rfl

theorem h2_at (j : Fin 1024) : G10 a0 a1 a2 a3 a4 a5 a6 a7 (ix2 r j) = (tok a0 a1 a2 a3 a4 a5 a6 a7 r).h2 j := by
  unfold G10
  rw [DN_at, funext fun k => h1_at a0 a1 a2 a3 a4 a5 a6 a7 r k, funext fun k => hm_at a0 a1 a2 a3 a4 a5 a6 a7 r k]; rfl

end ReferenceRows

section Agreement
open Cert.MixffnFwdRefIdeal Cert.MixffnFwdRefIdeal.Gen

variable {a0 : FVec Ideal S4096x1024 .f32} {x1 x2 a1 a2 : FVec Ideal S4096x512 .f32} {a3 : FVec Ideal S1024x1024 .f32}
  {a4 : FVec Ideal S1024 .f32} {w : FVec Ideal S1024x2816 .f32} (h1 : x1 = a1) (h2 : x2 = a2)
include h1 h2

/-- The reference's terms at equal head outputs. -/
theorem G9_cong : G9 a0 x1 x2 a3 = G9 a0 a1 a2 a3 := by rw [h1, h2]
theorem G11_cong : G11 a0 x1 x2 a3 a4 w = G11 a0 a1 a2 a3 a4 w := by rw [h1, h2]
theorem G14_cong : G14 a0 x1 x2 a3 a4 = G14 a0 a1 a2 a3 a4 := by rw [h1, h2]

end Agreement

section Results
open Cert.MixffnFwdRefIdeal Cert.MixffnFwdRefIdeal.Gen

variable {a0 : FVec Ideal S4096x1024 .f32} {a1 a2 : FVec Ideal S4096x512 .f32} {a3 : FVec Ideal S1024x1024 .f32}
  {a4 : FVec Ideal S1024 .f32} {a5 a6 : FVec Ideal S1024x2816 .f32} {a7 : FVec Ideal S2816x1024 .f32}
  (m' : (ℓ : Loc nD τ sig) → Buf (Elt Ideal) ℓ) (c : Dev nD)
  (h0 : m' ((c.tc : Thread nD τ).loc main_arg0) = a0) (h1 : m' ((c.tc : Thread nD τ).loc main_arg1) = a1)
  (h2 : m' ((c.tc : Thread nD τ).loc main_arg2) = a2) (h3 : m' ((c.tc : Thread nD τ).loc main_arg3) = a3)
  (h4 : m' ((c.tc : Thread nD τ).loc main_arg4) = a4) (h5 : m' ((c.tc : Thread nD τ).loc main_arg5) = a5)
  (h6 : m' ((c.tc : Thread nD τ).loc main_arg6) = a6)
include h0 h1 h2 h3 h4 h5 h6

/-- The results the reference's run names. -/
theorem res_gated : Cert.MixffnFwdRefIdeal.Value.res_out4 m' c = G13 a0 a1 a2 a3 a4 a5 a6 := by subst h0 h1 h2 h3 h4 h5 h6; rfl

theorem res_block (h7 : m' ((c.tc : Thread nD τ).loc main_arg7) = a7) :
    Cert.MixffnFwdRefIdeal.Value.res_out1 m' c = G10 a0 a1 a2 a3 a4 a5 a6 a7 := by subst h0 h1 h2 h3 h4 h5 h6 h7; rfl

end Results

open Cert.MixffnFwdIdeal Cert.MixffnFwdIdeal.Gen

section Payloads
variable (x : FVec Ideal S256x1024 .f32) (s w : FVec Ideal S256x512 .f32) (u v : FVec Ideal S512x1024 .bf16) (g : FVec Ideal S1x1024 .f32)
  (w1 w3 : FVec Ideal S1024x2816 .bf16) (w2 : FVec Ideal S2816x1024 .bf16)

theorem pay8_at (r : Fin 256) (j : Fin 1024) : @Eq EReal (k0_pay8 (F := Ideal) x s w u v (ix2 r j))
    (hid (fun k => x (ix2 r k)) (fun k => s (ix2 r k)) (fun k => w (ix2 r k)) (fun k j => u (ix2 k j)) (fun k j => v (ix2 k j)) j) := by
  pointwise [k0_pay8, hid]

/-- Token `r` of a block. -/
def ktok (r : Fin 256) : Tok where
  x k := x (ix2 r k)
  s k := s (ix2 r k)
  w k := w (ix2 r k)
  u k j := u (ix2 k j)
  v k j := v (ix2 k j)
  g k := g (ix2 0 k)
  w1 k j := w1 (ix2 k j)
  w3 k j := w3 (ix2 k j)
  w2 k j := w2 (ix2 k j)

variable (r : Fin 256)

theorem kh1 (j : Fin 1024) : @Eq EReal (k0_pay8 (F := Ideal) x s w u v (ix2 r j)) ((ktok x s w u v g w1 w3 w2 r).h1 j) :=
  pay8_at x s w u v r j

theorem kh1n (h : FVec Ideal S256x1024 .f32) (e : k0_pay8 (F := Ideal) x s w u v = h) (k : Fin 1024) :
    @Eq EReal (k0_pay9 (F := Ideal) x s w u v g (ix2 r k)) (nrm (fun k => h (ix2 r k)) (fun k => g (ix2 0 k)) k) := by
  unfold k0_pay9; rw [e]
  pointwise [nrm, ms]

theorem khn (k : Fin 1024) : @Eq EReal (k0_pay9 (F := Ideal) x s w u v g (ix2 r k)) ((ktok x s w u v g w1 w3 w2 r).hn k) := by
  rw [kh1n x s w u v g r _ rfl, funext fun k => kh1 x s w u v g w1 w3 w2 r k]; rfl

theorem kp1n (n : FVec Ideal S256x1024 .bf16) (e : k0_pay9 (F := Ideal) x s w u v g = n) (j : Fin 2816) :
    @Eq EReal (k0_pay10 (F := Ideal) x s w u v g w1 (ix2 r j)) (lift (fun k => n (ix2 r k)) (fun k j => w1 (ix2 k j)) j) := by
  unfold k0_pay10; rw [e]
  pointwise [lift]

theorem kp1 (j : Fin 2816) : @Eq EReal (k0_pay10 (F := Ideal) x s w u v g w1 (ix2 r j)) ((ktok x s w u v g w1 w3 w2 r).p1 j) := by
  rw [kp1n x s w u v g w1 r _ rfl, funext fun k => khn x s w u v g w1 w3 w2 r k]; rfl

theorem pay1_at (n : FVec Ideal S256x1024 .bf16) (j : Fin 2816) :
    @Eq EReal (k0_pay1 (F := Ideal) (k0_pay6 w3) n (ix2 r j)) (lift (fun k => n (ix2 r k)) (fun k j => w3 (ix2 k j)) j) := by
  pointwise [k0_pay1, k0_pay6, lift]

theorem kp3 (j : Fin 2816) :
    @Eq EReal (k0_pay1 (F := Ideal) (k0_pay6 w3) (k0_pay9 x s w u v g) (ix2 r j)) ((ktok x s w u v g w1 w3 w2 r).p3 j) := by
  rw [pay1_at w3 r, funext fun k => khn x s w u v g w1 w3 w2 r k]; rfl

theorem pay2_at (p : FVec Ideal S1024x2816 .bf16) (n : FVec Ideal S256x1024 .bf16) (a b : FVec Ideal S256x2816 .f32)
    (e : k0_pay1 (F := Ideal) p n = b) (j : Fin 2816) :
    @Eq EReal (k0_pay2 (F := Ideal) p n a (ix2 r j)) (gate (a (ix2 r j)) (b (ix2 r j))) := by
  unfold k0_pay2; rw [e]
  pointwise [gate, lgs]
  simp only [zero_sub]

theorem khm (j : Fin 2816) :
    @Eq EReal (k0_pay2 (F := Ideal) (k0_pay6 w3) (k0_pay9 x s w u v g) (k0_pay10 x s w u v g w1) (ix2 r j)) ((ktok x s w u v g w1 w3 w2 r).hm j) := by
  rw [pay2_at r _ _ _ _ rfl, kp1 x s w u v g w1 w3 w2 r j, kp3 x s w u v g w1 w3 w2 r j]; rfl

theorem pay3_at (p : FVec Ideal S1024x2816 .bf16) (h : FVec Ideal S256x1024 .f32) (n : FVec Ideal S256x1024 .bf16) (a : FVec Ideal S256x2816 .f32)
    (q : FVec Ideal S256x2816 .bf16) (e : k0_pay2 (F := Ideal) p n a = q) (j : Fin 1024) :
    @Eq EReal (k0_pay3 (F := Ideal) p (k0_pay7 w2) h n a (ix2 r j)) (fall (fun k => h (ix2 r k)) (fun k => q (ix2 r k)) (fun k j => w2 (ix2 k j)) j) := by
  unfold k0_pay3; rw [e]
  pointwise [k0_pay7, fall]

theorem kh2 (j : Fin 1024) :
    @Eq EReal (k0_pay3 (F := Ideal) (k0_pay6 w3) (k0_pay7 w2) (k0_pay8 x s w u v) (k0_pay9 x s w u v g) (k0_pay10 x s w u v g w1) (ix2 r j))
      ((ktok x s w u v g w1 w3 w2 r).h2 j) := by
  rw [pay3_at w2 r _ _ _ _ _ rfl, funext fun k => kh1 x s w u v g w1 w3 w2 r k, funext fun k => khm x s w u v g w1 w3 w2 r k]; rfl

end Payloads

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ t.val < 16 :=
  (by decide +kernel : ∀ t : Fin grid0.N, _)

/-- The argument arrays: the residual stream, the two heads' outputs, the output projection, the norm's weight, the three
    inner matrices. -/
abbrev A0 (c : Dev nD) : FVec Ideal S4096x1024 .f32 := m ((c : Thread nD τ).loc main_arg0)
abbrev A1 (c : Dev nD) : FVec Ideal S4096x512 .f32 := m ((c : Thread nD τ).loc main_arg1)
abbrev A2 (c : Dev nD) : FVec Ideal S4096x512 .f32 := m ((c : Thread nD τ).loc main_arg2)
abbrev A3 (c : Dev nD) : FVec Ideal S1024x1024 .f32 := m ((c : Thread nD τ).loc main_arg3)
abbrev A4 (c : Dev nD) : FVec Ideal S1024 .f32 := m ((c : Thread nD τ).loc main_arg4)
abbrev A5 (c : Dev nD) : FVec Ideal S1024x2816 .f32 := m ((c : Thread nD τ).loc main_arg5)
abbrev A6 (c : Dev nD) : FVec Ideal S1024x2816 .f32 := m ((c : Thread nD τ).loc main_arg6)
abbrev A7 (c : Dev nD) : FVec Ideal S2816x1024 .f32 := m ((c : Thread nD τ).loc main_arg7)

/-- Row `r` of block `t`. -/
def row (t : Fin cfg0.N) (r : Fin 256) : Fin 4096 :=
  ⟨t.val * 256 + r.val, by have := (idx t).2.2.2.2.2.2.2.2.2.2.2.2.2.2.2; omega⟩

variable (c : Dev nD) (t : Fin cfg0.N)

theorem b0 (r : Fin 256) (k : Fin 1024) : iblk m c 0 t (ix2 r k) = A0 m c (ix2 (row t r) k) := by
  blk_ext [iblk, V, idx t, row]
theorem b1 (r : Fin 256) (k : Fin 512) : iblk m c 1 t (ix2 r k) = A1 m c (ix2 (row t r) k) := by
  blk_ext [iblk, V, idx t, row]
theorem b2 (r : Fin 256) (k : Fin 512) : iblk m c 2 t (ix2 r k) = A2 m c (ix2 (row t r) k) := by
  blk_ext [iblk, V, idx t, row]
theorem b3 (k : Fin 512) (j : Fin 1024) : iblk m c 3 t (ix2 k j) = A3 m c (ix2 (top k) j) := by
  blk_point [iblk, V, idx t, top]
theorem b4 (k : Fin 512) (j : Fin 1024) : iblk m c 4 t (ix2 k j) = A3 m c (ix2 (bot k) j) := by
  blk_point [iblk, V, idx t, bot]
theorem b5 (k : Fin 1024) : iblk m c 5 t (ix2 0 k) = A4 m c (ix1 k) := by
  blk_point [iblk, V, idx t]
theorem b6 (k : Fin 1024) (j : Fin 2816) : iblk m c 6 t (ix2 k j) = A5 m c (ix2 k j) := by
  blk_point [iblk, V, idx t]
theorem b7 (k : Fin 1024) (j : Fin 2816) : iblk m c 7 t (ix2 k j) = A6 m c (ix2 k j) := by
  blk_point [iblk, V, idx t]
theorem b8 (k : Fin 2816) (j : Fin 1024) : iblk m c 8 t (ix2 k j) = A7 m c (ix2 k j) := by
  blk_point [iblk, V, idx t]

/-- A block's token is the array's token. -/
theorem tok_eq (r : Fin 256) :
    ktok (iblk m c 0 t) (iblk m c 1 t) (iblk m c 2 t) (iblk m c 3 t) (iblk m c 4 t) (iblk m c 5 t) (iblk m c 6 t) (iblk m c 7 t) (iblk m c 8 t) r
      = tok (A0 m c) (A1 m c) (A2 m c) (A3 m c) (A4 m c) (A5 m c) (A6 m c) (A7 m c) (row t r) := by
  unfold ktok tok
  congr 1
  · exact funext fun k => b0 m c t r k
  · exact funext fun k => b1 m c t r k
  · exact funext fun k => b2 m c t r k
  · exact funext fun k => funext fun j => b3 m c t k j
  · exact funext fun k => funext fun j => b4 m c t k j
  · exact funext fun k => b5 m c t k
  · exact funext fun k => funext fun j => b6 m c t k j
  · exact funext fun k => funext fun j => b7 m c t k j
  · exact funext fun k => funext fun j => b8 m c t k j

theorem emb9 (r : Fin 256) (k : Fin 1024) : ((cfg0.win 9).blk t).view.emb (ix2 r k) = (ix2 (row t r) k : S4096x1024.Idx) := by
  blk_ext [idx t, row]
theorem emb10 (r : Fin 256) (k : Fin 1024) : ((cfg0.win 10).blk t).view.emb (ix2 r k) = (ix2 (row t r) k : S4096x1024.Idx) := by
  blk_ext [idx t, row]
theorem emb11 (r : Fin 256) (k : Fin 2816) : ((cfg0.win 11).blk t).view.emb (ix2 r k) = (ix2 (row t r) k : S4096x2816.Idx) := by
  blk_ext [idx t, row]
theorem emb12 (r : Fin 256) (k : Fin 2816) : ((cfg0.win 12).blk t).view.emb (ix2 r k) = (ix2 (row t r) k : S4096x2816.Idx) := by
  blk_ext [idx t, row]
theorem emb13 (r : Fin 256) (k : Fin 2816) : ((cfg0.win 13).blk t).view.emb (ix2 r k) = (ix2 (row t r) k : S4096x2816.Idx) := by
  blk_ext [idx t, row]
theorem emb14 (r : Fin 256) (k : Fin 1024) : ((cfg0.win 14).blk t).view.emb (ix2 r k) = (ix2 (row t r) k : S4096x1024.Idx) := by
  blk_ext [idx t, row]

section Points
variable (r : Fin 256)

/-- The block's values, written on the block `t` of every input. -/
abbrev P8 : FVec Ideal S256x1024 .f32 := k0_pay8 (iblk m c 0 t) (iblk m c 1 t) (iblk m c 2 t) (iblk m c 3 t) (iblk m c 4 t)
abbrev P9 : FVec Ideal S256x1024 .bf16 :=
  k0_pay9 (iblk m c 0 t) (iblk m c 1 t) (iblk m c 2 t) (iblk m c 3 t) (iblk m c 4 t) (iblk m c 5 t)
abbrev P10 : FVec Ideal S256x2816 .f32 :=
  k0_pay10 (iblk m c 0 t) (iblk m c 1 t) (iblk m c 2 t) (iblk m c 3 t) (iblk m c 4 t) (iblk m c 5 t) (iblk m c 6 t)

theorem point9 (y : S256x1024.Idx) : @Eq EReal (P8 m c t y) (G9 (A0 m c) (A1 m c) (A2 m c) (A3 m c) (((cfg0.win 9).blk t).view.emb y)) := by
  obtain ⟨r, j, rfl⟩ : ∃ (r : Fin 256) (j : Fin 1024), y = ix2 r j := ⟨y 0, y 1, eq_ix2 y⟩
  rw [emb9, h1_at (A0 m c) (A1 m c) (A2 m c) (A3 m c) (A4 m c) (A5 m c) (A6 m c) (A7 m c), ← tok_eq]
  exact kh1 _ _ _ _ _ _ _ _ _ r j

theorem point10 (y : S256x1024.Idx) :
    @Eq EReal (k0_pay3 (F := Ideal) (k0_pay6 (iblk m c 7 t)) (k0_pay7 (iblk m c 8 t)) (P8 m c t) (P9 m c t) (P10 m c t) y)
      (G10 (A0 m c) (A1 m c) (A2 m c) (A3 m c) (A4 m c) (A5 m c) (A6 m c) (A7 m c) (((cfg0.win 10).blk t).view.emb y)) := by
  obtain ⟨r, j, rfl⟩ : ∃ (r : Fin 256) (j : Fin 1024), y = ix2 r j := ⟨y 0, y 1, eq_ix2 y⟩
  rw [emb10, h2_at, ← tok_eq]
  exact kh2 _ _ _ _ _ _ _ _ _ r j

theorem point11 (y : S256x2816.Idx) : @Eq EReal (k0_pay4 (F := Ideal) (P10 m c t) y)
    (G11 (A0 m c) (A1 m c) (A2 m c) (A3 m c) (A4 m c) (A5 m c) (((cfg0.win 11).blk t).view.emb y)) := by
  obtain ⟨r, j, rfl⟩ : ∃ (r : Fin 256) (j : Fin 2816), y = ix2 r j := ⟨y 0, y 1, eq_ix2 y⟩
  rw [emb11]
  refine Eq.trans (?_ : _ = (P10 m c t (ix2 r j) : EReal)) (Eq.trans ?_ (?_ : _ = (UP (GNf (A0 m c) (A1 m c) (A2 m c) (A3 m c) (A4 m c)) (A5 m c) (ix2 (row t r) j) : EReal)).symm)
  · pointwise [k0_pay4]
  · rw [p1_at (A0 m c) (A1 m c) (A2 m c) (A3 m c) (A4 m c) (A5 m c) (A6 m c) (A7 m c), ← tok_eq]
    exact kp1 _ _ _ _ _ _ _ _ _ r j
  · pointwise [G11]

theorem point12 (y : S256x2816.Idx) : @Eq EReal (k0_pay5 (F := Ideal) (k0_pay6 (iblk m c 7 t)) (P9 m c t) y)
    (G11 (A0 m c) (A1 m c) (A2 m c) (A3 m c) (A4 m c) (A6 m c) (((cfg0.win 12).blk t).view.emb y)) := by
  obtain ⟨r, j, rfl⟩ : ∃ (r : Fin 256) (j : Fin 2816), y = ix2 r j := ⟨y 0, y 1, eq_ix2 y⟩
  rw [emb12]
  refine Eq.trans (?_ : _ = (k0_pay1 (F := Ideal) (k0_pay6 (iblk m c 7 t)) (P9 m c t) (ix2 r j) : EReal)) (Eq.trans ?_ (?_ : _ = (UP (GNf (A0 m c) (A1 m c) (A2 m c) (A3 m c) (A4 m c)) (A6 m c) (ix2 (row t r) j) : EReal)).symm)
  · pointwise [k0_pay5]
  · rw [p3_at (A0 m c) (A1 m c) (A2 m c) (A3 m c) (A4 m c) (A5 m c) (A6 m c) (A7 m c), ← tok_eq]
    exact kp3 _ _ _ _ _ _ _ _ _ r j
  · pointwise [G11]

theorem point13 (y : S256x2816.Idx) : @Eq EReal (k0_pay2 (F := Ideal) (k0_pay6 (iblk m c 7 t)) (P9 m c t) (P10 m c t) y)
    (G13 (A0 m c) (A1 m c) (A2 m c) (A3 m c) (A4 m c) (A5 m c) (A6 m c) (((cfg0.win 13).blk t).view.emb y)) := by
  obtain ⟨r, j, rfl⟩ : ∃ (r : Fin 256) (j : Fin 2816), y = ix2 r j := ⟨y 0, y 1, eq_ix2 y⟩
  rw [emb13]
  refine Eq.trans ?_ (?_ : _ = (GMf (A0 m c) (A1 m c) (A2 m c) (A3 m c) (A4 m c) (A5 m c) (A6 m c) (ix2 (row t r) j) : EReal)).symm
  · rw [hm_at (A0 m c) (A1 m c) (A2 m c) (A3 m c) (A4 m c) (A5 m c) (A6 m c) (A7 m c), ← tok_eq]
    exact khm _ _ _ _ _ _ _ _ _ r j
  · pointwise [G13]

theorem point14 (y : S256x1024.Idx) : @Eq EReal (P9 m c t y)
    (G14 (A0 m c) (A1 m c) (A2 m c) (A3 m c) (A4 m c) (((cfg0.win 14).blk t).view.emb y)) := by
  obtain ⟨r, j, rfl⟩ : ∃ (r : Fin 256) (j : Fin 1024), y = ix2 r j := ⟨y 0, y 1, eq_ix2 y⟩
  rw [emb14]
  refine Eq.trans ?_ (?_ : _ = (GNf (A0 m c) (A1 m c) (A2 m c) (A3 m c) (A4 m c) (ix2 (row t r) j) : EReal)).symm
  · rw [hn_at (A0 m c) (A1 m c) (A2 m c) (A3 m c) (A4 m c) (A5 m c) (A6 m c) (A7 m c), ← tok_eq]
    exact khn _ _ _ _ _ _ _ _ _ r j
  · pointwise [G14]

end Points

theorem final9 : (dats m 0 c).arrAt 9 (cfgs 0).N = G9 (A0 m c) (A1 m c) (A2 m c) (A3 m c) := by
  refine (dats m 0 c).arrAt_eq_of_covers 9 _ (by decide +kernel) fun t hf y => ?_
  blk_simp; rw [after0_9]; unfold_out out0_9; frame_out; exact point9 m c t y
theorem final10 : (dats m 0 c).arrAt 10 (cfgs 0).N = G10 (A0 m c) (A1 m c) (A2 m c) (A3 m c) (A4 m c) (A5 m c) (A6 m c) (A7 m c) := by
  refine (dats m 0 c).arrAt_eq_of_covers 10 _ (by decide +kernel) fun t hf y => ?_
  blk_simp; rw [after0_10]; unfold_out out0_10; frame_out; exact point10 m c t y
theorem final11 : (dats m 0 c).arrAt 11 (cfgs 0).N = G11 (A0 m c) (A1 m c) (A2 m c) (A3 m c) (A4 m c) (A5 m c) := by
  refine (dats m 0 c).arrAt_eq_of_covers 11 _ (by decide +kernel) fun t hf y => ?_
  blk_simp; rw [after0_11]; unfold_out out0_11; frame_out; exact point11 m c t y
theorem final12 : (dats m 0 c).arrAt 12 (cfgs 0).N = G11 (A0 m c) (A1 m c) (A2 m c) (A3 m c) (A4 m c) (A6 m c) := by
  refine (dats m 0 c).arrAt_eq_of_covers 12 _ (by decide +kernel) fun t hf y => ?_
  blk_simp; rw [after0_12]; unfold_out out0_12; frame_out; exact point12 m c t y
theorem final13 : (dats m 0 c).arrAt 13 (cfgs 0).N = G13 (A0 m c) (A1 m c) (A2 m c) (A3 m c) (A4 m c) (A5 m c) (A6 m c) := by
  refine (dats m 0 c).arrAt_eq_of_covers 13 _ (by decide +kernel) fun t hf y => ?_
  blk_simp; rw [after0_13]; unfold_out out0_13; frame_out; exact point13 m c t y
theorem final14 : (dats m 0 c).arrAt 14 (cfgs 0).N = G14 (A0 m c) (A1 m c) (A2 m c) (A3 m c) (A4 m c) := by
  refine (dats m 0 c).arrAt_eq_of_covers 14 _ (by decide +kernel) fun t hf y => ?_
  blk_simp; rw [after0_14]; unfold_out out0_14; frame_out; exact point14 m c t y

end Cert.MixffnFwd
end
-- ==== Proof.InprojFwdValue.lean ====
/- The norm and the input projection, forward: the rows the kernel writes block by block are the reference's terms. -/
module

public import proofs.«01_k».proof.Proof.Gen.InprojFwdIdeal.Frame
public import proofs.«01_k».proof.Proof.Gen.InprojFwdRefIdeal.Run
public import proofs.«01_k».proof.Proof.InprojPure
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InprojFwd

open Cert.Inproj (ms)

/-- The normed row. -/
def nrm (x g : Fin 1024 → EReal) (k : Fin 1024) : EReal := x k * Ideal.rsqrt (ms x) * g k

section Reference
open Cert.InprojFwdRefIdeal Cert.InprojFwdRefIdeal.Gen

variable (a0 : FVec Ideal S4096x1024 .f32) (a1 : FVec Ideal S1024 .f32) (a2 : FVec Ideal S1024x2304 .f32)

def XN : FVec Ideal S4096x1024 .f32 :=
  mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 a1))

/-- The reference's results: the projection, the normed rows. -/
def GP : FVec Ideal S4096x2304 .f32 := Host.dotGeneral dot_S4096x1024_S1024x2304_S4096x2304_1_0_0_1_n_n none (XN a0 a1) a2
def GN : FVec Ideal S4096x1024 .bf16 := truncf .bf16 (XN a0 a1) bitsLt_bf16_f32

theorem XN_at (r : Fin 4096) (k : Fin 1024) : XN a0 a1 (ix2 r k) = nrm (fun k => a0 (ix2 r k)) (fun k => a1 (ix1 k)) k := by
  pointwise [XN, nrm, ms]

theorem GP_at (r : Fin 4096) (j : Fin 2304) :
    GP a0 a1 a2 (ix2 r j) = ∑ k : Fin 1024, nrm (fun k => a0 (ix2 r k)) (fun k => a1 (ix1 k)) k * a2 (ix2 k j) := by
  pointwise [GP, XN_at]

theorem GN_at (r : Fin 4096) (k : Fin 1024) : @Eq EReal (GN a0 a1 (ix2 r k)) (nrm (fun k => a0 (ix2 r k)) (fun k => a1 (ix1 k)) k) := by
  pointwise [GN, XN_at]

end Reference

open Cert.InprojFwdIdeal Cert.InprojFwdIdeal.Gen

section Payloads
variable (x : FVec Ideal S512x1024 .f32) (g : FVec Ideal S1x1024 .f32) (w : FVec Ideal S1024x2304 .bf16)

theorem pay1_at (r : Fin 512) (k : Fin 1024) :
    @Eq EReal (k0_pay1 (F := Ideal) x g (ix2 r k)) (nrm (fun k => x (ix2 r k)) (fun k => g (ix2 0 k)) k) := by
  pointwise [k0_pay1, nrm, ms]

theorem pay2_at (r : Fin 512) (j : Fin 2304) :
    @Eq EReal (k0_pay2 (F := Ideal) x g w (ix2 r j)) (∑ k : Fin 1024, nrm (fun k => x (ix2 r k)) (fun k => g (ix2 0 k)) k * w (ix2 k j)) := by
  pointwise [k0_pay2, pay1_at]

theorem pay3_at (r : Fin 512) (k : Fin 1024) :
    @Eq EReal (k0_pay3 (F := Ideal) x g (ix2 r k)) (nrm (fun k => x (ix2 r k)) (fun k => g (ix2 0 k)) k) := by
  pointwise [k0_pay3, pay1_at]

end Payloads

variable (m : (ℓ : Loc nD τ sig) → Buf (Elt Ideal) ℓ)

theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ t.val < 8 :=
  (by decide +kernel : ∀ t : Fin grid0.N, _)

/-- The argument arrays: the residual stream, the norm's weight, the projection's matrix. -/
abbrev A0 (c : Dev nD) : FVec Ideal S4096x1024 .f32 := m ((c : Thread nD τ).loc main_arg0)
abbrev A1 (c : Dev nD) : FVec Ideal S1024 .f32 := m ((c : Thread nD τ).loc main_arg1)
abbrev A2 (c : Dev nD) : FVec Ideal S1024x2304 .f32 := m ((c : Thread nD τ).loc main_arg2)

/-- Row `r` of block `t`. -/
def row (t : Fin cfg0.N) (r : Fin 512) : Fin 4096 := ⟨t.val * 512 + r.val, by have := (idx t).2.2.2.2.2; omega⟩

variable (c : Dev nD) (t : Fin cfg0.N)

theorem b0 (r : Fin 512) (k : Fin 1024) : iblk m c 0 t (ix2 r k) = A0 m c (ix2 (row t r) k) := by
  blk_ext [iblk, V, idx t, row]
theorem b1 (k : Fin 1024) : iblk m c 1 t (ix2 0 k) = A1 m c (ix1 k) := by
  blk_point [iblk, V, idx t]
theorem b2 (k : Fin 1024) (j : Fin 2304) : iblk m c 2 t (ix2 k j) = A2 m c (ix2 k j) := by
  blk_point [iblk, V, idx t]

theorem emb3 (r : Fin 512) (k : Fin 2304) : ((cfg0.win 3).blk t).view.emb (ix2 r k) = (ix2 (row t r) k : S4096x2304.Idx) := by
  blk_ext [idx t, row]
theorem emb4 (r : Fin 512) (k : Fin 1024) : ((cfg0.win 4).blk t).view.emb (ix2 r k) = (ix2 (row t r) k : S4096x1024.Idx) := by
  blk_ext [idx t, row]

theorem point3 (y : S512x2304.Idx) : @Eq EReal (k0_pay2 (F := Ideal) (iblk m c 0 t) (iblk m c 1 t) (iblk m c 2 t) y)
    (GP (A0 m c) (A1 m c) (A2 m c) (((cfg0.win 3).blk t).view.emb y)) := by
  obtain ⟨r, j, rfl⟩ : ∃ (r : Fin 512) (j : Fin 2304), y = ix2 r j := ⟨y 0, y 1, eq_ix2 y⟩
  rw [emb3]
  refine (pay2_at _ _ _ r j).trans (Eq.trans ?_ (GP_at _ _ _ (row t r) j).symm)
  rw [funext fun k => b0 m c t r k, funext fun k => b1 m c t k]
  exact Finset.sum_congr rfl fun k _ => Ideal.mul_congr rfl (b2 m c t k j)

theorem point4 (y : S512x1024.Idx) : @Eq EReal (k0_pay3 (F := Ideal) (iblk m c 0 t) (iblk m c 1 t) y)
    (GN (A0 m c) (A1 m c) (((cfg0.win 4).blk t).view.emb y)) := by
  obtain ⟨r, k, rfl⟩ : ∃ (r : Fin 512) (k : Fin 1024), y = ix2 r k := ⟨y 0, y 1, eq_ix2 y⟩
  rw [emb4]
  refine (pay3_at _ _ r k).trans (Eq.trans ?_ (GN_at _ _ (row t r) k).symm)
  rw [funext fun k => b0 m c t r k, funext fun k => b1 m c t k]

theorem final3 : (dats m 0 c).arrAt 3 (cfgs 0).N = GP (A0 m c) (A1 m c) (A2 m c) := by
  refine (dats m 0 c).arrAt_eq_of_covers 3 _ (by decide +kernel) fun t hf y => ?_
  blk_simp; rw [after0_3]; unfold out0_3; frame_out; exact point3 m c t y

theorem final4 : (dats m 0 c).arrAt 4 (cfgs 0).N = GN (A0 m c) (A1 m c) := by
  refine (dats m 0 c).arrAt_eq_of_covers 4 _ (by decide +kernel) fun t hf y => ?_
  blk_simp; rw [after0_4]; unfold out0_4; frame_out; exact point4 m c t y

end Cert.InprojFwd
end
-- ==== Proof.S5PostPure.lean ====
/- The S5 heads' gate, backward: the arithmetic of one token row, read off the kernel's payloads and off the
   reference's terms. -/
module

public import proofs.«01_k».proof.Proof.Gen.S5PostIdeal.Frame
public import proofs.«01_k».proof.Proof.Gen.S5PostRefIdeal.Run
public import proofs.«01_k».proof.Proof.FfnPure
public import proofs.«01_k».proof.Proof.RealFacts
public import Idealize.ShloMosaic.Lib.Pointwise

@[expose] public section

set_option maxRecDepth 16384

noncomputable section

open Idealize.ShloMosaic Idealize.ShloMosaic.TcCoe Idealize.SL.Sem

namespace Cert.S5Post

open Cert.Ffn (lgs)
open Cert.Facts

/-- The hyperbolic tangent inside gelu. -/
def th (y : EReal) : EReal :=
  Ideal.tanh (Ideal.ofBits .f32 0x3F4C422A#32 * (y + Ideal.ofBits .f32 0x3D372713#32 * (y * y * y)))

/-- gelu. -/
def zf (y : EReal) : EReal := y * (Ideal.ofBits .f32 0x3F000000#32 * (1 + th y))

/-- The gate's argument. -/
def pre (y : Fin 512 → EReal) (w : Fin 512 → Fin 512 → EReal) (b : Fin 512 → EReal) (j : Fin 512) : EReal :=
  (∑ k, zf (y k) * w k j) + b j

/-- Cotangent of the gated row: the output's cotangent against its rows of the output projection. -/
def go (ct : Fin 1024 → EReal) (w : Fin 512 → Fin 1024 → EReal) (j : Fin 512) : EReal := ∑ k, ct k * w j k

/-- Cotangent of the gate's argument `a`, for gelu's value `z` and the gated row's cotangent `d`. -/
def de (z a d : EReal) : EReal := z * d * (lgs a * (1 - lgs a))

/-- Cotangent of gelu's value, from the gated row's cotangent `d` and the gate's arguments' `e`. -/
def dz (d a : EReal) (e : Fin 512 → EReal) (w : Fin 512 → EReal) : EReal := d * lgs a + ∑ j, e j * w j

/-- Cotangent of gelu's argument. -/
def dy (y g : EReal) : EReal :=
  g * (Ideal.ofBits .f32 0x3F000000#32 * (1 + th y))
    + Ideal.ofBits .f32 0x3F4C422A#32 * (Ideal.ofBits .f32 0x3F000000#32 * (y * g) * ((1 + th y) * (1 - th y)))
    + Ideal.ofBits .f32 0x3D372713#32
        * (Ideal.ofBits .f32 0x3F4C422A#32 * (Ideal.ofBits .f32 0x3F000000#32 * (y * g) * ((1 + th y) * (1 - th y))))
        * (Ideal.ofBits .f32 0x40400000#32 * (y * y))

theorem half : ∃ e : ℝ, Ideal.ofBits .f32 0x3F000000#32 = (e : EReal) :=
  ⟨_, f32_pos _ 126 0 (by decide) (by decide) (by decide) (by decide) (by decide)⟩
theorem cub : ∃ e : ℝ, Ideal.ofBits .f32 0x3D372713#32 = (e : EReal) :=
  ⟨_, f32_pos _ 122 3614483 (by decide) (by decide) (by decide) (by decide) (by decide)⟩
theorem scl : ∃ e : ℝ, Ideal.ofBits .f32 0x3F4C422A#32 = (e : EReal) :=
  ⟨_, f32_pos _ 126 4997674 (by decide) (by decide) (by decide) (by decide) (by decide)⟩
theorem three : Ideal.ofBits .f32 0x40400000#32 = ((3 : ℝ) : EReal) := by
  rw [f32_pos _ 128 4194304 (by decide) (by decide) (by decide) (by decide) (by decide)]
  congr 1; norm_num

theorem isReal_th {y : EReal} (h : IsReal y) : IsReal (th y) := by
  obtain ⟨a, ha⟩ := cub
  obtain ⟨b, hb⟩ := scl
  rw [th, ha, hb]
  exact ((IsReal.coe b).mul (h.add ((IsReal.coe a).mul ((h.mul h).mul h)))).tanh

theorem isReal_zf {y : EReal} (h : IsReal y) : IsReal (zf y) := by
  obtain ⟨a, ha⟩ := half
  rw [zf, ha]
  exact h.mul ((IsReal.coe a).mul (IsReal.one.add (isReal_th h)))

theorem isReal_lgs {a : EReal} (h : IsReal a) : IsReal (lgs a) := by
  obtain ⟨x, rfl⟩ := h
  exact ⟨_, sig_coe x⟩

theorem isReal_pre {y b : Fin 512 → EReal} {w : Fin 512 → Fin 512 → EReal} (hy : ∀ k, IsReal (y k)) (hb : ∀ k, IsReal (b k))
    (hw : ∀ k j, IsReal (w k j)) (j : Fin 512) : IsReal (pre y w b j) :=
  (IsReal.sum _ fun k => (isReal_zf (hy k)).mul (hw k j)).add (hb j)

theorem isReal_go {ct : Fin 1024 → EReal} {w : Fin 512 → Fin 1024 → EReal} (hc : ∀ k, IsReal (ct k)) (hw : ∀ j k, IsReal (w j k))
    (j : Fin 512) : IsReal (go ct w j) := IsReal.sum _ fun k => (hc k).mul (hw j k)

theorem isReal_de {z a d : EReal} (hz : IsReal z) (ha : IsReal a) (hd : IsReal d) : IsReal (de z a d) :=
  (hz.mul hd).mul ((isReal_lgs ha).mul (IsReal.one.sub (isReal_lgs ha)))

theorem isReal_dz {d a : EReal} {e w : Fin 512 → EReal} (hd : IsReal d) (ha : IsReal a) (he : ∀ j, IsReal (e j))
    (hw : ∀ j, IsReal (w j)) : IsReal (dz d a e w) :=
  (hd.mul (isReal_lgs ha)).add (IsReal.sum _ fun j => (he j).mul (hw j))

/-- The quotient rule's order of the logistic function's derivative, which the kernel uses. -/
theorem de_quot {z a d : EReal} (hz : IsReal z) (ha : IsReal a) (hd : IsReal d) :
    -(-(z * d * Ideal.div 1 ((1 + Ideal.exp (-a)) * (1 + Ideal.exp (-a)))) * Ideal.exp (-a)) = de z a d := by
  obtain ⟨z, rfl⟩ := hz
  obtain ⟨a, rfl⟩ := ha
  obtain ⟨d, rfl⟩ := hd
  have h1 : (1 + Real.exp (-a)) ≠ 0 := by positivity
  have e2 : Ideal.div 1 ((1 + Ideal.exp (-(a : EReal))) * (1 + Ideal.exp (-(a : EReal))))
      = ((1 / ((1 + Real.exp (-a)) * (1 + Real.exp (-a))) : ℝ) : EReal) := by
    rw [← EReal.coe_neg, Ideal.exp_coe, ← EReal.coe_one, ← EReal.coe_add, ← EReal.coe_mul, div_coe_coe 1 (mul_ne_zero h1 h1)]
  simp only [de, lgs]
  rw [sig_coe, e2, ← EReal.coe_neg, Ideal.exp_coe, ← EReal.coe_one]
  norm_cast
  field_simp
  ring

/-- The kernel's order of gelu's derivative, the cube differentiated factor by factor. -/
theorem dy_cube {y g : EReal} (hy : IsReal y) (hg : IsReal g) {p q s : EReal} (hp : p = Ideal.ofBits .f32 0x3F000000#32)
    (hq : q = Ideal.ofBits .f32 0x3D372713#32) (hs : s = Ideal.ofBits .f32 0x3F4C422A#32) :
    s * (p * y * g * ((1 + th y) * (1 - th y))) + y * y * (q * (s * (p * y * g * ((1 + th y) * (1 - th y)))))
      + y * (q * (s * (p * y * g * ((1 + th y) * (1 - th y)))) * y)
      + q * (s * (p * y * g * ((1 + th y) * (1 - th y)))) * y * y + p * (g * (1 + th y)) = dy y g := by
  obtain ⟨t, ht⟩ := isReal_th hy
  obtain ⟨y, rfl⟩ := hy
  obtain ⟨g, rfl⟩ := hg
  obtain ⟨u, hu⟩ := half
  obtain ⟨a, ha⟩ := cub
  obtain ⟨b, hb⟩ := scl
  rw [dy, hp, hq, hs, ht, hu, ha, hb, three, ← EReal.coe_one]
  norm_cast
  ring

section Kernel
open Cert.S5PostIdeal Cert.S5PostIdeal.Gen

variable (y : FVec Ideal S512x512 .f32) (ct : FVec Ideal S512x1024 .f32) (w : FVec Ideal S512x512 .bf16)
  (b : FVec Ideal S1x512 .f32) (wt : FVec Ideal S512x1024 .bf16)

/-- The row's gate argument and gated row's cotangent, at the kernel's blocks. -/
abbrev kpre (r j : Fin 512) : EReal := pre (fun k => y (ix2 r k)) (fun k j => w (ix2 k j)) (fun k => b (ix2 0 k)) j
abbrev kgo (r j : Fin 512) : EReal := go (fun k => ct (ix2 r k)) (fun j k => wt (ix2 j k)) j

theorem pay11_at (r j : Fin 512) : @Eq EReal (k0_pay11 (F := Idealize.ShloMosaic.Ideal) y (ix2 r j)) (th (y (ix2 r j))) := by
  pointwise [k0_pay11, k0_pay10, th]

theorem pay14_at (r j : Fin 512) : @Eq EReal (k0_pay14 (F := Idealize.ShloMosaic.Ideal) y (ix2 r j)) (zf (y (ix2 r j))) := by
  pointwise [k0_pay14, k0_pay9, k0_pay13, pay11_at, zf]
  ac_rfl

theorem pay15_at (r j : Fin 512) : @Eq EReal (k0_pay15 (F := Idealize.ShloMosaic.Ideal) y w b (ix2 r j)) (Ideal.exp (-kpre y w b r j)) := by
  pointwise [k0_pay15, k0_pay7, pre]
  simp only [pay14_at, add_zero, zero_sub]

theorem pay16_at (r j : Fin 512) :
    @Eq EReal (k0_pay16 (F := Idealize.ShloMosaic.Ideal) y w b (ix2 r j)) (1 + Ideal.exp (-kpre y w b r j)) := by
  pointwise [k0_pay16]
  rw [pay15_at]

theorem pay18_at (r j : Fin 512) :
    @Eq EReal (k0_pay18 (F := Idealize.ShloMosaic.Ideal) (k0_pay16 y w b) k0_pay17 (ix2 r j)) (lgs (kpre y w b r j)) := by
  pointwise [k0_pay18, k0_pay17, lgs]
  rw [pay16_at]

theorem pay19_at (r j : Fin 512) : @Eq EReal (k0_pay19 (F := Idealize.ShloMosaic.Ideal) ct (k0_pay8 wt) (ix2 r j)) (kgo ct wt r j) := by
  pointwise [k0_pay19, k0_pay8, go]

/-- The blocks hold real numbers. -/
structure Reals : Prop where
  y : ∀ r j, IsReal (y (ix2 r j))
  ct : ∀ r j, IsReal (ct (ix2 r j))
  w : ∀ k j, IsReal (w (ix2 k j))
  b : ∀ j, IsReal (b (ix2 0 j))
  wt : ∀ j k, IsReal (wt (ix2 j k))

variable {y ct w b wt} (h : Reals y ct w b wt)
include h

theorem Reals.pre (r j : Fin 512) : IsReal (kpre y w b r j) := isReal_pre (h.y r) h.b h.w j
theorem Reals.go (r j : Fin 512) : IsReal (kgo ct wt r j) := isReal_go (h.ct r) h.wt j

theorem pay20_at (r j : Fin 512) :
    @Eq EReal (k0_pay20 (F := Idealize.ShloMosaic.Ideal) ct (k0_pay8 wt) (k0_pay14 y) (k0_pay15 y w b) (k0_pay16 y w b) (ix2 r j))
      (de (zf (y (ix2 r j))) (kpre y w b r j) (kgo ct wt r j)) := by
  rw [← de_quot (isReal_zf (h.y r j)) (h.pre r j) (h.go r j)]
  pointwise [k0_pay20]
  rw [pay16_at, pay15_at, pay14_at, pay19_at]
  simp only [mul_one, zero_sub]

/-- Cotangent of gelu's value, at the kernel's blocks. -/
abbrev kdz (y : FVec Ideal S512x512 .f32) (ct : FVec Ideal S512x1024 .f32) (w : FVec Ideal S512x512 .bf16)
    (b : FVec Ideal S1x512 .f32) (wt : FVec Ideal S512x1024 .bf16) (r k : Fin 512) : EReal :=
  dz (kgo ct wt r k) (kpre y w b r k) (fun j => de (zf (y (ix2 r j))) (kpre y w b r j) (kgo ct wt r j)) (fun j => w (ix2 k j))

theorem Reals.dz (r k : Fin 512) : IsReal (kdz y ct w b wt r k) :=
  isReal_dz (h.go r k) (h.pre r k) (fun j => isReal_de (isReal_zf (h.y r j)) (h.pre r j) (h.go r j)) (h.w k)

theorem pay22_at (r k : Fin 512) :
    @Eq EReal (k0_pay22 (F := Idealize.ShloMosaic.Ideal) y ct (k0_pay7 w) (k0_pay8 wt) (k0_pay9 y) (k0_pay10 y) (k0_pay12 y) (k0_pay13 y)
        (k0_pay14 y) (k0_pay15 y w b) (k0_pay16 y w b) k0_pay17 (ix2 r k))
      (dy (y (ix2 r k)) (kdz y ct w b wt r k)) := by
  rw [← dy_cube (h.y r k) (h.dz r k) rfl rfl rfl]
  pointwise [k0_pay22, k0_pay9, k0_pay10, k0_pay12, k0_pay13, k0_pay7]
  simp only [pay11_at, pay18_at, pay19_at, pay20_at h]
  rfl

theorem pay21_at (k : Fin 512) :
    @Eq EReal (k0_pay21 (F := Idealize.ShloMosaic.Ideal) ct (k0_pay8 wt) (k0_pay14 y) (k0_pay15 y w b) (k0_pay16 y w b) (ix2 0 k))
      (∑ r : Fin 512, de (zf (y (ix2 r k))) (kpre y w b r k) (kgo ct wt r k)) := by
  pointwise [k0_pay21]
  simp only [pay20_at h]

theorem pay23_at (j k : Fin 512) :
    @Eq EReal (k0_pay23 (F := Idealize.ShloMosaic.Ideal) ct (k0_pay8 wt) (k0_pay14 y) (k0_pay15 y w b) (k0_pay16 y w b) (ix2 j k))
      (∑ r : Fin 512, zf (y (ix2 r j)) * de (zf (y (ix2 r k))) (kpre y w b r k) (kgo ct wt r k)) := by
  pointwise [k0_pay23]
  simp only [pay20_at h, pay14_at]

omit h in
theorem pay24_at (j : Fin 512) (k : Fin 1024) :
    @Eq EReal (k0_pay24 (F := Idealize.ShloMosaic.Ideal) ct (k0_pay14 y) (k0_pay16 y w b) k0_pay17 (ix2 j k))
      (∑ r : Fin 512, zf (y (ix2 r j)) * lgs (kpre y w b r j) * ct (ix2 r k)) := by
  pointwise [k0_pay24]
  simp only [pay18_at, pay14_at]

end Kernel

section Reference
open Cert.S5PostRefIdeal Cert.S5PostRefIdeal.Gen

def WT (a3 : FVec Ideal S1024x1024 .f32) : FVec Ideal S512x1024 .f32 :=
  extractStridedSlice S512x1024 ![0, 0] a3 slices_S1024x1024_S512x1024_0_0

def TH (a0 : FVec Ideal S4096x512 .f32) : FVec Ideal S4096x512 .f32 :=
  Host.tanh (mulf (broadcastInDim S4096x512 ![] bcast_S_S4096x512 (constant S_ .f32 0x3F4C422A#32)) (addf a0 (mulf (broadcastInDim S4096x512 ![] bcast_S_S4096x512 (constant S_ .f32 0x3D372713#32)) (mulf (mulf a0 a0) a0))))

def ZZ (a0 : FVec Ideal S4096x512 .f32) (th : FVec Ideal S4096x512 .f32) : FVec Ideal S4096x512 .f32 :=
  mulf a0 (mulf (broadcastInDim S4096x512 ![] bcast_S_S4096x512 (constant S_ .f32 0x3F000000#32)) (addf (broadcastInDim S4096x512 ![] bcast_S_S4096x512 (constant S_ .f32 0x3F800000#32)) th))

def PRE (a1 : FVec Ideal S512x512 .f32) (a2 : FVec Ideal S512 .f32) (zz : FVec Ideal S4096x512 .f32) : FVec Ideal S4096x512 .f32 :=
  addf (Host.dotGeneral dot_S4096x512_S512x512_S4096x512_1_0_0_1_n_n none zz a1) (broadcastInDim S4096x512 ![0, 1] bcast_S1x512_S4096x512_0_1 (broadcastInDim S1x512 ![1] bcast_S512_S1x512_1 a2))

def SG (pre : FVec Ideal S4096x512 .f32) : FVec Ideal S4096x512 .f32 :=
  Host.divf (broadcastInDim S4096x512 ![] bcast_S_S4096x512 (constant S_ .f32 0x3F800000#32)) (addf (broadcastInDim S4096x512 ![] bcast_S_S4096x512 (constant S_ .f32 0x3F800000#32)) (Host.exp (Host.negf pre)))

def OUT (zz : FVec Ideal S4096x512 .f32) (sg : FVec Ideal S4096x512 .f32) : FVec Ideal S4096x512 .f32 :=
  mulf zz sg

def DT (a4 : FVec Ideal S4096x1024 .f32) (out : FVec Ideal S4096x512 .f32) : FVec Ideal S512x1024 .f32 :=
  transpose S512x1024 [1, 0] (Host.dotGeneral dot_S4096x1024_S4096x512_S1024x512_0_0_1_1_n_n none a4 out) transposes_S1024x512_S512x1024_1_0

def GO (a4 : FVec Ideal S4096x1024 .f32) (wt : FVec Ideal S512x1024 .f32) : FVec Ideal S4096x512 .f32 :=
  Host.dotGeneral dot_S4096x1024_S512x1024_S4096x512_1_1_0_0_n_n none a4 wt

def DE (zz : FVec Ideal S4096x512 .f32) (sg : FVec Ideal S4096x512 .f32) (go : FVec Ideal S4096x512 .f32) : FVec Ideal S4096x512 .f32 :=
  mulf (mulf zz go) (mulf sg (subf (broadcastInDim S4096x512 ![] bcast_S_S4096x512 (constant S_ .f32 0x3F800000#32)) sg))

def DW (zz : FVec Ideal S4096x512 .f32) (de : FVec Ideal S4096x512 .f32) : FVec Ideal S512x512 .f32 :=
  transpose S512x512 [1, 0] (Host.dotGeneral dot_S4096x512_S4096x512_S512x512_0_0_1_1_n_n none de zz) transposes_S512x512_S512x512_1_0

def DZ (a1 : FVec Ideal S512x512 .f32) (sg : FVec Ideal S4096x512 .f32) (go : FVec Ideal S4096x512 .f32) (de : FVec Ideal S4096x512 .f32) : FVec Ideal S4096x512 .f32 :=
  addf (mulf go sg) (Host.dotGeneral dot_S4096x512_S512x512_S4096x512_1_1_0_0_n_n none de a1)

def DY (a0 : FVec Ideal S4096x512 .f32) (th : FVec Ideal S4096x512 .f32) (dz : FVec Ideal S4096x512 .f32) : FVec Ideal S4096x512 .f32 :=
  addf (addf (mulf dz (mulf (broadcastInDim S4096x512 ![] bcast_S_S4096x512 (constant S_ .f32 0x3F000000#32)) (addf (broadcastInDim S4096x512 ![] bcast_S_S4096x512 (constant S_ .f32 0x3F800000#32)) th))) (mulf (broadcastInDim S4096x512 ![] bcast_S_S4096x512 (constant S_ .f32 0x3F4C422A#32)) (mulf (mulf (broadcastInDim S4096x512 ![] bcast_S_S4096x512 (constant S_ .f32 0x3F000000#32)) (mulf a0 dz)) (mulf (addf (broadcastInDim S4096x512 ![] bcast_S_S4096x512 (constant S_ .f32 0x3F800000#32)) th) (subf (broadcastInDim S4096x512 ![] bcast_S_S4096x512 (constant S_ .f32 0x3F800000#32)) th))))) (mulf (mulf (broadcastInDim S4096x512 ![] bcast_S_S4096x512 (constant S_ .f32 0x3D372713#32)) (mulf (broadcastInDim S4096x512 ![] bcast_S_S4096x512 (constant S_ .f32 0x3F4C422A#32)) (mulf (mulf (broadcastInDim S4096x512 ![] bcast_S_S4096x512 (constant S_ .f32 0x3F000000#32)) (mulf a0 dz)) (mulf (addf (broadcastInDim S4096x512 ![] bcast_S_S4096x512 (constant S_ .f32 0x3F800000#32)) th) (subf (broadcastInDim S4096x512 ![] bcast_S_S4096x512 (constant S_ .f32 0x3F800000#32)) th))))) (mulf (broadcastInDim S4096x512 ![] bcast_S_S4096x512 (constant S_ .f32 0x40400000#32)) (mulf a0 a0)))

def DB (de : FVec Ideal S4096x512 .f32) : FVec Ideal S1x512 .f32 :=
  shapeCast _ (Host.reduceAdd (shapeCast _ (Host.reduceAdd de (constant S_ .f32 0x00000000#32) reducesTo_S4096x512_S512_d0 h_S_) shapeCasts_S512_S1x512) (constant S_ .f32 0x00000000#32) reducesTo_S1x512_S512_d0 h_S_) shapeCasts_S512_S1x512

section Results
variable (a0 : FVec Ideal S4096x512 .f32) (a1 : FVec Ideal S512x512 .f32) (a2 : FVec Ideal S512 .f32) (a3 : FVec Ideal S1024x1024 .f32)
  (a4 : FVec Ideal S4096x1024 .f32)

theorem ZZ_at (r : Fin 4096) (j : Fin 512) : ZZ a0 (TH a0) (ix2 r j) = zf (a0 (ix2 r j)) := by
  pointwise [ZZ, TH, zf, th]

/-- The row's gate argument and gated row's cotangent. -/
abbrev rpre (r : Fin 4096) (j : Fin 512) : EReal := pre (fun k => a0 (ix2 r k)) (fun k j => a1 (ix2 k j)) (fun k => a2 (ix1 k)) j
abbrev rgo (r : Fin 4096) (j : Fin 512) : EReal := go (fun k => a4 (ix2 r k)) (fun j k => a3 (ix2 ⟨j.val, by omega⟩ k)) j
abbrev rde (r : Fin 4096) (j : Fin 512) : EReal := de (zf (a0 (ix2 r j))) (rpre a0 a1 a2 r j) (rgo a3 a4 r j)

/-- The gate, the gated row's cotangent, the gate argument's. -/
def RS : FVec Ideal S4096x512 .f32 := SG (PRE a1 a2 (ZZ a0 (TH a0)))
def RG : FVec Ideal S4096x512 .f32 := GO a4 (WT a3)
def RE : FVec Ideal S4096x512 .f32 := DE (ZZ a0 (TH a0)) (RS a0 a1 a2) (RG a3 a4)

/-- The results: the gradients of gelu's argument, the bias, the gate's matrix and the output projection's rows. -/
def RY : FVec Ideal S4096x512 .f32 := DY a0 (TH a0) (DZ a1 (RS a0 a1 a2) (RG a3 a4) (RE a0 a1 a2 a3 a4))
def RB : FVec Ideal S1x512 .f32 := DB (RE a0 a1 a2 a3 a4)
def RW : FVec Ideal S512x512 .f32 := DW (ZZ a0 (TH a0)) (RE a0 a1 a2 a3 a4)
def RT : FVec Ideal S512x1024 .f32 := DT a4 (OUT (ZZ a0 (TH a0)) (RS a0 a1 a2))

theorem RS_at (r : Fin 4096) (j : Fin 512) : RS a0 a1 a2 (ix2 r j) = lgs (rpre a0 a1 a2 r j) := by
  pointwise [RS, SG, PRE, ZZ_at, pre, lgs]

theorem RG_at (r : Fin 4096) (j : Fin 512) : RG a3 a4 (ix2 r j) = rgo a3 a4 r j := by
  pointwise [RG, GO, WT, go]

theorem RE_at (r : Fin 4096) (j : Fin 512) : RE a0 a1 a2 a3 a4 (ix2 r j) = rde a0 a1 a2 a3 a4 r j := by
  pointwise [RE, DE, de]
  rw [ZZ_at, RG_at, RS_at]

theorem RY_at (r : Fin 4096) (k : Fin 512) : RY a0 a1 a2 a3 a4 (ix2 r k)
    = dy (a0 (ix2 r k)) (dz (rgo a3 a4 r k) (rpre a0 a1 a2 r k) (fun j => rde a0 a1 a2 a3 a4 r j) (fun j => a1 (ix2 k j))) := by
  have e : TH a0 (ix2 r k) = th (a0 (ix2 r k)) := by pointwise [TH, th]
  pointwise [RY, DY, DZ, dy, dz]
  simp only [e, RG_at, RS_at, RE_at]

theorem RB_at (k : Fin 512) : RB a0 a1 a2 a3 a4 (ix2 0 k) = ∑ r : Fin 4096, rde a0 a1 a2 a3 a4 r k := by
  pointwise [RB, DB]
  simp only [Fin.sum_univ_one, RE_at]

theorem RW_at (j k : Fin 512) : RW a0 a1 a2 a3 a4 (ix2 j k) = ∑ r : Fin 4096, zf (a0 (ix2 r j)) * rde a0 a1 a2 a3 a4 r k := by
  pointwise [RW, DW]
  simp only [ZZ_at, RE_at, mul_comm]

theorem RT_at (j : Fin 512) (k : Fin 1024) :
    RT a0 a1 a2 a4 (ix2 j k) = ∑ r : Fin 4096, zf (a0 (ix2 r j)) * lgs (rpre a0 a1 a2 r j) * a4 (ix2 r k) := by
  pointwise [RT, DT, OUT]
  refine Finset.sum_congr rfl fun r _ => ?_
  rw [ZZ_at, RS_at, mul_comm]

variable (m' : (ℓ : Loc nD τ sig) → Buf (Elt Ideal) ℓ) (c : Dev nD)
  (h0 : m' ((c.tc : Thread nD τ).loc main_arg0) = a0) (h1 : m' ((c.tc : Thread nD τ).loc main_arg1) = a1)
  (h2 : m' ((c.tc : Thread nD τ).loc main_arg2) = a2) (h3 : m' ((c.tc : Thread nD τ).loc main_arg3) = a3)
  (h4 : m' ((c.tc : Thread nD τ).loc main_arg4) = a4)
include h0 h1 h2 h3 h4

theorem res_dy : Cert.S5PostRefIdeal.Value.res_out0 m' c = RY a0 a1 a2 a3 a4 := by subst h0 h1 h2 h3 h4; rfl

end Results
end Reference

end Cert.S5Post
end
-- ==== Proof.S5PostFwdValue.lean ====
/- The S5 heads' gate, forward: the gated rows the kernel writes block by block are the reference's term. -/
module

public import proofs.«01_k».proof.Proof.Gen.S5PostFwdIdeal.Frame
public import proofs.«01_k».proof.Proof.Gen.S5PostFwdRefIdeal.Run
public import proofs.«01_k».proof.Proof.S5PostPure
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.S5PostFwd

open Cert.S5Post (th zf pre)
open Cert.Ffn (lgs)

/-- Column `j` of the gated row. -/
def gated (y : Fin 512 → EReal) (w : Fin 512 → Fin 512 → EReal) (b : Fin 512 → EReal) (j : Fin 512) : EReal :=
  zf (y j) * lgs (pre y w b j)

/-- gelu, its half taken first as in the kernel. -/
theorem zf_half (y : EReal) : Ideal.ofBits .f32 0x3F000000#32 * y * (1 + th y) = zf y := by
  unfold zf; ac_rfl

section Reference
open Cert.S5PostFwdRefIdeal Cert.S5PostFwdRefIdeal.Gen

variable (a0 : FVec Ideal S4096x512 .f32) (a1 : FVec Ideal S512x512 .f32) (a2 : FVec Ideal S512 .f32)

def Z : FVec Ideal S4096x512 .f32 :=
  mulf a0 (mulf (broadcastInDim S4096x512 ![] bcast_S_S4096x512 (constant S_ .f32 0x3F000000#32)) (addf (broadcastInDim S4096x512 ![] bcast_S_S4096x512 (constant S_ .f32 0x3F800000#32)) (Host.tanh (mulf (broadcastInDim S4096x512 ![] bcast_S_S4096x512 (constant S_ .f32 0x3F4C422A#32)) (addf a0 (mulf (broadcastInDim S4096x512 ![] bcast_S_S4096x512 (constant S_ .f32 0x3D372713#32)) (mulf (mulf a0 a0) a0)))))))

/-- The reference's result. -/
def G : FVec Ideal S4096x512 .f32 :=
  mulf (Z a0) (Host.divf (broadcastInDim S4096x512 ![] bcast_S_S4096x512 (constant S_ .f32 0x3F800000#32)) (addf (broadcastInDim S4096x512 ![] bcast_S_S4096x512 (constant S_ .f32 0x3F800000#32)) (Host.exp (Host.negf (addf (Host.dotGeneral dot_S4096x512_S512x512_S4096x512_1_0_0_1_n_n none (Z a0) a1) (broadcastInDim S4096x512 ![0, 1] bcast_S1x512_S4096x512_0_1 (broadcastInDim S1x512 ![1] bcast_S512_S1x512_1 a2)))))))

theorem Z_at (r : Fin 4096) (j : Fin 512) : Z a0 (ix2 r j) = zf (a0 (ix2 r j)) := by
  pointwise [Z, zf, th]

theorem G_at (r : Fin 4096) (j : Fin 512) :
    G a0 a1 a2 (ix2 r j) = gated (fun k => a0 (ix2 r k)) (fun k j => a1 (ix2 k j)) (fun k => a2 (ix1 k)) j := by
  pointwise [G, gated, lgs, pre, Z_at]

end Reference

open Cert.S5PostFwdIdeal Cert.S5PostFwdIdeal.Gen

theorem pay1_at (y : FVec Ideal S512x512 .f32) (w : FVec Ideal S512x512 .bf16) (b : FVec Ideal S1x512 .f32) (r j : Fin 512) :
    @Eq EReal (k0_pay1 (F := Ideal) y w b (ix2 r j))
      (gated (fun k => y (ix2 r k)) (fun k j => w (ix2 k j)) (fun k => b (ix2 0 k)) j) := by
  simp only [gated, lgs, pre, ← zf_half, th]
  pointwise [k0_pay1]
  simp only [add_zero, zero_sub]

variable (m : (ℓ : Loc nD τ sig) → Buf (Elt Ideal) ℓ)

theorem idx : ∀ t : Fin cfg0.N, win0_0.index t = ![t.val, 0]
    ∧ win0_1.index t = ![0, 0]
    ∧ win0_2.index t = ![0, 0]
    ∧ win0_3.index t = ![t.val, 0]
    ∧ t.val < 8 :=
  (by decide +kernel : ∀ t : Fin grid0.N, _)

/-- The argument arrays: gelu's argument, the gate's matrix and bias. -/
abbrev A0 (c : Dev nD) : FVec Ideal S4096x512 .f32 := m ((c : Thread nD τ).loc main_arg0)
abbrev A1 (c : Dev nD) : FVec Ideal S512x512 .f32 := m ((c : Thread nD τ).loc main_arg1)
abbrev A2 (c : Dev nD) : FVec Ideal S512 .f32 := m ((c : Thread nD τ).loc main_arg2)

/-- Row `r` of block `t`. -/
def row (t : Fin cfg0.N) (r : Fin 512) : Fin 4096 := ⟨t.val * 512 + r.val, by have := (idx t).2.2.2.2; omega⟩

variable (c : Dev nD) (t : Fin cfg0.N)

theorem b0 (r k : Fin 512) : iblk m c 0 t (ix2 r k) = A0 m c (ix2 (row t r) k) := by
  blk_ext [iblk, V, idx t, row]
theorem b1 (k j : Fin 512) : iblk m c 1 t (ix2 k j) = A1 m c (ix2 k j) := by
  blk_point [iblk, V, idx t]
theorem b2 (k : Fin 512) : iblk m c 2 t (ix2 0 k) = A2 m c (ix1 k) := by
  blk_point [iblk, V, idx t]

theorem emb3 (r k : Fin 512) : ((cfg0.win 3).blk t).view.emb (ix2 r k) = (ix2 (row t r) k : S4096x512.Idx) := by
  blk_ext [idx t, row]

theorem point3 (y : S512x512.Idx) : @Eq EReal (k0_pay1 (F := Ideal) (iblk m c 0 t) (iblk m c 1 t) (iblk m c 2 t) y)
    (G (A0 m c) (A1 m c) (A2 m c) (((cfg0.win 3).blk t).view.emb y)) := by
  obtain ⟨r, k, rfl⟩ : ∃ (r k : Fin 512), y = ix2 r k := ⟨y 0, y 1, eq_ix2 y⟩
  rw [emb3]
  refine (pay1_at _ _ _ r k).trans (Eq.trans ?_ (G_at _ _ _ (row t r) k).symm)
  rw [funext fun k => b0 m c t r k, funext fun k => funext fun j => b1 m c t k j, funext fun k => b2 m c t k]

theorem final3 : (dats m 0 c).arrAt 3 (cfgs 0).N = G (A0 m c) (A1 m c) (A2 m c) := by
  refine (dats m 0 c).arrAt_eq_of_covers 3 _ (by decide +kernel) fun t hf y => ?_
  blk_simp; rw [after0_3]; unfold out0_3; frame_out; exact point3 m c t y

end Cert.S5PostFwd
end
-- ==== Proof.WkvMath.lean ====
/- RWKV-7's recurrence over the real numbers, and its solution by chunks of 64 tokens. -/
module

public import Mathlib.Data.Matrix.Mul
public import Mathlib.Analysis.SpecialFunctions.Log.Basic
public import Mathlib.Algebra.BigOperators.Fin
public import Mathlib.Tactic.Ring

@[expose] public section

noncomputable section

namespace Cert.Wkv

/-- Square matrices of a chunk or a head. -/
abbrev M := Matrix (Fin 64) (Fin 64) ℝ

/-! ### A strictly lower triangular system solved by repeated squaring -/

section Solve
variable {n : Type}

/-- Six steps `x ← x + a·x`, `a ← a·a`. -/
def solve (a : M) (x : Matrix (Fin 64) n ℝ) : Matrix (Fin 64) n ℝ :=
  let x1 := x + a * x
  let a2 := a * a
  let x2 := x1 + a2 * x1
  let a4 := a2 * a2
  let x3 := x2 + a4 * x2
  let a8 := a4 * a4
  let x4 := x3 + a8 * x3
  let a16 := a8 * a8
  let x5 := x4 + a16 * x4
  let a32 := a16 * a16
  x5 + a32 * x5

theorem step_fix {a : M} {x u : Matrix (Fin 64) n ℝ} (h : x = u - a * u) : x + a * x = u - (a * a) * u := by
  subst h
  rw [Matrix.mul_sub, Matrix.mul_assoc]
  abel

theorem solve_fix {a : M} {x u : Matrix (Fin 64) n ℝ} (h : u = x + a * u)
    (hz : (((((a * a) * (a * a)) * ((a * a) * (a * a))) * (((a * a) * (a * a)) * ((a * a) * (a * a))))
      * ((((a * a) * (a * a)) * ((a * a) * (a * a))) * (((a * a) * (a * a)) * ((a * a) * (a * a)))))
      * (((((a * a) * (a * a)) * ((a * a) * (a * a))) * (((a * a) * (a * a)) * ((a * a) * (a * a))))
      * ((((a * a) * (a * a)) * ((a * a) * (a * a))) * (((a * a) * (a * a)) * ((a * a) * (a * a))))) = 0) :
    solve a x = u := by
  have e := step_fix (step_fix (step_fix (step_fix (step_fix (step_fix (eq_sub_of_add_eq h.symm))))))
  rw [hz, Matrix.zero_mul, sub_zero] at e
  exact e

theorem step_lin {m : Type} [Fintype m] (a q : M) (x : Matrix (Fin 64) n ℝ) :
    q * x + a * (q * x) = (q + a * q) * x := by
  rw [Matrix.add_mul, Matrix.mul_assoc]

theorem solve_eq (a : M) (x : Matrix (Fin 64) n ℝ) : solve a x = solve a (1 : M) * x := by
  simp only [solve, Matrix.add_mul, Matrix.mul_assoc, Matrix.one_mul, Matrix.mul_one, Matrix.mul_add]

/-- A power of a strictly lower triangular matrix is zero near and above the diagonal. -/
theorem lower_mul {a b : M} {p q : ℕ} (ha : ∀ i j : Fin 64, i.val < j.val + p → a i j = 0)
    (hb : ∀ i j : Fin 64, i.val < j.val + q → b i j = 0) : ∀ i j : Fin 64, i.val < j.val + (p + q) → (a * b) i j = 0 := by
  intro i j h
  rw [Matrix.mul_apply]
  refine Finset.sum_eq_zero fun x _ => ?_
  by_cases hx : i.val < x.val + p
  · rw [ha i x hx, zero_mul]
  · rw [hb x j (by omega), mul_zero]

theorem nil64 {a : M} (ha : ∀ i j : Fin 64, ¬ j < i → a i j = 0) :
    (((((a * a) * (a * a)) * ((a * a) * (a * a))) * (((a * a) * (a * a)) * ((a * a) * (a * a))))
      * ((((a * a) * (a * a)) * ((a * a) * (a * a))) * (((a * a) * (a * a)) * ((a * a) * (a * a)))))
      * (((((a * a) * (a * a)) * ((a * a) * (a * a))) * (((a * a) * (a * a)) * ((a * a) * (a * a))))
      * ((((a * a) * (a * a)) * ((a * a) * (a * a))) * (((a * a) * (a * a)) * ((a * a) * (a * a))))) = 0 := by
  have h1 : ∀ i j : Fin 64, i.val < j.val + 1 → a i j = 0 := fun i j h => ha i j fun c => by
    have : j.val < i.val := c
    omega
  have h2 := lower_mul h1 h1
  have h4 := lower_mul h2 h2
  have h8 := lower_mul h4 h4
  have h16 := lower_mul h8 h8
  have h32 := lower_mul h16 h16
  have h64 := lower_mul h32 h32
  ext i j
  exact h64 i j (by have := i.isLt; omega)

/-- The solution of `u = y·s + z + a·u`, with the two right-hand sides solved apart. -/
theorem solve_pair {a y z s u : M} (ha : ∀ i j : Fin 64, ¬ j < i → a i j = 0) (h : u = y * s + z + a * u) :
    u = solve a y * s + solve a z := by
  rw [← solve_fix h (nil64 ha), solve_eq a (y * s + z), solve_eq a y, solve_eq a z, Matrix.mul_add, Matrix.mul_assoc]

end Solve

/-! ### The recurrence -/

/-- One head's inputs, token by token. -/
structure Head where
  r : ℕ → Fin 64 → ℝ
  w : ℕ → Fin 64 → ℝ
  k : ℕ → Fin 64 → ℝ
  v : ℕ → Fin 64 → ℝ
  a : ℕ → Fin 64 → ℝ
  b : ℕ → Fin 64 → ℝ

variable (H : Head)

/-- One token's update of the state. -/
def stp (t : ℕ) (s : M) : M := fun v k =>
  s v k * H.w t k + (∑ x, s v x * H.a t x) * H.b t k + H.v t v * H.k t k

/-- The state before token `t`. -/
def st : ℕ → M
  | 0 => 0
  | t + 1 => stp H t (st t)

/-- The output of token `t`. -/
def out (t : ℕ) (v : Fin 64) : ℝ := ∑ x, st H (t + 1) v x * H.r t x

/-- What the state before token `t` says of `a`. -/
def uu (t : ℕ) (v : Fin 64) : ℝ := ∑ x, st H t v x * H.a t x

/-! ### One chunk, the 64 tokens from `o` -/

variable (o : ℕ)

/-- A row of the chunk. -/
abbrev row (f : ℕ → Fin 64 → ℝ) : M := fun i k => f (o + i.val) k

/-- Logarithms of the decays, and their sums through a token. -/
def lw : M := fun i k => Real.log (H.w (o + i.val) k)
def cum : M := fun i k => ∑ x : Fin 64, (if x ≤ i then (1 : ℝ) else 0) * lw H o x k
def ae : M := fun i k => H.a (o + i.val) k * Real.exp (cum H o i k - lw H o i k)
def re : M := fun i k => H.r (o + i.val) k * Real.exp (cum H o i k)
def bi : M := fun i k => H.b (o + i.val) k * Real.exp (-cum H o i k)
def ki : M := fun i k => H.k (o + i.val) k * Real.exp (-cum H o i k)
def tab : M := fun i j => if j < i then ∑ x, ae H o i x * bi H o j x else 0
def tak : M := fun i j => if j < i then ∑ x, ae H o i x * ki H o j x else 0
def qb : M := fun i j => if j ≤ i then ∑ x, re H o i x * bi H o j x else 0
def qk : M := fun i j => if j ≤ i then ∑ x, re H o i x * ki H o j x else 0
def aem : M := solve (tab H o) (ae H o)
def uc : M := solve (tab H o) (tak H o * row o H.v)
def rem : M := re H o + qb H o * aem H o
def yc : M := qb H o * uc H o + qk H o * row o H.v
def gend (k : Fin 64) : ℝ := Real.exp (∑ x : Fin 64, lw H o x k)
def bg : M := fun i k => bi H o i k * gend H o k
def kg : M := fun i k => ki H o i k * gend H o k
def tm : M := fun i j => ∑ x, aem H o x i * bg H o x j
def sc : M := fun i j => (∑ x, uc H o x i * bg H o x j) + ∑ x, H.v (o + x.val) i * kg H o x j

/-- The decay through the first `n` tokens. -/
def G (n : ℕ) (k : Fin 64) : ℝ := Real.exp (∑ j ∈ Finset.range n, Real.log (H.w (o + j) k))

theorem G_pos (n : ℕ) (k : Fin 64) : 0 < G H o n k := Real.exp_pos _

theorem G_succ (hw : ∀ t k, 0 < H.w t k) (n : ℕ) (k : Fin 64) : G H o (n + 1) k = G H o n k * H.w (o + n) k := by
  rw [G, Finset.sum_range_succ, Real.exp_add, Real.exp_log (hw _ _), G]

theorem sum_lt {n : ℕ} (hn : n ≤ 64) (f : ℕ → ℝ) :
    (∑ x : Fin 64, if x.val < n then f x.val else 0) = ∑ j ∈ Finset.range n, f j := by
  rw [Fin.sum_univ_eq_sum_range (fun j => if j < n then f j else 0) 64, ← Finset.sum_filter]
  congr 1
  ext j
  simp only [Finset.mem_filter, Finset.mem_range]
  omega

theorem cum_eq (i k : Fin 64) : cum H o i k = ∑ j ∈ Finset.range (i.val + 1), Real.log (H.w (o + j) k) := by
  rw [← sum_lt (by have := i.isLt; omega)]
  refine Finset.sum_congr rfl fun x _ => ?_
  by_cases h : x ≤ i
  · have h' : x.val < i.val + 1 := by have : x.val ≤ i.val := h; omega
    rw [if_pos h, if_pos h', one_mul, lw]
  · have h' : ¬ x.val < i.val + 1 := fun c => h (by show x.val ≤ i.val; omega)
    rw [if_neg h, if_neg h', zero_mul]

theorem exp_cum (i k : Fin 64) : Real.exp (cum H o i k) = G H o (i.val + 1) k := by rw [cum_eq, G]

theorem exp_cum_sub (i k : Fin 64) : Real.exp (cum H o i k - lw H o i k) = G H o i.val k := by
  rw [cum_eq, Finset.sum_range_succ, lw, add_sub_cancel_right, G]

theorem exp_neg_cum (i k : Fin 64) : Real.exp (-cum H o i k) = (G H o (i.val + 1) k)⁻¹ := by
  rw [Real.exp_neg, exp_cum]

theorem gend_eq (k : Fin 64) : gend H o k = G H o 64 k := by
  rw [gend, G, ← Fin.sum_univ_eq_sum_range (fun j => Real.log (H.w (o + j) k)) 64]
  rfl

/-- What token `o + j` adds, freed of the decays up to it. -/
def tb (j : ℕ) (k : Fin 64) : ℝ := H.b (o + j) k * (G H o (j + 1) k)⁻¹
def tk (j : ℕ) (k : Fin 64) : ℝ := H.k (o + j) k * (G H o (j + 1) k)⁻¹

theorem bi_eq (i k : Fin 64) : bi H o i k = tb H o i.val k := by rw [bi, exp_neg_cum, tb]
theorem ki_eq (i k : Fin 64) : ki H o i k = tk H o i.val k := by rw [ki, exp_neg_cum, tk]

theorem st_eq (hw : ∀ t k, 0 < H.w t k) (v k : Fin 64) : ∀ n : ℕ, st H (o + n) v k
    = (st H o v k + ∑ j ∈ Finset.range n, (uu H (o + j) v * tb H o j k + H.v (o + j) v * tk H o j k)) * G H o n k
  | 0 => by simp [G]
  | n + 1 => by
    have h := st_eq hw v k n
    have hg : G H o (n + 1) k ≠ 0 := (G_pos H o (n + 1) k).ne'
    have e : st H (o + (n + 1)) v k
        = st H (o + n) v k * H.w (o + n) k + uu H (o + n) v * H.b (o + n) k + H.v (o + n) v * H.k (o + n) k := rfl
    have eb : tb H o n k * G H o (n + 1) k = H.b (o + n) k := by rw [tb, mul_assoc, inv_mul_cancel₀ hg, mul_one]
    have ek : tk H o n k * G H o (n + 1) k = H.k (o + n) k := by rw [tk, mul_assoc, inv_mul_cancel₀ hg, mul_one]
    rw [e, h, Finset.sum_range_succ, ← eb, ← ek, G_succ H o hw]
    ring

theorem sum_st (hw : ∀ t k, 0 < H.w t k) (v : Fin 64) {n : ℕ} (hn : n ≤ 64) (c : Fin 64 → ℝ) :
    ∑ k, st H (o + n) v k * c k = ∑ k, (c k * G H o n k) * st H o v k
      + ∑ j : Fin 64, (if j.val < n then ∑ k, (c k * G H o n k) * tb H o j.val k else 0) * uu H (o + j.val) v
      + ∑ j : Fin 64, (if j.val < n then ∑ k, (c k * G H o n k) * tk H o j.val k else 0) * H.v (o + j.val) v := by
  have e1 : ∀ (q : ℕ → Fin 64 → ℝ) (p : ℕ → ℝ),
      (∑ j : Fin 64, (if j.val < n then ∑ k, (c k * G H o n k) * q j.val k else 0) * p j.val)
        = ∑ k, (c k * G H o n k) * ∑ j ∈ Finset.range n, p j * q j k := by
    intro q p
    have : ∀ j : Fin 64, (if j.val < n then ∑ k, (c k * G H o n k) * q j.val k else 0) * p j.val
        = if j.val < n then (∑ k, (c k * G H o n k) * q j.val k) * p j.val else 0 := fun j => by
      by_cases h : j.val < n
      · rw [if_pos h, if_pos h]
      · rw [if_neg h, if_neg h, zero_mul]
    rw [Finset.sum_congr rfl fun j _ => this j, sum_lt hn fun j => (∑ k, (c k * G H o n k) * q j k) * p j]
    simp only [Finset.mul_sum, Finset.sum_mul]
    rw [Finset.sum_comm]
    exact Finset.sum_congr rfl fun k _ => Finset.sum_congr rfl fun j _ => by ring
  rw [e1 (tb H o) (fun j => uu H (o + j) v), e1 (tk H o) (fun j => H.v (o + j) v), ← Finset.sum_add_distrib,
    ← Finset.sum_add_distrib]
  refine Finset.sum_congr rfl fun k _ => ?_
  rw [st_eq H o hw, Finset.sum_add_distrib]
  ring

/-- The chunk's `u`, with the token first. -/
def U : M := fun i v => uu H (o + i.val) v

theorem U_eq (hw : ∀ t k, 0 < H.w t k) :
    U H o = ae H o * (st H o).transpose + tak H o * row o H.v + tab H o * U H o := by
  ext i v
  rw [Matrix.add_apply, Matrix.add_apply, Matrix.mul_apply, Matrix.mul_apply, Matrix.mul_apply, U, uu,
    sum_st H o hw v i.isLt.le (H.a (o + i.val)), add_right_comm]
  have hl : ∀ x : Fin 64, (x < i) = (x.val < i.val) := fun _ => rfl
  simp only [ae, exp_cum_sub, tak, tab, ki_eq, bi_eq, Matrix.transpose_apply, hl, U]

theorem U_solved (hw : ∀ t k, 0 < H.w t k) : U H o = aem H o * (st H o).transpose + uc H o :=
  solve_pair (fun i j h => if_neg h) (U_eq H o hw)

/-- The outputs of the chunk. -/
theorem out_eq (hw : ∀ t k, 0 < H.w t k) (i v : Fin 64) :
    out H (o + i.val) v = (∑ x, rem H o i x * st H o v x) + yc H o i v := by
  have e : (fun (i v : Fin 64) => out H (o + i.val) v) = re H o * (st H o).transpose + qb H o * U H o + qk H o * row o H.v := by
    funext i v
    rw [Matrix.add_apply, Matrix.add_apply, Matrix.mul_apply, Matrix.mul_apply, Matrix.mul_apply, out, Nat.add_assoc,
      sum_st H o hw v (n := i.val + 1) (by have := i.isLt; omega) (H.r (o + i.val))]
    have hl : ∀ x : Fin 64, (x ≤ i) = (x.val < i.val + 1) := fun x =>
      propext ⟨fun h => Nat.lt_succ_of_le h, fun h => Nat.le_of_lt_succ h⟩
    simp only [re, exp_cum, qk, qb, ki_eq, bi_eq, Matrix.transpose_apply, hl, U]
  have e2 : (fun (i v : Fin 64) => out H (o + i.val) v) = rem H o * (st H o).transpose + yc H o := by
    rw [e, U_solved H o hw, rem, yc, Matrix.mul_add, Matrix.add_mul, Matrix.mul_assoc]
    abel
  have e3 := congrFun (congrFun e2 i) v
  rw [Matrix.add_apply, Matrix.mul_apply] at e3
  exact e3

/-- The state after the chunk. -/
theorem st_next (hw : ∀ t k, 0 < H.w t k) (v k : Fin 64) :
    st H (o + 64) v k = st H o v k * gend H o k + (∑ x, st H o v x * tm H o x k) + sc H o v k := by
  have e1 : st H (o + 64) v k = st H o v k * gend H o k + (∑ j : Fin 64, U H o j v * bg H o j k)
      + ∑ j : Fin 64, H.v (o + j.val) v * kg H o j k := by
    rw [st_eq H o hw v k 64, ← Fin.sum_univ_eq_sum_range
      (fun j => uu H (o + j) v * tb H o j k + H.v (o + j) v * tk H o j k) 64, Finset.sum_add_distrib, add_mul, add_mul,
      Finset.sum_mul, Finset.sum_mul]
    simp only [bg, kg, gend_eq, bi_eq, ki_eq, U]
    rw [add_assoc]
    congr 1
    congr 1
    · exact Finset.sum_congr rfl fun j _ => by ring
    · exact Finset.sum_congr rfl fun j _ => by ring
  have e2 : (∑ j : Fin 64, U H o j v * bg H o j k)
      = (∑ x, st H o v x * tm H o x k) + ∑ j, uc H o j v * bg H o j k := by
    have e3 : ∀ j : Fin 64, U H o j v = (∑ x, aem H o j x * st H o v x) + uc H o j v := fun j => by
      have := congrFun (congrFun (U_solved H o hw) j) v
      rw [Matrix.add_apply, Matrix.mul_apply] at this
      exact this
    simp only [e3, add_mul, Finset.sum_add_distrib, tm, Finset.mul_sum, Finset.sum_mul]
    rw [Finset.sum_comm]
    congr 1
    exact Finset.sum_congr rfl fun x _ => Finset.sum_congr rfl fun j _ => by ring
  rw [e1, e2, sc]
  ring

end Cert.Wkv

end
-- ==== Proof.WkvFwdPure.lean ====
/- RWKV-7's recurrence, forward: the kernel's block of 256 tokens and 8 heads, read off its payloads as the
   recurrence over the real numbers. -/
module

public import proofs.«01_k».proof.Proof.Gen.WkvFwdIdeal.Frame
public import proofs.«01_k».proof.Proof.WkvMath
public import proofs.«01_k».proof.Proof.RealFacts
public import Idealize.ShloMosaic.Lib.Pointwise

@[expose] public section

set_option maxRecDepth 16384

noncomputable section

open Idealize.ShloMosaic Idealize.ShloMosaic.TcCoe Idealize.SL.Sem

namespace Cert.WkvFwd

open Cert.Wkv Cert.Facts Idealize.ShloMosaic.WordCmp
open Cert.WkvFwdIdeal Cert.WkvFwdIdeal.Gen

/-! ### Sums and masks -/

theorem dotR {n : ℕ} {F K : Fin n → EReal} {f k : Fin n → ℝ} (hF : ∀ x, F x = (f x : EReal)) (hK : ∀ x, K x = (k x : EReal)) :
    (∑ x, F x * K x) = ((∑ x, f x * k x : ℝ) : EReal) := by
  rw [coe_sum]
  exact Finset.sum_congr rfl fun x _ => by rw [hF, hK, EReal.coe_mul]

theorem addR {x y : EReal} {p q : ℝ} (hx : x = (p : EReal)) (hy : y = (q : EReal)) : x + y = ((p + q : ℝ) : EReal) := by
  rw [hx, hy, EReal.coe_add]

theorem mulR {x y : EReal} {p q : ℝ} (hx : x = (p : EReal)) (hy : y = (q : EReal)) : x * y = ((p * q : ℝ) : EReal) := by
  rw [hx, hy, EReal.coe_mul]

theorem subR {x y : EReal} {p q : ℝ} (hx : x = (p : EReal)) (hy : y = (q : EReal)) : x - y = ((p - q : ℝ) : EReal) := by
  rw [hx, hy, EReal.coe_sub]

theorem expR {x : EReal} {p : ℝ} (hx : x = (p : EReal)) : Ideal.exp x = ((Real.exp p : ℝ) : EReal) := by
  rw [hx, Ideal.exp_coe]

theorem logR {x : EReal} {p : ℝ} (hx : x = (p : EReal)) (hp : 0 < p) : Ideal.log x = ((Real.log p : ℝ) : EReal) := by
  rw [hx]
  exact if_neg (not_le.2 hp)

theorem sum128 {α : Type} [AddCommMonoid α] (f : Fin 128 → α) :
    ∑ x, f x = (∑ x : Fin 64, f ⟨x.val, by omega⟩) + ∑ x : Fin 64, f ⟨64 + x.val, by omega⟩ := by
  exact Fin.sum_univ_add (a := 64) (b := 64) f

theorem sle_eq (x i : Fin 64) : IntOp.cmpi CmpIPredicate.sle (BitVec.ofNat 32 x.val) (BitVec.ofNat 32 i.val)
    = BitVec.ofBool (decide (x ≤ i)) :=
  cmpi_sle_ofNat (by have := x.isLt; omega) (by have := i.isLt; omega)

theorem slt_eq (x i : Fin 64) : IntOp.cmpi CmpIPredicate.slt (BitVec.ofNat 32 x.val) (BitVec.ofNat 32 i.val)
    = BitVec.ofBool (decide (x < i)) :=
  cmpi_slt_ofNat (by have := x.isLt; omega) (by have := i.isLt; omega)

theorem mask_le (x i : Fin 64) :
    @Eq EReal (FloatOps.sitofp (F := Ideal) FTy.f32
      (BitVec.setWidth 32 (IntOp.cmpi CmpIPredicate.sle (BitVec.ofNat 32 x.val) (BitVec.ofNat 32 i.val))))
      ((if x ≤ i then (1 : ℝ) else 0 : ℝ) : EReal) := by
  rw [sle_eq]
  by_cases h : x ≤ i
  · rw [decide_eq_true h, if_pos h]
    show ((((BitVec.setWidth 32 (BitVec.ofBool true)).toInt : ℤ) : ℝ) : EReal) = _
    rw [show (BitVec.setWidth 32 (BitVec.ofBool true)).toInt = 1 by decide, Int.cast_one]
  · rw [decide_eq_false h, if_neg h]
    show ((((BitVec.setWidth 32 (BitVec.ofBool false)).toInt : ℤ) : ℝ) : EReal) = _
    rw [show (BitVec.setWidth 32 (BitVec.ofBool false)).toInt = 0 by decide, Int.cast_zero]

theorem sel_le {x i : Fin 64} {y : EReal} {p : ℝ} (hy : y = (p : EReal)) :
    Scalar.select (IntOp.cmpi CmpIPredicate.sle (BitVec.ofNat 32 x.val) (BitVec.ofNat 32 i.val)) y 0
      = ((if x ≤ i then p else 0 : ℝ) : EReal) := by
  rw [sle_eq]
  by_cases h : x ≤ i
  · rw [decide_eq_true h, if_pos h, ← hy]; rfl
  · rw [decide_eq_false h, if_neg h]; rfl

theorem sel_lt {x i : Fin 64} {y : EReal} {p : ℝ} (hy : y = (p : EReal)) :
    Scalar.select (IntOp.cmpi CmpIPredicate.slt (BitVec.ofNat 32 x.val) (BitVec.ofNat 32 i.val)) y 0
      = ((if x < i then p else 0 : ℝ) : EReal) := by
  rw [slt_eq]
  by_cases h : x < i
  · rw [decide_eq_true h, if_pos h, ← hy]; rfl
  · rw [decide_eq_false h, if_neg h]; rfl

/-- A column of a solved system is the system solved for that column. -/
theorem solve_col {n m : Type} (q : M) {x : Matrix (Fin 64) n ℝ} {y : Matrix (Fin 64) m ℝ} {c : n} {d : m}
    (h : ∀ i, x i c = y i d) (i : Fin 64) : solve q x i c = solve q y i d := by
  rw [solve_eq q x, solve_eq q y, Matrix.mul_apply, Matrix.mul_apply]
  exact Finset.sum_congr rfl fun j _ => by rw [h]

/-! ### The block's inputs -/

/-- The block's inputs are the eight heads' tokens from `o`. -/
structure In (hd : Fin 8 → Head) (o : ℕ) (r w k v a b : Vec Ideal S8x256x64 .f32) : Prop where
  r : ∀ (h : Fin 8) (i : Fin 256) (j : Fin 64), @Eq EReal (r (ix3 h i j)) (((hd h).r (o + i.val) j : ℝ) : EReal)
  w : ∀ (h : Fin 8) (i : Fin 256) (j : Fin 64), @Eq EReal (w (ix3 h i j)) (((hd h).w (o + i.val) j : ℝ) : EReal)
  k : ∀ (h : Fin 8) (i : Fin 256) (j : Fin 64), @Eq EReal (k (ix3 h i j)) (((hd h).k (o + i.val) j : ℝ) : EReal)
  v : ∀ (h : Fin 8) (i : Fin 256) (j : Fin 64), @Eq EReal (v (ix3 h i j)) (((hd h).v (o + i.val) j : ℝ) : EReal)
  a : ∀ (h : Fin 8) (i : Fin 256) (j : Fin 64), @Eq EReal (a (ix3 h i j)) (((hd h).a (o + i.val) j : ℝ) : EReal)
  b : ∀ (h : Fin 8) (i : Fin 256) (j : Fin 64), @Eq EReal (b (ix3 h i j)) (((hd h).b (o + i.val) j : ℝ) : EReal)
  pos : ∀ (h : Fin 8) (t : ℕ) (j : Fin 64), 0 < (hd h).w t j

theorem pick (f : Fin 8 → Fin 256 → EReal) (g : Fin 32) (i : Fin 64) :
    (if h : g.val < 8 then f ⟨g.val, h⟩ ⟨i.val, by omega⟩
      else if h : g.val - 8 < 8 then f ⟨g.val - 8, h⟩ ⟨64 + i.val, by omega⟩
      else if h : g.val - 8 - 8 < 8 then f ⟨g.val - 8 - 8, h⟩ ⟨128 + i.val, by omega⟩
      else f ⟨g.val - 8 - 8 - 8, by omega⟩ ⟨192 + i.val, by omega⟩)
      = f ⟨g.val % 8, by omega⟩ ⟨g.val / 8 * 64 + i.val, by omega⟩ := by
  split_ifs <;> (congr 1 <;> ext <;> simp only [] <;> omega)

section Block
variable {hd : Fin 8 → Head} {o : ℕ} {r w k v a b : Vec Ideal S8x256x64 .f32}

/-- The head and the first token of a chunk. -/
abbrev gh (hd : Fin 8 → Head) (g : Fin 32) : Head := hd ⟨g.val % 8, by omega⟩
abbrev og (o : ℕ) (g : Fin 32) : ℕ := o + g.val / 8 * 64

theorem in_at {x : Vec Ideal S8x256x64 .f32} {f : Head → ℕ → Fin 64 → ℝ}
    (hx : ∀ (h : Fin 8) (i : Fin 256) (j : Fin 64), @Eq EReal (x (ix3 h i j)) ((f (hd h) (o + i.val) j : ℝ) : EReal))
    (g : Fin 32) (i j : Fin 64) :
    @Eq EReal (x (ix3 ⟨g.val % 8, by omega⟩ ⟨g.val / 8 * 64 + i.val, by omega⟩ j)) ((f (gh hd g) (og o g + i.val) j : ℝ) : EReal) := by
  refine (hx _ _ _).trans ?_
  rw [og, Nat.add_assoc]

variable (I : In hd o r w k v a b)

/-- The payloads' shared arguments. -/
abbrev vR (r : Vec Ideal S8x256x64 .f32) := k0_pay8 (F := Ideal) r
abbrev vW (w : Vec Ideal S8x256x64 .f32) := k0_pay9 (F := Ideal) w
abbrev vV (v : Vec Ideal S8x256x64 .f32) := k0_pay11 (F := Ideal) (k0_pay5 v)
abbrev vL (w : Vec Ideal S8x256x64 .f32) := k0_pay14 (F := Ideal) (vW w)
abbrev v78 (a w : Vec Ideal S8x256x64 .f32) := k0_pay17 (F := Ideal) (k0_pay6 a) (vW w)
abbrev v79 (r w : Vec Ideal S8x256x64 .f32) := k0_pay18 (F := Ideal) (vR r) (vW w)
abbrev v80 (b w : Vec Ideal S8x256x64 .f32) := k0_pay19 (F := Ideal) (k0_pay7 b) (vW w)
abbrev v81 (k w : Vec Ideal S8x256x64 .f32) := k0_pay20 (F := Ideal) (k0_pay4 k) (vW w) (k0_pay10 k)
abbrev v84 (a r w : Vec Ideal S8x256x64 .f32) := k0_pay21 (F := Ideal) (k0_pay6 a) (vR r) (vW w)
abbrev v85 (b k w : Vec Ideal S8x256x64 .f32) := k0_pay22 (F := Ideal) (k0_pay4 k) (k0_pay7 b) (vW w) (k0_pay10 k)

include I

theorem vR_at (g : Fin 32) (i j : Fin 64) : @Eq EReal (vR r (ix3 g i j)) (((gh hd g).r (og o g + i.val) j : ℝ) : EReal) := by
  refine Eq.trans ?_ (in_at (f := Head.r) I.r g i j)
  pointwise [vR, k0_pay8]
  exact pick (fun h i => r (ix3 h i j)) g i

theorem vW_at (g : Fin 32) (i j : Fin 64) : @Eq EReal (vW w (ix3 g i j)) (((gh hd g).w (og o g + i.val) j : ℝ) : EReal) := by
  refine Eq.trans ?_ (in_at (f := Head.w) I.w g i j)
  pointwise [vW, k0_pay9]
  exact pick (fun h i => w (ix3 h i j)) g i

theorem vV_at (g : Fin 32) (i j : Fin 64) : @Eq EReal (vV v (ix3 g i j)) (((gh hd g).v (og o g + i.val) j : ℝ) : EReal) := by
  refine Eq.trans ?_ (in_at (f := Head.v) I.v g i j)
  pointwise [vV, k0_pay11, k0_pay5]
  exact pick (fun h i => v (ix3 h i j)) g i

theorem vL_at (g : Fin 32) (i j : Fin 64) : @Eq EReal (vL w (ix3 g i j)) ((lw (gh hd g) (og o g) i j : ℝ) : EReal) :=
  logR (vW_at I g i j) (I.pos _ _ _)

theorem cum_at (g : Fin 32) (i j : Fin 64) :
    @Eq EReal (k0_pay15 (F := Ideal) (vW w) (ix3 g i j)) ((cum (gh hd g) (og o g) i j : ℝ) : EReal) := by
  have z : ∀ x, @Eq EReal (vL w (ix3 g x j) - vL w (ix3 g x j)) ((0 : ℝ) : EReal) := fun x =>
    (subR (vL_at I g x j) (vL_at I g x j)).trans (by rw [sub_self])
  have z2 : ∀ x, @Eq EReal ((vL w (ix3 g x j) - vL w (ix3 g x j)) - (vL w (ix3 g x j) - vL w (ix3 g x j))) ((0 : ℝ) : EReal) := fun x =>
    (subR (z x) (z x)).trans (by rw [sub_self])
  have e : @Eq EReal (k0_pay15 (F := Ideal) (vW w) (ix3 g i j)) (((∑ x : Fin 64, (if x ≤ i then (1 : ℝ) else 0) * lw (gh hd g) (og o g) x j)
      + (∑ x : Fin 64, (if x ≤ i then (1 : ℝ) else 0) * 0) + ∑ x : Fin 64, (if x ≤ i then (1 : ℝ) else 0) * 0 : ℝ) : EReal) := by
    pointwise [k0_pay15]
    exact addR (addR (dotR (fun x => mask_le x i) (fun x => vL_at I g x j)) (dotR (fun x => mask_le x i) z)) (dotR (fun x => mask_le x i) z2)
  rw [e]
  simp only [mul_zero, Finset.sum_const_zero, add_zero, cum]

theorem inv_at (g : Fin 32) (i j : Fin 64) :
    @Eq EReal (k0_pay16 (F := Ideal) (vW w) (ix3 g i j)) ((Real.exp (-cum (gh hd g) (og o g) i j) : ℝ) : EReal) := by
  have e : @Eq EReal (k0_pay16 (F := Ideal) (vW w) (ix3 g i j)) (Ideal.exp (((0 : ℝ) : EReal) - k0_pay15 (F := Ideal) (vW w) (ix3 g i j))) := by
    pointwise [k0_pay16]
    rw [EReal.coe_zero]
  rw [e, subR rfl (cum_at I g i j), expR rfl, zero_sub]

theorem v78_at (g : Fin 32) (i j : Fin 64) : @Eq EReal (v78 a w (ix3 g i j)) ((ae (gh hd g) (og o g) i j : ℝ) : EReal) := by
  have e : @Eq EReal (v78 a w (ix3 g i j)) (a (ix3 ⟨g.val % 8, by omega⟩ ⟨g.val / 8 * 64 + i.val, by omega⟩ j)
      * Ideal.exp (k0_pay15 (F := Ideal) (vW w) (ix3 g i j) - vL w (ix3 g i j))) := by
    refine Eq.trans ?_ (congrArg (· * _) (pick (fun h i => a (ix3 h i j)) g i))
    pointwise [v78, k0_pay17, k0_pay6]
  rw [e]
  exact mulR (in_at (f := Head.a) I.a g i j) (expR (subR (cum_at I g i j) (vL_at I g i j)))

theorem v79_at (g : Fin 32) (i j : Fin 64) : @Eq EReal (v79 r w (ix3 g i j)) ((re (gh hd g) (og o g) i j : ℝ) : EReal) := by
  have e : @Eq EReal (v79 r w (ix3 g i j)) (vR r (ix3 g i j) * Ideal.exp (k0_pay15 (F := Ideal) (vW w) (ix3 g i j))) := by
    pointwise [v79, k0_pay18]
  rw [e]
  exact mulR (vR_at I g i j) (expR (cum_at I g i j))

theorem v80_at (g : Fin 32) (i j : Fin 64) : @Eq EReal (v80 b w (ix3 g i j)) ((bi (gh hd g) (og o g) i j : ℝ) : EReal) := by
  have e : @Eq EReal (v80 b w (ix3 g i j)) (b (ix3 ⟨g.val % 8, by omega⟩ ⟨g.val / 8 * 64 + i.val, by omega⟩ j)
      * k0_pay16 (F := Ideal) (vW w) (ix3 g i j)) := by
    refine Eq.trans ?_ (congrArg (· * _) (pick (fun h i => b (ix3 h i j)) g i))
    pointwise [v80, k0_pay19, k0_pay7]
  rw [e]
  exact mulR (in_at (f := Head.b) I.b g i j) (inv_at I g i j)

theorem v81_at (g : Fin 32) (i j : Fin 64) : @Eq EReal (v81 k w (ix3 g i j)) ((ki (gh hd g) (og o g) i j : ℝ) : EReal) := by
  have e : @Eq EReal (v81 k w (ix3 g i j)) (k (ix3 ⟨g.val % 8, by omega⟩ ⟨g.val / 8 * 64 + i.val, by omega⟩ j)
      * k0_pay16 (F := Ideal) (vW w) (ix3 g i j)) := by
    refine Eq.trans ?_ (congrArg (· * _) (pick (fun h i => k (ix3 h i j)) g i))
    pointwise [v81, k0_pay20, k0_pay4, k0_pay10]
  rw [e]
  exact mulR (in_at (f := Head.k) I.k g i j) (inv_at I g i j)

/-! ### The chunk's products -/

/-- Rows of the stacked factors. -/
theorem v84_top (g : Fin 32) (i x : Fin 64) :
    @Eq EReal (v84 a r w (ix3 g ⟨i.val, by omega⟩ x)) ((ae (gh hd g) (og o g) i x : ℝ) : EReal) := by
  refine Eq.trans ?_ (v78_at I g i x)
  pointwise [v84, k0_pay21]
theorem v84_bot (g : Fin 32) (i x : Fin 64) :
    @Eq EReal (v84 a r w (ix3 g ⟨64 + i.val, by omega⟩ x)) ((re (gh hd g) (og o g) i x : ℝ) : EReal) := by
  refine Eq.trans ?_ (v79_at I g i x)
  pointwise [v84, k0_pay21]
theorem v85_top (g : Fin 32) (i x : Fin 64) :
    @Eq EReal (v85 b k w (ix3 g ⟨i.val, by omega⟩ x)) ((bi (gh hd g) (og o g) i x : ℝ) : EReal) := by
  refine Eq.trans ?_ (v80_at I g i x)
  pointwise [v85, k0_pay22]
theorem v85_bot (g : Fin 32) (i x : Fin 64) :
    @Eq EReal (v85 b k w (ix3 g ⟨64 + i.val, by omega⟩ x)) ((ki (gh hd g) (og o g) i x : ℝ) : EReal) := by
  refine Eq.trans ?_ (v81_at I g i x)
  pointwise [v85, k0_pay22]

abbrev pTab (r w k a b : Vec Ideal S8x256x64 .f32) := k0_pay26 (F := Ideal) k0_pay13 (v84 a r w) (v85 b k w)
abbrev pQb (r w k a b : Vec Ideal S8x256x64 .f32) := k0_pay27 (F := Ideal) k0_pay12 (v84 a r w) (v85 b k w)
abbrev pVal (r w k v a b : Vec Ideal S8x256x64 .f32) := k0_pay28 (F := Ideal) (vV v) k0_pay12 k0_pay13 (v84 a r w) (v85 b k w)

theorem pTab_at (g : Fin 32) (i j : Fin 64) : @Eq EReal (pTab r w k a b (ix3 g i j)) ((tab (gh hd g) (og o g) i j : ℝ) : EReal) := by
  pointwise [pTab, k0_pay26, k0_pay13, k0_pay24, k0_pay23]
  exact sel_lt (dotR (fun x => v84_top I g i x) (fun x => v85_top I g j x))

theorem pQb_at (g : Fin 32) (i j : Fin 64) : @Eq EReal (pQb r w k a b (ix3 g i j)) ((qb (gh hd g) (og o g) i j : ℝ) : EReal) := by
  pointwise [pQb, k0_pay27, k0_pay12, k0_pay25, k0_pay23]
  exact sel_le (dotR (fun x => v84_bot I g i x) (fun x => v85_top I g j x))

theorem pVal_top (g : Fin 32) (i j : Fin 64) : @Eq EReal (pVal r w k v a b (ix3 g ⟨i.val, by omega⟩ j))
    (((tak (gh hd g) (og o g) * row (og o g) (gh hd g).v) i j : ℝ) : EReal) := by
  rw [Matrix.mul_apply]
  pointwise [pVal, k0_pay28, k0_pay12, k0_pay13, k0_pay24, k0_pay25, k0_pay23]
  rw [coe_sum]
  refine Finset.sum_congr rfl fun y _ =>
    (sel_lt (mulR (dotR (fun x => v84_top I g i x) (fun x => v85_bot I g y x)) (vV_at I g y j))).trans (congrArg _ ?_)
  simp only [tak, ite_mul, zero_mul]

theorem pVal_bot (g : Fin 32) (i j : Fin 64) : @Eq EReal (pVal r w k v a b (ix3 g ⟨64 + i.val, by omega⟩ j))
    (((qk (gh hd g) (og o g) * row (og o g) (gh hd g).v) i j : ℝ) : EReal) := by
  rw [Matrix.mul_apply]
  pointwise [pVal, k0_pay28, k0_pay12, k0_pay13, k0_pay24, k0_pay25, k0_pay23]
  rw [coe_sum]
  refine Finset.sum_congr rfl fun y _ =>
    (sel_le (mulR (dotR (fun x => v84_bot I g i x) (fun x => v85_bot I g y x)) (vV_at I g y j))).trans (congrArg _ ?_)
  simp only [qk, ite_mul, zero_mul]

omit I
/-- A step of the solution: `x ← x + a·x`, and the square of `a`. -/
def STEP (n : FVec Ideal S32x64x64 .f32) (x : FVec Ideal S32x64x128 .f32) : FVec Ideal S32x64x128 .f32 :=
  addf x (matmul dot_S32x64x64_S32x64x128_S32x64x128_2_1_1_2_0_0 none (truncf .bf16 n bitsLt_bf16_f32)
    (truncf .bf16 x bitsLt_bf16_f32) (constant S32x64x128 .f32 0x00000000#32))

def SQ (n : FVec Ideal S32x64x64 .f32) : FVec Ideal S32x64x64 .f32 :=
  matmul dot_S32x64x64_S32x64x64_S32x64x64_2_1_1_2_0_0 none (truncf .bf16 n bitsLt_bf16_f32)
    (truncf .bf16 n bitsLt_bf16_f32) (constant S32x64x64 .f32 0x00000000#32)

def X0 (a : FVec Ideal S32x64x64 .f32) (y : FVec Ideal S32x128x64 .f32) : FVec Ideal S32x64x128 .f32 :=
  concatenate S32x64x128 2 [⟨S32x64x64, a⟩, ⟨S32x64x64, extractStridedSlice S32x64x64 ![0, 0, 0] y slices_S32x128x64_o0_0_0_S32x64x64⟩]
    concatenates_S32x64x64_S32x64x64_S32x64x128_d2

theorem STEP_at {n : FVec Ideal S32x64x64 .f32} {x : FVec Ideal S32x64x128 .f32} {N : M} {X : Matrix (Fin 64) (Fin 128) ℝ} {g : Fin 32}
    (hn : ∀ i j, @Eq EReal (n (ix3 g i j)) ((N i j : ℝ) : EReal)) (hx : ∀ i j, @Eq EReal (x (ix3 g i j)) ((X i j : ℝ) : EReal))
    (i : Fin 64) (j : Fin 128) : @Eq EReal (STEP n x (ix3 g i j)) (((X + N * X) i j : ℝ) : EReal) := by
  rw [Matrix.add_apply, Matrix.mul_apply]
  pointwise [STEP]
  exact addR (hx i j) (dotR (fun y => hn i y) (fun y => hx y j))

theorem SQ_at {n : FVec Ideal S32x64x64 .f32} {N : M} {g : Fin 32}
    (hn : ∀ i j, @Eq EReal (n (ix3 g i j)) ((N i j : ℝ) : EReal)) (i j : Fin 64) :
    @Eq EReal (SQ n (ix3 g i j)) (((N * N) i j : ℝ) : EReal) := by
  rw [Matrix.mul_apply]
  pointwise [SQ]
  exact dotR (fun y => hn i y) (fun y => hn y j)

/-- Six steps. -/
def SOLVE (n : FVec Ideal S32x64x64 .f32) (x : FVec Ideal S32x64x128 .f32) : FVec Ideal S32x64x128 .f32 :=
  STEP (SQ (SQ (SQ (SQ (SQ n))))) (STEP (SQ (SQ (SQ (SQ n)))) (STEP (SQ (SQ (SQ n))) (STEP (SQ (SQ n)) (STEP (SQ n) (STEP n x)))))

theorem SOLVE_at {n : FVec Ideal S32x64x64 .f32} {x : FVec Ideal S32x64x128 .f32} {N : M} {X : Matrix (Fin 64) (Fin 128) ℝ} {g : Fin 32}
    (hn : ∀ i j, @Eq EReal (n (ix3 g i j)) ((N i j : ℝ) : EReal)) (hx : ∀ i j, @Eq EReal (x (ix3 g i j)) ((X i j : ℝ) : EReal))
    (i : Fin 64) (j : Fin 128) : @Eq EReal (SOLVE n x (ix3 g i j)) ((solve N X i j : ℝ) : EReal) :=
  STEP_at (SQ_at (SQ_at (SQ_at (SQ_at (SQ_at hn))))) (STEP_at (SQ_at (SQ_at (SQ_at (SQ_at hn)))) (STEP_at (SQ_at (SQ_at (SQ_at hn)))
    (STEP_at (SQ_at (SQ_at hn)) (STEP_at (SQ_at hn) (STEP_at hn hx))))) i j

abbrev v128 (r w k a b : Vec Ideal S8x256x64 .f32) := k0_pay32 (F := Ideal) k0_pay13 (v84 a r w) (v85 b k w)
abbrev v132 (r w k v a b : Vec Ideal S8x256x64 .f32) :=
  k0_pay33 (F := Ideal) (vV v) k0_pay12 k0_pay13 (v78 a w) (v84 a r w) (v85 b k w)

theorem solved_eq : k0_pay34 (F := Ideal) (v128 r w k a b) (v132 r w k v a b)
    = SOLVE (pTab r w k a b) (X0 (v78 a w) (pVal r w k v a b)) := rfl

include I

/-- The right-hand sides side by side. -/
theorem X0_at (g : Fin 32) (i : Fin 64) (j : Fin 128) : @Eq EReal (X0 (v78 a w) (pVal r w k v a b) (ix3 g i j))
    (((if h : j.val < 64 then ae (gh hd g) (og o g) i ⟨j.val, h⟩
      else (tak (gh hd g) (og o g) * row (og o g) (gh hd g).v) i ⟨j.val - 64, by omega⟩ : ℝ) : ℝ) : EReal) := by
  by_cases h : j.val < 64
  · rw [dif_pos h]
    refine Eq.trans ?_ (v78_at I g i ⟨j.val, h⟩)
    pointwise [X0]
    rw [dif_pos h]
  · rw [dif_neg h]
    refine Eq.trans ?_ (pVal_top I g i ⟨j.val - 64, by omega⟩)
    pointwise [X0]
    rw [dif_neg h]

theorem x_left (g : Fin 32) (i j : Fin 64) :
    @Eq EReal (k0_pay34 (F := Ideal) (v128 r w k a b) (v132 r w k v a b) (ix3 g i ⟨j.val, by omega⟩))
      ((aem (gh hd g) (og o g) i j : ℝ) : EReal) := by
  rw [solved_eq, SOLVE_at (pTab_at I g) (X0_at I g), aem]
  exact congrArg _ (solve_col _ (fun x => dif_pos j.isLt) i)

theorem x_right (g : Fin 32) (i j : Fin 64) :
    @Eq EReal (k0_pay34 (F := Ideal) (v128 r w k a b) (v132 r w k v a b) (ix3 g i ⟨64 + j.val, by omega⟩))
      ((uc (gh hd g) (og o g) i j : ℝ) : EReal) := by
  rw [solved_eq, SOLVE_at (pTab_at I g) (X0_at I g), uc]
  refine congrArg _ (solve_col _ (fun x => ?_) i)
  have e : (⟨64 + j.val - 64, by omega⟩ : Fin 64) = j := Fin.ext (by simp only []; omega)
  rw [dif_neg (by simp only []; omega), e]

theorem rem_at (g : Fin 32) (i j : Fin 64) :
    @Eq EReal (k0_pay36 (F := Ideal) (v79 r w) (pQb r w k a b) (v128 r w k a b) (v132 r w k v a b) (ix3 g i j))
      ((rem (gh hd g) (og o g) i j : ℝ) : EReal) := by
  rw [rem, Matrix.add_apply, Matrix.mul_apply]
  pointwise [k0_pay36, k0_pay35]
  exact addR (v79_at I g i j) (dotR (fun x => pQb_at I g i x) (fun x => x_left I g x j))

theorem yc_at (g : Fin 32) (i j : Fin 64) :
    @Eq EReal (k0_pay37 (F := Ideal) (pQb r w k a b) (k0_pay29 (vV v) k0_pay12 k0_pay13 (v84 a r w) (v85 b k w)) (v128 r w k a b) (v132 r w k v a b) (ix3 g i j))
      ((yc (gh hd g) (og o g) i j : ℝ) : EReal) := by
  rw [yc, Matrix.add_apply, Matrix.mul_apply (M := qb _ _)]
  pointwise [k0_pay37, k0_pay35, k0_pay29]
  exact addR (dotR (fun x => pQb_at I g i x) (fun x => x_right I g x j)) (pVal_bot I g i j)

theorem gend_at (g : Fin 32) (j : Fin 64) :
    @Eq EReal (k0_pay38 (F := Ideal) (vL w) (ix3 g 0 j)) ((gend (gh hd g) (og o g) j : ℝ) : EReal) := by
  have e : @Eq EReal (k0_pay38 (F := Ideal) (vL w) (ix3 g 0 j)) (Ideal.exp (∑ x : Fin 64, vL w (ix3 g x j))) := by
    pointwise [k0_pay38]
  rw [e]
  refine expR ?_
  rw [coe_sum]
  exact Finset.sum_congr rfl fun x _ => vL_at I g x j

theorem bg_at (g : Fin 32) (i j : Fin 64) :
    @Eq EReal (k0_pay39 (F := Ideal) (vL w) (v80 b w) (ix3 g i j)) ((bg (gh hd g) (og o g) i j : ℝ) : EReal) := by
  have e : @Eq EReal (k0_pay39 (F := Ideal) (vL w) (v80 b w) (ix3 g i j)) (v80 b w (ix3 g i j) * k0_pay38 (F := Ideal) (vL w) (ix3 g 0 j)) := by
    pointwise [k0_pay39]
  rw [e]
  exact mulR (v80_at I g i j) (gend_at I g j)

abbrev v165 (r w k v a b : Vec Ideal S8x256x64 .f32) := k0_pay40 (F := Ideal) (vL w) (v80 b w) (v128 r w k a b) (v132 r w k v a b)
abbrev v170 (r w k v a b : Vec Ideal S8x256x64 .f32) :=
  k0_pay41 (F := Ideal) (vV v) (vL w) (v80 b w) (v81 k w) (v128 r w k a b) (v132 r w k v a b)

theorem tm_at (g : Fin 32) (i j : Fin 64) : @Eq EReal (v165 r w k v a b (ix3 g i j)) ((tm (gh hd g) (og o g) i j : ℝ) : EReal) := by
  pointwise [v165, k0_pay40]
  exact dotR (fun x => x_left I g x i) (fun x => bg_at I g x j)

theorem sc_at (g : Fin 32) (i j : Fin 64) : @Eq EReal (v170 r w k v a b (ix3 g i j)) ((sc (gh hd g) (og o g) i j : ℝ) : EReal) := by
  pointwise [v170, k0_pay41]
  exact addR (dotR (fun x => x_right I g x i) (fun x => bg_at I g x j))
    (dotR (fun x => vV_at I g x i) (fun x => mulR (v81_at I g x j) (gend_at I g j)))

/-! ### The four chunks in turn -/

omit I in
theorem gh_eq {g : Fin 32} {h : Fin 8} {s : ℕ} (hg : g.val = 8 * s + h.val) : gh hd g = hd h :=
  congrArg hd (Fin.ext (by show g.val % 8 = h.val; omega))

omit I in
theorem og_eq {g : Fin 32} {h : Fin 8} {s : ℕ} (hg : g.val = 8 * s + h.val) : og o g = o + s * 64 := by
  show o + g.val / 8 * 64 = _
  have : g.val / 8 = s := by omega
  rw [this]

/-- A chunk's update of the state. -/
theorem next_at {g : Fin 32} {h : Fin 8} {s : ℕ} (hg : g.val = 8 * s + h.val) (i k' : Fin 64) {S : Fin 64 → Fin 64 → EReal}
    (hS : ∀ i k, S i k = ((st (hd h) (o + s * 64) i k : ℝ) : EReal)) :
    S i k' * k0_pay38 (F := Ideal) (vL w) (ix3 g 0 k') + (∑ x, S i x * v165 r w k v a b (ix3 g x k')) + v170 r w k v a b (ix3 g i k')
      = ((st (hd h) (o + (s + 1) * 64) i k' : ℝ) : EReal) := by
  refine (addR (addR (mulR (hS i k') (gend_at I g k')) (dotR (fun x => hS i x) (fun x => tm_at I g x k'))) (sc_at I g i k')).trans ?_
  rw [gh_eq hg, og_eq hg, ← st_next (hd h) (o + s * 64) (I.pos h), Nat.add_mul, Nat.one_mul, Nat.add_assoc]

/-- A chunk's outputs. -/
theorem out_at {g : Fin 32} {h : Fin 8} {s : ℕ} (hg : g.val = 8 * s + h.val) (i j : Fin 64) {S : Fin 64 → Fin 64 → EReal}
    (hS : ∀ i k, S i k = ((st (hd h) (o + s * 64) i k : ℝ) : EReal)) {t : ℕ} (ht : t = o + (s * 64 + i.val)) :
    (∑ x, k0_pay36 (F := Ideal) (v79 r w) (pQb r w k a b) (v128 r w k a b) (v132 r w k v a b) (ix3 g i x) * S j x)
      + k0_pay37 (F := Ideal) (pQb r w k a b) (k0_pay29 (vV v) k0_pay12 k0_pay13 (v84 a r w) (v85 b k w)) (v128 r w k a b) (v132 r w k v a b) (ix3 g i j)
      = ((out (hd h) t j : ℝ) : EReal) := by
  refine (addR (dotR (fun x => rem_at I g i x) (fun x => hS j x)) (yc_at I g i j)).trans ?_
  rw [gh_eq hg, og_eq hg, ← out_eq (hd h) (o + s * 64) (I.pos h), ht, Nat.add_assoc]

/-- The state after each chunk, from the state `s0` before the first. -/
abbrev s1 (s0 : Vec Ideal S8x64x64 .f32) (r w k v a b : Vec Ideal S8x256x64 .f32) :=
  k0_pay56 (F := Ideal) s0 (v170 r w k v a b) (k0_pay50 (vL w)) (k0_pay54 (vL w) (v80 b w) (v128 r w k a b) (v132 r w k v a b))
abbrev s2 (s0 : Vec Ideal S8x64x64 .f32) (r w k v a b : Vec Ideal S8x256x64 .f32) :=
  k0_pay57 (F := Ideal) s0 (v170 r w k v a b) (k0_pay50 (vL w)) (k0_pay51 (vL w)) (k0_pay54 (vL w) (v80 b w) (v128 r w k a b) (v132 r w k v a b))
    (k0_pay55 (vL w) (v80 b w) (v128 r w k a b) (v132 r w k v a b))
abbrev s3 (s0 : Vec Ideal S8x64x64 .f32) (r w k v a b : Vec Ideal S8x256x64 .f32) :=
  k0_pay58 (F := Ideal) s0 (v165 r w k v a b) (v170 r w k v a b) (k0_pay50 (vL w)) (k0_pay51 (vL w)) (k0_pay52 (vL w))
    (k0_pay54 (vL w) (v80 b w) (v128 r w k a b) (v132 r w k v a b)) (k0_pay55 (vL w) (v80 b w) (v128 r w k a b) (v132 r w k v a b))
abbrev s4 (s0 : Vec Ideal S8x64x64 .f32) (r w k v a b : Vec Ideal S8x256x64 .f32) :=
  k0_pay59 (F := Ideal) s0 (v165 r w k v a b) (v170 r w k v a b) (k0_pay50 (vL w)) (k0_pay51 (vL w)) (k0_pay52 (vL w)) (k0_pay53 (vL w))
    (k0_pay54 (vL w) (v80 b w) (v128 r w k a b) (v132 r w k v a b)) (k0_pay55 (vL w) (v80 b w) (v128 r w k a b) (v132 r w k v a b))
abbrev yb (s0 : Vec Ideal S8x64x64 .f32) (r w k v a b : Vec Ideal S8x256x64 .f32) :=
  k0_pay60 (F := Ideal) s0 (v165 r w k v a b) (v170 r w k v a b)
    (k0_pay42 (v79 r w) (pQb r w k a b) (v128 r w k a b) (v132 r w k v a b))
    (k0_pay43 (v79 r w) (pQb r w k a b) (v128 r w k a b) (v132 r w k v a b))
    (k0_pay44 (v79 r w) (pQb r w k a b) (v128 r w k a b) (v132 r w k v a b))
    (k0_pay45 (v79 r w) (pQb r w k a b) (v128 r w k a b) (v132 r w k v a b))
    (k0_pay46 (pQb r w k a b) (k0_pay29 (vV v) k0_pay12 k0_pay13 (v84 a r w) (v85 b k w)) (v128 r w k a b) (v132 r w k v a b))
    (k0_pay47 (pQb r w k a b) (k0_pay29 (vV v) k0_pay12 k0_pay13 (v84 a r w) (v85 b k w)) (v128 r w k a b) (v132 r w k v a b))
    (k0_pay48 (pQb r w k a b) (k0_pay29 (vV v) k0_pay12 k0_pay13 (v84 a r w) (v85 b k w)) (v128 r w k a b) (v132 r w k v a b))
    (k0_pay49 (pQb r w k a b) (k0_pay29 (vV v) k0_pay12 k0_pay13 (v84 a r w) (v85 b k w)) (v128 r w k a b) (v132 r w k v a b))
    (k0_pay50 (vL w)) (k0_pay51 (vL w)) (k0_pay52 (vL w))
    (k0_pay54 (vL w) (v80 b w) (v128 r w k a b) (v132 r w k v a b)) (k0_pay55 (vL w) (v80 b w) (v128 r w k a b) (v132 r w k v a b))

variable {s0 : Vec Ideal S8x64x64 .f32}
  (hs : ∀ (h : Fin 8) (i j : Fin 64), @Eq EReal (s0 (ix3 h i j)) ((st (hd h) (o + 0 * 64) i j : ℝ) : EReal))
include hs

theorem s1_at (h : Fin 8) (i j : Fin 64) : @Eq EReal (s1 s0 r w k v a b (ix3 h i j)) ((st (hd h) (o + 1 * 64) i j : ℝ) : EReal) := by
  refine Eq.trans ?_ (next_at I (g := ⟨h.val, by omega⟩) (s := 0) (by show h.val = 8 * 0 + h.val; omega) i j (fun i k => hs h i k))
  pointwise [s1, k0_pay56, k0_pay50, k0_pay54]

theorem s2_at (h : Fin 8) (i j : Fin 64) : @Eq EReal (s2 s0 r w k v a b (ix3 h i j)) ((st (hd h) (o + 2 * 64) i j : ℝ) : EReal) := by
  refine Eq.trans ?_ (next_at I (g := ⟨8 + h.val, by omega⟩) (s := 1) (by show 8 + h.val = 8 * 1 + h.val; omega) i j (fun i k => s1_at I hs h i k))
  pointwise [s2, k0_pay57, k0_pay51, k0_pay55]

theorem s3_at (h : Fin 8) (i j : Fin 64) : @Eq EReal (s3 s0 r w k v a b (ix3 h i j)) ((st (hd h) (o + 3 * 64) i j : ℝ) : EReal) := by
  refine Eq.trans ?_ (next_at I (g := ⟨16 + h.val, by omega⟩) (s := 2) (by show 16 + h.val = 8 * 2 + h.val; omega) i j (fun i k => s2_at I hs h i k))
  pointwise [s3, k0_pay58, k0_pay52]

theorem s4_at (h : Fin 8) (i j : Fin 64) : @Eq EReal (s4 s0 r w k v a b (ix3 h i j)) ((st (hd h) (o + 4 * 64) i j : ℝ) : EReal) := by
  refine Eq.trans ?_ (next_at I (g := ⟨24 + h.val, by omega⟩) (s := 3) (by show 24 + h.val = 8 * 3 + h.val; omega) i j (fun i k => s3_at I hs h i k))
  pointwise [s4, k0_pay59, k0_pay53]

theorem yb_at (h : Fin 8) (i : Fin 256) (j : Fin 64) :
    @Eq EReal (yb s0 r w k v a b (ix3 h i j)) ((out (hd h) (o + i.val) j : ℝ) : EReal) := by
  pointwise [yb, k0_pay60, k0_pay42, k0_pay43, k0_pay44, k0_pay45, k0_pay46, k0_pay47, k0_pay48, k0_pay49]
  by_cases h1 : i.val < 64
  · rw [dif_pos h1]
    exact out_at I (g := ⟨h.val, by omega⟩) (h := h) (s := 0) (by show h.val = 8 * 0 + h.val; omega) ⟨i.val, h1⟩ j (S := fun p q => s0 (ix3 h p q)) (fun p q => hs h p q)
      (t := o + i.val) (by show o + i.val = o + (0 * 64 + (i.val)); omega)
  rw [dif_neg h1]
  by_cases h2 : i.val - 64 < 64
  · rw [dif_pos h2]
    exact out_at I (g := ⟨8 + h.val, by omega⟩) (h := h) (s := 1) (by show 8 + h.val = 8 * 1 + h.val; omega) ⟨i.val - 64, h2⟩ j (S := fun p q => s1 s0 r w k v a b (ix3 h p q)) (fun p q => s1_at I hs h p q)
      (t := o + i.val) (by show o + i.val = o + (1 * 64 + (i.val - 64)); omega)
  rw [dif_neg h2]
  by_cases h3 : i.val - 64 - 64 < 64
  · rw [dif_pos h3]
    exact out_at I (g := ⟨16 + h.val, by omega⟩) (h := h) (s := 2) (by show 16 + h.val = 8 * 2 + h.val; omega) ⟨i.val - 64 - 64, h3⟩ j (S := fun p q => s2 s0 r w k v a b (ix3 h p q)) (fun p q => s2_at I hs h p q)
      (t := o + i.val) (by show o + i.val = o + (2 * 64 + (i.val - 64 - 64)); omega)
  rw [dif_neg h3]
  exact out_at I (g := ⟨24 + h.val, by omega⟩) (h := h) (s := 3) (by show 24 + h.val = 8 * 3 + h.val; omega) ⟨i.val - 64 - 64 - 64, by omega⟩ j (S := fun p q => s3 s0 r w k v a b (ix3 h p q)) (fun p q => s3_at I hs h p q)
      (t := o + i.val) (by show o + i.val = o + (3 * 64 + (i.val - 64 - 64 - 64)); omega)

end Block

end Cert.WkvFwd
end
end
-- ==== Proof.WkvFwdValue.lean ====
/- RWKV-7's recurrence, forward: the kernel's two result arrays hold the recurrence's outputs and its states before every block. -/
module

public import proofs.«01_k».proof.Proof.Gen.WkvFwdIdeal.Frame
public import proofs.«01_k».proof.Proof.WkvFwdPure
public import proofs.«01_k».proof.Proof.RealFacts
public import proofs.«01_k».proof.Proof.Gen.Pre_positive_decay
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.WkvFwd

open Cert.WkvFwdIdeal Cert.WkvFwdIdeal.Gen
open Cert.Facts
open Cert.Wkv

/-- The recurrence's six factors, token by token. -/
structure Args where
  r : FVec Ideal S4096x8x64 .f32
  w : FVec Ideal S4096x8x64 .f32
  k : FVec Ideal S4096x8x64 .f32
  v : FVec Ideal S4096x8x64 .f32
  a : FVec Ideal S4096x8x64 .f32
  b : FVec Ideal S4096x8x64 .f32

/-- Every factor is finite and the decay positive. -/
structure Args.Good (A : Args) : Prop where
  r : ∀ (t : Fin 4096) (h : Fin 8) (j : Fin 64), IsReal (A.r (ix3 t h j))
  w : ∀ (t : Fin 4096) (h : Fin 8) (j : Fin 64), IsReal (A.w (ix3 t h j))
  k : ∀ (t : Fin 4096) (h : Fin 8) (j : Fin 64), IsReal (A.k (ix3 t h j))
  v : ∀ (t : Fin 4096) (h : Fin 8) (j : Fin 64), IsReal (A.v (ix3 t h j))
  a : ∀ (t : Fin 4096) (h : Fin 8) (j : Fin 64), IsReal (A.a (ix3 t h j))
  b : ∀ (t : Fin 4096) (h : Fin 8) (j : Fin 64), IsReal (A.b (ix3 t h j))
  pos : ∀ (t : Fin 4096) (h : Fin 8) (j : Fin 64), @LT.lt EReal _ 0 (A.w (ix3 t h j))

/-- The real number a factor holds at a token, `d` past the last one. -/
def real (d : ℝ) (X : FVec Ideal S4096x8x64 .f32) (h : Fin 8) (t : ℕ) (j : Fin 64) : ℝ :=
  if ht : t < 4096 then EReal.toReal (X (ix3 ⟨t, ht⟩ h j)) else d

theorem real_eq {d : ℝ} {X : FVec Ideal S4096x8x64 .f32} {h : Fin 8} {j : Fin 64} (t : Fin 4096) (hX : IsReal (X (ix3 t h j))) :
    @Eq EReal (X (ix3 t h j)) ((real d X h t.val j : ℝ) : EReal) := by
  obtain ⟨x, hx⟩ := hX
  rw [real, dif_pos t.isLt, hx, EReal.toReal_coe]

/-- One head's recurrence. -/
def Args.hd (A : Args) (h : Fin 8) : Head :=
  ⟨real 0 A.r h, real 1 A.w h, real 0 A.k h, real 0 A.v h, real 0 A.a h, real 0 A.b h⟩

theorem Args.Good.pos_hd {A : Args} (hA : A.Good) (h : Fin 8) (t : ℕ) (j : Fin 64) : 0 < (A.hd h).w t j := by
  show 0 < real 1 A.w h t j
  by_cases ht : t < 4096
  · have e := real_eq (d := 1) ⟨t, ht⟩ (hA.w ⟨t, ht⟩ h j)
    have p := hA.pos ⟨t, ht⟩ h j
    rw [e] at p
    exact EReal.coe_pos.1 p
  · rw [real, dif_neg ht]; exact one_pos

/-- Every head's outputs, head by head. -/
def Y (A : Args) : FVec Ideal S8x4096x64 .f32 := fun x => ((out (A.hd (x 0)) (x 1).val (x 2) : ℝ) : EReal)

/-- Every head's state before each block of 256 tokens. -/
def CK (A : Args) : FVec Ideal S16x8x64x64 .f32 := fun x => ((st (A.hd (x 1)) ((x 0).val * 256) (x 2) (x 3) : ℝ) : EReal)

/-! ### The kernel -/

/-- Every window's block index at every grid point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![t.val, 0, 0, 0]
    ∧ t.val < 16 :=
  (by decide +kernel : ∀ t : Fin grid0.N, _)

variable (m : (ℓ : Loc nD τ sig) → Buf (Elt Ideal) ℓ) (c : Dev nD)

/-- The kernel's arguments. -/
abbrev K : Args where
  r := m ((c : Thread nD τ).loc main_arg0)
  w := m ((c : Thread nD τ).loc main_arg1)
  k := m ((c : Thread nD τ).loc main_arg2)
  v := m ((c : Thread nD τ).loc main_arg3)
  a := m ((c : Thread nD τ).loc main_arg4)
  b := m ((c : Thread nD τ).loc main_arg5)

/-- A number that compares above zero is positive. -/
theorem pos_of_gt (x : Ideal .f32) (h : BitVec.ofBool (decide ((0 : EReal) < x)) = 1#1) : @LT.lt EReal _ 0 x := by
  by_contra hn; rw [decide_eq_false hn] at h; exact absurd h (by decide)

/-- The precondition's seven comparisons, at the arguments. -/
abbrev pf := Cert.Pre_positive_decay.fn (F := Ideal) (K m c).r (K m c).w (K m c).k (K m c).v (K m c).a (K m c).b

theorem good (h : (pf m c).1 = (fun _ => 1#1) ∧ (pf m c).2.1 = (fun _ => 1#1) ∧ (pf m c).2.2.1 = (fun _ => 1#1)
    ∧ (pf m c).2.2.2.1 = (fun _ => 1#1) ∧ (pf m c).2.2.2.2.1 = (fun _ => 1#1) ∧ (pf m c).2.2.2.2.2.1 = (fun _ => 1#1)
    ∧ (pf m c).2.2.2.2.2.2 = (fun _ => 1#1)) : (K m c).Good where
  r t g j := by
    have e := congrFun (h.1) (ix3 t g j); pointwise [pf, Cert.Pre_positive_decay.fn, Cert.Pre_positive_decay.fn_part1] at e; exact real_of_abs_lt _ e
  w t g j := by
    have e := congrFun (h.2.1) (ix3 t g j); pointwise [pf, Cert.Pre_positive_decay.fn, Cert.Pre_positive_decay.fn_part1] at e; exact real_of_abs_lt _ e
  k t g j := by
    have e := congrFun (h.2.2.1) (ix3 t g j); pointwise [pf, Cert.Pre_positive_decay.fn, Cert.Pre_positive_decay.fn_part1] at e; exact real_of_abs_lt _ e
  v t g j := by
    have e := congrFun (h.2.2.2.1) (ix3 t g j); pointwise [pf, Cert.Pre_positive_decay.fn, Cert.Pre_positive_decay.fn_part1] at e; exact real_of_abs_lt _ e
  a t g j := by
    have e := congrFun (h.2.2.2.2.1) (ix3 t g j); pointwise [pf, Cert.Pre_positive_decay.fn, Cert.Pre_positive_decay.fn_part1] at e; exact real_of_abs_lt _ e
  b t g j := by
    have e := congrFun (h.2.2.2.2.2.1) (ix3 t g j); pointwise [pf, Cert.Pre_positive_decay.fn, Cert.Pre_positive_decay.fn_part1] at e; exact real_of_abs_lt _ e
  pos t g j := by
    have e := congrFun (h.2.2.2.2.2.2) (ix3 t g j); pointwise [pf, Cert.Pre_positive_decay.fn, Cert.Pre_positive_decay.fn_part1] at e; exact pos_of_gt _ e

/-- Token `i` of block `t`. -/
def tok (t : Fin cfg0.N) (i : Fin 256) : Fin 4096 := ⟨t.val * 256 + i.val, by have := (idx t).2.2.2.2.2.2.2.2; omega⟩

/-! The blocks the body reads, at their tokens. -/

theorem b0 (t : Fin cfg0.N) (h : Fin 8) (i : Fin 256) (j : Fin 64) : iblk m c 0 t (ix3 h i j) = (K m c).r (ix3 (tok t i) h j) := by
  blk_point [iblk, V, idx t, tok]
theorem b1 (t : Fin cfg0.N) (h : Fin 8) (i : Fin 256) (j : Fin 64) : iblk m c 1 t (ix3 h i j) = (K m c).w (ix3 (tok t i) h j) := by
  blk_point [iblk, V, idx t, tok]
theorem b2 (t : Fin cfg0.N) (h : Fin 8) (i : Fin 256) (j : Fin 64) : iblk m c 2 t (ix3 h i j) = (K m c).k (ix3 (tok t i) h j) := by
  blk_point [iblk, V, idx t, tok]
theorem b3 (t : Fin cfg0.N) (h : Fin 8) (i : Fin 256) (j : Fin 64) : iblk m c 3 t (ix3 h i j) = (K m c).v (ix3 (tok t i) h j) := by
  blk_point [iblk, V, idx t, tok]
theorem b4 (t : Fin cfg0.N) (h : Fin 8) (i : Fin 256) (j : Fin 64) : iblk m c 4 t (ix3 h i j) = (K m c).a (ix3 (tok t i) h j) := by
  blk_point [iblk, V, idx t, tok]
theorem b5 (t : Fin cfg0.N) (h : Fin 8) (i : Fin 256) (j : Fin 64) : iblk m c 5 t (ix3 h i j) = (K m c).b (ix3 (tok t i) h j) := by
  blk_point [iblk, V, idx t, tok]

variable (hA : (K m c).Good) (t : Fin cfg0.N)
include hA

theorem ins : In (K m c).hd (t.val * 256) (iblk m c 0 t) (iblk m c 1 t) (iblk m c 2 t) (iblk m c 3 t) (iblk m c 4 t) (iblk m c 5 t) where
  r h i j := (b0 m c t h i j).trans (real_eq (tok t i) (hA.r _ h j))
  w h i j := (b1 m c t h i j).trans (real_eq (tok t i) (hA.w _ h j))
  k h i j := (b2 m c t h i j).trans (real_eq (tok t i) (hA.k _ h j))
  v h i j := (b3 m c t h i j).trans (real_eq (tok t i) (hA.v _ h j))
  a h i j := (b4 m c t h i j).trans (real_eq (tok t i) (hA.a _ h j))
  b h i j := (b5 m c t h i j).trans (real_eq (tok t i) (hA.b _ h j))
  pos := hA.pos_hd

omit hA in
theorem pay2_at (h : Fin 8) (i j : Fin 64) : @Eq EReal (k0_pay2 (F := Ideal) (ix3 h i j)) 0 := by
  pointwise [k0_pay2]

omit hA in
theorem pay1_eq (x : FVec Ideal S8x64x64 .f32) : k0_pay1 (F := Ideal) x = x := by
  funext y
  obtain ⟨h, i, j, rfl⟩ : ∃ (h : Fin 8) (i j : Fin 64), y = ix3 h i j := ⟨y 0, y 1, y 2, eq_ix3 y⟩
  pointwise [k0_pay1]

omit hA in
theorem pay3_at (x : FVec Ideal S8x64x64 .f32) (h : Fin 8) (i j : Fin 64) : k0_pay3 (F := Ideal) x (ix4 0 h i j) = x (ix3 h i j) := by
  pointwise [k0_pay3]

/-- The state before the first token is nothing. -/
theorem zero_at (h0 : t.val = 0) (h : Fin 8) (i j : Fin 64) :
    @Eq EReal (k0_pay2 (F := Ideal) (ix3 h i j)) ((st ((K m c).hd h) (t.val * 256 + 0 * 64) i j : ℝ) : EReal) := by
  rw [pay2_at, h0]
  rfl

omit hA in
theorem first (h0 : t.val % 16 = 0) : t.val = 0 := by have := (idx t).2.2.2.2.2.2.2.2; omega

/-- The scratch holds the state after every block. -/
theorem scratch : ∀ (n : ℕ) (hn : n < cfg0.N) (h : Fin 8) (i j : Fin 64),
    @Eq EReal ((outsAt0 m c n hn).2.2 (ix3 h i j)) ((st ((K m c).hd h) ((n + 1) * 256) i j : ℝ) : EReal) := by
  intro n
  induction n with
  | zero =>
    intro hn h i j
    have e := outsAt0_A m c ⟨0, hn⟩ rfl
    refine (congrArg (fun z => z.2.2 (ix3 h i j)) e).trans ?_
    frame_out
    rw [pay1_eq]
    exact (s4_at (ins m c hA ⟨0, hn⟩) (zero_at m c hA ⟨0, hn⟩ rfl) h i j)
  | succ n ih =>
    intro hn h i j
    have hN : n + 1 < 16 := (idx ⟨n + 1, hn⟩).2.2.2.2.2.2.2.2
    have h0 : ¬(n + 1) % 16 = 0 := by omega
    have e := outsAt0_B m c ⟨n + 1, hn⟩ h0
    refine (congrArg (fun z => z.2.2 (ix3 h i j)) e).trans ?_
    frame_out
    rw [pay1_eq, read_unread_whole]
    refine (s4_at (ins m c hA ⟨n + 1, hn⟩) (fun h i j => ?_) h i j).trans ?_
    · exact ih _ h i j
    · rw [show (n + 1) * 256 + 4 * 64 = (n + 1 + 1) * 256 by omega]

theorem before (h0 : ¬t.val % 16 = 0) (h : Fin 8) (i j : Fin 64) :
    @Eq EReal ((outsAt0 m c (t.val - 1) (Nat.lt_of_le_of_lt (Nat.sub_le _ _) t.isLt)).2.2 (ix3 h i j))
      ((st ((K m c).hd h) (t.val * 256 + 0 * 64) i j : ℝ) : EReal) := by
  rw [scratch m c hA, show (t.val - 1 + 1) * 256 = t.val * 256 + 0 * 64 by omega]

omit hA in
theorem emb6 (h : Fin 8) (i : Fin 256) (j : Fin 64) : ((cfg0.win 6).blk t).view.emb (ix3 h i j) = (ix3 h (tok t i) j : S8x4096x64.Idx) := by
  blk_ext [idx t, tok]

omit hA in
theorem emb7 (h : Fin 8) (i j : Fin 64) :
    ((cfg0.win 7).blk t).view.emb (ix4 0 h i j) = (ix4 ⟨t.val, (idx t).2.2.2.2.2.2.2.2⟩ h i j : S16x8x64x64.Idx) := by
  blk_ext [idx t]

theorem final6 : (dats m 0 c).arrAt 6 (cfgs 0).N = Y (K m c) := by
  refine (dats m 0 c).arrAt_eq_of_covers 6 _ (by decide +kernel) fun t hf y => ?_
  obtain ⟨h, i, j, rfl⟩ : ∃ (h : Fin 8) (i : Fin 256) (j : Fin 64), y = ix3 h i j := ⟨y 0, y 1, y 2, eq_ix3 y⟩
  blk_simp; rw [after0_6, emb6]
  by_cases h0 : t.val % 16 = 0
  · rw [outsAt0_A m c t h0]; frame_out; exact yb_at (ins m c hA t) (zero_at m c hA t (first t h0)) h i j
  · rw [outsAt0_B m c t h0]; frame_out; rw [read_unread_whole]; exact yb_at (ins m c hA t) (before m c hA t h0) h i j

theorem final7 : (dats m 0 c).arrAt 7 (cfgs 0).N = CK (K m c) := by
  refine (dats m 0 c).arrAt_eq_of_covers 7 _ (by decide +kernel) fun t hf y => ?_
  obtain ⟨h, i, j, rfl⟩ : ∃ (h : Fin 8) (i j : Fin 64), y = ix4 0 h i j :=
    ⟨y 1, y 2, y 3, by rw [eq_ix4 y]; congr 1; exact Fin.ext (Nat.lt_one_iff.1 (y 0).isLt)⟩
  blk_simp; rw [after0_7, emb7]
  by_cases h0 : t.val % 16 = 0
  · rw [outsAt0_A m c t h0]; frame_out; exact (pay3_at _ h i j).trans (zero_at m c hA t (first t h0) h i j)
  · rw [outsAt0_B m c t h0]; frame_out; rw [read_unread_whole]; exact (pay3_at _ h i j).trans (before m c hA t h0 h i j)

end Cert.WkvFwd
end
end
-- ==== Proof.WkvFwdLoop.lean ====
/- RWKV-7's recurrence, forward: the reference's loop over the tokens leaves the recurrence's outputs and states. -/
module

public import proofs.«01_k».proof.Proof.Gen.WkvFwdRefIdeal.Run
public import proofs.«01_k».proof.Proof.WkvFwdValue
public import Idealize.ShloMosaic.Lib.DynamicIndex

@[expose] public section

set_option maxRecDepth 16384

noncomputable section

open Idealize.ShloMosaic Idealize.ShloMosaic.TcCoe Idealize.SL.Sem

namespace Cert.WkvFwdLoop

open Cert.WkvFwdRefIdeal Cert.WkvFwdRefIdeal.Gen Cert.WkvFwdRefIdeal.Value
open Cert.Facts
open Idealize.ShloMosaic.StableHlo
open Cert.Wkv
open Cert.WkvFwd (Args real real_eq mulR addR dotR)

/-- The start of a token's slice: the counter, then the array's whole extent. -/
abbrev at3 (n : IVec S_ 32) : Fin 3 → Int :=
  fun k => ((![n, constantI S_ 32 0#32, constantI S_ 32 0#32] : Fin 3 → IVec S_ 32) k (Shape.Idx.first h_S_)).toInt
abbrev at4 (n : IVec S_ 32) : Fin 4 → Int :=
  fun k => ((![n, constantI S_ 32 0#32, constantI S_ 32 0#32, constantI S_ 32 0#32] : Fin 4 → IVec S_ 32) k (Shape.Idx.first h_S_)).toInt

section Slices
variable {n : IVec S_ 32} {k : ℕ} (hk : k < 4096) (hn : n (Shape.Idx.first h_S_) = BitVec.ofNat 32 k)
include hn hk

theorem start3 : ∀ a : Fin 3, at3 n a = ((![k, 0, 0] : Fin 3 → ℕ) a : Int) := by
  intro a
  match a with
  | 0 => show (n (Shape.Idx.first h_S_)).toInt = _; rw [hn]; exact toInt_ofNat_of_lt (by omega)
  | 1 => rfl
  | 2 => rfl

theorem start4 : ∀ a : Fin 4, at4 n a = ((![k, 0, 0, 0] : Fin 4 → ℕ) a : Int) := by
  intro a
  match a with
  | 0 => show (n (Shape.Idx.first h_S_)).toInt = _; rw [hn]; exact toInt_ofNat_of_lt (by omega)
  | 1 => rfl
  | 2 => rfl
  | 3 => rfl

omit hn in
theorem fits3 (a : Fin 3) : (![k, 0, 0] : Fin 3 → ℕ) a + S1x8x64.size a ≤ S4096x8x64.size a := by
  match a with
  | 0 => show k + 1 ≤ 4096; omega
  | 1 => show 0 + 8 ≤ 8; omega
  | 2 => show 0 + 64 ≤ 64; omega

omit hn in
theorem fits4 (a : Fin 4) : (![k, 0, 0, 0] : Fin 4 → ℕ) a + S1x8x64x64.size a ≤ S4096x8x64x64.size a := by
  match a with
  | 0 => show k + 1 ≤ 4096; omega
  | 1 => show 0 + 8 ≤ 8; omega
  | 2 => show 0 + 64 ≤ 64; omega
  | 3 => show 0 + 64 ≤ 64; omega

/-- The token the loop reads. -/
theorem read_at (X : FVec Ideal S4096x8x64 .f32) (h : Fin 8) (j : Fin 64) :
    shapeCast S8x64 (Host.dynamicSlice S1x8x64 X (at3 n) sliceFits_S4096x8x64_S1x8x64) shapeCasts_S1x8x64_S8x64 (ix2 h j) = X (ix3 ⟨k, hk⟩ h j) := by
  have hs : S4096x8x64.Slices ![k, 0, 0] S1x8x64 := ⟨rfl, fits3 hk⟩
  rw [Host.dynamicSlice_eq_extractStridedSlice S1x8x64 X (at3 n) ![k, 0, 0] _ hs (start3 hk hn)]
  pointwise

theorem clamp3 (a : Fin 3) : Host.clampedStart S4096x8x64 S1x8x64 updateFits_S4096x8x64_S1x8x64.1 (at3 n) a = (![k, 0, 0] : Fin 3 → ℕ) a :=
  Host.clampedStart_of_le updateFits_S4096x8x64_S1x8x64.1 (at3 n) a _ (start3 hk hn a) (fits3 hk a)

theorem clamp4 (a : Fin 4) :
    Host.clampedStart S4096x8x64x64 S1x8x64x64 updateFits_S4096x8x64x64_S1x8x64x64.1 (at4 n) a = (![k, 0, 0, 0] : Fin 4 → ℕ) a :=
  Host.clampedStart_of_le updateFits_S4096x8x64x64_S1x8x64x64.1 (at4 n) a _ (start4 hk hn a) (fits4 hk a)

/-- The token the loop writes, in the outputs. -/
theorem write3 (X : FVec Ideal S4096x8x64 .f32) (u : FVec Ideal S1x8x64 .f32) (t : Fin 4096) (h : Fin 8) (j : Fin 64) :
    Host.dynamicUpdateSlice X u (at3 n) updateFits_S4096x8x64_S1x8x64 (ix3 t h j) = if t.val = k then u (ix3 0 h j) else X (ix3 t h j) := by
  rw [Host.dynamicUpdateSlice_apply]
  simp only [clamp3 hk hn]
  by_cases e : t.val = k
  · rw [if_pos e, dif_pos]
    · refine congrArg u ?_
      funext a
      match a with
      | 0 => exact Fin.ext (by show t.val - k = 0; omega)
      | 1 => exact Fin.ext (by show h.val - 0 = h.val; omega)
      | 2 => exact Fin.ext (by show j.val - 0 = j.val; omega)
    · intro a
      match a with
      | 0 => exact ⟨by show k ≤ t.val; omega, by show t.val < k + 1; omega⟩
      | 1 => exact ⟨Nat.zero_le _, by show h.val < 0 + 8; omega⟩
      | 2 => exact ⟨Nat.zero_le _, by show j.val < 0 + 64; omega⟩
  · rw [if_neg e, dif_neg]
    intro hin
    have h1 : k ≤ t.val := (hin 0).1
    have h2 : t.val < k + 1 := (hin 0).2
    omega

/-- The token the loop writes, in the states. -/
theorem write4 (X : FVec Ideal S4096x8x64x64 .f32) (u : FVec Ideal S1x8x64x64 .f32) (t : Fin 4096) (h : Fin 8) (i j : Fin 64) :
    Host.dynamicUpdateSlice X u (at4 n) updateFits_S4096x8x64x64_S1x8x64x64 (ix4 t h i j) = if t.val = k then u (ix4 0 h i j) else X (ix4 t h i j) := by
  rw [Host.dynamicUpdateSlice_apply]
  simp only [clamp4 hk hn]
  by_cases e : t.val = k
  · rw [if_pos e, dif_pos]
    · refine congrArg u ?_
      funext a
      match a with
      | 0 => exact Fin.ext (by show t.val - k = 0; omega)
      | 1 => exact Fin.ext (by show h.val - 0 = h.val; omega)
      | 2 => exact Fin.ext (by show i.val - 0 = i.val; omega)
      | 3 => exact Fin.ext (by show j.val - 0 = j.val; omega)
    · intro a
      match a with
      | 0 => exact ⟨by show k ≤ t.val; omega, by show t.val < k + 1; omega⟩
      | 1 => exact ⟨Nat.zero_le _, by show h.val < 0 + 8; omega⟩
      | 2 => exact ⟨Nat.zero_le _, by show i.val < 0 + 64; omega⟩
      | 3 => exact ⟨Nat.zero_le _, by show j.val < 0 + 64; omega⟩
  · rw [if_neg e, dif_neg]
    intro hin
    have h1 : k ≤ t.val := (hin 0).1
    have h2 : t.val < k + 1 := (hin 0).2
    omega

end Slices

/-! ### One token -/

abbrev vS (V : Valuation τ sig (Elt Ideal)) : FVec Ideal S8x64x64 .f32 := V (Proc.devRef .tc main_v3_7)
abbrev vY (V : Valuation τ sig (Elt Ideal)) : FVec Ideal S4096x8x64 .f32 := V (Proc.devRef .tc main_v3_8)
abbrev vC (V : Valuation τ sig (Elt Ideal)) : FVec Ideal S4096x8x64x64 .f32 := V (Proc.devRef .tc main_v3_9)
abbrev vN (V : Valuation τ sig (Elt Ideal)) : IVec S_ 32 := V (Proc.devRef .tc main_v3_6)

/-- A token of an array. -/
abbrev sl (n : IVec S_ 32) (X : FVec Ideal S4096x8x64 .f32) : FVec Ideal S8x64 .f32 :=
  shapeCast S8x64 (Host.dynamicSlice S1x8x64 X (at3 n) sliceFits_S4096x8x64_S1x8x64) shapeCasts_S1x8x64_S8x64

/-- A number for each row of a state, along its columns, and the other way round. -/
abbrev cols (x : FVec Ideal S8x64 .f32) : FVec Ideal S8x64x64 .f32 :=
  broadcastInDim S8x64x64 ![0, 1, 2] bcast_S8x1x64_S8x64x64_0_1_2 (broadcastInDim S8x1x64 ![0, 2] bcast_S8x64_S8x1x64_0_2 x)
abbrev rows (x : FVec Ideal S8x64 .f32) : FVec Ideal S8x64x64 .f32 :=
  broadcastInDim S8x64x64 ![0, 1, 2] bcast_S8x64x1_S8x64x64_0_1_2 (broadcastInDim S8x64x1 ![0, 1] bcast_S8x64_S8x64x1_0_1 x)

/-- The state applied to a vector, head by head. -/
abbrev app (s : FVec Ideal S8x64x64 .f32) (x : FVec Ideal S8x64 .f32) : FVec Ideal S8x64 .f32 :=
  Host.dotGeneral dot_S8x64x64_S8x64_S8x64_2_1_1_n_0_0 none s x

def newS (s : FVec Ideal S8x64x64 .f32) (w k v a b : FVec Ideal S8x64 .f32) : FVec Ideal S8x64x64 .f32 :=
  addf (addf (mulf s (cols w)) (mulf (rows (app s a)) (cols b))) (mulf (rows v) (cols k))

theorem newS_at (s : FVec Ideal S8x64x64 .f32) (w k v a b : FVec Ideal S8x64 .f32) (h : Fin 8) (i j : Fin 64) :
    @Eq EReal (newS s w k v a b (ix3 h i j)) (s (ix3 h i j) * w (ix2 h j) + (∑ x : Fin 64, s (ix3 h i x) * a (ix2 h x)) * b (ix2 h j)
      + v (ix2 h i) * k (ix2 h j)) := by
  pointwise [newS, cols, rows, app]

theorem app_at (s : FVec Ideal S8x64x64 .f32) (x : FVec Ideal S8x64 .f32) (h : Fin 8) (i : Fin 64) :
    @Eq EReal (broadcastInDim S1x8x64 ![1, 2] bcast_S8x64_S1x8x64_1_2 (app s x) (ix3 0 h i)) (∑ j : Fin 64, s (ix3 h i j) * x (ix2 h j)) := by
  pointwise [app]

theorem old_at (s : FVec Ideal S8x64x64 .f32) (h : Fin 8) (i j : Fin 64) :
    broadcastInDim S1x8x64x64 ![1, 2, 3] bcast_S8x64x64_S1x8x64x64_1_2_3 s (ix4 0 h i j) = s (ix3 h i j) := by
  pointwise

/-- What the loop's buffers hold before token `k`. -/
structure Inv (A : Args) (k : ℕ) (V : Valuation τ sig (Elt Ideal)) : Prop where
  a0 : V (Proc.devRef .tc main_v3_0) = A.r
  a1 : V (Proc.devRef .tc main_v3_1) = A.w
  a2 : V (Proc.devRef .tc main_v3_2) = A.k
  a3 : V (Proc.devRef .tc main_v3_3) = A.v
  a4 : V (Proc.devRef .tc main_v3_4) = A.a
  a5 : V (Proc.devRef .tc main_v3_5) = A.b
  n : vN V (Shape.Idx.first h_S_) = BitVec.ofNat 32 k
  s : ∀ (h : Fin 8) (i j : Fin 64), @Eq EReal (vS V (ix3 h i j)) ((st (A.hd h) k i j : ℝ) : EReal)
  y : ∀ (t : Fin 4096) (h : Fin 8) (j : Fin 64), t.val < k → @Eq EReal (vY V (ix3 t h j)) ((out (A.hd h) t.val j : ℝ) : EReal)
  c : ∀ (t : Fin 4096) (h : Fin 8) (i j : Fin 64), t.val < k → @Eq EReal (vC V (ix4 t h i j)) ((st (A.hd h) t.val i j : ℝ) : EReal)

theorem res_eq {k : ℕ} {A : Args} {V : Valuation τ sig (Elt Ideal)} (I : Inv A k V) :
    res_main_while0b_v29 V = newS (vS V) (sl (vN V) A.w) (sl (vN V) A.k) (sl (vN V) A.v) (sl (vN V) A.a) (sl (vN V) A.b) := by
  rw [← I.a1, ← I.a2, ← I.a3, ← I.a4, ← I.a5]
  rfl

section Step
variable {k : ℕ} (hk : k < 4096) {A : Args} (hA : A.Good) {V : Valuation τ sig (Elt Ideal)} (I : Inv A k V)
include hk hA I

/-- A token's new state. -/
theorem new_at (h : Fin 8) (i j : Fin 64) :
    @Eq EReal ((res_main_while0b_v29 V : FVec Ideal S8x64x64 .f32) (ix3 h i j)) ((st (A.hd h) (k + 1) i j : ℝ) : EReal) := by
  rw [res_eq I]
  refine (newS_at _ _ _ _ _ _ h i j).trans ?_
  have f : ∀ (X : FVec Ideal S4096x8x64 .f32) (j : Fin 64), sl (vN V) X (ix2 h j) = X (ix3 ⟨k, hk⟩ h j) := fun X j => read_at hk I.n X h j
  refine (addR (addR (mulR (I.s h i j) ((f A.w j).trans (real_eq (d := 1) ⟨k, hk⟩ (hA.w _ h j))))
    (mulR (dotR (fun x => I.s h i x) (fun x => (f A.a x).trans (real_eq (d := 0) ⟨k, hk⟩ (hA.a _ h x))))
      ((f A.b j).trans (real_eq (d := 0) ⟨k, hk⟩ (hA.b _ h j)))))
    (mulR ((f A.v i).trans (real_eq (d := 0) ⟨k, hk⟩ (hA.v _ h i))) ((f A.k j).trans (real_eq (d := 0) ⟨k, hk⟩ (hA.k _ h j))))).trans ?_
  rfl

theorem step_y (t : Fin 4096) (h : Fin 8) (j : Fin 64) (ht : t.val < k + 1) :
    @Eq EReal ((step_main_v3_8 V : FVec Ideal S4096x8x64 .f32) (ix3 t h j)) ((out (A.hd h) t.val j : ℝ) : EReal) := by
  have e : step_main_v3_8 V = Host.dynamicUpdateSlice (vY V)
      (broadcastInDim S1x8x64 ![1, 2] bcast_S8x64_S1x8x64_1_2 (app (res_main_while0b_v29 V) (sl (vN V) A.r))) (at3 (vN V)) updateFits_S4096x8x64_S1x8x64 := by
    rw [← I.a0]; rfl
  rw [e, write3 hk I.n]
  by_cases et : t.val = k
  · rw [if_pos et, et]
    refine (app_at _ _ h j).trans ?_
    exact dotR (fun x => new_at hk hA I h j x) (fun x => (read_at hk I.n A.r h x).trans (real_eq (d := 0) ⟨k, hk⟩ (hA.r _ h x)))
  · rw [if_neg et]; exact I.y t h j (by omega)

omit hA in
theorem step_c (t : Fin 4096) (h : Fin 8) (i j : Fin 64) (ht : t.val < k + 1) :
    @Eq EReal ((step_main_v3_9 V : FVec Ideal S4096x8x64x64 .f32) (ix4 t h i j)) ((st (A.hd h) t.val i j : ℝ) : EReal) := by
  have e : step_main_v3_9 V = Host.dynamicUpdateSlice (vC V)
      (broadcastInDim S1x8x64x64 ![1, 2, 3] bcast_S8x64x64_S1x8x64x64_1_2_3 (vS V)) (at4 (vN V)) updateFits_S4096x8x64x64_S1x8x64x64 := rfl
  rw [e, write4 hk I.n]
  by_cases et : t.val = k
  · rw [if_pos et, et]; exact (old_at _ h i j).trans (I.s h i j)
  · rw [if_neg et]; exact I.c t h i j (by omega)

theorem step : Inv A (k + 1) (STEP V) where
  a0 := (STEP_main_v3_0 V).trans I.a0
  a1 := (STEP_main_v3_1 V).trans I.a1
  a2 := (STEP_main_v3_2 V).trans I.a2
  a3 := (STEP_main_v3_3 V).trans I.a3
  a4 := (STEP_main_v3_4 V).trans I.a4
  a5 := (STEP_main_v3_5 V).trans I.a5
  n := by
    show (STEP V (Proc.devRef .tc main_v3_6) : IVec S_ 32) _ = _
    rw [STEP_main_v3_6]
    show vN V (Shape.Idx.first h_S_) + 1#32 = _
    rw [I.n, BitVec.ofNat_add]
  s h i j := by
    show @Eq EReal ((STEP V (Proc.devRef .tc main_v3_7) : FVec Ideal S8x64x64 .f32) _) _
    rw [STEP_main_v3_7]; exact new_at hk hA I h i j
  y t h j ht := by
    show @Eq EReal ((STEP V (Proc.devRef .tc main_v3_8) : FVec Ideal S4096x8x64 .f32) _) _
    rw [STEP_main_v3_8]; exact step_y hk hA I t h j ht
  c t h i j ht := by
    show @Eq EReal ((STEP V (Proc.devRef .tc main_v3_9) : FVec Ideal S4096x8x64x64 .f32) _) _
    rw [STEP_main_v3_9]; exact step_c hk I t h i j ht

end Step

/-! ### The whole loop -/

variable (m : (ℓ : Loc nD τ sig) → Buf (Elt Ideal) ℓ) (c : Dev nD)

/-- The reference's arguments. -/
abbrev R : Args where
  r := m ((c.tc : Thread nD τ).loc main_arg0)
  w := m ((c.tc : Thread nD τ).loc main_arg1)
  k := m ((c.tc : Thread nD τ).loc main_arg2)
  v := m ((c.tc : Thread nD τ).loc main_arg3)
  a := m ((c.tc : Thread nD τ).loc main_arg4)
  b := m ((c.tc : Thread nD τ).loc main_arg5)

theorem entry : Inv (R m c) 0 (entryContents preI m c) where
  a0 := by simp only [entryContents, preI, afterL_cons, afterL_nil, hostOps0]; after_results_entrywise []
  a1 := by simp only [entryContents, preI, afterL_cons, afterL_nil, hostOps0]; after_results_entrywise []
  a2 := by simp only [entryContents, preI, afterL_cons, afterL_nil, hostOps0]; after_results_entrywise []
  a3 := by simp only [entryContents, preI, afterL_cons, afterL_nil, hostOps0]; after_results_entrywise []
  a4 := by simp only [entryContents, preI, afterL_cons, afterL_nil, hostOps0]; after_results_entrywise []
  a5 := by simp only [entryContents, preI, afterL_cons, afterL_nil, hostOps0]; after_results_entrywise []
  n := by
    simp only [vN, entryContents, preI, afterL_cons, afterL_nil, hostOps0]; after_results_entrywise []
  s h i j := by
    have e : entryContents preI m c (Proc.devRef .tc main_v3_7) = broadcastInDim S8x64x64 ![] bcast_S_S8x64x64 (constant (F := Ideal) S_ .f32 0x00000000#32) := by
      simp only [entryContents, preI, afterL_cons, afterL_nil, hostOps0]; after_results_entrywise []
    show @Eq EReal ((entryContents preI m c (Proc.devRef .tc main_v3_7) : FVec Ideal S8x64x64 .f32) _) _
    rw [e]
    pointwise
    rfl
  y t h j ht := absurd ht (Nat.not_lt_zero _)
  c t h i j ht := absurd ht (Nat.not_lt_zero _)

theorem loop (hA : (R m c).Good) : ∀ k, k ≤ 4096 → Inv (R m c) k (STEP^[k] (entryContents preI m c)) := by
  intro k
  induction k with
  | zero => intro _; exact entry m c
  | succ k ih =>
    intro hk
    rw [Function.iterate_succ_apply']
    exact step (k := k) (by omega) hA (ih (by omega))

theorem y_eq (hA : (R m c).Good) : out_main_v4 (STEP^[4096] (entryContents preI m c)) = Cert.WkvFwd.Y (R m c) := by
  have I := loop m c hA 4096 (le_refl _)
  funext y
  obtain ⟨h, t, j, rfl⟩ : ∃ (h : Fin 8) (t : Fin 4096) (j : Fin 64), y = ix3 h t j := ⟨y 0, y 1, y 2, eq_ix3 y⟩
  have e : out_main_v4 (STEP^[4096] (entryContents preI m c)) (ix3 h t j) = vY (STEP^[4096] (entryContents preI m c)) (ix3 t h j) := by
    unfold out_main_v4
    generalize STEP^[4096] (entryContents preI m c) = V
    pointwise [vY]
  rw [e]
  exact I.y t h j t.isLt

theorem ck_eq (hA : (R m c).Good) : out_main_v7 (STEP^[4096] (entryContents preI m c)) = Cert.WkvFwd.CK (R m c) := by
  have I := loop m c hA 4096 (le_refl _)
  funext y
  obtain ⟨t, h, i, j, rfl⟩ : ∃ (t : Fin 16) (h : Fin 8) (i j : Fin 64), y = ix4 t h i j := ⟨y 0, y 1, y 2, y 3, eq_ix4 y⟩
  have e : out_main_v7 (STEP^[4096] (entryContents preI m c)) (ix4 t h i j)
      = vC (STEP^[4096] (entryContents preI m c)) (ix4 ⟨t.val * 256, by omega⟩ h i j) := by
    unfold out_main_v7
    generalize STEP^[4096] (entryContents preI m c) = V
    pointwise [vC]
  rw [e]
  exact I.c ⟨t.val * 256, by omega⟩ h i j (by show t.val * 256 < 4096; omega)

/-- The reference's run: its results are the recurrence's outputs and states, its arguments unchanged. -/
theorem run (g : Dev nD → PrngReg) (hA : ∀ c, (R m c).Good) :
    θ_run (defs (F := Ideal)) (onTc (τ := τ) (main (F := Ideal))) ⟨m, fun _ => 0, g⟩ fun r => ∀ c : Dev nD,
      r.2.mem ((c.tc : Thread nD τ).loc main_v4) = Cert.WkvFwd.Y (R m c)
      ∧ r.2.mem ((c.tc : Thread nD τ).loc main_v7) = Cert.WkvFwd.CK (R m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (Cert.WkvFwdRefIdeal.Value.run m g)
  have hy := y_eq m c (hA c)
  have hc := ck_eq m c (hA c)
  have h := h c
  rw [hy, hc] at h
  exact h

/-- The two programs' arguments are the same arrays. -/
theorem args_eq (m' : (ℓ : Loc Cert.WkvFwdIdeal.nD Cert.WkvFwdIdeal.τ Cert.WkvFwdIdeal.sig) → Buf (Elt Ideal) ℓ)
    (h0 : m ((c.tc : Thread nD τ).loc main_arg0) = (Cert.WkvFwd.K m' c).r) (h1 : m ((c.tc : Thread nD τ).loc main_arg1) = (Cert.WkvFwd.K m' c).w)
    (h2 : m ((c.tc : Thread nD τ).loc main_arg2) = (Cert.WkvFwd.K m' c).k) (h3 : m ((c.tc : Thread nD τ).loc main_arg3) = (Cert.WkvFwd.K m' c).v)
    (h4 : m ((c.tc : Thread nD τ).loc main_arg4) = (Cert.WkvFwd.K m' c).a) (h5 : m ((c.tc : Thread nD τ).loc main_arg5) = (Cert.WkvFwd.K m' c).b) :
    R m c = Cert.WkvFwd.K m' c := by
  unfold R; rw [h0, h1, h2, h3, h4, h5]

end Cert.WkvFwdLoop
end
end
-- ==== Proof.S5ParamPure.lean ====
/- The S5 heads' discretisation, backward: the arithmetic of one group, read off the kernel's payloads and off the reference's
   terms. Both differentiate the same expressions, so their terms agree operation by operation. -/
module

public import proofs.«01_k».proof.Proof.Gen.S5ParamIdeal.Frame
public import proofs.«01_k».proof.Proof.Gen.S5ParamRefIdeal.Run
public import Idealize.ShloMosaic.Lib.Pointwise

@[expose] public section

set_option maxRecDepth 16384

noncomputable section

open Idealize.ShloMosaic Idealize.ShloMosaic.TcCoe Idealize.SL.Sem

namespace Cert.S5Param

/-- One group: the eigenvalues' parts `a`, `b`, the step's logarithm `s`, the input matrix' parts `br`, `bi`, the cotangents
    of the transition's parts `x`, `y` and of the discrete input matrix' parts `p`, `q`. -/
structure Row where
  a : Fin 64 → EReal
  b : Fin 64 → EReal
  s : EReal
  br : Fin 16 → Fin 64 → EReal
  bi : Fin 16 → Fin 64 → EReal
  x : Fin 64 → EReal
  y : Fin 64 → EReal
  p : Fin 16 → Fin 64 → EReal
  q : Fin 16 → Fin 64 → EReal

namespace Row
variable (R : Row)

/-- The step, and the transition by its size and angle. -/
def dt : EReal := Ideal.exp R.s
def e (n : Fin 64) : EReal := Ideal.exp (R.a n * R.dt)
def cs (n : Fin 64) : EReal := Ideal.cos (R.b n * R.dt)
def sn (n : Fin 64) : EReal := Ideal.sin (R.b n * R.dt)
/-- The transition's imaginary part, the eigenvalue's squared size, the transition's real part less one. -/
def im (n : Fin 64) : EReal := R.e n * R.sn n
def den (n : Fin 64) : EReal := R.a n * R.a n + R.b n * R.b n
def re (n : Fin 64) : EReal := R.e n * R.cs n - 1
/-- The quotient of the two by its numerators. -/
def nr (n : Fin 64) : EReal := R.re n * R.a n + R.im n * R.b n
def iv (n : Fin 64) : EReal := Ideal.div 1 (R.den n * R.den n)
def ni (n : Fin 64) : EReal := R.im n * R.a n - R.re n * R.b n
def qr (n : Fin 64) : EReal := Ideal.div (R.nr n) (R.den n)
def qi (n : Fin 64) : EReal := Ideal.div (R.ni n) (R.den n)
/-- The quotient's cotangents. -/
def gi (n : Fin 64) : EReal := (∑ j, R.q j n * R.br j n) + ∑ j, -R.p j n * R.bi j n
def gr (n : Fin 64) : EReal := (∑ j, R.q j n * R.bi j n) + ∑ j, R.p j n * R.br j n
/-- The squared size's cotangent. -/
def hi (n : Fin 64) : EReal := -(R.gi n * R.iv n * R.ni n)
def wi (n : Fin 64) : EReal := Ideal.div (R.gi n) (R.den n)
def ha (n : Fin 64) : EReal := R.hi n + -(R.gr n * R.iv n * R.nr n)
def wr (n : Fin 64) : EReal := Ideal.div (R.gr n) (R.den n)
/-- The transition's parts' cotangents. -/
def fr (n : Fin 64) : EReal := R.y n + R.wi n * R.a n + R.wr n * R.b n
def fi (n : Fin 64) : EReal := R.x n + -R.wi n * R.b n + R.wr n * R.a n
def la (n : Fin 64) : EReal := R.im n * R.wi n + R.re n * R.wr n + R.a n * R.ha n + R.ha n * R.a n
/-- The angle's and the size's cotangents. -/
def ta (n : Fin 64) : EReal := R.e n * R.fr n * R.cs n
def tb (n : Fin 64) : EReal := -(R.e n * R.fi n) * R.sn n
def tc (n : Fin 64) : EReal := (R.fr n * R.sn n + R.fi n * R.cs n) * R.e n
/-- The five gradients. -/
def dlr (n : Fin 64) : EReal := R.la n + R.tc n * R.dt
def dli (n : Fin 64) : EReal := R.re n * -R.wi n + R.im n * R.wr n + R.b n * R.ha n + R.ha n * R.b n + R.ta n * R.dt + R.tb n * R.dt
def dls : EReal := ((∑ n, R.b n * R.ta n) + (∑ n, R.b n * R.tb n) + ∑ n, R.a n * R.tc n) * R.dt
def dbr (j : Fin 16) (n : Fin 64) : EReal := R.qi n * R.q j n + R.qr n * R.p j n
def dbi (j : Fin 16) (n : Fin 64) : EReal := R.qr n * R.q j n + R.qi n * -R.p j n

end Row

/-! ## The kernel's payloads -/

section Kernel
open Cert.S5ParamIdeal Cert.S5ParamIdeal.Gen

variable (a : FVec Ideal S32x64 .f32) (b : FVec Ideal S32x64 .f32) (s : FVec Ideal S32x1 .f32) (br : FVec Ideal S32x16x64 .f32) (bi : FVec Ideal S32x16x64 .f32) (x : FVec Ideal S32x64 .f32) (y : FVec Ideal S32x64 .f32) (p : FVec Ideal S32x16x64 .f32) (q : FVec Ideal S32x16x64 .f32)

/-- Group `g` of the kernel's arrays. -/
def K (g : Fin 32) : Row :=
  ⟨fun n => a (ix2 g n), fun n => b (ix2 g n), s (ix2 g 0), fun j n => br (ix3 g j n), fun j n => bi (ix3 g j n),
    fun n => x (ix2 g n), fun n => y (ix2 g n), fun j n => p (ix3 g j n), fun j n => q (ix3 g j n)⟩

/-! The body's values. -/

abbrev k45  := k0_pay3 (F := Ideal) br
abbrev k46  := k0_pay4 (F := Ideal) bi
abbrev k47  := k0_pay5 (F := Ideal) s
abbrev k48  := k0_pay6 (F := Ideal) a s
abbrev k49  := k0_pay8 (F := Ideal) b s
abbrev k50  := k0_pay9 (F := Ideal) b s
abbrev k51  := k0_pay11 (F := Ideal) b s
abbrev k52  := k0_pay12 (F := Ideal) b s
abbrev k53  := k0_pay13 (F := Ideal) a b s
abbrev k54  := k0_pay14 (F := Ideal) a b
abbrev k55  := k0_pay15 (F := Ideal) a b s
abbrev k56  := k0_pay16 (F := Ideal) a b s
abbrev k57  := k0_pay17 (F := Ideal) a b
abbrev k18  := k0_pay18 (F := Ideal) a b s
abbrev k19  := k0_pay19 (F := Ideal) a b
abbrev k58  := k0_pay20 (F := Ideal) a b s
abbrev k59  := k0_pay21 (F := Ideal) a b s
abbrev k27  := k0_pay27 (F := Ideal) (k45 br) (k46 bi) p q
abbrev k60  := k0_pay28 (F := Ideal) (k45 br) (k46 bi) p q
abbrev k61  := k0_pay29 (F := Ideal) (k45 br) (k46 bi) (k18 a b s) (k19 a b) p q
abbrev k62  := k0_pay30 (F := Ideal) (k45 br) (k46 bi) (k54 a b) p q
abbrev k32  := k0_pay32 (F := Ideal) (k45 br) (k46 bi) (k54 a b) (k55 a b s) p q
abbrev k63  := k0_pay33 (F := Ideal) b (k45 br) (k46 bi) (k54 a b) p q
abbrev k34  := k0_pay34 (F := Ideal) (k56 a b s) (k57 a b) (k60 br bi p q) (k61 a b s br bi p q)
abbrev k35  := k0_pay35 (F := Ideal) (k54 a b) (k60 br bi p q)
abbrev k36  := k0_pay36 (F := Ideal) a b (k54 a b) y (k60 br bi p q) (k62 a b br bi p q)
abbrev k37  := k0_pay37 (F := Ideal) a (k54 a b) x (k60 br bi p q) (k63 a b br bi p q)
abbrev k38  := k0_pay38 (F := Ideal) a (k53 a b s) (k54 a b) (k55 a b s) (k56 a b s) (k57 a b) (k60 br bi p q) (k61 a b s br bi p q) (k62 a b br bi p q)
abbrev k39  := k0_pay39 (F := Ideal) a b (k48 a s) (k52 b s) (k54 a b) y (k60 br bi p q) (k62 a b br bi p q)
abbrev k40  := k0_pay40 (F := Ideal) a (k48 a s) (k50 b s) (k54 a b) x (k60 br bi p q) (k63 a b br bi p q)
abbrev k42  := k0_pay42 (F := Ideal) a b (k48 a s) (k49 b s) (k51 b s) (k54 a b) x y (k60 br bi p q) (k62 a b br bi p q) (k63 a b br bi p q)
abbrev k44  := k0_pay44 (F := Ideal) a b (k47 s) (k48 a s) (k49 b s) (k51 b s) (k54 a b) x y (k60 br bi p q) (k62 a b br bi p q) (k63 a b br bi p q)
abbrev k1  := k0_pay1 (F := Ideal) (k38 a b s br bi p q) (k44 a b s br bi x y p q)
abbrev k41  := k0_pay41 (F := Ideal) a b (k47 s) (k48 a s) (k50 b s) (k52 b s) (k53 a b s) (k54 a b) (k56 a b s) (k57 a b) x y (k60 br bi p q) (k61 a b s br bi p q) (k62 a b br bi p q) (k32 a b s br bi p q) (k63 a b br bi p q)
abbrev k43  := k0_pay43 (F := Ideal) a b (k48 a s) (k49 b s) (k50 b s) (k51 b s) (k52 b s) (k54 a b) x y (k60 br bi p q) (k62 a b br bi p q) (k63 a b br bi p q)
abbrev k2  := k0_pay2 (F := Ideal) (k47 s) (k43 a b s br bi x y p q)
abbrev k26  := k0_pay26 (F := Ideal) (k58 a b s) (k59 a b s) p q
abbrev k25  := k0_pay25 (F := Ideal) (k58 a b s) (k59 a b s) p q

variable (g : Fin 32)

theorem k45_at (j : Fin 16) (n : Fin 64) : @Eq EReal (k45 br (ix3 g j n)) (br (ix3 g j n)) := by pointwise [k45, k0_pay3]

theorem k46_at (j : Fin 16) (n : Fin 64) : @Eq EReal (k46 bi (ix3 g j n)) (bi (ix3 g j n)) := by pointwise [k46, k0_pay4]

theorem k47_at  : @Eq EReal (k47 s (ix2 g 0)) ((K a b s br bi x y p q g).dt ) := by
  pointwise [k47, k0_pay5, Row.dt, K]

theorem k48_at (n : Fin 64) : @Eq EReal (k48 a s (ix2 g n)) ((K a b s br bi x y p q g).e n) := by
  pointwise [k48, k0_pay6, Row.e]
  simp only [k47_at a b s br bi x y p q g, zero_sub, Fin.sum_univ_one, K]

theorem k49_at (n : Fin 64) : @Eq EReal (k49 b s (ix2 g n)) ((K a b s br bi x y p q g).cs n) := by
  pointwise [k49, k0_pay8, k0_pay7, Row.cs]
  simp only [k47_at a b s br bi x y p q g, zero_sub, Fin.sum_univ_one, K]

theorem k50_at (n : Fin 64) : @Eq EReal (k50 b s (ix2 g n)) ((K a b s br bi x y p q g).sn n) := by
  pointwise [k50, k0_pay9, k0_pay7, Row.sn]
  simp only [k47_at a b s br bi x y p q g, zero_sub, Fin.sum_univ_one, K]

theorem k51_at (n : Fin 64) : @Eq EReal (k51 b s (ix2 g n)) ((K a b s br bi x y p q g).sn n) := by
  pointwise [k51, k0_pay11, k0_pay10, Row.sn]
  simp only [k47_at a b s br bi x y p q g, zero_sub, Fin.sum_univ_one, K]

theorem k52_at (n : Fin 64) : @Eq EReal (k52 b s (ix2 g n)) ((K a b s br bi x y p q g).cs n) := by
  pointwise [k52, k0_pay12, k0_pay10, Row.cs]
  simp only [k47_at a b s br bi x y p q g, zero_sub, Fin.sum_univ_one, K]

theorem k53_at (n : Fin 64) : @Eq EReal (k53 a b s (ix2 g n)) ((K a b s br bi x y p q g).im n) := by
  pointwise [k53, k0_pay13, Row.im]
  simp only [k48_at a b s br bi x y p q g, k51_at a b s br bi x y p q g, zero_sub, Fin.sum_univ_one, K]

theorem k54_at (n : Fin 64) : @Eq EReal (k54 a b (ix2 g n)) ((K a b s br bi x y p q g).den n) := by
  pointwise [k54, k0_pay14, Row.den]
  simp only [zero_sub, Fin.sum_univ_one, K]

theorem k55_at (n : Fin 64) : @Eq EReal (k55 a b s (ix2 g n)) ((K a b s br bi x y p q g).re n) := by
  pointwise [k55, k0_pay15, Row.re]
  simp only [k48_at a b s br bi x y p q g, k49_at a b s br bi x y p q g, zero_sub, Fin.sum_univ_one, K]

theorem k56_at (n : Fin 64) : @Eq EReal (k56 a b s (ix2 g n)) ((K a b s br bi x y p q g).nr n) := by
  pointwise [k56, k0_pay16, Row.nr]
  simp only [k55_at a b s br bi x y p q g, k53_at a b s br bi x y p q g, zero_sub, Fin.sum_univ_one, K]

theorem k57_at (n : Fin 64) : @Eq EReal (k57 a b (ix2 g n)) ((K a b s br bi x y p q g).iv n) := by
  pointwise [k57, k0_pay17, Row.iv]
  simp only [k54_at a b s br bi x y p q g, zero_sub, Fin.sum_univ_one, K]

theorem k18_at (n : Fin 64) : @Eq EReal (k18 a b s (ix2 g n)) ((K a b s br bi x y p q g).ni n) := by
  pointwise [k18, k0_pay18, Row.ni]
  simp only [k53_at a b s br bi x y p q g, k55_at a b s br bi x y p q g, zero_sub, Fin.sum_univ_one, K]

theorem k19_at (n : Fin 64) : @Eq EReal (k19 a b (ix2 g n)) ((K a b s br bi x y p q g).iv n) := by
  pointwise [k19, k0_pay19, Row.iv]
  simp only [k54_at a b s br bi x y p q g, zero_sub, Fin.sum_univ_one, K]

theorem k58_at (n : Fin 64) : @Eq EReal (k58 a b s (ix3 g 0 n)) ((K a b s br bi x y p q g).qr n) := by
  pointwise [k58, k0_pay20, Row.qr]
  simp only [k56_at a b s br bi x y p q g, k54_at a b s br bi x y p q g, zero_sub, Fin.sum_univ_one, K]

theorem k59_at (n : Fin 64) : @Eq EReal (k59 a b s (ix3 g 0 n)) ((K a b s br bi x y p q g).qi n) := by
  pointwise [k59, k0_pay21, Row.qi]
  simp only [k18_at a b s br bi x y p q g, k54_at a b s br bi x y p q g, zero_sub, Fin.sum_univ_one, K]

theorem k27_at (n : Fin 64) : @Eq EReal (k27 br bi p q (ix2 g n)) ((K a b s br bi x y p q g).gi n) := by
  pointwise [k27, k0_pay27, k0_pay24, k0_pay23, k0_pay22, Row.gi]
  simp only [k45_at, k46_at, zero_sub, Fin.sum_univ_one, K]

theorem k60_at (n : Fin 64) : @Eq EReal (k60 br bi p q (ix2 g n)) ((K a b s br bi x y p q g).gr n) := by
  pointwise [k60, k0_pay28, k0_pay24, k0_pay23, k0_pay22, Row.gr]
  simp only [k45_at, k46_at, zero_sub, Fin.sum_univ_one, K]

theorem k61_at (n : Fin 64) : @Eq EReal (k61 a b s br bi p q (ix2 g n)) ((K a b s br bi x y p q g).hi n) := by
  pointwise [k61, k0_pay29, Row.hi]
  simp only [k45_at, k46_at, k18_at a b s br bi x y p q g, k19_at a b s br bi x y p q g, k27_at a b s br bi x y p q g, zero_sub, Fin.sum_univ_one, K]

theorem k62_at (n : Fin 64) : @Eq EReal (k62 a b br bi p q (ix2 g n)) ((K a b s br bi x y p q g).wi n) := by
  pointwise [k62, k0_pay30, Row.wi]
  simp only [k45_at, k46_at, k54_at a b s br bi x y p q g, k27_at a b s br bi x y p q g, zero_sub, Fin.sum_univ_one, K]

theorem k32_at (n : Fin 64) : @Eq EReal (k32 a b s br bi p q (ix2 g n)) ((K a b s br bi x y p q g).re n * -(K a b s br bi x y p q g).wi n) := by
  pointwise [k32, k0_pay32, k0_pay31, k0_pay30, Row.wi]
  simp only [k45_at, k46_at, k54_at a b s br bi x y p q g, k55_at a b s br bi x y p q g, k27_at a b s br bi x y p q g, zero_sub, Fin.sum_univ_one, K]

theorem k63_at (n : Fin 64) : @Eq EReal (k63 a b br bi p q (ix2 g n)) (-(K a b s br bi x y p q g).wi n * (K a b s br bi x y p q g).b n) := by
  pointwise [k63, k0_pay33, k0_pay31, k0_pay30, Row.wi]
  simp only [k45_at, k46_at, k54_at a b s br bi x y p q g, k27_at a b s br bi x y p q g, zero_sub, Fin.sum_univ_one, K]

theorem k34_at (n : Fin 64) : @Eq EReal (k34 a b s br bi p q (ix2 g n)) ((K a b s br bi x y p q g).ha n) := by
  pointwise [k34, k0_pay34, Row.ha]
  simp only [k56_at a b s br bi x y p q g, k57_at a b s br bi x y p q g, k60_at a b s br bi x y p q g, k61_at a b s br bi x y p q g, zero_sub, Fin.sum_univ_one, K]

theorem k35_at (n : Fin 64) : @Eq EReal (k35 a b br bi p q (ix2 g n)) ((K a b s br bi x y p q g).wr n) := by
  pointwise [k35, k0_pay35, Row.wr]
  simp only [k54_at a b s br bi x y p q g, k60_at a b s br bi x y p q g, zero_sub, Fin.sum_univ_one, K]

theorem k36_at (n : Fin 64) : @Eq EReal (k36 a b br bi y p q (ix2 g n)) ((K a b s br bi x y p q g).fr n) := by
  pointwise [k36, k0_pay36, Row.fr]
  simp only [k54_at a b s br bi x y p q g, k60_at a b s br bi x y p q g, k62_at a b s br bi x y p q g, k35_at a b s br bi x y p q g, zero_sub, Fin.sum_univ_one, K]

theorem k37_at (n : Fin 64) : @Eq EReal (k37 a b br bi x p q (ix2 g n)) ((K a b s br bi x y p q g).fi n) := by
  pointwise [k37, k0_pay37, Row.fi]
  simp only [k54_at a b s br bi x y p q g, k60_at a b s br bi x y p q g, k63_at a b s br bi x y p q g, k35_at a b s br bi x y p q g, zero_sub, Fin.sum_univ_one, K]

theorem k38_at (n : Fin 64) : @Eq EReal (k38 a b s br bi p q (ix2 g n)) ((K a b s br bi x y p q g).la n) := by
  pointwise [k38, k0_pay38, Row.la]
  simp only [k53_at a b s br bi x y p q g, k54_at a b s br bi x y p q g, k55_at a b s br bi x y p q g, k56_at a b s br bi x y p q g, k57_at a b s br bi x y p q g, k60_at a b s br bi x y p q g, k61_at a b s br bi x y p q g, k62_at a b s br bi x y p q g, k34_at a b s br bi x y p q g, k35_at a b s br bi x y p q g, zero_sub, Fin.sum_univ_one, K]

theorem k39_at (n : Fin 64) : @Eq EReal (k39 a b s br bi y p q (ix2 g n)) ((K a b s br bi x y p q g).ta n) := by
  pointwise [k39, k0_pay39, Row.ta]
  simp only [k48_at a b s br bi x y p q g, k52_at a b s br bi x y p q g, k54_at a b s br bi x y p q g, k60_at a b s br bi x y p q g, k62_at a b s br bi x y p q g, k36_at a b s br bi x y p q g, zero_sub, Fin.sum_univ_one, K]

theorem k40_at (n : Fin 64) : @Eq EReal (k40 a b s br bi x p q (ix2 g n)) ((K a b s br bi x y p q g).tb n) := by
  pointwise [k40, k0_pay40, Row.tb]
  simp only [k48_at a b s br bi x y p q g, k50_at a b s br bi x y p q g, k54_at a b s br bi x y p q g, k60_at a b s br bi x y p q g, k63_at a b s br bi x y p q g, k37_at a b s br bi x y p q g, zero_sub, Fin.sum_univ_one, K]

theorem k42_at (n : Fin 64) : @Eq EReal (k42 a b s br bi x y p q (ix2 g n)) ((K a b s br bi x y p q g).tc n) := by
  pointwise [k42, k0_pay42, Row.tc]
  simp only [k48_at a b s br bi x y p q g, k49_at a b s br bi x y p q g, k51_at a b s br bi x y p q g, k54_at a b s br bi x y p q g, k60_at a b s br bi x y p q g, k62_at a b s br bi x y p q g, k63_at a b s br bi x y p q g, k36_at a b s br bi x y p q g, k37_at a b s br bi x y p q g, zero_sub, Fin.sum_univ_one, K]

theorem k44_at (n : Fin 64) : @Eq EReal (k44 a b s br bi x y p q (ix2 g n)) ((K a b s br bi x y p q g).tc n * (K a b s br bi x y p q g).dt) := by
  pointwise [k44, k0_pay44]
  simp only [k47_at a b s br bi x y p q g, k48_at a b s br bi x y p q g, k49_at a b s br bi x y p q g, k51_at a b s br bi x y p q g, k54_at a b s br bi x y p q g, k60_at a b s br bi x y p q g, k62_at a b s br bi x y p q g, k63_at a b s br bi x y p q g, k42_at a b s br bi x y p q g, zero_sub, Fin.sum_univ_one, K]

theorem k1_at (n : Fin 64) : @Eq EReal (k1 a b s br bi x y p q (ix2 g n)) ((K a b s br bi x y p q g).dlr n) := by
  pointwise [k1, k0_pay1, Row.dlr]
  simp only [k38_at a b s br bi x y p q g, k44_at a b s br bi x y p q g, zero_sub, Fin.sum_univ_one, K]

theorem k41_at (n : Fin 64) : @Eq EReal (k41 a b s br bi x y p q (ix2 g n)) ((K a b s br bi x y p q g).dli n) := by
  pointwise [k41, k0_pay41, Row.dli]
  simp only [k47_at a b s br bi x y p q g, k48_at a b s br bi x y p q g, k50_at a b s br bi x y p q g, k52_at a b s br bi x y p q g, k53_at a b s br bi x y p q g, k54_at a b s br bi x y p q g, k56_at a b s br bi x y p q g, k57_at a b s br bi x y p q g, k60_at a b s br bi x y p q g, k61_at a b s br bi x y p q g, k62_at a b s br bi x y p q g, k32_at a b s br bi x y p q g, k63_at a b s br bi x y p q g, k34_at a b s br bi x y p q g, k35_at a b s br bi x y p q g, k39_at a b s br bi x y p q g, k40_at a b s br bi x y p q g, zero_sub, Fin.sum_univ_one, K]

theorem k43_at  : @Eq EReal (k43 a b s br bi x y p q (ix2 g 0)) ((∑ n, (K a b s br bi x y p q g).b n * (K a b s br bi x y p q g).ta n) + (∑ n, (K a b s br bi x y p q g).b n * (K a b s br bi x y p q g).tb n) + ∑ n, (K a b s br bi x y p q g).a n * (K a b s br bi x y p q g).tc n) := by
  pointwise [k43, k0_pay43]
  simp only [k48_at a b s br bi x y p q g, k49_at a b s br bi x y p q g, k50_at a b s br bi x y p q g, k51_at a b s br bi x y p q g, k52_at a b s br bi x y p q g, k54_at a b s br bi x y p q g, k60_at a b s br bi x y p q g, k62_at a b s br bi x y p q g, k63_at a b s br bi x y p q g, k39_at a b s br bi x y p q g, k40_at a b s br bi x y p q g, k42_at a b s br bi x y p q g, zero_sub, Fin.sum_univ_one, K]

theorem k2_at  : @Eq EReal (k2 a b s br bi x y p q (ix2 g 0)) ((K a b s br bi x y p q g).dls ) := by
  pointwise [k2, k0_pay2, Row.dls]
  simp only [k47_at a b s br bi x y p q g, k43_at a b s br bi x y p q g, zero_sub, Fin.sum_univ_one, K]

theorem k26_at (j : Fin 16) (n : Fin 64) : @Eq EReal (k26 a b s p q (ix3 g j n)) ((K a b s br bi x y p q g).dbr j n) := by
  pointwise [k26, k0_pay26, k0_pay24, k0_pay23, k0_pay22, Row.dbr]
  simp only [k58_at a b s br bi x y p q g, k59_at a b s br bi x y p q g, zero_sub, Fin.sum_univ_one, K]

theorem k25_at (j : Fin 16) (n : Fin 64) : @Eq EReal (k25 a b s p q (ix3 g j n)) ((K a b s br bi x y p q g).dbi j n) := by
  pointwise [k25, k0_pay25, k0_pay24, k0_pay23, k0_pay22, Row.dbi]
  simp only [k58_at a b s br bi x y p q g, k59_at a b s br bi x y p q g, zero_sub, Fin.sum_univ_one, K]

end Kernel

/-! ## The reference's terms -/

section Reference
open Cert.S5ParamRefIdeal Cert.S5ParamRefIdeal.Gen Cert.S5ParamRefIdeal.Value

def DT (a2 : FVec Ideal S32 .f32) : FVec Ideal S32x1 .f32 :=
  broadcastInDim S32x1 ![0] bcast_S32_S32x1_0 (Host.exp a2)

def EE (a0 : FVec Ideal S32x64 .f32) (dt : FVec Ideal S32x1 .f32) : FVec Ideal S32x64 .f32 :=
  Host.exp (mulf a0 (broadcastInDim S32x64 ![0, 1] bcast_S32x1_S32x64_0_1 dt))

def CS (a1 : FVec Ideal S32x64 .f32) (dt : FVec Ideal S32x1 .f32) : FVec Ideal S32x64 .f32 :=
  Host.cos (mulf a1 (broadcastInDim S32x64 ![0, 1] bcast_S32x1_S32x64_0_1 dt))

def SN (a1 : FVec Ideal S32x64 .f32) (dt : FVec Ideal S32x1 .f32) : FVec Ideal S32x64 .f32 :=
  Host.sin (mulf a1 (broadcastInDim S32x64 ![0, 1] bcast_S32x1_S32x64_0_1 dt))

def SNB (a1 : FVec Ideal S32x64 .f32) (dt : FVec Ideal S32x1 .f32) : FVec Ideal S32x64 .f32 :=
  Host.sin (mulf a1 (broadcastInDim S32x64 ![0, 1] bcast_S32x1_S32x64_0_1 dt))

def CSB (a1 : FVec Ideal S32x64 .f32) (dt : FVec Ideal S32x1 .f32) : FVec Ideal S32x64 .f32 :=
  Host.cos (mulf a1 (broadcastInDim S32x64 ![0, 1] bcast_S32x1_S32x64_0_1 dt))

def IM (ee : FVec Ideal S32x64 .f32) (snb : FVec Ideal S32x64 .f32) : FVec Ideal S32x64 .f32 :=
  mulf ee snb

def DEN (a0 : FVec Ideal S32x64 .f32) (a1 : FVec Ideal S32x64 .f32) : FVec Ideal S32x64 .f32 :=
  addf (mulf a0 a0) (mulf a1 a1)

def RE (ee : FVec Ideal S32x64 .f32) (cs : FVec Ideal S32x64 .f32) : FVec Ideal S32x64 .f32 :=
  subf (mulf ee cs) (broadcastInDim S32x64 ![] bcast_S_S32x64 (constant S_ .f32 0x3F800000#32))

def NR (a0 : FVec Ideal S32x64 .f32) (a1 : FVec Ideal S32x64 .f32) (im : FVec Ideal S32x64 .f32) (re : FVec Ideal S32x64 .f32) : FVec Ideal S32x64 .f32 :=
  addf (mulf re a0) (mulf im a1)

def QR (den : FVec Ideal S32x64 .f32) (nr : FVec Ideal S32x64 .f32) : FVec Ideal S32x64 .f32 :=
  Host.divf nr den

def IV (den : FVec Ideal S32x64 .f32) : FVec Ideal S32x64 .f32 :=
  Host.divf (broadcastInDim S32x64 ![] bcast_S_S32x64 (constant S_ .f32 0x3F800000#32)) (mulf den den)

def REB (ee : FVec Ideal S32x64 .f32) (cs : FVec Ideal S32x64 .f32) : FVec Ideal S32x64 .f32 :=
  subf (mulf ee cs) (broadcastInDim S32x64 ![] bcast_S_S32x64 (constant S_ .f32 0x3F800000#32))

def NI (a0 : FVec Ideal S32x64 .f32) (a1 : FVec Ideal S32x64 .f32) (im : FVec Ideal S32x64 .f32) (reb : FVec Ideal S32x64 .f32) : FVec Ideal S32x64 .f32 :=
  subf (mulf im a0) (mulf reb a1)

def QI (den : FVec Ideal S32x64 .f32) (ni : FVec Ideal S32x64 .f32) : FVec Ideal S32x64 .f32 :=
  Host.divf ni den

def IVB (den : FVec Ideal S32x64 .f32) : FVec Ideal S32x64 .f32 :=
  Host.divf (broadcastInDim S32x64 ![] bcast_S_S32x64 (constant S_ .f32 0x3F800000#32)) (mulf den den)

def GI (a3 : FVec Ideal S32x64x16 .f32) (a4 : FVec Ideal S32x64x16 .f32) (a7 : FVec Ideal S32x64x16 .f32) (a8 : FVec Ideal S32x64x16 .f32) : FVec Ideal S32x64 .f32 :=
  Host.reduceAdd (addf (shapeCast _ (Host.reduceAdd (mulf (shapeCast _ a8 shapeCasts_S32x64x16_S32x64x16) a3) (constant S_ .f32 0x00000000#32) reducesTo_S32x64x16_S32x64_d2 h_S_) shapeCasts_S32x64_S32x64x1) (shapeCast _ (Host.reduceAdd (mulf (Host.negf a7) a4) (constant S_ .f32 0x00000000#32) reducesTo_S32x64x16_S32x64_d2 h_S_) shapeCasts_S32x64_S32x64x1)) (constant S_ .f32 0x00000000#32) reducesTo_S32x64x1_S32x64_d2 h_S_

def GR (a3 : FVec Ideal S32x64x16 .f32) (a4 : FVec Ideal S32x64x16 .f32) (a7 : FVec Ideal S32x64x16 .f32) (a8 : FVec Ideal S32x64x16 .f32) : FVec Ideal S32x64 .f32 :=
  Host.reduceAdd (addf (shapeCast _ (Host.reduceAdd (mulf (shapeCast _ a8 shapeCasts_S32x64x16_S32x64x16) a4) (constant S_ .f32 0x00000000#32) reducesTo_S32x64x16_S32x64_d2 h_S_) shapeCasts_S32x64_S32x64x1) (shapeCast _ (Host.reduceAdd (mulf (shapeCast _ a7 shapeCasts_S32x64x16_S32x64x16) a3) (constant S_ .f32 0x00000000#32) reducesTo_S32x64x16_S32x64_d2 h_S_) shapeCasts_S32x64_S32x64x1)) (constant S_ .f32 0x00000000#32) reducesTo_S32x64x1_S32x64_d2 h_S_

def HI (ni : FVec Ideal S32x64 .f32) (ivb : FVec Ideal S32x64 .f32) (gi : FVec Ideal S32x64 .f32) : FVec Ideal S32x64 .f32 :=
  Host.negf (mulf (mulf gi ivb) ni)

def WI (den : FVec Ideal S32x64 .f32) (gi : FVec Ideal S32x64 .f32) : FVec Ideal S32x64 .f32 :=
  Host.divf gi den

def HA (nr : FVec Ideal S32x64 .f32) (iv : FVec Ideal S32x64 .f32) (gr : FVec Ideal S32x64 .f32) (hi : FVec Ideal S32x64 .f32) : FVec Ideal S32x64 .f32 :=
  addf hi (Host.negf (mulf (mulf gr iv) nr))

def WR (den : FVec Ideal S32x64 .f32) (gr : FVec Ideal S32x64 .f32) : FVec Ideal S32x64 .f32 :=
  Host.divf gr den

def FR (a0 : FVec Ideal S32x64 .f32) (a1 : FVec Ideal S32x64 .f32) (a6 : FVec Ideal S32x64 .f32) (wi : FVec Ideal S32x64 .f32) (wr : FVec Ideal S32x64 .f32) : FVec Ideal S32x64 .f32 :=
  addf (addf a6 (mulf wi a0)) (mulf wr a1)

def FI (a0 : FVec Ideal S32x64 .f32) (a1 : FVec Ideal S32x64 .f32) (a5 : FVec Ideal S32x64 .f32) (wi : FVec Ideal S32x64 .f32) (wr : FVec Ideal S32x64 .f32) : FVec Ideal S32x64 .f32 :=
  addf (addf a5 (mulf (Host.negf wi) a1)) (mulf wr a0)

def LA (a0 : FVec Ideal S32x64 .f32) (im : FVec Ideal S32x64 .f32) (re : FVec Ideal S32x64 .f32) (wi : FVec Ideal S32x64 .f32) (ha : FVec Ideal S32x64 .f32) (wr : FVec Ideal S32x64 .f32) : FVec Ideal S32x64 .f32 :=
  addf (addf (addf (mulf im wi) (mulf re wr)) (mulf a0 ha)) (mulf ha a0)

def TA (ee : FVec Ideal S32x64 .f32) (csb : FVec Ideal S32x64 .f32) (fr : FVec Ideal S32x64 .f32) : FVec Ideal S32x64 .f32 :=
  mulf (mulf ee fr) csb

def TB (ee : FVec Ideal S32x64 .f32) (sn : FVec Ideal S32x64 .f32) (fi : FVec Ideal S32x64 .f32) : FVec Ideal S32x64 .f32 :=
  mulf (Host.negf (mulf ee fi)) sn

def DLI (a1 : FVec Ideal S32x64 .f32) (dt : FVec Ideal S32x1 .f32) (im : FVec Ideal S32x64 .f32) (reb : FVec Ideal S32x64 .f32) (wi : FVec Ideal S32x64 .f32) (ha : FVec Ideal S32x64 .f32) (wr : FVec Ideal S32x64 .f32) (ta : FVec Ideal S32x64 .f32) (tb : FVec Ideal S32x64 .f32) : FVec Ideal S32x64 .f32 :=
  addf (addf (addf (addf (addf (mulf reb (Host.negf wi)) (mulf im wr)) (mulf a1 ha)) (mulf ha a1)) (mulf ta (broadcastInDim S32x64 ![0, 1] bcast_S32x1_S32x64_0_1 dt))) (mulf tb (broadcastInDim S32x64 ![0, 1] bcast_S32x1_S32x64_0_1 dt))

def TC (ee : FVec Ideal S32x64 .f32) (cs : FVec Ideal S32x64 .f32) (snb : FVec Ideal S32x64 .f32) (fr : FVec Ideal S32x64 .f32) (fi : FVec Ideal S32x64 .f32) : FVec Ideal S32x64 .f32 :=
  mulf (addf (mulf fr snb) (mulf fi cs)) ee

def DLR (dt : FVec Ideal S32x1 .f32) (la : FVec Ideal S32x64 .f32) (tc : FVec Ideal S32x64 .f32) : FVec Ideal S32x64 .f32 :=
  addf la (mulf tc (broadcastInDim S32x64 ![0, 1] bcast_S32x1_S32x64_0_1 dt))

def DLS (a0 : FVec Ideal S32x64 .f32) (a1 : FVec Ideal S32x64 .f32) (a2 : FVec Ideal S32 .f32) (ta : FVec Ideal S32x64 .f32) (tb : FVec Ideal S32x64 .f32) (tc : FVec Ideal S32x64 .f32) : FVec Ideal S32x1 .f32 :=
  shapeCast _ (mulf (Host.reduceAdd (addf (addf (shapeCast _ (Host.reduceAdd (mulf a1 ta) (constant S_ .f32 0x00000000#32) reducesTo_S32x64_S32_d1 h_S_) shapeCasts_S32_S32x1) (shapeCast _ (Host.reduceAdd (mulf a1 tb) (constant S_ .f32 0x00000000#32) reducesTo_S32x64_S32_d1 h_S_) shapeCasts_S32_S32x1)) (shapeCast _ (Host.reduceAdd (mulf a0 tc) (constant S_ .f32 0x00000000#32) reducesTo_S32x64_S32_d1 h_S_) shapeCasts_S32_S32x1)) (constant S_ .f32 0x00000000#32) reducesTo_S32x1_S32_d1 h_S_) (Host.exp a2)) shapeCasts_S32_S32x1

def DBR (a7 : FVec Ideal S32x64x16 .f32) (a8 : FVec Ideal S32x64x16 .f32) (qr : FVec Ideal S32x64 .f32) (qi : FVec Ideal S32x64 .f32) : FVec Ideal S32x16x64 .f32 :=
  transpose S32x16x64 [0, 2, 1] (addf (mulf (broadcastInDim S32x64x16 ![0, 1, 2] bcast_S32x64x1_S32x64x16_0_1_2 (broadcastInDim S32x64x1 ![0, 1] bcast_S32x64_S32x64x1_0_1 qi)) (shapeCast _ a8 shapeCasts_S32x64x16_S32x64x16)) (mulf (broadcastInDim S32x64x16 ![0, 1, 2] bcast_S32x64x1_S32x64x16_0_1_2 (broadcastInDim S32x64x1 ![0, 1] bcast_S32x64_S32x64x1_0_1 qr)) (shapeCast _ a7 shapeCasts_S32x64x16_S32x64x16))) transposes_S32x64x16_S32x16x64_0_2_1

def DBI (a7 : FVec Ideal S32x64x16 .f32) (a8 : FVec Ideal S32x64x16 .f32) (qr : FVec Ideal S32x64 .f32) (qi : FVec Ideal S32x64 .f32) : FVec Ideal S32x16x64 .f32 :=
  transpose S32x16x64 [0, 2, 1] (addf (mulf (broadcastInDim S32x64x16 ![0, 1, 2] bcast_S32x64x1_S32x64x16_0_1_2 (broadcastInDim S32x64x1 ![0, 1] bcast_S32x64_S32x64x1_0_1 qr)) (shapeCast _ a8 shapeCasts_S32x64x16_S32x64x16)) (mulf (broadcastInDim S32x64x16 ![0, 1, 2] bcast_S32x64x1_S32x64x16_0_1_2 (broadcastInDim S32x64x1 ![0, 1] bcast_S32x64_S32x64x1_0_1 qi)) (Host.negf a7))) transposes_S32x64x16_S32x16x64_0_2_1

variable (a0 : FVec Ideal S32x64 .f32) (a1 : FVec Ideal S32x64 .f32) (a2 : FVec Ideal S32 .f32) (a3 : FVec Ideal S32x64x16 .f32) (a4 : FVec Ideal S32x64x16 .f32) (a5 : FVec Ideal S32x64 .f32) (a6 : FVec Ideal S32x64 .f32) (a7 : FVec Ideal S32x64x16 .f32) (a8 : FVec Ideal S32x64x16 .f32)

/-- Group `g` of the reference's arrays. -/
def T (g : Fin 32) : Row :=
  ⟨fun n => a0 (ix2 g n), fun n => a1 (ix2 g n), a2 (ix1 g), fun j n => a3 (ix3 g n j), fun j n => a4 (ix3 g n j),
    fun n => a5 (ix2 g n), fun n => a6 (ix2 g n), fun j n => a7 (ix3 g n j), fun j n => a8 (ix3 g n j)⟩

/-! The values over the arguments. -/

def RDT := DT a2
def REE := EE a0 (RDT a2)
def RCS := CS a1 (RDT a2)
def RSN := SN a1 (RDT a2)
def RSNB := SNB a1 (RDT a2)
def RCSB := CSB a1 (RDT a2)
def RIM := IM (REE a0 a2) (RSNB a1 a2)
def RDEN := DEN a0 a1
def RRE := RE (REE a0 a2) (RCS a1 a2)
def RNR := NR a0 a1 (RIM a0 a1 a2) (RRE a0 a1 a2)
def RQR := QR (RDEN a0 a1) (RNR a0 a1 a2)
def RIV := IV (RDEN a0 a1)
def RREB := REB (REE a0 a2) (RCS a1 a2)
def RNI := NI a0 a1 (RIM a0 a1 a2) (RREB a0 a1 a2)
def RQI := QI (RDEN a0 a1) (RNI a0 a1 a2)
def RIVB := IVB (RDEN a0 a1)
def RGI := GI a3 a4 a7 a8
def RGR := GR a3 a4 a7 a8
def RHI := HI (RNI a0 a1 a2) (RIVB a0 a1) (RGI a3 a4 a7 a8)
def RWI := WI (RDEN a0 a1) (RGI a3 a4 a7 a8)
def RHA := HA (RNR a0 a1 a2) (RIV a0 a1) (RGR a3 a4 a7 a8) (RHI a0 a1 a2 a3 a4 a7 a8)
def RWR := WR (RDEN a0 a1) (RGR a3 a4 a7 a8)
def RFR := FR a0 a1 a6 (RWI a0 a1 a3 a4 a7 a8) (RWR a0 a1 a3 a4 a7 a8)
def RFI := FI a0 a1 a5 (RWI a0 a1 a3 a4 a7 a8) (RWR a0 a1 a3 a4 a7 a8)
def RLA := LA a0 (RIM a0 a1 a2) (RRE a0 a1 a2) (RWI a0 a1 a3 a4 a7 a8) (RHA a0 a1 a2 a3 a4 a7 a8) (RWR a0 a1 a3 a4 a7 a8)
def RTA := TA (REE a0 a2) (RCSB a1 a2) (RFR a0 a1 a3 a4 a6 a7 a8)
def RTB := TB (REE a0 a2) (RSN a1 a2) (RFI a0 a1 a3 a4 a5 a7 a8)
def RDLI := DLI a1 (RDT a2) (RIM a0 a1 a2) (RREB a0 a1 a2) (RWI a0 a1 a3 a4 a7 a8) (RHA a0 a1 a2 a3 a4 a7 a8) (RWR a0 a1 a3 a4 a7 a8) (RTA a0 a1 a2 a3 a4 a6 a7 a8) (RTB a0 a1 a2 a3 a4 a5 a7 a8)
def RTC := TC (REE a0 a2) (RCS a1 a2) (RSNB a1 a2) (RFR a0 a1 a3 a4 a6 a7 a8) (RFI a0 a1 a3 a4 a5 a7 a8)
def RDLR := DLR (RDT a2) (RLA a0 a1 a2 a3 a4 a7 a8) (RTC a0 a1 a2 a3 a4 a5 a6 a7 a8)
def RDLS := DLS a0 a1 a2 (RTA a0 a1 a2 a3 a4 a6 a7 a8) (RTB a0 a1 a2 a3 a4 a5 a7 a8) (RTC a0 a1 a2 a3 a4 a5 a6 a7 a8)
def RDBR := DBR a7 a8 (RQR a0 a1 a2) (RQI a0 a1 a2)
def RDBI := DBI a7 a8 (RQR a0 a1 a2) (RQI a0 a1 a2)

variable (g : Fin 32)

theorem RDT_at (k : Fin 1) : @Eq EReal (RDT a2 (ix2 g k)) ((T a0 a1 a2 a3 a4 a5 a6 a7 a8 g).dt) := by
  pointwise [RDT, DT, Row.dt]
  simp only [Fin.sum_univ_one, T]

theorem REE_at (n : Fin 64) : @Eq EReal (REE a0 a2 (ix2 g n)) ((T a0 a1 a2 a3 a4 a5 a6 a7 a8 g).e n) := by
  pointwise [REE, EE, Row.e]
  simp only [RDT_at a0 a1 a2 a3 a4 a5 a6 a7 a8, Fin.sum_univ_one, T]

theorem RCS_at (n : Fin 64) : @Eq EReal (RCS a1 a2 (ix2 g n)) ((T a0 a1 a2 a3 a4 a5 a6 a7 a8 g).cs n) := by
  pointwise [RCS, CS, Row.cs]
  simp only [RDT_at a0 a1 a2 a3 a4 a5 a6 a7 a8, Fin.sum_univ_one, T]

theorem RSN_at (n : Fin 64) : @Eq EReal (RSN a1 a2 (ix2 g n)) ((T a0 a1 a2 a3 a4 a5 a6 a7 a8 g).sn n) := by
  pointwise [RSN, SN, Row.sn]
  simp only [RDT_at a0 a1 a2 a3 a4 a5 a6 a7 a8, Fin.sum_univ_one, T]

theorem RSNB_at (n : Fin 64) : @Eq EReal (RSNB a1 a2 (ix2 g n)) ((T a0 a1 a2 a3 a4 a5 a6 a7 a8 g).sn n) := by
  pointwise [RSNB, SNB, Row.sn]
  simp only [RDT_at a0 a1 a2 a3 a4 a5 a6 a7 a8, Fin.sum_univ_one, T]

theorem RCSB_at (n : Fin 64) : @Eq EReal (RCSB a1 a2 (ix2 g n)) ((T a0 a1 a2 a3 a4 a5 a6 a7 a8 g).cs n) := by
  pointwise [RCSB, CSB, Row.cs]
  simp only [RDT_at a0 a1 a2 a3 a4 a5 a6 a7 a8, Fin.sum_univ_one, T]

theorem RIM_at (n : Fin 64) : @Eq EReal (RIM a0 a1 a2 (ix2 g n)) ((T a0 a1 a2 a3 a4 a5 a6 a7 a8 g).im n) := by
  pointwise [RIM, IM, Row.im]
  simp only [REE_at a0 a1 a2 a3 a4 a5 a6 a7 a8, RSNB_at a0 a1 a2 a3 a4 a5 a6 a7 a8, Fin.sum_univ_one, T]

theorem RDEN_at (n : Fin 64) : @Eq EReal (RDEN a0 a1 (ix2 g n)) ((T a0 a1 a2 a3 a4 a5 a6 a7 a8 g).den n) := by
  pointwise [RDEN, DEN, Row.den]
  simp only [Fin.sum_univ_one, T]

theorem RRE_at (n : Fin 64) : @Eq EReal (RRE a0 a1 a2 (ix2 g n)) ((T a0 a1 a2 a3 a4 a5 a6 a7 a8 g).re n) := by
  pointwise [RRE, RE, Row.re]
  simp only [REE_at a0 a1 a2 a3 a4 a5 a6 a7 a8, RCS_at a0 a1 a2 a3 a4 a5 a6 a7 a8, Fin.sum_univ_one, T]

theorem RNR_at (n : Fin 64) : @Eq EReal (RNR a0 a1 a2 (ix2 g n)) ((T a0 a1 a2 a3 a4 a5 a6 a7 a8 g).nr n) := by
  pointwise [RNR, NR, Row.nr]
  simp only [RIM_at a0 a1 a2 a3 a4 a5 a6 a7 a8, RRE_at a0 a1 a2 a3 a4 a5 a6 a7 a8, Fin.sum_univ_one, T]

theorem RQR_at (n : Fin 64) : @Eq EReal (RQR a0 a1 a2 (ix2 g n)) ((T a0 a1 a2 a3 a4 a5 a6 a7 a8 g).qr n) := by
  pointwise [RQR, QR, Row.qr]
  simp only [RDEN_at a0 a1 a2 a3 a4 a5 a6 a7 a8, RNR_at a0 a1 a2 a3 a4 a5 a6 a7 a8, Fin.sum_univ_one, T]

theorem RIV_at (n : Fin 64) : @Eq EReal (RIV a0 a1 (ix2 g n)) ((T a0 a1 a2 a3 a4 a5 a6 a7 a8 g).iv n) := by
  pointwise [RIV, IV, Row.iv]
  simp only [RDEN_at a0 a1 a2 a3 a4 a5 a6 a7 a8, Fin.sum_univ_one, T]

theorem RREB_at (n : Fin 64) : @Eq EReal (RREB a0 a1 a2 (ix2 g n)) ((T a0 a1 a2 a3 a4 a5 a6 a7 a8 g).re n) := by
  pointwise [RREB, REB, Row.re]
  simp only [REE_at a0 a1 a2 a3 a4 a5 a6 a7 a8, RCS_at a0 a1 a2 a3 a4 a5 a6 a7 a8, Fin.sum_univ_one, T]

theorem RNI_at (n : Fin 64) : @Eq EReal (RNI a0 a1 a2 (ix2 g n)) ((T a0 a1 a2 a3 a4 a5 a6 a7 a8 g).ni n) := by
  pointwise [RNI, NI, Row.ni]
  simp only [RIM_at a0 a1 a2 a3 a4 a5 a6 a7 a8, RREB_at a0 a1 a2 a3 a4 a5 a6 a7 a8, Fin.sum_univ_one, T]

theorem RQI_at (n : Fin 64) : @Eq EReal (RQI a0 a1 a2 (ix2 g n)) ((T a0 a1 a2 a3 a4 a5 a6 a7 a8 g).qi n) := by
  pointwise [RQI, QI, Row.qi]
  simp only [RDEN_at a0 a1 a2 a3 a4 a5 a6 a7 a8, RNI_at a0 a1 a2 a3 a4 a5 a6 a7 a8, Fin.sum_univ_one, T]

theorem RIVB_at (n : Fin 64) : @Eq EReal (RIVB a0 a1 (ix2 g n)) ((T a0 a1 a2 a3 a4 a5 a6 a7 a8 g).iv n) := by
  pointwise [RIVB, IVB, Row.iv]
  simp only [RDEN_at a0 a1 a2 a3 a4 a5 a6 a7 a8, Fin.sum_univ_one, T]

theorem RGI_at (n : Fin 64) : @Eq EReal (RGI a3 a4 a7 a8 (ix2 g n)) ((T a0 a1 a2 a3 a4 a5 a6 a7 a8 g).gi n) := by
  pointwise [RGI, GI, Row.gi]
  simp only [Fin.sum_univ_one, T]

theorem RGR_at (n : Fin 64) : @Eq EReal (RGR a3 a4 a7 a8 (ix2 g n)) ((T a0 a1 a2 a3 a4 a5 a6 a7 a8 g).gr n) := by
  pointwise [RGR, GR, Row.gr]
  simp only [Fin.sum_univ_one, T]

theorem RHI_at (n : Fin 64) : @Eq EReal (RHI a0 a1 a2 a3 a4 a7 a8 (ix2 g n)) ((T a0 a1 a2 a3 a4 a5 a6 a7 a8 g).hi n) := by
  pointwise [RHI, HI, Row.hi]
  simp only [RNI_at a0 a1 a2 a3 a4 a5 a6 a7 a8, RIVB_at a0 a1 a2 a3 a4 a5 a6 a7 a8, RGI_at a0 a1 a2 a3 a4 a5 a6 a7 a8, Fin.sum_univ_one, T]

theorem RWI_at (n : Fin 64) : @Eq EReal (RWI a0 a1 a3 a4 a7 a8 (ix2 g n)) ((T a0 a1 a2 a3 a4 a5 a6 a7 a8 g).wi n) := by
  pointwise [RWI, WI, Row.wi]
  simp only [RDEN_at a0 a1 a2 a3 a4 a5 a6 a7 a8, RGI_at a0 a1 a2 a3 a4 a5 a6 a7 a8, Fin.sum_univ_one, T]

theorem RHA_at (n : Fin 64) : @Eq EReal (RHA a0 a1 a2 a3 a4 a7 a8 (ix2 g n)) ((T a0 a1 a2 a3 a4 a5 a6 a7 a8 g).ha n) := by
  pointwise [RHA, HA, Row.ha]
  simp only [RNR_at a0 a1 a2 a3 a4 a5 a6 a7 a8, RIV_at a0 a1 a2 a3 a4 a5 a6 a7 a8, RGR_at a0 a1 a2 a3 a4 a5 a6 a7 a8, RHI_at a0 a1 a2 a3 a4 a5 a6 a7 a8, Fin.sum_univ_one, T]

theorem RWR_at (n : Fin 64) : @Eq EReal (RWR a0 a1 a3 a4 a7 a8 (ix2 g n)) ((T a0 a1 a2 a3 a4 a5 a6 a7 a8 g).wr n) := by
  pointwise [RWR, WR, Row.wr]
  simp only [RDEN_at a0 a1 a2 a3 a4 a5 a6 a7 a8, RGR_at a0 a1 a2 a3 a4 a5 a6 a7 a8, Fin.sum_univ_one, T]

theorem RFR_at (n : Fin 64) : @Eq EReal (RFR a0 a1 a3 a4 a6 a7 a8 (ix2 g n)) ((T a0 a1 a2 a3 a4 a5 a6 a7 a8 g).fr n) := by
  pointwise [RFR, FR, Row.fr]
  simp only [RWI_at a0 a1 a2 a3 a4 a5 a6 a7 a8, RWR_at a0 a1 a2 a3 a4 a5 a6 a7 a8, Fin.sum_univ_one, T]

theorem RFI_at (n : Fin 64) : @Eq EReal (RFI a0 a1 a3 a4 a5 a7 a8 (ix2 g n)) ((T a0 a1 a2 a3 a4 a5 a6 a7 a8 g).fi n) := by
  pointwise [RFI, FI, Row.fi]
  simp only [RWI_at a0 a1 a2 a3 a4 a5 a6 a7 a8, RWR_at a0 a1 a2 a3 a4 a5 a6 a7 a8, Fin.sum_univ_one, T]

theorem RLA_at (n : Fin 64) : @Eq EReal (RLA a0 a1 a2 a3 a4 a7 a8 (ix2 g n)) ((T a0 a1 a2 a3 a4 a5 a6 a7 a8 g).la n) := by
  pointwise [RLA, LA, Row.la]
  simp only [RIM_at a0 a1 a2 a3 a4 a5 a6 a7 a8, RRE_at a0 a1 a2 a3 a4 a5 a6 a7 a8, RWI_at a0 a1 a2 a3 a4 a5 a6 a7 a8, RHA_at a0 a1 a2 a3 a4 a5 a6 a7 a8, RWR_at a0 a1 a2 a3 a4 a5 a6 a7 a8, Fin.sum_univ_one, T]

theorem RTA_at (n : Fin 64) : @Eq EReal (RTA a0 a1 a2 a3 a4 a6 a7 a8 (ix2 g n)) ((T a0 a1 a2 a3 a4 a5 a6 a7 a8 g).ta n) := by
  pointwise [RTA, TA, Row.ta]
  simp only [REE_at a0 a1 a2 a3 a4 a5 a6 a7 a8, RCSB_at a0 a1 a2 a3 a4 a5 a6 a7 a8, RFR_at a0 a1 a2 a3 a4 a5 a6 a7 a8, Fin.sum_univ_one, T]

theorem RTB_at (n : Fin 64) : @Eq EReal (RTB a0 a1 a2 a3 a4 a5 a7 a8 (ix2 g n)) ((T a0 a1 a2 a3 a4 a5 a6 a7 a8 g).tb n) := by
  pointwise [RTB, TB, Row.tb]
  simp only [REE_at a0 a1 a2 a3 a4 a5 a6 a7 a8, RSN_at a0 a1 a2 a3 a4 a5 a6 a7 a8, RFI_at a0 a1 a2 a3 a4 a5 a6 a7 a8, Fin.sum_univ_one, T]

theorem RDLI_at (n : Fin 64) : @Eq EReal (RDLI a0 a1 a2 a3 a4 a5 a6 a7 a8 (ix2 g n)) ((T a0 a1 a2 a3 a4 a5 a6 a7 a8 g).dli n) := by
  pointwise [RDLI, DLI, Row.dli]
  simp only [RDT_at a0 a1 a2 a3 a4 a5 a6 a7 a8, RIM_at a0 a1 a2 a3 a4 a5 a6 a7 a8, RREB_at a0 a1 a2 a3 a4 a5 a6 a7 a8, RWI_at a0 a1 a2 a3 a4 a5 a6 a7 a8, RHA_at a0 a1 a2 a3 a4 a5 a6 a7 a8, RWR_at a0 a1 a2 a3 a4 a5 a6 a7 a8, RTA_at a0 a1 a2 a3 a4 a5 a6 a7 a8, RTB_at a0 a1 a2 a3 a4 a5 a6 a7 a8, Fin.sum_univ_one, T]

theorem RTC_at (n : Fin 64) : @Eq EReal (RTC a0 a1 a2 a3 a4 a5 a6 a7 a8 (ix2 g n)) ((T a0 a1 a2 a3 a4 a5 a6 a7 a8 g).tc n) := by
  pointwise [RTC, TC, Row.tc]
  simp only [REE_at a0 a1 a2 a3 a4 a5 a6 a7 a8, RCS_at a0 a1 a2 a3 a4 a5 a6 a7 a8, RSNB_at a0 a1 a2 a3 a4 a5 a6 a7 a8, RFR_at a0 a1 a2 a3 a4 a5 a6 a7 a8, RFI_at a0 a1 a2 a3 a4 a5 a6 a7 a8, Fin.sum_univ_one, T]

theorem RDLR_at (n : Fin 64) : @Eq EReal (RDLR a0 a1 a2 a3 a4 a5 a6 a7 a8 (ix2 g n)) ((T a0 a1 a2 a3 a4 a5 a6 a7 a8 g).dlr n) := by
  pointwise [RDLR, DLR, Row.dlr]
  simp only [RDT_at a0 a1 a2 a3 a4 a5 a6 a7 a8, RLA_at a0 a1 a2 a3 a4 a5 a6 a7 a8, RTC_at a0 a1 a2 a3 a4 a5 a6 a7 a8, Fin.sum_univ_one, T]

theorem RDLS_at  : @Eq EReal (RDLS a0 a1 a2 a3 a4 a5 a6 a7 a8 (ix2 g 0)) ((T a0 a1 a2 a3 a4 a5 a6 a7 a8 g).dls) := by
  pointwise [RDLS, DLS, Row.dls]
  simp only [RTA_at a0 a1 a2 a3 a4 a5 a6 a7 a8, RTB_at a0 a1 a2 a3 a4 a5 a6 a7 a8, RTC_at a0 a1 a2 a3 a4 a5 a6 a7 a8, Row.dt, Fin.sum_univ_one, T]

theorem RDBR_at (j : Fin 16) (n : Fin 64) : @Eq EReal (RDBR a0 a1 a2 a7 a8 (ix3 g j n)) ((T a0 a1 a2 a3 a4 a5 a6 a7 a8 g).dbr j n) := by
  pointwise [RDBR, DBR, Row.dbr]
  simp only [RQR_at a0 a1 a2 a3 a4 a5 a6 a7 a8, RQI_at a0 a1 a2 a3 a4 a5 a6 a7 a8, Fin.sum_univ_one, T]

theorem RDBI_at (j : Fin 16) (n : Fin 64) : @Eq EReal (RDBI a0 a1 a2 a7 a8 (ix3 g j n)) ((T a0 a1 a2 a3 a4 a5 a6 a7 a8 g).dbi j n) := by
  pointwise [RDBI, DBI, Row.dbi]
  simp only [RQR_at a0 a1 a2 a3 a4 a5 a6 a7 a8, RQI_at a0 a1 a2 a3 a4 a5 a6 a7 a8, Fin.sum_univ_one, T]

section Results
variable (m' : (ℓ : Loc nD τ sig) → Buf (Elt Ideal) ℓ) (c : Dev nD)

/-! The reference's first three results are the terms above, of its arguments. -/

theorem rLR (h0 : m' ((c.tc : Thread nD τ).loc main_arg0) = a0) (h1 : m' ((c.tc : Thread nD τ).loc main_arg1) = a1) (h2 : m' ((c.tc : Thread nD τ).loc main_arg2) = a2) (h3 : m' ((c.tc : Thread nD τ).loc main_arg3) = a3) (h4 : m' ((c.tc : Thread nD τ).loc main_arg4) = a4) (h5 : m' ((c.tc : Thread nD τ).loc main_arg5) = a5) (h6 : m' ((c.tc : Thread nD τ).loc main_arg6) = a6) (h7 : m' ((c.tc : Thread nD τ).loc main_arg7) = a7) (h8 : m' ((c.tc : Thread nD τ).loc main_arg8) = a8) :
    res_main_v138 m' c = RDLR a0 a1 a2 a3 a4 a5 a6 a7 a8 := by
  subst h0 h1 h2 h3 h4 h5 h6 h7 h8; rfl

theorem rLI (h0 : m' ((c.tc : Thread nD τ).loc main_arg0) = a0) (h1 : m' ((c.tc : Thread nD τ).loc main_arg1) = a1) (h2 : m' ((c.tc : Thread nD τ).loc main_arg2) = a2) (h3 : m' ((c.tc : Thread nD τ).loc main_arg3) = a3) (h4 : m' ((c.tc : Thread nD τ).loc main_arg4) = a4) (h5 : m' ((c.tc : Thread nD τ).loc main_arg5) = a5) (h6 : m' ((c.tc : Thread nD τ).loc main_arg6) = a6) (h7 : m' ((c.tc : Thread nD τ).loc main_arg7) = a7) (h8 : m' ((c.tc : Thread nD τ).loc main_arg8) = a8) :
    res_main_v130 m' c = RDLI a0 a1 a2 a3 a4 a5 a6 a7 a8 := by
  subst h0 h1 h2 h3 h4 h5 h6 h7 h8; rfl

theorem rLS (h0 : m' ((c.tc : Thread nD τ).loc main_arg0) = a0) (h1 : m' ((c.tc : Thread nD τ).loc main_arg1) = a1) (h2 : m' ((c.tc : Thread nD τ).loc main_arg2) = a2) (h3 : m' ((c.tc : Thread nD τ).loc main_arg3) = a3) (h4 : m' ((c.tc : Thread nD τ).loc main_arg4) = a4) (h5 : m' ((c.tc : Thread nD τ).loc main_arg5) = a5) (h6 : m' ((c.tc : Thread nD τ).loc main_arg6) = a6) (h7 : m' ((c.tc : Thread nD τ).loc main_arg7) = a7) (h8 : m' ((c.tc : Thread nD τ).loc main_arg8) = a8) :
    res_main_v141 m' c = RDLS a0 a1 a2 a3 a4 a5 a6 a7 a8 := by
  subst h0 h1 h2 h3 h4 h5 h6 h7 h8; rfl

end Results
end Reference

end Cert.S5Param
end
-- ==== Proof.S5ParamValue.lean ====
/- The S5 heads' discretisation, backward: the five result arrays of the kernel are the reference's terms. -/
module

public import proofs.«01_k».proof.Proof.Gen.S5ParamIdeal.Frame
public import proofs.«01_k».proof.Proof.S5ParamPure
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.S5Param

open Cert.S5ParamIdeal Cert.S5ParamIdeal.Gen

variable (m : (ℓ : Loc nD τ sig) → Buf (Elt Ideal) ℓ) (c : Dev nD) (t : Fin cfg0.N)

/-- The argument arrays: the eigenvalues' parts, the step's logarithm, the input matrix' parts, the cotangents. -/
abbrev A0 (c : Dev nD) : FVec Ideal S32x64 .f32 := m ((c : Thread nD τ).loc main_arg0)
abbrev A1 (c : Dev nD) : FVec Ideal S32x64 .f32 := m ((c : Thread nD τ).loc main_arg1)
abbrev A2 (c : Dev nD) : FVec Ideal S32 .f32 := m ((c : Thread nD τ).loc main_arg2)
abbrev A3 (c : Dev nD) : FVec Ideal S32x64x16 .f32 := m ((c : Thread nD τ).loc main_arg3)
abbrev A4 (c : Dev nD) : FVec Ideal S32x64x16 .f32 := m ((c : Thread nD τ).loc main_arg4)
abbrev A5 (c : Dev nD) : FVec Ideal S32x64 .f32 := m ((c : Thread nD τ).loc main_arg5)
abbrev A6 (c : Dev nD) : FVec Ideal S32x64 .f32 := m ((c : Thread nD τ).loc main_arg6)
abbrev A7 (c : Dev nD) : FVec Ideal S32x64x16 .f32 := m ((c : Thread nD τ).loc main_arg7)
abbrev A8 (c : Dev nD) : FVec Ideal S32x64x16 .f32 := m ((c : Thread nD τ).loc main_arg8)

/-- Every window's block index. -/
theorem idx : ∀ t : Fin cfg0.N, win0_0.index t = ![0, 0]
    ∧ win0_1.index t = ![0, 0]
    ∧ win0_2.index t = ![0, 0]
    ∧ win0_3.index t = ![0, 0, 0]
    ∧ win0_4.index t = ![0, 0, 0]
    ∧ win0_5.index t = ![0, 0]
    ∧ win0_6.index t = ![0, 0]
    ∧ win0_7.index t = ![0, 0, 0]
    ∧ win0_8.index t = ![0, 0, 0]
    ∧ win0_9.index t = ![0, 0]
    ∧ win0_10.index t = ![0, 0]
    ∧ win0_11.index t = ![0, 0]
    ∧ win0_12.index t = ![0, 0, 0]
    ∧ win0_13.index t = ![0, 0, 0]
    ∧ t.val < 1 :=
  (by decide +kernel : ∀ t : Fin grid0.N, _)

/-! The blocks the body reads: the arrays whole, the input matrix' parts transposed. -/

theorem b0 (g : Fin 32) (n : Fin 64) : iblk m c 0 t (ix2 g n) = A0 m c (ix2 g n) := by
  blk_ext [iblk, V, idx t]
theorem b1 (g : Fin 32) (n : Fin 64) : iblk m c 1 t (ix2 g n) = A1 m c (ix2 g n) := by
  blk_ext [iblk, V, idx t]
theorem b2 (g : Fin 32) : iblk m c 2 t (ix2 g 0) = A2 m c (ix1 g) := by
  blk_point [iblk, V, idx t]
theorem b3 (g : Fin 32) (j : Fin 16) (n : Fin 64) : iblk m c 3 t (ix3 g j n) = A3 m c (ix3 g n j) := by
  blk_point [iblk, V, idx t]
theorem b4 (g : Fin 32) (j : Fin 16) (n : Fin 64) : iblk m c 4 t (ix3 g j n) = A4 m c (ix3 g n j) := by
  blk_point [iblk, V, idx t]
theorem b5 (g : Fin 32) (n : Fin 64) : iblk m c 5 t (ix2 g n) = A5 m c (ix2 g n) := by
  blk_ext [iblk, V, idx t]
theorem b6 (g : Fin 32) (n : Fin 64) : iblk m c 6 t (ix2 g n) = A6 m c (ix2 g n) := by
  blk_ext [iblk, V, idx t]
theorem b7 (g : Fin 32) (j : Fin 16) (n : Fin 64) : iblk m c 7 t (ix3 g j n) = A7 m c (ix3 g n j) := by
  blk_point [iblk, V, idx t]
theorem b8 (g : Fin 32) (j : Fin 16) (n : Fin 64) : iblk m c 8 t (ix3 g j n) = A8 m c (ix3 g n j) := by
  blk_point [iblk, V, idx t]

theorem row_eq (g : Fin 32) : K (iblk m c 0 t) (iblk m c 1 t) (iblk m c 2 t) (iblk m c 3 t) (iblk m c 4 t) (iblk m c 5 t) (iblk m c 6 t) (iblk m c 7 t) (iblk m c 8 t) g = T (A0 m c) (A1 m c) (A2 m c) (A3 m c) (A4 m c) (A5 m c) (A6 m c) (A7 m c) (A8 m c) g := by
  unfold K
  rw [funext fun n => b0 m c t g n, funext fun n => b1 m c t g n, b2 m c t g, funext fun j => funext fun n => b3 m c t g j n, funext fun j => funext fun n => b4 m c t g j n, funext fun n => b5 m c t g n, funext fun n => b6 m c t g n, funext fun j => funext fun n => b7 m c t g j n, funext fun j => funext fun n => b8 m c t g j n]
  rfl

/-! The real parts' gradient. -/

theorem emb9 (g : Fin 32) (n : Fin 64) : ((cfg0.win 9).blk t).view.emb (ix2 g n) = (ix2 g n : S32x64.Idx) := by
  blk_ext [idx t]

theorem out9 (a : Vec Ideal S32x64 .f32) (b : Vec Ideal S32x64 .f32) (s : Vec Ideal S32x1 .f32) (br : Vec Ideal S32x16x64 .f32) (bi : Vec Ideal S32x16x64 .f32) (x : Vec Ideal S32x64 .f32) (y' : Vec Ideal S32x64 .f32) (p : Vec Ideal S32x16x64 .f32) (q : Vec Ideal S32x16x64 .f32) (y : S32x64.Idx) : @Eq EReal (out0_9 a b s br bi x y' p q y) (k1 a b s br bi x y' p q y) := by
  unfold_out out0_9; frame_out

theorem point9 (y : S32x64.Idx) : @Eq EReal (k1 (iblk m c 0 t) (iblk m c 1 t) (iblk m c 2 t) (iblk m c 3 t) (iblk m c 4 t) (iblk m c 5 t) (iblk m c 6 t) (iblk m c 7 t) (iblk m c 8 t) y) (RDLR (A0 m c) (A1 m c) (A2 m c) (A3 m c) (A4 m c) (A5 m c) (A6 m c) (A7 m c) (A8 m c) (((cfg0.win 9).blk t).view.emb y)) := by
  obtain ⟨g, n, rfl⟩ : ∃ (g : Fin 32) (n : Fin 64), y = ix2 g n := ⟨y 0, y 1, eq_ix2 y⟩
  rw [emb9]
  exact (k1_at (iblk m c 0 t) (iblk m c 1 t) (iblk m c 2 t) (iblk m c 3 t) (iblk m c 4 t) (iblk m c 5 t) (iblk m c 6 t) (iblk m c 7 t) (iblk m c 8 t) g n).trans ((congrArg (fun R : Row => R.dlr n) (row_eq m c t g)).trans (RDLR_at (A0 m c) (A1 m c) (A2 m c) (A3 m c) (A4 m c) (A5 m c) (A6 m c) (A7 m c) (A8 m c) g n).symm)

theorem final9 (c : Dev nD) : (dats m 0 c).arrAt 9 (cfgs 0).N = RDLR (A0 m c) (A1 m c) (A2 m c) (A3 m c) (A4 m c) (A5 m c) (A6 m c) (A7 m c) (A8 m c) := by
  refine (dats m 0 c).arrAt_eq_of_covers 9 _ (by decide +kernel) fun t hf y => ?_
  blk_simp; rw [after0_9]
  exact (out9 _ _ _ _ _ _ _ _ _ y).trans (point9 m c t y)

/-! The imaginary parts' gradient. -/

theorem emb10 (g : Fin 32) (n : Fin 64) : ((cfg0.win 10).blk t).view.emb (ix2 g n) = (ix2 g n : S32x64.Idx) := by
  blk_ext [idx t]

theorem out10 (a : Vec Ideal S32x64 .f32) (b : Vec Ideal S32x64 .f32) (s : Vec Ideal S32x1 .f32) (br : Vec Ideal S32x16x64 .f32) (bi : Vec Ideal S32x16x64 .f32) (x : Vec Ideal S32x64 .f32) (y' : Vec Ideal S32x64 .f32) (p : Vec Ideal S32x16x64 .f32) (q : Vec Ideal S32x16x64 .f32) (y : S32x64.Idx) : @Eq EReal (out0_10 a b s br bi x y' p q y) (k41 a b s br bi x y' p q y) := by
  unfold_out out0_10; frame_out

theorem point10 (y : S32x64.Idx) : @Eq EReal (k41 (iblk m c 0 t) (iblk m c 1 t) (iblk m c 2 t) (iblk m c 3 t) (iblk m c 4 t) (iblk m c 5 t) (iblk m c 6 t) (iblk m c 7 t) (iblk m c 8 t) y) (RDLI (A0 m c) (A1 m c) (A2 m c) (A3 m c) (A4 m c) (A5 m c) (A6 m c) (A7 m c) (A8 m c) (((cfg0.win 10).blk t).view.emb y)) := by
  obtain ⟨g, n, rfl⟩ : ∃ (g : Fin 32) (n : Fin 64), y = ix2 g n := ⟨y 0, y 1, eq_ix2 y⟩
  rw [emb10]
  exact (k41_at (iblk m c 0 t) (iblk m c 1 t) (iblk m c 2 t) (iblk m c 3 t) (iblk m c 4 t) (iblk m c 5 t) (iblk m c 6 t) (iblk m c 7 t) (iblk m c 8 t) g n).trans ((congrArg (fun R : Row => R.dli n) (row_eq m c t g)).trans (RDLI_at (A0 m c) (A1 m c) (A2 m c) (A3 m c) (A4 m c) (A5 m c) (A6 m c) (A7 m c) (A8 m c) g n).symm)

theorem final10 (c : Dev nD) : (dats m 0 c).arrAt 10 (cfgs 0).N = RDLI (A0 m c) (A1 m c) (A2 m c) (A3 m c) (A4 m c) (A5 m c) (A6 m c) (A7 m c) (A8 m c) := by
  refine (dats m 0 c).arrAt_eq_of_covers 10 _ (by decide +kernel) fun t hf y => ?_
  blk_simp; rw [after0_10]
  exact (out10 _ _ _ _ _ _ _ _ _ y).trans (point10 m c t y)

/-! The step's logarithm's gradient. -/

theorem emb11 (g : Fin 32) (k : Fin 1) : ((cfg0.win 11).blk t).view.emb (ix2 g k) = (ix2 g k : S32x1.Idx) := by
  blk_ext [idx t]

theorem out11 (a : Vec Ideal S32x64 .f32) (b : Vec Ideal S32x64 .f32) (s : Vec Ideal S32x1 .f32) (br : Vec Ideal S32x16x64 .f32) (bi : Vec Ideal S32x16x64 .f32) (x : Vec Ideal S32x64 .f32) (y' : Vec Ideal S32x64 .f32) (p : Vec Ideal S32x16x64 .f32) (q : Vec Ideal S32x16x64 .f32) (y : S32x1.Idx) : @Eq EReal (out0_11 a b s br bi x y' p q y) (k2 a b s br bi x y' p q y) := by
  unfold_out out0_11; frame_out

theorem point11 (y : S32x1.Idx) : @Eq EReal (k2 (iblk m c 0 t) (iblk m c 1 t) (iblk m c 2 t) (iblk m c 3 t) (iblk m c 4 t) (iblk m c 5 t) (iblk m c 6 t) (iblk m c 7 t) (iblk m c 8 t) y) (RDLS (A0 m c) (A1 m c) (A2 m c) (A3 m c) (A4 m c) (A5 m c) (A6 m c) (A7 m c) (A8 m c) (((cfg0.win 11).blk t).view.emb y)) := by
  obtain ⟨g, k, rfl⟩ : ∃ (g : Fin 32) (k : Fin 1), y = ix2 g k := ⟨y 0, y 1, eq_ix2 y⟩
  rw [emb11]
  obtain rfl : k = 0 := Subsingleton.elim _ _
  exact (k2_at (iblk m c 0 t) (iblk m c 1 t) (iblk m c 2 t) (iblk m c 3 t) (iblk m c 4 t) (iblk m c 5 t) (iblk m c 6 t) (iblk m c 7 t) (iblk m c 8 t) g ).trans ((congrArg (fun R : Row => R.dls ) (row_eq m c t g)).trans (RDLS_at (A0 m c) (A1 m c) (A2 m c) (A3 m c) (A4 m c) (A5 m c) (A6 m c) (A7 m c) (A8 m c) g ).symm)

theorem final11 (c : Dev nD) : (dats m 0 c).arrAt 11 (cfgs 0).N = RDLS (A0 m c) (A1 m c) (A2 m c) (A3 m c) (A4 m c) (A5 m c) (A6 m c) (A7 m c) (A8 m c) := by
  refine (dats m 0 c).arrAt_eq_of_covers 11 _ (by decide +kernel) fun t hf y => ?_
  blk_simp; rw [after0_11]
  exact (out11 _ _ _ _ _ _ _ _ _ y).trans (point11 m c t y)

/-! The input matrix' real part's gradient. -/

theorem emb12 (g : Fin 32) (j : Fin 16) (n : Fin 64) : ((cfg0.win 12).blk t).view.emb (ix3 g j n) = (ix3 g j n : S32x16x64.Idx) := by
  blk_ext [idx t]

theorem out12 (a : Vec Ideal S32x64 .f32) (b : Vec Ideal S32x64 .f32) (s : Vec Ideal S32x1 .f32) (br : Vec Ideal S32x16x64 .f32) (bi : Vec Ideal S32x16x64 .f32) (x : Vec Ideal S32x64 .f32) (y' : Vec Ideal S32x64 .f32) (p : Vec Ideal S32x16x64 .f32) (q : Vec Ideal S32x16x64 .f32) (y : S32x16x64.Idx) : @Eq EReal (out0_12 a b s br bi x y' p q y) (k26 a b s p q y) := by
  unfold_out out0_12; frame_out

theorem point12 (y : S32x16x64.Idx) : @Eq EReal (k26 (iblk m c 0 t) (iblk m c 1 t) (iblk m c 2 t) (iblk m c 7 t) (iblk m c 8 t) y) (RDBR (A0 m c) (A1 m c) (A2 m c) (A7 m c) (A8 m c) (((cfg0.win 12).blk t).view.emb y)) := by
  obtain ⟨g, j, n, rfl⟩ : ∃ (g : Fin 32) (j : Fin 16) (n : Fin 64), y = ix3 g j n := ⟨y 0, y 1, y 2, eq_ix3 y⟩
  rw [emb12]
  exact (k26_at (iblk m c 0 t) (iblk m c 1 t) (iblk m c 2 t) (iblk m c 3 t) (iblk m c 4 t) (iblk m c 5 t) (iblk m c 6 t) (iblk m c 7 t) (iblk m c 8 t) g j n).trans ((congrArg (fun R : Row => R.dbr j n) (row_eq m c t g)).trans (RDBR_at (A0 m c) (A1 m c) (A2 m c) (A3 m c) (A4 m c) (A5 m c) (A6 m c) (A7 m c) (A8 m c) g j n).symm)

theorem final12 (c : Dev nD) : (dats m 0 c).arrAt 12 (cfgs 0).N = RDBR (A0 m c) (A1 m c) (A2 m c) (A7 m c) (A8 m c) := by
  refine (dats m 0 c).arrAt_eq_of_covers 12 _ (by decide +kernel) fun t hf y => ?_
  blk_simp; rw [after0_12]
  exact (out12 _ _ _ _ _ _ _ _ _ y).trans (point12 m c t y)

/-! The input matrix' imaginary part's gradient. -/

theorem emb13 (g : Fin 32) (j : Fin 16) (n : Fin 64) : ((cfg0.win 13).blk t).view.emb (ix3 g j n) = (ix3 g j n : S32x16x64.Idx) := by
  blk_ext [idx t]

theorem out13 (a : Vec Ideal S32x64 .f32) (b : Vec Ideal S32x64 .f32) (s : Vec Ideal S32x1 .f32) (br : Vec Ideal S32x16x64 .f32) (bi : Vec Ideal S32x16x64 .f32) (x : Vec Ideal S32x64 .f32) (y' : Vec Ideal S32x64 .f32) (p : Vec Ideal S32x16x64 .f32) (q : Vec Ideal S32x16x64 .f32) (y : S32x16x64.Idx) : @Eq EReal (out0_13 a b s br bi x y' p q y) (k25 a b s p q y) := by
  unfold_out out0_13; frame_out

theorem point13 (y : S32x16x64.Idx) : @Eq EReal (k25 (iblk m c 0 t) (iblk m c 1 t) (iblk m c 2 t) (iblk m c 7 t) (iblk m c 8 t) y) (RDBI (A0 m c) (A1 m c) (A2 m c) (A7 m c) (A8 m c) (((cfg0.win 13).blk t).view.emb y)) := by
  obtain ⟨g, j, n, rfl⟩ : ∃ (g : Fin 32) (j : Fin 16) (n : Fin 64), y = ix3 g j n := ⟨y 0, y 1, y 2, eq_ix3 y⟩
  rw [emb13]
  exact (k25_at (iblk m c 0 t) (iblk m c 1 t) (iblk m c 2 t) (iblk m c 3 t) (iblk m c 4 t) (iblk m c 5 t) (iblk m c 6 t) (iblk m c 7 t) (iblk m c 8 t) g j n).trans ((congrArg (fun R : Row => R.dbi j n) (row_eq m c t g)).trans (RDBI_at (A0 m c) (A1 m c) (A2 m c) (A3 m c) (A4 m c) (A5 m c) (A6 m c) (A7 m c) (A8 m c) g j n).symm)

theorem final13 (c : Dev nD) : (dats m 0 c).arrAt 13 (cfgs 0).N = RDBI (A0 m c) (A1 m c) (A2 m c) (A7 m c) (A8 m c) := by
  refine (dats m 0 c).arrAt_eq_of_covers 13 _ (by decide +kernel) fun t hf y => ?_
  blk_simp; rw [after0_13]
  exact (out13 _ _ _ _ _ _ _ _ _ y).trans (point13 m c t y)

end Cert.S5Param
end
-- ==== Proof.PlePure.lean ====
/- The gated embedding add, the final norm and the loss, forward and backward: the arithmetic of one token row, read off
   the kernel's payloads and off the reference's terms. -/
module

public import proofs.«01_k».proof.Proof.Gen.PleIdeal.Frame
public import proofs.«01_k».proof.Proof.Gen.PleRefIdeal.Run
public import proofs.«01_k».proof.Proof.S5PostPure
public import proofs.«01_k».proof.Proof.RealFacts
public import Idealize.ShloMosaic.Lib.Pointwise

@[expose] public section

set_option maxRecDepth 16384

noncomputable section

open Idealize.ShloMosaic Idealize.ShloMosaic.TcCoe Idealize.SL.Sem

namespace Cert.Ple

open Cert.Inproj (ms viaMs dx)
open Cert.Ffn (lgs)
open Cert.S5Post (de de_quot isReal_de isReal_lgs half)
open Cert.Facts

/-- Gradient of the normed row's input, for the normed row's cotangent `d`. -/
def nd (x g d : Fin 1024 → EReal) (k : Fin 1024) : EReal :=
  d k * g k * Ideal.rsqrt (ms x) + x k * viaMs x g d + viaMs x g d * x k

theorem two : Ideal.ofBits .f32 0x40000000#32 = ((2 : ℝ) : EReal) := by
  rw [f32_pos _ 128 0 (by decide) (by decide) (by decide) (by decide) (by decide)]
  congr 1; norm_num

/-- Each error's share of the loss's derivative. -/
def share : EReal := Ideal.div (Ideal.ofBits .f32 0x3F000000#32 * 1) (Ideal.ofBits .f32 0x44800000#32)

theorem isReal_share : IsReal share := by
  obtain ⟨a, ha⟩ := half
  rw [share, ha, mul_one, c1024]
  exact (IsReal.coe a).div (by norm_num)

theorem isReal_ms {x : Fin 1024 → EReal} (h : ∀ k, IsReal (x k)) : ∃ r : ℝ, 0 < r ∧ ms x = (r : EReal) := by
  obtain ⟨e, he, e1⟩ := eps6
  obtain ⟨r, hr, e2⟩ := mean_sq_pos h (d := 1024) (by norm_num) he
  exact ⟨r, hr, by rw [ms, c1024, e1, e2]⟩

theorem isReal_rs {x : Fin 1024 → EReal} (h : ∀ k, IsReal (x k)) : IsReal (Ideal.rsqrt (ms x)) := by
  obtain ⟨r, hr, e⟩ := isReal_ms h
  rw [e, rsqrt_pos hr]
  exact IsReal.coe _

theorem neg_half : IsReal (Ideal.ofBits .f32 0xBF000000#32) := by
  simp only [IsReal, Ideal.ofBits, Ideal.ieee]
  rw [if_neg (by decide), if_neg (by decide)]
  exact ⟨_, rfl⟩

theorem isReal_nd {x g d : Fin 1024 → EReal} (hx : ∀ k, IsReal (x k)) (hg : ∀ k, IsReal (g k)) (hd : ∀ k, IsReal (d k))
    (k : Fin 1024) : IsReal (nd x g d k) := by
  obtain ⟨r, hr, e⟩ := isReal_ms hx
  have hv : IsReal (viaMs x g d) := by
    rw [viaMs, c1024, e]
    refine IsReal.div (IsReal.mul (IsReal.sum _ fun k => (hx k).mul ((hd k).mul (hg k))) (neg_half.mul ?_)) (by norm_num)
    rw [rsqrt_pos hr]
    exact (IsReal.coe _).div hr.ne'
  exact ((((hd k).mul (hg k)).mul (isReal_rs hx)).add ((hx k).mul hv)).add (hv.mul (hx k))

/-- One token's data: the residual stream, the embedding, the target; the two norms' weights, the gate's and the embedding's
    matrix. -/
structure Row where
  x : Fin 1024 → EReal
  p : Fin 256 → EReal
  tg : Fin 1024 → EReal
  gp : Fin 1024 → EReal
  gf : Fin 1024 → EReal
  wg : Fin 1024 → Fin 1024 → EReal
  wu : Fin 256 → Fin 1024 → EReal

namespace Row
variable (R : Row)

/-- The normed row, the gate's argument, the embedding, the new residual stream, the error. -/
def hn (k : Fin 1024) : EReal := R.x k * Ideal.rsqrt (ms R.x) * R.gp k
def a (j : Fin 1024) : EReal := ∑ k, R.hn k * R.wg k j
def e (j : Fin 1024) : EReal := ∑ k, R.p k * R.wu k j
def h (j : Fin 1024) : EReal := R.x j + lgs (R.a j) * R.e j
def nh (j : Fin 1024) : EReal := R.h j * Ideal.rsqrt (ms R.h)
def d (j : Fin 1024) : EReal := R.nh j * R.gf j - R.tg j
/-- The token's mean squared error. -/
def loss : EReal := Ideal.div (∑ j, R.d j * R.d j) (Ideal.ofBits .f32 0x44800000#32)
/-- Cotangents: of the final norm's output, the new residual stream, the embedding, the gate's argument, the normed row,
    the residual stream. -/
def go (j : Fin 1024) : EReal := share * (Ideal.ofBits .f32 0x40000000#32 * R.d j)
def gh (j : Fin 1024) : EReal := nd R.h R.gf R.go j
def gu (j : Fin 1024) : EReal := lgs (R.a j) * R.gh j
def ge (j : Fin 1024) : EReal := de (R.gh j) (R.a j) (R.e j)
def gn (k : Fin 1024) : EReal := ∑ j, R.ge j * R.wg k j
def gx (k : Fin 1024) : EReal := dx R.gh R.x R.gp R.gn k

/-- The row's numbers are real. -/
structure Reals : Prop where
  x : ∀ k, IsReal (R.x k)
  p : ∀ k, IsReal (R.p k)
  tg : ∀ k, IsReal (R.tg k)
  gp : ∀ k, IsReal (R.gp k)
  gf : ∀ k, IsReal (R.gf k)
  wg : ∀ k j, IsReal (R.wg k j)
  wu : ∀ k j, IsReal (R.wu k j)

namespace Reals
variable {R} (H : R.Reals)
include H

theorem a (j : Fin 1024) : IsReal (R.a j) :=
  IsReal.sum _ fun k => ((((H.x k).mul (isReal_rs H.x))).mul (H.gp k)).mul (H.wg k j)
theorem e (j : Fin 1024) : IsReal (R.e j) := IsReal.sum _ fun k => (H.p k).mul (H.wu k j)
theorem h (j : Fin 1024) : IsReal (R.h j) := (H.x j).add ((isReal_lgs (H.a j)).mul (H.e j))
theorem d (j : Fin 1024) : IsReal (R.d j) := (((H.h j).mul (isReal_rs H.h)).mul (H.gf j)).sub (H.tg j)
theorem go (j : Fin 1024) : IsReal (R.go j) := isReal_share.mul (IsReal.mul ⟨2, two⟩ (H.d j))
theorem gh (j : Fin 1024) : IsReal (R.gh j) := isReal_nd H.h H.gf H.go j
theorem loss : IsReal R.loss := by
  rw [Row.loss, c1024]
  exact (IsReal.sum _ fun j => (H.d j).mul (H.d j)).div (by norm_num)

end Reals
end Row

/-- The square's derivative, one factor at a time. -/
theorem go_two {d : EReal} (h : IsReal d) : d * share + share * d = share * (Ideal.ofBits .f32 0x40000000#32 * d) := by
  obtain ⟨s, hs⟩ := isReal_share
  obtain ⟨d, rfl⟩ := h
  rw [two, hs]
  norm_cast
  ring

section Kernel
open Cert.PleIdeal Cert.PleIdeal.Gen

variable (x0 : FVec Ideal S512x1024 .f32) (x1 : FVec Ideal S512x256 .f32) (x2 : FVec Ideal S512x1024 .f32) (x3 x4 : FVec Ideal S1x1024 .f32)
  (x5 : FVec Ideal S1024x1024 .bf16) (x6 : FVec Ideal S256x1024 .bf16)

/-- Row `r` of the kernel's blocks. -/
def K (r : Fin 512) : Row :=
  ⟨fun k => x0 (ix2 r k), fun k => x1 (ix2 r k), fun k => x2 (ix2 r k), fun k => x3 (ix2 0 k), fun k => x4 (ix2 0 k),
    fun k j => x5 (ix2 k j), fun k j => x6 (ix2 k j)⟩

/-- The kernel's pieces, at its blocks. -/
abbrev k15 := k0_pay15 (F := Idealize.ShloMosaic.Ideal) x0 x3
abbrev k16 := k0_pay16 (F := Idealize.ShloMosaic.Ideal) x0 x3 x5
abbrev k17 := k0_pay17 (F := Idealize.ShloMosaic.Ideal) x0 x3 x5
abbrev k19 := k0_pay19 (F := Idealize.ShloMosaic.Ideal) (k17 x0 x3 x5) k0_pay18
abbrev k20 := k0_pay20 (F := Idealize.ShloMosaic.Ideal) (k17 x0 x3 x5)
abbrev k21 := k0_pay21 (F := Idealize.ShloMosaic.Ideal) x1 (k0_pay9 x6) k0_pay10
abbrev k22 := k0_pay22 (F := Idealize.ShloMosaic.Ideal) x0 x1 (k0_pay9 x6) k0_pay10 (k17 x0 x3 x5) k0_pay18
abbrev k23 := k0_pay23 (F := Idealize.ShloMosaic.Ideal) x0 x1 (k0_pay9 x6) k0_pay10 (k17 x0 x3 x5) k0_pay18
abbrev k24 := k0_pay24 (F := Idealize.ShloMosaic.Ideal) x0 x1 (k0_pay9 x6) k0_pay10 (k17 x0 x3 x5) k0_pay18
abbrev k25 := k0_pay25 (F := Idealize.ShloMosaic.Ideal) x0 x1 (k0_pay9 x6) k0_pay10 (k17 x0 x3 x5) k0_pay18
abbrev k26 := k0_pay26 (F := Idealize.ShloMosaic.Ideal) x0 x1 (k0_pay9 x6) k0_pay10 (k17 x0 x3 x5) k0_pay18
abbrev k27 := k0_pay27 (F := Idealize.ShloMosaic.Ideal) x0 x1 x2 (k0_pay7 x4) (k0_pay9 x6) k0_pay10 (k17 x0 x3 x5) k0_pay18
abbrev k28 := k0_pay28 (F := Idealize.ShloMosaic.Ideal) x0 x1 x2 (k0_pay7 x4) (k0_pay9 x6) k0_pay10 (k17 x0 x3 x5) k0_pay18
abbrev k29 := k0_pay29 (F := Idealize.ShloMosaic.Ideal) x0 x1 x2 (k0_pay7 x4) (k0_pay9 x6) k0_pay10 (k17 x0 x3 x5) k0_pay18
abbrev k30 := k0_pay30 (F := Idealize.ShloMosaic.Ideal) x0 x1 x2 (k0_pay7 x4) (k0_pay9 x6) k0_pay10 (k17 x0 x3 x5) k0_pay18
abbrev k32 := k0_pay32 (F := Idealize.ShloMosaic.Ideal) (k0_pay7 x4) (k22 x0 x1 x3 x5 x6) (k24 x0 x1 x3 x5 x6) (k25 x0 x1 x3 x5 x6) (k29 x0 x1 x2 x3 x4 x5 x6)
abbrev k33 := k0_pay33 (F := Idealize.ShloMosaic.Ideal) (k0_pay7 x4) (k19 x0 x3 x5) (k22 x0 x1 x3 x5 x6) (k24 x0 x1 x3 x5 x6) (k25 x0 x1 x3 x5 x6) (k29 x0 x1 x2 x3 x4 x5 x6)
abbrev k34 := k0_pay34 (F := Idealize.ShloMosaic.Ideal) (k0_pay7 x4) (k16 x0 x3 x5) (k20 x0 x3 x5) (k21 x1 x6) (k22 x0 x1 x3 x5 x6) (k24 x0 x1 x3 x5 x6) (k25 x0 x1 x3 x5 x6) (k29 x0 x1 x2 x3 x4 x5 x6)
abbrev k35 := k0_pay35 (F := Idealize.ShloMosaic.Ideal) (k0_pay7 x4) (k0_pay8 x5) (k16 x0 x3 x5) (k20 x0 x3 x5) (k21 x1 x6) (k22 x0 x1 x3 x5 x6) (k24 x0 x1 x3 x5 x6) (k25 x0 x1 x3 x5 x6) (k29 x0 x1 x2 x3 x4 x5 x6)
abbrev k36 := k0_pay36 (F := Idealize.ShloMosaic.Ideal) (k0_pay7 x4) (k0_pay8 x5) (k0_pay14 x0) (k16 x0 x3 x5) (k20 x0 x3 x5) (k21 x1 x6) (k22 x0 x1 x3 x5 x6) (k24 x0 x1 x3 x5 x6) (k25 x0 x1 x3 x5 x6) (k29 x0 x1 x2 x3 x4 x5 x6)
abbrev k38 := k0_pay38 (F := Idealize.ShloMosaic.Ideal) (k0_pay6 x3) (k0_pay7 x4) (k0_pay8 x5) (k0_pay12 x0) (k16 x0 x3 x5) (k20 x0 x3 x5) (k21 x1 x6) (k22 x0 x1 x3 x5 x6) (k24 x0 x1 x3 x5 x6) (k25 x0 x1 x3 x5 x6) (k29 x0 x1 x2 x3 x4 x5 x6)
abbrev k39 := k0_pay39 (F := Idealize.ShloMosaic.Ideal) x0 (k0_pay6 x3) (k0_pay7 x4) (k0_pay8 x5) (k0_pay13 x0) (k16 x0 x3 x5) (k20 x0 x3 x5) (k21 x1 x6) (k22 x0 x1 x3 x5 x6) (k24 x0 x1 x3 x5 x6) (k25 x0 x1 x3 x5 x6) (k29 x0 x1 x2 x3 x4 x5 x6)
abbrev k40 := k0_pay40 (F := Idealize.ShloMosaic.Ideal) x0 (k38 x0 x1 x2 x3 x4 x5 x6) (k39 x0 x1 x2 x3 x4 x5 x6)

theorem pay11_at (r : Fin 512) : @Eq EReal (k0_pay11 (F := Idealize.ShloMosaic.Ideal) x0 (ix2 r 0)) (ms (K x0 x1 x2 x3 x4 x5 x6 r).x) := by
  pointwise [k0_pay11, ms, K]

theorem k15_at (r : Fin 512) (k : Fin 1024) : @Eq EReal (k15 x0 x3 (ix2 r k)) ((K x0 x1 x2 x3 x4 x5 x6 r).hn k) := by
  pointwise [k15, k0_pay15, k0_pay14, k0_pay12, k0_pay6, Row.hn]
  simp only [pay11_at x0 x1 x2 x3 x4 x5 x6]
  rfl

theorem k16_at (r : Fin 512) (j : Fin 1024) : @Eq EReal (k16 x0 x3 x5 (ix2 r j)) (Ideal.exp (-(K x0 x1 x2 x3 x4 x5 x6 r).a j)) := by
  pointwise [k16, k0_pay16, k0_pay8, k0_pay10, Row.a]
  simp only [k15_at x0 x1 x2 x3 x4 x5 x6, add_zero, zero_sub]
  rfl

theorem k17_at (r : Fin 512) (j : Fin 1024) : @Eq EReal (k17 x0 x3 x5 (ix2 r j)) (1 + Ideal.exp (-(K x0 x1 x2 x3 x4 x5 x6 r).a j)) := by
  pointwise [k17, k0_pay17]
  simp only [k16_at x0 x1 x2 x3 x4 x5 x6]

theorem k19_at (r : Fin 512) (j : Fin 1024) : @Eq EReal (k19 x0 x3 x5 (ix2 r j)) (lgs ((K x0 x1 x2 x3 x4 x5 x6 r).a j)) := by
  pointwise [k19, k0_pay19, k0_pay18, lgs]
  simp only [k17_at x0 x1 x2 x3 x4 x5 x6]

theorem k21_at (r : Fin 512) (j : Fin 1024) : @Eq EReal (k21 x1 x6 (ix2 r j)) ((K x0 x1 x2 x3 x4 x5 x6 r).e j) := by
  pointwise [k21, k0_pay21, k0_pay9, k0_pay10, Row.e, K]

theorem k22_at (r : Fin 512) (j : Fin 1024) : @Eq EReal (k22 x0 x1 x3 x5 x6 (ix2 r j)) ((K x0 x1 x2 x3 x4 x5 x6 r).h j) := by
  pointwise [k22, k0_pay22, Row.h]
  simp only [k19_at x0 x1 x2 x3 x4 x5 x6, k21_at x0 x1 x2 x3 x4 x5 x6]
  rfl

theorem k23_at (r : Fin 512) : @Eq EReal (k23 x0 x1 x3 x5 x6 (ix2 r 0)) (ms (K x0 x1 x2 x3 x4 x5 x6 r).h) := by
  pointwise [k23, k0_pay23, ms]
  simp only [k22_at x0 x1 x2 x3 x4 x5 x6]

theorem k24_at (r : Fin 512) : @Eq EReal (k24 x0 x1 x3 x5 x6 (ix2 r 0)) (Ideal.rsqrt (ms (K x0 x1 x2 x3 x4 x5 x6 r).h)) := by
  pointwise [k24, k0_pay24]
  simp only [k23_at x0 x1 x2 x3 x4 x5 x6]

theorem k25_at (r : Fin 512) : @Eq EReal (k25 x0 x1 x3 x5 x6 (ix2 r 0))
    (Ideal.ofBits .f32 0xBF000000#32 * Ideal.div (Ideal.rsqrt (ms (K x0 x1 x2 x3 x4 x5 x6 r).h)) (ms (K x0 x1 x2 x3 x4 x5 x6 r).h)) := by
  pointwise [k25, k0_pay25]
  simp only [k24_at x0 x1 x2 x3 x4 x5 x6, k23_at x0 x1 x2 x3 x4 x5 x6]

theorem k26_at (r : Fin 512) (j : Fin 1024) : @Eq EReal (k26 x0 x1 x3 x5 x6 (ix2 r j)) ((K x0 x1 x2 x3 x4 x5 x6 r).nh j) := by
  pointwise [k26, k0_pay26, Row.nh]
  simp only [k24_at x0 x1 x2 x3 x4 x5 x6, k22_at x0 x1 x2 x3 x4 x5 x6]

theorem k27_at (r : Fin 512) (j : Fin 1024) : @Eq EReal (k27 x0 x1 x2 x3 x4 x5 x6 (ix2 r j)) ((K x0 x1 x2 x3 x4 x5 x6 r).d j) := by
  pointwise [k27, k0_pay27, k0_pay7, Row.d]
  simp only [k26_at x0 x1 x2 x3 x4 x5 x6]
  rfl

theorem k28_at : @Eq EReal (k28 x0 x1 x2 x3 x4 x5 x6) (Ideal.ofBits .f32 0x3F000000#32 * ∑ r : Fin 512, (K x0 x1 x2 x3 x4 x5 x6 r).loss) := by
  pointwise [k28, k0_pay28, Row.loss]
  simp only [k27_at x0 x1 x2 x3 x4 x5 x6, Fin.sum_univ_one]

variable {x0 x1 x2 x3 x4 x5 x6} (H : ∀ r, (K x0 x1 x2 x3 x4 x5 x6 r).Reals)
include H

theorem k29_at (r : Fin 512) (j : Fin 1024) : @Eq EReal (k29 x0 x1 x2 x3 x4 x5 x6 (ix2 r j)) ((K x0 x1 x2 x3 x4 x5 x6 r).go j) := by
  rw [Row.go, ← go_two ((H r).d j), share]
  pointwise [k29, k0_pay29]
  simp only [k27_at x0 x1 x2 x3 x4 x5 x6, Fin.sum_univ_one]

theorem k30_at (r : Fin 512) (j : Fin 1024) : @Eq EReal (k30 x0 x1 x2 x3 x4 x5 x6 (ix2 r j)) ((K x0 x1 x2 x3 x4 x5 x6 r).nh j * (K x0 x1 x2 x3 x4 x5 x6 r).go j) := by
  pointwise [k30, k0_pay30]
  simp only [k26_at x0 x1 x2 x3 x4 x5 x6, k29_at H]

theorem pay31_at (k : Fin 1024) : @Eq EReal (k0_pay31 (F := Idealize.ShloMosaic.Ideal) (k30 x0 x1 x2 x3 x4 x5 x6) (ix2 0 k))
    (∑ r : Fin 512, (K x0 x1 x2 x3 x4 x5 x6 r).nh k * (K x0 x1 x2 x3 x4 x5 x6 r).go k) := by
  pointwise [k0_pay31]
  simp only [k30_at H]

theorem k32_at (r : Fin 512) (j : Fin 1024) : @Eq EReal (k32 x0 x1 x2 x3 x4 x5 x6 (ix2 r j)) ((K x0 x1 x2 x3 x4 x5 x6 r).gh j) := by
  pointwise [k32, k0_pay32, k0_pay7, Row.gh, nd, viaMs]
  simp only [k22_at x0 x1 x2 x3 x4 x5 x6, k24_at x0 x1 x2 x3 x4 x5 x6, k25_at x0 x1 x2 x3 x4 x5 x6, k29_at H, Fin.sum_univ_one]
  rfl

theorem k33_at (r : Fin 512) (j : Fin 1024) : @Eq EReal (k33 x0 x1 x2 x3 x4 x5 x6 (ix2 r j)) ((K x0 x1 x2 x3 x4 x5 x6 r).gu j) := by
  pointwise [k33, k0_pay33, Row.gu]
  simp only [k19_at x0 x1 x2 x3 x4 x5 x6, k32_at H]

theorem k34_at (r : Fin 512) (j : Fin 1024) : @Eq EReal (k34 x0 x1 x2 x3 x4 x5 x6 (ix2 r j)) ((K x0 x1 x2 x3 x4 x5 x6 r).ge j) := by
  rw [Row.ge, ← de_quot ((H r).gh j) ((H r).a j) ((H r).e j)]
  pointwise [k34, k0_pay34, k0_pay20]
  simp only [k17_at x0 x1 x2 x3 x4 x5 x6, k16_at x0 x1 x2 x3 x4 x5 x6, k21_at x0 x1 x2 x3 x4 x5 x6, k32_at H]
  simp only [mul_one, zero_sub]

theorem k35_at (r : Fin 512) (k : Fin 1024) : @Eq EReal (k35 x0 x1 x2 x3 x4 x5 x6 (ix2 r k)) ((K x0 x1 x2 x3 x4 x5 x6 r).gn k) := by
  pointwise [k35, k0_pay35, k0_pay8, Row.gn]
  simp only [k34_at H]
  rfl

theorem k36_at (k : Fin 1024) : @Eq EReal (k36 x0 x1 x2 x3 x4 x5 x6 (ix2 0 k))
    (∑ r : Fin 512, (K x0 x1 x2 x3 x4 x5 x6 r).x k * Ideal.rsqrt (ms (K x0 x1 x2 x3 x4 x5 x6 r).x) * (K x0 x1 x2 x3 x4 x5 x6 r).gn k) := by
  pointwise [k36, k0_pay36, k0_pay14, k0_pay12]
  simp only [k35_at H, pay11_at x0 x1 x2 x3 x4 x5 x6]
  rfl

theorem k40_at (r : Fin 512) (k : Fin 1024) : @Eq EReal (k40 x0 x1 x2 x3 x4 x5 x6 (ix2 r k)) ((K x0 x1 x2 x3 x4 x5 x6 r).gx k) := by
  pointwise [k40, k0_pay40, k38, k0_pay38, k39, k0_pay39, k0_pay37, k0_pay13, k0_pay12, k0_pay6, Row.gx, dx, viaMs]
  simp only [k35_at H, k32_at H, pay11_at x0 x1 x2 x3 x4 x5 x6, Fin.sum_univ_one, add_assoc]
  rfl

theorem pay41_at (j k : Fin 1024) : @Eq EReal (k0_pay41 (F := Idealize.ShloMosaic.Ideal) (k15 x0 x3) (k34 x0 x1 x2 x3 x4 x5 x6) (ix2 j k))
    (∑ r : Fin 512, (K x0 x1 x2 x3 x4 x5 x6 r).hn j * (K x0 x1 x2 x3 x4 x5 x6 r).ge k) := by
  pointwise [k0_pay41]
  simp only [k34_at H, k15_at x0 x1 x2 x3 x4 x5 x6]

theorem pay42_at (j : Fin 256) (k : Fin 1024) : @Eq EReal (k0_pay42 (F := Idealize.ShloMosaic.Ideal) x1 (k33 x0 x1 x2 x3 x4 x5 x6) (ix2 j k))
    (∑ r : Fin 512, (K x0 x1 x2 x3 x4 x5 x6 r).p j * (K x0 x1 x2 x3 x4 x5 x6 r).gu k) := by
  pointwise [k0_pay42]
  simp only [k33_at H]
  rfl

end Kernel

section Reference
open Cert.PleRefIdeal Cert.PleRefIdeal.Gen

def MS (a0 : FVec Ideal S4096x1024 .f32) : FVec Ideal S4096x1 .f32 :=
  addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

def HN (a0 : FVec Ideal S4096x1024 .f32) (a3 : FVec Ideal S1024 .f32) (ms : FVec Ideal S4096x1 .f32) : FVec Ideal S4096x1024 .f32 :=
  mulf (mulf a0 (broadcastInDim S4096x1024 ![0, 1] bcast_S4096x1_S4096x1024_0_1 (Host.rsqrt ms))) (broadcastInDim S4096x1024 ![0, 1] bcast_S1x1024_S4096x1024_0_1 (broadcastInDim S1x1024 ![1] bcast_S1024_S1x1024_1 a3))

def AA (a5 : FVec Ideal S1024x1024 .f32) (hn : FVec Ideal S4096x1024 .f32) : FVec Ideal S4096x1024 .f32 :=
  Host.dotGeneral dot_S4096x1024_S1024x1024_S4096x1024_1_0_0_1_n_n none hn a5

def SG (aa : FVec Ideal S4096x1024 .f32) : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf aa)))

def EE (a1 : FVec Ideal S4096x256 .f32) (a6 : FVec Ideal S256x1024 .f32) : FVec Ideal S4096x1024 .f32 :=
  Host.dotGeneral dot_S4096x256_S256x1024_S4096x1024_1_0_0_1_n_n none a1 a6

def HH (a0 : FVec Ideal S4096x1024 .f32) (sg : FVec Ideal S4096x1024 .f32) (ee : FVec Ideal S4096x1024 .f32) : FVec Ideal S4096x1024 .f32 :=
  addf a0 (mulf sg ee)

def MT (hh : FVec Ideal S4096x1024 .f32) : FVec Ideal S4096x1 .f32 :=
  addf (Host.divf (broadcastInDim S4096x1 ![0] bcast_S4096_S4096x1_0 (Host.reduceAdd (mulf hh hh) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

def DD (a2 : FVec Ideal S4096x1024 .f32) (a4 : FVec Ideal S1024 .f32) (hh : FVec Ideal S4096x1024 .f32) (mt : FVec Ideal S4096x1 .f32) : FVec Ideal S4096x1024 .f32 :=
  subf (mulf (mulf hh (broadcastInDim S4096x1024 ![0, 1] bcast_S4096x1_S4096x1024_0_1 (Host.rsqrt mt))) (broadcastInDim S4096x1024 ![0, 1] bcast_S1x1024_S4096x1024_0_1 (broadcastInDim S1x1024 ![1] bcast_S1024_S1x1024_1 a4))) a2

def GO (dd : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) dd)

def VT (a4 : FVec Ideal S1024 .f32) (hh : FVec Ideal S4096x1024 .f32) (mt : FVec Ideal S4096x1 .f32) (go : FVec Ideal S4096x1024 .f32) : FVec Ideal S4096 .f32 :=
  Host.reduceAdd (Host.divf (mulf (shapeCast _ (Host.reduceAdd (mulf hh (mulf go (broadcastInDim S4096x1024 ![0, 1] bcast_S1x1024_S4096x1024_0_1 (broadcastInDim S1x1024 ![1] bcast_S1024_S1x1024_1 a4)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt mt) mt))) (broadcastInDim S4096x1 ![] bcast_S_S4096x1 (constant S_ .f32 0x44800000#32))) (constant S_ .f32 0x00000000#32) reducesTo_S4096x1_S4096_d1 h_S_

def GH (a4 : FVec Ideal S1024 .f32) (hh : FVec Ideal S4096x1024 .f32) (mt : FVec Ideal S4096x1 .f32) (go : FVec Ideal S4096x1024 .f32) (vt : FVec Ideal S4096 .f32) : FVec Ideal S4096x1024 .f32 :=
  addf (addf (mulf (mulf go (broadcastInDim S4096x1024 ![0, 1] bcast_S1x1024_S4096x1024_0_1 (broadcastInDim S1x1024 ![1] bcast_S1024_S1x1024_1 a4))) (broadcastInDim S4096x1024 ![0, 1] bcast_S4096x1_S4096x1024_0_1 (Host.rsqrt mt))) (mulf hh (broadcastInDim S4096x1024 ![0] bcast_S4096_S4096x1024_0 vt))) (mulf (broadcastInDim S4096x1024 ![0] bcast_S4096_S4096x1024_0 vt) hh)

def GU (sg : FVec Ideal S4096x1024 .f32) (gh : FVec Ideal S4096x1024 .f32) : FVec Ideal S4096x1024 .f32 :=
  mulf sg gh

def DWU (a1 : FVec Ideal S4096x256 .f32) (gu : FVec Ideal S4096x1024 .f32) : FVec Ideal S256x1024 .f32 :=
  transpose S256x1024 [1, 0] (Host.dotGeneral dot_S4096x1024_S4096x256_S1024x256_0_0_1_1_n_n none gu a1) transposes_S1024x256_S256x1024_1_0

def GE (sg : FVec Ideal S4096x1024 .f32) (ee : FVec Ideal S4096x1024 .f32) (gh : FVec Ideal S4096x1024 .f32) : FVec Ideal S4096x1024 .f32 :=
  mulf (mulf gh ee) (mulf sg (subf (broadcastInDim S4096x1024 ![] bcast_S_S4096x1024 (constant S_ .f32 0x3F800000#32)) sg))

def DWG (hn : FVec Ideal S4096x1024 .f32) (ge : FVec Ideal S4096x1024 .f32) : FVec Ideal S1024x1024 .f32 :=
  transpose S1024x1024 [1, 0] (Host.dotGeneral dot_S4096x1024_S4096x1024_S1024x1024_0_0_1_1_n_n none ge hn) transposes_S1024x1024_S1024x1024_1_0

def GN (a5 : FVec Ideal S1024x1024 .f32) (ge : FVec Ideal S4096x1024 .f32) : FVec Ideal S4096x1024 .f32 :=
  Host.dotGeneral dot_S4096x1024_S1024x1024_S4096x1024_1_1_0_0_n_n none ge a5

def VIA (a0 : FVec Ideal S4096x1024 .f32) (a3 : FVec Ideal S1024 .f32) (ms : FVec Ideal S4096x1 .f32) (gn : FVec Ideal S4096x1024 .f32) : FVec Ideal S4096 .f32 :=
  Host.reduceAdd (Host.divf (mulf (shapeCast _ (Host.reduceAdd (mulf a0 (mulf gn (broadcastInDim S4096x1024 ![0, 1] bcast_S1x1024_S4096x1024_0_1 (broadcastInDim S1x1024 ![1] bcast_S1024_S1x1024_1 a3)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt ms) ms))) (broadcastInDim S4096x1 ![] bcast_S_S4096x1 (constant S_ .f32 0x44800000#32))) (constant S_ .f32 0x00000000#32) reducesTo_S4096x1_S4096_d1 h_S_

def DX (a0 : FVec Ideal S4096x1024 .f32) (a3 : FVec Ideal S1024 .f32) (ms : FVec Ideal S4096x1 .f32) (gh : FVec Ideal S4096x1024 .f32) (gn : FVec Ideal S4096x1024 .f32) (via : FVec Ideal S4096 .f32) : FVec Ideal S4096x1024 .f32 :=
  addf (addf (addf gh (mulf (mulf gn (broadcastInDim S4096x1024 ![0, 1] bcast_S1x1024_S4096x1024_0_1 (broadcastInDim S1x1024 ![1] bcast_S1024_S1x1024_1 a3))) (broadcastInDim S4096x1024 ![0, 1] bcast_S4096x1_S4096x1024_0_1 (Host.rsqrt ms)))) (mulf a0 (broadcastInDim S4096x1024 ![0] bcast_S4096_S4096x1024_0 via))) (mulf (broadcastInDim S4096x1024 ![0] bcast_S4096_S4096x1024_0 via) a0)

def LS (dd : FVec Ideal S4096x1024 .f32) : FVec Ideal S8x128 .f32 :=
  broadcastInDim S8x128 ![] bcast_S_S8x128 (mulf (constant S_ .f32 0x3F000000#32) (Host.reduceAdd (Host.divf (Host.reduceAdd (mulf dd dd) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

def DP (a0 : FVec Ideal S4096x1024 .f32) (ms : FVec Ideal S4096x1 .f32) (gn : FVec Ideal S4096x1024 .f32) : FVec Ideal S1x1024 .f32 :=
  shapeCast _ (Host.reduceAdd (shapeCast _ (Host.reduceAdd (mulf (mulf a0 (broadcastInDim S4096x1024 ![0, 1] bcast_S4096x1_S4096x1024_0_1 (Host.rsqrt ms))) gn) (constant S_ .f32 0x00000000#32) reducesTo_S4096x1024_S1024_d0 h_S_) shapeCasts_S1024_S1x1024) (constant S_ .f32 0x00000000#32) reducesTo_S1x1024_S1024_d0 h_S_) shapeCasts_S1024_S1x1024

def DF (hh : FVec Ideal S4096x1024 .f32) (mt : FVec Ideal S4096x1 .f32) (go : FVec Ideal S4096x1024 .f32) : FVec Ideal S1x1024 .f32 :=
  shapeCast _ (Host.reduceAdd (shapeCast _ (Host.reduceAdd (mulf (mulf hh (broadcastInDim S4096x1024 ![0, 1] bcast_S4096x1_S4096x1024_0_1 (Host.rsqrt mt))) go) (constant S_ .f32 0x00000000#32) reducesTo_S4096x1024_S1024_d0 h_S_) shapeCasts_S1024_S1x1024) (constant S_ .f32 0x00000000#32) reducesTo_S1x1024_S1024_d0 h_S_) shapeCasts_S1024_S1x1024

section Results
variable (a0 : FVec Ideal S4096x1024 .f32) (a1 : FVec Ideal S4096x256 .f32) (a2 : FVec Ideal S4096x1024 .f32) (a3 a4 : FVec Ideal S1024 .f32)
  (a5 : FVec Ideal S1024x1024 .f32) (a6 : FVec Ideal S256x1024 .f32)

/-- Row `r` of the arguments. -/
def T (r : Fin 4096) : Row :=
  ⟨fun k => a0 (ix2 r k), fun k => a1 (ix2 r k), fun k => a2 (ix2 r k), fun k => a3 (ix1 k), fun k => a4 (ix1 k),
    fun k j => a5 (ix2 k j), fun k j => a6 (ix2 k j)⟩

/-- The reference's pieces over its arguments. -/
def RN : FVec Ideal S4096x1024 .f32 := HN a0 a3 (MS a0)
def RA : FVec Ideal S4096x1024 .f32 := AA a5 (RN a0 a3)
def RH : FVec Ideal S4096x1024 .f32 := HH a0 (SG (RA a0 a3 a5)) (EE a1 a6)
def RD : FVec Ideal S4096x1024 .f32 := DD a2 a4 (RH a0 a1 a3 a5 a6) (MT (RH a0 a1 a3 a5 a6))
def RG : FVec Ideal S4096x1024 .f32 := GO (RD a0 a1 a2 a3 a4 a5 a6)
def RGH : FVec Ideal S4096x1024 .f32 :=
  GH a4 (RH a0 a1 a3 a5 a6) (MT (RH a0 a1 a3 a5 a6)) (RG a0 a1 a2 a3 a4 a5 a6)
    (VT a4 (RH a0 a1 a3 a5 a6) (MT (RH a0 a1 a3 a5 a6)) (RG a0 a1 a2 a3 a4 a5 a6))
def RGE : FVec Ideal S4096x1024 .f32 := GE (SG (RA a0 a3 a5)) (EE a1 a6) (RGH a0 a1 a2 a3 a4 a5 a6)
def RGN : FVec Ideal S4096x1024 .f32 := GN a5 (RGE a0 a1 a2 a3 a4 a5 a6)

/-- The results: the residual stream's gradient, the loss, the two norms' weights' gradients, the two matrices'. -/
def RX : FVec Ideal S4096x1024 .f32 :=
  DX a0 a3 (MS a0) (RGH a0 a1 a2 a3 a4 a5 a6) (RGN a0 a1 a2 a3 a4 a5 a6) (VIA a0 a3 (MS a0) (RGN a0 a1 a2 a3 a4 a5 a6))
def RL : FVec Ideal S8x128 .f32 := LS (RD a0 a1 a2 a3 a4 a5 a6)
def RP : FVec Ideal S1x1024 .f32 := DP a0 (MS a0) (RGN a0 a1 a2 a3 a4 a5 a6)
def RF : FVec Ideal S1x1024 .f32 := DF (RH a0 a1 a3 a5 a6) (MT (RH a0 a1 a3 a5 a6)) (RG a0 a1 a2 a3 a4 a5 a6)
def RWG : FVec Ideal S1024x1024 .f32 := DWG (RN a0 a3) (RGE a0 a1 a2 a3 a4 a5 a6)
def RWU : FVec Ideal S256x1024 .f32 := DWU a1 (GU (SG (RA a0 a3 a5)) (RGH a0 a1 a2 a3 a4 a5 a6))

theorem MS_at (r : Fin 4096) : MS a0 (ix2 r 0) = ms (fun k => a0 (ix2 r k)) := by pointwise [MS, ms]
theorem MT_at (r : Fin 4096) : MT a0 (ix2 r 0) = ms (fun k => a0 (ix2 r k)) := by pointwise [MT, ms]

theorem RN_at (r : Fin 4096) (k : Fin 1024) : RN a0 a3 (ix2 r k) = (T a0 a1 a2 a3 a4 a5 a6 r).hn k := by
  pointwise [RN, HN, Row.hn, T]
  rw [MS_at]

theorem RA_at (r : Fin 4096) (j : Fin 1024) : RA a0 a3 a5 (ix2 r j) = (T a0 a1 a2 a3 a4 a5 a6 r).a j := by
  pointwise [RA, AA, Row.a]
  simp only [RN_at a0 a1 a2 a3 a4 a5 a6]
  rfl

theorem SG_at (r : Fin 4096) (j : Fin 1024) : SG (RA a0 a3 a5) (ix2 r j) = lgs ((T a0 a1 a2 a3 a4 a5 a6 r).a j) := by
  pointwise [SG, lgs]
  rw [RA_at a0 a1 a2 a3 a4 a5 a6]

theorem EE_at (r : Fin 4096) (j : Fin 1024) : EE a1 a6 (ix2 r j) = (T a0 a1 a2 a3 a4 a5 a6 r).e j := by
  pointwise [EE, Row.e, T]

theorem RH_at (r : Fin 4096) (j : Fin 1024) : RH a0 a1 a3 a5 a6 (ix2 r j) = (T a0 a1 a2 a3 a4 a5 a6 r).h j := by
  pointwise [RH, HH, Row.h]
  rw [SG_at a0 a1 a2 a3 a4 a5 a6, EE_at a0 a1 a2 a3 a4 a5 a6]
  rfl

theorem MH_at (r : Fin 4096) : MT (RH a0 a1 a3 a5 a6) (ix2 r 0) = ms (T a0 a1 a2 a3 a4 a5 a6 r).h :=
  (MT_at _ r).trans (congrArg ms (funext fun k => RH_at a0 a1 a2 a3 a4 a5 a6 r k))

theorem RD_at (r : Fin 4096) (j : Fin 1024) : RD a0 a1 a2 a3 a4 a5 a6 (ix2 r j) = (T a0 a1 a2 a3 a4 a5 a6 r).d j := by
  pointwise [RD, DD, Row.d, Row.nh]
  rw [MH_at a0 a1 a2 a3 a4 a5 a6, RH_at a0 a1 a2 a3 a4 a5 a6]
  rfl

theorem RG_at (r : Fin 4096) (j : Fin 1024) : RG a0 a1 a2 a3 a4 a5 a6 (ix2 r j) = (T a0 a1 a2 a3 a4 a5 a6 r).go j := by
  pointwise [RG, GO, Row.go, share]
  rw [RD_at]

theorem RGH_at (r : Fin 4096) (j : Fin 1024) : RGH a0 a1 a2 a3 a4 a5 a6 (ix2 r j) = (T a0 a1 a2 a3 a4 a5 a6 r).gh j := by
  pointwise [RGH, GH, VT, Row.gh, nd, viaMs]
  simp only [Fin.sum_univ_one, MH_at a0 a1 a2 a3 a4 a5 a6, RH_at a0 a1 a2 a3 a4 a5 a6, RG_at]
  rfl

theorem RGE_at (r : Fin 4096) (j : Fin 1024) : RGE a0 a1 a2 a3 a4 a5 a6 (ix2 r j) = (T a0 a1 a2 a3 a4 a5 a6 r).ge j := by
  pointwise [RGE, GE, Row.ge, de]
  rw [RGH_at, SG_at a0 a1 a2 a3 a4 a5 a6, EE_at a0 a1 a2 a3 a4 a5 a6]

theorem RGN_at (r : Fin 4096) (k : Fin 1024) : RGN a0 a1 a2 a3 a4 a5 a6 (ix2 r k) = (T a0 a1 a2 a3 a4 a5 a6 r).gn k := by
  pointwise [RGN, GN, Row.gn]
  simp only [RGE_at]
  rfl

theorem RX_at (r : Fin 4096) (k : Fin 1024) : RX a0 a1 a2 a3 a4 a5 a6 (ix2 r k) = (T a0 a1 a2 a3 a4 a5 a6 r).gx k := by
  pointwise [RX, DX, VIA, Row.gx, dx, viaMs]
  simp only [Fin.sum_univ_one, MS_at, RGN_at, RGH_at, add_assoc]
  rfl

theorem RL_at (i : Fin 8) (j : Fin 128) :
    RL a0 a1 a2 a3 a4 a5 a6 (ix2 i j) = Ideal.ofBits .f32 0x3F000000#32 * ∑ r : Fin 4096, (T a0 a1 a2 a3 a4 a5 a6 r).loss := by
  pointwise [RL, LS, Row.loss]
  simp only [RD_at]

theorem RP_at (k : Fin 1024) :
    RP a0 a1 a2 a3 a4 a5 a6 (ix2 0 k) = ∑ r : Fin 4096, (T a0 a1 a2 a3 a4 a5 a6 r).x k * Ideal.rsqrt (ms (T a0 a1 a2 a3 a4 a5 a6 r).x) * (T a0 a1 a2 a3 a4 a5 a6 r).gn k := by
  pointwise [RP, DP]
  simp only [Fin.sum_univ_one, MS_at, RGN_at]
  rfl

theorem RF_at (k : Fin 1024) : RF a0 a1 a2 a3 a4 a5 a6 (ix2 0 k) = ∑ r : Fin 4096, (T a0 a1 a2 a3 a4 a5 a6 r).nh k * (T a0 a1 a2 a3 a4 a5 a6 r).go k := by
  pointwise [RF, DF, Row.nh]
  simp only [Fin.sum_univ_one, MH_at a0 a1 a2 a3 a4 a5 a6, RH_at a0 a1 a2 a3 a4 a5 a6, RG_at]

theorem RWG_at (j k : Fin 1024) : RWG a0 a1 a2 a3 a4 a5 a6 (ix2 j k) = ∑ r : Fin 4096, (T a0 a1 a2 a3 a4 a5 a6 r).hn j * (T a0 a1 a2 a3 a4 a5 a6 r).ge k := by
  pointwise [RWG, DWG]
  simp only [RN_at a0 a1 a2 a3 a4 a5 a6, RGE_at, mul_comm]

theorem RWU_at (j : Fin 256) (k : Fin 1024) : RWU a0 a1 a2 a3 a4 a5 a6 (ix2 j k) = ∑ r : Fin 4096, (T a0 a1 a2 a3 a4 a5 a6 r).p j * (T a0 a1 a2 a3 a4 a5 a6 r).gu k := by
  pointwise [RWU, DWU, GU, Row.gu]
  refine Finset.sum_congr rfl fun r _ => ?_
  rw [SG_at a0 a1 a2 a3 a4 a5 a6, RGH_at, mul_comm]
  rfl

variable (m' : (ℓ : Loc nD τ sig) → Buf (Elt Ideal) ℓ) (c : Dev nD)
  (h0 : m' ((c.tc : Thread nD τ).loc main_arg0) = a0) (h1 : m' ((c.tc : Thread nD τ).loc main_arg1) = a1)
  (h2 : m' ((c.tc : Thread nD τ).loc main_arg2) = a2) (h3 : m' ((c.tc : Thread nD τ).loc main_arg3) = a3)
  (h4 : m' ((c.tc : Thread nD τ).loc main_arg4) = a4) (h5 : m' ((c.tc : Thread nD τ).loc main_arg5) = a5)
  (h6 : m' ((c.tc : Thread nD τ).loc main_arg6) = a6)

open Cert.PleRefIdeal.Value StableHlo

/-! The reference's named arrays are the pieces above. -/

include h0 in
theorem v6 : res_main_v6 (launchContents m' c) = MS a0 := by subst h0; rfl
include h0 h3 in
theorem v15 : res_main_v15 (launchContents m' c) = RN a0 a3 := by
  rw [show res_main_v15 (launchContents m' c) = HN a0 a3 (res_main_v6 (launchContents m' c)) by subst h0 h3; rfl, v6 a0 m' c h0]; rfl
include h0 h3 h5 in
theorem v22 : res_main_v22 (launchContents m' c) = SG (RA a0 a3 a5) := by
  rw [show res_main_v22 (launchContents m' c) = SG (AA a5 (res_main_v15 (launchContents m' c))) by subst h5; rfl, v15 a0 a3 m' c h0 h3]; rfl
include h1 h6 in
theorem v26 : res_main_v26 (launchContents m' c) = EE a1 a6 := by subst h1 h6; rfl
include h0 h1 h3 h5 h6

theorem v28 : res_main_v28 (launchContents m' c) = RH a0 a1 a3 a5 a6 := by
  rw [show res_main_v28 (launchContents m' c) = HH a0 (res_main_v22 (launchContents m' c)) (res_main_v26 (launchContents m' c)) by
    subst h0; rfl, v22 a0 a3 a5 m' c h0 h3 h5, v26 a1 a6 m' c h1 h6]; rfl
theorem v35 : res_main_v35 (launchContents m' c) = MT (RH a0 a1 a3 a5 a6) := by
  rw [show res_main_v35 (launchContents m' c) = MT (res_main_v28 (launchContents m' c)) from rfl, v28 a0 a1 a3 a5 a6 m' c h0 h1 h3 h5 h6]
include h2 h4

theorem v45 : res_main_v45 (launchContents m' c) = RD a0 a1 a2 a3 a4 a5 a6 := by
  rw [show res_main_v45 (launchContents m' c) = DD a2 a4 (res_main_v28 (launchContents m' c)) (res_main_v35 (launchContents m' c)) by
    subst h2 h4; rfl, v28 a0 a1 a3 a5 a6 m' c h0 h1 h3 h5 h6, v35 a0 a1 a3 a5 a6 m' c h0 h1 h3 h5 h6]; rfl
theorem v59 : res_main_v59 (launchContents m' c) = RG a0 a1 a2 a3 a4 a5 a6 := by
  rw [show res_main_v59 (launchContents m' c) = GO (res_main_v45 (launchContents m' c)) from rfl,
    v45 a0 a1 a2 a3 a4 a5 a6 m' c h0 h1 h2 h3 h4 h5 h6]; rfl
theorem v79 : res_main_v79 (launchContents m' c) = RGH a0 a1 a2 a3 a4 a5 a6 := by
  rw [show res_main_v79 (launchContents m' c) = GH a4 (res_main_v28 (launchContents m' c)) (res_main_v35 (launchContents m' c))
      (res_main_v59 (launchContents m' c)) (VT a4 (res_main_v28 (launchContents m' c)) (res_main_v35 (launchContents m' c))
      (res_main_v59 (launchContents m' c))) by subst h4; rfl, v28 a0 a1 a3 a5 a6 m' c h0 h1 h3 h5 h6,
    v35 a0 a1 a3 a5 a6 m' c h0 h1 h3 h5 h6, v59 a0 a1 a2 a3 a4 a5 a6 m' c h0 h1 h2 h3 h4 h5 h6]; rfl
theorem v84 : res_main_v84 (launchContents m' c) = RGE a0 a1 a2 a3 a4 a5 a6 := by
  rw [show res_main_v84 (launchContents m' c) = GE (res_main_v22 (launchContents m' c)) (res_main_v26 (launchContents m' c))
      (res_main_v79 (launchContents m' c)) from rfl, v22 a0 a3 a5 m' c h0 h3 h5, v26 a1 a6 m' c h1 h6,
    v79 a0 a1 a2 a3 a4 a5 a6 m' c h0 h1 h2 h3 h4 h5 h6]; rfl
theorem v87 : res_main_v87 (launchContents m' c) = RGN a0 a1 a2 a3 a4 a5 a6 := by
  rw [show res_main_v87 (launchContents m' c) = GN a5 (res_main_v84 (launchContents m' c)) by subst h5; rfl,
    v84 a0 a1 a2 a3 a4 a5 a6 m' c h0 h1 h2 h3 h4 h5 h6]; rfl

/-! The reference's results. -/

theorem rX : addf (addf (addf (res_main_v79 (launchContents m' c)) (mulf (res_main_v92 (launchContents m' c))
    (broadcastInDim S4096x1024 ![0, 1] bcast_S4096x1_S4096x1024_0_1 (res_main_v7 (launchContents m' c)))))
    (mulf a0 (res_main_v104 (launchContents m' c)))) (mulf (res_main_v104 (launchContents m' c)) a0) = RX a0 a1 a2 a3 a4 a5 a6 := by
  have e : DX a0 a3 (res_main_v6 (launchContents m' c)) (res_main_v79 (launchContents m' c)) (res_main_v87 (launchContents m' c))
      (VIA a0 a3 (res_main_v6 (launchContents m' c)) (res_main_v87 (launchContents m' c))) = RX a0 a1 a2 a3 a4 a5 a6 := by
    rw [v6 a0 m' c h0, v79 a0 a1 a2 a3 a4 a5 a6 m' c h0 h1 h2 h3 h4 h5 h6, v87 a0 a1 a2 a3 a4 a5 a6 m' c h0 h1 h2 h3 h4 h5 h6]; rfl
  subst h0 h3
  exact e
theorem rXb : truncf .bf16 (addf (addf (addf (res_main_v79 (launchContents m' c)) (mulf (res_main_v92 (launchContents m' c))
    (broadcastInDim S4096x1024 ![0, 1] bcast_S4096x1_S4096x1024_0_1 (res_main_v7 (launchContents m' c)))))
    (mulf a0 (res_main_v104 (launchContents m' c)))) (mulf (res_main_v104 (launchContents m' c)) a0)) bitsLt_bf16_f32
      = truncf .bf16 (RX a0 a1 a2 a3 a4 a5 a6) bitsLt_bf16_f32 :=
  congrArg (truncf .bf16 · bitsLt_bf16_f32) (rX a0 a1 a2 a3 a4 a5 a6 m' c h0 h1 h2 h3 h4 h5 h6)
theorem rL : LS (res_main_v45 (launchContents m' c)) = RL a0 a1 a2 a3 a4 a5 a6 := by
  rw [v45 a0 a1 a2 a3 a4 a5 a6 m' c h0 h1 h2 h3 h4 h5 h6]; rfl
theorem rP : DP (m' ((c.tc : Thread nD τ).loc main_arg0)) (res_main_v6 (launchContents m' c)) (res_main_v87 (launchContents m' c))
    = RP a0 a1 a2 a3 a4 a5 a6 := by
  rw [h0, v6 a0 m' c h0, v87 a0 a1 a2 a3 a4 a5 a6 m' c h0 h1 h2 h3 h4 h5 h6]; rfl
theorem rF : DF (res_main_v28 (launchContents m' c)) (res_main_v35 (launchContents m' c)) (res_main_v59 (launchContents m' c))
    = RF a0 a1 a2 a3 a4 a5 a6 := by
  rw [v28 a0 a1 a3 a5 a6 m' c h0 h1 h3 h5 h6, v35 a0 a1 a3 a5 a6 m' c h0 h1 h3 h5 h6,
    v59 a0 a1 a2 a3 a4 a5 a6 m' c h0 h1 h2 h3 h4 h5 h6]; rfl
theorem rWG : DWG (res_main_v15 (launchContents m' c)) (res_main_v84 (launchContents m' c)) = RWG a0 a1 a2 a3 a4 a5 a6 := by
  rw [v15 a0 a3 m' c h0 h3, v84 a0 a1 a2 a3 a4 a5 a6 m' c h0 h1 h2 h3 h4 h5 h6]; rfl
theorem rWU : DWU a1 (GU (res_main_v22 (launchContents m' c)) (res_main_v79 (launchContents m' c))) = RWU a0 a1 a2 a3 a4 a5 a6 := by
  rw [v22 a0 a3 a5 m' c h0 h3 h5, v79 a0 a1 a2 a3 a4 a5 a6 m' c h0 h1 h2 h3 h4 h5 h6]; rfl

end Results
end Reference

end Cert.Ple
end
-- ==== Proof.PleValue.lean ====
/- The gated embedding add, the final norm and the loss, backward: the seven result arrays of the kernel are the reference's
   terms. -/
module

public import proofs.«01_k».proof.Proof.Gen.PleIdeal.Frame
public import proofs.«01_k».proof.Proof.PlePure
public import proofs.«01_k».proof.Proof.Gen.Pre_finite_ple
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ple

open Cert.PleIdeal Cert.PleIdeal.Gen
open Cert.Inproj (ms)
open Cert.Facts

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![0, 0]
    ∧ win0_10.index t = ![0, 0]
    ∧ win0_11.index t = ![0, 0]
    ∧ win0_12.index t = ![0, 0]
    ∧ win0_13.index t = ![0, 0]
    ∧ t.val < 8 :=
  (by decide +kernel : ∀ t : Fin grid0.N, _)

/-- The argument arrays: residual stream, embeddings, targets, the two norms' weights, the gate's and the embedding's matrix. -/
abbrev A0 (c : Dev nD) : FVec Ideal S4096x1024 .f32 := m ((c : Thread nD τ).loc main_arg0)
abbrev A1 (c : Dev nD) : FVec Ideal S4096x256 .f32 := m ((c : Thread nD τ).loc main_arg1)
abbrev A2 (c : Dev nD) : FVec Ideal S4096x1024 .f32 := m ((c : Thread nD τ).loc main_arg2)
abbrev A3 (c : Dev nD) : FVec Ideal S1024 .f32 := m ((c : Thread nD τ).loc main_arg3)
abbrev A4 (c : Dev nD) : FVec Ideal S1024 .f32 := m ((c : Thread nD τ).loc main_arg4)
abbrev A5 (c : Dev nD) : FVec Ideal S1024x1024 .f32 := m ((c : Thread nD τ).loc main_arg5)
abbrev A6 (c : Dev nD) : FVec Ideal S256x1024 .f32 := m ((c : Thread nD τ).loc main_arg6)

/-- Every argument is finite. -/
structure Finite : Prop where
  f0 : ∀ (c : Dev nD) (r : Fin 4096) (k : Fin 1024), IsReal (A0 m c (ix2 r k))
  f1 : ∀ (c : Dev nD) (r : Fin 4096) (k : Fin 256), IsReal (A1 m c (ix2 r k))
  f2 : ∀ (c : Dev nD) (r : Fin 4096) (k : Fin 1024), IsReal (A2 m c (ix2 r k))
  f3 : ∀ (c : Dev nD) (k : Fin 1024), IsReal (A3 m c (ix1 k))
  f4 : ∀ (c : Dev nD) (k : Fin 1024), IsReal (A4 m c (ix1 k))
  f5 : ∀ (c : Dev nD) (r : Fin 1024) (k : Fin 1024), IsReal (A5 m c (ix2 r k))
  f6 : ∀ (c : Dev nD) (r : Fin 256) (k : Fin 1024), IsReal (A6 m c (ix2 r k))

/-- The precondition's seven comparisons, at the arguments. -/
abbrev pf (c : Dev nD) :=
  Cert.Pre_finite_ple.fn (F := Ideal) (A0 m c) (A1 m c) (A2 m c) (A3 m c) (A4 m c) (A5 m c) (A6 m c)

theorem finite (h : ∀ c : Dev nD, (pf m c).1 = (fun _ => 1#1) ∧ (pf m c).2.1 = (fun _ => 1#1) ∧ (pf m c).2.2.1 = (fun _ => 1#1)
    ∧ (pf m c).2.2.2.1 = (fun _ => 1#1) ∧ (pf m c).2.2.2.2.1 = (fun _ => 1#1) ∧ (pf m c).2.2.2.2.2.1 = (fun _ => 1#1)
    ∧ (pf m c).2.2.2.2.2.2 = (fun _ => 1#1)) : Finite m where
  f0 c r k := by
    have e := congrFun (h c).1 (ix2 r k); pointwise [pf, Cert.Pre_finite_ple.fn] at e; exact real_of_abs_lt _ e
  f1 c r k := by
    have e := congrFun (h c).2.1 (ix2 r k); pointwise [pf, Cert.Pre_finite_ple.fn] at e; exact real_of_abs_lt _ e
  f2 c r k := by
    have e := congrFun (h c).2.2.1 (ix2 r k); pointwise [pf, Cert.Pre_finite_ple.fn] at e; exact real_of_abs_lt _ e
  f3 c k := by
    have e := congrFun (h c).2.2.2.1 (ix1 k); pointwise [pf, Cert.Pre_finite_ple.fn] at e; exact real_of_abs_lt _ e
  f4 c k := by
    have e := congrFun (h c).2.2.2.2.1 (ix1 k); pointwise [pf, Cert.Pre_finite_ple.fn] at e; exact real_of_abs_lt _ e
  f5 c r k := by
    have e := congrFun (h c).2.2.2.2.2.1 (ix2 r k); pointwise [pf, Cert.Pre_finite_ple.fn] at e; exact real_of_abs_lt _ e
  f6 c r k := by
    have e := congrFun (h c).2.2.2.2.2.2 (ix2 r k); pointwise [pf, Cert.Pre_finite_ple.fn] at e; exact real_of_abs_lt _ e

/-- Row `r` of block `t`. -/
def row (t : Fin cfg0.N) (r : Fin 512) : Fin 4096 :=
  ⟨t.val * 512 + r.val, by have := (idx t).2.2.2.2.2.2.2.2.2.2.2.2.2.2; omega⟩

/-! The blocks the body reads, at their rows. -/

theorem b0 (c : Dev nD) (t : Fin cfg0.N) (r : Fin 512) (k : Fin 1024) : iblk m c 0 t (ix2 r k) = A0 m c (ix2 (row t r) k) := by
  blk_ext [iblk, V, idx t, row]
theorem b1 (c : Dev nD) (t : Fin cfg0.N) (r : Fin 512) (k : Fin 256) : iblk m c 1 t (ix2 r k) = A1 m c (ix2 (row t r) k) := by
  blk_ext [iblk, V, idx t, row]
theorem b2 (c : Dev nD) (t : Fin cfg0.N) (r : Fin 512) (k : Fin 1024) : iblk m c 2 t (ix2 r k) = A2 m c (ix2 (row t r) k) := by
  blk_ext [iblk, V, idx t, row]
theorem b3 (c : Dev nD) (t : Fin cfg0.N) (k : Fin 1024) : iblk m c 3 t (ix2 0 k) = A3 m c (ix1 k) := by
  blk_point [iblk, V, idx t]
theorem b4 (c : Dev nD) (t : Fin cfg0.N) (k : Fin 1024) : iblk m c 4 t (ix2 0 k) = A4 m c (ix1 k) := by
  blk_point [iblk, V, idx t]
theorem b5 (c : Dev nD) (t : Fin cfg0.N) (k j : Fin 1024) : iblk m c 5 t (ix2 k j) = A5 m c (ix2 k j) := by
  blk_point [iblk, V, idx t]
theorem b6 (c : Dev nD) (t : Fin cfg0.N) (k : Fin 256) (j : Fin 1024) : iblk m c 6 t (ix2 k j) = A6 m c (ix2 k j) := by
  blk_point [iblk, V, idx t]

/-- A row of the arguments. -/
abbrev tok (c : Dev nD) (r : Fin 4096) : Row := T (A0 m c) (A1 m c) (A2 m c) (A3 m c) (A4 m c) (A5 m c) (A6 m c) r

/-- A row of the blocks at grid point `t`. -/
abbrev blkRow (c : Dev nD) (t : Fin cfg0.N) (r : Fin 512) : Row :=
  K (iblk m c 0 t) (iblk m c 1 t) (iblk m c 2 t) (iblk m c 3 t) (iblk m c 4 t) (iblk m c 5 t) (iblk m c 6 t) r

theorem blkRow_eq (c : Dev nD) (t : Fin cfg0.N) (r : Fin 512) : blkRow m c t r = tok m c (row t r) := by
  unfold blkRow K
  rw [funext fun k => b0 m c t r k, funext fun k => b1 m c t r k, funext fun k => b2 m c t r k, funext fun k => b3 m c t k,
    funext fun k => b4 m c t k, funext fun k => funext fun j => b5 m c t k j, funext fun k => funext fun j => b6 m c t k j]
  rfl

variable (h : Finite m) (c : Dev nD) (t : Fin cfg0.N)

theorem reals (h : Finite m) (r : Fin 4096) : (tok m c r).Reals :=
  ⟨fun _ => h.f0 c _ _, fun _ => h.f1 c _ _, fun _ => h.f2 c _ _, fun _ => h.f3 c _, fun _ => h.f4 c _, fun _ _ => h.f5 c _ _,
    fun _ _ => h.f6 c _ _⟩

theorem blkReals (h : Finite m) (r : Fin 512) : (blkRow m c t r).Reals := by
  rw [blkRow_eq]; exact reals m c h _

/-! The residual stream's gradient, in both formats. -/

theorem emb7 (r : Fin 512) (k : Fin 1024) : ((cfg0.win 7).blk t).view.emb (ix2 r k) = (ix2 (row t r) k : S4096x1024.Idx) := by
  blk_ext [idx t, row]
theorem emb8 (r : Fin 512) (k : Fin 1024) : ((cfg0.win 8).blk t).view.emb (ix2 r k) = (ix2 (row t r) k : S4096x1024.Idx) := by
  blk_ext [idx t, row]

theorem point7 (h : Finite m) (y) :
    k40 (iblk m c 0 t) (iblk m c 1 t) (iblk m c 2 t) (iblk m c 3 t) (iblk m c 4 t) (iblk m c 5 t) (iblk m c 6 t) y
      = RX (A0 m c) (A1 m c) (A2 m c) (A3 m c) (A4 m c) (A5 m c) (A6 m c) (((cfg0.win 7).blk t).view.emb y) := by
  obtain ⟨r, k, rfl⟩ : ∃ (r : Fin 512) (k : Fin 1024), y = ix2 r k := ⟨y 0, y 1, eq_ix2 y⟩
  rw [emb7]
  exact (k40_at (blkReals m c t h) r k).trans
    ((congrArg (Row.gx · k) (blkRow_eq m c t r)).trans (RX_at _ _ _ _ _ _ _ (row t r) k).symm)

theorem final7 (h : Finite m) (c : Dev nD) :
    (dats m 0 c).arrAt 7 (cfgs 0).N = RX (A0 m c) (A1 m c) (A2 m c) (A3 m c) (A4 m c) (A5 m c) (A6 m c) := by
  refine (dats m 0 c).arrAt_eq_of_covers 7 _ (by decide +kernel) fun t hf y => ?_
  blk_simp; rw [after0_7]
  by_cases h0 : t.val % 8 = 0
  · rw [outsAt0_A m c t h0 h0 h0 h0 h0]; frame_out; exact point7 m c t h y
  · rw [outsAt0_B m c t h0 h0 h0 h0 h0]; frame_out; exact point7 m c t h y

theorem pay43_at (y) : @Eq EReal
    (k0_pay43 (F := Ideal) (iblk m c 0 t)
      (k38 (iblk m c 0 t) (iblk m c 1 t) (iblk m c 2 t) (iblk m c 3 t) (iblk m c 4 t) (iblk m c 5 t) (iblk m c 6 t))
      (k39 (iblk m c 0 t) (iblk m c 1 t) (iblk m c 2 t) (iblk m c 3 t) (iblk m c 4 t) (iblk m c 5 t) (iblk m c 6 t)) y)
    (k40 (iblk m c 0 t) (iblk m c 1 t) (iblk m c 2 t) (iblk m c 3 t) (iblk m c 4 t) (iblk m c 5 t) (iblk m c 6 t) y) := by
  obtain ⟨r, k, rfl⟩ : ∃ (r : Fin 512) (k : Fin 1024), y = ix2 r k := ⟨y 0, y 1, eq_ix2 y⟩
  pointwise [k0_pay43]

theorem point8 (h : Finite m) (y) : @Eq EReal
    (k0_pay43 (F := Ideal) (iblk m c 0 t)
      (k38 (iblk m c 0 t) (iblk m c 1 t) (iblk m c 2 t) (iblk m c 3 t) (iblk m c 4 t) (iblk m c 5 t) (iblk m c 6 t))
      (k39 (iblk m c 0 t) (iblk m c 1 t) (iblk m c 2 t) (iblk m c 3 t) (iblk m c 4 t) (iblk m c 5 t) (iblk m c 6 t)) y)
    (RX (A0 m c) (A1 m c) (A2 m c) (A3 m c) (A4 m c) (A5 m c) (A6 m c) (((cfg0.win 8).blk t).view.emb y)) := by
  rw [pay43_at]
  refine (point7 m c t h y).trans ?_
  obtain ⟨r, k, rfl⟩ : ∃ (r : Fin 512) (k : Fin 1024), y = ix2 r k := ⟨y 0, y 1, eq_ix2 y⟩
  rw [emb7, emb8]

theorem final8 (h : Finite m) (c : Dev nD) : (dats m 0 c).arrAt 8 (cfgs 0).N
    = truncf (F := Ideal) .bf16 (RX (A0 m c) (A1 m c) (A2 m c) (A3 m c) (A4 m c) (A5 m c) (A6 m c)) bitsLt_bf16_f32 := by
  refine (dats m 0 c).arrAt_eq_of_covers 8 _ (by decide +kernel) fun t hf y => ?_
  blk_simp; rw [after0_8]
  by_cases h0 : t.val % 8 = 0
  · rw [outsAt0_A m c t h0 h0 h0 h0 h0]; frame_out; exact point8 m c t h y
  · rw [outsAt0_B m c t h0 h0 h0 h0 h0]; frame_out; exact point8 m c t h y

/-- A sum over all rows, block by block. -/
theorem sum_rows (f : Row → EReal) (g : Fin cfg0.N → EReal) (e : ∀ t, g t = ∑ r : Fin 512, f (blkRow m c t r)) :
    ∑ t : Fin 8, g t = ∑ r : Fin 4096, f (tok m c r) :=
  (Finset.sum_congr rfl fun t _ => (e t).trans (Finset.sum_congr rfl fun r _ => congrArg f (blkRow_eq m c t r))).trans
    (Fin.sum_univ_tiles 8 512 rfl fun r => f (tok m c r)).symm

/-- An accumulator reset at the first grid point and added to at every other holds the sum over all rows at the last. -/
theorem accum {S : Shape} (X : (n : ℕ) → n < cfg0.N → FVec Ideal S .f32) (P : Fin cfg0.N → FVec Ideal S .f32)
    (hr : ∀ t : Fin cfg0.N, t.val % 8 = 0 → ∀ j, @Eq EReal (X t.val t.isLt j) (0 + P t j))
    (hs : ∀ t : Fin cfg0.N, ¬t.val % 8 = 0 → ∀ j,
      @Eq EReal (X t.val t.isLt j) (X (t.val - 1) (Nat.lt_of_le_of_lt (Nat.sub_le _ _) t.isLt) j + P t j))
    (j : S.Idx) (f : Row → EReal) (e : ∀ t, @Eq EReal (P t j) (∑ r : Fin 512, f (blkRow m c t r))) :
    @Eq EReal (X t0_7.val t0_7.isLt j) (∑ r : Fin 4096, f (tok m c r)) := by
  refine (Pipeline.eq_sum_fin_of_reset_step_apply_last X 8 (fun _ => (0 : EReal)) P hr hs (le_of_eq N_0) t0_7 rfl j).trans ?_
  rw [zero_add]
  exact sum_rows m c f (fun t => P t j) e

theorem row_ix (j : S1x1024.Idx) : ∃ k : Fin 1024, j = ix2 0 k :=
  ⟨j 1, by rw [eq_ix2 j]; congr 1; exact Fin.ext (Nat.lt_one_iff.1 (j 0).isLt)⟩

/-- A real factor of a sum of real numbers. -/
theorem mul_sum_real {n : ℕ} {f : Fin n → EReal} (hf : ∀ i, IsReal (f i)) {a : EReal} (ha : IsReal a) :
    a * ∑ i, f i = ∑ i, a * f i := by
  obtain ⟨a, rfl⟩ := ha
  choose g hg using hf
  rw [show f = fun i => (g i : EReal) from funext hg]
  simp only [← EReal.coe_mul]
  rw [← coe_sum, ← coe_sum, ← EReal.coe_mul, Finset.mul_sum]

/-! The loss, summed over the blocks. -/

def KL : FVec Ideal S8x128 .f32 := fun _ => k28 (iblk m c 0 t) (iblk m c 1 t) (iblk m c 2 t) (iblk m c 3 t) (iblk m c 4 t) (iblk m c 5 t) (iblk m c 6 t)

theorem zero9 (j) : @Eq EReal (k0_pay44 (F := Ideal) j) 0 := by
  obtain ⟨i, k, rfl⟩ : ∃ (i : Fin 8) (k : Fin 128), j = ix2 i k := ⟨j 0, j 1, eq_ix2 j⟩
  pointwise [k0_pay44]

theorem add9 (u : EReal) (v : FVec Ideal S8x128 .f32) (j) : @Eq EReal (k0_pay45 (F := Ideal) u v j) (v j + u) := by
  obtain ⟨i, k, rfl⟩ : ∃ (i : Fin 8) (k : Fin 128), j = ix2 i k := ⟨j 0, j 1, eq_ix2 j⟩
  pointwise [k0_pay45]

theorem reset9 (h0 : t.val % 8 = 0) (j) : @Eq EReal ((outsAt0 m c t.val t.isLt).2.2.1 j) (0 + KL m c t j) := by
  rw [outsAt0_A m c t h0 h0 h0 h0 h0]; frame_out
  exact (add9 _ _ j).trans (congrArg (· + KL m c t j) (zero9 j))

theorem step9 (h0 : ¬t.val % 8 = 0) (j) :
    @Eq EReal ((outsAt0 m c t.val t.isLt).2.2.1 j)
      ((outsAt0 m c (t.val - 1) (Nat.lt_of_le_of_lt (Nat.sub_le _ _) t.isLt)).2.2.1 j + KL m c t j) := by
  rw [outsAt0_B m c t h0 h0 h0 h0 h0]; frame_out
  exact add9 _ _ j

theorem final9 (h : Finite m) (c : Dev nD) :
    (dats m 0 c).arrAt 9 (cfgs 0).N = RL (A0 m c) (A1 m c) (A2 m c) (A3 m c) (A4 m c) (A5 m c) (A6 m c) := by
  refine (dats m 0 c).arrAt_eq_of_after_last 9 t0_7 (by decide +kernel) _ fun j => ?_
  obtain ⟨i, k, rfl⟩ : ∃ (i : Fin 8) (k : Fin 128), j = ix2 i k := ⟨j 0, j 1, eq_ix2 j⟩
  blk_simp
  rw [after0_9]
  have hh : IsReal (Ideal.ofBits .f32 0x3F000000#32) := by obtain ⟨a, ha⟩ := Cert.S5Post.half; exact ⟨a, ha⟩
  refine (accum m c (fun n h => (outsAt0 m c n h).2.2.1) (KL m c) (reset9 m c) (step9 m c) (ix2 i k)
    (fun R => Ideal.ofBits .f32 0x3F000000#32 * R.loss) fun t => ?_).trans ?_
  · exact (k28_at _ _ _ _ _ _ _).trans (mul_sum_real (fun r => (blkReals m c t h r).loss) hh)
  · exact (mul_sum_real (fun r => (reals m c h r).loss) hh).symm.trans (RL_at _ _ _ _ _ _ _ i k).symm

/-! The first norm's weights' gradient, summed over the blocks. -/

def KP : FVec Ideal S1x1024 .f32 := k36 (iblk m c 0 t) (iblk m c 1 t) (iblk m c 2 t) (iblk m c 3 t) (iblk m c 4 t) (iblk m c 5 t) (iblk m c 6 t)

theorem zero10 (j) : @Eq EReal (k0_pay46 (F := Ideal) j) 0 := by
  obtain ⟨i, k, rfl⟩ : ∃ (i : Fin 1) (k : Fin 1024), j = ix2 i k := ⟨j 0, j 1, eq_ix2 j⟩
  pointwise [k0_pay46]

theorem add10 (u : FVec Ideal S1x1024 .f32) (v : FVec Ideal S1x1024 .f32) (j) : @Eq EReal (k0_pay47 (F := Ideal) u v j) (v j + u j) := by
  obtain ⟨i, k, rfl⟩ : ∃ (i : Fin 1) (k : Fin 1024), j = ix2 i k := ⟨j 0, j 1, eq_ix2 j⟩
  pointwise [k0_pay47]

theorem reset10 (h0 : t.val % 8 = 0) (j) : @Eq EReal ((outsAt0 m c t.val t.isLt).2.2.2.1 j) (0 + KP m c t j) := by
  rw [outsAt0_A m c t h0 h0 h0 h0 h0]; frame_out
  exact (add10 _ _ j).trans (congrArg (· + KP m c t j) (zero10 j))

theorem step10 (h0 : ¬t.val % 8 = 0) (j) :
    @Eq EReal ((outsAt0 m c t.val t.isLt).2.2.2.1 j)
      ((outsAt0 m c (t.val - 1) (Nat.lt_of_le_of_lt (Nat.sub_le _ _) t.isLt)).2.2.2.1 j + KP m c t j) := by
  rw [outsAt0_B m c t h0 h0 h0 h0 h0]; frame_out
  exact add10 _ _ j

theorem final10 (h : Finite m) (c : Dev nD) :
    (dats m 0 c).arrAt 10 (cfgs 0).N = RP (A0 m c) (A1 m c) (A2 m c) (A3 m c) (A4 m c) (A5 m c) (A6 m c) := by
  refine (dats m 0 c).arrAt_eq_of_after_last 10 t0_7 (by decide +kernel) _ fun j => ?_
  obtain ⟨k, rfl⟩ := row_ix j
  blk_simp
  rw [after0_10]
  exact (accum m c (fun n h => (outsAt0 m c n h).2.2.2.1) (KP m c) (reset10 m c) (step10 m c) (ix2 0 k)
    (fun R => R.x k * Ideal.rsqrt (ms R.x) * R.gn k) fun t => k36_at (blkReals m c t h) k).trans (RP_at _ _ _ _ _ _ _ k).symm

/-! The final norm's weights' gradient, summed over the blocks. -/

def KF : FVec Ideal S1x1024 .f32 := k0_pay31 (F := Ideal) (k30 (iblk m c 0 t) (iblk m c 1 t) (iblk m c 2 t) (iblk m c 3 t) (iblk m c 4 t) (iblk m c 5 t) (iblk m c 6 t))

theorem zero11 (j) : @Eq EReal (k0_pay48 (F := Ideal) j) 0 := by
  obtain ⟨i, k, rfl⟩ : ∃ (i : Fin 1) (k : Fin 1024), j = ix2 i k := ⟨j 0, j 1, eq_ix2 j⟩
  pointwise [k0_pay48]

theorem add11 (u : FVec Ideal S1x1024 .f32) (v : FVec Ideal S1x1024 .f32) (j) : @Eq EReal (k0_pay1 (F := Ideal) u v j) (v j + u j) := by
  obtain ⟨i, k, rfl⟩ : ∃ (i : Fin 1) (k : Fin 1024), j = ix2 i k := ⟨j 0, j 1, eq_ix2 j⟩
  pointwise [k0_pay1]

theorem reset11 (h0 : t.val % 8 = 0) (j) : @Eq EReal ((outsAt0 m c t.val t.isLt).2.2.2.2.1 j) (0 + KF m c t j) := by
  rw [outsAt0_A m c t h0 h0 h0 h0 h0]; frame_out
  exact (add11 _ _ j).trans (congrArg (· + KF m c t j) (zero11 j))

theorem step11 (h0 : ¬t.val % 8 = 0) (j) :
    @Eq EReal ((outsAt0 m c t.val t.isLt).2.2.2.2.1 j)
      ((outsAt0 m c (t.val - 1) (Nat.lt_of_le_of_lt (Nat.sub_le _ _) t.isLt)).2.2.2.2.1 j + KF m c t j) := by
  rw [outsAt0_B m c t h0 h0 h0 h0 h0]; frame_out
  exact add11 _ _ j

theorem final11 (h : Finite m) (c : Dev nD) :
    (dats m 0 c).arrAt 11 (cfgs 0).N = RF (A0 m c) (A1 m c) (A2 m c) (A3 m c) (A4 m c) (A5 m c) (A6 m c) := by
  refine (dats m 0 c).arrAt_eq_of_after_last 11 t0_7 (by decide +kernel) _ fun j => ?_
  obtain ⟨k, rfl⟩ := row_ix j
  blk_simp
  rw [after0_11]
  exact (accum m c (fun n h => (outsAt0 m c n h).2.2.2.2.1) (KF m c) (reset11 m c) (step11 m c) (ix2 0 k)
    (fun R => R.nh k * R.go k) fun t => pay31_at (blkReals m c t h) k).trans (RF_at _ _ _ _ _ _ _ k).symm

/-! The gate's matrix's gradient, summed over the blocks. -/

def KG : FVec Ideal S1024x1024 .f32 := k0_pay41 (F := Ideal) (k15 (iblk m c 0 t) (iblk m c 3 t)) (k34 (iblk m c 0 t) (iblk m c 1 t) (iblk m c 2 t) (iblk m c 3 t) (iblk m c 4 t) (iblk m c 5 t) (iblk m c 6 t))

theorem zero12 (j) : @Eq EReal (k0_pay2 (F := Ideal) j) 0 := by
  obtain ⟨i, k, rfl⟩ : ∃ (i : Fin 1024) (k : Fin 1024), j = ix2 i k := ⟨j 0, j 1, eq_ix2 j⟩
  pointwise [k0_pay2]

theorem add12 (u : FVec Ideal S1024x1024 .f32) (v : FVec Ideal S1024x1024 .f32) (j) : @Eq EReal (k0_pay3 (F := Ideal) u v j) (v j + u j) := by
  obtain ⟨i, k, rfl⟩ : ∃ (i : Fin 1024) (k : Fin 1024), j = ix2 i k := ⟨j 0, j 1, eq_ix2 j⟩
  pointwise [k0_pay3]

theorem reset12 (h0 : t.val % 8 = 0) (j) : @Eq EReal ((outsAt0 m c t.val t.isLt).2.2.2.2.2.1 j) (0 + KG m c t j) := by
  rw [outsAt0_A m c t h0 h0 h0 h0 h0]; frame_out
  exact (add12 _ _ j).trans (congrArg (· + KG m c t j) (zero12 j))

theorem step12 (h0 : ¬t.val % 8 = 0) (j) :
    @Eq EReal ((outsAt0 m c t.val t.isLt).2.2.2.2.2.1 j)
      ((outsAt0 m c (t.val - 1) (Nat.lt_of_le_of_lt (Nat.sub_le _ _) t.isLt)).2.2.2.2.2.1 j + KG m c t j) := by
  rw [outsAt0_B m c t h0 h0 h0 h0 h0]; frame_out
  exact add12 _ _ j

theorem final12 (h : Finite m) (c : Dev nD) :
    (dats m 0 c).arrAt 12 (cfgs 0).N = RWG (A0 m c) (A1 m c) (A2 m c) (A3 m c) (A4 m c) (A5 m c) (A6 m c) := by
  refine (dats m 0 c).arrAt_eq_of_after_last 12 t0_7 (by decide +kernel) _ fun j => ?_
  obtain ⟨j, k, rfl⟩ : ∃ (i : Fin 1024) (k : Fin 1024), j = ix2 i k := ⟨j 0, j 1, eq_ix2 j⟩
  blk_simp
  rw [after0_12]
  exact (accum m c (fun n h => (outsAt0 m c n h).2.2.2.2.2.1) (KG m c) (reset12 m c) (step12 m c) (ix2 j k)
    (fun R => R.hn j * R.ge k) fun t => pay41_at (blkReals m c t h) j k).trans (RWG_at _ _ _ _ _ _ _ j k).symm

/-! The embedding's matrix's gradient, summed over the blocks. -/

def KU : FVec Ideal S256x1024 .f32 := k0_pay42 (F := Ideal) (iblk m c 1 t) (k33 (iblk m c 0 t) (iblk m c 1 t) (iblk m c 2 t) (iblk m c 3 t) (iblk m c 4 t) (iblk m c 5 t) (iblk m c 6 t))

theorem zero13 (j) : @Eq EReal (k0_pay4 (F := Ideal) j) 0 := by
  obtain ⟨i, k, rfl⟩ : ∃ (i : Fin 256) (k : Fin 1024), j = ix2 i k := ⟨j 0, j 1, eq_ix2 j⟩
  pointwise [k0_pay4]

theorem add13 (u : FVec Ideal S256x1024 .f32) (v : FVec Ideal S256x1024 .f32) (j) : @Eq EReal (k0_pay5 (F := Ideal) u v j) (v j + u j) := by
  obtain ⟨i, k, rfl⟩ : ∃ (i : Fin 256) (k : Fin 1024), j = ix2 i k := ⟨j 0, j 1, eq_ix2 j⟩
  pointwise [k0_pay5]

theorem reset13 (h0 : t.val % 8 = 0) (j) : @Eq EReal ((outsAt0 m c t.val t.isLt).2.2.2.2.2.2 j) (0 + KU m c t j) := by
  rw [outsAt0_A m c t h0 h0 h0 h0 h0]; frame_out
  exact (add13 _ _ j).trans (congrArg (· + KU m c t j) (zero13 j))

theorem step13 (h0 : ¬t.val % 8 = 0) (j) :
    @Eq EReal ((outsAt0 m c t.val t.isLt).2.2.2.2.2.2 j)
      ((outsAt0 m c (t.val - 1) (Nat.lt_of_le_of_lt (Nat.sub_le _ _) t.isLt)).2.2.2.2.2.2 j + KU m c t j) := by
  rw [outsAt0_B m c t h0 h0 h0 h0 h0]; frame_out
  exact add13 _ _ j

theorem final13 (h : Finite m) (c : Dev nD) :
    (dats m 0 c).arrAt 13 (cfgs 0).N = RWU (A0 m c) (A1 m c) (A2 m c) (A3 m c) (A4 m c) (A5 m c) (A6 m c) := by
  refine (dats m 0 c).arrAt_eq_of_after_last 13 t0_7 (by decide +kernel) _ fun j => ?_
  obtain ⟨j, k, rfl⟩ : ∃ (i : Fin 256) (k : Fin 1024), j = ix2 i k := ⟨j 0, j 1, eq_ix2 j⟩
  blk_simp
  rw [after0_13]
  exact (accum m c (fun n h => (outsAt0 m c n h).2.2.2.2.2.2) (KU m c) (reset13 m c) (step13 m c) (ix2 j k)
    (fun R => R.p j * R.gu k) fun t => pay42_at (blkReals m c t h) j k).trans (RWU_at _ _ _ _ _ _ _ j k).symm

end Cert.Ple
end
-- ==== Proof.S5PostValue.lean ====
/- The S5 heads' gate, backward: the four result arrays of the kernel are the reference's terms. -/
module

public import proofs.«01_k».proof.Proof.Gen.S5PostIdeal.Frame
public import proofs.«01_k».proof.Proof.S5PostPure
public import proofs.«01_k».proof.Proof.RealFacts
public import proofs.«01_k».proof.Proof.Gen.Pre_finite_s5post
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.S5Post

open Cert.S5PostIdeal Cert.S5PostIdeal.Gen
open Cert.Facts
open Cert.Ffn (lgs)

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![0, 0]
    ∧ win0_7.index t = ![0, 0]
    ∧ win0_8.index t = ![0, 0]
    ∧ t.val < 8 :=
  (by decide +kernel : ∀ t : Fin grid0.N, _)

/-- The argument arrays: gelu's argument, the gate's matrix and bias, the output projection, the output's cotangent. -/
abbrev A0 (c : Dev nD) : FVec Ideal S4096x512 .f32 := m ((c : Thread nD τ).loc main_arg0)
abbrev A1 (c : Dev nD) : FVec Ideal S512x512 .f32 := m ((c : Thread nD τ).loc main_arg1)
abbrev A2 (c : Dev nD) : FVec Ideal S512 .f32 := m ((c : Thread nD τ).loc main_arg2)
abbrev A3 (c : Dev nD) : FVec Ideal S1024x1024 .f32 := m ((c : Thread nD τ).loc main_arg3)
abbrev A4 (c : Dev nD) : FVec Ideal S4096x1024 .f32 := m ((c : Thread nD τ).loc main_arg4)

/-- Every argument is finite. -/
structure Finite : Prop where
  f0 : ∀ (c : Dev nD) (r : Fin 4096) (k : Fin 512), IsReal (A0 m c (ix2 r k))
  f1 : ∀ (c : Dev nD) (k : Fin 512) (j : Fin 512), IsReal (A1 m c (ix2 k j))
  f2 : ∀ (c : Dev nD) (k : Fin 512), IsReal (A2 m c (ix1 k))
  f3 : ∀ (c : Dev nD) (j : Fin 1024) (k : Fin 1024), IsReal (A3 m c (ix2 j k))
  f4 : ∀ (c : Dev nD) (r : Fin 4096) (k : Fin 1024), IsReal (A4 m c (ix2 r k))

/-- The precondition's five comparisons, at the arguments. -/
abbrev pf (c : Dev nD) := Cert.Pre_finite_s5post.fn (F := Ideal) (A0 m c) (A1 m c) (A2 m c) (A3 m c) (A4 m c)

theorem finite (h : ∀ c : Dev nD, (pf m c).1 = (fun _ => 1#1) ∧ (pf m c).2.1 = (fun _ => 1#1) ∧ (pf m c).2.2.1 = (fun _ => 1#1)
    ∧ (pf m c).2.2.2.1 = (fun _ => 1#1) ∧ (pf m c).2.2.2.2 = (fun _ => 1#1)) : Finite m where
  f0 c r k := by
    have e := congrFun (h c).1 (ix2 r k); pointwise [pf, Cert.Pre_finite_s5post.fn] at e; exact real_of_abs_lt _ e
  f1 c r k := by
    have e := congrFun (h c).2.1 (ix2 r k); pointwise [pf, Cert.Pre_finite_s5post.fn] at e; exact real_of_abs_lt _ e
  f2 c k := by
    have e := congrFun (h c).2.2.1 (ix1 k); pointwise [pf, Cert.Pre_finite_s5post.fn] at e; exact real_of_abs_lt _ e
  f3 c r k := by
    have e := congrFun (h c).2.2.2.1 (ix2 r k); pointwise [pf, Cert.Pre_finite_s5post.fn] at e; exact real_of_abs_lt _ e
  f4 c r k := by
    have e := congrFun (h c).2.2.2.2 (ix2 r k); pointwise [pf, Cert.Pre_finite_s5post.fn] at e; exact real_of_abs_lt _ e

/-- Row `r` of block `t`. -/
def row (t : Fin cfg0.N) (r : Fin 512) : Fin 4096 := ⟨t.val * 512 + r.val, by have := (idx t).2.2.2.2.2.2.2.2.2; omega⟩

/-! The blocks the body reads, at their rows. -/

theorem b0 (c : Dev nD) (t : Fin cfg0.N) (r k : Fin 512) : iblk m c 0 t (ix2 r k) = A0 m c (ix2 (row t r) k) := by
  blk_ext [iblk, V, idx t, row]
theorem b1 (c : Dev nD) (t : Fin cfg0.N) (r : Fin 512) (k : Fin 1024) : iblk m c 1 t (ix2 r k) = A4 m c (ix2 (row t r) k) := by
  blk_ext [iblk, V, idx t, row]
theorem b2 (c : Dev nD) (t : Fin cfg0.N) (k j : Fin 512) : iblk m c 2 t (ix2 k j) = A1 m c (ix2 k j) := by
  blk_point [iblk, V, idx t]
theorem b3 (c : Dev nD) (t : Fin cfg0.N) (k : Fin 512) : iblk m c 3 t (ix2 0 k) = A2 m c (ix1 k) := by
  blk_point [iblk, V, idx t]
theorem b4 (c : Dev nD) (t : Fin cfg0.N) (j : Fin 512) (k : Fin 1024) :
    iblk m c 4 t (ix2 j k) = A3 m c (ix2 ⟨j.val, by omega⟩ k) := by
  blk_point [iblk, V, idx t]

variable (h : Finite m) (c : Dev nD) (t : Fin cfg0.N)

theorem reals (h : Finite m) : Reals (iblk m c 0 t) (iblk m c 1 t) (iblk m c 2 t) (iblk m c 3 t) (iblk m c 4 t) where
  y r j := IsReal.of_eq (b0 m c t r j) (h.f0 c _ _)
  ct r j := IsReal.of_eq (b1 m c t r j) (h.f4 c _ _)
  w k j := IsReal.of_eq (b2 m c t k j) (h.f1 c _ _)
  b j := IsReal.of_eq (b3 m c t j) (h.f2 c _)
  wt j k := IsReal.of_eq (b4 m c t j k) (h.f3 c _ _)

theorem pre_at (r j : Fin 512) : kpre (iblk m c 0 t) (iblk m c 2 t) (iblk m c 3 t) r j = rpre (A0 m c) (A1 m c) (A2 m c) (row t r) j := by
  unfold kpre rpre
  rw [funext fun k => b0 m c t r k, funext fun k => funext fun j => b2 m c t k j, funext fun k => b3 m c t k]

theorem go_at (r j : Fin 512) : kgo (iblk m c 1 t) (iblk m c 4 t) r j = rgo (A3 m c) (A4 m c) (row t r) j := by
  unfold kgo rgo
  rw [funext fun k => b1 m c t r k, funext fun j => funext fun k => b4 m c t j k]

theorem de_at (r j : Fin 512) :
    de (zf (iblk m c 0 t (ix2 r j))) (kpre (iblk m c 0 t) (iblk m c 2 t) (iblk m c 3 t) r j) (kgo (iblk m c 1 t) (iblk m c 4 t) r j)
      = rde (A0 m c) (A1 m c) (A2 m c) (A3 m c) (A4 m c) (row t r) j := by
  rw [pre_at, go_at, b0]

theorem dz_at (r k : Fin 512) :
    kdz (iblk m c 0 t) (iblk m c 1 t) (iblk m c 2 t) (iblk m c 3 t) (iblk m c 4 t) r k
      = dz (rgo (A3 m c) (A4 m c) (row t r) k) (rpre (A0 m c) (A1 m c) (A2 m c) (row t r) k)
          (fun j => rde (A0 m c) (A1 m c) (A2 m c) (A3 m c) (A4 m c) (row t r) j) (fun j => A1 m c (ix2 k j)) := by
  unfold kdz
  rw [pre_at, go_at, funext fun j => de_at m c t r j, funext fun j => b2 m c t k j]

/-! The gradient of gelu's argument. -/

theorem emb5 (r k : Fin 512) : ((cfg0.win 5).blk t).view.emb (ix2 r k) = (ix2 (row t r) k : S4096x512.Idx) := by
  blk_ext [idx t, row]

theorem point5 (h : Finite m) (y) :
    k0_pay22 (iblk m c 0 t) (iblk m c 1 t) (k0_pay7 (iblk m c 2 t)) (k0_pay8 (iblk m c 4 t)) (k0_pay9 (iblk m c 0 t)) (k0_pay10 (iblk m c 0 t))
        (k0_pay12 (iblk m c 0 t)) (k0_pay13 (iblk m c 0 t)) (k0_pay14 (iblk m c 0 t)) (k0_pay15 (iblk m c 0 t) (iblk m c 2 t) (iblk m c 3 t))
        (k0_pay16 (iblk m c 0 t) (iblk m c 2 t) (iblk m c 3 t)) k0_pay17 y
      = RY (A0 m c) (A1 m c) (A2 m c) (A3 m c) (A4 m c) (((cfg0.win 5).blk t).view.emb y) := by
  obtain ⟨r, k, rfl⟩ : ∃ (r k : Fin 512), y = ix2 r k := ⟨y 0, y 1, eq_ix2 y⟩
  rw [emb5]
  exact (pay22_at (reals m c t h) r k).trans ((congrArg₂ dy (b0 m c t r k) (dz_at m c t r k)).trans (RY_at _ _ _ _ _ (row t r) k).symm)

theorem final5 (h : Finite m) (c : Dev nD) : (dats m 0 c).arrAt 5 (cfgs 0).N = RY (A0 m c) (A1 m c) (A2 m c) (A3 m c) (A4 m c) := by
  refine (dats m 0 c).arrAt_eq_of_covers 5 _ (by decide +kernel) fun t hf y => ?_
  blk_simp; rw [after0_5]
  by_cases h0 : t.val % 8 = 0
  · rw [outsAt0_A m c t h0 h0 h0]; frame_out; exact point5 m c t h y
  · rw [outsAt0_B m c t h0 h0 h0]; frame_out; exact point5 m c t h y

/-! The bias's gradient, summed over the blocks. -/

def KB : FVec Ideal S1x512 .f32 :=
  k0_pay21 (F := Ideal) (iblk m c 1 t) (k0_pay8 (iblk m c 4 t)) (k0_pay14 (iblk m c 0 t)) (k0_pay15 (iblk m c 0 t) (iblk m c 2 t) (iblk m c 3 t))
    (k0_pay16 (iblk m c 0 t) (iblk m c 2 t) (iblk m c 3 t))

theorem part6 (h : Finite m) (k : Fin 512) :
    KB m c t (ix2 0 k) = ∑ r : Fin 512, rde (A0 m c) (A1 m c) (A2 m c) (A3 m c) (A4 m c) (row t r) k :=
  (pay21_at (reals m c t h) k).trans (Finset.sum_congr rfl fun r _ => de_at m c t r k)

theorem pay2_at (u v : FVec Ideal S1x512 .f32) (j) : k0_pay2 u v j = v j + u j := by
  obtain ⟨i, k, rfl⟩ : ∃ (i : Fin 1) (k : Fin 512), j = ix2 i k := ⟨j 0, j 1, eq_ix2 j⟩
  pointwise [k0_pay2]

theorem pay1_at (j) : @Eq EReal (k0_pay1 (F := Ideal) j) 0 := by
  obtain ⟨i, k, rfl⟩ : ∃ (i : Fin 1) (k : Fin 512), j = ix2 i k := ⟨j 0, j 1, eq_ix2 j⟩
  pointwise [k0_pay1]

theorem reset6 (h0 : t.val % 8 = 0) (j) : @Eq EReal ((outsAt0 m c t.val t.isLt).2.1 j) (0 + KB m c t j) := by
  rw [outsAt0_A m c t h0 h0 h0]; frame_out
  exact (pay2_at _ _ j).trans (congrArg (· + KB m c t j) (pay1_at j))

theorem step6 (h0 : ¬t.val % 8 = 0) (j) :
    @Eq EReal ((outsAt0 m c t.val t.isLt).2.1 j)
      ((outsAt0 m c (t.val - 1) (Nat.lt_of_le_of_lt (Nat.sub_le _ _) t.isLt)).2.1 j + KB m c t j) := by
  rw [outsAt0_B m c t h0 h0 h0]; frame_out
  exact pay2_at _ _ j

theorem final6 (h : Finite m) (c : Dev nD) : (dats m 0 c).arrAt 6 (cfgs 0).N = RB (A0 m c) (A1 m c) (A2 m c) (A3 m c) (A4 m c) := by
  refine (dats m 0 c).arrAt_eq_of_after_last 6 t0_7 (by decide +kernel) _ fun j => ?_
  obtain ⟨k, rfl⟩ : ∃ k : Fin 512, j = ix2 0 k := ⟨j 1, by rw [eq_ix2 j]; congr 1; exact Fin.ext (Nat.lt_one_iff.1 (j 0).isLt)⟩
  blk_simp
  rw [after0_6]
  refine (Pipeline.eq_sum_fin_of_reset_step_apply_last (fun n h => (outsAt0 m c n h).2.1) 8 (fun _ => (0 : EReal)) (KB m c)
    (reset6 m c) (step6 m c) (le_of_eq N_0) t0_7 rfl (ix2 0 k)).trans ?_
  rw [zero_add]
  refine (Finset.sum_congr rfl fun p _ => part6 m c p h k).trans ((RB_at _ _ _ _ _ k).trans ?_).symm
  exact Fin.sum_univ_tiles 8 512 rfl _

/-! The gate's matrix's gradient, summed over the blocks. -/

def KW : FVec Ideal S512x512 .f32 :=
  k0_pay23 (F := Ideal) (iblk m c 1 t) (k0_pay8 (iblk m c 4 t)) (k0_pay14 (iblk m c 0 t)) (k0_pay15 (iblk m c 0 t) (iblk m c 2 t) (iblk m c 3 t))
    (k0_pay16 (iblk m c 0 t) (iblk m c 2 t) (iblk m c 3 t))

theorem part7 (h : Finite m) (j k : Fin 512) :
    KW m c t (ix2 j k)
      = ∑ r : Fin 512, zf (A0 m c (ix2 (row t r) j)) * rde (A0 m c) (A1 m c) (A2 m c) (A3 m c) (A4 m c) (row t r) k :=
  (pay23_at (reals m c t h) j k).trans
    (Finset.sum_congr rfl fun r _ => Ideal.mul_congr (congrArg zf (b0 m c t r j)) (de_at m c t r k))

theorem pay4_at (u v : FVec Ideal S512x512 .f32) (j) : k0_pay4 u v j = v j + u j := by
  obtain ⟨i, k, rfl⟩ : ∃ (i k : Fin 512), j = ix2 i k := ⟨j 0, j 1, eq_ix2 j⟩
  pointwise [k0_pay4]

theorem pay3_at (j) : @Eq EReal (k0_pay3 (F := Ideal) j) 0 := by
  obtain ⟨i, k, rfl⟩ : ∃ (i k : Fin 512), j = ix2 i k := ⟨j 0, j 1, eq_ix2 j⟩
  pointwise [k0_pay3]

theorem reset7 (h0 : t.val % 8 = 0) (j) : @Eq EReal ((outsAt0 m c t.val t.isLt).2.2.1 j) (0 + KW m c t j) := by
  rw [outsAt0_A m c t h0 h0 h0]; frame_out
  exact (pay4_at _ _ j).trans (congrArg (· + KW m c t j) (pay3_at j))

theorem step7 (h0 : ¬t.val % 8 = 0) (j) :
    @Eq EReal ((outsAt0 m c t.val t.isLt).2.2.1 j)
      ((outsAt0 m c (t.val - 1) (Nat.lt_of_le_of_lt (Nat.sub_le _ _) t.isLt)).2.2.1 j + KW m c t j) := by
  rw [outsAt0_B m c t h0 h0 h0]; frame_out
  exact pay4_at _ _ j

theorem final7 (h : Finite m) (c : Dev nD) : (dats m 0 c).arrAt 7 (cfgs 0).N = RW (A0 m c) (A1 m c) (A2 m c) (A3 m c) (A4 m c) := by
  refine (dats m 0 c).arrAt_eq_of_after_last 7 t0_7 (by decide +kernel) _ fun j => ?_
  obtain ⟨i, k, rfl⟩ : ∃ (i k : Fin 512), j = ix2 i k := ⟨j 0, j 1, eq_ix2 j⟩
  blk_simp
  rw [after0_7]
  refine (Pipeline.eq_sum_fin_of_reset_step_apply_last (fun n h => (outsAt0 m c n h).2.2.1) 8 (fun _ => (0 : EReal)) (KW m c)
    (reset7 m c) (step7 m c) (le_of_eq N_0) t0_7 rfl (ix2 i k)).trans ?_
  rw [zero_add]
  refine (Finset.sum_congr rfl fun p _ => part7 m c p h i k).trans ((RW_at _ _ _ _ _ i k).trans ?_).symm
  exact Fin.sum_univ_tiles 8 512 rfl _

/-! The gradient of the output projection's rows, summed over the blocks. -/

def KT : FVec Ideal S512x1024 .f32 :=
  k0_pay24 (F := Ideal) (iblk m c 1 t) (k0_pay14 (iblk m c 0 t)) (k0_pay16 (iblk m c 0 t) (iblk m c 2 t) (iblk m c 3 t)) k0_pay17

theorem part8 (j : Fin 512) (k : Fin 1024) :
    KT m c t (ix2 j k)
      = ∑ r : Fin 512, zf (A0 m c (ix2 (row t r) j)) * lgs (rpre (A0 m c) (A1 m c) (A2 m c) (row t r) j) * A4 m c (ix2 (row t r) k) :=
  (pay24_at j k).trans (Finset.sum_congr rfl fun r _ =>
    Ideal.mul_congr (Ideal.mul_congr (congrArg zf (b0 m c t r j)) (congrArg lgs (pre_at m c t r j))) (b1 m c t r k))

theorem pay6_at (u v : FVec Ideal S512x1024 .f32) (j) : k0_pay6 u v j = v j + u j := by
  obtain ⟨i, k, rfl⟩ : ∃ (i : Fin 512) (k : Fin 1024), j = ix2 i k := ⟨j 0, j 1, eq_ix2 j⟩
  pointwise [k0_pay6]

theorem pay5_at (j) : @Eq EReal (k0_pay5 (F := Ideal) j) 0 := by
  obtain ⟨i, k, rfl⟩ : ∃ (i : Fin 512) (k : Fin 1024), j = ix2 i k := ⟨j 0, j 1, eq_ix2 j⟩
  pointwise [k0_pay5]

theorem reset8 (h0 : t.val % 8 = 0) (j) : @Eq EReal ((outsAt0 m c t.val t.isLt).2.2.2 j) (0 + KT m c t j) := by
  rw [outsAt0_A m c t h0 h0 h0]; frame_out
  exact (pay6_at _ _ j).trans (congrArg (· + KT m c t j) (pay5_at j))

theorem step8 (h0 : ¬t.val % 8 = 0) (j) :
    @Eq EReal ((outsAt0 m c t.val t.isLt).2.2.2 j)
      ((outsAt0 m c (t.val - 1) (Nat.lt_of_le_of_lt (Nat.sub_le _ _) t.isLt)).2.2.2 j + KT m c t j) := by
  rw [outsAt0_B m c t h0 h0 h0]; frame_out
  exact pay6_at _ _ j

theorem final8 (c : Dev nD) : (dats m 0 c).arrAt 8 (cfgs 0).N = RT (A0 m c) (A1 m c) (A2 m c) (A4 m c) := by
  refine (dats m 0 c).arrAt_eq_of_after_last 8 t0_7 (by decide +kernel) _ fun j => ?_
  obtain ⟨i, k, rfl⟩ : ∃ (i : Fin 512) (k : Fin 1024), j = ix2 i k := ⟨j 0, j 1, eq_ix2 j⟩
  blk_simp
  rw [after0_8]
  refine (Pipeline.eq_sum_fin_of_reset_step_apply_last (fun n h => (outsAt0 m c n h).2.2.2) 8 (fun _ => (0 : EReal)) (KT m c)
    (reset8 m c) (step8 m c) (le_of_eq N_0) t0_7 rfl (ix2 i k)).trans ?_
  rw [zero_add]
  refine (Finset.sum_congr rfl fun p _ => part8 m c p i k).trans ((RT_at _ _ _ _ i k).trans ?_).symm
  exact Fin.sum_univ_tiles 8 512 rfl _

end Cert.S5Post
end
-- ==== Proof.FfnValue.lean ====
/- Feed-forward block, backward: the four result arrays of the kernel are the reference's terms. -/
module

public import proofs.«01_k».proof.Proof.Gen.FfnIdeal.Frame
public import proofs.«01_k».proof.Proof.FfnPure
public import proofs.«01_k».proof.Proof.RealFacts
public import proofs.«01_k».proof.Proof.Gen.Pre_finite_ffn
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn

open Cert.FfnIdeal Cert.FfnIdeal.Gen
open Cert.Facts
open Cert.Inproj (ms)

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![t.val, 0]
    ∧ win0_9.index t = ![t.val, 0]
    ∧ win0_10.index t = ![t.val, 0]
    ∧ win0_11.index t = ![0, 0]
    ∧ t.val < 16 :=
  (by decide +kernel : ∀ t : Fin grid0.N, _)

/-- The argument arrays: the block's input, the norm's weight, the three matrices, the output's cotangent. -/
abbrev A0 (c : Dev nD) : FVec Ideal S4096x1024 .f32 := m ((c : Thread nD τ).loc main_arg0)
abbrev A1 (c : Dev nD) : FVec Ideal S1024 .f32 := m ((c : Thread nD τ).loc main_arg1)
abbrev A2 (c : Dev nD) : FVec Ideal S1024x2816 .f32 := m ((c : Thread nD τ).loc main_arg2)
abbrev A3 (c : Dev nD) : FVec Ideal S1024x2816 .f32 := m ((c : Thread nD τ).loc main_arg3)
abbrev A4 (c : Dev nD) : FVec Ideal S2816x1024 .f32 := m ((c : Thread nD τ).loc main_arg4)
abbrev A5 (c : Dev nD) : FVec Ideal S4096x1024 .f32 := m ((c : Thread nD τ).loc main_arg5)

/-- Every argument is finite. -/
structure Finite : Prop where
  f0 : ∀ (c : Dev nD) (r : Fin 4096) (k : Fin 1024), IsReal (A0 m c (ix2 r k))
  f1 : ∀ (c : Dev nD) (k : Fin 1024), IsReal (A1 m c (ix1 k))
  f2 : ∀ (c : Dev nD) (k : Fin 1024) (j : Fin 2816), IsReal (A2 m c (ix2 k j))
  f3 : ∀ (c : Dev nD) (k : Fin 1024) (j : Fin 2816), IsReal (A3 m c (ix2 k j))
  f4 : ∀ (c : Dev nD) (j : Fin 2816) (k : Fin 1024), IsReal (A4 m c (ix2 j k))
  f5 : ∀ (c : Dev nD) (r : Fin 4096) (k : Fin 1024), IsReal (A5 m c (ix2 r k))

/-- The precondition says so. -/
theorem finite (h : ∀ c : Dev nD,
    (Cert.Pre_finite_ffn.fn (F := Ideal) (A0 m c) (A1 m c) (A2 m c) (A3 m c) (A4 m c) (A5 m c)).1 = (fun _ => 1#1)
    ∧ (Cert.Pre_finite_ffn.fn (F := Ideal) (A0 m c) (A1 m c) (A2 m c) (A3 m c) (A4 m c) (A5 m c)).2.1 = (fun _ => 1#1)
    ∧ (Cert.Pre_finite_ffn.fn (F := Ideal) (A0 m c) (A1 m c) (A2 m c) (A3 m c) (A4 m c) (A5 m c)).2.2.1 = (fun _ => 1#1)
    ∧ (Cert.Pre_finite_ffn.fn (F := Ideal) (A0 m c) (A1 m c) (A2 m c) (A3 m c) (A4 m c) (A5 m c)).2.2.2.1 = (fun _ => 1#1)
    ∧ (Cert.Pre_finite_ffn.fn (F := Ideal) (A0 m c) (A1 m c) (A2 m c) (A3 m c) (A4 m c) (A5 m c)).2.2.2.2.1 = (fun _ => 1#1)
    ∧ (Cert.Pre_finite_ffn.fn (F := Ideal) (A0 m c) (A1 m c) (A2 m c) (A3 m c) (A4 m c) (A5 m c)).2.2.2.2.2 = (fun _ => 1#1)) :
    Finite m where
  f0 c r k := by
    have e := congrFun (h c).1 (ix2 r k); pointwise [Cert.Pre_finite_ffn.fn] at e; exact real_of_abs_lt _ e
  f1 c k := by
    have e := congrFun (h c).2.1 (ix1 k); pointwise [Cert.Pre_finite_ffn.fn] at e; exact real_of_abs_lt _ e
  f2 c r k := by
    have e := congrFun (h c).2.2.1 (ix2 r k); pointwise [Cert.Pre_finite_ffn.fn] at e; exact real_of_abs_lt _ e
  f3 c r k := by
    have e := congrFun (h c).2.2.2.1 (ix2 r k); pointwise [Cert.Pre_finite_ffn.fn] at e; exact real_of_abs_lt _ e
  f4 c r k := by
    have e := congrFun (h c).2.2.2.2.1 (ix2 r k); pointwise [Cert.Pre_finite_ffn.fn] at e; exact real_of_abs_lt _ e
  f5 c r k := by
    have e := congrFun (h c).2.2.2.2.2 (ix2 r k); pointwise [Cert.Pre_finite_ffn.fn] at e; exact real_of_abs_lt _ e

/-- Row `r` of block `t`. -/
def row (t : Fin cfg0.N) (r : Fin 256) : Fin 4096 := ⟨t.val * 256 + r.val, by have := (idx t).2.2.2.2.2.2.2.2.2.2.2.2; omega⟩

/-! The blocks the body reads, at their rows. -/

theorem b0 (c : Dev nD) (t : Fin cfg0.N) (r : Fin 256) (k : Fin 1024) : iblk m c 0 t (ix2 r k) = A0 m c (ix2 (row t r) k) := by
  blk_ext [iblk, V, idx t, row]
theorem b1 (c : Dev nD) (t : Fin cfg0.N) (r : Fin 256) (k : Fin 1024) : iblk m c 1 t (ix2 r k) = A5 m c (ix2 (row t r) k) := by
  blk_ext [iblk, V, idx t, row]
theorem b4 (c : Dev nD) (t : Fin cfg0.N) (k : Fin 1024) : iblk m c 4 t (ix2 0 k) = A1 m c (ix1 k) := by
  blk_point [iblk, V, idx t]
theorem b5 (c : Dev nD) (t : Fin cfg0.N) (k : Fin 1024) (j : Fin 2816) : iblk m c 5 t (ix2 k j) = A2 m c (ix2 k j) := by
  blk_point [iblk, V, idx t]
theorem b6 (c : Dev nD) (t : Fin cfg0.N) (k : Fin 1024) (j : Fin 2816) : iblk m c 6 t (ix2 k j) = A3 m c (ix2 k j) := by
  blk_point [iblk, V, idx t]
theorem b7 (c : Dev nD) (t : Fin cfg0.N) (j : Fin 2816) (k : Fin 1024) : iblk m c 7 t (ix2 j k) = A4 m c (ix2 j k) := by
  blk_point [iblk, V, idx t]
theorem b2 (c : Dev nD) (t : Fin cfg0.N) (r : Fin 256) (j : Fin 2816) :
    @Eq EReal (iblk m c 2 t (ix2 r j))
      (up (fun k => A0 m c (ix2 (row t r) k)) (fun k => A1 m c (ix1 k)) (fun k j => A2 m c (ix2 k j)) j) := by
  have e : iblk m c 2 t (ix2 r j) = V m c main_v14 (ix2 (row t r) j) := by blk_ext [iblk, idx t, row]
  rw [e]
  entry_read
  pointwise [up, ms]
theorem b3 (c : Dev nD) (t : Fin cfg0.N) (r : Fin 256) (j : Fin 2816) :
    @Eq EReal (iblk m c 3 t (ix2 r j))
      (up (fun k => A0 m c (ix2 (row t r) k)) (fun k => A1 m c (ix1 k)) (fun k j => A3 m c (ix2 k j)) j) := by
  have e : iblk m c 3 t (ix2 r j) = V m c main_v16 (ix2 (row t r) j) := by blk_ext [iblk, idx t, row]
  rw [e]
  entry_read
  pointwise [up, ms]

/-- The kernel's pieces at a block: the gated row's cotangent, the gate's, the linear branch's, the normed row's. -/
abbrev KM (c : Dev nD) (t : Fin cfg0.N) := k0_pay8 (F := Ideal) (iblk m c 1 t) (iblk m c 7 t)
abbrev KV (c : Dev nD) (t : Fin cfg0.N) := k0_pay13 (F := Ideal) (iblk m c 1 t) (iblk m c 2 t) (iblk m c 7 t)
abbrev KE (c : Dev nD) (t : Fin cfg0.N) := k0_pay10 (F := Ideal) (iblk m c 2 t)
abbrev KP (c : Dev nD) (t : Fin cfg0.N) := k0_pay15 (F := Ideal) (iblk m c 1 t) (iblk m c 2 t) (iblk m c 3 t) (iblk m c 7 t)
abbrev KQ (c : Dev nD) (t : Fin cfg0.N) := k0_pay16 (F := Ideal) (iblk m c 1 t) (iblk m c 2 t) (iblk m c 3 t) (iblk m c 7 t)
abbrev KU (c : Dev nD) (t : Fin cfg0.N) := k0_pay17 (F := Ideal) (KE m c t) (KP m c t) (KQ m c t) (Scalar.ofBits .f32 0x00000000#32)
abbrev KD (c : Dev nD) (t : Fin cfg0.N) :=
  k0_pay18 (F := Ideal) (k0_pay6 (iblk m c 5 t)) (k0_pay7 (iblk m c 6 t)) (KE m c t) (KV m c t) (KP m c t) (KQ m c t) (Scalar.ofBits .f32 0x00000000#32)

/-- The reference's terms at the kernel's arguments. -/
abbrev TV (c : Dev nD) := RV (A0 m c) (A1 m c) (A2 m c) (A4 m c) (A5 m c)
abbrev TU (c : Dev nD) := RU (A0 m c) (A1 m c) (A2 m c) (A3 m c) (A4 m c) (A5 m c)
abbrev TD (c : Dev nD) := RD (A0 m c) (A1 m c) (A2 m c) (A3 m c) (A4 m c) (A5 m c)

theorem m_at (c : Dev nD) (t : Fin cfg0.N) (r : Fin 256) (j : Fin 2816) :
    @Eq EReal (KM m c t (ix2 r j)) (dm (fun k => A5 m c (ix2 (row t r) k)) (fun j k => A4 m c (ix2 j k)) j) :=
  (pay8_at _ _ r j).trans
    (congrArg₂ (fun a b => dm a b j) (funext fun i => b1 m c t r i) (funext fun j => funext fun i => b7 m c t j i))

theorem v_at (c : Dev nD) (t : Fin cfg0.N) (r : Fin 256) (j : Fin 2816) :
    @Eq EReal (KV m c t (ix2 r j)) (TV m c (ix2 (row t r) j)) :=
  (pay13_at _ _ _ r j).trans ((congrArg₂ d3 (b2 m c t r j) (m_at m c t r j)).trans (RV_at _ _ _ _ _ (row t r) j).symm)

theorem u_at (h : Finite m) (c : Dev nD) (t : Fin cfg0.N) (r : Fin 256) (j : Fin 2816) :
    @Eq EReal (KU m c t (ix2 r j)) (TU m c (ix2 (row t r) j)) := by
  have ha := b2 m c t r j
  have hb := b3 m c t r j
  have hm := m_at m c t r j
  refine (pay17_at _ _ _ _ r j ?_ ?_ ?_).trans
    ((congrArg₂ d1 ha (Ideal.mul_congr hm hb)).trans (RU_at _ _ _ _ _ _ (row t r) j).symm)
  · exact IsReal.of_eq ha (isReal_up (h.f0 c _) (h.f1 c) (h.f2 c) j)
  · exact IsReal.of_eq hb (isReal_up (h.f0 c _) (h.f1 c) (h.f3 c) j)
  · exact IsReal.of_eq hm (isReal_dm (h.f5 c _) (h.f4 c) j)

theorem w1_at (c : Dev nD) (t : Fin cfg0.N) (k : Fin 1024) (j : Fin 2816) :
    @Eq EReal (k0_pay6 (F := Ideal) (iblk m c 5 t) (ix2 k j)) (A2 m c (ix2 k j)) := by
  pointwise [k0_pay6]; exact b5 m c t k j

theorem w3_at (c : Dev nD) (t : Fin cfg0.N) (k : Fin 1024) (j : Fin 2816) :
    @Eq EReal (k0_pay7 (F := Ideal) (iblk m c 6 t) (ix2 k j)) (A3 m c (ix2 k j)) := by
  pointwise [k0_pay7]; exact b6 m c t k j

theorem g_at (c : Dev nD) (t : Fin cfg0.N) (k : Fin 1024) : k0_pay5 (F := Ideal) (iblk m c 4 t) (ix2 0 k) = A1 m c (ix1 k) := by
  pointwise [k0_pay5]; exact b4 m c t k

theorem d_at (h : Finite m) (c : Dev nD) (t : Fin cfg0.N) (r : Fin 256) (k : Fin 1024) :
    @Eq EReal (KD m c t (ix2 r k)) (TD m c (ix2 (row t r) k)) :=
  (pay18_at _ _ _ _ _ _ _ r k).trans ((dxn_congr (fun j => u_at m h c t r j) (fun j => v_at m c t r j) (fun k j => w1_at m c t k j)
    (fun k j => w3_at m c t k j) k).trans (RD_at _ _ _ _ _ _ (row t r) k).symm)

/-! The input's gradient. -/

theorem emb8 (t : Fin cfg0.N) (r : Fin 256) (k : Fin 1024) : ((cfg0.win 8).blk t).view.emb (ix2 r k) = (ix2 (row t r) k : S4096x1024.Idx) := by
  blk_ext [idx t, row]

theorem point8 (h : Finite m) (c : Dev nD) (t : Fin cfg0.N) (y) :
    k0_pay22 (iblk m c 0 t) (iblk m c 1 t) (k0_pay5 (iblk m c 4 t)) (k0_pay6 (iblk m c 5 t)) (k0_pay7 (iblk m c 6 t))
      (KE m c t) (KV m c t) (KP m c t) (KQ m c t) (Scalar.ofBits .f32 0x00000000#32) y
      = RX (A0 m c) (A1 m c) (A2 m c) (A3 m c) (A4 m c) (A5 m c)
          (((cfg0.win 8).blk t).view.emb y) := by
  obtain ⟨r, k, rfl⟩ : ∃ (r : Fin 256) (k : Fin 1024), y = ix2 r k := ⟨y 0, y 1, eq_ix2 y⟩
  rw [emb8]
  exact (pay22_at _ _ _ _ _ _ _ _ _ _ r k).trans ((dx_congr (fun i => b1 m c t r i) (fun i => b0 m c t r i) (fun i => g_at m c t i)
    (fun i => d_at m h c t r i) k).trans (RX_at _ _ _ _ _ _ (row t r) k).symm)

theorem final8 (h : Finite m) (c : Dev nD) : (dats m 0 c).arrAt 8 (cfgs 0).N
    = RX (A0 m c) (A1 m c) (A2 m c) (A3 m c) (A4 m c) (A5 m c) := by
  refine (dats m 0 c).arrAt_eq_of_covers 8 _ (by decide +kernel) fun t hf y => ?_
  blk_simp; rw [after0_8]
  by_cases h0 : t.val % 16 = 0
  · rw [outsAt0_A m c t h0]; frame_out; exact point8 m h c t y
  · rw [outsAt0_B m c t h0]; frame_out; exact point8 m h c t y

/-! The gate's cotangent. -/

theorem emb9 (t : Fin cfg0.N) (r : Fin 256) (k : Fin 2816) : ((cfg0.win 9).blk t).view.emb (ix2 r k) = (ix2 (row t r) k : S4096x2816.Idx) := by
  blk_ext [idx t, row]

theorem point9 (h : Finite m) (c : Dev nD) (t : Fin cfg0.N) (y) :
    k0_pay1 (KU m c t) y = (truncf .bf16 (TU m c) bitsLt_bf16_f32 : FVec Ideal S4096x2816 .bf16) (((cfg0.win 9).blk t).view.emb y) := by
  obtain ⟨r, j, rfl⟩ : ∃ (r : Fin 256) (j : Fin 2816), y = ix2 r j := ⟨y 0, y 1, eq_ix2 y⟩
  rw [emb9]
  exact u_at m h c t r j

theorem final9 (h : Finite m) (c : Dev nD) : (dats m 0 c).arrAt 9 (cfgs 0).N
    = (truncf .bf16 (TU m c) bitsLt_bf16_f32 : FVec Ideal S4096x2816 .bf16) := by
  refine (dats m 0 c).arrAt_eq_of_covers 9 _ (by decide +kernel) fun t hf y => ?_
  blk_simp; rw [after0_9]
  by_cases h0 : t.val % 16 = 0
  · rw [outsAt0_A m c t h0]; frame_out; exact point9 m h c t y
  · rw [outsAt0_B m c t h0]; frame_out; exact point9 m h c t y

/-! The linear branch's cotangent. -/

theorem emb10 (t : Fin cfg0.N) (r : Fin 256) (k : Fin 2816) : ((cfg0.win 10).blk t).view.emb (ix2 r k) = (ix2 (row t r) k : S4096x2816.Idx) := by
  blk_ext [idx t, row]

theorem point10 (c : Dev nD) (t : Fin cfg0.N) (y) :
    k0_pay2 (KV m c t) y = (truncf .bf16 (TV m c) bitsLt_bf16_f32 : FVec Ideal S4096x2816 .bf16) (((cfg0.win 10).blk t).view.emb y) := by
  obtain ⟨r, j, rfl⟩ : ∃ (r : Fin 256) (j : Fin 2816), y = ix2 r j := ⟨y 0, y 1, eq_ix2 y⟩
  rw [emb10]
  exact v_at m c t r j

theorem final10 (c : Dev nD) : (dats m 0 c).arrAt 10 (cfgs 0).N
    = (truncf .bf16 (TV m c) bitsLt_bf16_f32 : FVec Ideal S4096x2816 .bf16) := by
  refine (dats m 0 c).arrAt_eq_of_covers 10 _ (by decide +kernel) fun t hf y => ?_
  blk_simp; rw [after0_10]
  by_cases h0 : t.val % 16 = 0
  · rw [outsAt0_A m c t h0]; frame_out; exact point10 m c t y
  · rw [outsAt0_B m c t h0]; frame_out; exact point10 m c t y

/-! The norm weight's gradient, summed over the blocks. -/

def KN (c : Dev nD) (t : Fin cfg0.N) : FVec Ideal S1x1024 .f32 :=
  k0_pay21 (F := Ideal) (iblk m c 0 t) (k0_pay6 (iblk m c 5 t)) (k0_pay7 (iblk m c 6 t)) (KE m c t) (KV m c t) (KP m c t) (KQ m c t)
    (Scalar.ofBits .f32 0x00000000#32)

theorem part11 (h : Finite m) (c : Dev nD) (t : Fin cfg0.N) (k : Fin 1024) :
    KN m c t (ix2 0 k)
      = ∑ r : Fin 256, A0 m c (ix2 (row t r) k) * Ideal.rsqrt (ms fun k => A0 m c (ix2 (row t r) k)) * TD m c (ix2 (row t r) k) := by
  refine (pay21_at _ _ _ _ _ _ _ _ k).trans (Finset.sum_congr rfl fun r _ => ?_)
  exact Ideal.mul_congr (Ideal.mul_congr (b0 m c t r k) (congrArg _ (congrArg _ (funext fun i => b0 m c t r i)))) (d_at m h c t r k)

theorem pay4_at (u v : FVec Ideal S1x1024 .f32) (j) : k0_pay4 u v j = v j + u j := by
  obtain ⟨i, k, rfl⟩ : ∃ (i : Fin 1) (k : Fin 1024), j = ix2 i k := ⟨j 0, j 1, eq_ix2 j⟩
  pointwise [k0_pay4]

theorem pay3_at (j) : @Eq EReal (k0_pay3 (F := Ideal) j) 0 := by
  obtain ⟨i, k, rfl⟩ : ∃ (i : Fin 1) (k : Fin 1024), j = ix2 i k := ⟨j 0, j 1, eq_ix2 j⟩
  pointwise [k0_pay3]

theorem reset11 (c : Dev nD) (t : Fin cfg0.N) (h : t.val % 16 = 0) (j) :
    @Eq EReal ((outsAt0 m c t.val t.isLt).2.2.2 j) (0 + KN m c t j) := by
  rw [outsAt0_A m c t h]; frame_out
  exact (pay4_at _ _ j).trans (congrArg (· + KN m c t j) (pay3_at j))

theorem step11 (c : Dev nD) (t : Fin cfg0.N) (h : ¬t.val % 16 = 0) (j) :
    @Eq EReal ((outsAt0 m c t.val t.isLt).2.2.2 j)
      ((outsAt0 m c (t.val - 1) (Nat.lt_of_le_of_lt (Nat.sub_le _ _) t.isLt)).2.2.2 j + KN m c t j) := by
  rw [outsAt0_B m c t h]; frame_out
  exact pay4_at _ _ j

theorem final11 (h : Finite m) (c : Dev nD) : (dats m 0 c).arrAt 11 (cfgs 0).N = RN (A0 m c) (A1 m c) (A2 m c) (A3 m c) (A4 m c) (A5 m c) := by
  refine (dats m 0 c).arrAt_eq_of_after_last 11 t0_15 (by decide +kernel) _ fun j => ?_
  obtain ⟨k, rfl⟩ : ∃ k : Fin 1024, j = ix2 0 k := ⟨j 1, by rw [eq_ix2 j]; congr 1; exact Fin.ext (Nat.lt_one_iff.1 (j 0).isLt)⟩
  blk_simp
  rw [after0_11]
  refine (Pipeline.eq_sum_fin_of_reset_step_apply_last (fun n h => (outsAt0 m c n h).2.2.2) 16 (fun _ => (0 : EReal)) (KN m c)
    (reset11 m c) (step11 m c) (le_of_eq N_0) t0_15 rfl (ix2 0 k)).trans ?_
  rw [zero_add]
  refine (Finset.sum_congr rfl fun p _ => part11 m h c p k).trans ((RN_at _ _ _ _ _ _ k).trans ?_).symm
  exact Fin.sum_univ_tiles 16 256 rfl _

end Cert.Ffn
end
-- ==== Proof.InprojValue.lean ====
/- Input projection, backward: the three result arrays of the kernel are the reference's terms. -/
module

public import proofs.«01_k».proof.Proof.Gen.KernelIdeal.Frame
public import proofs.«01_k».proof.Proof.InprojPure
public import proofs.«01_k».proof.Proof.RealFacts
public import proofs.«01_k».proof.Proof.Gen.Pre_finite_dzs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Inproj

open Cert.KernelIdeal Cert.KernelIdeal.Gen

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![t.val, 0]
    ∧ win0_3.index t = ![t.val, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![0, 0]
    ∧ (grid0.coords t 0).val = t.val ∧ t.val < 8 :=
  (by decide +kernel : ∀ t : Fin grid0.N, _)

/-- The rows after a block, except after the last block. -/
theorem idx_next : ∀ t : Fin cfg0.N, t.val < 7 → win0_4.index t = ![(t.val + 1) * 64, 0] :=
  (by decide +kernel : ∀ t : Fin grid0.N, t.val < 7 → win0_4.index t = ![(t.val + 1) * 64, 0])

/-- The argument arrays. -/
abbrev A0 (c : Dev nD) : FVec Ideal S4096x1024 .f32 := m ((c : Thread nD τ).loc main_arg0)
abbrev A1 (c : Dev nD) : FVec Ideal S1024 .f32 := m ((c : Thread nD τ).loc main_arg1)
abbrev A2 (c : Dev nD) : FVec Ideal S1024x2304 .f32 := m ((c : Thread nD τ).loc main_arg2)
abbrev A3 (c : Dev nD) : FVec Ideal S1792 .f32 := m ((c : Thread nD τ).loc main_arg3)
abbrev A4 (c : Dev nD) : FVec Ideal S4096x1024 .f32 := m ((c : Thread nD τ).loc main_arg4)
abbrev A5 (c : Dev nD) : FVec Ideal S4096x512 .f32 := m ((c : Thread nD τ).loc main_arg5)
abbrev A6 (c : Dev nD) : FVec Ideal S4096x1792 .f32 := m ((c : Thread nD τ).loc main_arg6)

/-- Row `r` of block `t`. -/
def row (t : Fin cfg0.N) (r : Fin 512) : Fin 4096 := ⟨t.val * 512 + r.val, by have := (idx t).2.2.2.2.2.2.2.2.2.2.2.2; omega⟩

/-! The blocks the body reads, at their rows. -/

theorem b0 (c : Dev nD) (t : Fin cfg0.N) (r : Fin 512) (k : Fin 1024) : iblk m c 0 t (ix2 r k) = A0 m c (ix2 (row t r) k) := by
  blk_ext [iblk, V, idx t, row]
theorem b1 (c : Dev nD) (t : Fin cfg0.N) (r : Fin 512) (k : Fin 1024) : iblk m c 1 t (ix2 r k) = A4 m c (ix2 (row t r) k) := by
  blk_ext [iblk, V, idx t, row]
theorem b2 (c : Dev nD) (t : Fin cfg0.N) (r : Fin 512) (k : Fin 512) : iblk m c 2 t (ix2 r k) = A5 m c (ix2 (row t r) k) := by
  blk_ext [iblk, V, idx t, row]
theorem b3 (c : Dev nD) (t : Fin cfg0.N) (r : Fin 512) (k : Fin 1792) : iblk m c 3 t (ix2 r k) = A6 m c (ix2 (row t r) k) := by
  blk_ext [iblk, V, idx t, row]
theorem b4 (c : Dev nD) (t : Fin cfg0.N) (h : t.val < 7) (k : Fin 1792) :
    iblk m c 4 t (ix2 0 k) = A6 m c (ix2 ⟨t.val * 512 + 512, by omega⟩ k) := by
  blk_ext [iblk, V, idx_next t h]
theorem b5 (c : Dev nD) (t : Fin cfg0.N) (k : Fin 1024) : iblk m c 5 t (ix2 0 k) = A1 m c (ix1 k) := by
  blk_point [iblk, V, idx t]
theorem b6 (c : Dev nD) (t : Fin cfg0.N) (k : Fin 1792) : iblk m c 6 t (ix2 0 k) = A3 m c (ix1 k) := by
  blk_point [iblk, V, idx t]
theorem b7 (c : Dev nD) (t : Fin cfg0.N) (k : Fin 1024) (i : Fin 512) :
    iblk m c 7 t (ix2 k i) = A2 m c (ix2 k ⟨i.val, by omega⟩) := by
  blk_point [iblk, V, idx t]
theorem b8 (c : Dev nD) (t : Fin cfg0.N) (k : Fin 1024) (i : Fin 1792) :
    iblk m c 8 t (ix2 k i) = A2 m c (ix2 k ⟨512 + i.val, by omega⟩) := by
  blk_point [iblk, V, idx t]

/-- The kernel's pieces at a block, and the reference's terms. -/
abbrev KZ (c : Dev nD) (t : Fin cfg0.N) := k0_pay7 (F := Ideal) (grid0.coords t) (iblk m c 3 t) (iblk m c 4 t) (iblk m c 6 t)
abbrev KD (c : Dev nD) (t : Fin cfg0.N) :=
  k0_pay8 (F := Ideal) (k0_pay4 (iblk m c 7 t)) (k0_pay5 (iblk m c 8 t)) (k0_pay6 (iblk m c 2 t)) (KZ m c t)
abbrev RZ (c : Dev nD) := DZ (A3 m c) (A6 m c)
abbrev RD (c : Dev nD) := DXN (A2 m c) (DP (A5 m c) (RZ m c))

/-- The shift's cotangent is real. -/
def Fin6 : Prop := ∀ (c : Dev nD) (r : Fin 4096) (k : Fin 1792), ∃ d : ℝ, A6 m c (ix2 r k) = d

/-- The precondition says so. -/
theorem fin6 (h : ∀ c : Dev nD, Cert.Pre_finite_dzs.fn (F := Ideal) (A0 m c) (A1 m c) (A2 m c) (A3 m c) (A4 m c) (A5 m c) (A6 m c)
    = fun _ => 1#1) : Fin6 m := fun c r k => by
  have e := congrFun (h c) (ix2 r k)
  pointwise [Cert.Pre_finite_dzs.fn] at e
  exact Cert.Facts.real_of_abs_lt _ e

theorem z_at (h6 : Fin6 m) (c : Dev nD) (t : Fin cfg0.N) (r : Fin 512) (k : Fin 1792) :
    @Eq EReal (KZ m c t (ix2 r k)) (RZ m c (ix2 (row t r) k)) := by
  obtain ⟨-, -, -, -, -, -, -, -, -, -, -, ht, ht8⟩ := idx t
  refine (pay7_at _ _ _ _ r k).trans ((DZ_at _ _ (row t r) k (h6 c _ _)).trans ?_).symm
  rw [ht, b3, b6]
  congr 1
  by_cases h1 : r.val = 511
  · by_cases h7 : t.val = 7
    · rw [if_pos h1, if_pos h7, dif_neg (by simp only [row]; omega)]
    · rw [if_pos h1, if_neg h7, dif_pos (by simp only [row]; omega), b4 m c t (by omega)]
      congr 2
      simp only [row, h1]
  · rw [if_neg h1, dif_pos (by simp only [row]; omega), b3]
    congr 2
    simp only [row, Fin.mk.injEq]
    omega

theorem d_at (h6 : Fin6 m) (c : Dev nD) (t : Fin cfg0.N) (r : Fin 512) (k : Fin 1024) :
    KD m c t (ix2 r k) = RD m c (ix2 (row t r) k) := by
  refine (pay8_at _ _ _ _ r k).trans ((DXN_at _ _ _ (row t r) k).trans ?_).symm
  congr 1
  · funext i; pointwise [k0_pay6]; exact (b2 m c t r i).symm
  · funext i; exact (z_at m h6 c t r i).symm
  · funext k i; pointwise [k0_pay4]; exact (b7 m c t k i).symm
  · funext k i; pointwise [k0_pay5]; exact (b8 m c t k i).symm

theorem emb9 (t : Fin cfg0.N) (r : Fin 512) (k : Fin 1024) : ((cfg0.win 9).blk t).view.emb (ix2 r k) = (ix2 (row t r) k : S4096x1024.Idx) := by
  blk_ext [idx t, row]

theorem point9 (h6 : Fin6 m) (c : Dev nD) (t : Fin cfg0.N) (y) :
    k0_pay12 (iblk m c 0 t) (iblk m c 1 t) (k0_pay3 (iblk m c 5 t)) (k0_pay4 (iblk m c 7 t)) (k0_pay5 (iblk m c 8 t))
      (k0_pay6 (iblk m c 2 t)) (KZ m c t) y
      = DX (A0 m c) (A1 m c) (A4 m c) (RD m c) (((cfg0.win 9).blk t).view.emb y) := by
  obtain ⟨r, k, rfl⟩ : ∃ (r : Fin 512) (k : Fin 1024), y = ix2 r k := ⟨y 0, y 1, eq_ix2 y⟩
  rw [emb9]
  refine (pay12_at _ _ _ _ _ _ _ r k).trans ((DX_at _ _ _ _ (row t r) k).trans ?_).symm
  congr 1
  · funext i; exact (b1 m c t r i).symm
  · funext i; exact (b0 m c t r i).symm
  · funext i; pointwise [k0_pay3]; exact (b5 m c t i).symm
  · funext i; exact (d_at m h6 c t r i).symm

theorem final9 (h6 : Fin6 m) (c : Dev nD) : (dats m 0 c).arrAt 9 (cfgs 0).N = DX (A0 m c) (A1 m c) (A4 m c) (RD m c) := by
  refine (dats m 0 c).arrAt_eq_of_covers 9 _ (by decide +kernel) fun t hf y => ?_
  blk_simp; rw [after0_9]
  by_cases h : t.val % 8 = 0
  · rw [outsAt0_A m c t h]; frame_out; exact point9 m h6 c t y
  · rw [outsAt0_B m c t h]; frame_out; exact point9 m h6 c t y

theorem emb10 (t : Fin cfg0.N) (r : Fin 512) (k : Fin 2304) : ((cfg0.win 10).blk t).view.emb (ix2 r k) = (ix2 (row t r) k : S4096x2304.Idx) := by
  blk_ext [idx t, row]

theorem point10 (h6 : Fin6 m) (c : Dev nD) (t : Fin cfg0.N) (y) :
    k0_pay13 (k0_pay6 (iblk m c 2 t)) (KZ m c t) y
      = (truncf .bf16 (DP (A5 m c) (RZ m c)) bitsLt_bf16_f32 : FVec Ideal S4096x2304 .bf16) (((cfg0.win 10).blk t).view.emb y) := by
  obtain ⟨r, k, rfl⟩ : ∃ (r : Fin 512) (k : Fin 2304), y = ix2 r k := ⟨y 0, y 1, eq_ix2 y⟩
  rw [emb10]
  by_cases hk : k.val < 512
  · have e := DP_left (A5 m c) (RZ m c) (row t r) ⟨k.val, hk⟩
    pointwise [k0_pay13, k0_pay6]
    rw [dif_pos hk]
    exact (b2 m c t r _).trans e.symm
  · have e := DP_right (A5 m c) (RZ m c) (row t r) ⟨k.val - 512, by omega⟩
    have ek : (⟨512 + (k.val - 512), by omega⟩ : Fin 2304) = k := Fin.ext (by simp only []; omega)
    simp only [ek] at e
    pointwise [k0_pay13]
    rw [dif_neg hk]
    exact (z_at m h6 c t r _).trans e.symm

theorem final10 (h6 : Fin6 m) (c : Dev nD) : (dats m 0 c).arrAt 10 (cfgs 0).N
    = (truncf .bf16 (DP (A5 m c) (RZ m c)) bitsLt_bf16_f32 : FVec Ideal S4096x2304 .bf16) := by
  refine (dats m 0 c).arrAt_eq_of_covers 10 _ (by decide +kernel) fun t hf y => ?_
  blk_simp; rw [after0_10]
  by_cases h : t.val % 8 = 0
  · rw [outsAt0_A m c t h]; frame_out; exact point10 m h6 c t y
  · rw [outsAt0_B m c t h]; frame_out; exact point10 m h6 c t y

/-- What block `t` adds to the norm weight's gradient. -/
theorem part11 (h6 : Fin6 m) (c : Dev nD) (t : Fin cfg0.N) (k : Fin 1024) :
    k0_pay11 (iblk m c 0 t) (k0_pay4 (iblk m c 7 t)) (k0_pay5 (iblk m c 8 t)) (k0_pay6 (iblk m c 2 t)) (KZ m c t) (ix2 0 k)
      = ∑ r : Fin 512, A0 m c (ix2 (row t r) k) * Ideal.rsqrt (ms fun k => A0 m c (ix2 (row t r) k)) * RD m c (ix2 (row t r) k) := by
  refine (pay11_at _ _ _ _ _ k).trans (Finset.sum_congr rfl fun r _ => ?_)
  exact Ideal.mul_congr (Ideal.mul_congr (b0 m c t r k) (congrArg _ (congrArg _ (funext fun i => b0 m c t r i)))) (d_at m h6 c t r k)

theorem final11 (h6 : Fin6 m) (c : Dev nD) : (dats m 0 c).arrAt 11 (cfgs 0).N = DN (A0 m c) (RD m c) := by
  refine (dats m 0 c).arrAt_eq_of_after_last 11 t0_7 (by decide +kernel) _ fun j => ?_
  obtain ⟨k, rfl⟩ : ∃ k : Fin 1024, j = ix2 0 k := ⟨j 1, by rw [eq_ix2 j]; congr 1; exact Fin.ext (Nat.lt_one_iff.1 (j 0).isLt)⟩
  blk_simp
  rw [after0_11, Pipeline.eq_sum_fin_of_reset_step_apply_last (fun n h => (outsAt0 m c n h).2.2) 8 (fun _ => 0) _
    (fun t h j => by rw [outsAt0_A m c t h]; frame_out; pointwise [k0_pay2, k0_pay1]; rfl)
    (fun t h j => by rw [outsAt0_B m c t h]; frame_out; pointwise [k0_pay2]) (le_of_eq N_0) t0_7 rfl _, zero_add]
  refine (Finset.sum_congr rfl fun p _ => part11 m h6 c p k).trans ((DN_at _ _ k).trans ?_).symm
  exact Fin.sum_univ_tiles 8 512 rfl _

end Cert.Inproj
end
-- ==== Proof.lean ====
module

public import proofs.«01_k».proof.Proof.Gen.Ffn.Frame
public import proofs.«01_k».proof.Proof.Gen.Pre_finite_ffn
public import proofs.«01_k».proof.Proof.Gen.FfnIdeal.Value
public import proofs.«01_k».proof.Proof.Gen.FfnRefIdeal.Run
public import proofs.«01_k».proof.Defs
public import proofs.«01_k».proof.Proof.S5ParamFwdValue
public import proofs.«01_k».proof.Proof.Gen.S5ParamFwdRefIdeal.Run
public import proofs.«01_k».proof.Proof.Gen.S5ParamFwdIdeal.Frame
public import proofs.«01_k».proof.Proof.Gen.S5ParamFwd.Frame
public import proofs.«01_k».proof.Proof.RwPostFwdValue
public import proofs.«01_k».proof.Proof.MixffnFwdValue
public import proofs.«01_k».proof.Proof.InprojFwdValue
public import proofs.«01_k».proof.Proof.S5PostFwdValue
public import proofs.«01_k».proof.Proof.Gen.WkvBwdIdeal.Frame
public import proofs.«01_k».proof.Proof.Gen.WkvBwd.Frame
public import proofs.«01_k».proof.Proof.Gen.Pre_finite_rwpostfwd
public import proofs.«01_k».proof.Proof.Gen.RwPostFwdRefIdeal.Run
public import proofs.«01_k».proof.Proof.Gen.RwPostFwdIdeal.Frame
public import proofs.«01_k».proof.Proof.Gen.RwPostFwd.Frame
public import proofs.«01_k».proof.Proof.Gen.MixffnFwdRefIdeal.Run
public import proofs.«01_k».proof.Proof.Gen.MixffnFwdIdeal.Frame
public import proofs.«01_k».proof.Proof.Gen.MixffnFwd.Frame
public import proofs.«01_k».proof.Proof.Gen.InprojFwdRefIdeal.Run
public import proofs.«01_k».proof.Proof.Gen.InprojFwdIdeal.Frame
public import proofs.«01_k».proof.Proof.Gen.InprojFwd.Frame
public import proofs.«01_k».proof.Proof.Gen.S5PostFwdRefIdeal.Run
public import proofs.«01_k».proof.Proof.Gen.S5PostFwdIdeal.Frame
public import proofs.«01_k».proof.Proof.Gen.S5PostFwd.Frame
public import proofs.«01_k».proof.Proof.WkvFwdValue
public import proofs.«01_k».proof.Proof.WkvFwdLoop
public import proofs.«01_k».proof.Proof.Gen.Pre_positive_decay
public import proofs.«01_k».proof.Proof.Gen.WkvFwdRefIdeal.Run
public import proofs.«01_k».proof.Proof.Gen.WkvFwdIdeal.Frame
public import proofs.«01_k».proof.Proof.Gen.WkvFwd.Frame
public import proofs.«01_k».proof.Proof.S5ParamPure
public import proofs.«01_k».proof.Proof.S5ParamValue
public import proofs.«01_k».proof.Proof.Gen.S5ParamRefIdeal.Run
public import proofs.«01_k».proof.Proof.Gen.S5ParamIdeal.Frame
public import proofs.«01_k».proof.Proof.Gen.S5Param.Frame
public import proofs.«01_k».proof.Proof.HeadFacts
public import proofs.«01_k».proof.Proof.RwPostPure
public import proofs.«01_k».proof.Proof.RwPostValue
public import proofs.«01_k».proof.Proof.Gen.Pre_finite_rwpost
public import proofs.«01_k».proof.Proof.Gen.RwPostRefIdeal.Run
public import proofs.«01_k».proof.Proof.Gen.RwPostIdeal.Value
public import proofs.«01_k».proof.Proof.Gen.RwPost.Frame
public import proofs.«01_k».proof.Proof.PleValue
public import proofs.«01_k».proof.Proof.S5PostValue
public import proofs.«01_k».proof.Proof.Gen.Pre_finite_ple
public import proofs.«01_k».proof.Proof.Gen.PleRefIdeal.Run
public import proofs.«01_k».proof.Proof.Gen.PleIdeal.Value
public import proofs.«01_k».proof.Proof.Gen.Ple.Frame
public import proofs.«01_k».proof.Proof.Gen.Pre_finite_s5post
public import proofs.«01_k».proof.Proof.Gen.S5PostRefIdeal.Run
public import proofs.«01_k».proof.Proof.Gen.S5PostIdeal.Value
public import proofs.«01_k».proof.Proof.Gen.S5Post.Frame
public import proofs.«01_k».proof.Proof.FfnValue
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_dzs
public import proofs.«01_k».proof.Proof.InprojValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem quiescent_Kernel : Cert.quiescent_Kernel := fun m ρ _ => Cert.Kernel.Gen.frame m ρ

theorem quiescent_KernelIdeal : Cert.quiescent_KernelIdeal := fun m ρ _ => Cert.KernelIdeal.Gen.frame m ρ

theorem quiescent_KernelIdeal_pre_finite_dzs : Cert.quiescent_KernelIdeal_pre_finite_dzs :=
  fun m ρ _ => Cert.KernelIdeal.Gen.frame m ρ

theorem quiescent_ReferenceIdeal : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run m g)

theorem quiescent_ReferenceIdeal_pre_finite_dzs : Cert.quiescent_ReferenceIdeal_pre_finite_dzs :=
  fun m g _ => quiescent_ReferenceIdeal m g trivial

theorem preserves_Kernel_KernelIdeal : Cert.preserves_Kernel_KernelIdeal := trivial

theorem algebraic_KernelIdeal_ReferenceIdeal_pre_finite_dzs : Cert.algebraic_KernelIdeal_ReferenceIdeal_pre_finite_dzs := by
  pair_intro
  · run_from Cert.KernelIdeal.Gen.run_main m g
  · run_from Cert.ReferenceIdeal.Value.run m' g'
    · obtain ⟨h0, h1, h2, h3, h4, h5, h6⟩ := hagree c
      refine ((Cert.Inproj.res_dx m' c).trans ?_).trans (Cert.Inproj.final9 m (Cert.Inproj.fin6 m hpre) c).symm
      rw [h0, h1, h2, h3, h4, h5, h6]
    · exact (Cert.Inproj.final10 m (Cert.Inproj.fin6 m hpre) c).symm
    · exact (Cert.Inproj.final11 m (Cert.Inproj.fin6 m hpre) c).symm

theorem quiescent_Ffn : Cert.quiescent_Ffn := fun m ρ _ => Cert.Ffn.Gen.frame m ρ

theorem quiescent_FfnIdeal : Cert.quiescent_FfnIdeal := fun m ρ _ => Cert.FfnIdeal.Gen.frame m ρ

theorem quiescent_FfnIdeal_pre_finite_ffn : Cert.quiescent_FfnIdeal_pre_finite_ffn :=
  fun m ρ _ => Cert.FfnIdeal.Gen.frame m ρ

theorem quiescent_FfnRefIdeal : Cert.quiescent_FfnRefIdeal := by
  intro m g _
  exact (θ_run Cert.FfnRefIdeal.defs _ _).mono (fun r h => ⟨fun c => (h c).2.2.2.2, sem_eq_zero_of_no_sems (by decide) r.2⟩)
    (Cert.FfnRefIdeal.Value.run m g)

theorem quiescent_FfnRefIdeal_pre_finite_ffn : Cert.quiescent_FfnRefIdeal_pre_finite_ffn :=
  fun m g _ => quiescent_FfnRefIdeal m g trivial

theorem preserves_Ffn_FfnIdeal : Cert.preserves_Ffn_FfnIdeal := trivial

set_option maxHeartbeats 2000000 in
theorem algebraic_FfnIdeal_FfnRefIdeal_pre_finite_ffn : Cert.algebraic_FfnIdeal_FfnRefIdeal_pre_finite_ffn := by
  pair_intro
  · run_from Cert.FfnIdeal.Gen.run_main m g
  · run_from Cert.FfnRefIdeal.Value.run m' g'
    · obtain ⟨h0, h1, h2, h3, h4, h5⟩ := hagree c
      exact (Cert.Ffn.res_dx m' c _ _ _ _ _ _ h0 h1 h2 h3 h4 h5).trans (Cert.Ffn.final8 m (Cert.Ffn.finite m hpre) c).symm
    · obtain ⟨h0, h1, h2, h3, h4, h5⟩ := hagree c
      exact (Cert.Ffn.res_d1 m' c _ _ _ _ _ _ h0 h1 h2 h3 h4 h5).trans (Cert.Ffn.final9 m (Cert.Ffn.finite m hpre) c).symm
    · exact (Cert.Ffn.final10 m c).symm
    · obtain ⟨h0, h1, h2, h3, h4, h5⟩ := hagree c
      exact (Cert.Ffn.res_dn m' c _ _ _ _ _ _ h0 h1 h2 h3 h4 h5).trans (Cert.Ffn.final11 m (Cert.Ffn.finite m hpre) c).symm

theorem quiescent_S5Post : Cert.quiescent_S5Post := fun m ρ _ => Cert.S5Post.Gen.frame m ρ

theorem quiescent_S5PostIdeal : Cert.quiescent_S5PostIdeal := fun m ρ _ => Cert.S5PostIdeal.Gen.frame m ρ

theorem quiescent_S5PostIdeal_pre_finite_s5post : Cert.quiescent_S5PostIdeal_pre_finite_s5post :=
  fun m ρ _ => Cert.S5PostIdeal.Gen.frame m ρ

theorem quiescent_S5PostRefIdeal : Cert.quiescent_S5PostRefIdeal := by
  intro m g _
  exact (θ_run Cert.S5PostRefIdeal.defs _ _).mono (fun r h => ⟨fun c => (h c).2.2.2.2, sem_eq_zero_of_no_sems (by decide) r.2⟩)
    (Cert.S5PostRefIdeal.Value.run m g)

theorem quiescent_S5PostRefIdeal_pre_finite_s5post : Cert.quiescent_S5PostRefIdeal_pre_finite_s5post :=
  fun m g _ => quiescent_S5PostRefIdeal m g trivial

theorem preserves_S5Post_S5PostIdeal : Cert.preserves_S5Post_S5PostIdeal := trivial

theorem algebraic_S5PostIdeal_S5PostRefIdeal_pre_finite_s5post : Cert.algebraic_S5PostIdeal_S5PostRefIdeal_pre_finite_s5post := by
  pair_intro
  · run_from Cert.S5PostIdeal.Gen.run_main m g
  · run_from Cert.S5PostRefIdeal.Value.run m' g'
    · obtain ⟨h0, h1, h2, h3, h4⟩ := hagree c
      exact (Cert.S5Post.res_dy _ _ _ _ _ m' c h0 h1 h2 h3 h4).trans (Cert.S5Post.final5 m (Cert.S5Post.finite m hpre) c).symm
    · exact (Cert.S5Post.final6 m (Cert.S5Post.finite m hpre) c).symm
    · exact (Cert.S5Post.final7 m (Cert.S5Post.finite m hpre) c).symm
    · exact (Cert.S5Post.final8 m c).symm

theorem quiescent_Ple : Cert.quiescent_Ple := fun m ρ _ => Cert.Ple.Gen.frame m ρ

theorem quiescent_PleIdeal : Cert.quiescent_PleIdeal := fun m ρ _ => Cert.PleIdeal.Gen.frame m ρ

theorem quiescent_PleIdeal_pre_finite_ple : Cert.quiescent_PleIdeal_pre_finite_ple :=
  fun m ρ _ => Cert.PleIdeal.Gen.frame m ρ

theorem quiescent_PleRefIdeal : Cert.quiescent_PleRefIdeal := by
  intro m g _
  exact (θ_run Cert.PleRefIdeal.defs _ _).mono (fun r h => ⟨fun c => (h c).2.2.2.2.2.2.2, sem_eq_zero_of_no_sems (by decide) r.2⟩)
    (Cert.PleRefIdeal.Value.run m g)

theorem quiescent_PleRefIdeal_pre_finite_ple : Cert.quiescent_PleRefIdeal_pre_finite_ple :=
  fun m g _ => quiescent_PleRefIdeal m g trivial

theorem preserves_Ple_PleIdeal : Cert.preserves_Ple_PleIdeal := trivial

set_option maxHeartbeats 4000000 in
theorem algebraic_PleIdeal_PleRefIdeal_pre_finite_ple : Cert.algebraic_PleIdeal_PleRefIdeal_pre_finite_ple := by
  pair_intro
  · run_from Cert.PleIdeal.Gen.run_main m g
  · run_from Cert.PleRefIdeal.Value.run m' g'
    all_goals obtain ⟨h0, h1, h2, h3, h4, h5, h6⟩ := hagree c
    · exact (Cert.Ple.rX _ _ _ _ _ _ _ m' c h0 h1 h2 h3 h4 h5 h6).trans (Cert.Ple.final7 m (Cert.Ple.finite m hpre) c).symm
    · exact (Cert.Ple.rXb _ _ _ _ _ _ _ m' c h0 h1 h2 h3 h4 h5 h6).trans
        (Cert.Ple.final8 m (Cert.Ple.finite m hpre) c).symm
    · exact (Cert.Ple.rL _ _ _ _ _ _ _ m' c h0 h1 h2 h3 h4 h5 h6).trans (Cert.Ple.final9 m (Cert.Ple.finite m hpre) c).symm
    · exact (Cert.Ple.rP _ _ _ _ _ _ _ m' c h0 h1 h2 h3 h4 h5 h6).trans (Cert.Ple.final10 m (Cert.Ple.finite m hpre) c).symm
    · exact (Cert.Ple.rF _ _ _ _ _ _ _ m' c h0 h1 h2 h3 h4 h5 h6).trans (Cert.Ple.final11 m (Cert.Ple.finite m hpre) c).symm
    · exact (Cert.Ple.rWG _ _ _ _ _ _ _ m' c h0 h1 h2 h3 h4 h5 h6).trans (Cert.Ple.final12 m (Cert.Ple.finite m hpre) c).symm
    · exact (Cert.Ple.rWU _ _ _ _ _ _ _ m' c h0 h1 h2 h3 h4 h5 h6).trans (Cert.Ple.final13 m (Cert.Ple.finite m hpre) c).symm

theorem quiescent_RwPost : Cert.quiescent_RwPost := fun m ρ _ => Cert.RwPost.Gen.frame m ρ

theorem quiescent_RwPostIdeal : Cert.quiescent_RwPostIdeal := fun m ρ _ => Cert.RwPostIdeal.Gen.frame m ρ

theorem quiescent_RwPostIdeal_pre_finite_rwpost : Cert.quiescent_RwPostIdeal_pre_finite_rwpost :=
  fun m ρ _ => Cert.RwPostIdeal.Gen.frame m ρ

theorem quiescent_RwPostRefIdeal : Cert.quiescent_RwPostRefIdeal := by
  intro m g _
  exact (θ_run Cert.RwPostRefIdeal.defs _ _).mono (fun r h => ⟨fun c => (h c).2.2.2.2.2.2.2.2.2, sem_eq_zero_of_no_sems (by decide) r.2⟩)
    (Cert.RwPostRefIdeal.Value.run m g)

theorem quiescent_RwPostRefIdeal_pre_finite_rwpost : Cert.quiescent_RwPostRefIdeal_pre_finite_rwpost :=
  fun m g _ => quiescent_RwPostRefIdeal m g trivial

theorem preserves_RwPost_RwPostIdeal : Cert.preserves_RwPost_RwPostIdeal := trivial

set_option maxHeartbeats 4000000 in
theorem algebraic_RwPostIdeal_RwPostRefIdeal_pre_finite_rwpost : Cert.algebraic_RwPostIdeal_RwPostRefIdeal_pre_finite_rwpost := by
  pair_intro
  · run_from Cert.RwPostIdeal.Gen.run_main m g
    · exact hc.1 16
    · exact hc.1 17
    · exact hc.1 18
  · run_from Cert.RwPostRefIdeal.Value.run m' g'
    all_goals obtain ⟨h0, h1, h2, h3, h4, h5, h6, h7, h8, h9⟩ := hagree c
    · exact (Cert.RwPost.rY _ _ _ _ _ m' c h0 h4 h5 h8 h9).trans (Cert.RwPost.final10 m (Cert.RwPost.finite m hpre) c).symm
    · exact (Cert.RwPost.final11 m (Cert.RwPost.finite m hpre) c).symm
    · exact (Cert.RwPost.final12 m (Cert.RwPost.finite m hpre) c).symm
    · exact (Cert.RwPost.final13 m (Cert.RwPost.finite m hpre) c).symm
    · exact (Cert.RwPost.final14 m (Cert.RwPost.finite m hpre) c).symm
    · exact (Cert.RwPost.final15 m (Cert.RwPost.finite m hpre) c).symm
    · exact (Cert.RwPost.final16 m (Cert.RwPost.finite m hpre) c).symm
    · exact (Cert.RwPost.final17 m (Cert.RwPost.finite m hpre) c).symm
    · exact (Cert.RwPost.final18 m (Cert.RwPost.finite m hpre) c).symm

theorem quiescent_S5Param : Cert.quiescent_S5Param := fun m ρ _ => Cert.S5Param.Gen.frame m ρ

theorem quiescent_S5ParamIdeal : Cert.quiescent_S5ParamIdeal := fun m ρ _ => Cert.S5ParamIdeal.Gen.frame m ρ

theorem quiescent_S5ParamRefIdeal : Cert.quiescent_S5ParamRefIdeal := by
  intro m g _
  exact (θ_run Cert.S5ParamRefIdeal.defs _ _).mono (fun r h => ⟨fun c => (h c).2.2.2.2.2, sem_eq_zero_of_no_sems (by decide) r.2⟩)
    (Cert.S5ParamRefIdeal.Value.run m g)

theorem preserves_S5Param_S5ParamIdeal : Cert.preserves_S5Param_S5ParamIdeal := trivial

set_option maxHeartbeats 4000000 in
theorem algebraic_S5ParamIdeal_S5ParamRefIdeal : Cert.algebraic_S5ParamIdeal_S5ParamRefIdeal := by
  pair_intro
  · run_from Cert.S5ParamIdeal.Gen.run_main m g
  · run_from Cert.S5ParamRefIdeal.Value.run m' g'
    all_goals obtain ⟨h0, h1, h2, h3, h4, h5, h6, h7, h8⟩ := hagree c
    · exact (Cert.S5Param.rLR _ _ _ _ _ _ _ _ _ m' c h0 h1 h2 h3 h4 h5 h6 h7 h8).trans (Cert.S5Param.final9 m c).symm
    · exact (Cert.S5Param.rLI _ _ _ _ _ _ _ _ _ m' c h0 h1 h2 h3 h4 h5 h6 h7 h8).trans (Cert.S5Param.final10 m c).symm
    · exact (Cert.S5Param.rLS _ _ _ _ _ _ _ _ _ m' c h0 h1 h2 h3 h4 h5 h6 h7 h8).trans (Cert.S5Param.final11 m c).symm
    · exact (Cert.S5Param.final12 m c).symm
    · exact (Cert.S5Param.final13 m c).symm

theorem quiescent_WkvFwd : Cert.quiescent_WkvFwd := fun m ρ _ => Cert.WkvFwd.Gen.frame m ρ

theorem quiescent_WkvFwdIdeal : Cert.quiescent_WkvFwdIdeal := fun m ρ _ => Cert.WkvFwdIdeal.Gen.frame m ρ

theorem quiescent_WkvFwdIdeal_pre_positive_decay : Cert.quiescent_WkvFwdIdeal_pre_positive_decay :=
  fun m ρ _ => Cert.WkvFwdIdeal.Gen.frame m ρ

theorem quiescent_WkvFwdRefIdeal : Cert.quiescent_WkvFwdRefIdeal := by
  intro m g _
  exact (θ_run Cert.WkvFwdRefIdeal.defs _ _).mono (fun r h => ⟨fun c => (h c).2.2, sem_eq_zero_of_no_sems (by decide) r.2⟩)
    (Cert.WkvFwdRefIdeal.Value.run m g)

theorem quiescent_WkvFwdRefIdeal_pre_positive_decay : Cert.quiescent_WkvFwdRefIdeal_pre_positive_decay :=
  fun m g _ => quiescent_WkvFwdRefIdeal m g trivial

theorem preserves_WkvFwd_WkvFwdIdeal : Cert.preserves_WkvFwd_WkvFwdIdeal := trivial

set_option maxHeartbeats 4000000 in
theorem algebraic_WkvFwdIdeal_WkvFwdRefIdeal_pre_positive_decay : Cert.algebraic_WkvFwdIdeal_WkvFwdRefIdeal_pre_positive_decay := by
  pair_intro
  · run_from Cert.WkvFwdIdeal.Gen.run_main m g
  · have e : ∀ c, Cert.WkvFwdLoop.R m' c = Cert.WkvFwd.K m c := fun c => by
      obtain ⟨h0, h1, h2, h3, h4, h5⟩ := hagree c
      exact Cert.WkvFwdLoop.args_eq m' c m h0 h1 h2 h3 h4 h5
    have hA : ∀ c, (Cert.WkvFwd.K m c).Good := fun c => Cert.WkvFwd.good m c (hpre c)
    run_from Cert.WkvFwdLoop.run m' g' (fun c => by rw [e c]; exact hA c)
    · exact (congrArg Cert.WkvFwd.Y (e c)).trans (Cert.WkvFwd.final6 m c (hA c)).symm
    · exact (congrArg Cert.WkvFwd.CK (e c)).trans (Cert.WkvFwd.final7 m c (hA c)).symm

theorem quiescent_S5PostFwd : Cert.quiescent_S5PostFwd := fun m ρ _ => Cert.S5PostFwd.Gen.frame m ρ

theorem quiescent_S5PostFwdIdeal : Cert.quiescent_S5PostFwdIdeal := fun m ρ _ => Cert.S5PostFwdIdeal.Gen.frame m ρ

theorem quiescent_S5PostFwdRefIdeal : Cert.quiescent_S5PostFwdRefIdeal := by
  intro m g _
  exact (θ_run Cert.S5PostFwdRefIdeal.defs _ _).mono (fun r h => ⟨fun c => (h c).2, sem_eq_zero_of_no_sems (by decide) r.2⟩)
    (Cert.S5PostFwdRefIdeal.Value.run m g)

theorem preserves_S5PostFwd_S5PostFwdIdeal : Cert.preserves_S5PostFwd_S5PostFwdIdeal := trivial

set_option maxHeartbeats 4000000 in
theorem algebraic_S5PostFwdIdeal_S5PostFwdRefIdeal : Cert.algebraic_S5PostFwdIdeal_S5PostFwdRefIdeal := by
  pair_intro
  · run_from Cert.S5PostFwdIdeal.Gen.run_main m g
  · run_from Cert.S5PostFwdRefIdeal.Value.run m' g'
    all_goals obtain ⟨h0, h1, h2⟩ := hagree c
    exact (Cert.S5PostFwd.final3 m c).symm

theorem quiescent_InprojFwd : Cert.quiescent_InprojFwd := fun m ρ _ => Cert.InprojFwd.Gen.frame m ρ

theorem quiescent_InprojFwdIdeal : Cert.quiescent_InprojFwdIdeal := fun m ρ _ => Cert.InprojFwdIdeal.Gen.frame m ρ

theorem quiescent_InprojFwdRefIdeal : Cert.quiescent_InprojFwdRefIdeal := by
  intro m g _
  exact (θ_run Cert.InprojFwdRefIdeal.defs _ _).mono (fun r h => ⟨fun c => (h c).2.2, sem_eq_zero_of_no_sems (by decide) r.2⟩)
    (Cert.InprojFwdRefIdeal.Value.run m g)

theorem preserves_InprojFwd_InprojFwdIdeal : Cert.preserves_InprojFwd_InprojFwdIdeal := trivial

set_option maxHeartbeats 4000000 in
theorem algebraic_InprojFwdIdeal_InprojFwdRefIdeal : Cert.algebraic_InprojFwdIdeal_InprojFwdRefIdeal := by
  pair_intro
  · run_from Cert.InprojFwdIdeal.Gen.run_main m g
  · run_from Cert.InprojFwdRefIdeal.Value.run m' g'
    all_goals obtain ⟨h0, h1, h2⟩ := hagree c
    · exact (Cert.InprojFwd.final3 m c).symm
    · exact (Cert.InprojFwd.final4 m c).symm

theorem quiescent_MixffnFwd : Cert.quiescent_MixffnFwd := fun m ρ _ => Cert.MixffnFwd.Gen.frame m ρ

theorem quiescent_MixffnFwdIdeal : Cert.quiescent_MixffnFwdIdeal := fun m ρ _ => Cert.MixffnFwdIdeal.Gen.frame m ρ

theorem quiescent_MixffnFwdRefIdeal : Cert.quiescent_MixffnFwdRefIdeal := by
  intro m g _
  exact (θ_run Cert.MixffnFwdRefIdeal.defs _ _).mono (fun r h => ⟨fun c => (h c).2.2.2.2.2.2, sem_eq_zero_of_no_sems (by decide) r.2⟩)
    (Cert.MixffnFwdRefIdeal.Value.run m g)

theorem preserves_MixffnFwd_MixffnFwdIdeal : Cert.preserves_MixffnFwd_MixffnFwdIdeal := trivial

set_option maxHeartbeats 4000000 in
theorem algebraic_MixffnFwdIdeal_MixffnFwdRefIdeal : Cert.algebraic_MixffnFwdIdeal_MixffnFwdRefIdeal := by
  pair_intro
  · run_from Cert.MixffnFwdIdeal.Gen.run_main m g
  · run_from Cert.MixffnFwdRefIdeal.Value.run m' g'
    all_goals obtain ⟨h0, h1, h2, h3, h4, h5, h6, h7⟩ := hagree c
    · exact (Cert.MixffnFwd.G9_cong (a0 := Cert.MixffnFwd.A0 m c) (a3 := Cert.MixffnFwd.A3 m c) h1 h2).trans (Cert.MixffnFwd.final9 m c).symm
    · exact (Cert.MixffnFwd.res_block m' c h0 h1 h2 h3 h4 h5 h6 h7).trans (Cert.MixffnFwd.final10 m c).symm
    · exact (Cert.MixffnFwd.G11_cong (a0 := Cert.MixffnFwd.A0 m c) (a3 := Cert.MixffnFwd.A3 m c) (a4 := Cert.MixffnFwd.A4 m c) (w := Cert.MixffnFwd.A5 m c) h1 h2).trans (Cert.MixffnFwd.final11 m c).symm
    · exact (Cert.MixffnFwd.G11_cong (a0 := Cert.MixffnFwd.A0 m c) (a3 := Cert.MixffnFwd.A3 m c) (a4 := Cert.MixffnFwd.A4 m c) (w := Cert.MixffnFwd.A6 m c) h1 h2).trans (Cert.MixffnFwd.final12 m c).symm
    · exact (Cert.MixffnFwd.res_gated m' c h0 h1 h2 h3 h4 h5 h6).trans (Cert.MixffnFwd.final13 m c).symm
    · exact (Cert.MixffnFwd.G14_cong (a0 := Cert.MixffnFwd.A0 m c) (a3 := Cert.MixffnFwd.A3 m c) (a4 := Cert.MixffnFwd.A4 m c) h1 h2).trans (Cert.MixffnFwd.final14 m c).symm

theorem quiescent_RwPostFwd : Cert.quiescent_RwPostFwd := fun m ρ _ => Cert.RwPostFwd.Gen.frame m ρ

theorem quiescent_RwPostFwdIdeal : Cert.quiescent_RwPostFwdIdeal := fun m ρ _ => Cert.RwPostFwdIdeal.Gen.frame m ρ

theorem quiescent_RwPostFwdIdeal_pre_finite_rwpostfwd : Cert.quiescent_RwPostFwdIdeal_pre_finite_rwpostfwd :=
  fun m ρ _ => Cert.RwPostFwdIdeal.Gen.frame m ρ

theorem quiescent_RwPostFwdRefIdeal : Cert.quiescent_RwPostFwdRefIdeal := by
  intro m g _
  exact (θ_run Cert.RwPostFwdRefIdeal.defs _ _).mono (fun r h => ⟨fun c => (h c).2, sem_eq_zero_of_no_sems (by decide) r.2⟩)
    (Cert.RwPostFwdRefIdeal.Value.run m g)

theorem quiescent_RwPostFwdRefIdeal_pre_finite_rwpostfwd : Cert.quiescent_RwPostFwdRefIdeal_pre_finite_rwpostfwd :=
  fun m g _ => quiescent_RwPostFwdRefIdeal m g trivial

theorem preserves_RwPostFwd_RwPostFwdIdeal : Cert.preserves_RwPostFwd_RwPostFwdIdeal := trivial

set_option maxHeartbeats 4000000 in
theorem algebraic_RwPostFwdIdeal_RwPostFwdRefIdeal_pre_finite_rwpostfwd : Cert.algebraic_RwPostFwdIdeal_RwPostFwdRefIdeal_pre_finite_rwpostfwd := by
  pair_intro
  · run_from Cert.RwPostFwdIdeal.Gen.run_main m g
  · run_from Cert.RwPostFwdRefIdeal.Value.run m' g'
    all_goals obtain ⟨h0, h1, h2, h3, h4, h5, h6, h7⟩ := hagree c
    exact (Cert.RwPostFwd.final8 m c (Cert.RwPostFwd.finite m hpre)).symm

theorem quiescent_WkvBwd : Cert.quiescent_WkvBwd := fun m ρ _ => Cert.WkvBwd.Gen.frame m ρ

theorem quiescent_WkvBwdIdeal : Cert.quiescent_WkvBwdIdeal := fun m ρ _ => Cert.WkvBwdIdeal.Gen.frame m ρ

theorem preserves_WkvBwd_WkvBwdIdeal : Cert.preserves_WkvBwd_WkvBwdIdeal := trivial

theorem quiescent_S5ParamFwd : Cert.quiescent_S5ParamFwd := fun m ρ _ => Cert.S5ParamFwd.Gen.frame m ρ

theorem quiescent_S5ParamFwdIdeal : Cert.quiescent_S5ParamFwdIdeal := fun m ρ _ => Cert.S5ParamFwdIdeal.Gen.frame m ρ

theorem quiescent_S5ParamFwdRefIdeal : Cert.quiescent_S5ParamFwdRefIdeal := by
  intro m g _
  exact (θ_run Cert.S5ParamFwdRefIdeal.defs _ _).mono (fun r h => ⟨fun c => (h c).2.2.2.2, sem_eq_zero_of_no_sems (by decide) r.2⟩)
    (Cert.S5ParamFwdRefIdeal.Value.run m g)

theorem preserves_S5ParamFwd_S5ParamFwdIdeal : Cert.preserves_S5ParamFwd_S5ParamFwdIdeal := trivial

theorem algebraic_S5ParamFwdIdeal_S5ParamFwdRefIdeal : Cert.algebraic_S5ParamFwdIdeal_S5ParamFwdRefIdeal := by
  pair_intro
  · run_from Cert.S5ParamFwdIdeal.Gen.run_main m g
  · run_from Cert.S5ParamFwdRefIdeal.Value.run m' g'
    all_goals obtain ⟨h0, h1, h2, h3, h4⟩ := hagree c
    · exact (Cert.S5ParamFwd.final5 m c).symm
    · exact (Cert.S5ParamFwd.final6 m c).symm
    · exact (Cert.S5ParamFwd.final7 m c).symm
    · exact (Cert.S5ParamFwd.final8 m c).symm

theorem claim : Cert.Claim :=
  ⟨Cert.Kernel.Gen.facts, Cert.KernelIdeal.Gen.facts, Cert.ReferenceIdeal.Gen.facts, Cert.Ffn.Gen.facts, Cert.FfnIdeal.Gen.facts, Cert.FfnRefIdeal.Gen.facts, Cert.S5Post.Gen.facts, Cert.S5PostIdeal.Gen.facts, Cert.S5PostRefIdeal.Gen.facts, Cert.Ple.Gen.facts, Cert.PleIdeal.Gen.facts, Cert.PleRefIdeal.Gen.facts, Cert.RwPost.Gen.facts, Cert.RwPostIdeal.Gen.facts, Cert.RwPostRefIdeal.Gen.facts, Cert.S5Param.Gen.facts, Cert.S5ParamIdeal.Gen.facts, Cert.S5ParamRefIdeal.Gen.facts, Cert.WkvFwd.Gen.facts, Cert.WkvFwdIdeal.Gen.facts, Cert.WkvFwdRefIdeal.Gen.facts, Cert.S5PostFwd.Gen.facts, Cert.S5PostFwdIdeal.Gen.facts, Cert.S5PostFwdRefIdeal.Gen.facts, Cert.InprojFwd.Gen.facts, Cert.InprojFwdIdeal.Gen.facts, Cert.InprojFwdRefIdeal.Gen.facts, Cert.MixffnFwd.Gen.facts, Cert.MixffnFwdIdeal.Gen.facts, Cert.MixffnFwdRefIdeal.Gen.facts, Cert.RwPostFwd.Gen.facts, Cert.RwPostFwdIdeal.Gen.facts, Cert.RwPostFwdRefIdeal.Gen.facts, Cert.S5ParamFwd.Gen.facts, Cert.S5ParamFwdIdeal.Gen.facts, Cert.S5ParamFwdRefIdeal.Gen.facts, Cert.WkvBwd.Gen.facts, Cert.WkvBwdIdeal.Gen.facts, Cert.Pre_finite_dzs.Gen.facts, Cert.Pre_finite_ffn.Gen.facts, Cert.Pre_finite_s5post.Gen.facts, Cert.Pre_finite_ple.Gen.facts, Cert.Pre_finite_rwpost.Gen.facts, Cert.Pre_positive_decay.Gen.facts, Cert.Pre_finite_rwpostfwd.Gen.facts,
   quiescent_Kernel,
   quiescent_KernelIdeal,
   quiescent_KernelIdeal_pre_finite_dzs,
   quiescent_ReferenceIdeal,
   quiescent_ReferenceIdeal_pre_finite_dzs,
   quiescent_Ffn,
   quiescent_FfnIdeal,
   quiescent_FfnIdeal_pre_finite_ffn,
   quiescent_FfnRefIdeal,
   quiescent_FfnRefIdeal_pre_finite_ffn,
   quiescent_S5Post,
   quiescent_S5PostIdeal,
   quiescent_S5PostIdeal_pre_finite_s5post,
   quiescent_S5PostRefIdeal,
   quiescent_S5PostRefIdeal_pre_finite_s5post,
   quiescent_Ple,
   quiescent_PleIdeal,
   quiescent_PleIdeal_pre_finite_ple,
   quiescent_PleRefIdeal,
   quiescent_PleRefIdeal_pre_finite_ple,
   quiescent_RwPost,
   quiescent_RwPostIdeal,
   quiescent_RwPostIdeal_pre_finite_rwpost,
   quiescent_RwPostRefIdeal,
   quiescent_RwPostRefIdeal_pre_finite_rwpost,
   quiescent_S5Param,
   quiescent_S5ParamIdeal,
   quiescent_S5ParamRefIdeal,
   quiescent_WkvFwd,
   quiescent_WkvFwdIdeal,
   quiescent_WkvFwdIdeal_pre_positive_decay,
   quiescent_WkvFwdRefIdeal,
   quiescent_WkvFwdRefIdeal_pre_positive_decay,
   quiescent_S5PostFwd,
   quiescent_S5PostFwdIdeal,
   quiescent_S5PostFwdRefIdeal,
   quiescent_InprojFwd,
   quiescent_InprojFwdIdeal,
   quiescent_InprojFwdRefIdeal,
   quiescent_MixffnFwd,
   quiescent_MixffnFwdIdeal,
   quiescent_MixffnFwdRefIdeal,
   quiescent_RwPostFwd,
   quiescent_RwPostFwdIdeal,
   quiescent_RwPostFwdIdeal_pre_finite_rwpostfwd,
   quiescent_RwPostFwdRefIdeal,
   quiescent_RwPostFwdRefIdeal_pre_finite_rwpostfwd,
   quiescent_S5ParamFwd,
   quiescent_S5ParamFwdIdeal,
   quiescent_S5ParamFwdRefIdeal,
   quiescent_WkvBwd,
   quiescent_WkvBwdIdeal,
   preserves_Kernel_KernelIdeal,
   algebraic_KernelIdeal_ReferenceIdeal_pre_finite_dzs,
   preserves_Ffn_FfnIdeal,
   algebraic_FfnIdeal_FfnRefIdeal_pre_finite_ffn,
   preserves_S5Post_S5PostIdeal,
   algebraic_S5PostIdeal_S5PostRefIdeal_pre_finite_s5post,
   preserves_Ple_PleIdeal,
   algebraic_PleIdeal_PleRefIdeal_pre_finite_ple,
   preserves_RwPost_RwPostIdeal,
   algebraic_RwPostIdeal_RwPostRefIdeal_pre_finite_rwpost,
   preserves_S5Param_S5ParamIdeal,
   algebraic_S5ParamIdeal_S5ParamRefIdeal,
   preserves_WkvFwd_WkvFwdIdeal,
   algebraic_WkvFwdIdeal_WkvFwdRefIdeal_pre_positive_decay,
   preserves_S5PostFwd_S5PostFwdIdeal,
   algebraic_S5PostFwdIdeal_S5PostFwdRefIdeal,
   preserves_InprojFwd_InprojFwdIdeal,
   algebraic_InprojFwdIdeal_InprojFwdRefIdeal,
   preserves_MixffnFwd_MixffnFwdIdeal,
   algebraic_MixffnFwdIdeal_MixffnFwdRefIdeal,
   preserves_RwPostFwd_RwPostFwdIdeal,
   algebraic_RwPostFwdIdeal_RwPostFwdRefIdeal_pre_finite_rwpostfwd,
   preserves_S5ParamFwd_S5ParamFwdIdeal,
   algebraic_S5ParamFwdIdeal_S5ParamFwdRefIdeal,
   preserves_WkvBwd_WkvBwdIdeal⟩

end Cert.Proof

end
